-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_RefDwDownIdeal (m : (ℓ : Loc Cert.RefDwDownIdeal.nD Cert.RefDwDownIdeal.τ Cert.RefDwDownIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenIdeal_finite_ffn [hPre_finite_ffn : Cert.Pre_finite_ffn.Facts] (m : (ℓ : Loc Cert.HiddenIdeal.nD Cert.HiddenIdeal.τ Cert.HiddenIdeal.sig) → Buf (Elt Ideal) ℓ) : Prop :=
  ∀ c : Dev Cert.HiddenIdeal.nD,
    (Cert.Pre_finite_ffn.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4))).1 = (fun _ => 1#1)
    ∧ (Cert.Pre_finite_ffn.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4))).2.1 = (fun _ => 1#1)
    ∧ (Cert.Pre_finite_ffn.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4))).2.2.1 = (fun _ => 1#1)
    ∧ (Cert.Pre_finite_ffn.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4))).2.2.2.1 = (fun _ => 1#1)
    ∧ (Cert.Pre_finite_ffn.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4))).2.2.2.2 = (fun _ => 1#1)

def Pre_RefHiddenIdeal (m : (ℓ : Loc Cert.RefHiddenIdeal.nD Cert.RefHiddenIdeal.τ Cert.RefHiddenIdeal.sig) → Buf (Elt Ideal) ℓ) : Prop :=
  True

def Pre_RefHiddenIdeal_finite_ffn [hPre_finite_ffn : Cert.Pre_finite_ffn.Facts] (m : (ℓ : Loc Cert.RefHiddenIdeal.nD Cert.RefHiddenIdeal.τ Cert.RefHiddenIdeal.sig) → Buf (Elt Ideal) ℓ) : Prop :=
  ∀ c : Dev Cert.RefHiddenIdeal.nD,
    (Cert.Pre_finite_ffn.fn (F := Ideal) (m ((c.tc : Thread Cert.RefHiddenIdeal.nD Cert.RefHiddenIdeal.τ).loc Cert.RefHiddenIdeal.main_arg0)) (m ((c.tc : Thread Cert.RefHiddenIdeal.nD Cert.RefHiddenIdeal.τ).loc Cert.RefHiddenIdeal.main_arg1)) (m ((c.tc : Thread Cert.RefHiddenIdeal.nD Cert.RefHiddenIdeal.τ).loc Cert.RefHiddenIdeal.main_arg2)) (m ((c.tc : Thread Cert.RefHiddenIdeal.nD Cert.RefHiddenIdeal.τ).loc Cert.RefHiddenIdeal.main_arg3)) (m ((c.tc : Thread Cert.RefHiddenIdeal.nD Cert.RefHiddenIdeal.τ).loc Cert.RefHiddenIdeal.main_arg4))).1 = (fun _ => 1#1)
    ∧ (Cert.Pre_finite_ffn.fn (F := Ideal) (m ((c.tc : Thread Cert.RefHiddenIdeal.nD Cert.RefHiddenIdeal.τ).loc Cert.RefHiddenIdeal.main_arg0)) (m ((c.tc : Thread Cert.RefHiddenIdeal.nD Cert.RefHiddenIdeal.τ).loc Cert.RefHiddenIdeal.main_arg1)) (m ((c.tc : Thread Cert.RefHiddenIdeal.nD Cert.RefHiddenIdeal.τ).loc Cert.RefHiddenIdeal.main_arg2)) (m ((c.tc : Thread Cert.RefHiddenIdeal.nD Cert.RefHiddenIdeal.τ).loc Cert.RefHiddenIdeal.main_arg3)) (m ((c.tc : Thread Cert.RefHiddenIdeal.nD Cert.RefHiddenIdeal.τ).loc Cert.RefHiddenIdeal.main_arg4))).2.1 = (fun _ => 1#1)
    ∧ (Cert.Pre_finite_ffn.fn (F := Ideal) (m ((c.tc : Thread Cert.RefHiddenIdeal.nD Cert.RefHiddenIdeal.τ).loc Cert.RefHiddenIdeal.main_arg0)) (m ((c.tc : Thread Cert.RefHiddenIdeal.nD Cert.RefHiddenIdeal.τ).loc Cert.RefHiddenIdeal.main_arg1)) (m ((c.tc : Thread Cert.RefHiddenIdeal.nD Cert.RefHiddenIdeal.τ).loc Cert.RefHiddenIdeal.main_arg2)) (m ((c.tc : Thread Cert.RefHiddenIdeal.nD Cert.RefHiddenIdeal.τ).loc Cert.RefHiddenIdeal.main_arg3)) (m ((c.tc : Thread Cert.RefHiddenIdeal.nD Cert.RefHiddenIdeal.τ).loc Cert.RefHiddenIdeal.main_arg4))).2.2.1 = (fun _ => 1#1)
    ∧ (Cert.Pre_finite_ffn.fn (F := Ideal) (m ((c.tc : Thread Cert.RefHiddenIdeal.nD Cert.RefHiddenIdeal.τ).loc Cert.RefHiddenIdeal.main_arg0)) (m ((c.tc : Thread Cert.RefHiddenIdeal.nD Cert.RefHiddenIdeal.τ).loc Cert.RefHiddenIdeal.main_arg1)) (m ((c.tc : Thread Cert.RefHiddenIdeal.nD Cert.RefHiddenIdeal.τ).loc Cert.RefHiddenIdeal.main_arg2)) (m ((c.tc : Thread Cert.RefHiddenIdeal.nD Cert.RefHiddenIdeal.τ).loc Cert.RefHiddenIdeal.main_arg3)) (m ((c.tc : Thread Cert.RefHiddenIdeal.nD Cert.RefHiddenIdeal.τ).loc Cert.RefHiddenIdeal.main_arg4))).2.2.2.1 = (fun _ => 1#1)
    ∧ (Cert.Pre_finite_ffn.fn (F := Ideal) (m ((c.tc : Thread Cert.RefHiddenIdeal.nD Cert.RefHiddenIdeal.τ).loc Cert.RefHiddenIdeal.main_arg0)) (m ((c.tc : Thread Cert.RefHiddenIdeal.nD Cert.RefHiddenIdeal.τ).loc Cert.RefHiddenIdeal.main_arg1)) (m ((c.tc : Thread Cert.RefHiddenIdeal.nD Cert.RefHiddenIdeal.τ).loc Cert.RefHiddenIdeal.main_arg2)) (m ((c.tc : Thread Cert.RefHiddenIdeal.nD Cert.RefHiddenIdeal.τ).loc Cert.RefHiddenIdeal.main_arg3)) (m ((c.tc : Thread Cert.RefHiddenIdeal.nD Cert.RefHiddenIdeal.τ).loc Cert.RefHiddenIdeal.main_arg4))).2.2.2.2 = (fun _ => 1#1)

def Pre_DwGateUp (m : (ℓ : Loc Cert.DwGateUp.nD Cert.DwGateUp.τ Cert.DwGateUp.sig) → Buf (Elt Bits) ℓ) : Prop :=
  True

def Pre_DwGateUpIdeal (m : (ℓ : Loc Cert.DwGateUpIdeal.nD Cert.DwGateUpIdeal.τ Cert.DwGateUpIdeal.sig) → Buf (Elt Ideal) ℓ) : Prop :=
  True

def Pre_RefDwGateUpIdeal (m : (ℓ : Loc Cert.RefDwGateUpIdeal.nD Cert.RefDwGateUpIdeal.τ Cert.RefDwGateUpIdeal.sig) → Buf (Elt Ideal) ℓ) : Prop :=
  True

def Pre_DxGateUp (m : (ℓ : Loc Cert.DxGateUp.nD Cert.DxGateUp.τ Cert.DxGateUp.sig) → Buf (Elt Bits) ℓ) : Prop :=
  True

def Pre_DxGateUpIdeal (m : (ℓ : Loc Cert.DxGateUpIdeal.nD Cert.DxGateUpIdeal.τ Cert.DxGateUpIdeal.sig) → Buf (Elt Ideal) ℓ) : Prop :=
  True

def Pre_RefDxGateUpIdeal (m : (ℓ : Loc Cert.RefDxGateUpIdeal.nD Cert.RefDxGateUpIdeal.τ Cert.RefDxGateUpIdeal.sig) → Buf (Elt Ideal) ℓ) : Prop :=
  True

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_RefDwSquareIdeal (m : (ℓ : Loc Cert.RefDwSquareIdeal.nD Cert.RefDwSquareIdeal.τ Cert.RefDwSquareIdeal.sig) → Buf (Elt Ideal) ℓ) : Prop :=
  True

def Pre_DwEvIn (m : (ℓ : Loc Cert.DwEvIn.nD Cert.DwEvIn.τ Cert.DwEvIn.sig) → Buf (Elt Bits) ℓ) : Prop :=
  True

def Pre_DwEvInIdeal (m : (ℓ : Loc Cert.DwEvInIdeal.nD Cert.DwEvInIdeal.τ Cert.DwEvInIdeal.sig) → Buf (Elt Ideal) ℓ) : Prop :=
  True

def Pre_RefDwEvInIdeal (m : (ℓ : Loc Cert.RefDwEvInIdeal.nD Cert.RefDwEvInIdeal.τ Cert.RefDwEvInIdeal.sig) → Buf (Elt Ideal) ℓ) : Prop :=
  True

def Pre_DwOdIn (m : (ℓ : Loc Cert.DwOdIn.nD Cert.DwOdIn.τ Cert.DwOdIn.sig) → Buf (Elt Bits) ℓ) : Prop :=
  True

def Pre_DwOdInIdeal (m : (ℓ : Loc Cert.DwOdInIdeal.nD Cert.DwOdInIdeal.τ Cert.DwOdInIdeal.sig) → Buf (Elt Ideal) ℓ) : Prop :=
  True

def Pre_RefDwOdInIdeal (m : (ℓ : Loc Cert.RefDwOdInIdeal.nD Cert.RefDwOdInIdeal.τ Cert.RefDwOdInIdeal.sig) → Buf (Elt Ideal) ℓ) : Prop :=
  True

def Pre_DwPleProj (m : (ℓ : Loc Cert.DwPleProj.nD Cert.DwPleProj.τ Cert.DwPleProj.sig) → Buf (Elt Bits) ℓ) : Prop :=
  True

def Pre_DwPleProjIdeal (m : (ℓ : Loc Cert.DwPleProjIdeal.nD Cert.DwPleProjIdeal.τ Cert.DwPleProjIdeal.sig) → Buf (Elt Ideal) ℓ) : Prop :=
  True

def Pre_RefDwPleProjIdeal (m : (ℓ : Loc Cert.RefDwPleProjIdeal.nD Cert.RefDwPleProjIdeal.τ Cert.RefDwPleProjIdeal.sig) → Buf (Elt Ideal) ℓ) : Prop :=
  True

def Pre_DxEvIn (m : (ℓ : Loc Cert.DxEvIn.nD Cert.DxEvIn.τ Cert.DxEvIn.sig) → Buf (Elt Bits) ℓ) : Prop :=
  True

def Pre_DxEvInIdeal (m : (ℓ : Loc Cert.DxEvInIdeal.nD Cert.DxEvInIdeal.τ Cert.DxEvInIdeal.sig) → Buf (Elt Ideal) ℓ) : Prop :=
  True

def Pre_RefDxEvInIdeal (m : (ℓ : Loc Cert.RefDxEvInIdeal.nD Cert.RefDxEvInIdeal.τ Cert.RefDxEvInIdeal.sig) → Buf (Elt Ideal) ℓ) : Prop :=
  True

def Pre_DxOdIn (m : (ℓ : Loc Cert.DxOdIn.nD Cert.DxOdIn.τ Cert.DxOdIn.sig) → Buf (Elt Bits) ℓ) : Prop :=
  True

def Pre_DxOdInIdeal (m : (ℓ : Loc Cert.DxOdInIdeal.nD Cert.DxOdInIdeal.τ Cert.DxOdInIdeal.sig) → Buf (Elt Ideal) ℓ) : Prop :=
  True

def Pre_RefDxOdInIdeal (m : (ℓ : Loc Cert.RefDxOdInIdeal.nD Cert.RefDxOdInIdeal.τ Cert.RefDxOdInIdeal.sig) → Buf (Elt Ideal) ℓ) : Prop :=
  True

def Pre_DxPleGate (m : (ℓ : Loc Cert.DxPleGate.nD Cert.DxPleGate.τ Cert.DxPleGate.sig) → Buf (Elt Bits) ℓ) : Prop :=
  True

def Pre_DxPleGateIdeal (m : (ℓ : Loc Cert.DxPleGateIdeal.nD Cert.DxPleGateIdeal.τ Cert.DxPleGateIdeal.sig) → Buf (Elt Ideal) ℓ) : Prop :=
  True

def Pre_RefDxPleGateIdeal (m : (ℓ : Loc Cert.RefDxPleGateIdeal.nD Cert.RefDxPleGateIdeal.τ Cert.RefDxPleGateIdeal.sig) → Buf (Elt Ideal) ℓ) : Prop :=
  True

def Pre_DxOut (m : (ℓ : Loc Cert.DxOut.nD Cert.DxOut.τ Cert.DxOut.sig) → Buf (Elt Bits) ℓ) : Prop :=
  True

def Pre_DxOutIdeal (m : (ℓ : Loc Cert.DxOutIdeal.nD Cert.DxOutIdeal.τ Cert.DxOutIdeal.sig) → Buf (Elt Ideal) ℓ) : Prop :=
  True

def Pre_RefDxOutIdeal (m : (ℓ : Loc Cert.RefDxOutIdeal.nD Cert.RefDxOutIdeal.τ Cert.RefDxOutIdeal.sig) → Buf (Elt Ideal) ℓ) : Prop :=
  True

def Pre_EvIn (m : (ℓ : Loc Cert.EvIn.nD Cert.EvIn.τ Cert.EvIn.sig) → Buf (Elt Bits) ℓ) : Prop :=
  True

def Pre_EvInIdeal (m : (ℓ : Loc Cert.EvInIdeal.nD Cert.EvInIdeal.τ Cert.EvInIdeal.sig) → Buf (Elt Ideal) ℓ) : Prop :=
  True

def Pre_RefEvInIdeal (m : (ℓ : Loc Cert.RefEvInIdeal.nD Cert.RefEvInIdeal.τ Cert.RefEvInIdeal.sig) → Buf (Elt Ideal) ℓ) : Prop :=
  True

def Pre_OdIn (m : (ℓ : Loc Cert.OdIn.nD Cert.OdIn.τ Cert.OdIn.sig) → Buf (Elt Bits) ℓ) : Prop :=
  True

def Pre_OdInIdeal (m : (ℓ : Loc Cert.OdInIdeal.nD Cert.OdInIdeal.τ Cert.OdInIdeal.sig) → Buf (Elt Ideal) ℓ) : Prop :=
  True

def Pre_RefOdInIdeal (m : (ℓ : Loc Cert.RefOdInIdeal.nD Cert.RefOdInIdeal.τ Cert.RefOdInIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_RefPleGateIdeal (m : (ℓ : Loc Cert.RefPleGateIdeal.nD Cert.RefPleGateIdeal.τ Cert.RefPleGateIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_RefPleProjIdeal (m : (ℓ : Loc Cert.RefPleProjIdeal.nD Cert.RefPleProjIdeal.τ Cert.RefPleProjIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_RefMixOutIdeal (m : (ℓ : Loc Cert.RefMixOutIdeal.nD Cert.RefMixOutIdeal.τ Cert.RefMixOutIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_RefGateUpIdeal (m : (ℓ : Loc Cert.RefGateUpIdeal.nD Cert.RefGateUpIdeal.τ Cert.RefGateUpIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_RefGradXIdeal (m : (ℓ : Loc Cert.RefGradXIdeal.nD Cert.RefGradXIdeal.τ Cert.RefGradXIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RefRmsBwdIdeal (m : (ℓ : Loc Cert.RefRmsBwdIdeal.nD Cert.RefRmsBwdIdeal.τ Cert.RefRmsBwdIdeal.sig) → Buf (Elt Ideal) ℓ) : Prop :=
  True

def Pre_RmsMixBwd (m : (ℓ : Loc Cert.RmsMixBwd.nD Cert.RmsMixBwd.τ Cert.RmsMixBwd.sig) → Buf (Elt Bits) ℓ) : Prop :=
  True

def Pre_RmsMixBwdIdeal (m : (ℓ : Loc Cert.RmsMixBwdIdeal.nD Cert.RmsMixBwdIdeal.τ Cert.RmsMixBwdIdeal.sig) → Buf (Elt Ideal) ℓ) : Prop :=
  True

def Pre_RefRmsMixBwdIdeal (m : (ℓ : Loc Cert.RefRmsMixBwdIdeal.nD Cert.RefRmsMixBwdIdeal.τ Cert.RefRmsMixBwdIdeal.sig) → Buf (Elt Ideal) ℓ) : Prop :=
  True

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_RefPleBwdIdeal (m : (ℓ : Loc Cert.RefPleBwdIdeal.nD Cert.RefPleBwdIdeal.τ Cert.RefPleBwdIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_RefLossIdeal (m : (ℓ : Loc Cert.RefLossIdeal.nD Cert.RefLossIdeal.τ Cert.RefLossIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RefRmsFwdIdeal (m : (ℓ : Loc Cert.RefRmsFwdIdeal.nD Cert.RefRmsFwdIdeal.τ Cert.RefRmsFwdIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_RefPleFwdIdeal (m : (ℓ : Loc Cert.RefPleFwdIdeal.nD Cert.RefPleFwdIdeal.τ Cert.RefPleFwdIdeal.sig) → Buf (Elt Ideal) ℓ) : Prop :=
  True

def Pre_PleNorm (m : (ℓ : Loc Cert.PleNorm.nD Cert.PleNorm.τ Cert.PleNorm.sig) → Buf (Elt Bits) ℓ) : Prop :=
  True

def Pre_PleNormIdeal (m : (ℓ : Loc Cert.PleNormIdeal.nD Cert.PleNormIdeal.τ Cert.PleNormIdeal.sig) → Buf (Elt Ideal) ℓ) : Prop :=
  True

def Pre_RefPleNormIdeal (m : (ℓ : Loc Cert.RefPleNormIdeal.nD Cert.RefPleNormIdeal.τ Cert.RefPleNormIdeal.sig) → Buf (Elt Ideal) ℓ) : Prop :=
  True

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdIdeal_finite_swa [hPre_finite_swa : Cert.Pre_finite_swa.Facts] (m : (ℓ : Loc Cert.SwaFwdIdeal.nD Cert.SwaFwdIdeal.τ Cert.SwaFwdIdeal.sig) → Buf (Elt Ideal) ℓ) : Prop :=
  ∀ c : Dev Cert.SwaFwdIdeal.nD,
    (Cert.Pre_finite_swa.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3))).1 = (fun _ => 1#1)
    ∧ (Cert.Pre_finite_swa.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3))).2.1 = (fun _ => 1#1)
    ∧ (Cert.Pre_finite_swa.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3))).2.2.1 = (fun _ => 1#1)
    ∧ (Cert.Pre_finite_swa.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3))).2.2.2 = (fun _ => 1#1)

def Pre_RefSwaFwdIdeal (m : (ℓ : Loc Cert.RefSwaFwdIdeal.nD Cert.RefSwaFwdIdeal.τ Cert.RefSwaFwdIdeal.sig) → Buf (Elt Ideal) ℓ) : Prop :=
  True

def Pre_RefSwaFwdIdeal_finite_swa [hPre_finite_swa : Cert.Pre_finite_swa.Facts] (m : (ℓ : Loc Cert.RefSwaFwdIdeal.nD Cert.RefSwaFwdIdeal.τ Cert.RefSwaFwdIdeal.sig) → Buf (Elt Ideal) ℓ) : Prop :=
  ∀ c : Dev Cert.RefSwaFwdIdeal.nD,
    (Cert.Pre_finite_swa.fn (F := Ideal) (m ((c.tc : Thread Cert.RefSwaFwdIdeal.nD Cert.RefSwaFwdIdeal.τ).loc Cert.RefSwaFwdIdeal.main_arg0)) (m ((c.tc : Thread Cert.RefSwaFwdIdeal.nD Cert.RefSwaFwdIdeal.τ).loc Cert.RefSwaFwdIdeal.main_arg1)) (m ((c.tc : Thread Cert.RefSwaFwdIdeal.nD Cert.RefSwaFwdIdeal.τ).loc Cert.RefSwaFwdIdeal.main_arg2)) (m ((c.tc : Thread Cert.RefSwaFwdIdeal.nD Cert.RefSwaFwdIdeal.τ).loc Cert.RefSwaFwdIdeal.main_arg3))).1 = (fun _ => 1#1)
    ∧ (Cert.Pre_finite_swa.fn (F := Ideal) (m ((c.tc : Thread Cert.RefSwaFwdIdeal.nD Cert.RefSwaFwdIdeal.τ).loc Cert.RefSwaFwdIdeal.main_arg0)) (m ((c.tc : Thread Cert.RefSwaFwdIdeal.nD Cert.RefSwaFwdIdeal.τ).loc Cert.RefSwaFwdIdeal.main_arg1)) (m ((c.tc : Thread Cert.RefSwaFwdIdeal.nD Cert.RefSwaFwdIdeal.τ).loc Cert.RefSwaFwdIdeal.main_arg2)) (m ((c.tc : Thread Cert.RefSwaFwdIdeal.nD Cert.RefSwaFwdIdeal.τ).loc Cert.RefSwaFwdIdeal.main_arg3))).2.1 = (fun _ => 1#1)
    ∧ (Cert.Pre_finite_swa.fn (F := Ideal) (m ((c.tc : Thread Cert.RefSwaFwdIdeal.nD Cert.RefSwaFwdIdeal.τ).loc Cert.RefSwaFwdIdeal.main_arg0)) (m ((c.tc : Thread Cert.RefSwaFwdIdeal.nD Cert.RefSwaFwdIdeal.τ).loc Cert.RefSwaFwdIdeal.main_arg1)) (m ((c.tc : Thread Cert.RefSwaFwdIdeal.nD Cert.RefSwaFwdIdeal.τ).loc Cert.RefSwaFwdIdeal.main_arg2)) (m ((c.tc : Thread Cert.RefSwaFwdIdeal.nD Cert.RefSwaFwdIdeal.τ).loc Cert.RefSwaFwdIdeal.main_arg3))).2.2.1 = (fun _ => 1#1)
    ∧ (Cert.Pre_finite_swa.fn (F := Ideal) (m ((c.tc : Thread Cert.RefSwaFwdIdeal.nD Cert.RefSwaFwdIdeal.τ).loc Cert.RefSwaFwdIdeal.main_arg0)) (m ((c.tc : Thread Cert.RefSwaFwdIdeal.nD Cert.RefSwaFwdIdeal.τ).loc Cert.RefSwaFwdIdeal.main_arg1)) (m ((c.tc : Thread Cert.RefSwaFwdIdeal.nD Cert.RefSwaFwdIdeal.τ).loc Cert.RefSwaFwdIdeal.main_arg2)) (m ((c.tc : Thread Cert.RefSwaFwdIdeal.nD Cert.RefSwaFwdIdeal.τ).loc Cert.RefSwaFwdIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2)
      ∧ r.2.mem ((c.tc : Thread Cert.DwDown.nD Cert.DwDown.τ).loc Cert.DwDown.main_arg3) = m ((c.tc : Thread Cert.DwDown.nD Cert.DwDown.τ).loc Cert.DwDown.main_arg3)
      ∧ r.2.mem ((c.tc : Thread Cert.DwDown.nD Cert.DwDown.τ).loc Cert.DwDown.main_arg4) = m ((c.tc : Thread Cert.DwDown.nD Cert.DwDown.τ).loc Cert.DwDown.main_arg4))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
      ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3)
      ∧ r.2.mem ((c.tc : Thread Cert.DwDownIdeal.nD Cert.DwDownIdeal.τ).loc Cert.DwDownIdeal.main_arg4) = m ((c.tc : Thread Cert.DwDownIdeal.nD Cert.DwDownIdeal.τ).loc Cert.DwDownIdeal.main_arg4))
      ∧ r.2.sem = fun _ => 0)

def quiescent_RefDwDownIdeal [hRefDwDownIdeal : Cert.RefDwDownIdeal.Facts] : Prop :=
  ∀ (m : (ℓ : Loc Cert.RefDwDownIdeal.nD Cert.RefDwDownIdeal.τ Cert.RefDwDownIdeal.sig) → Buf (Elt Ideal) ℓ) (g : Dev Cert.RefDwDownIdeal.nD → PrngReg), Pre_RefDwDownIdeal m →
    θ_run (Cert.RefDwDownIdeal.defs (F := Ideal)) (onTc (τ := Cert.RefDwDownIdeal.τ) (Cert.RefDwDownIdeal.main (F := Ideal))) ⟨m, fun _ => 0, g⟩ (fun r => (∀ c : Dev Cert.RefDwDownIdeal.nD,
      r.2.mem ((c.tc : Thread Cert.RefDwDownIdeal.nD Cert.RefDwDownIdeal.τ).loc Cert.RefDwDownIdeal.main_arg0) = m ((c.tc : Thread Cert.RefDwDownIdeal.nD Cert.RefDwDownIdeal.τ).loc Cert.RefDwDownIdeal.main_arg0)
      ∧ r.2.mem ((c.tc : Thread Cert.RefDwDownIdeal.nD Cert.RefDwDownIdeal.τ).loc Cert.RefDwDownIdeal.main_arg1) = m ((c.tc : Thread Cert.RefDwDownIdeal.nD Cert.RefDwDownIdeal.τ).loc Cert.RefDwDownIdeal.main_arg1)
      ∧ r.2.mem ((c.tc : Thread Cert.RefDwDownIdeal.nD Cert.RefDwDownIdeal.τ).loc Cert.RefDwDownIdeal.main_arg2) = m ((c.tc : Thread Cert.RefDwDownIdeal.nD Cert.RefDwDownIdeal.τ).loc Cert.RefDwDownIdeal.main_arg2)
      ∧ r.2.mem ((c.tc : Thread Cert.RefDwDownIdeal.nD Cert.RefDwDownIdeal.τ).loc Cert.RefDwDownIdeal.main_arg3) = m ((c.tc : Thread Cert.RefDwDownIdeal.nD Cert.RefDwDownIdeal.τ).loc Cert.RefDwDownIdeal.main_arg3)
      ∧ r.2.mem ((c.tc : Thread Cert.RefDwDownIdeal.nD Cert.RefDwDownIdeal.τ).loc Cert.RefDwDownIdeal.main_arg4) = m ((c.tc : Thread Cert.RefDwDownIdeal.nD Cert.RefDwDownIdeal.τ).loc Cert.RefDwDownIdeal.main_arg4))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3)
      ∧ r.2.mem ((c.tc : Thread Cert.Hidden.nD Cert.Hidden.τ).loc Cert.Hidden.main_arg4) = m ((c.tc : Thread Cert.Hidden.nD Cert.Hidden.τ).loc Cert.Hidden.main_arg4))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
      ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4))
      ∧ r.2.sem = fun _ => 0)

def quiescent_HiddenIdeal_pre_finite_ffn [hHiddenIdeal : Cert.HiddenIdeal.Facts] [hPre_finite_ffn : Cert.Pre_finite_ffn.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal_finite_ffn m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
      ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4))
      ∧ r.2.sem = fun _ => 0)

def quiescent_RefHiddenIdeal [hRefHiddenIdeal : Cert.RefHiddenIdeal.Facts] : Prop :=
  ∀ (m : (ℓ : Loc Cert.RefHiddenIdeal.nD Cert.RefHiddenIdeal.τ Cert.RefHiddenIdeal.sig) → Buf (Elt Ideal) ℓ) (g : Dev Cert.RefHiddenIdeal.nD → PrngReg), Pre_RefHiddenIdeal m →
    θ_run (Cert.RefHiddenIdeal.defs (F := Ideal)) (onTc (τ := Cert.RefHiddenIdeal.τ) (Cert.RefHiddenIdeal.main (F := Ideal))) ⟨m, fun _ => 0, g⟩ (fun r => (∀ c : Dev Cert.RefHiddenIdeal.nD,
      r.2.mem ((c.tc : Thread Cert.RefHiddenIdeal.nD Cert.RefHiddenIdeal.τ).loc Cert.RefHiddenIdeal.main_arg0) = m ((c.tc : Thread Cert.RefHiddenIdeal.nD Cert.RefHiddenIdeal.τ).loc Cert.RefHiddenIdeal.main_arg0)
      ∧ r.2.mem ((c.tc : Thread Cert.RefHiddenIdeal.nD Cert.RefHiddenIdeal.τ).loc Cert.RefHiddenIdeal.main_arg1) = m ((c.tc : Thread Cert.RefHiddenIdeal.nD Cert.RefHiddenIdeal.τ).loc Cert.RefHiddenIdeal.main_arg1)
      ∧ r.2.mem ((c.tc : Thread Cert.RefHiddenIdeal.nD Cert.RefHiddenIdeal.τ).loc Cert.RefHiddenIdeal.main_arg2) = m ((c.tc : Thread Cert.RefHiddenIdeal.nD Cert.RefHiddenIdeal.τ).loc Cert.RefHiddenIdeal.main_arg2)
      ∧ r.2.mem ((c.tc : Thread Cert.RefHiddenIdeal.nD Cert.RefHiddenIdeal.τ).loc Cert.RefHiddenIdeal.main_arg3) = m ((c.tc : Thread Cert.RefHiddenIdeal.nD Cert.RefHiddenIdeal.τ).loc Cert.RefHiddenIdeal.main_arg3)
      ∧ r.2.mem ((c.tc : Thread Cert.RefHiddenIdeal.nD Cert.RefHiddenIdeal.τ).loc Cert.RefHiddenIdeal.main_arg4) = m ((c.tc : Thread Cert.RefHiddenIdeal.nD Cert.RefHiddenIdeal.τ).loc Cert.RefHiddenIdeal.main_arg4))
      ∧ r.2.sem = fun _ => 0)

def quiescent_RefHiddenIdeal_pre_finite_ffn [hRefHiddenIdeal : Cert.RefHiddenIdeal.Facts] [hPre_finite_ffn : Cert.Pre_finite_ffn.Facts] : Prop :=
  ∀ (m : (ℓ : Loc Cert.RefHiddenIdeal.nD Cert.RefHiddenIdeal.τ Cert.RefHiddenIdeal.sig) → Buf (Elt Ideal) ℓ) (g : Dev Cert.RefHiddenIdeal.nD → PrngReg), Pre_RefHiddenIdeal_finite_ffn m →
    θ_run (Cert.RefHiddenIdeal.defs (F := Ideal)) (onTc (τ := Cert.RefHiddenIdeal.τ) (Cert.RefHiddenIdeal.main (F := Ideal))) ⟨m, fun _ => 0, g⟩ (fun r => (∀ c : Dev Cert.RefHiddenIdeal.nD,
      r.2.mem ((c.tc : Thread Cert.RefHiddenIdeal.nD Cert.RefHiddenIdeal.τ).loc Cert.RefHiddenIdeal.main_arg0) = m ((c.tc : Thread Cert.RefHiddenIdeal.nD Cert.RefHiddenIdeal.τ).loc Cert.RefHiddenIdeal.main_arg0)
      ∧ r.2.mem ((c.tc : Thread Cert.RefHiddenIdeal.nD Cert.RefHiddenIdeal.τ).loc Cert.RefHiddenIdeal.main_arg1) = m ((c.tc : Thread Cert.RefHiddenIdeal.nD Cert.RefHiddenIdeal.τ).loc Cert.RefHiddenIdeal.main_arg1)
      ∧ r.2.mem ((c.tc : Thread Cert.RefHiddenIdeal.nD Cert.RefHiddenIdeal.τ).loc Cert.RefHiddenIdeal.main_arg2) = m ((c.tc : Thread Cert.RefHiddenIdeal.nD Cert.RefHiddenIdeal.τ).loc Cert.RefHiddenIdeal.main_arg2)
      ∧ r.2.mem ((c.tc : Thread Cert.RefHiddenIdeal.nD Cert.RefHiddenIdeal.τ).loc Cert.RefHiddenIdeal.main_arg3) = m ((c.tc : Thread Cert.RefHiddenIdeal.nD Cert.RefHiddenIdeal.τ).loc Cert.RefHiddenIdeal.main_arg3)
      ∧ r.2.mem ((c.tc : Thread Cert.RefHiddenIdeal.nD Cert.RefHiddenIdeal.τ).loc Cert.RefHiddenIdeal.main_arg4) = m ((c.tc : Thread Cert.RefHiddenIdeal.nD Cert.RefHiddenIdeal.τ).loc Cert.RefHiddenIdeal.main_arg4))
      ∧ r.2.sem = fun _ => 0)

def quiescent_DwGateUp [hDwGateUp : Cert.DwGateUp.Facts] : Prop :=
  ∀ (m : (ℓ : Loc Cert.DwGateUp.nD Cert.DwGateUp.τ Cert.DwGateUp.sig) → Buf (Elt Bits) ℓ) (g : Dev Cert.DwGateUp.nD → PrngReg), Pre_DwGateUp m →
    θ_run (Cert.DwGateUp.defs (F := Bits)) (onTc (τ := Cert.DwGateUp.τ) (Cert.DwGateUp.main (F := Bits))) ⟨m, fun _ => 0, g⟩ (fun r => (∀ c : Dev Cert.DwGateUp.nD,
      r.2.mem ((c.tc : Thread Cert.DwGateUp.nD Cert.DwGateUp.τ).loc Cert.DwGateUp.main_arg0) = m ((c.tc : Thread Cert.DwGateUp.nD Cert.DwGateUp.τ).loc Cert.DwGateUp.main_arg0)
      ∧ r.2.mem ((c.tc : Thread Cert.DwGateUp.nD Cert.DwGateUp.τ).loc Cert.DwGateUp.main_arg1) = m ((c.tc : Thread Cert.DwGateUp.nD Cert.DwGateUp.τ).loc Cert.DwGateUp.main_arg1)
      ∧ r.2.mem ((c.tc : Thread Cert.DwGateUp.nD Cert.DwGateUp.τ).loc Cert.DwGateUp.main_arg2) = m ((c.tc : Thread Cert.DwGateUp.nD Cert.DwGateUp.τ).loc Cert.DwGateUp.main_arg2)
      ∧ r.2.mem ((c.tc : Thread Cert.DwGateUp.nD Cert.DwGateUp.τ).loc Cert.DwGateUp.main_arg3) = m ((c.tc : Thread Cert.DwGateUp.nD Cert.DwGateUp.τ).loc Cert.DwGateUp.main_arg3)
      ∧ r.2.mem ((c.tc : Thread Cert.DwGateUp.nD Cert.DwGateUp.τ).loc Cert.DwGateUp.main_arg4) = m ((c.tc : Thread Cert.DwGateUp.nD Cert.DwGateUp.τ).loc Cert.DwGateUp.main_arg4))
      ∧ r.2.sem = fun _ => 0)

def quiescent_DwGateUpIdeal [hDwGateUpIdeal : Cert.DwGateUpIdeal.Facts] : Prop :=
  ∀ (m : (ℓ : Loc Cert.DwGateUpIdeal.nD Cert.DwGateUpIdeal.τ Cert.DwGateUpIdeal.sig) → Buf (Elt Ideal) ℓ) (g : Dev Cert.DwGateUpIdeal.nD → PrngReg), Pre_DwGateUpIdeal m →
    θ_run (Cert.DwGateUpIdeal.defs (F := Ideal)) (onTc (τ := Cert.DwGateUpIdeal.τ) (Cert.DwGateUpIdeal.main (F := Ideal))) ⟨m, fun _ => 0, g⟩ (fun r => (∀ c : Dev Cert.DwGateUpIdeal.nD,
      r.2.mem ((c.tc : Thread Cert.DwGateUpIdeal.nD Cert.DwGateUpIdeal.τ).loc Cert.DwGateUpIdeal.main_arg0) = m ((c.tc : Thread Cert.DwGateUpIdeal.nD Cert.DwGateUpIdeal.τ).loc Cert.DwGateUpIdeal.main_arg0)
      ∧ r.2.mem ((c.tc : Thread Cert.DwGateUpIdeal.nD Cert.DwGateUpIdeal.τ).loc Cert.DwGateUpIdeal.main_arg1) = m ((c.tc : Thread Cert.DwGateUpIdeal.nD Cert.DwGateUpIdeal.τ).loc Cert.DwGateUpIdeal.main_arg1)
      ∧ r.2.mem ((c.tc : Thread Cert.DwGateUpIdeal.nD Cert.DwGateUpIdeal.τ).loc Cert.DwGateUpIdeal.main_arg2) = m ((c.tc : Thread Cert.DwGateUpIdeal.nD Cert.DwGateUpIdeal.τ).loc Cert.DwGateUpIdeal.main_arg2)
      ∧ r.2.mem ((c.tc : Thread Cert.DwGateUpIdeal.nD Cert.DwGateUpIdeal.τ).loc Cert.DwGateUpIdeal.main_arg3) = m ((c.tc : Thread Cert.DwGateUpIdeal.nD Cert.DwGateUpIdeal.τ).loc Cert.DwGateUpIdeal.main_arg3)
      ∧ r.2.mem ((c.tc : Thread Cert.DwGateUpIdeal.nD Cert.DwGateUpIdeal.τ).loc Cert.DwGateUpIdeal.main_arg4) = m ((c.tc : Thread Cert.DwGateUpIdeal.nD Cert.DwGateUpIdeal.τ).loc Cert.DwGateUpIdeal.main_arg4))
      ∧ r.2.sem = fun _ => 0)

def quiescent_RefDwGateUpIdeal [hRefDwGateUpIdeal : Cert.RefDwGateUpIdeal.Facts] : Prop :=
  ∀ (m : (ℓ : Loc Cert.RefDwGateUpIdeal.nD Cert.RefDwGateUpIdeal.τ Cert.RefDwGateUpIdeal.sig) → Buf (Elt Ideal) ℓ) (g : Dev Cert.RefDwGateUpIdeal.nD → PrngReg), Pre_RefDwGateUpIdeal m →
    θ_run (Cert.RefDwGateUpIdeal.defs (F := Ideal)) (onTc (τ := Cert.RefDwGateUpIdeal.τ) (Cert.RefDwGateUpIdeal.main (F := Ideal))) ⟨m, fun _ => 0, g⟩ (fun r => (∀ c : Dev Cert.RefDwGateUpIdeal.nD,
      r.2.mem ((c.tc : Thread Cert.RefDwGateUpIdeal.nD Cert.RefDwGateUpIdeal.τ).loc Cert.RefDwGateUpIdeal.main_arg0) = m ((c.tc : Thread Cert.RefDwGateUpIdeal.nD Cert.RefDwGateUpIdeal.τ).loc Cert.RefDwGateUpIdeal.main_arg0)
      ∧ r.2.mem ((c.tc : Thread Cert.RefDwGateUpIdeal.nD Cert.RefDwGateUpIdeal.τ).loc Cert.RefDwGateUpIdeal.main_arg1) = m ((c.tc : Thread Cert.RefDwGateUpIdeal.nD Cert.RefDwGateUpIdeal.τ).loc Cert.RefDwGateUpIdeal.main_arg1)
      ∧ r.2.mem ((c.tc : Thread Cert.RefDwGateUpIdeal.nD Cert.RefDwGateUpIdeal.τ).loc Cert.RefDwGateUpIdeal.main_arg2) = m ((c.tc : Thread Cert.RefDwGateUpIdeal.nD Cert.RefDwGateUpIdeal.τ).loc Cert.RefDwGateUpIdeal.main_arg2)
      ∧ r.2.mem ((c.tc : Thread Cert.RefDwGateUpIdeal.nD Cert.RefDwGateUpIdeal.τ).loc Cert.RefDwGateUpIdeal.main_arg3) = m ((c.tc : Thread Cert.RefDwGateUpIdeal.nD Cert.RefDwGateUpIdeal.τ).loc Cert.RefDwGateUpIdeal.main_arg3)
      ∧ r.2.mem ((c.tc : Thread Cert.RefDwGateUpIdeal.nD Cert.RefDwGateUpIdeal.τ).loc Cert.RefDwGateUpIdeal.main_arg4) = m ((c.tc : Thread Cert.RefDwGateUpIdeal.nD Cert.RefDwGateUpIdeal.τ).loc Cert.RefDwGateUpIdeal.main_arg4))
      ∧ r.2.sem = fun _ => 0)

def quiescent_DxGateUp [hDxGateUp : Cert.DxGateUp.Facts] : Prop :=
  ∀ (m : (ℓ : Loc Cert.DxGateUp.nD Cert.DxGateUp.τ Cert.DxGateUp.sig) → Buf (Elt Bits) ℓ) (g : Dev Cert.DxGateUp.nD → PrngReg), Pre_DxGateUp m →
    θ_run (Cert.DxGateUp.defs (F := Bits)) (onTc (τ := Cert.DxGateUp.τ) (Cert.DxGateUp.main (F := Bits))) ⟨m, fun _ => 0, g⟩ (fun r => (∀ c : Dev Cert.DxGateUp.nD,
      r.2.mem ((c.tc : Thread Cert.DxGateUp.nD Cert.DxGateUp.τ).loc Cert.DxGateUp.main_arg0) = m ((c.tc : Thread Cert.DxGateUp.nD Cert.DxGateUp.τ).loc Cert.DxGateUp.main_arg0)
      ∧ r.2.mem ((c.tc : Thread Cert.DxGateUp.nD Cert.DxGateUp.τ).loc Cert.DxGateUp.main_arg1) = m ((c.tc : Thread Cert.DxGateUp.nD Cert.DxGateUp.τ).loc Cert.DxGateUp.main_arg1)
      ∧ r.2.mem ((c.tc : Thread Cert.DxGateUp.nD Cert.DxGateUp.τ).loc Cert.DxGateUp.main_arg2) = m ((c.tc : Thread Cert.DxGateUp.nD Cert.DxGateUp.τ).loc Cert.DxGateUp.main_arg2)
      ∧ r.2.mem ((c.tc : Thread Cert.DxGateUp.nD Cert.DxGateUp.τ).loc Cert.DxGateUp.main_arg3) = m ((c.tc : Thread Cert.DxGateUp.nD Cert.DxGateUp.τ).loc Cert.DxGateUp.main_arg3)
      ∧ r.2.mem ((c.tc : Thread Cert.DxGateUp.nD Cert.DxGateUp.τ).loc Cert.DxGateUp.main_arg4) = m ((c.tc : Thread Cert.DxGateUp.nD Cert.DxGateUp.τ).loc Cert.DxGateUp.main_arg4))
      ∧ r.2.sem = fun _ => 0)

def quiescent_DxGateUpIdeal [hDxGateUpIdeal : Cert.DxGateUpIdeal.Facts] : Prop :=
  ∀ (m : (ℓ : Loc Cert.DxGateUpIdeal.nD Cert.DxGateUpIdeal.τ Cert.DxGateUpIdeal.sig) → Buf (Elt Ideal) ℓ) (g : Dev Cert.DxGateUpIdeal.nD → PrngReg), Pre_DxGateUpIdeal m →
    θ_run (Cert.DxGateUpIdeal.defs (F := Ideal)) (onTc (τ := Cert.DxGateUpIdeal.τ) (Cert.DxGateUpIdeal.main (F := Ideal))) ⟨m, fun _ => 0, g⟩ (fun r => (∀ c : Dev Cert.DxGateUpIdeal.nD,
      r.2.mem ((c.tc : Thread Cert.DxGateUpIdeal.nD Cert.DxGateUpIdeal.τ).loc Cert.DxGateUpIdeal.main_arg0) = m ((c.tc : Thread Cert.DxGateUpIdeal.nD Cert.DxGateUpIdeal.τ).loc Cert.DxGateUpIdeal.main_arg0)
      ∧ r.2.mem ((c.tc : Thread Cert.DxGateUpIdeal.nD Cert.DxGateUpIdeal.τ).loc Cert.DxGateUpIdeal.main_arg1) = m ((c.tc : Thread Cert.DxGateUpIdeal.nD Cert.DxGateUpIdeal.τ).loc Cert.DxGateUpIdeal.main_arg1)
      ∧ r.2.mem ((c.tc : Thread Cert.DxGateUpIdeal.nD Cert.DxGateUpIdeal.τ).loc Cert.DxGateUpIdeal.main_arg2) = m ((c.tc : Thread Cert.DxGateUpIdeal.nD Cert.DxGateUpIdeal.τ).loc Cert.DxGateUpIdeal.main_arg2)
      ∧ r.2.mem ((c.tc : Thread Cert.DxGateUpIdeal.nD Cert.DxGateUpIdeal.τ).loc Cert.DxGateUpIdeal.main_arg3) = m ((c.tc : Thread Cert.DxGateUpIdeal.nD Cert.DxGateUpIdeal.τ).loc Cert.DxGateUpIdeal.main_arg3)
      ∧ r.2.mem ((c.tc : Thread Cert.DxGateUpIdeal.nD Cert.DxGateUpIdeal.τ).loc Cert.DxGateUpIdeal.main_arg4) = m ((c.tc : Thread Cert.DxGateUpIdeal.nD Cert.DxGateUpIdeal.τ).loc Cert.DxGateUpIdeal.main_arg4))
      ∧ r.2.sem = fun _ => 0)

def quiescent_RefDxGateUpIdeal [hRefDxGateUpIdeal : Cert.RefDxGateUpIdeal.Facts] : Prop :=
  ∀ (m : (ℓ : Loc Cert.RefDxGateUpIdeal.nD Cert.RefDxGateUpIdeal.τ Cert.RefDxGateUpIdeal.sig) → Buf (Elt Ideal) ℓ) (g : Dev Cert.RefDxGateUpIdeal.nD → PrngReg), Pre_RefDxGateUpIdeal m →
    θ_run (Cert.RefDxGateUpIdeal.defs (F := Ideal)) (onTc (τ := Cert.RefDxGateUpIdeal.τ) (Cert.RefDxGateUpIdeal.main (F := Ideal))) ⟨m, fun _ => 0, g⟩ (fun r => (∀ c : Dev Cert.RefDxGateUpIdeal.nD,
      r.2.mem ((c.tc : Thread Cert.RefDxGateUpIdeal.nD Cert.RefDxGateUpIdeal.τ).loc Cert.RefDxGateUpIdeal.main_arg0) = m ((c.tc : Thread Cert.RefDxGateUpIdeal.nD Cert.RefDxGateUpIdeal.τ).loc Cert.RefDxGateUpIdeal.main_arg0)
      ∧ r.2.mem ((c.tc : Thread Cert.RefDxGateUpIdeal.nD Cert.RefDxGateUpIdeal.τ).loc Cert.RefDxGateUpIdeal.main_arg1) = m ((c.tc : Thread Cert.RefDxGateUpIdeal.nD Cert.RefDxGateUpIdeal.τ).loc Cert.RefDxGateUpIdeal.main_arg1)
      ∧ r.2.mem ((c.tc : Thread Cert.RefDxGateUpIdeal.nD Cert.RefDxGateUpIdeal.τ).loc Cert.RefDxGateUpIdeal.main_arg2) = m ((c.tc : Thread Cert.RefDxGateUpIdeal.nD Cert.RefDxGateUpIdeal.τ).loc Cert.RefDxGateUpIdeal.main_arg2)
      ∧ r.2.mem ((c.tc : Thread Cert.RefDxGateUpIdeal.nD Cert.RefDxGateUpIdeal.τ).loc Cert.RefDxGateUpIdeal.main_arg3) = m ((c.tc : Thread Cert.RefDxGateUpIdeal.nD Cert.RefDxGateUpIdeal.τ).loc Cert.RefDxGateUpIdeal.main_arg3)
      ∧ r.2.mem ((c.tc : Thread Cert.RefDxGateUpIdeal.nD Cert.RefDxGateUpIdeal.τ).loc Cert.RefDxGateUpIdeal.main_arg4) = m ((c.tc : Thread Cert.RefDxGateUpIdeal.nD Cert.RefDxGateUpIdeal.τ).loc Cert.RefDxGateUpIdeal.main_arg4))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1)
      ∧ r.2.mem ((c.tc : Thread Cert.DwSquare.nD Cert.DwSquare.τ).loc Cert.DwSquare.main_arg2) = m ((c.tc : Thread Cert.DwSquare.nD Cert.DwSquare.τ).loc Cert.DwSquare.main_arg2))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1)
      ∧ r.2.mem ((c.tc : Thread Cert.DwSquareIdeal.nD Cert.DwSquareIdeal.τ).loc Cert.DwSquareIdeal.main_arg2) = m ((c.tc : Thread Cert.DwSquareIdeal.nD Cert.DwSquareIdeal.τ).loc Cert.DwSquareIdeal.main_arg2))
      ∧ r.2.sem = fun _ => 0)

def quiescent_RefDwSquareIdeal [hRefDwSquareIdeal : Cert.RefDwSquareIdeal.Facts] : Prop :=
  ∀ (m : (ℓ : Loc Cert.RefDwSquareIdeal.nD Cert.RefDwSquareIdeal.τ Cert.RefDwSquareIdeal.sig) → Buf (Elt Ideal) ℓ) (g : Dev Cert.RefDwSquareIdeal.nD → PrngReg), Pre_RefDwSquareIdeal m →
    θ_run (Cert.RefDwSquareIdeal.defs (F := Ideal)) (onTc (τ := Cert.RefDwSquareIdeal.τ) (Cert.RefDwSquareIdeal.main (F := Ideal))) ⟨m, fun _ => 0, g⟩ (fun r => (∀ c : Dev Cert.RefDwSquareIdeal.nD,
      r.2.mem ((c.tc : Thread Cert.RefDwSquareIdeal.nD Cert.RefDwSquareIdeal.τ).loc Cert.RefDwSquareIdeal.main_arg0) = m ((c.tc : Thread Cert.RefDwSquareIdeal.nD Cert.RefDwSquareIdeal.τ).loc Cert.RefDwSquareIdeal.main_arg0)
      ∧ r.2.mem ((c.tc : Thread Cert.RefDwSquareIdeal.nD Cert.RefDwSquareIdeal.τ).loc Cert.RefDwSquareIdeal.main_arg1) = m ((c.tc : Thread Cert.RefDwSquareIdeal.nD Cert.RefDwSquareIdeal.τ).loc Cert.RefDwSquareIdeal.main_arg1)
      ∧ r.2.mem ((c.tc : Thread Cert.RefDwSquareIdeal.nD Cert.RefDwSquareIdeal.τ).loc Cert.RefDwSquareIdeal.main_arg2) = m ((c.tc : Thread Cert.RefDwSquareIdeal.nD Cert.RefDwSquareIdeal.τ).loc Cert.RefDwSquareIdeal.main_arg2))
      ∧ r.2.sem = fun _ => 0)

def quiescent_DwEvIn [hDwEvIn : Cert.DwEvIn.Facts] : Prop :=
  ∀ (m : (ℓ : Loc Cert.DwEvIn.nD Cert.DwEvIn.τ Cert.DwEvIn.sig) → Buf (Elt Bits) ℓ) (g : Dev Cert.DwEvIn.nD → PrngReg), Pre_DwEvIn m →
    θ_run (Cert.DwEvIn.defs (F := Bits)) (onTc (τ := Cert.DwEvIn.τ) (Cert.DwEvIn.main (F := Bits))) ⟨m, fun _ => 0, g⟩ (fun r => (∀ c : Dev Cert.DwEvIn.nD,
      r.2.mem ((c.tc : Thread Cert.DwEvIn.nD Cert.DwEvIn.τ).loc Cert.DwEvIn.main_arg0) = m ((c.tc : Thread Cert.DwEvIn.nD Cert.DwEvIn.τ).loc Cert.DwEvIn.main_arg0)
      ∧ r.2.mem ((c.tc : Thread Cert.DwEvIn.nD Cert.DwEvIn.τ).loc Cert.DwEvIn.main_arg1) = m ((c.tc : Thread Cert.DwEvIn.nD Cert.DwEvIn.τ).loc Cert.DwEvIn.main_arg1)
      ∧ r.2.mem ((c.tc : Thread Cert.DwEvIn.nD Cert.DwEvIn.τ).loc Cert.DwEvIn.main_arg2) = m ((c.tc : Thread Cert.DwEvIn.nD Cert.DwEvIn.τ).loc Cert.DwEvIn.main_arg2))
      ∧ r.2.sem = fun _ => 0)

def quiescent_DwEvInIdeal [hDwEvInIdeal : Cert.DwEvInIdeal.Facts] : Prop :=
  ∀ (m : (ℓ : Loc Cert.DwEvInIdeal.nD Cert.DwEvInIdeal.τ Cert.DwEvInIdeal.sig) → Buf (Elt Ideal) ℓ) (g : Dev Cert.DwEvInIdeal.nD → PrngReg), Pre_DwEvInIdeal m →
    θ_run (Cert.DwEvInIdeal.defs (F := Ideal)) (onTc (τ := Cert.DwEvInIdeal.τ) (Cert.DwEvInIdeal.main (F := Ideal))) ⟨m, fun _ => 0, g⟩ (fun r => (∀ c : Dev Cert.DwEvInIdeal.nD,
      r.2.mem ((c.tc : Thread Cert.DwEvInIdeal.nD Cert.DwEvInIdeal.τ).loc Cert.DwEvInIdeal.main_arg0) = m ((c.tc : Thread Cert.DwEvInIdeal.nD Cert.DwEvInIdeal.τ).loc Cert.DwEvInIdeal.main_arg0)
      ∧ r.2.mem ((c.tc : Thread Cert.DwEvInIdeal.nD Cert.DwEvInIdeal.τ).loc Cert.DwEvInIdeal.main_arg1) = m ((c.tc : Thread Cert.DwEvInIdeal.nD Cert.DwEvInIdeal.τ).loc Cert.DwEvInIdeal.main_arg1)
      ∧ r.2.mem ((c.tc : Thread Cert.DwEvInIdeal.nD Cert.DwEvInIdeal.τ).loc Cert.DwEvInIdeal.main_arg2) = m ((c.tc : Thread Cert.DwEvInIdeal.nD Cert.DwEvInIdeal.τ).loc Cert.DwEvInIdeal.main_arg2))
      ∧ r.2.sem = fun _ => 0)

def quiescent_RefDwEvInIdeal [hRefDwEvInIdeal : Cert.RefDwEvInIdeal.Facts] : Prop :=
  ∀ (m : (ℓ : Loc Cert.RefDwEvInIdeal.nD Cert.RefDwEvInIdeal.τ Cert.RefDwEvInIdeal.sig) → Buf (Elt Ideal) ℓ) (g : Dev Cert.RefDwEvInIdeal.nD → PrngReg), Pre_RefDwEvInIdeal m →
    θ_run (Cert.RefDwEvInIdeal.defs (F := Ideal)) (onTc (τ := Cert.RefDwEvInIdeal.τ) (Cert.RefDwEvInIdeal.main (F := Ideal))) ⟨m, fun _ => 0, g⟩ (fun r => (∀ c : Dev Cert.RefDwEvInIdeal.nD,
      r.2.mem ((c.tc : Thread Cert.RefDwEvInIdeal.nD Cert.RefDwEvInIdeal.τ).loc Cert.RefDwEvInIdeal.main_arg0) = m ((c.tc : Thread Cert.RefDwEvInIdeal.nD Cert.RefDwEvInIdeal.τ).loc Cert.RefDwEvInIdeal.main_arg0)
      ∧ r.2.mem ((c.tc : Thread Cert.RefDwEvInIdeal.nD Cert.RefDwEvInIdeal.τ).loc Cert.RefDwEvInIdeal.main_arg1) = m ((c.tc : Thread Cert.RefDwEvInIdeal.nD Cert.RefDwEvInIdeal.τ).loc Cert.RefDwEvInIdeal.main_arg1)
      ∧ r.2.mem ((c.tc : Thread Cert.RefDwEvInIdeal.nD Cert.RefDwEvInIdeal.τ).loc Cert.RefDwEvInIdeal.main_arg2) = m ((c.tc : Thread Cert.RefDwEvInIdeal.nD Cert.RefDwEvInIdeal.τ).loc Cert.RefDwEvInIdeal.main_arg2))
      ∧ r.2.sem = fun _ => 0)

def quiescent_DwOdIn [hDwOdIn : Cert.DwOdIn.Facts] : Prop :=
  ∀ (m : (ℓ : Loc Cert.DwOdIn.nD Cert.DwOdIn.τ Cert.DwOdIn.sig) → Buf (Elt Bits) ℓ) (g : Dev Cert.DwOdIn.nD → PrngReg), Pre_DwOdIn m →
    θ_run (Cert.DwOdIn.defs (F := Bits)) (onTc (τ := Cert.DwOdIn.τ) (Cert.DwOdIn.main (F := Bits))) ⟨m, fun _ => 0, g⟩ (fun r => (∀ c : Dev Cert.DwOdIn.nD,
      r.2.mem ((c.tc : Thread Cert.DwOdIn.nD Cert.DwOdIn.τ).loc Cert.DwOdIn.main_arg0) = m ((c.tc : Thread Cert.DwOdIn.nD Cert.DwOdIn.τ).loc Cert.DwOdIn.main_arg0)
      ∧ r.2.mem ((c.tc : Thread Cert.DwOdIn.nD Cert.DwOdIn.τ).loc Cert.DwOdIn.main_arg1) = m ((c.tc : Thread Cert.DwOdIn.nD Cert.DwOdIn.τ).loc Cert.DwOdIn.main_arg1)
      ∧ r.2.mem ((c.tc : Thread Cert.DwOdIn.nD Cert.DwOdIn.τ).loc Cert.DwOdIn.main_arg2) = m ((c.tc : Thread Cert.DwOdIn.nD Cert.DwOdIn.τ).loc Cert.DwOdIn.main_arg2))
      ∧ r.2.sem = fun _ => 0)

def quiescent_DwOdInIdeal [hDwOdInIdeal : Cert.DwOdInIdeal.Facts] : Prop :=
  ∀ (m : (ℓ : Loc Cert.DwOdInIdeal.nD Cert.DwOdInIdeal.τ Cert.DwOdInIdeal.sig) → Buf (Elt Ideal) ℓ) (g : Dev Cert.DwOdInIdeal.nD → PrngReg), Pre_DwOdInIdeal m →
    θ_run (Cert.DwOdInIdeal.defs (F := Ideal)) (onTc (τ := Cert.DwOdInIdeal.τ) (Cert.DwOdInIdeal.main (F := Ideal))) ⟨m, fun _ => 0, g⟩ (fun r => (∀ c : Dev Cert.DwOdInIdeal.nD,
      r.2.mem ((c.tc : Thread Cert.DwOdInIdeal.nD Cert.DwOdInIdeal.τ).loc Cert.DwOdInIdeal.main_arg0) = m ((c.tc : Thread Cert.DwOdInIdeal.nD Cert.DwOdInIdeal.τ).loc Cert.DwOdInIdeal.main_arg0)
      ∧ r.2.mem ((c.tc : Thread Cert.DwOdInIdeal.nD Cert.DwOdInIdeal.τ).loc Cert.DwOdInIdeal.main_arg1) = m ((c.tc : Thread Cert.DwOdInIdeal.nD Cert.DwOdInIdeal.τ).loc Cert.DwOdInIdeal.main_arg1)
      ∧ r.2.mem ((c.tc : Thread Cert.DwOdInIdeal.nD Cert.DwOdInIdeal.τ).loc Cert.DwOdInIdeal.main_arg2) = m ((c.tc : Thread Cert.DwOdInIdeal.nD Cert.DwOdInIdeal.τ).loc Cert.DwOdInIdeal.main_arg2))
      ∧ r.2.sem = fun _ => 0)

def quiescent_RefDwOdInIdeal [hRefDwOdInIdeal : Cert.RefDwOdInIdeal.Facts] : Prop :=
  ∀ (m : (ℓ : Loc Cert.RefDwOdInIdeal.nD Cert.RefDwOdInIdeal.τ Cert.RefDwOdInIdeal.sig) → Buf (Elt Ideal) ℓ) (g : Dev Cert.RefDwOdInIdeal.nD → PrngReg), Pre_RefDwOdInIdeal m →
    θ_run (Cert.RefDwOdInIdeal.defs (F := Ideal)) (onTc (τ := Cert.RefDwOdInIdeal.τ) (Cert.RefDwOdInIdeal.main (F := Ideal))) ⟨m, fun _ => 0, g⟩ (fun r => (∀ c : Dev Cert.RefDwOdInIdeal.nD,
      r.2.mem ((c.tc : Thread Cert.RefDwOdInIdeal.nD Cert.RefDwOdInIdeal.τ).loc Cert.RefDwOdInIdeal.main_arg0) = m ((c.tc : Thread Cert.RefDwOdInIdeal.nD Cert.RefDwOdInIdeal.τ).loc Cert.RefDwOdInIdeal.main_arg0)
      ∧ r.2.mem ((c.tc : Thread Cert.RefDwOdInIdeal.nD Cert.RefDwOdInIdeal.τ).loc Cert.RefDwOdInIdeal.main_arg1) = m ((c.tc : Thread Cert.RefDwOdInIdeal.nD Cert.RefDwOdInIdeal.τ).loc Cert.RefDwOdInIdeal.main_arg1)
      ∧ r.2.mem ((c.tc : Thread Cert.RefDwOdInIdeal.nD Cert.RefDwOdInIdeal.τ).loc Cert.RefDwOdInIdeal.main_arg2) = m ((c.tc : Thread Cert.RefDwOdInIdeal.nD Cert.RefDwOdInIdeal.τ).loc Cert.RefDwOdInIdeal.main_arg2))
      ∧ r.2.sem = fun _ => 0)

def quiescent_DwPleProj [hDwPleProj : Cert.DwPleProj.Facts] : Prop :=
  ∀ (m : (ℓ : Loc Cert.DwPleProj.nD Cert.DwPleProj.τ Cert.DwPleProj.sig) → Buf (Elt Bits) ℓ) (g : Dev Cert.DwPleProj.nD → PrngReg), Pre_DwPleProj m →
    θ_run (Cert.DwPleProj.defs (F := Bits)) (onTc (τ := Cert.DwPleProj.τ) (Cert.DwPleProj.main (F := Bits))) ⟨m, fun _ => 0, g⟩ (fun r => (∀ c : Dev Cert.DwPleProj.nD,
      r.2.mem ((c.tc : Thread Cert.DwPleProj.nD Cert.DwPleProj.τ).loc Cert.DwPleProj.main_arg0) = m ((c.tc : Thread Cert.DwPleProj.nD Cert.DwPleProj.τ).loc Cert.DwPleProj.main_arg0)
      ∧ r.2.mem ((c.tc : Thread Cert.DwPleProj.nD Cert.DwPleProj.τ).loc Cert.DwPleProj.main_arg1) = m ((c.tc : Thread Cert.DwPleProj.nD Cert.DwPleProj.τ).loc Cert.DwPleProj.main_arg1)
      ∧ r.2.mem ((c.tc : Thread Cert.DwPleProj.nD Cert.DwPleProj.τ).loc Cert.DwPleProj.main_arg2) = m ((c.tc : Thread Cert.DwPleProj.nD Cert.DwPleProj.τ).loc Cert.DwPleProj.main_arg2))
      ∧ r.2.sem = fun _ => 0)

def quiescent_DwPleProjIdeal [hDwPleProjIdeal : Cert.DwPleProjIdeal.Facts] : Prop :=
  ∀ (m : (ℓ : Loc Cert.DwPleProjIdeal.nD Cert.DwPleProjIdeal.τ Cert.DwPleProjIdeal.sig) → Buf (Elt Ideal) ℓ) (g : Dev Cert.DwPleProjIdeal.nD → PrngReg), Pre_DwPleProjIdeal m →
    θ_run (Cert.DwPleProjIdeal.defs (F := Ideal)) (onTc (τ := Cert.DwPleProjIdeal.τ) (Cert.DwPleProjIdeal.main (F := Ideal))) ⟨m, fun _ => 0, g⟩ (fun r => (∀ c : Dev Cert.DwPleProjIdeal.nD,
      r.2.mem ((c.tc : Thread Cert.DwPleProjIdeal.nD Cert.DwPleProjIdeal.τ).loc Cert.DwPleProjIdeal.main_arg0) = m ((c.tc : Thread Cert.DwPleProjIdeal.nD Cert.DwPleProjIdeal.τ).loc Cert.DwPleProjIdeal.main_arg0)
      ∧ r.2.mem ((c.tc : Thread Cert.DwPleProjIdeal.nD Cert.DwPleProjIdeal.τ).loc Cert.DwPleProjIdeal.main_arg1) = m ((c.tc : Thread Cert.DwPleProjIdeal.nD Cert.DwPleProjIdeal.τ).loc Cert.DwPleProjIdeal.main_arg1)
      ∧ r.2.mem ((c.tc : Thread Cert.DwPleProjIdeal.nD Cert.DwPleProjIdeal.τ).loc Cert.DwPleProjIdeal.main_arg2) = m ((c.tc : Thread Cert.DwPleProjIdeal.nD Cert.DwPleProjIdeal.τ).loc Cert.DwPleProjIdeal.main_arg2))
      ∧ r.2.sem = fun _ => 0)

def quiescent_RefDwPleProjIdeal [hRefDwPleProjIdeal : Cert.RefDwPleProjIdeal.Facts] : Prop :=
  ∀ (m : (ℓ : Loc Cert.RefDwPleProjIdeal.nD Cert.RefDwPleProjIdeal.τ Cert.RefDwPleProjIdeal.sig) → Buf (Elt Ideal) ℓ) (g : Dev Cert.RefDwPleProjIdeal.nD → PrngReg), Pre_RefDwPleProjIdeal m →
    θ_run (Cert.RefDwPleProjIdeal.defs (F := Ideal)) (onTc (τ := Cert.RefDwPleProjIdeal.τ) (Cert.RefDwPleProjIdeal.main (F := Ideal))) ⟨m, fun _ => 0, g⟩ (fun r => (∀ c : Dev Cert.RefDwPleProjIdeal.nD,
      r.2.mem ((c.tc : Thread Cert.RefDwPleProjIdeal.nD Cert.RefDwPleProjIdeal.τ).loc Cert.RefDwPleProjIdeal.main_arg0) = m ((c.tc : Thread Cert.RefDwPleProjIdeal.nD Cert.RefDwPleProjIdeal.τ).loc Cert.RefDwPleProjIdeal.main_arg0)
      ∧ r.2.mem ((c.tc : Thread Cert.RefDwPleProjIdeal.nD Cert.RefDwPleProjIdeal.τ).loc Cert.RefDwPleProjIdeal.main_arg1) = m ((c.tc : Thread Cert.RefDwPleProjIdeal.nD Cert.RefDwPleProjIdeal.τ).loc Cert.RefDwPleProjIdeal.main_arg1)
      ∧ r.2.mem ((c.tc : Thread Cert.RefDwPleProjIdeal.nD Cert.RefDwPleProjIdeal.τ).loc Cert.RefDwPleProjIdeal.main_arg2) = m ((c.tc : Thread Cert.RefDwPleProjIdeal.nD Cert.RefDwPleProjIdeal.τ).loc Cert.RefDwPleProjIdeal.main_arg2))
      ∧ r.2.sem = fun _ => 0)

def quiescent_DxEvIn [hDxEvIn : Cert.DxEvIn.Facts] : Prop :=
  ∀ (m : (ℓ : Loc Cert.DxEvIn.nD Cert.DxEvIn.τ Cert.DxEvIn.sig) → Buf (Elt Bits) ℓ) (g : Dev Cert.DxEvIn.nD → PrngReg), Pre_DxEvIn m →
    θ_run (Cert.DxEvIn.defs (F := Bits)) (onTc (τ := Cert.DxEvIn.τ) (Cert.DxEvIn.main (F := Bits))) ⟨m, fun _ => 0, g⟩ (fun r => (∀ c : Dev Cert.DxEvIn.nD,
      r.2.mem ((c.tc : Thread Cert.DxEvIn.nD Cert.DxEvIn.τ).loc Cert.DxEvIn.main_arg0) = m ((c.tc : Thread Cert.DxEvIn.nD Cert.DxEvIn.τ).loc Cert.DxEvIn.main_arg0)
      ∧ r.2.mem ((c.tc : Thread Cert.DxEvIn.nD Cert.DxEvIn.τ).loc Cert.DxEvIn.main_arg1) = m ((c.tc : Thread Cert.DxEvIn.nD Cert.DxEvIn.τ).loc Cert.DxEvIn.main_arg1)
      ∧ r.2.mem ((c.tc : Thread Cert.DxEvIn.nD Cert.DxEvIn.τ).loc Cert.DxEvIn.main_arg2) = m ((c.tc : Thread Cert.DxEvIn.nD Cert.DxEvIn.τ).loc Cert.DxEvIn.main_arg2))
      ∧ r.2.sem = fun _ => 0)

def quiescent_DxEvInIdeal [hDxEvInIdeal : Cert.DxEvInIdeal.Facts] : Prop :=
  ∀ (m : (ℓ : Loc Cert.DxEvInIdeal.nD Cert.DxEvInIdeal.τ Cert.DxEvInIdeal.sig) → Buf (Elt Ideal) ℓ) (g : Dev Cert.DxEvInIdeal.nD → PrngReg), Pre_DxEvInIdeal m →
    θ_run (Cert.DxEvInIdeal.defs (F := Ideal)) (onTc (τ := Cert.DxEvInIdeal.τ) (Cert.DxEvInIdeal.main (F := Ideal))) ⟨m, fun _ => 0, g⟩ (fun r => (∀ c : Dev Cert.DxEvInIdeal.nD,
      r.2.mem ((c.tc : Thread Cert.DxEvInIdeal.nD Cert.DxEvInIdeal.τ).loc Cert.DxEvInIdeal.main_arg0) = m ((c.tc : Thread Cert.DxEvInIdeal.nD Cert.DxEvInIdeal.τ).loc Cert.DxEvInIdeal.main_arg0)
      ∧ r.2.mem ((c.tc : Thread Cert.DxEvInIdeal.nD Cert.DxEvInIdeal.τ).loc Cert.DxEvInIdeal.main_arg1) = m ((c.tc : Thread Cert.DxEvInIdeal.nD Cert.DxEvInIdeal.τ).loc Cert.DxEvInIdeal.main_arg1)
      ∧ r.2.mem ((c.tc : Thread Cert.DxEvInIdeal.nD Cert.DxEvInIdeal.τ).loc Cert.DxEvInIdeal.main_arg2) = m ((c.tc : Thread Cert.DxEvInIdeal.nD Cert.DxEvInIdeal.τ).loc Cert.DxEvInIdeal.main_arg2))
      ∧ r.2.sem = fun _ => 0)

def quiescent_RefDxEvInIdeal [hRefDxEvInIdeal : Cert.RefDxEvInIdeal.Facts] : Prop :=
  ∀ (m : (ℓ : Loc Cert.RefDxEvInIdeal.nD Cert.RefDxEvInIdeal.τ Cert.RefDxEvInIdeal.sig) → Buf (Elt Ideal) ℓ) (g : Dev Cert.RefDxEvInIdeal.nD → PrngReg), Pre_RefDxEvInIdeal m →
    θ_run (Cert.RefDxEvInIdeal.defs (F := Ideal)) (onTc (τ := Cert.RefDxEvInIdeal.τ) (Cert.RefDxEvInIdeal.main (F := Ideal))) ⟨m, fun _ => 0, g⟩ (fun r => (∀ c : Dev Cert.RefDxEvInIdeal.nD,
      r.2.mem ((c.tc : Thread Cert.RefDxEvInIdeal.nD Cert.RefDxEvInIdeal.τ).loc Cert.RefDxEvInIdeal.main_arg0) = m ((c.tc : Thread Cert.RefDxEvInIdeal.nD Cert.RefDxEvInIdeal.τ).loc Cert.RefDxEvInIdeal.main_arg0)
      ∧ r.2.mem ((c.tc : Thread Cert.RefDxEvInIdeal.nD Cert.RefDxEvInIdeal.τ).loc Cert.RefDxEvInIdeal.main_arg1) = m ((c.tc : Thread Cert.RefDxEvInIdeal.nD Cert.RefDxEvInIdeal.τ).loc Cert.RefDxEvInIdeal.main_arg1)
      ∧ r.2.mem ((c.tc : Thread Cert.RefDxEvInIdeal.nD Cert.RefDxEvInIdeal.τ).loc Cert.RefDxEvInIdeal.main_arg2) = m ((c.tc : Thread Cert.RefDxEvInIdeal.nD Cert.RefDxEvInIdeal.τ).loc Cert.RefDxEvInIdeal.main_arg2))
      ∧ r.2.sem = fun _ => 0)

def quiescent_DxOdIn [hDxOdIn : Cert.DxOdIn.Facts] : Prop :=
  ∀ (m : (ℓ : Loc Cert.DxOdIn.nD Cert.DxOdIn.τ Cert.DxOdIn.sig) → Buf (Elt Bits) ℓ) (g : Dev Cert.DxOdIn.nD → PrngReg), Pre_DxOdIn m →
    θ_run (Cert.DxOdIn.defs (F := Bits)) (onTc (τ := Cert.DxOdIn.τ) (Cert.DxOdIn.main (F := Bits))) ⟨m, fun _ => 0, g⟩ (fun r => (∀ c : Dev Cert.DxOdIn.nD,
      r.2.mem ((c.tc : Thread Cert.DxOdIn.nD Cert.DxOdIn.τ).loc Cert.DxOdIn.main_arg0) = m ((c.tc : Thread Cert.DxOdIn.nD Cert.DxOdIn.τ).loc Cert.DxOdIn.main_arg0)
      ∧ r.2.mem ((c.tc : Thread Cert.DxOdIn.nD Cert.DxOdIn.τ).loc Cert.DxOdIn.main_arg1) = m ((c.tc : Thread Cert.DxOdIn.nD Cert.DxOdIn.τ).loc Cert.DxOdIn.main_arg1)
      ∧ r.2.mem ((c.tc : Thread Cert.DxOdIn.nD Cert.DxOdIn.τ).loc Cert.DxOdIn.main_arg2) = m ((c.tc : Thread Cert.DxOdIn.nD Cert.DxOdIn.τ).loc Cert.DxOdIn.main_arg2))
      ∧ r.2.sem = fun _ => 0)

def quiescent_DxOdInIdeal [hDxOdInIdeal : Cert.DxOdInIdeal.Facts] : Prop :=
  ∀ (m : (ℓ : Loc Cert.DxOdInIdeal.nD Cert.DxOdInIdeal.τ Cert.DxOdInIdeal.sig) → Buf (Elt Ideal) ℓ) (g : Dev Cert.DxOdInIdeal.nD → PrngReg), Pre_DxOdInIdeal m →
    θ_run (Cert.DxOdInIdeal.defs (F := Ideal)) (onTc (τ := Cert.DxOdInIdeal.τ) (Cert.DxOdInIdeal.main (F := Ideal))) ⟨m, fun _ => 0, g⟩ (fun r => (∀ c : Dev Cert.DxOdInIdeal.nD,
      r.2.mem ((c.tc : Thread Cert.DxOdInIdeal.nD Cert.DxOdInIdeal.τ).loc Cert.DxOdInIdeal.main_arg0) = m ((c.tc : Thread Cert.DxOdInIdeal.nD Cert.DxOdInIdeal.τ).loc Cert.DxOdInIdeal.main_arg0)
      ∧ r.2.mem ((c.tc : Thread Cert.DxOdInIdeal.nD Cert.DxOdInIdeal.τ).loc Cert.DxOdInIdeal.main_arg1) = m ((c.tc : Thread Cert.DxOdInIdeal.nD Cert.DxOdInIdeal.τ).loc Cert.DxOdInIdeal.main_arg1)
      ∧ r.2.mem ((c.tc : Thread Cert.DxOdInIdeal.nD Cert.DxOdInIdeal.τ).loc Cert.DxOdInIdeal.main_arg2) = m ((c.tc : Thread Cert.DxOdInIdeal.nD Cert.DxOdInIdeal.τ).loc Cert.DxOdInIdeal.main_arg2))
      ∧ r.2.sem = fun _ => 0)

def quiescent_RefDxOdInIdeal [hRefDxOdInIdeal : Cert.RefDxOdInIdeal.Facts] : Prop :=
  ∀ (m : (ℓ : Loc Cert.RefDxOdInIdeal.nD Cert.RefDxOdInIdeal.τ Cert.RefDxOdInIdeal.sig) → Buf (Elt Ideal) ℓ) (g : Dev Cert.RefDxOdInIdeal.nD → PrngReg), Pre_RefDxOdInIdeal m →
    θ_run (Cert.RefDxOdInIdeal.defs (F := Ideal)) (onTc (τ := Cert.RefDxOdInIdeal.τ) (Cert.RefDxOdInIdeal.main (F := Ideal))) ⟨m, fun _ => 0, g⟩ (fun r => (∀ c : Dev Cert.RefDxOdInIdeal.nD,
      r.2.mem ((c.tc : Thread Cert.RefDxOdInIdeal.nD Cert.RefDxOdInIdeal.τ).loc Cert.RefDxOdInIdeal.main_arg0) = m ((c.tc : Thread Cert.RefDxOdInIdeal.nD Cert.RefDxOdInIdeal.τ).loc Cert.RefDxOdInIdeal.main_arg0)
      ∧ r.2.mem ((c.tc : Thread Cert.RefDxOdInIdeal.nD Cert.RefDxOdInIdeal.τ).loc Cert.RefDxOdInIdeal.main_arg1) = m ((c.tc : Thread Cert.RefDxOdInIdeal.nD Cert.RefDxOdInIdeal.τ).loc Cert.RefDxOdInIdeal.main_arg1)
      ∧ r.2.mem ((c.tc : Thread Cert.RefDxOdInIdeal.nD Cert.RefDxOdInIdeal.τ).loc Cert.RefDxOdInIdeal.main_arg2) = m ((c.tc : Thread Cert.RefDxOdInIdeal.nD Cert.RefDxOdInIdeal.τ).loc Cert.RefDxOdInIdeal.main_arg2))
      ∧ r.2.sem = fun _ => 0)

def quiescent_DxPleGate [hDxPleGate : Cert.DxPleGate.Facts] : Prop :=
  ∀ (m : (ℓ : Loc Cert.DxPleGate.nD Cert.DxPleGate.τ Cert.DxPleGate.sig) → Buf (Elt Bits) ℓ) (g : Dev Cert.DxPleGate.nD → PrngReg), Pre_DxPleGate m →
    θ_run (Cert.DxPleGate.defs (F := Bits)) (onTc (τ := Cert.DxPleGate.τ) (Cert.DxPleGate.main (F := Bits))) ⟨m, fun _ => 0, g⟩ (fun r => (∀ c : Dev Cert.DxPleGate.nD,
      r.2.mem ((c.tc : Thread Cert.DxPleGate.nD Cert.DxPleGate.τ).loc Cert.DxPleGate.main_arg0) = m ((c.tc : Thread Cert.DxPleGate.nD Cert.DxPleGate.τ).loc Cert.DxPleGate.main_arg0)
      ∧ r.2.mem ((c.tc : Thread Cert.DxPleGate.nD Cert.DxPleGate.τ).loc Cert.DxPleGate.main_arg1) = m ((c.tc : Thread Cert.DxPleGate.nD Cert.DxPleGate.τ).loc Cert.DxPleGate.main_arg1)
      ∧ r.2.mem ((c.tc : Thread Cert.DxPleGate.nD Cert.DxPleGate.τ).loc Cert.DxPleGate.main_arg2) = m ((c.tc : Thread Cert.DxPleGate.nD Cert.DxPleGate.τ).loc Cert.DxPleGate.main_arg2))
      ∧ r.2.sem = fun _ => 0)

def quiescent_DxPleGateIdeal [hDxPleGateIdeal : Cert.DxPleGateIdeal.Facts] : Prop :=
  ∀ (m : (ℓ : Loc Cert.DxPleGateIdeal.nD Cert.DxPleGateIdeal.τ Cert.DxPleGateIdeal.sig) → Buf (Elt Ideal) ℓ) (g : Dev Cert.DxPleGateIdeal.nD → PrngReg), Pre_DxPleGateIdeal m →
    θ_run (Cert.DxPleGateIdeal.defs (F := Ideal)) (onTc (τ := Cert.DxPleGateIdeal.τ) (Cert.DxPleGateIdeal.main (F := Ideal))) ⟨m, fun _ => 0, g⟩ (fun r => (∀ c : Dev Cert.DxPleGateIdeal.nD,
      r.2.mem ((c.tc : Thread Cert.DxPleGateIdeal.nD Cert.DxPleGateIdeal.τ).loc Cert.DxPleGateIdeal.main_arg0) = m ((c.tc : Thread Cert.DxPleGateIdeal.nD Cert.DxPleGateIdeal.τ).loc Cert.DxPleGateIdeal.main_arg0)
      ∧ r.2.mem ((c.tc : Thread Cert.DxPleGateIdeal.nD Cert.DxPleGateIdeal.τ).loc Cert.DxPleGateIdeal.main_arg1) = m ((c.tc : Thread Cert.DxPleGateIdeal.nD Cert.DxPleGateIdeal.τ).loc Cert.DxPleGateIdeal.main_arg1)
      ∧ r.2.mem ((c.tc : Thread Cert.DxPleGateIdeal.nD Cert.DxPleGateIdeal.τ).loc Cert.DxPleGateIdeal.main_arg2) = m ((c.tc : Thread Cert.DxPleGateIdeal.nD Cert.DxPleGateIdeal.τ).loc Cert.DxPleGateIdeal.main_arg2))
      ∧ r.2.sem = fun _ => 0)

def quiescent_RefDxPleGateIdeal [hRefDxPleGateIdeal : Cert.RefDxPleGateIdeal.Facts] : Prop :=
  ∀ (m : (ℓ : Loc Cert.RefDxPleGateIdeal.nD Cert.RefDxPleGateIdeal.τ Cert.RefDxPleGateIdeal.sig) → Buf (Elt Ideal) ℓ) (g : Dev Cert.RefDxPleGateIdeal.nD → PrngReg), Pre_RefDxPleGateIdeal m →
    θ_run (Cert.RefDxPleGateIdeal.defs (F := Ideal)) (onTc (τ := Cert.RefDxPleGateIdeal.τ) (Cert.RefDxPleGateIdeal.main (F := Ideal))) ⟨m, fun _ => 0, g⟩ (fun r => (∀ c : Dev Cert.RefDxPleGateIdeal.nD,
      r.2.mem ((c.tc : Thread Cert.RefDxPleGateIdeal.nD Cert.RefDxPleGateIdeal.τ).loc Cert.RefDxPleGateIdeal.main_arg0) = m ((c.tc : Thread Cert.RefDxPleGateIdeal.nD Cert.RefDxPleGateIdeal.τ).loc Cert.RefDxPleGateIdeal.main_arg0)
      ∧ r.2.mem ((c.tc : Thread Cert.RefDxPleGateIdeal.nD Cert.RefDxPleGateIdeal.τ).loc Cert.RefDxPleGateIdeal.main_arg1) = m ((c.tc : Thread Cert.RefDxPleGateIdeal.nD Cert.RefDxPleGateIdeal.τ).loc Cert.RefDxPleGateIdeal.main_arg1)
      ∧ r.2.mem ((c.tc : Thread Cert.RefDxPleGateIdeal.nD Cert.RefDxPleGateIdeal.τ).loc Cert.RefDxPleGateIdeal.main_arg2) = m ((c.tc : Thread Cert.RefDxPleGateIdeal.nD Cert.RefDxPleGateIdeal.τ).loc Cert.RefDxPleGateIdeal.main_arg2))
      ∧ r.2.sem = fun _ => 0)

def quiescent_DxOut [hDxOut : Cert.DxOut.Facts] : Prop :=
  ∀ (m : (ℓ : Loc Cert.DxOut.nD Cert.DxOut.τ Cert.DxOut.sig) → Buf (Elt Bits) ℓ) (g : Dev Cert.DxOut.nD → PrngReg), Pre_DxOut m →
    θ_run (Cert.DxOut.defs (F := Bits)) (onTc (τ := Cert.DxOut.τ) (Cert.DxOut.main (F := Bits))) ⟨m, fun _ => 0, g⟩ (fun r => (∀ c : Dev Cert.DxOut.nD,
      r.2.mem ((c.tc : Thread Cert.DxOut.nD Cert.DxOut.τ).loc Cert.DxOut.main_arg0) = m ((c.tc : Thread Cert.DxOut.nD Cert.DxOut.τ).loc Cert.DxOut.main_arg0)
      ∧ r.2.mem ((c.tc : Thread Cert.DxOut.nD Cert.DxOut.τ).loc Cert.DxOut.main_arg1) = m ((c.tc : Thread Cert.DxOut.nD Cert.DxOut.τ).loc Cert.DxOut.main_arg1)
      ∧ r.2.mem ((c.tc : Thread Cert.DxOut.nD Cert.DxOut.τ).loc Cert.DxOut.main_arg2) = m ((c.tc : Thread Cert.DxOut.nD Cert.DxOut.τ).loc Cert.DxOut.main_arg2))
      ∧ r.2.sem = fun _ => 0)

def quiescent_DxOutIdeal [hDxOutIdeal : Cert.DxOutIdeal.Facts] : Prop :=
  ∀ (m : (ℓ : Loc Cert.DxOutIdeal.nD Cert.DxOutIdeal.τ Cert.DxOutIdeal.sig) → Buf (Elt Ideal) ℓ) (g : Dev Cert.DxOutIdeal.nD → PrngReg), Pre_DxOutIdeal m →
    θ_run (Cert.DxOutIdeal.defs (F := Ideal)) (onTc (τ := Cert.DxOutIdeal.τ) (Cert.DxOutIdeal.main (F := Ideal))) ⟨m, fun _ => 0, g⟩ (fun r => (∀ c : Dev Cert.DxOutIdeal.nD,
      r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
      ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1)
      ∧ r.2.mem ((c.tc : Thread Cert.DxOutIdeal.nD Cert.DxOutIdeal.τ).loc Cert.DxOutIdeal.main_arg2) = m ((c.tc : Thread Cert.DxOutIdeal.nD Cert.DxOutIdeal.τ).loc Cert.DxOutIdeal.main_arg2))
      ∧ r.2.sem = fun _ => 0)

def quiescent_RefDxOutIdeal [hRefDxOutIdeal : Cert.RefDxOutIdeal.Facts] : Prop :=
  ∀ (m : (ℓ : Loc Cert.RefDxOutIdeal.nD Cert.RefDxOutIdeal.τ Cert.RefDxOutIdeal.sig) → Buf (Elt Ideal) ℓ) (g : Dev Cert.RefDxOutIdeal.nD → PrngReg), Pre_RefDxOutIdeal m →
    θ_run (Cert.RefDxOutIdeal.defs (F := Ideal)) (onTc (τ := Cert.RefDxOutIdeal.τ) (Cert.RefDxOutIdeal.main (F := Ideal))) ⟨m, fun _ => 0, g⟩ (fun r => (∀ c : Dev Cert.RefDxOutIdeal.nD,
      r.2.mem ((c.tc : Thread Cert.RefDxOutIdeal.nD Cert.RefDxOutIdeal.τ).loc Cert.RefDxOutIdeal.main_arg0) = m ((c.tc : Thread Cert.RefDxOutIdeal.nD Cert.RefDxOutIdeal.τ).loc Cert.RefDxOutIdeal.main_arg0)
      ∧ r.2.mem ((c.tc : Thread Cert.RefDxOutIdeal.nD Cert.RefDxOutIdeal.τ).loc Cert.RefDxOutIdeal.main_arg1) = m ((c.tc : Thread Cert.RefDxOutIdeal.nD Cert.RefDxOutIdeal.τ).loc Cert.RefDxOutIdeal.main_arg1)
      ∧ r.2.mem ((c.tc : Thread Cert.RefDxOutIdeal.nD Cert.RefDxOutIdeal.τ).loc Cert.RefDxOutIdeal.main_arg2) = m ((c.tc : Thread Cert.RefDxOutIdeal.nD Cert.RefDxOutIdeal.τ).loc Cert.RefDxOutIdeal.main_arg2))
      ∧ r.2.sem = fun _ => 0)

def quiescent_EvIn [hEvIn : Cert.EvIn.Facts] : Prop :=
  ∀ (m : (ℓ : Loc Cert.EvIn.nD Cert.EvIn.τ Cert.EvIn.sig) → Buf (Elt Bits) ℓ) (g : Dev Cert.EvIn.nD → PrngReg), Pre_EvIn m →
    θ_run (Cert.EvIn.defs (F := Bits)) (onTc (τ := Cert.EvIn.τ) (Cert.EvIn.main (F := Bits))) ⟨m, fun _ => 0, g⟩ (fun r => (∀ c : Dev Cert.EvIn.nD,
      r.2.mem ((c.tc : Thread Cert.EvIn.nD Cert.EvIn.τ).loc Cert.EvIn.main_arg0) = m ((c.tc : Thread Cert.EvIn.nD Cert.EvIn.τ).loc Cert.EvIn.main_arg0)
      ∧ r.2.mem ((c.tc : Thread Cert.EvIn.nD Cert.EvIn.τ).loc Cert.EvIn.main_arg1) = m ((c.tc : Thread Cert.EvIn.nD Cert.EvIn.τ).loc Cert.EvIn.main_arg1))
      ∧ r.2.sem = fun _ => 0)

def quiescent_EvInIdeal [hEvInIdeal : Cert.EvInIdeal.Facts] : Prop :=
  ∀ (m : (ℓ : Loc Cert.EvInIdeal.nD Cert.EvInIdeal.τ Cert.EvInIdeal.sig) → Buf (Elt Ideal) ℓ) (g : Dev Cert.EvInIdeal.nD → PrngReg), Pre_EvInIdeal m →
    θ_run (Cert.EvInIdeal.defs (F := Ideal)) (onTc (τ := Cert.EvInIdeal.τ) (Cert.EvInIdeal.main (F := Ideal))) ⟨m, fun _ => 0, g⟩ (fun r => (∀ c : Dev Cert.EvInIdeal.nD,
      r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
      ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ r.2.sem = fun _ => 0)

def quiescent_RefEvInIdeal [hRefEvInIdeal : Cert.RefEvInIdeal.Facts] : Prop :=
  ∀ (m : (ℓ : Loc Cert.RefEvInIdeal.nD Cert.RefEvInIdeal.τ Cert.RefEvInIdeal.sig) → Buf (Elt Ideal) ℓ) (g : Dev Cert.RefEvInIdeal.nD → PrngReg), Pre_RefEvInIdeal m →
    θ_run (Cert.RefEvInIdeal.defs (F := Ideal)) (onTc (τ := Cert.RefEvInIdeal.τ) (Cert.RefEvInIdeal.main (F := Ideal))) ⟨m, fun _ => 0, g⟩ (fun r => (∀ c : Dev Cert.RefEvInIdeal.nD,
      r.2.mem ((c.tc : Thread Cert.RefEvInIdeal.nD Cert.RefEvInIdeal.τ).loc Cert.RefEvInIdeal.main_arg0) = m ((c.tc : Thread Cert.RefEvInIdeal.nD Cert.RefEvInIdeal.τ).loc Cert.RefEvInIdeal.main_arg0)
      ∧ r.2.mem ((c.tc : Thread Cert.RefEvInIdeal.nD Cert.RefEvInIdeal.τ).loc Cert.RefEvInIdeal.main_arg1) = m ((c.tc : Thread Cert.RefEvInIdeal.nD Cert.RefEvInIdeal.τ).loc Cert.RefEvInIdeal.main_arg1))
      ∧ r.2.sem = fun _ => 0)

def quiescent_OdIn [hOdIn : Cert.OdIn.Facts] : Prop :=
  ∀ (m : (ℓ : Loc Cert.OdIn.nD Cert.OdIn.τ Cert.OdIn.sig) → Buf (Elt Bits) ℓ) (g : Dev Cert.OdIn.nD → PrngReg), Pre_OdIn m →
    θ_run (Cert.OdIn.defs (F := Bits)) (onTc (τ := Cert.OdIn.τ) (Cert.OdIn.main (F := Bits))) ⟨m, fun _ => 0, g⟩ (fun r => (∀ c : Dev Cert.OdIn.nD,
      r.2.mem ((c.tc : Thread Cert.OdIn.nD Cert.OdIn.τ).loc Cert.OdIn.main_arg0) = m ((c.tc : Thread Cert.OdIn.nD Cert.OdIn.τ).loc Cert.OdIn.main_arg0)
      ∧ r.2.mem ((c.tc : Thread Cert.OdIn.nD Cert.OdIn.τ).loc Cert.OdIn.main_arg1) = m ((c.tc : Thread Cert.OdIn.nD Cert.OdIn.τ).loc Cert.OdIn.main_arg1))
      ∧ r.2.sem = fun _ => 0)

def quiescent_OdInIdeal [hOdInIdeal : Cert.OdInIdeal.Facts] : Prop :=
  ∀ (m : (ℓ : Loc Cert.OdInIdeal.nD Cert.OdInIdeal.τ Cert.OdInIdeal.sig) → Buf (Elt Ideal) ℓ) (g : Dev Cert.OdInIdeal.nD → PrngReg), Pre_OdInIdeal m →
    θ_run (Cert.OdInIdeal.defs (F := Ideal)) (onTc (τ := Cert.OdInIdeal.τ) (Cert.OdInIdeal.main (F := Ideal))) ⟨m, fun _ => 0, g⟩ (fun r => (∀ c : Dev Cert.OdInIdeal.nD,
      r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
      ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ r.2.sem = fun _ => 0)

def quiescent_RefOdInIdeal [hRefOdInIdeal : Cert.RefOdInIdeal.Facts] : Prop :=
  ∀ (m : (ℓ : Loc Cert.RefOdInIdeal.nD Cert.RefOdInIdeal.τ Cert.RefOdInIdeal.sig) → Buf (Elt Ideal) ℓ) (g : Dev Cert.RefOdInIdeal.nD → PrngReg), Pre_RefOdInIdeal m →
    θ_run (Cert.RefOdInIdeal.defs (F := Ideal)) (onTc (τ := Cert.RefOdInIdeal.τ) (Cert.RefOdInIdeal.main (F := Ideal))) ⟨m, fun _ => 0, g⟩ (fun r => (∀ c : Dev Cert.RefOdInIdeal.nD,
      r.2.mem ((c.tc : Thread Cert.RefOdInIdeal.nD Cert.RefOdInIdeal.τ).loc Cert.RefOdInIdeal.main_arg0) = m ((c.tc : Thread Cert.RefOdInIdeal.nD Cert.RefOdInIdeal.τ).loc Cert.RefOdInIdeal.main_arg0)
      ∧ r.2.mem ((c.tc : Thread Cert.RefOdInIdeal.nD Cert.RefOdInIdeal.τ).loc Cert.RefOdInIdeal.main_arg1) = m ((c.tc : Thread Cert.RefOdInIdeal.nD Cert.RefOdInIdeal.τ).loc Cert.RefOdInIdeal.main_arg1))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_RefPleGateIdeal [hRefPleGateIdeal : Cert.RefPleGateIdeal.Facts] : Prop :=
  ∀ (m : (ℓ : Loc Cert.RefPleGateIdeal.nD Cert.RefPleGateIdeal.τ Cert.RefPleGateIdeal.sig) → Buf (Elt Ideal) ℓ) (g : Dev Cert.RefPleGateIdeal.nD → PrngReg), Pre_RefPleGateIdeal m →
    θ_run (Cert.RefPleGateIdeal.defs (F := Ideal)) (onTc (τ := Cert.RefPleGateIdeal.τ) (Cert.RefPleGateIdeal.main (F := Ideal))) ⟨m, fun _ => 0, g⟩ (fun r => (∀ c : Dev Cert.RefPleGateIdeal.nD,
      r.2.mem ((c.tc : Thread Cert.RefPleGateIdeal.nD Cert.RefPleGateIdeal.τ).loc Cert.RefPleGateIdeal.main_arg0) = m ((c.tc : Thread Cert.RefPleGateIdeal.nD Cert.RefPleGateIdeal.τ).loc Cert.RefPleGateIdeal.main_arg0)
      ∧ r.2.mem ((c.tc : Thread Cert.RefPleGateIdeal.nD Cert.RefPleGateIdeal.τ).loc Cert.RefPleGateIdeal.main_arg1) = m ((c.tc : Thread Cert.RefPleGateIdeal.nD Cert.RefPleGateIdeal.τ).loc Cert.RefPleGateIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_RefPleProjIdeal [hRefPleProjIdeal : Cert.RefPleProjIdeal.Facts] : Prop :=
  ∀ (m : (ℓ : Loc Cert.RefPleProjIdeal.nD Cert.RefPleProjIdeal.τ Cert.RefPleProjIdeal.sig) → Buf (Elt Ideal) ℓ) (g : Dev Cert.RefPleProjIdeal.nD → PrngReg), Pre_RefPleProjIdeal m →
    θ_run (Cert.RefPleProjIdeal.defs (F := Ideal)) (onTc (τ := Cert.RefPleProjIdeal.τ) (Cert.RefPleProjIdeal.main (F := Ideal))) ⟨m, fun _ => 0, g⟩ (fun r => (∀ c : Dev Cert.RefPleProjIdeal.nD,
      r.2.mem ((c.tc : Thread Cert.RefPleProjIdeal.nD Cert.RefPleProjIdeal.τ).loc Cert.RefPleProjIdeal.main_arg0) = m ((c.tc : Thread Cert.RefPleProjIdeal.nD Cert.RefPleProjIdeal.τ).loc Cert.RefPleProjIdeal.main_arg0)
      ∧ r.2.mem ((c.tc : Thread Cert.RefPleProjIdeal.nD Cert.RefPleProjIdeal.τ).loc Cert.RefPleProjIdeal.main_arg1) = m ((c.tc : Thread Cert.RefPleProjIdeal.nD Cert.RefPleProjIdeal.τ).loc Cert.RefPleProjIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_RefMixOutIdeal [hRefMixOutIdeal : Cert.RefMixOutIdeal.Facts] : Prop :=
  ∀ (m : (ℓ : Loc Cert.RefMixOutIdeal.nD Cert.RefMixOutIdeal.τ Cert.RefMixOutIdeal.sig) → Buf (Elt Ideal) ℓ) (g : Dev Cert.RefMixOutIdeal.nD → PrngReg), Pre_RefMixOutIdeal m →
    θ_run (Cert.RefMixOutIdeal.defs (F := Ideal)) (onTc (τ := Cert.RefMixOutIdeal.τ) (Cert.RefMixOutIdeal.main (F := Ideal))) ⟨m, fun _ => 0, g⟩ (fun r => (∀ c : Dev Cert.RefMixOutIdeal.nD,
      r.2.mem ((c.tc : Thread Cert.RefMixOutIdeal.nD Cert.RefMixOutIdeal.τ).loc Cert.RefMixOutIdeal.main_arg0) = m ((c.tc : Thread Cert.RefMixOutIdeal.nD Cert.RefMixOutIdeal.τ).loc Cert.RefMixOutIdeal.main_arg0)
      ∧ r.2.mem ((c.tc : Thread Cert.RefMixOutIdeal.nD Cert.RefMixOutIdeal.τ).loc Cert.RefMixOutIdeal.main_arg1) = m ((c.tc : Thread Cert.RefMixOutIdeal.nD Cert.RefMixOutIdeal.τ).loc Cert.RefMixOutIdeal.main_arg1)
      ∧ r.2.mem ((c.tc : Thread Cert.RefMixOutIdeal.nD Cert.RefMixOutIdeal.τ).loc Cert.RefMixOutIdeal.main_arg2) = m ((c.tc : Thread Cert.RefMixOutIdeal.nD Cert.RefMixOutIdeal.τ).loc Cert.RefMixOutIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3)
      ∧ r.2.mem ((c.tc : Thread Cert.RefDownIdeal.nD Cert.RefDownIdeal.τ).loc Cert.RefDownIdeal.main_arg4) = m ((c.tc : Thread Cert.RefDownIdeal.nD Cert.RefDownIdeal.τ).loc Cert.RefDownIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_RefGateUpIdeal [hRefGateUpIdeal : Cert.RefGateUpIdeal.Facts] : Prop :=
  ∀ (m : (ℓ : Loc Cert.RefGateUpIdeal.nD Cert.RefGateUpIdeal.τ Cert.RefGateUpIdeal.sig) → Buf (Elt Ideal) ℓ) (g : Dev Cert.RefGateUpIdeal.nD → PrngReg), Pre_RefGateUpIdeal m →
    θ_run (Cert.RefGateUpIdeal.defs (F := Ideal)) (onTc (τ := Cert.RefGateUpIdeal.τ) (Cert.RefGateUpIdeal.main (F := Ideal))) ⟨m, fun _ => 0, g⟩ (fun r => (∀ c : Dev Cert.RefGateUpIdeal.nD,
      r.2.mem ((c.tc : Thread Cert.RefGateUpIdeal.nD Cert.RefGateUpIdeal.τ).loc Cert.RefGateUpIdeal.main_arg0) = m ((c.tc : Thread Cert.RefGateUpIdeal.nD Cert.RefGateUpIdeal.τ).loc Cert.RefGateUpIdeal.main_arg0)
      ∧ r.2.mem ((c.tc : Thread Cert.RefGateUpIdeal.nD Cert.RefGateUpIdeal.τ).loc Cert.RefGateUpIdeal.main_arg1) = m ((c.tc : Thread Cert.RefGateUpIdeal.nD Cert.RefGateUpIdeal.τ).loc Cert.RefGateUpIdeal.main_arg1)
      ∧ r.2.mem ((c.tc : Thread Cert.RefGateUpIdeal.nD Cert.RefGateUpIdeal.τ).loc Cert.RefGateUpIdeal.main_arg2) = m ((c.tc : Thread Cert.RefGateUpIdeal.nD Cert.RefGateUpIdeal.τ).loc Cert.RefGateUpIdeal.main_arg2))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ r.2.sem = fun _ => 0)

def quiescent_RefGradXIdeal [hRefGradXIdeal : Cert.RefGradXIdeal.Facts] : Prop :=
  ∀ (m : (ℓ : Loc Cert.RefGradXIdeal.nD Cert.RefGradXIdeal.τ Cert.RefGradXIdeal.sig) → Buf (Elt Ideal) ℓ) (g : Dev Cert.RefGradXIdeal.nD → PrngReg), Pre_RefGradXIdeal m →
    θ_run (Cert.RefGradXIdeal.defs (F := Ideal)) (onTc (τ := Cert.RefGradXIdeal.τ) (Cert.RefGradXIdeal.main (F := Ideal))) ⟨m, fun _ => 0, g⟩ (fun r => (∀ c : Dev Cert.RefGradXIdeal.nD,
      r.2.mem ((c.tc : Thread Cert.RefGradXIdeal.nD Cert.RefGradXIdeal.τ).loc Cert.RefGradXIdeal.main_arg0) = m ((c.tc : Thread Cert.RefGradXIdeal.nD Cert.RefGradXIdeal.τ).loc Cert.RefGradXIdeal.main_arg0)
      ∧ r.2.mem ((c.tc : Thread Cert.RefGradXIdeal.nD Cert.RefGradXIdeal.τ).loc Cert.RefGradXIdeal.main_arg1) = m ((c.tc : Thread Cert.RefGradXIdeal.nD Cert.RefGradXIdeal.τ).loc Cert.RefGradXIdeal.main_arg1)
      ∧ r.2.mem ((c.tc : Thread Cert.RefGradXIdeal.nD Cert.RefGradXIdeal.τ).loc Cert.RefGradXIdeal.main_arg2) = m ((c.tc : Thread Cert.RefGradXIdeal.nD Cert.RefGradXIdeal.τ).loc Cert.RefGradXIdeal.main_arg2)
      ∧ r.2.mem ((c.tc : Thread Cert.RefGradXIdeal.nD Cert.RefGradXIdeal.τ).loc Cert.RefGradXIdeal.main_arg3) = m ((c.tc : Thread Cert.RefGradXIdeal.nD Cert.RefGradXIdeal.τ).loc Cert.RefGradXIdeal.main_arg3)
      ∧ r.2.mem ((c.tc : Thread Cert.RefGradXIdeal.nD Cert.RefGradXIdeal.τ).loc Cert.RefGradXIdeal.main_arg4) = m ((c.tc : Thread Cert.RefGradXIdeal.nD Cert.RefGradXIdeal.τ).loc Cert.RefGradXIdeal.main_arg4))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RefRmsBwdIdeal [hRefRmsBwdIdeal : Cert.RefRmsBwdIdeal.Facts] : Prop :=
  ∀ (m : (ℓ : Loc Cert.RefRmsBwdIdeal.nD Cert.RefRmsBwdIdeal.τ Cert.RefRmsBwdIdeal.sig) → Buf (Elt Ideal) ℓ) (g : Dev Cert.RefRmsBwdIdeal.nD → PrngReg), Pre_RefRmsBwdIdeal m →
    θ_run (Cert.RefRmsBwdIdeal.defs (F := Ideal)) (onTc (τ := Cert.RefRmsBwdIdeal.τ) (Cert.RefRmsBwdIdeal.main (F := Ideal))) ⟨m, fun _ => 0, g⟩ (fun r => (∀ c : Dev Cert.RefRmsBwdIdeal.nD,
      r.2.mem ((c.tc : Thread Cert.RefRmsBwdIdeal.nD Cert.RefRmsBwdIdeal.τ).loc Cert.RefRmsBwdIdeal.main_arg0) = m ((c.tc : Thread Cert.RefRmsBwdIdeal.nD Cert.RefRmsBwdIdeal.τ).loc Cert.RefRmsBwdIdeal.main_arg0)
      ∧ r.2.mem ((c.tc : Thread Cert.RefRmsBwdIdeal.nD Cert.RefRmsBwdIdeal.τ).loc Cert.RefRmsBwdIdeal.main_arg1) = m ((c.tc : Thread Cert.RefRmsBwdIdeal.nD Cert.RefRmsBwdIdeal.τ).loc Cert.RefRmsBwdIdeal.main_arg1)
      ∧ r.2.mem ((c.tc : Thread Cert.RefRmsBwdIdeal.nD Cert.RefRmsBwdIdeal.τ).loc Cert.RefRmsBwdIdeal.main_arg2) = m ((c.tc : Thread Cert.RefRmsBwdIdeal.nD Cert.RefRmsBwdIdeal.τ).loc Cert.RefRmsBwdIdeal.main_arg2)
      ∧ r.2.mem ((c.tc : Thread Cert.RefRmsBwdIdeal.nD Cert.RefRmsBwdIdeal.τ).loc Cert.RefRmsBwdIdeal.main_arg3) = m ((c.tc : Thread Cert.RefRmsBwdIdeal.nD Cert.RefRmsBwdIdeal.τ).loc Cert.RefRmsBwdIdeal.main_arg3))
      ∧ r.2.sem = fun _ => 0)

def quiescent_RmsMixBwd [hRmsMixBwd : Cert.RmsMixBwd.Facts] : Prop :=
  ∀ (m : (ℓ : Loc Cert.RmsMixBwd.nD Cert.RmsMixBwd.τ Cert.RmsMixBwd.sig) → Buf (Elt Bits) ℓ) (g : Dev Cert.RmsMixBwd.nD → PrngReg), Pre_RmsMixBwd m →
    θ_run (Cert.RmsMixBwd.defs (F := Bits)) (onTc (τ := Cert.RmsMixBwd.τ) (Cert.RmsMixBwd.main (F := Bits))) ⟨m, fun _ => 0, g⟩ (fun r => (∀ c : Dev Cert.RmsMixBwd.nD,
      r.2.mem ((c.tc : Thread Cert.RmsMixBwd.nD Cert.RmsMixBwd.τ).loc Cert.RmsMixBwd.main_arg0) = m ((c.tc : Thread Cert.RmsMixBwd.nD Cert.RmsMixBwd.τ).loc Cert.RmsMixBwd.main_arg0)
      ∧ r.2.mem ((c.tc : Thread Cert.RmsMixBwd.nD Cert.RmsMixBwd.τ).loc Cert.RmsMixBwd.main_arg1) = m ((c.tc : Thread Cert.RmsMixBwd.nD Cert.RmsMixBwd.τ).loc Cert.RmsMixBwd.main_arg1)
      ∧ r.2.mem ((c.tc : Thread Cert.RmsMixBwd.nD Cert.RmsMixBwd.τ).loc Cert.RmsMixBwd.main_arg2) = m ((c.tc : Thread Cert.RmsMixBwd.nD Cert.RmsMixBwd.τ).loc Cert.RmsMixBwd.main_arg2)
      ∧ r.2.mem ((c.tc : Thread Cert.RmsMixBwd.nD Cert.RmsMixBwd.τ).loc Cert.RmsMixBwd.main_arg3) = m ((c.tc : Thread Cert.RmsMixBwd.nD Cert.RmsMixBwd.τ).loc Cert.RmsMixBwd.main_arg3))
      ∧ r.2.sem = fun _ => 0)

def quiescent_RmsMixBwdIdeal [hRmsMixBwdIdeal : Cert.RmsMixBwdIdeal.Facts] : Prop :=
  ∀ (m : (ℓ : Loc Cert.RmsMixBwdIdeal.nD Cert.RmsMixBwdIdeal.τ Cert.RmsMixBwdIdeal.sig) → Buf (Elt Ideal) ℓ) (g : Dev Cert.RmsMixBwdIdeal.nD → PrngReg), Pre_RmsMixBwdIdeal m →
    θ_run (Cert.RmsMixBwdIdeal.defs (F := Ideal)) (onTc (τ := Cert.RmsMixBwdIdeal.τ) (Cert.RmsMixBwdIdeal.main (F := Ideal))) ⟨m, fun _ => 0, g⟩ (fun r => (∀ c : Dev Cert.RmsMixBwdIdeal.nD,
      r.2.mem ((c.tc : Thread Cert.RmsMixBwdIdeal.nD Cert.RmsMixBwdIdeal.τ).loc Cert.RmsMixBwdIdeal.main_arg0) = m ((c.tc : Thread Cert.RmsMixBwdIdeal.nD Cert.RmsMixBwdIdeal.τ).loc Cert.RmsMixBwdIdeal.main_arg0)
      ∧ r.2.mem ((c.tc : Thread Cert.RmsMixBwdIdeal.nD Cert.RmsMixBwdIdeal.τ).loc Cert.RmsMixBwdIdeal.main_arg1) = m ((c.tc : Thread Cert.RmsMixBwdIdeal.nD Cert.RmsMixBwdIdeal.τ).loc Cert.RmsMixBwdIdeal.main_arg1)
      ∧ r.2.mem ((c.tc : Thread Cert.RmsMixBwdIdeal.nD Cert.RmsMixBwdIdeal.τ).loc Cert.RmsMixBwdIdeal.main_arg2) = m ((c.tc : Thread Cert.RmsMixBwdIdeal.nD Cert.RmsMixBwdIdeal.τ).loc Cert.RmsMixBwdIdeal.main_arg2)
      ∧ r.2.mem ((c.tc : Thread Cert.RmsMixBwdIdeal.nD Cert.RmsMixBwdIdeal.τ).loc Cert.RmsMixBwdIdeal.main_arg3) = m ((c.tc : Thread Cert.RmsMixBwdIdeal.nD Cert.RmsMixBwdIdeal.τ).loc Cert.RmsMixBwdIdeal.main_arg3))
      ∧ r.2.sem = fun _ => 0)

def quiescent_RefRmsMixBwdIdeal [hRefRmsMixBwdIdeal : Cert.RefRmsMixBwdIdeal.Facts] : Prop :=
  ∀ (m : (ℓ : Loc Cert.RefRmsMixBwdIdeal.nD Cert.RefRmsMixBwdIdeal.τ Cert.RefRmsMixBwdIdeal.sig) → Buf (Elt Ideal) ℓ) (g : Dev Cert.RefRmsMixBwdIdeal.nD → PrngReg), Pre_RefRmsMixBwdIdeal m →
    θ_run (Cert.RefRmsMixBwdIdeal.defs (F := Ideal)) (onTc (τ := Cert.RefRmsMixBwdIdeal.τ) (Cert.RefRmsMixBwdIdeal.main (F := Ideal))) ⟨m, fun _ => 0, g⟩ (fun r => (∀ c : Dev Cert.RefRmsMixBwdIdeal.nD,
      r.2.mem ((c.tc : Thread Cert.RefRmsMixBwdIdeal.nD Cert.RefRmsMixBwdIdeal.τ).loc Cert.RefRmsMixBwdIdeal.main_arg0) = m ((c.tc : Thread Cert.RefRmsMixBwdIdeal.nD Cert.RefRmsMixBwdIdeal.τ).loc Cert.RefRmsMixBwdIdeal.main_arg0)
      ∧ r.2.mem ((c.tc : Thread Cert.RefRmsMixBwdIdeal.nD Cert.RefRmsMixBwdIdeal.τ).loc Cert.RefRmsMixBwdIdeal.main_arg1) = m ((c.tc : Thread Cert.RefRmsMixBwdIdeal.nD Cert.RefRmsMixBwdIdeal.τ).loc Cert.RefRmsMixBwdIdeal.main_arg1)
      ∧ r.2.mem ((c.tc : Thread Cert.RefRmsMixBwdIdeal.nD Cert.RefRmsMixBwdIdeal.τ).loc Cert.RefRmsMixBwdIdeal.main_arg2) = m ((c.tc : Thread Cert.RefRmsMixBwdIdeal.nD Cert.RefRmsMixBwdIdeal.τ).loc Cert.RefRmsMixBwdIdeal.main_arg2)
      ∧ r.2.mem ((c.tc : Thread Cert.RefRmsMixBwdIdeal.nD Cert.RefRmsMixBwdIdeal.τ).loc Cert.RefRmsMixBwdIdeal.main_arg3) = m ((c.tc : Thread Cert.RefRmsMixBwdIdeal.nD Cert.RefRmsMixBwdIdeal.τ).loc Cert.RefRmsMixBwdIdeal.main_arg3))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2)
      ∧ r.2.mem ((c.tc : Thread Cert.PleBwd.nD Cert.PleBwd.τ).loc Cert.PleBwd.main_arg3) = m ((c.tc : Thread Cert.PleBwd.nD Cert.PleBwd.τ).loc Cert.PleBwd.main_arg3))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3))
      ∧ r.2.sem = fun _ => 0)

def quiescent_RefPleBwdIdeal [hRefPleBwdIdeal : Cert.RefPleBwdIdeal.Facts] : Prop :=
  ∀ (m : (ℓ : Loc Cert.RefPleBwdIdeal.nD Cert.RefPleBwdIdeal.τ Cert.RefPleBwdIdeal.sig) → Buf (Elt Ideal) ℓ) (g : Dev Cert.RefPleBwdIdeal.nD → PrngReg), Pre_RefPleBwdIdeal m →
    θ_run (Cert.RefPleBwdIdeal.defs (F := Ideal)) (onTc (τ := Cert.RefPleBwdIdeal.τ) (Cert.RefPleBwdIdeal.main (F := Ideal))) ⟨m, fun _ => 0, g⟩ (fun r => (∀ c : Dev Cert.RefPleBwdIdeal.nD,
      r.2.mem ((c.tc : Thread Cert.RefPleBwdIdeal.nD Cert.RefPleBwdIdeal.τ).loc Cert.RefPleBwdIdeal.main_arg0) = m ((c.tc : Thread Cert.RefPleBwdIdeal.nD Cert.RefPleBwdIdeal.τ).loc Cert.RefPleBwdIdeal.main_arg0)
      ∧ r.2.mem ((c.tc : Thread Cert.RefPleBwdIdeal.nD Cert.RefPleBwdIdeal.τ).loc Cert.RefPleBwdIdeal.main_arg1) = m ((c.tc : Thread Cert.RefPleBwdIdeal.nD Cert.RefPleBwdIdeal.τ).loc Cert.RefPleBwdIdeal.main_arg1)
      ∧ r.2.mem ((c.tc : Thread Cert.RefPleBwdIdeal.nD Cert.RefPleBwdIdeal.τ).loc Cert.RefPleBwdIdeal.main_arg2) = m ((c.tc : Thread Cert.RefPleBwdIdeal.nD Cert.RefPleBwdIdeal.τ).loc Cert.RefPleBwdIdeal.main_arg2)
      ∧ r.2.mem ((c.tc : Thread Cert.RefPleBwdIdeal.nD Cert.RefPleBwdIdeal.τ).loc Cert.RefPleBwdIdeal.main_arg3) = m ((c.tc : Thread Cert.RefPleBwdIdeal.nD Cert.RefPleBwdIdeal.τ).loc Cert.RefPleBwdIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_RefLossIdeal [hRefLossIdeal : Cert.RefLossIdeal.Facts] : Prop :=
  ∀ (m : (ℓ : Loc Cert.RefLossIdeal.nD Cert.RefLossIdeal.τ Cert.RefLossIdeal.sig) → Buf (Elt Ideal) ℓ) (g : Dev Cert.RefLossIdeal.nD → PrngReg), Pre_RefLossIdeal m →
    θ_run (Cert.RefLossIdeal.defs (F := Ideal)) (onTc (τ := Cert.RefLossIdeal.τ) (Cert.RefLossIdeal.main (F := Ideal))) ⟨m, fun _ => 0, g⟩ (fun r => (∀ c : Dev Cert.RefLossIdeal.nD,
      r.2.mem ((c.tc : Thread Cert.RefLossIdeal.nD Cert.RefLossIdeal.τ).loc Cert.RefLossIdeal.main_arg0) = m ((c.tc : Thread Cert.RefLossIdeal.nD Cert.RefLossIdeal.τ).loc Cert.RefLossIdeal.main_arg0)
      ∧ r.2.mem ((c.tc : Thread Cert.RefLossIdeal.nD Cert.RefLossIdeal.τ).loc Cert.RefLossIdeal.main_arg1) = m ((c.tc : Thread Cert.RefLossIdeal.nD Cert.RefLossIdeal.τ).loc Cert.RefLossIdeal.main_arg1)
      ∧ r.2.mem ((c.tc : Thread Cert.RefLossIdeal.nD Cert.RefLossIdeal.τ).loc Cert.RefLossIdeal.main_arg2) = m ((c.tc : Thread Cert.RefLossIdeal.nD Cert.RefLossIdeal.τ).loc Cert.RefLossIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RefRmsFwdIdeal [hRefRmsFwdIdeal : Cert.RefRmsFwdIdeal.Facts] : Prop :=
  ∀ (m : (ℓ : Loc Cert.RefRmsFwdIdeal.nD Cert.RefRmsFwdIdeal.τ Cert.RefRmsFwdIdeal.sig) → Buf (Elt Ideal) ℓ) (g : Dev Cert.RefRmsFwdIdeal.nD → PrngReg), Pre_RefRmsFwdIdeal m →
    θ_run (Cert.RefRmsFwdIdeal.defs (F := Ideal)) (onTc (τ := Cert.RefRmsFwdIdeal.τ) (Cert.RefRmsFwdIdeal.main (F := Ideal))) ⟨m, fun _ => 0, g⟩ (fun r => (∀ c : Dev Cert.RefRmsFwdIdeal.nD,
      r.2.mem ((c.tc : Thread Cert.RefRmsFwdIdeal.nD Cert.RefRmsFwdIdeal.τ).loc Cert.RefRmsFwdIdeal.main_arg0) = m ((c.tc : Thread Cert.RefRmsFwdIdeal.nD Cert.RefRmsFwdIdeal.τ).loc Cert.RefRmsFwdIdeal.main_arg0)
      ∧ r.2.mem ((c.tc : Thread Cert.RefRmsFwdIdeal.nD Cert.RefRmsFwdIdeal.τ).loc Cert.RefRmsFwdIdeal.main_arg1) = m ((c.tc : Thread Cert.RefRmsFwdIdeal.nD Cert.RefRmsFwdIdeal.τ).loc Cert.RefRmsFwdIdeal.main_arg1))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2))
      ∧ r.2.sem = fun _ => 0)

def quiescent_RefPleFwdIdeal [hRefPleFwdIdeal : Cert.RefPleFwdIdeal.Facts] : Prop :=
  ∀ (m : (ℓ : Loc Cert.RefPleFwdIdeal.nD Cert.RefPleFwdIdeal.τ Cert.RefPleFwdIdeal.sig) → Buf (Elt Ideal) ℓ) (g : Dev Cert.RefPleFwdIdeal.nD → PrngReg), Pre_RefPleFwdIdeal m →
    θ_run (Cert.RefPleFwdIdeal.defs (F := Ideal)) (onTc (τ := Cert.RefPleFwdIdeal.τ) (Cert.RefPleFwdIdeal.main (F := Ideal))) ⟨m, fun _ => 0, g⟩ (fun r => (∀ c : Dev Cert.RefPleFwdIdeal.nD,
      r.2.mem ((c.tc : Thread Cert.RefPleFwdIdeal.nD Cert.RefPleFwdIdeal.τ).loc Cert.RefPleFwdIdeal.main_arg0) = m ((c.tc : Thread Cert.RefPleFwdIdeal.nD Cert.RefPleFwdIdeal.τ).loc Cert.RefPleFwdIdeal.main_arg0)
      ∧ r.2.mem ((c.tc : Thread Cert.RefPleFwdIdeal.nD Cert.RefPleFwdIdeal.τ).loc Cert.RefPleFwdIdeal.main_arg1) = m ((c.tc : Thread Cert.RefPleFwdIdeal.nD Cert.RefPleFwdIdeal.τ).loc Cert.RefPleFwdIdeal.main_arg1)
      ∧ r.2.mem ((c.tc : Thread Cert.RefPleFwdIdeal.nD Cert.RefPleFwdIdeal.τ).loc Cert.RefPleFwdIdeal.main_arg2) = m ((c.tc : Thread Cert.RefPleFwdIdeal.nD Cert.RefPleFwdIdeal.τ).loc Cert.RefPleFwdIdeal.main_arg2))
      ∧ r.2.sem = fun _ => 0)

def quiescent_PleNorm [hPleNorm : Cert.PleNorm.Facts] : Prop :=
  ∀ (m : (ℓ : Loc Cert.PleNorm.nD Cert.PleNorm.τ Cert.PleNorm.sig) → Buf (Elt Bits) ℓ) (g : Dev Cert.PleNorm.nD → PrngReg), Pre_PleNorm m →
    θ_run (Cert.PleNorm.defs (F := Bits)) (onTc (τ := Cert.PleNorm.τ) (Cert.PleNorm.main (F := Bits))) ⟨m, fun _ => 0, g⟩ (fun r => (∀ c : Dev Cert.PleNorm.nD,
      r.2.mem ((c.tc : Thread Cert.PleNorm.nD Cert.PleNorm.τ).loc Cert.PleNorm.main_arg0) = m ((c.tc : Thread Cert.PleNorm.nD Cert.PleNorm.τ).loc Cert.PleNorm.main_arg0)
      ∧ r.2.mem ((c.tc : Thread Cert.PleNorm.nD Cert.PleNorm.τ).loc Cert.PleNorm.main_arg1) = m ((c.tc : Thread Cert.PleNorm.nD Cert.PleNorm.τ).loc Cert.PleNorm.main_arg1)
      ∧ r.2.mem ((c.tc : Thread Cert.PleNorm.nD Cert.PleNorm.τ).loc Cert.PleNorm.main_arg2) = m ((c.tc : Thread Cert.PleNorm.nD Cert.PleNorm.τ).loc Cert.PleNorm.main_arg2)
      ∧ r.2.mem ((c.tc : Thread Cert.PleNorm.nD Cert.PleNorm.τ).loc Cert.PleNorm.main_arg3) = m ((c.tc : Thread Cert.PleNorm.nD Cert.PleNorm.τ).loc Cert.PleNorm.main_arg3))
      ∧ r.2.sem = fun _ => 0)

def quiescent_PleNormIdeal [hPleNormIdeal : Cert.PleNormIdeal.Facts] : Prop :=
  ∀ (m : (ℓ : Loc Cert.PleNormIdeal.nD Cert.PleNormIdeal.τ Cert.PleNormIdeal.sig) → Buf (Elt Ideal) ℓ) (g : Dev Cert.PleNormIdeal.nD → PrngReg), Pre_PleNormIdeal m →
    θ_run (Cert.PleNormIdeal.defs (F := Ideal)) (onTc (τ := Cert.PleNormIdeal.τ) (Cert.PleNormIdeal.main (F := Ideal))) ⟨m, fun _ => 0, g⟩ (fun r => (∀ c : Dev Cert.PleNormIdeal.nD,
      r.2.mem ((c.tc : Thread Cert.PleNormIdeal.nD Cert.PleNormIdeal.τ).loc Cert.PleNormIdeal.main_arg0) = m ((c.tc : Thread Cert.PleNormIdeal.nD Cert.PleNormIdeal.τ).loc Cert.PleNormIdeal.main_arg0)
      ∧ r.2.mem ((c.tc : Thread Cert.PleNormIdeal.nD Cert.PleNormIdeal.τ).loc Cert.PleNormIdeal.main_arg1) = m ((c.tc : Thread Cert.PleNormIdeal.nD Cert.PleNormIdeal.τ).loc Cert.PleNormIdeal.main_arg1)
      ∧ r.2.mem ((c.tc : Thread Cert.PleNormIdeal.nD Cert.PleNormIdeal.τ).loc Cert.PleNormIdeal.main_arg2) = m ((c.tc : Thread Cert.PleNormIdeal.nD Cert.PleNormIdeal.τ).loc Cert.PleNormIdeal.main_arg2)
      ∧ r.2.mem ((c.tc : Thread Cert.PleNormIdeal.nD Cert.PleNormIdeal.τ).loc Cert.PleNormIdeal.main_arg3) = m ((c.tc : Thread Cert.PleNormIdeal.nD Cert.PleNormIdeal.τ).loc Cert.PleNormIdeal.main_arg3))
      ∧ r.2.sem = fun _ => 0)

def quiescent_RefPleNormIdeal [hRefPleNormIdeal : Cert.RefPleNormIdeal.Facts] : Prop :=
  ∀ (m : (ℓ : Loc Cert.RefPleNormIdeal.nD Cert.RefPleNormIdeal.τ Cert.RefPleNormIdeal.sig) → Buf (Elt Ideal) ℓ) (g : Dev Cert.RefPleNormIdeal.nD → PrngReg), Pre_RefPleNormIdeal m →
    θ_run (Cert.RefPleNormIdeal.defs (F := Ideal)) (onTc (τ := Cert.RefPleNormIdeal.τ) (Cert.RefPleNormIdeal.main (F := Ideal))) ⟨m, fun _ => 0, g⟩ (fun r => (∀ c : Dev Cert.RefPleNormIdeal.nD,
      r.2.mem ((c.tc : Thread Cert.RefPleNormIdeal.nD Cert.RefPleNormIdeal.τ).loc Cert.RefPleNormIdeal.main_arg0) = m ((c.tc : Thread Cert.RefPleNormIdeal.nD Cert.RefPleNormIdeal.τ).loc Cert.RefPleNormIdeal.main_arg0)
      ∧ r.2.mem ((c.tc : Thread Cert.RefPleNormIdeal.nD Cert.RefPleNormIdeal.τ).loc Cert.RefPleNormIdeal.main_arg1) = m ((c.tc : Thread Cert.RefPleNormIdeal.nD Cert.RefPleNormIdeal.τ).loc Cert.RefPleNormIdeal.main_arg1)
      ∧ r.2.mem ((c.tc : Thread Cert.RefPleNormIdeal.nD Cert.RefPleNormIdeal.τ).loc Cert.RefPleNormIdeal.main_arg2) = m ((c.tc : Thread Cert.RefPleNormIdeal.nD Cert.RefPleNormIdeal.τ).loc Cert.RefPleNormIdeal.main_arg2)
      ∧ r.2.mem ((c.tc : Thread Cert.RefPleNormIdeal.nD Cert.RefPleNormIdeal.τ).loc Cert.RefPleNormIdeal.main_arg3) = m ((c.tc : Thread Cert.RefPleNormIdeal.nD Cert.RefPleNormIdeal.τ).loc Cert.RefPleNormIdeal.main_arg3))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1)
      ∧ r.2.mem ((c.tc : Thread Cert.SwaFwd.nD Cert.SwaFwd.τ).loc Cert.SwaFwd.main_arg2) = m ((c.tc : Thread Cert.SwaFwd.nD Cert.SwaFwd.τ).loc Cert.SwaFwd.main_arg2)
      ∧ r.2.mem ((c.tc : Thread Cert.SwaFwd.nD Cert.SwaFwd.τ).loc Cert.SwaFwd.main_arg3) = m ((c.tc : Thread Cert.SwaFwd.nD Cert.SwaFwd.τ).loc Cert.SwaFwd.main_arg3))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
      ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3))
      ∧ r.2.sem = fun _ => 0)

def quiescent_SwaFwdIdeal_pre_finite_swa [hSwaFwdIdeal : Cert.SwaFwdIdeal.Facts] [hPre_finite_swa : Cert.Pre_finite_swa.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal_finite_swa m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
      ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3))
      ∧ r.2.sem = fun _ => 0)

def quiescent_RefSwaFwdIdeal [hRefSwaFwdIdeal : Cert.RefSwaFwdIdeal.Facts] : Prop :=
  ∀ (m : (ℓ : Loc Cert.RefSwaFwdIdeal.nD Cert.RefSwaFwdIdeal.τ Cert.RefSwaFwdIdeal.sig) → Buf (Elt Ideal) ℓ) (g : Dev Cert.RefSwaFwdIdeal.nD → PrngReg), Pre_RefSwaFwdIdeal m →
    θ_run (Cert.RefSwaFwdIdeal.defs (F := Ideal)) (onTc (τ := Cert.RefSwaFwdIdeal.τ) (Cert.RefSwaFwdIdeal.main (F := Ideal))) ⟨m, fun _ => 0, g⟩ (fun r => (∀ c : Dev Cert.RefSwaFwdIdeal.nD,
      r.2.mem ((c.tc : Thread Cert.RefSwaFwdIdeal.nD Cert.RefSwaFwdIdeal.τ).loc Cert.RefSwaFwdIdeal.main_arg0) = m ((c.tc : Thread Cert.RefSwaFwdIdeal.nD Cert.RefSwaFwdIdeal.τ).loc Cert.RefSwaFwdIdeal.main_arg0)
      ∧ r.2.mem ((c.tc : Thread Cert.RefSwaFwdIdeal.nD Cert.RefSwaFwdIdeal.τ).loc Cert.RefSwaFwdIdeal.main_arg1) = m ((c.tc : Thread Cert.RefSwaFwdIdeal.nD Cert.RefSwaFwdIdeal.τ).loc Cert.RefSwaFwdIdeal.main_arg1)
      ∧ r.2.mem ((c.tc : Thread Cert.RefSwaFwdIdeal.nD Cert.RefSwaFwdIdeal.τ).loc Cert.RefSwaFwdIdeal.main_arg2) = m ((c.tc : Thread Cert.RefSwaFwdIdeal.nD Cert.RefSwaFwdIdeal.τ).loc Cert.RefSwaFwdIdeal.main_arg2)
      ∧ r.2.mem ((c.tc : Thread Cert.RefSwaFwdIdeal.nD Cert.RefSwaFwdIdeal.τ).loc Cert.RefSwaFwdIdeal.main_arg3) = m ((c.tc : Thread Cert.RefSwaFwdIdeal.nD Cert.RefSwaFwdIdeal.τ).loc Cert.RefSwaFwdIdeal.main_arg3))
      ∧ r.2.sem = fun _ => 0)

def quiescent_RefSwaFwdIdeal_pre_finite_swa [hRefSwaFwdIdeal : Cert.RefSwaFwdIdeal.Facts] [hPre_finite_swa : Cert.Pre_finite_swa.Facts] : Prop :=
  ∀ (m : (ℓ : Loc Cert.RefSwaFwdIdeal.nD Cert.RefSwaFwdIdeal.τ Cert.RefSwaFwdIdeal.sig) → Buf (Elt Ideal) ℓ) (g : Dev Cert.RefSwaFwdIdeal.nD → PrngReg), Pre_RefSwaFwdIdeal_finite_swa m →
    θ_run (Cert.RefSwaFwdIdeal.defs (F := Ideal)) (onTc (τ := Cert.RefSwaFwdIdeal.τ) (Cert.RefSwaFwdIdeal.main (F := Ideal))) ⟨m, fun _ => 0, g⟩ (fun r => (∀ c : Dev Cert.RefSwaFwdIdeal.nD,
      r.2.mem ((c.tc : Thread Cert.RefSwaFwdIdeal.nD Cert.RefSwaFwdIdeal.τ).loc Cert.RefSwaFwdIdeal.main_arg0) = m ((c.tc : Thread Cert.RefSwaFwdIdeal.nD Cert.RefSwaFwdIdeal.τ).loc Cert.RefSwaFwdIdeal.main_arg0)
      ∧ r.2.mem ((c.tc : Thread Cert.RefSwaFwdIdeal.nD Cert.RefSwaFwdIdeal.τ).loc Cert.RefSwaFwdIdeal.main_arg1) = m ((c.tc : Thread Cert.RefSwaFwdIdeal.nD Cert.RefSwaFwdIdeal.τ).loc Cert.RefSwaFwdIdeal.main_arg1)
      ∧ r.2.mem ((c.tc : Thread Cert.RefSwaFwdIdeal.nD Cert.RefSwaFwdIdeal.τ).loc Cert.RefSwaFwdIdeal.main_arg2) = m ((c.tc : Thread Cert.RefSwaFwdIdeal.nD Cert.RefSwaFwdIdeal.τ).loc Cert.RefSwaFwdIdeal.main_arg2)
      ∧ r.2.mem ((c.tc : Thread Cert.RefSwaFwdIdeal.nD Cert.RefSwaFwdIdeal.τ).loc Cert.RefSwaFwdIdeal.main_arg3) = m ((c.tc : Thread Cert.RefSwaFwdIdeal.nD Cert.RefSwaFwdIdeal.τ).loc Cert.RefSwaFwdIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v90_0)) (v1 : (c : Dev Cert.KernelIdeal.nD) → Buf (Elt Ideal) ((c.tc : Thread Cert.KernelIdeal.nD Cert.KernelIdeal.τ).loc Cert.KernelIdeal.main_v90_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90_0) = v0 c
          ∧ r.2.mem ((c.tc : Thread Cert.KernelIdeal.nD Cert.KernelIdeal.τ).loc Cert.KernelIdeal.main_v90_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DwDown_DwDownIdeal : Prop :=
  True

def algebraic_DwDownIdeal_RefDwDownIdeal [hDwDownIdeal : Cert.DwDownIdeal.Facts] [hRefDwDownIdeal : Cert.RefDwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.RefDwDownIdeal.nD Cert.RefDwDownIdeal.τ Cert.RefDwDownIdeal.sig) → Buf (Elt Ideal) ℓ) (g' : Dev Cert.RefDwDownIdeal.nD → PrngReg), Pre_DwDownIdeal m →
    (∀ c : Dev Cert.DwDownIdeal.nD,
      m' ((c.tc : Thread Cert.RefDwDownIdeal.nD Cert.RefDwDownIdeal.τ).loc Cert.RefDwDownIdeal.main_arg0) = m ((c.tc : Thread Cert.DwDownIdeal.nD Cert.DwDownIdeal.τ).loc Cert.DwDownIdeal.main_arg0)
      ∧ m' ((c.tc : Thread Cert.RefDwDownIdeal.nD Cert.RefDwDownIdeal.τ).loc Cert.RefDwDownIdeal.main_arg1) = m ((c.tc : Thread Cert.DwDownIdeal.nD Cert.DwDownIdeal.τ).loc Cert.DwDownIdeal.main_arg1)
      ∧ m' ((c.tc : Thread Cert.RefDwDownIdeal.nD Cert.RefDwDownIdeal.τ).loc Cert.RefDwDownIdeal.main_arg2) = m ((c.tc : Thread Cert.DwDownIdeal.nD Cert.DwDownIdeal.τ).loc Cert.DwDownIdeal.main_arg2)
      ∧ m' ((c.tc : Thread Cert.RefDwDownIdeal.nD Cert.RefDwDownIdeal.τ).loc Cert.RefDwDownIdeal.main_arg3) = m ((c.tc : Thread Cert.DwDownIdeal.nD Cert.DwDownIdeal.τ).loc Cert.DwDownIdeal.main_arg3)
      ∧ m' ((c.tc : Thread Cert.RefDwDownIdeal.nD Cert.RefDwDownIdeal.τ).loc Cert.RefDwDownIdeal.main_arg4) = m ((c.tc : Thread Cert.DwDownIdeal.nD Cert.DwDownIdeal.τ).loc Cert.DwDownIdeal.main_arg4)) →
    ∃ (v0 : (c : Dev Cert.DwDownIdeal.nD) → Buf (Elt Ideal) ((c.tc : Thread Cert.DwDownIdeal.nD Cert.DwDownIdeal.τ).loc Cert.DwDownIdeal.main_v12)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v12) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
          ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3)
          ∧ r.2.mem ((c.tc : Thread Cert.DwDownIdeal.nD Cert.DwDownIdeal.τ).loc Cert.DwDownIdeal.main_arg4) = m ((c.tc : Thread Cert.DwDownIdeal.nD Cert.DwDownIdeal.τ).loc Cert.DwDownIdeal.main_arg4))
      ∧ θ_run (Cert.RefDwDownIdeal.defs (F := Ideal)) (onTc (τ := Cert.RefDwDownIdeal.τ) (Cert.RefDwDownIdeal.main (F := Ideal))) ⟨m', fun _ => 0, g'⟩ (fun r => ∀ c : Dev Cert.RefDwDownIdeal.nD,
          r.2.mem ((c.tc : Thread Cert.RefDwDownIdeal.nD Cert.RefDwDownIdeal.τ).loc Cert.RefDwDownIdeal.main_v21) = v0 c
          ∧ r.2.mem ((c.tc : Thread Cert.RefDwDownIdeal.nD Cert.RefDwDownIdeal.τ).loc Cert.RefDwDownIdeal.main_arg0) = m' ((c.tc : Thread Cert.RefDwDownIdeal.nD Cert.RefDwDownIdeal.τ).loc Cert.RefDwDownIdeal.main_arg0)
          ∧ r.2.mem ((c.tc : Thread Cert.RefDwDownIdeal.nD Cert.RefDwDownIdeal.τ).loc Cert.RefDwDownIdeal.main_arg1) = m' ((c.tc : Thread Cert.RefDwDownIdeal.nD Cert.RefDwDownIdeal.τ).loc Cert.RefDwDownIdeal.main_arg1)
          ∧ r.2.mem ((c.tc : Thread Cert.RefDwDownIdeal.nD Cert.RefDwDownIdeal.τ).loc Cert.RefDwDownIdeal.main_arg2) = m' ((c.tc : Thread Cert.RefDwDownIdeal.nD Cert.RefDwDownIdeal.τ).loc Cert.RefDwDownIdeal.main_arg2)
          ∧ r.2.mem ((c.tc : Thread Cert.RefDwDownIdeal.nD Cert.RefDwDownIdeal.τ).loc Cert.RefDwDownIdeal.main_arg3) = m' ((c.tc : Thread Cert.RefDwDownIdeal.nD Cert.RefDwDownIdeal.τ).loc Cert.RefDwDownIdeal.main_arg3)
          ∧ r.2.mem ((c.tc : Thread Cert.RefDwDownIdeal.nD Cert.RefDwDownIdeal.τ).loc Cert.RefDwDownIdeal.main_arg4) = m' ((c.tc : Thread Cert.RefDwDownIdeal.nD Cert.RefDwDownIdeal.τ).loc Cert.RefDwDownIdeal.main_arg4))

def preserves_Hidden_HiddenIdeal : Prop :=
  True

def algebraic_HiddenIdeal_RefHiddenIdeal_pre_finite_ffn [hHiddenIdeal : Cert.HiddenIdeal.Facts] [hRefHiddenIdeal : Cert.RefHiddenIdeal.Facts] [hPre_finite_ffn : Cert.Pre_finite_ffn.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.RefHiddenIdeal.nD Cert.RefHiddenIdeal.τ Cert.RefHiddenIdeal.sig) → Buf (Elt Ideal) ℓ) (g' : Dev Cert.RefHiddenIdeal.nD → PrngReg), Pre_HiddenIdeal_finite_ffn m →
    (∀ c : Dev Cert.HiddenIdeal.nD,
      m' ((c.tc : Thread Cert.RefHiddenIdeal.nD Cert.RefHiddenIdeal.τ).loc Cert.RefHiddenIdeal.main_arg0) = m ((c.tc : Thread Cert.HiddenIdeal.nD Cert.HiddenIdeal.τ).loc Cert.HiddenIdeal.main_arg0)
      ∧ m' ((c.tc : Thread Cert.RefHiddenIdeal.nD Cert.RefHiddenIdeal.τ).loc Cert.RefHiddenIdeal.main_arg1) = m ((c.tc : Thread Cert.HiddenIdeal.nD Cert.HiddenIdeal.τ).loc Cert.HiddenIdeal.main_arg1)
      ∧ m' ((c.tc : Thread Cert.RefHiddenIdeal.nD Cert.RefHiddenIdeal.τ).loc Cert.RefHiddenIdeal.main_arg2) = m ((c.tc : Thread Cert.HiddenIdeal.nD Cert.HiddenIdeal.τ).loc Cert.HiddenIdeal.main_arg2)
      ∧ m' ((c.tc : Thread Cert.RefHiddenIdeal.nD Cert.RefHiddenIdeal.τ).loc Cert.RefHiddenIdeal.main_arg3) = m ((c.tc : Thread Cert.HiddenIdeal.nD Cert.HiddenIdeal.τ).loc Cert.HiddenIdeal.main_arg3)
      ∧ m' ((c.tc : Thread Cert.RefHiddenIdeal.nD Cert.RefHiddenIdeal.τ).loc Cert.RefHiddenIdeal.main_arg4) = m ((c.tc : Thread Cert.HiddenIdeal.nD Cert.HiddenIdeal.τ).loc Cert.HiddenIdeal.main_arg4)) →
    ∃ (v0 : (c : Dev Cert.HiddenIdeal.nD) → Buf (Elt Ideal) ((c.tc : Thread Cert.HiddenIdeal.nD Cert.HiddenIdeal.τ).loc Cert.HiddenIdeal.main_v20)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v20) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
          ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4))
      ∧ θ_run (Cert.RefHiddenIdeal.defs (F := Ideal)) (onTc (τ := Cert.RefHiddenIdeal.τ) (Cert.RefHiddenIdeal.main (F := Ideal))) ⟨m', fun _ => 0, g'⟩ (fun r => ∀ c : Dev Cert.RefHiddenIdeal.nD,
          r.2.mem ((c.tc : Thread Cert.RefHiddenIdeal.nD Cert.RefHiddenIdeal.τ).loc Cert.RefHiddenIdeal.main_v14) = v0 c
          ∧ r.2.mem ((c.tc : Thread Cert.RefHiddenIdeal.nD Cert.RefHiddenIdeal.τ).loc Cert.RefHiddenIdeal.main_arg0) = m' ((c.tc : Thread Cert.RefHiddenIdeal.nD Cert.RefHiddenIdeal.τ).loc Cert.RefHiddenIdeal.main_arg0)
          ∧ r.2.mem ((c.tc : Thread Cert.RefHiddenIdeal.nD Cert.RefHiddenIdeal.τ).loc Cert.RefHiddenIdeal.main_arg1) = m' ((c.tc : Thread Cert.RefHiddenIdeal.nD Cert.RefHiddenIdeal.τ).loc Cert.RefHiddenIdeal.main_arg1)
          ∧ r.2.mem ((c.tc : Thread Cert.RefHiddenIdeal.nD Cert.RefHiddenIdeal.τ).loc Cert.RefHiddenIdeal.main_arg2) = m' ((c.tc : Thread Cert.RefHiddenIdeal.nD Cert.RefHiddenIdeal.τ).loc Cert.RefHiddenIdeal.main_arg2)
          ∧ r.2.mem ((c.tc : Thread Cert.RefHiddenIdeal.nD Cert.RefHiddenIdeal.τ).loc Cert.RefHiddenIdeal.main_arg3) = m' ((c.tc : Thread Cert.RefHiddenIdeal.nD Cert.RefHiddenIdeal.τ).loc Cert.RefHiddenIdeal.main_arg3)
          ∧ r.2.mem ((c.tc : Thread Cert.RefHiddenIdeal.nD Cert.RefHiddenIdeal.τ).loc Cert.RefHiddenIdeal.main_arg4) = m' ((c.tc : Thread Cert.RefHiddenIdeal.nD Cert.RefHiddenIdeal.τ).loc Cert.RefHiddenIdeal.main_arg4))

def preserves_DwGateUp_DwGateUpIdeal : Prop :=
  True

def algebraic_DwGateUpIdeal_RefDwGateUpIdeal [hDwGateUpIdeal : Cert.DwGateUpIdeal.Facts] [hRefDwGateUpIdeal : Cert.RefDwGateUpIdeal.Facts] : Prop :=
  ∀ (m : (ℓ : Loc Cert.DwGateUpIdeal.nD Cert.DwGateUpIdeal.τ Cert.DwGateUpIdeal.sig) → Buf (Elt Ideal) ℓ) (g : Dev Cert.DwGateUpIdeal.nD → PrngReg)
    (m' : (ℓ : Loc Cert.RefDwGateUpIdeal.nD Cert.RefDwGateUpIdeal.τ Cert.RefDwGateUpIdeal.sig) → Buf (Elt Ideal) ℓ) (g' : Dev Cert.RefDwGateUpIdeal.nD → PrngReg), Pre_DwGateUpIdeal m →
    (∀ c : Dev Cert.DwGateUpIdeal.nD,
      m' ((c.tc : Thread Cert.RefDwGateUpIdeal.nD Cert.RefDwGateUpIdeal.τ).loc Cert.RefDwGateUpIdeal.main_arg0) = m ((c.tc : Thread Cert.DwGateUpIdeal.nD Cert.DwGateUpIdeal.τ).loc Cert.DwGateUpIdeal.main_arg0)
      ∧ m' ((c.tc : Thread Cert.RefDwGateUpIdeal.nD Cert.RefDwGateUpIdeal.τ).loc Cert.RefDwGateUpIdeal.main_arg1) = m ((c.tc : Thread Cert.DwGateUpIdeal.nD Cert.DwGateUpIdeal.τ).loc Cert.DwGateUpIdeal.main_arg1)
      ∧ m' ((c.tc : Thread Cert.RefDwGateUpIdeal.nD Cert.RefDwGateUpIdeal.τ).loc Cert.RefDwGateUpIdeal.main_arg2) = m ((c.tc : Thread Cert.DwGateUpIdeal.nD Cert.DwGateUpIdeal.τ).loc Cert.DwGateUpIdeal.main_arg2)
      ∧ m' ((c.tc : Thread Cert.RefDwGateUpIdeal.nD Cert.RefDwGateUpIdeal.τ).loc Cert.RefDwGateUpIdeal.main_arg3) = m ((c.tc : Thread Cert.DwGateUpIdeal.nD Cert.DwGateUpIdeal.τ).loc Cert.DwGateUpIdeal.main_arg3)
      ∧ m' ((c.tc : Thread Cert.RefDwGateUpIdeal.nD Cert.RefDwGateUpIdeal.τ).loc Cert.RefDwGateUpIdeal.main_arg4) = m ((c.tc : Thread Cert.DwGateUpIdeal.nD Cert.DwGateUpIdeal.τ).loc Cert.DwGateUpIdeal.main_arg4)) →
    ∃ (v0 : (c : Dev Cert.DwGateUpIdeal.nD) → Buf (Elt Ideal) ((c.tc : Thread Cert.DwGateUpIdeal.nD Cert.DwGateUpIdeal.τ).loc Cert.DwGateUpIdeal.main_v22)),
      θ_run (Cert.DwGateUpIdeal.defs (F := Ideal)) (onTc (τ := Cert.DwGateUpIdeal.τ) (Cert.DwGateUpIdeal.main (F := Ideal))) ⟨m, fun _ => 0, g⟩ (fun r => ∀ c : Dev Cert.DwGateUpIdeal.nD,
          r.2.mem ((c.tc : Thread Cert.DwGateUpIdeal.nD Cert.DwGateUpIdeal.τ).loc Cert.DwGateUpIdeal.main_v22) = v0 c
          ∧ r.2.mem ((c.tc : Thread Cert.DwGateUpIdeal.nD Cert.DwGateUpIdeal.τ).loc Cert.DwGateUpIdeal.main_arg0) = m ((c.tc : Thread Cert.DwGateUpIdeal.nD Cert.DwGateUpIdeal.τ).loc Cert.DwGateUpIdeal.main_arg0)
          ∧ r.2.mem ((c.tc : Thread Cert.DwGateUpIdeal.nD Cert.DwGateUpIdeal.τ).loc Cert.DwGateUpIdeal.main_arg1) = m ((c.tc : Thread Cert.DwGateUpIdeal.nD Cert.DwGateUpIdeal.τ).loc Cert.DwGateUpIdeal.main_arg1)
          ∧ r.2.mem ((c.tc : Thread Cert.DwGateUpIdeal.nD Cert.DwGateUpIdeal.τ).loc Cert.DwGateUpIdeal.main_arg2) = m ((c.tc : Thread Cert.DwGateUpIdeal.nD Cert.DwGateUpIdeal.τ).loc Cert.DwGateUpIdeal.main_arg2)
          ∧ r.2.mem ((c.tc : Thread Cert.DwGateUpIdeal.nD Cert.DwGateUpIdeal.τ).loc Cert.DwGateUpIdeal.main_arg3) = m ((c.tc : Thread Cert.DwGateUpIdeal.nD Cert.DwGateUpIdeal.τ).loc Cert.DwGateUpIdeal.main_arg3)
          ∧ r.2.mem ((c.tc : Thread Cert.DwGateUpIdeal.nD Cert.DwGateUpIdeal.τ).loc Cert.DwGateUpIdeal.main_arg4) = m ((c.tc : Thread Cert.DwGateUpIdeal.nD Cert.DwGateUpIdeal.τ).loc Cert.DwGateUpIdeal.main_arg4))
      ∧ θ_run (Cert.RefDwGateUpIdeal.defs (F := Ideal)) (onTc (τ := Cert.RefDwGateUpIdeal.τ) (Cert.RefDwGateUpIdeal.main (F := Ideal))) ⟨m', fun _ => 0, g'⟩ (fun r => ∀ c : Dev Cert.RefDwGateUpIdeal.nD,
          r.2.mem ((c.tc : Thread Cert.RefDwGateUpIdeal.nD Cert.RefDwGateUpIdeal.τ).loc Cert.RefDwGateUpIdeal.main_v22) = v0 c
          ∧ r.2.mem ((c.tc : Thread Cert.RefDwGateUpIdeal.nD Cert.RefDwGateUpIdeal.τ).loc Cert.RefDwGateUpIdeal.main_arg0) = m' ((c.tc : Thread Cert.RefDwGateUpIdeal.nD Cert.RefDwGateUpIdeal.τ).loc Cert.RefDwGateUpIdeal.main_arg0)
          ∧ r.2.mem ((c.tc : Thread Cert.RefDwGateUpIdeal.nD Cert.RefDwGateUpIdeal.τ).loc Cert.RefDwGateUpIdeal.main_arg1) = m' ((c.tc : Thread Cert.RefDwGateUpIdeal.nD Cert.RefDwGateUpIdeal.τ).loc Cert.RefDwGateUpIdeal.main_arg1)
          ∧ r.2.mem ((c.tc : Thread Cert.RefDwGateUpIdeal.nD Cert.RefDwGateUpIdeal.τ).loc Cert.RefDwGateUpIdeal.main_arg2) = m' ((c.tc : Thread Cert.RefDwGateUpIdeal.nD Cert.RefDwGateUpIdeal.τ).loc Cert.RefDwGateUpIdeal.main_arg2)
          ∧ r.2.mem ((c.tc : Thread Cert.RefDwGateUpIdeal.nD Cert.RefDwGateUpIdeal.τ).loc Cert.RefDwGateUpIdeal.main_arg3) = m' ((c.tc : Thread Cert.RefDwGateUpIdeal.nD Cert.RefDwGateUpIdeal.τ).loc Cert.RefDwGateUpIdeal.main_arg3)
          ∧ r.2.mem ((c.tc : Thread Cert.RefDwGateUpIdeal.nD Cert.RefDwGateUpIdeal.τ).loc Cert.RefDwGateUpIdeal.main_arg4) = m' ((c.tc : Thread Cert.RefDwGateUpIdeal.nD Cert.RefDwGateUpIdeal.τ).loc Cert.RefDwGateUpIdeal.main_arg4))

def preserves_DxGateUp_DxGateUpIdeal : Prop :=
  True

def algebraic_DxGateUpIdeal_RefDxGateUpIdeal [hDxGateUpIdeal : Cert.DxGateUpIdeal.Facts] [hRefDxGateUpIdeal : Cert.RefDxGateUpIdeal.Facts] : Prop :=
  ∀ (m : (ℓ : Loc Cert.DxGateUpIdeal.nD Cert.DxGateUpIdeal.τ Cert.DxGateUpIdeal.sig) → Buf (Elt Ideal) ℓ) (g : Dev Cert.DxGateUpIdeal.nD → PrngReg)
    (m' : (ℓ : Loc Cert.RefDxGateUpIdeal.nD Cert.RefDxGateUpIdeal.τ Cert.RefDxGateUpIdeal.sig) → Buf (Elt Ideal) ℓ) (g' : Dev Cert.RefDxGateUpIdeal.nD → PrngReg), Pre_DxGateUpIdeal m →
    (∀ c : Dev Cert.DxGateUpIdeal.nD,
      m' ((c.tc : Thread Cert.RefDxGateUpIdeal.nD Cert.RefDxGateUpIdeal.τ).loc Cert.RefDxGateUpIdeal.main_arg0) = m ((c.tc : Thread Cert.DxGateUpIdeal.nD Cert.DxGateUpIdeal.τ).loc Cert.DxGateUpIdeal.main_arg0)
      ∧ m' ((c.tc : Thread Cert.RefDxGateUpIdeal.nD Cert.RefDxGateUpIdeal.τ).loc Cert.RefDxGateUpIdeal.main_arg1) = m ((c.tc : Thread Cert.DxGateUpIdeal.nD Cert.DxGateUpIdeal.τ).loc Cert.DxGateUpIdeal.main_arg1)
      ∧ m' ((c.tc : Thread Cert.RefDxGateUpIdeal.nD Cert.RefDxGateUpIdeal.τ).loc Cert.RefDxGateUpIdeal.main_arg2) = m ((c.tc : Thread Cert.DxGateUpIdeal.nD Cert.DxGateUpIdeal.τ).loc Cert.DxGateUpIdeal.main_arg2)
      ∧ m' ((c.tc : Thread Cert.RefDxGateUpIdeal.nD Cert.RefDxGateUpIdeal.τ).loc Cert.RefDxGateUpIdeal.main_arg3) = m ((c.tc : Thread Cert.DxGateUpIdeal.nD Cert.DxGateUpIdeal.τ).loc Cert.DxGateUpIdeal.main_arg3)
      ∧ m' ((c.tc : Thread Cert.RefDxGateUpIdeal.nD Cert.RefDxGateUpIdeal.τ).loc Cert.RefDxGateUpIdeal.main_arg4) = m ((c.tc : Thread Cert.DxGateUpIdeal.nD Cert.DxGateUpIdeal.τ).loc Cert.DxGateUpIdeal.main_arg4)) →
    ∃ (v0 : (c : Dev Cert.DxGateUpIdeal.nD) → Buf (Elt Ideal) ((c.tc : Thread Cert.DxGateUpIdeal.nD Cert.DxGateUpIdeal.τ).loc Cert.DxGateUpIdeal.main_v29)),
      θ_run (Cert.DxGateUpIdeal.defs (F := Ideal)) (onTc (τ := Cert.DxGateUpIdeal.τ) (Cert.DxGateUpIdeal.main (F := Ideal))) ⟨m, fun _ => 0, g⟩ (fun r => ∀ c : Dev Cert.DxGateUpIdeal.nD,
          r.2.mem ((c.tc : Thread Cert.DxGateUpIdeal.nD Cert.DxGateUpIdeal.τ).loc Cert.DxGateUpIdeal.main_v29) = v0 c
          ∧ r.2.mem ((c.tc : Thread Cert.DxGateUpIdeal.nD Cert.DxGateUpIdeal.τ).loc Cert.DxGateUpIdeal.main_arg0) = m ((c.tc : Thread Cert.DxGateUpIdeal.nD Cert.DxGateUpIdeal.τ).loc Cert.DxGateUpIdeal.main_arg0)
          ∧ r.2.mem ((c.tc : Thread Cert.DxGateUpIdeal.nD Cert.DxGateUpIdeal.τ).loc Cert.DxGateUpIdeal.main_arg1) = m ((c.tc : Thread Cert.DxGateUpIdeal.nD Cert.DxGateUpIdeal.τ).loc Cert.DxGateUpIdeal.main_arg1)
          ∧ r.2.mem ((c.tc : Thread Cert.DxGateUpIdeal.nD Cert.DxGateUpIdeal.τ).loc Cert.DxGateUpIdeal.main_arg2) = m ((c.tc : Thread Cert.DxGateUpIdeal.nD Cert.DxGateUpIdeal.τ).loc Cert.DxGateUpIdeal.main_arg2)
          ∧ r.2.mem ((c.tc : Thread Cert.DxGateUpIdeal.nD Cert.DxGateUpIdeal.τ).loc Cert.DxGateUpIdeal.main_arg3) = m ((c.tc : Thread Cert.DxGateUpIdeal.nD Cert.DxGateUpIdeal.τ).loc Cert.DxGateUpIdeal.main_arg3)
          ∧ r.2.mem ((c.tc : Thread Cert.DxGateUpIdeal.nD Cert.DxGateUpIdeal.τ).loc Cert.DxGateUpIdeal.main_arg4) = m ((c.tc : Thread Cert.DxGateUpIdeal.nD Cert.DxGateUpIdeal.τ).loc Cert.DxGateUpIdeal.main_arg4))
      ∧ θ_run (Cert.RefDxGateUpIdeal.defs (F := Ideal)) (onTc (τ := Cert.RefDxGateUpIdeal.τ) (Cert.RefDxGateUpIdeal.main (F := Ideal))) ⟨m', fun _ => 0, g'⟩ (fun r => ∀ c : Dev Cert.RefDxGateUpIdeal.nD,
          r.2.mem ((c.tc : Thread Cert.RefDxGateUpIdeal.nD Cert.RefDxGateUpIdeal.τ).loc Cert.RefDxGateUpIdeal.main_v18) = v0 c
          ∧ r.2.mem ((c.tc : Thread Cert.RefDxGateUpIdeal.nD Cert.RefDxGateUpIdeal.τ).loc Cert.RefDxGateUpIdeal.main_arg0) = m' ((c.tc : Thread Cert.RefDxGateUpIdeal.nD Cert.RefDxGateUpIdeal.τ).loc Cert.RefDxGateUpIdeal.main_arg0)
          ∧ r.2.mem ((c.tc : Thread Cert.RefDxGateUpIdeal.nD Cert.RefDxGateUpIdeal.τ).loc Cert.RefDxGateUpIdeal.main_arg1) = m' ((c.tc : Thread Cert.RefDxGateUpIdeal.nD Cert.RefDxGateUpIdeal.τ).loc Cert.RefDxGateUpIdeal.main_arg1)
          ∧ r.2.mem ((c.tc : Thread Cert.RefDxGateUpIdeal.nD Cert.RefDxGateUpIdeal.τ).loc Cert.RefDxGateUpIdeal.main_arg2) = m' ((c.tc : Thread Cert.RefDxGateUpIdeal.nD Cert.RefDxGateUpIdeal.τ).loc Cert.RefDxGateUpIdeal.main_arg2)
          ∧ r.2.mem ((c.tc : Thread Cert.RefDxGateUpIdeal.nD Cert.RefDxGateUpIdeal.τ).loc Cert.RefDxGateUpIdeal.main_arg3) = m' ((c.tc : Thread Cert.RefDxGateUpIdeal.nD Cert.RefDxGateUpIdeal.τ).loc Cert.RefDxGateUpIdeal.main_arg3)
          ∧ r.2.mem ((c.tc : Thread Cert.RefDxGateUpIdeal.nD Cert.RefDxGateUpIdeal.τ).loc Cert.RefDxGateUpIdeal.main_arg4) = m' ((c.tc : Thread Cert.RefDxGateUpIdeal.nD Cert.RefDxGateUpIdeal.τ).loc Cert.RefDxGateUpIdeal.main_arg4))

def preserves_DwSquare_DwSquareIdeal : Prop :=
  True

def algebraic_DwSquareIdeal_RefDwSquareIdeal [hDwSquareIdeal : Cert.DwSquareIdeal.Facts] [hRefDwSquareIdeal : Cert.RefDwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.RefDwSquareIdeal.nD Cert.RefDwSquareIdeal.τ Cert.RefDwSquareIdeal.sig) → Buf (Elt Ideal) ℓ) (g' : Dev Cert.RefDwSquareIdeal.nD → PrngReg), Pre_DwSquareIdeal m →
    (∀ c : Dev Cert.DwSquareIdeal.nD,
      m' ((c.tc : Thread Cert.RefDwSquareIdeal.nD Cert.RefDwSquareIdeal.τ).loc Cert.RefDwSquareIdeal.main_arg0) = m ((c.tc : Thread Cert.DwSquareIdeal.nD Cert.DwSquareIdeal.τ).loc Cert.DwSquareIdeal.main_arg0)
      ∧ m' ((c.tc : Thread Cert.RefDwSquareIdeal.nD Cert.RefDwSquareIdeal.τ).loc Cert.RefDwSquareIdeal.main_arg1) = m ((c.tc : Thread Cert.DwSquareIdeal.nD Cert.DwSquareIdeal.τ).loc Cert.DwSquareIdeal.main_arg1)
      ∧ m' ((c.tc : Thread Cert.RefDwSquareIdeal.nD Cert.RefDwSquareIdeal.τ).loc Cert.RefDwSquareIdeal.main_arg2) = m ((c.tc : Thread Cert.DwSquareIdeal.nD Cert.DwSquareIdeal.τ).loc Cert.DwSquareIdeal.main_arg2)) →
    ∃ (v0 : (c : Dev Cert.DwSquareIdeal.nD) → Buf (Elt Ideal) ((c.tc : Thread Cert.DwSquareIdeal.nD Cert.DwSquareIdeal.τ).loc Cert.DwSquareIdeal.main_v4)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v4) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1)
          ∧ r.2.mem ((c.tc : Thread Cert.DwSquareIdeal.nD Cert.DwSquareIdeal.τ).loc Cert.DwSquareIdeal.main_arg2) = m ((c.tc : Thread Cert.DwSquareIdeal.nD Cert.DwSquareIdeal.τ).loc Cert.DwSquareIdeal.main_arg2))
      ∧ θ_run (Cert.RefDwSquareIdeal.defs (F := Ideal)) (onTc (τ := Cert.RefDwSquareIdeal.τ) (Cert.RefDwSquareIdeal.main (F := Ideal))) ⟨m', fun _ => 0, g'⟩ (fun r => ∀ c : Dev Cert.RefDwSquareIdeal.nD,
          r.2.mem ((c.tc : Thread Cert.RefDwSquareIdeal.nD Cert.RefDwSquareIdeal.τ).loc Cert.RefDwSquareIdeal.main_v2) = v0 c
          ∧ r.2.mem ((c.tc : Thread Cert.RefDwSquareIdeal.nD Cert.RefDwSquareIdeal.τ).loc Cert.RefDwSquareIdeal.main_arg0) = m' ((c.tc : Thread Cert.RefDwSquareIdeal.nD Cert.RefDwSquareIdeal.τ).loc Cert.RefDwSquareIdeal.main_arg0)
          ∧ r.2.mem ((c.tc : Thread Cert.RefDwSquareIdeal.nD Cert.RefDwSquareIdeal.τ).loc Cert.RefDwSquareIdeal.main_arg1) = m' ((c.tc : Thread Cert.RefDwSquareIdeal.nD Cert.RefDwSquareIdeal.τ).loc Cert.RefDwSquareIdeal.main_arg1)
          ∧ r.2.mem ((c.tc : Thread Cert.RefDwSquareIdeal.nD Cert.RefDwSquareIdeal.τ).loc Cert.RefDwSquareIdeal.main_arg2) = m' ((c.tc : Thread Cert.RefDwSquareIdeal.nD Cert.RefDwSquareIdeal.τ).loc Cert.RefDwSquareIdeal.main_arg2))

def preserves_DwEvIn_DwEvInIdeal : Prop :=
  True

def algebraic_DwEvInIdeal_RefDwEvInIdeal [hDwEvInIdeal : Cert.DwEvInIdeal.Facts] [hRefDwEvInIdeal : Cert.RefDwEvInIdeal.Facts] : Prop :=
  ∀ (m : (ℓ : Loc Cert.DwEvInIdeal.nD Cert.DwEvInIdeal.τ Cert.DwEvInIdeal.sig) → Buf (Elt Ideal) ℓ) (g : Dev Cert.DwEvInIdeal.nD → PrngReg)
    (m' : (ℓ : Loc Cert.RefDwEvInIdeal.nD Cert.RefDwEvInIdeal.τ Cert.RefDwEvInIdeal.sig) → Buf (Elt Ideal) ℓ) (g' : Dev Cert.RefDwEvInIdeal.nD → PrngReg), Pre_DwEvInIdeal m →
    (∀ c : Dev Cert.DwEvInIdeal.nD,
      m' ((c.tc : Thread Cert.RefDwEvInIdeal.nD Cert.RefDwEvInIdeal.τ).loc Cert.RefDwEvInIdeal.main_arg0) = m ((c.tc : Thread Cert.DwEvInIdeal.nD Cert.DwEvInIdeal.τ).loc Cert.DwEvInIdeal.main_arg0)
      ∧ m' ((c.tc : Thread Cert.RefDwEvInIdeal.nD Cert.RefDwEvInIdeal.τ).loc Cert.RefDwEvInIdeal.main_arg1) = m ((c.tc : Thread Cert.DwEvInIdeal.nD Cert.DwEvInIdeal.τ).loc Cert.DwEvInIdeal.main_arg1)
      ∧ m' ((c.tc : Thread Cert.RefDwEvInIdeal.nD Cert.RefDwEvInIdeal.τ).loc Cert.RefDwEvInIdeal.main_arg2) = m ((c.tc : Thread Cert.DwEvInIdeal.nD Cert.DwEvInIdeal.τ).loc Cert.DwEvInIdeal.main_arg2)) →
    ∃ (v0 : (c : Dev Cert.DwEvInIdeal.nD) → Buf (Elt Ideal) ((c.tc : Thread Cert.DwEvInIdeal.nD Cert.DwEvInIdeal.τ).loc Cert.DwEvInIdeal.main_v4)),
      θ_run (Cert.DwEvInIdeal.defs (F := Ideal)) (onTc (τ := Cert.DwEvInIdeal.τ) (Cert.DwEvInIdeal.main (F := Ideal))) ⟨m, fun _ => 0, g⟩ (fun r => ∀ c : Dev Cert.DwEvInIdeal.nD,
          r.2.mem ((c.tc : Thread Cert.DwEvInIdeal.nD Cert.DwEvInIdeal.τ).loc Cert.DwEvInIdeal.main_v4) = v0 c
          ∧ r.2.mem ((c.tc : Thread Cert.DwEvInIdeal.nD Cert.DwEvInIdeal.τ).loc Cert.DwEvInIdeal.main_arg0) = m ((c.tc : Thread Cert.DwEvInIdeal.nD Cert.DwEvInIdeal.τ).loc Cert.DwEvInIdeal.main_arg0)
          ∧ r.2.mem ((c.tc : Thread Cert.DwEvInIdeal.nD Cert.DwEvInIdeal.τ).loc Cert.DwEvInIdeal.main_arg1) = m ((c.tc : Thread Cert.DwEvInIdeal.nD Cert.DwEvInIdeal.τ).loc Cert.DwEvInIdeal.main_arg1)
          ∧ r.2.mem ((c.tc : Thread Cert.DwEvInIdeal.nD Cert.DwEvInIdeal.τ).loc Cert.DwEvInIdeal.main_arg2) = m ((c.tc : Thread Cert.DwEvInIdeal.nD Cert.DwEvInIdeal.τ).loc Cert.DwEvInIdeal.main_arg2))
      ∧ θ_run (Cert.RefDwEvInIdeal.defs (F := Ideal)) (onTc (τ := Cert.RefDwEvInIdeal.τ) (Cert.RefDwEvInIdeal.main (F := Ideal))) ⟨m', fun _ => 0, g'⟩ (fun r => ∀ c : Dev Cert.RefDwEvInIdeal.nD,
          r.2.mem ((c.tc : Thread Cert.RefDwEvInIdeal.nD Cert.RefDwEvInIdeal.τ).loc Cert.RefDwEvInIdeal.main_v2) = v0 c
          ∧ r.2.mem ((c.tc : Thread Cert.RefDwEvInIdeal.nD Cert.RefDwEvInIdeal.τ).loc Cert.RefDwEvInIdeal.main_arg0) = m' ((c.tc : Thread Cert.RefDwEvInIdeal.nD Cert.RefDwEvInIdeal.τ).loc Cert.RefDwEvInIdeal.main_arg0)
          ∧ r.2.mem ((c.tc : Thread Cert.RefDwEvInIdeal.nD Cert.RefDwEvInIdeal.τ).loc Cert.RefDwEvInIdeal.main_arg1) = m' ((c.tc : Thread Cert.RefDwEvInIdeal.nD Cert.RefDwEvInIdeal.τ).loc Cert.RefDwEvInIdeal.main_arg1)
          ∧ r.2.mem ((c.tc : Thread Cert.RefDwEvInIdeal.nD Cert.RefDwEvInIdeal.τ).loc Cert.RefDwEvInIdeal.main_arg2) = m' ((c.tc : Thread Cert.RefDwEvInIdeal.nD Cert.RefDwEvInIdeal.τ).loc Cert.RefDwEvInIdeal.main_arg2))

def preserves_DwOdIn_DwOdInIdeal : Prop :=
  True

def algebraic_DwOdInIdeal_RefDwOdInIdeal [hDwOdInIdeal : Cert.DwOdInIdeal.Facts] [hRefDwOdInIdeal : Cert.RefDwOdInIdeal.Facts] : Prop :=
  ∀ (m : (ℓ : Loc Cert.DwOdInIdeal.nD Cert.DwOdInIdeal.τ Cert.DwOdInIdeal.sig) → Buf (Elt Ideal) ℓ) (g : Dev Cert.DwOdInIdeal.nD → PrngReg)
    (m' : (ℓ : Loc Cert.RefDwOdInIdeal.nD Cert.RefDwOdInIdeal.τ Cert.RefDwOdInIdeal.sig) → Buf (Elt Ideal) ℓ) (g' : Dev Cert.RefDwOdInIdeal.nD → PrngReg), Pre_DwOdInIdeal m →
    (∀ c : Dev Cert.DwOdInIdeal.nD,
      m' ((c.tc : Thread Cert.RefDwOdInIdeal.nD Cert.RefDwOdInIdeal.τ).loc Cert.RefDwOdInIdeal.main_arg0) = m ((c.tc : Thread Cert.DwOdInIdeal.nD Cert.DwOdInIdeal.τ).loc Cert.DwOdInIdeal.main_arg0)
      ∧ m' ((c.tc : Thread Cert.RefDwOdInIdeal.nD Cert.RefDwOdInIdeal.τ).loc Cert.RefDwOdInIdeal.main_arg1) = m ((c.tc : Thread Cert.DwOdInIdeal.nD Cert.DwOdInIdeal.τ).loc Cert.DwOdInIdeal.main_arg1)
      ∧ m' ((c.tc : Thread Cert.RefDwOdInIdeal.nD Cert.RefDwOdInIdeal.τ).loc Cert.RefDwOdInIdeal.main_arg2) = m ((c.tc : Thread Cert.DwOdInIdeal.nD Cert.DwOdInIdeal.τ).loc Cert.DwOdInIdeal.main_arg2)) →
    ∃ (v0 : (c : Dev Cert.DwOdInIdeal.nD) → Buf (Elt Ideal) ((c.tc : Thread Cert.DwOdInIdeal.nD Cert.DwOdInIdeal.τ).loc Cert.DwOdInIdeal.main_v4)),
      θ_run (Cert.DwOdInIdeal.defs (F := Ideal)) (onTc (τ := Cert.DwOdInIdeal.τ) (Cert.DwOdInIdeal.main (F := Ideal))) ⟨m, fun _ => 0, g⟩ (fun r => ∀ c : Dev Cert.DwOdInIdeal.nD,
          r.2.mem ((c.tc : Thread Cert.DwOdInIdeal.nD Cert.DwOdInIdeal.τ).loc Cert.DwOdInIdeal.main_v4) = v0 c
          ∧ r.2.mem ((c.tc : Thread Cert.DwOdInIdeal.nD Cert.DwOdInIdeal.τ).loc Cert.DwOdInIdeal.main_arg0) = m ((c.tc : Thread Cert.DwOdInIdeal.nD Cert.DwOdInIdeal.τ).loc Cert.DwOdInIdeal.main_arg0)
          ∧ r.2.mem ((c.tc : Thread Cert.DwOdInIdeal.nD Cert.DwOdInIdeal.τ).loc Cert.DwOdInIdeal.main_arg1) = m ((c.tc : Thread Cert.DwOdInIdeal.nD Cert.DwOdInIdeal.τ).loc Cert.DwOdInIdeal.main_arg1)
          ∧ r.2.mem ((c.tc : Thread Cert.DwOdInIdeal.nD Cert.DwOdInIdeal.τ).loc Cert.DwOdInIdeal.main_arg2) = m ((c.tc : Thread Cert.DwOdInIdeal.nD Cert.DwOdInIdeal.τ).loc Cert.DwOdInIdeal.main_arg2))
      ∧ θ_run (Cert.RefDwOdInIdeal.defs (F := Ideal)) (onTc (τ := Cert.RefDwOdInIdeal.τ) (Cert.RefDwOdInIdeal.main (F := Ideal))) ⟨m', fun _ => 0, g'⟩ (fun r => ∀ c : Dev Cert.RefDwOdInIdeal.nD,
          r.2.mem ((c.tc : Thread Cert.RefDwOdInIdeal.nD Cert.RefDwOdInIdeal.τ).loc Cert.RefDwOdInIdeal.main_v2) = v0 c
          ∧ r.2.mem ((c.tc : Thread Cert.RefDwOdInIdeal.nD Cert.RefDwOdInIdeal.τ).loc Cert.RefDwOdInIdeal.main_arg0) = m' ((c.tc : Thread Cert.RefDwOdInIdeal.nD Cert.RefDwOdInIdeal.τ).loc Cert.RefDwOdInIdeal.main_arg0)
          ∧ r.2.mem ((c.tc : Thread Cert.RefDwOdInIdeal.nD Cert.RefDwOdInIdeal.τ).loc Cert.RefDwOdInIdeal.main_arg1) = m' ((c.tc : Thread Cert.RefDwOdInIdeal.nD Cert.RefDwOdInIdeal.τ).loc Cert.RefDwOdInIdeal.main_arg1)
          ∧ r.2.mem ((c.tc : Thread Cert.RefDwOdInIdeal.nD Cert.RefDwOdInIdeal.τ).loc Cert.RefDwOdInIdeal.main_arg2) = m' ((c.tc : Thread Cert.RefDwOdInIdeal.nD Cert.RefDwOdInIdeal.τ).loc Cert.RefDwOdInIdeal.main_arg2))

def preserves_DwPleProj_DwPleProjIdeal : Prop :=
  True

def algebraic_DwPleProjIdeal_RefDwPleProjIdeal [hDwPleProjIdeal : Cert.DwPleProjIdeal.Facts] [hRefDwPleProjIdeal : Cert.RefDwPleProjIdeal.Facts] : Prop :=
  ∀ (m : (ℓ : Loc Cert.DwPleProjIdeal.nD Cert.DwPleProjIdeal.τ Cert.DwPleProjIdeal.sig) → Buf (Elt Ideal) ℓ) (g : Dev Cert.DwPleProjIdeal.nD → PrngReg)
    (m' : (ℓ : Loc Cert.RefDwPleProjIdeal.nD Cert.RefDwPleProjIdeal.τ Cert.RefDwPleProjIdeal.sig) → Buf (Elt Ideal) ℓ) (g' : Dev Cert.RefDwPleProjIdeal.nD → PrngReg), Pre_DwPleProjIdeal m →
    (∀ c : Dev Cert.DwPleProjIdeal.nD,
      m' ((c.tc : Thread Cert.RefDwPleProjIdeal.nD Cert.RefDwPleProjIdeal.τ).loc Cert.RefDwPleProjIdeal.main_arg0) = m ((c.tc : Thread Cert.DwPleProjIdeal.nD Cert.DwPleProjIdeal.τ).loc Cert.DwPleProjIdeal.main_arg0)
      ∧ m' ((c.tc : Thread Cert.RefDwPleProjIdeal.nD Cert.RefDwPleProjIdeal.τ).loc Cert.RefDwPleProjIdeal.main_arg1) = m ((c.tc : Thread Cert.DwPleProjIdeal.nD Cert.DwPleProjIdeal.τ).loc Cert.DwPleProjIdeal.main_arg1)
      ∧ m' ((c.tc : Thread Cert.RefDwPleProjIdeal.nD Cert.RefDwPleProjIdeal.τ).loc Cert.RefDwPleProjIdeal.main_arg2) = m ((c.tc : Thread Cert.DwPleProjIdeal.nD Cert.DwPleProjIdeal.τ).loc Cert.DwPleProjIdeal.main_arg2)) →
    ∃ (v0 : (c : Dev Cert.DwPleProjIdeal.nD) → Buf (Elt Ideal) ((c.tc : Thread Cert.DwPleProjIdeal.nD Cert.DwPleProjIdeal.τ).loc Cert.DwPleProjIdeal.main_v4)),
      θ_run (Cert.DwPleProjIdeal.defs (F := Ideal)) (onTc (τ := Cert.DwPleProjIdeal.τ) (Cert.DwPleProjIdeal.main (F := Ideal))) ⟨m, fun _ => 0, g⟩ (fun r => ∀ c : Dev Cert.DwPleProjIdeal.nD,
          r.2.mem ((c.tc : Thread Cert.DwPleProjIdeal.nD Cert.DwPleProjIdeal.τ).loc Cert.DwPleProjIdeal.main_v4) = v0 c
          ∧ r.2.mem ((c.tc : Thread Cert.DwPleProjIdeal.nD Cert.DwPleProjIdeal.τ).loc Cert.DwPleProjIdeal.main_arg0) = m ((c.tc : Thread Cert.DwPleProjIdeal.nD Cert.DwPleProjIdeal.τ).loc Cert.DwPleProjIdeal.main_arg0)
          ∧ r.2.mem ((c.tc : Thread Cert.DwPleProjIdeal.nD Cert.DwPleProjIdeal.τ).loc Cert.DwPleProjIdeal.main_arg1) = m ((c.tc : Thread Cert.DwPleProjIdeal.nD Cert.DwPleProjIdeal.τ).loc Cert.DwPleProjIdeal.main_arg1)
          ∧ r.2.mem ((c.tc : Thread Cert.DwPleProjIdeal.nD Cert.DwPleProjIdeal.τ).loc Cert.DwPleProjIdeal.main_arg2) = m ((c.tc : Thread Cert.DwPleProjIdeal.nD Cert.DwPleProjIdeal.τ).loc Cert.DwPleProjIdeal.main_arg2))
      ∧ θ_run (Cert.RefDwPleProjIdeal.defs (F := Ideal)) (onTc (τ := Cert.RefDwPleProjIdeal.τ) (Cert.RefDwPleProjIdeal.main (F := Ideal))) ⟨m', fun _ => 0, g'⟩ (fun r => ∀ c : Dev Cert.RefDwPleProjIdeal.nD,
          r.2.mem ((c.tc : Thread Cert.RefDwPleProjIdeal.nD Cert.RefDwPleProjIdeal.τ).loc Cert.RefDwPleProjIdeal.main_v2) = v0 c
          ∧ r.2.mem ((c.tc : Thread Cert.RefDwPleProjIdeal.nD Cert.RefDwPleProjIdeal.τ).loc Cert.RefDwPleProjIdeal.main_arg0) = m' ((c.tc : Thread Cert.RefDwPleProjIdeal.nD Cert.RefDwPleProjIdeal.τ).loc Cert.RefDwPleProjIdeal.main_arg0)
          ∧ r.2.mem ((c.tc : Thread Cert.RefDwPleProjIdeal.nD Cert.RefDwPleProjIdeal.τ).loc Cert.RefDwPleProjIdeal.main_arg1) = m' ((c.tc : Thread Cert.RefDwPleProjIdeal.nD Cert.RefDwPleProjIdeal.τ).loc Cert.RefDwPleProjIdeal.main_arg1)
          ∧ r.2.mem ((c.tc : Thread Cert.RefDwPleProjIdeal.nD Cert.RefDwPleProjIdeal.τ).loc Cert.RefDwPleProjIdeal.main_arg2) = m' ((c.tc : Thread Cert.RefDwPleProjIdeal.nD Cert.RefDwPleProjIdeal.τ).loc Cert.RefDwPleProjIdeal.main_arg2))

def preserves_DxEvIn_DxEvInIdeal : Prop :=
  True

def algebraic_DxEvInIdeal_RefDxEvInIdeal [hDxEvInIdeal : Cert.DxEvInIdeal.Facts] [hRefDxEvInIdeal : Cert.RefDxEvInIdeal.Facts] : Prop :=
  ∀ (m : (ℓ : Loc Cert.DxEvInIdeal.nD Cert.DxEvInIdeal.τ Cert.DxEvInIdeal.sig) → Buf (Elt Ideal) ℓ) (g : Dev Cert.DxEvInIdeal.nD → PrngReg)
    (m' : (ℓ : Loc Cert.RefDxEvInIdeal.nD Cert.RefDxEvInIdeal.τ Cert.RefDxEvInIdeal.sig) → Buf (Elt Ideal) ℓ) (g' : Dev Cert.RefDxEvInIdeal.nD → PrngReg), Pre_DxEvInIdeal m →
    (∀ c : Dev Cert.DxEvInIdeal.nD,
      m' ((c.tc : Thread Cert.RefDxEvInIdeal.nD Cert.RefDxEvInIdeal.τ).loc Cert.RefDxEvInIdeal.main_arg0) = m ((c.tc : Thread Cert.DxEvInIdeal.nD Cert.DxEvInIdeal.τ).loc Cert.DxEvInIdeal.main_arg0)
      ∧ m' ((c.tc : Thread Cert.RefDxEvInIdeal.nD Cert.RefDxEvInIdeal.τ).loc Cert.RefDxEvInIdeal.main_arg1) = m ((c.tc : Thread Cert.DxEvInIdeal.nD Cert.DxEvInIdeal.τ).loc Cert.DxEvInIdeal.main_arg1)
      ∧ m' ((c.tc : Thread Cert.RefDxEvInIdeal.nD Cert.RefDxEvInIdeal.τ).loc Cert.RefDxEvInIdeal.main_arg2) = m ((c.tc : Thread Cert.DxEvInIdeal.nD Cert.DxEvInIdeal.τ).loc Cert.DxEvInIdeal.main_arg2)) →
    ∃ (v0 : (c : Dev Cert.DxEvInIdeal.nD) → Buf (Elt Ideal) ((c.tc : Thread Cert.DxEvInIdeal.nD Cert.DxEvInIdeal.τ).loc Cert.DxEvInIdeal.main_v3)),
      θ_run (Cert.DxEvInIdeal.defs (F := Ideal)) (onTc (τ := Cert.DxEvInIdeal.τ) (Cert.DxEvInIdeal.main (F := Ideal))) ⟨m, fun _ => 0, g⟩ (fun r => ∀ c : Dev Cert.DxEvInIdeal.nD,
          r.2.mem ((c.tc : Thread Cert.DxEvInIdeal.nD Cert.DxEvInIdeal.τ).loc Cert.DxEvInIdeal.main_v3) = v0 c
          ∧ r.2.mem ((c.tc : Thread Cert.DxEvInIdeal.nD Cert.DxEvInIdeal.τ).loc Cert.DxEvInIdeal.main_arg0) = m ((c.tc : Thread Cert.DxEvInIdeal.nD Cert.DxEvInIdeal.τ).loc Cert.DxEvInIdeal.main_arg0)
          ∧ r.2.mem ((c.tc : Thread Cert.DxEvInIdeal.nD Cert.DxEvInIdeal.τ).loc Cert.DxEvInIdeal.main_arg1) = m ((c.tc : Thread Cert.DxEvInIdeal.nD Cert.DxEvInIdeal.τ).loc Cert.DxEvInIdeal.main_arg1)
          ∧ r.2.mem ((c.tc : Thread Cert.DxEvInIdeal.nD Cert.DxEvInIdeal.τ).loc Cert.DxEvInIdeal.main_arg2) = m ((c.tc : Thread Cert.DxEvInIdeal.nD Cert.DxEvInIdeal.τ).loc Cert.DxEvInIdeal.main_arg2))
      ∧ θ_run (Cert.RefDxEvInIdeal.defs (F := Ideal)) (onTc (τ := Cert.RefDxEvInIdeal.τ) (Cert.RefDxEvInIdeal.main (F := Ideal))) ⟨m', fun _ => 0, g'⟩ (fun r => ∀ c : Dev Cert.RefDxEvInIdeal.nD,
          r.2.mem ((c.tc : Thread Cert.RefDxEvInIdeal.nD Cert.RefDxEvInIdeal.τ).loc Cert.RefDxEvInIdeal.main_v4) = v0 c
          ∧ r.2.mem ((c.tc : Thread Cert.RefDxEvInIdeal.nD Cert.RefDxEvInIdeal.τ).loc Cert.RefDxEvInIdeal.main_arg0) = m' ((c.tc : Thread Cert.RefDxEvInIdeal.nD Cert.RefDxEvInIdeal.τ).loc Cert.RefDxEvInIdeal.main_arg0)
          ∧ r.2.mem ((c.tc : Thread Cert.RefDxEvInIdeal.nD Cert.RefDxEvInIdeal.τ).loc Cert.RefDxEvInIdeal.main_arg1) = m' ((c.tc : Thread Cert.RefDxEvInIdeal.nD Cert.RefDxEvInIdeal.τ).loc Cert.RefDxEvInIdeal.main_arg1)
          ∧ r.2.mem ((c.tc : Thread Cert.RefDxEvInIdeal.nD Cert.RefDxEvInIdeal.τ).loc Cert.RefDxEvInIdeal.main_arg2) = m' ((c.tc : Thread Cert.RefDxEvInIdeal.nD Cert.RefDxEvInIdeal.τ).loc Cert.RefDxEvInIdeal.main_arg2))

def preserves_DxOdIn_DxOdInIdeal : Prop :=
  True

def algebraic_DxOdInIdeal_RefDxOdInIdeal [hDxOdInIdeal : Cert.DxOdInIdeal.Facts] [hRefDxOdInIdeal : Cert.RefDxOdInIdeal.Facts] : Prop :=
  ∀ (m : (ℓ : Loc Cert.DxOdInIdeal.nD Cert.DxOdInIdeal.τ Cert.DxOdInIdeal.sig) → Buf (Elt Ideal) ℓ) (g : Dev Cert.DxOdInIdeal.nD → PrngReg)
    (m' : (ℓ : Loc Cert.RefDxOdInIdeal.nD Cert.RefDxOdInIdeal.τ Cert.RefDxOdInIdeal.sig) → Buf (Elt Ideal) ℓ) (g' : Dev Cert.RefDxOdInIdeal.nD → PrngReg), Pre_DxOdInIdeal m →
    (∀ c : Dev Cert.DxOdInIdeal.nD,
      m' ((c.tc : Thread Cert.RefDxOdInIdeal.nD Cert.RefDxOdInIdeal.τ).loc Cert.RefDxOdInIdeal.main_arg0) = m ((c.tc : Thread Cert.DxOdInIdeal.nD Cert.DxOdInIdeal.τ).loc Cert.DxOdInIdeal.main_arg0)
      ∧ m' ((c.tc : Thread Cert.RefDxOdInIdeal.nD Cert.RefDxOdInIdeal.τ).loc Cert.RefDxOdInIdeal.main_arg1) = m ((c.tc : Thread Cert.DxOdInIdeal.nD Cert.DxOdInIdeal.τ).loc Cert.DxOdInIdeal.main_arg1)
      ∧ m' ((c.tc : Thread Cert.RefDxOdInIdeal.nD Cert.RefDxOdInIdeal.τ).loc Cert.RefDxOdInIdeal.main_arg2) = m ((c.tc : Thread Cert.DxOdInIdeal.nD Cert.DxOdInIdeal.τ).loc Cert.DxOdInIdeal.main_arg2)) →
    ∃ (v0 : (c : Dev Cert.DxOdInIdeal.nD) → Buf (Elt Ideal) ((c.tc : Thread Cert.DxOdInIdeal.nD Cert.DxOdInIdeal.τ).loc Cert.DxOdInIdeal.main_v3)),
      θ_run (Cert.DxOdInIdeal.defs (F := Ideal)) (onTc (τ := Cert.DxOdInIdeal.τ) (Cert.DxOdInIdeal.main (F := Ideal))) ⟨m, fun _ => 0, g⟩ (fun r => ∀ c : Dev Cert.DxOdInIdeal.nD,
          r.2.mem ((c.tc : Thread Cert.DxOdInIdeal.nD Cert.DxOdInIdeal.τ).loc Cert.DxOdInIdeal.main_v3) = v0 c
          ∧ r.2.mem ((c.tc : Thread Cert.DxOdInIdeal.nD Cert.DxOdInIdeal.τ).loc Cert.DxOdInIdeal.main_arg0) = m ((c.tc : Thread Cert.DxOdInIdeal.nD Cert.DxOdInIdeal.τ).loc Cert.DxOdInIdeal.main_arg0)
          ∧ r.2.mem ((c.tc : Thread Cert.DxOdInIdeal.nD Cert.DxOdInIdeal.τ).loc Cert.DxOdInIdeal.main_arg1) = m ((c.tc : Thread Cert.DxOdInIdeal.nD Cert.DxOdInIdeal.τ).loc Cert.DxOdInIdeal.main_arg1)
          ∧ r.2.mem ((c.tc : Thread Cert.DxOdInIdeal.nD Cert.DxOdInIdeal.τ).loc Cert.DxOdInIdeal.main_arg2) = m ((c.tc : Thread Cert.DxOdInIdeal.nD Cert.DxOdInIdeal.τ).loc Cert.DxOdInIdeal.main_arg2))
      ∧ θ_run (Cert.RefDxOdInIdeal.defs (F := Ideal)) (onTc (τ := Cert.RefDxOdInIdeal.τ) (Cert.RefDxOdInIdeal.main (F := Ideal))) ⟨m', fun _ => 0, g'⟩ (fun r => ∀ c : Dev Cert.RefDxOdInIdeal.nD,
          r.2.mem ((c.tc : Thread Cert.RefDxOdInIdeal.nD Cert.RefDxOdInIdeal.τ).loc Cert.RefDxOdInIdeal.main_v4) = v0 c
          ∧ r.2.mem ((c.tc : Thread Cert.RefDxOdInIdeal.nD Cert.RefDxOdInIdeal.τ).loc Cert.RefDxOdInIdeal.main_arg0) = m' ((c.tc : Thread Cert.RefDxOdInIdeal.nD Cert.RefDxOdInIdeal.τ).loc Cert.RefDxOdInIdeal.main_arg0)
          ∧ r.2.mem ((c.tc : Thread Cert.RefDxOdInIdeal.nD Cert.RefDxOdInIdeal.τ).loc Cert.RefDxOdInIdeal.main_arg1) = m' ((c.tc : Thread Cert.RefDxOdInIdeal.nD Cert.RefDxOdInIdeal.τ).loc Cert.RefDxOdInIdeal.main_arg1)
          ∧ r.2.mem ((c.tc : Thread Cert.RefDxOdInIdeal.nD Cert.RefDxOdInIdeal.τ).loc Cert.RefDxOdInIdeal.main_arg2) = m' ((c.tc : Thread Cert.RefDxOdInIdeal.nD Cert.RefDxOdInIdeal.τ).loc Cert.RefDxOdInIdeal.main_arg2))

def preserves_DxPleGate_DxPleGateIdeal : Prop :=
  True

def algebraic_DxPleGateIdeal_RefDxPleGateIdeal [hDxPleGateIdeal : Cert.DxPleGateIdeal.Facts] [hRefDxPleGateIdeal : Cert.RefDxPleGateIdeal.Facts] : Prop :=
  ∀ (m : (ℓ : Loc Cert.DxPleGateIdeal.nD Cert.DxPleGateIdeal.τ Cert.DxPleGateIdeal.sig) → Buf (Elt Ideal) ℓ) (g : Dev Cert.DxPleGateIdeal.nD → PrngReg)
    (m' : (ℓ : Loc Cert.RefDxPleGateIdeal.nD Cert.RefDxPleGateIdeal.τ Cert.RefDxPleGateIdeal.sig) → Buf (Elt Ideal) ℓ) (g' : Dev Cert.RefDxPleGateIdeal.nD → PrngReg), Pre_DxPleGateIdeal m →
    (∀ c : Dev Cert.DxPleGateIdeal.nD,
      m' ((c.tc : Thread Cert.RefDxPleGateIdeal.nD Cert.RefDxPleGateIdeal.τ).loc Cert.RefDxPleGateIdeal.main_arg0) = m ((c.tc : Thread Cert.DxPleGateIdeal.nD Cert.DxPleGateIdeal.τ).loc Cert.DxPleGateIdeal.main_arg0)
      ∧ m' ((c.tc : Thread Cert.RefDxPleGateIdeal.nD Cert.RefDxPleGateIdeal.τ).loc Cert.RefDxPleGateIdeal.main_arg1) = m ((c.tc : Thread Cert.DxPleGateIdeal.nD Cert.DxPleGateIdeal.τ).loc Cert.DxPleGateIdeal.main_arg1)
      ∧ m' ((c.tc : Thread Cert.RefDxPleGateIdeal.nD Cert.RefDxPleGateIdeal.τ).loc Cert.RefDxPleGateIdeal.main_arg2) = m ((c.tc : Thread Cert.DxPleGateIdeal.nD Cert.DxPleGateIdeal.τ).loc Cert.DxPleGateIdeal.main_arg2)) →
    ∃ (v0 : (c : Dev Cert.DxPleGateIdeal.nD) → Buf (Elt Ideal) ((c.tc : Thread Cert.DxPleGateIdeal.nD Cert.DxPleGateIdeal.τ).loc Cert.DxPleGateIdeal.main_v3)),
      θ_run (Cert.DxPleGateIdeal.defs (F := Ideal)) (onTc (τ := Cert.DxPleGateIdeal.τ) (Cert.DxPleGateIdeal.main (F := Ideal))) ⟨m, fun _ => 0, g⟩ (fun r => ∀ c : Dev Cert.DxPleGateIdeal.nD,
          r.2.mem ((c.tc : Thread Cert.DxPleGateIdeal.nD Cert.DxPleGateIdeal.τ).loc Cert.DxPleGateIdeal.main_v3) = v0 c
          ∧ r.2.mem ((c.tc : Thread Cert.DxPleGateIdeal.nD Cert.DxPleGateIdeal.τ).loc Cert.DxPleGateIdeal.main_arg0) = m ((c.tc : Thread Cert.DxPleGateIdeal.nD Cert.DxPleGateIdeal.τ).loc Cert.DxPleGateIdeal.main_arg0)
          ∧ r.2.mem ((c.tc : Thread Cert.DxPleGateIdeal.nD Cert.DxPleGateIdeal.τ).loc Cert.DxPleGateIdeal.main_arg1) = m ((c.tc : Thread Cert.DxPleGateIdeal.nD Cert.DxPleGateIdeal.τ).loc Cert.DxPleGateIdeal.main_arg1)
          ∧ r.2.mem ((c.tc : Thread Cert.DxPleGateIdeal.nD Cert.DxPleGateIdeal.τ).loc Cert.DxPleGateIdeal.main_arg2) = m ((c.tc : Thread Cert.DxPleGateIdeal.nD Cert.DxPleGateIdeal.τ).loc Cert.DxPleGateIdeal.main_arg2))
      ∧ θ_run (Cert.RefDxPleGateIdeal.defs (F := Ideal)) (onTc (τ := Cert.RefDxPleGateIdeal.τ) (Cert.RefDxPleGateIdeal.main (F := Ideal))) ⟨m', fun _ => 0, g'⟩ (fun r => ∀ c : Dev Cert.RefDxPleGateIdeal.nD,
          r.2.mem ((c.tc : Thread Cert.RefDxPleGateIdeal.nD Cert.RefDxPleGateIdeal.τ).loc Cert.RefDxPleGateIdeal.main_v4) = v0 c
          ∧ r.2.mem ((c.tc : Thread Cert.RefDxPleGateIdeal.nD Cert.RefDxPleGateIdeal.τ).loc Cert.RefDxPleGateIdeal.main_arg0) = m' ((c.tc : Thread Cert.RefDxPleGateIdeal.nD Cert.RefDxPleGateIdeal.τ).loc Cert.RefDxPleGateIdeal.main_arg0)
          ∧ r.2.mem ((c.tc : Thread Cert.RefDxPleGateIdeal.nD Cert.RefDxPleGateIdeal.τ).loc Cert.RefDxPleGateIdeal.main_arg1) = m' ((c.tc : Thread Cert.RefDxPleGateIdeal.nD Cert.RefDxPleGateIdeal.τ).loc Cert.RefDxPleGateIdeal.main_arg1)
          ∧ r.2.mem ((c.tc : Thread Cert.RefDxPleGateIdeal.nD Cert.RefDxPleGateIdeal.τ).loc Cert.RefDxPleGateIdeal.main_arg2) = m' ((c.tc : Thread Cert.RefDxPleGateIdeal.nD Cert.RefDxPleGateIdeal.τ).loc Cert.RefDxPleGateIdeal.main_arg2))

def preserves_DxOut_DxOutIdeal : Prop :=
  True

def algebraic_DxOutIdeal_RefDxOutIdeal [hDxOutIdeal : Cert.DxOutIdeal.Facts] [hRefDxOutIdeal : Cert.RefDxOutIdeal.Facts] : Prop :=
  ∀ (m : (ℓ : Loc Cert.DxOutIdeal.nD Cert.DxOutIdeal.τ Cert.DxOutIdeal.sig) → Buf (Elt Ideal) ℓ) (g : Dev Cert.DxOutIdeal.nD → PrngReg)
    (m' : (ℓ : Loc Cert.RefDxOutIdeal.nD Cert.RefDxOutIdeal.τ Cert.RefDxOutIdeal.sig) → Buf (Elt Ideal) ℓ) (g' : Dev Cert.RefDxOutIdeal.nD → PrngReg), Pre_DxOutIdeal m →
    (∀ c : Dev Cert.DxOutIdeal.nD,
      m' ((c.tc : Thread Cert.RefDxOutIdeal.nD Cert.RefDxOutIdeal.τ).loc Cert.RefDxOutIdeal.main_arg0) = m ((c.tc : Thread Cert.DxOutIdeal.nD Cert.DxOutIdeal.τ).loc Cert.DxOutIdeal.main_arg0)
      ∧ m' ((c.tc : Thread Cert.RefDxOutIdeal.nD Cert.RefDxOutIdeal.τ).loc Cert.RefDxOutIdeal.main_arg1) = m ((c.tc : Thread Cert.DxOutIdeal.nD Cert.DxOutIdeal.τ).loc Cert.DxOutIdeal.main_arg1)
      ∧ m' ((c.tc : Thread Cert.RefDxOutIdeal.nD Cert.RefDxOutIdeal.τ).loc Cert.RefDxOutIdeal.main_arg2) = m ((c.tc : Thread Cert.DxOutIdeal.nD Cert.DxOutIdeal.τ).loc Cert.DxOutIdeal.main_arg2)) →
    ∃ (v0 : (c : Dev Cert.DxOutIdeal.nD) → Buf (Elt Ideal) ((c.tc : Thread Cert.DxOutIdeal.nD Cert.DxOutIdeal.τ).loc Cert.DxOutIdeal.main_v3)),
      θ_run (Cert.DxOutIdeal.defs (F := Ideal)) (onTc (τ := Cert.DxOutIdeal.τ) (Cert.DxOutIdeal.main (F := Ideal))) ⟨m, fun _ => 0, g⟩ (fun r => ∀ c : Dev Cert.DxOutIdeal.nD,
          r.2.mem ((c.tc : Thread Cert.DxOutIdeal.nD Cert.DxOutIdeal.τ).loc Cert.DxOutIdeal.main_v3) = v0 c
          ∧ r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
          ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1)
          ∧ r.2.mem ((c.tc : Thread Cert.DxOutIdeal.nD Cert.DxOutIdeal.τ).loc Cert.DxOutIdeal.main_arg2) = m ((c.tc : Thread Cert.DxOutIdeal.nD Cert.DxOutIdeal.τ).loc Cert.DxOutIdeal.main_arg2))
      ∧ θ_run (Cert.RefDxOutIdeal.defs (F := Ideal)) (onTc (τ := Cert.RefDxOutIdeal.τ) (Cert.RefDxOutIdeal.main (F := Ideal))) ⟨m', fun _ => 0, g'⟩ (fun r => ∀ c : Dev Cert.RefDxOutIdeal.nD,
          r.2.mem ((c.tc : Thread Cert.RefDxOutIdeal.nD Cert.RefDxOutIdeal.τ).loc Cert.RefDxOutIdeal.main_v5) = v0 c
          ∧ r.2.mem ((c.tc : Thread Cert.RefDxOutIdeal.nD Cert.RefDxOutIdeal.τ).loc Cert.RefDxOutIdeal.main_arg0) = m' ((c.tc : Thread Cert.RefDxOutIdeal.nD Cert.RefDxOutIdeal.τ).loc Cert.RefDxOutIdeal.main_arg0)
          ∧ r.2.mem ((c.tc : Thread Cert.RefDxOutIdeal.nD Cert.RefDxOutIdeal.τ).loc Cert.RefDxOutIdeal.main_arg1) = m' ((c.tc : Thread Cert.RefDxOutIdeal.nD Cert.RefDxOutIdeal.τ).loc Cert.RefDxOutIdeal.main_arg1)
          ∧ r.2.mem ((c.tc : Thread Cert.RefDxOutIdeal.nD Cert.RefDxOutIdeal.τ).loc Cert.RefDxOutIdeal.main_arg2) = m' ((c.tc : Thread Cert.RefDxOutIdeal.nD Cert.RefDxOutIdeal.τ).loc Cert.RefDxOutIdeal.main_arg2))

def preserves_EvIn_EvInIdeal : Prop :=
  True

def algebraic_EvInIdeal_RefEvInIdeal [hEvInIdeal : Cert.EvInIdeal.Facts] [hRefEvInIdeal : Cert.RefEvInIdeal.Facts] : Prop :=
  ∀ (m : (ℓ : Loc Cert.EvInIdeal.nD Cert.EvInIdeal.τ Cert.EvInIdeal.sig) → Buf (Elt Ideal) ℓ) (g : Dev Cert.EvInIdeal.nD → PrngReg)
    (m' : (ℓ : Loc Cert.RefEvInIdeal.nD Cert.RefEvInIdeal.τ Cert.RefEvInIdeal.sig) → Buf (Elt Ideal) ℓ) (g' : Dev Cert.RefEvInIdeal.nD → PrngReg), Pre_EvInIdeal m →
    (∀ c : Dev Cert.EvInIdeal.nD,
      m' ((c.tc : Thread Cert.RefEvInIdeal.nD Cert.RefEvInIdeal.τ).loc Cert.RefEvInIdeal.main_arg0) = m ((c.tc : Thread Cert.EvInIdeal.nD Cert.EvInIdeal.τ).loc Cert.EvInIdeal.main_arg0)
      ∧ m' ((c.tc : Thread Cert.RefEvInIdeal.nD Cert.RefEvInIdeal.τ).loc Cert.RefEvInIdeal.main_arg1) = m ((c.tc : Thread Cert.EvInIdeal.nD Cert.EvInIdeal.τ).loc Cert.EvInIdeal.main_arg1)) →
    ∃ (v0 : (c : Dev Cert.EvInIdeal.nD) → Buf (Elt Ideal) ((c.tc : Thread Cert.EvInIdeal.nD Cert.EvInIdeal.τ).loc Cert.EvInIdeal.main_v3)),
      θ_run (Cert.EvInIdeal.defs (F := Ideal)) (onTc (τ := Cert.EvInIdeal.τ) (Cert.EvInIdeal.main (F := Ideal))) ⟨m, fun _ => 0, g⟩ (fun r => ∀ c : Dev Cert.EvInIdeal.nD,
          r.2.mem ((c.tc : Thread Cert.EvInIdeal.nD Cert.EvInIdeal.τ).loc Cert.EvInIdeal.main_v3) = v0 c
          ∧ r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
          ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ θ_run (Cert.RefEvInIdeal.defs (F := Ideal)) (onTc (τ := Cert.RefEvInIdeal.τ) (Cert.RefEvInIdeal.main (F := Ideal))) ⟨m', fun _ => 0, g'⟩ (fun r => ∀ c : Dev Cert.RefEvInIdeal.nD,
          r.2.mem ((c.tc : Thread Cert.RefEvInIdeal.nD Cert.RefEvInIdeal.τ).loc Cert.RefEvInIdeal.main_v2) = v0 c
          ∧ r.2.mem ((c.tc : Thread Cert.RefEvInIdeal.nD Cert.RefEvInIdeal.τ).loc Cert.RefEvInIdeal.main_arg0) = m' ((c.tc : Thread Cert.RefEvInIdeal.nD Cert.RefEvInIdeal.τ).loc Cert.RefEvInIdeal.main_arg0)
          ∧ r.2.mem ((c.tc : Thread Cert.RefEvInIdeal.nD Cert.RefEvInIdeal.τ).loc Cert.RefEvInIdeal.main_arg1) = m' ((c.tc : Thread Cert.RefEvInIdeal.nD Cert.RefEvInIdeal.τ).loc Cert.RefEvInIdeal.main_arg1))

def preserves_OdIn_OdInIdeal : Prop :=
  True

def algebraic_OdInIdeal_RefOdInIdeal [hOdInIdeal : Cert.OdInIdeal.Facts] [hRefOdInIdeal : Cert.RefOdInIdeal.Facts] : Prop :=
  ∀ (m : (ℓ : Loc Cert.OdInIdeal.nD Cert.OdInIdeal.τ Cert.OdInIdeal.sig) → Buf (Elt Ideal) ℓ) (g : Dev Cert.OdInIdeal.nD → PrngReg)
    (m' : (ℓ : Loc Cert.RefOdInIdeal.nD Cert.RefOdInIdeal.τ Cert.RefOdInIdeal.sig) → Buf (Elt Ideal) ℓ) (g' : Dev Cert.RefOdInIdeal.nD → PrngReg), Pre_OdInIdeal m →
    (∀ c : Dev Cert.OdInIdeal.nD,
      m' ((c.tc : Thread Cert.RefOdInIdeal.nD Cert.RefOdInIdeal.τ).loc Cert.RefOdInIdeal.main_arg0) = m ((c.tc : Thread Cert.OdInIdeal.nD Cert.OdInIdeal.τ).loc Cert.OdInIdeal.main_arg0)
      ∧ m' ((c.tc : Thread Cert.RefOdInIdeal.nD Cert.RefOdInIdeal.τ).loc Cert.RefOdInIdeal.main_arg1) = m ((c.tc : Thread Cert.OdInIdeal.nD Cert.OdInIdeal.τ).loc Cert.OdInIdeal.main_arg1)) →
    ∃ (v0 : (c : Dev Cert.OdInIdeal.nD) → Buf (Elt Ideal) ((c.tc : Thread Cert.OdInIdeal.nD Cert.OdInIdeal.τ).loc Cert.OdInIdeal.main_v3)),
      θ_run (Cert.OdInIdeal.defs (F := Ideal)) (onTc (τ := Cert.OdInIdeal.τ) (Cert.OdInIdeal.main (F := Ideal))) ⟨m, fun _ => 0, g⟩ (fun r => ∀ c : Dev Cert.OdInIdeal.nD,
          r.2.mem ((c.tc : Thread Cert.OdInIdeal.nD Cert.OdInIdeal.τ).loc Cert.OdInIdeal.main_v3) = v0 c
          ∧ r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
          ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ θ_run (Cert.RefOdInIdeal.defs (F := Ideal)) (onTc (τ := Cert.RefOdInIdeal.τ) (Cert.RefOdInIdeal.main (F := Ideal))) ⟨m', fun _ => 0, g'⟩ (fun r => ∀ c : Dev Cert.RefOdInIdeal.nD,
          r.2.mem ((c.tc : Thread Cert.RefOdInIdeal.nD Cert.RefOdInIdeal.τ).loc Cert.RefOdInIdeal.main_v2) = v0 c
          ∧ r.2.mem ((c.tc : Thread Cert.RefOdInIdeal.nD Cert.RefOdInIdeal.τ).loc Cert.RefOdInIdeal.main_arg0) = m' ((c.tc : Thread Cert.RefOdInIdeal.nD Cert.RefOdInIdeal.τ).loc Cert.RefOdInIdeal.main_arg0)
          ∧ r.2.mem ((c.tc : Thread Cert.RefOdInIdeal.nD Cert.RefOdInIdeal.τ).loc Cert.RefOdInIdeal.main_arg1) = m' ((c.tc : Thread Cert.RefOdInIdeal.nD Cert.RefOdInIdeal.τ).loc Cert.RefOdInIdeal.main_arg1))

def preserves_PleGate_PleGateIdeal : Prop :=
  True

def algebraic_PleGateIdeal_RefPleGateIdeal [hPleGateIdeal : Cert.PleGateIdeal.Facts] [hRefPleGateIdeal : Cert.RefPleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.RefPleGateIdeal.nD Cert.RefPleGateIdeal.τ Cert.RefPleGateIdeal.sig) → Buf (Elt Ideal) ℓ) (g' : Dev Cert.RefPleGateIdeal.nD → PrngReg), Pre_PleGateIdeal m →
    (∀ c : Dev Cert.PleGateIdeal.nD,
      m' ((c.tc : Thread Cert.RefPleGateIdeal.nD Cert.RefPleGateIdeal.τ).loc Cert.RefPleGateIdeal.main_arg0) = m ((c.tc : Thread Cert.PleGateIdeal.nD Cert.PleGateIdeal.τ).loc Cert.PleGateIdeal.main_arg0)
      ∧ m' ((c.tc : Thread Cert.RefPleGateIdeal.nD Cert.RefPleGateIdeal.τ).loc Cert.RefPleGateIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v3)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v3) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.RefPleGateIdeal.defs (F := Ideal)) (onTc (τ := Cert.RefPleGateIdeal.τ) (Cert.RefPleGateIdeal.main (F := Ideal))) ⟨m', fun _ => 0, g'⟩ (fun r => ∀ c : Dev Cert.RefPleGateIdeal.nD,
          r.2.mem ((c.tc : Thread Cert.RefPleGateIdeal.nD Cert.RefPleGateIdeal.τ).loc Cert.RefPleGateIdeal.main_v2) = v0 c
          ∧ r.2.mem ((c.tc : Thread Cert.RefPleGateIdeal.nD Cert.RefPleGateIdeal.τ).loc Cert.RefPleGateIdeal.main_arg0) = m' ((c.tc : Thread Cert.RefPleGateIdeal.nD Cert.RefPleGateIdeal.τ).loc Cert.RefPleGateIdeal.main_arg0)
          ∧ r.2.mem ((c.tc : Thread Cert.RefPleGateIdeal.nD Cert.RefPleGateIdeal.τ).loc Cert.RefPleGateIdeal.main_arg1) = m' ((c.tc : Thread Cert.RefPleGateIdeal.nD Cert.RefPleGateIdeal.τ).loc Cert.RefPleGateIdeal.main_arg1))

def preserves_PleProj_PleProjIdeal : Prop :=
  True

def algebraic_PleProjIdeal_RefPleProjIdeal [hPleProjIdeal : Cert.PleProjIdeal.Facts] [hRefPleProjIdeal : Cert.RefPleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.RefPleProjIdeal.nD Cert.RefPleProjIdeal.τ Cert.RefPleProjIdeal.sig) → Buf (Elt Ideal) ℓ) (g' : Dev Cert.RefPleProjIdeal.nD → PrngReg), Pre_PleProjIdeal m →
    (∀ c : Dev Cert.PleProjIdeal.nD,
      m' ((c.tc : Thread Cert.RefPleProjIdeal.nD Cert.RefPleProjIdeal.τ).loc Cert.RefPleProjIdeal.main_arg0) = m ((c.tc : Thread Cert.PleProjIdeal.nD Cert.PleProjIdeal.τ).loc Cert.PleProjIdeal.main_arg0)
      ∧ m' ((c.tc : Thread Cert.RefPleProjIdeal.nD Cert.RefPleProjIdeal.τ).loc Cert.RefPleProjIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v3)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v3) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.RefPleProjIdeal.defs (F := Ideal)) (onTc (τ := Cert.RefPleProjIdeal.τ) (Cert.RefPleProjIdeal.main (F := Ideal))) ⟨m', fun _ => 0, g'⟩ (fun r => ∀ c : Dev Cert.RefPleProjIdeal.nD,
          r.2.mem ((c.tc : Thread Cert.RefPleProjIdeal.nD Cert.RefPleProjIdeal.τ).loc Cert.RefPleProjIdeal.main_v2) = v0 c
          ∧ r.2.mem ((c.tc : Thread Cert.RefPleProjIdeal.nD Cert.RefPleProjIdeal.τ).loc Cert.RefPleProjIdeal.main_arg0) = m' ((c.tc : Thread Cert.RefPleProjIdeal.nD Cert.RefPleProjIdeal.τ).loc Cert.RefPleProjIdeal.main_arg0)
          ∧ r.2.mem ((c.tc : Thread Cert.RefPleProjIdeal.nD Cert.RefPleProjIdeal.τ).loc Cert.RefPleProjIdeal.main_arg1) = m' ((c.tc : Thread Cert.RefPleProjIdeal.nD Cert.RefPleProjIdeal.τ).loc Cert.RefPleProjIdeal.main_arg1))

def preserves_MixOut_MixOutIdeal : Prop :=
  True

def algebraic_MixOutIdeal_RefMixOutIdeal [hMixOutIdeal : Cert.MixOutIdeal.Facts] [hRefMixOutIdeal : Cert.RefMixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.RefMixOutIdeal.nD Cert.RefMixOutIdeal.τ Cert.RefMixOutIdeal.sig) → Buf (Elt Ideal) ℓ) (g' : Dev Cert.RefMixOutIdeal.nD → PrngReg), Pre_MixOutIdeal m →
    (∀ c : Dev Cert.MixOutIdeal.nD,
      m' ((c.tc : Thread Cert.RefMixOutIdeal.nD Cert.RefMixOutIdeal.τ).loc Cert.RefMixOutIdeal.main_arg0) = m ((c.tc : Thread Cert.MixOutIdeal.nD Cert.MixOutIdeal.τ).loc Cert.MixOutIdeal.main_arg0)
      ∧ m' ((c.tc : Thread Cert.RefMixOutIdeal.nD Cert.RefMixOutIdeal.τ).loc Cert.RefMixOutIdeal.main_arg1) = m ((c.tc : Thread Cert.MixOutIdeal.nD Cert.MixOutIdeal.τ).loc Cert.MixOutIdeal.main_arg1)
      ∧ m' ((c.tc : Thread Cert.RefMixOutIdeal.nD Cert.RefMixOutIdeal.τ).loc Cert.RefMixOutIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v4)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v4) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.RefMixOutIdeal.defs (F := Ideal)) (onTc (τ := Cert.RefMixOutIdeal.τ) (Cert.RefMixOutIdeal.main (F := Ideal))) ⟨m', fun _ => 0, g'⟩ (fun r => ∀ c : Dev Cert.RefMixOutIdeal.nD,
          r.2.mem ((c.tc : Thread Cert.RefMixOutIdeal.nD Cert.RefMixOutIdeal.τ).loc Cert.RefMixOutIdeal.main_v2) = v0 c
          ∧ r.2.mem ((c.tc : Thread Cert.RefMixOutIdeal.nD Cert.RefMixOutIdeal.τ).loc Cert.RefMixOutIdeal.main_arg0) = m' ((c.tc : Thread Cert.RefMixOutIdeal.nD Cert.RefMixOutIdeal.τ).loc Cert.RefMixOutIdeal.main_arg0)
          ∧ r.2.mem ((c.tc : Thread Cert.RefMixOutIdeal.nD Cert.RefMixOutIdeal.τ).loc Cert.RefMixOutIdeal.main_arg1) = m' ((c.tc : Thread Cert.RefMixOutIdeal.nD Cert.RefMixOutIdeal.τ).loc Cert.RefMixOutIdeal.main_arg1)
          ∧ r.2.mem ((c.tc : Thread Cert.RefMixOutIdeal.nD Cert.RefMixOutIdeal.τ).loc Cert.RefMixOutIdeal.main_arg2) = m' ((c.tc : Thread Cert.RefMixOutIdeal.nD Cert.RefMixOutIdeal.τ).loc Cert.RefMixOutIdeal.main_arg2))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)
      ∧ m' ((c.tc : Thread Cert.RefDownIdeal.nD Cert.RefDownIdeal.τ).loc Cert.RefDownIdeal.main_arg3) = m ((c.tc : Thread Cert.DownIdeal.nD Cert.DownIdeal.τ).loc Cert.DownIdeal.main_arg3)
      ∧ m' ((c.tc : Thread Cert.RefDownIdeal.nD Cert.RefDownIdeal.τ).loc Cert.RefDownIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v16)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v16) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v6) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2)
          ∧ r.2.mem ((c.tc : Thread Cert.RefDownIdeal.nD Cert.RefDownIdeal.τ).loc Cert.RefDownIdeal.main_arg3) = m' ((c.tc : Thread Cert.RefDownIdeal.nD Cert.RefDownIdeal.τ).loc Cert.RefDownIdeal.main_arg3)
          ∧ r.2.mem ((c.tc : Thread Cert.RefDownIdeal.nD Cert.RefDownIdeal.τ).loc Cert.RefDownIdeal.main_arg4) = m' ((c.tc : Thread Cert.RefDownIdeal.nD Cert.RefDownIdeal.τ).loc Cert.RefDownIdeal.main_arg4))

def preserves_GateUp_GateUpIdeal : Prop :=
  True

def algebraic_GateUpIdeal_RefGateUpIdeal [hGateUpIdeal : Cert.GateUpIdeal.Facts] [hRefGateUpIdeal : Cert.RefGateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.RefGateUpIdeal.nD Cert.RefGateUpIdeal.τ Cert.RefGateUpIdeal.sig) → Buf (Elt Ideal) ℓ) (g' : Dev Cert.RefGateUpIdeal.nD → PrngReg), Pre_GateUpIdeal m →
    (∀ c : Dev Cert.GateUpIdeal.nD,
      m' ((c.tc : Thread Cert.RefGateUpIdeal.nD Cert.RefGateUpIdeal.τ).loc Cert.RefGateUpIdeal.main_arg0) = m ((c.tc : Thread Cert.GateUpIdeal.nD Cert.GateUpIdeal.τ).loc Cert.GateUpIdeal.main_arg0)
      ∧ m' ((c.tc : Thread Cert.RefGateUpIdeal.nD Cert.RefGateUpIdeal.τ).loc Cert.RefGateUpIdeal.main_arg1) = m ((c.tc : Thread Cert.GateUpIdeal.nD Cert.GateUpIdeal.τ).loc Cert.GateUpIdeal.main_arg1)
      ∧ m' ((c.tc : Thread Cert.RefGateUpIdeal.nD Cert.RefGateUpIdeal.τ).loc Cert.RefGateUpIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v11_0)) (v1 : (c : Dev Cert.GateUpIdeal.nD) → Buf (Elt Ideal) ((c.tc : Thread Cert.GateUpIdeal.nD Cert.GateUpIdeal.τ).loc Cert.GateUpIdeal.main_v11_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v11_0) = v0 c
          ∧ r.2.mem ((c.tc : Thread Cert.GateUpIdeal.nD Cert.GateUpIdeal.τ).loc Cert.GateUpIdeal.main_v11_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.RefGateUpIdeal.defs (F := Ideal)) (onTc (τ := Cert.RefGateUpIdeal.τ) (Cert.RefGateUpIdeal.main (F := Ideal))) ⟨m', fun _ => 0, g'⟩ (fun r => ∀ c : Dev Cert.RefGateUpIdeal.nD,
          r.2.mem ((c.tc : Thread Cert.RefGateUpIdeal.nD Cert.RefGateUpIdeal.τ).loc Cert.RefGateUpIdeal.main_v11) = v0 c
          ∧ r.2.mem ((c.tc : Thread Cert.RefGateUpIdeal.nD Cert.RefGateUpIdeal.τ).loc Cert.RefGateUpIdeal.main_v13) = v1 c
          ∧ r.2.mem ((c.tc : Thread Cert.RefGateUpIdeal.nD Cert.RefGateUpIdeal.τ).loc Cert.RefGateUpIdeal.main_arg0) = m' ((c.tc : Thread Cert.RefGateUpIdeal.nD Cert.RefGateUpIdeal.τ).loc Cert.RefGateUpIdeal.main_arg0)
          ∧ r.2.mem ((c.tc : Thread Cert.RefGateUpIdeal.nD Cert.RefGateUpIdeal.τ).loc Cert.RefGateUpIdeal.main_arg1) = m' ((c.tc : Thread Cert.RefGateUpIdeal.nD Cert.RefGateUpIdeal.τ).loc Cert.RefGateUpIdeal.main_arg1)
          ∧ r.2.mem ((c.tc : Thread Cert.RefGateUpIdeal.nD Cert.RefGateUpIdeal.τ).loc Cert.RefGateUpIdeal.main_arg2) = m' ((c.tc : Thread Cert.RefGateUpIdeal.nD Cert.RefGateUpIdeal.τ).loc Cert.RefGateUpIdeal.main_arg2))

def preserves_GradX_GradXIdeal : Prop :=
  True

def algebraic_GradXIdeal_RefGradXIdeal [hGradXIdeal : Cert.GradXIdeal.Facts] [hRefGradXIdeal : Cert.RefGradXIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.RefGradXIdeal.nD Cert.RefGradXIdeal.τ Cert.RefGradXIdeal.sig) → Buf (Elt Ideal) ℓ) (g' : Dev Cert.RefGradXIdeal.nD → PrngReg), Pre_GradXIdeal m →
    (∀ c : Dev Cert.GradXIdeal.nD,
      m' ((c.tc : Thread Cert.RefGradXIdeal.nD Cert.RefGradXIdeal.τ).loc Cert.RefGradXIdeal.main_arg0) = m ((c.tc : Thread Cert.GradXIdeal.nD Cert.GradXIdeal.τ).loc Cert.GradXIdeal.main_arg0)
      ∧ m' ((c.tc : Thread Cert.RefGradXIdeal.nD Cert.RefGradXIdeal.τ).loc Cert.RefGradXIdeal.main_arg1) = m ((c.tc : Thread Cert.GradXIdeal.nD Cert.GradXIdeal.τ).loc Cert.GradXIdeal.main_arg1)
      ∧ m' ((c.tc : Thread Cert.RefGradXIdeal.nD Cert.RefGradXIdeal.τ).loc Cert.RefGradXIdeal.main_arg2) = m ((c.tc : Thread Cert.GradXIdeal.nD Cert.GradXIdeal.τ).loc Cert.GradXIdeal.main_arg2)
      ∧ m' ((c.tc : Thread Cert.RefGradXIdeal.nD Cert.RefGradXIdeal.τ).loc Cert.RefGradXIdeal.main_arg3) = m ((c.tc : Thread Cert.GradXIdeal.nD Cert.GradXIdeal.τ).loc Cert.GradXIdeal.main_arg3)
      ∧ m' ((c.tc : Thread Cert.RefGradXIdeal.nD Cert.RefGradXIdeal.τ).loc Cert.RefGradXIdeal.main_arg4) = m ((c.tc : Thread Cert.GradXIdeal.nD Cert.GradXIdeal.τ).loc Cert.GradXIdeal.main_arg4)) →
    ∃ (v0 : (c : Dev Cert.GradXIdeal.nD) → Buf (Elt Ideal) ((c.tc : Thread Cert.GradXIdeal.nD Cert.GradXIdeal.τ).loc Cert.GradXIdeal.main_v5_0)) (v1 : (c : Dev Cert.GradXIdeal.nD) → Buf (Elt Ideal) ((c.tc : Thread Cert.GradXIdeal.nD Cert.GradXIdeal.τ).loc Cert.GradXIdeal.main_v5_1)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v5_0) = v0 c
          ∧ r.2.mem ((c.tc : Thread Cert.GradXIdeal.nD Cert.GradXIdeal.τ).loc Cert.GradXIdeal.main_v5_1) = v1 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ θ_run (Cert.RefGradXIdeal.defs (F := Ideal)) (onTc (τ := Cert.RefGradXIdeal.τ) (Cert.RefGradXIdeal.main (F := Ideal))) ⟨m', fun _ => 0, g'⟩ (fun r => ∀ c : Dev Cert.RefGradXIdeal.nD,
          r.2.mem ((c.tc : Thread Cert.RefGradXIdeal.nD Cert.RefGradXIdeal.τ).loc Cert.RefGradXIdeal.main_v39) = v0 c
          ∧ r.2.mem ((c.tc : Thread Cert.RefGradXIdeal.nD Cert.RefGradXIdeal.τ).loc Cert.RefGradXIdeal.main_v40) = v1 c
          ∧ r.2.mem ((c.tc : Thread Cert.RefGradXIdeal.nD Cert.RefGradXIdeal.τ).loc Cert.RefGradXIdeal.main_arg0) = m' ((c.tc : Thread Cert.RefGradXIdeal.nD Cert.RefGradXIdeal.τ).loc Cert.RefGradXIdeal.main_arg0)
          ∧ r.2.mem ((c.tc : Thread Cert.RefGradXIdeal.nD Cert.RefGradXIdeal.τ).loc Cert.RefGradXIdeal.main_arg1) = m' ((c.tc : Thread Cert.RefGradXIdeal.nD Cert.RefGradXIdeal.τ).loc Cert.RefGradXIdeal.main_arg1)
          ∧ r.2.mem ((c.tc : Thread Cert.RefGradXIdeal.nD Cert.RefGradXIdeal.τ).loc Cert.RefGradXIdeal.main_arg2) = m' ((c.tc : Thread Cert.RefGradXIdeal.nD Cert.RefGradXIdeal.τ).loc Cert.RefGradXIdeal.main_arg2)
          ∧ r.2.mem ((c.tc : Thread Cert.RefGradXIdeal.nD Cert.RefGradXIdeal.τ).loc Cert.RefGradXIdeal.main_arg3) = m' ((c.tc : Thread Cert.RefGradXIdeal.nD Cert.RefGradXIdeal.τ).loc Cert.RefGradXIdeal.main_arg3)
          ∧ r.2.mem ((c.tc : Thread Cert.RefGradXIdeal.nD Cert.RefGradXIdeal.τ).loc Cert.RefGradXIdeal.main_arg4) = m' ((c.tc : Thread Cert.RefGradXIdeal.nD Cert.RefGradXIdeal.τ).loc Cert.RefGradXIdeal.main_arg4))

def preserves_RmsBwd_RmsBwdIdeal : Prop :=
  True

def algebraic_RmsBwdIdeal_RefRmsBwdIdeal [hRmsBwdIdeal : Cert.RmsBwdIdeal.Facts] [hRefRmsBwdIdeal : Cert.RefRmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RefRmsBwdIdeal.nD Cert.RefRmsBwdIdeal.τ Cert.RefRmsBwdIdeal.sig) → Buf (Elt Ideal) ℓ) (g' : Dev Cert.RefRmsBwdIdeal.nD → PrngReg), Pre_RmsBwdIdeal m →
    (∀ c : Dev Cert.RmsBwdIdeal.nD,
      m' ((c.tc : Thread Cert.RefRmsBwdIdeal.nD Cert.RefRmsBwdIdeal.τ).loc Cert.RefRmsBwdIdeal.main_arg0) = m ((c.tc : Thread Cert.RmsBwdIdeal.nD Cert.RmsBwdIdeal.τ).loc Cert.RmsBwdIdeal.main_arg0)
      ∧ m' ((c.tc : Thread Cert.RefRmsBwdIdeal.nD Cert.RefRmsBwdIdeal.τ).loc Cert.RefRmsBwdIdeal.main_arg1) = m ((c.tc : Thread Cert.RmsBwdIdeal.nD Cert.RmsBwdIdeal.τ).loc Cert.RmsBwdIdeal.main_arg1)
      ∧ m' ((c.tc : Thread Cert.RefRmsBwdIdeal.nD Cert.RefRmsBwdIdeal.τ).loc Cert.RefRmsBwdIdeal.main_arg2) = m ((c.tc : Thread Cert.RmsBwdIdeal.nD Cert.RmsBwdIdeal.τ).loc Cert.RmsBwdIdeal.main_arg2)
      ∧ m' ((c.tc : Thread Cert.RefRmsBwdIdeal.nD Cert.RefRmsBwdIdeal.τ).loc Cert.RefRmsBwdIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v4_0)) (v1 : (c : Dev Cert.RmsBwdIdeal.nD) → Buf (Elt Ideal) ((c.tc : Thread Cert.RmsBwdIdeal.nD Cert.RmsBwdIdeal.τ).loc Cert.RmsBwdIdeal.main_v4_1)) (v2 : (c : Dev Cert.RmsBwdIdeal.nD) → Buf (Elt Ideal) ((c.tc : Thread Cert.RmsBwdIdeal.nD Cert.RmsBwdIdeal.τ).loc Cert.RmsBwdIdeal.main_v4_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v4_0) = v0 c
          ∧ r.2.mem ((c.tc : Thread Cert.RmsBwdIdeal.nD Cert.RmsBwdIdeal.τ).loc Cert.RmsBwdIdeal.main_v4_1) = v1 c
          ∧ r.2.mem ((c.tc : Thread Cert.RmsBwdIdeal.nD Cert.RmsBwdIdeal.τ).loc Cert.RmsBwdIdeal.main_v4_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RefRmsBwdIdeal.defs (F := Ideal)) (onTc (τ := Cert.RefRmsBwdIdeal.τ) (Cert.RefRmsBwdIdeal.main (F := Ideal))) ⟨m', fun _ => 0, g'⟩ (fun r => ∀ c : Dev Cert.RefRmsBwdIdeal.nD,
          r.2.mem ((c.tc : Thread Cert.RefRmsBwdIdeal.nD Cert.RefRmsBwdIdeal.τ).loc Cert.RefRmsBwdIdeal.main_v38) = v0 c
          ∧ r.2.mem ((c.tc : Thread Cert.RefRmsBwdIdeal.nD Cert.RefRmsBwdIdeal.τ).loc Cert.RefRmsBwdIdeal.main_v39) = v1 c
          ∧ r.2.mem ((c.tc : Thread Cert.RefRmsBwdIdeal.nD Cert.RefRmsBwdIdeal.τ).loc Cert.RefRmsBwdIdeal.main_v40) = v2 c
          ∧ r.2.mem ((c.tc : Thread Cert.RefRmsBwdIdeal.nD Cert.RefRmsBwdIdeal.τ).loc Cert.RefRmsBwdIdeal.main_arg0) = m' ((c.tc : Thread Cert.RefRmsBwdIdeal.nD Cert.RefRmsBwdIdeal.τ).loc Cert.RefRmsBwdIdeal.main_arg0)
          ∧ r.2.mem ((c.tc : Thread Cert.RefRmsBwdIdeal.nD Cert.RefRmsBwdIdeal.τ).loc Cert.RefRmsBwdIdeal.main_arg1) = m' ((c.tc : Thread Cert.RefRmsBwdIdeal.nD Cert.RefRmsBwdIdeal.τ).loc Cert.RefRmsBwdIdeal.main_arg1)
          ∧ r.2.mem ((c.tc : Thread Cert.RefRmsBwdIdeal.nD Cert.RefRmsBwdIdeal.τ).loc Cert.RefRmsBwdIdeal.main_arg2) = m' ((c.tc : Thread Cert.RefRmsBwdIdeal.nD Cert.RefRmsBwdIdeal.τ).loc Cert.RefRmsBwdIdeal.main_arg2)
          ∧ r.2.mem ((c.tc : Thread Cert.RefRmsBwdIdeal.nD Cert.RefRmsBwdIdeal.τ).loc Cert.RefRmsBwdIdeal.main_arg3) = m' ((c.tc : Thread Cert.RefRmsBwdIdeal.nD Cert.RefRmsBwdIdeal.τ).loc Cert.RefRmsBwdIdeal.main_arg3))

def preserves_RmsMixBwd_RmsMixBwdIdeal : Prop :=
  True

def algebraic_RmsMixBwdIdeal_RefRmsMixBwdIdeal [hRmsMixBwdIdeal : Cert.RmsMixBwdIdeal.Facts] [hRefRmsMixBwdIdeal : Cert.RefRmsMixBwdIdeal.Facts] : Prop :=
  ∀ (m : (ℓ : Loc Cert.RmsMixBwdIdeal.nD Cert.RmsMixBwdIdeal.τ Cert.RmsMixBwdIdeal.sig) → Buf (Elt Ideal) ℓ) (g : Dev Cert.RmsMixBwdIdeal.nD → PrngReg)
    (m' : (ℓ : Loc Cert.RefRmsMixBwdIdeal.nD Cert.RefRmsMixBwdIdeal.τ Cert.RefRmsMixBwdIdeal.sig) → Buf (Elt Ideal) ℓ) (g' : Dev Cert.RefRmsMixBwdIdeal.nD → PrngReg), Pre_RmsMixBwdIdeal m →
    (∀ c : Dev Cert.RmsMixBwdIdeal.nD,
      m' ((c.tc : Thread Cert.RefRmsMixBwdIdeal.nD Cert.RefRmsMixBwdIdeal.τ).loc Cert.RefRmsMixBwdIdeal.main_arg0) = m ((c.tc : Thread Cert.RmsMixBwdIdeal.nD Cert.RmsMixBwdIdeal.τ).loc Cert.RmsMixBwdIdeal.main_arg0)
      ∧ m' ((c.tc : Thread Cert.RefRmsMixBwdIdeal.nD Cert.RefRmsMixBwdIdeal.τ).loc Cert.RefRmsMixBwdIdeal.main_arg1) = m ((c.tc : Thread Cert.RmsMixBwdIdeal.nD Cert.RmsMixBwdIdeal.τ).loc Cert.RmsMixBwdIdeal.main_arg1)
      ∧ m' ((c.tc : Thread Cert.RefRmsMixBwdIdeal.nD Cert.RefRmsMixBwdIdeal.τ).loc Cert.RefRmsMixBwdIdeal.main_arg2) = m ((c.tc : Thread Cert.RmsMixBwdIdeal.nD Cert.RmsMixBwdIdeal.τ).loc Cert.RmsMixBwdIdeal.main_arg2)
      ∧ m' ((c.tc : Thread Cert.RefRmsMixBwdIdeal.nD Cert.RefRmsMixBwdIdeal.τ).loc Cert.RefRmsMixBwdIdeal.main_arg3) = m ((c.tc : Thread Cert.RmsMixBwdIdeal.nD Cert.RmsMixBwdIdeal.τ).loc Cert.RmsMixBwdIdeal.main_arg3)) →
    ∃ (v0 : (c : Dev Cert.RmsMixBwdIdeal.nD) → Buf (Elt Ideal) ((c.tc : Thread Cert.RmsMixBwdIdeal.nD Cert.RmsMixBwdIdeal.τ).loc Cert.RmsMixBwdIdeal.main_v4_0)) (v1 : (c : Dev Cert.RmsMixBwdIdeal.nD) → Buf (Elt Ideal) ((c.tc : Thread Cert.RmsMixBwdIdeal.nD Cert.RmsMixBwdIdeal.τ).loc Cert.RmsMixBwdIdeal.main_v4_1)),
      θ_run (Cert.RmsMixBwdIdeal.defs (F := Ideal)) (onTc (τ := Cert.RmsMixBwdIdeal.τ) (Cert.RmsMixBwdIdeal.main (F := Ideal))) ⟨m, fun _ => 0, g⟩ (fun r => ∀ c : Dev Cert.RmsMixBwdIdeal.nD,
          r.2.mem ((c.tc : Thread Cert.RmsMixBwdIdeal.nD Cert.RmsMixBwdIdeal.τ).loc Cert.RmsMixBwdIdeal.main_v4_0) = v0 c
          ∧ r.2.mem ((c.tc : Thread Cert.RmsMixBwdIdeal.nD Cert.RmsMixBwdIdeal.τ).loc Cert.RmsMixBwdIdeal.main_v4_1) = v1 c
          ∧ r.2.mem ((c.tc : Thread Cert.RmsMixBwdIdeal.nD Cert.RmsMixBwdIdeal.τ).loc Cert.RmsMixBwdIdeal.main_arg0) = m ((c.tc : Thread Cert.RmsMixBwdIdeal.nD Cert.RmsMixBwdIdeal.τ).loc Cert.RmsMixBwdIdeal.main_arg0)
          ∧ r.2.mem ((c.tc : Thread Cert.RmsMixBwdIdeal.nD Cert.RmsMixBwdIdeal.τ).loc Cert.RmsMixBwdIdeal.main_arg1) = m ((c.tc : Thread Cert.RmsMixBwdIdeal.nD Cert.RmsMixBwdIdeal.τ).loc Cert.RmsMixBwdIdeal.main_arg1)
          ∧ r.2.mem ((c.tc : Thread Cert.RmsMixBwdIdeal.nD Cert.RmsMixBwdIdeal.τ).loc Cert.RmsMixBwdIdeal.main_arg2) = m ((c.tc : Thread Cert.RmsMixBwdIdeal.nD Cert.RmsMixBwdIdeal.τ).loc Cert.RmsMixBwdIdeal.main_arg2)
          ∧ r.2.mem ((c.tc : Thread Cert.RmsMixBwdIdeal.nD Cert.RmsMixBwdIdeal.τ).loc Cert.RmsMixBwdIdeal.main_arg3) = m ((c.tc : Thread Cert.RmsMixBwdIdeal.nD Cert.RmsMixBwdIdeal.τ).loc Cert.RmsMixBwdIdeal.main_arg3))
      ∧ θ_run (Cert.RefRmsMixBwdIdeal.defs (F := Ideal)) (onTc (τ := Cert.RefRmsMixBwdIdeal.τ) (Cert.RefRmsMixBwdIdeal.main (F := Ideal))) ⟨m', fun _ => 0, g'⟩ (fun r => ∀ c : Dev Cert.RefRmsMixBwdIdeal.nD,
          r.2.mem ((c.tc : Thread Cert.RefRmsMixBwdIdeal.nD Cert.RefRmsMixBwdIdeal.τ).loc Cert.RefRmsMixBwdIdeal.main_v38) = v0 c
          ∧ r.2.mem ((c.tc : Thread Cert.RefRmsMixBwdIdeal.nD Cert.RefRmsMixBwdIdeal.τ).loc Cert.RefRmsMixBwdIdeal.main_v39) = v1 c
          ∧ r.2.mem ((c.tc : Thread Cert.RefRmsMixBwdIdeal.nD Cert.RefRmsMixBwdIdeal.τ).loc Cert.RefRmsMixBwdIdeal.main_arg0) = m' ((c.tc : Thread Cert.RefRmsMixBwdIdeal.nD Cert.RefRmsMixBwdIdeal.τ).loc Cert.RefRmsMixBwdIdeal.main_arg0)
          ∧ r.2.mem ((c.tc : Thread Cert.RefRmsMixBwdIdeal.nD Cert.RefRmsMixBwdIdeal.τ).loc Cert.RefRmsMixBwdIdeal.main_arg1) = m' ((c.tc : Thread Cert.RefRmsMixBwdIdeal.nD Cert.RefRmsMixBwdIdeal.τ).loc Cert.RefRmsMixBwdIdeal.main_arg1)
          ∧ r.2.mem ((c.tc : Thread Cert.RefRmsMixBwdIdeal.nD Cert.RefRmsMixBwdIdeal.τ).loc Cert.RefRmsMixBwdIdeal.main_arg2) = m' ((c.tc : Thread Cert.RefRmsMixBwdIdeal.nD Cert.RefRmsMixBwdIdeal.τ).loc Cert.RefRmsMixBwdIdeal.main_arg2)
          ∧ r.2.mem ((c.tc : Thread Cert.RefRmsMixBwdIdeal.nD Cert.RefRmsMixBwdIdeal.τ).loc Cert.RefRmsMixBwdIdeal.main_arg3) = m' ((c.tc : Thread Cert.RefRmsMixBwdIdeal.nD Cert.RefRmsMixBwdIdeal.τ).loc Cert.RefRmsMixBwdIdeal.main_arg3))

def preserves_PleBwd_PleBwdIdeal : Prop :=
  True

def algebraic_PleBwdIdeal_RefPleBwdIdeal [hPleBwdIdeal : Cert.PleBwdIdeal.Facts] [hRefPleBwdIdeal : Cert.RefPleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.RefPleBwdIdeal.nD Cert.RefPleBwdIdeal.τ Cert.RefPleBwdIdeal.sig) → Buf (Elt Ideal) ℓ) (g' : Dev Cert.RefPleBwdIdeal.nD → PrngReg), Pre_PleBwdIdeal m →
    (∀ c : Dev Cert.PleBwdIdeal.nD,
      m' ((c.tc : Thread Cert.RefPleBwdIdeal.nD Cert.RefPleBwdIdeal.τ).loc Cert.RefPleBwdIdeal.main_arg0) = m ((c.tc : Thread Cert.PleBwdIdeal.nD Cert.PleBwdIdeal.τ).loc Cert.PleBwdIdeal.main_arg0)
      ∧ m' ((c.tc : Thread Cert.RefPleBwdIdeal.nD Cert.RefPleBwdIdeal.τ).loc Cert.RefPleBwdIdeal.main_arg1) = m ((c.tc : Thread Cert.PleBwdIdeal.nD Cert.PleBwdIdeal.τ).loc Cert.PleBwdIdeal.main_arg1)
      ∧ m' ((c.tc : Thread Cert.RefPleBwdIdeal.nD Cert.RefPleBwdIdeal.τ).loc Cert.RefPleBwdIdeal.main_arg2) = m ((c.tc : Thread Cert.PleBwdIdeal.nD Cert.PleBwdIdeal.τ).loc Cert.PleBwdIdeal.main_arg2)
      ∧ m' ((c.tc : Thread Cert.RefPleBwdIdeal.nD Cert.RefPleBwdIdeal.τ).loc Cert.RefPleBwdIdeal.main_arg3) = m ((c.tc : Thread Cert.PleBwdIdeal.nD Cert.PleBwdIdeal.τ).loc Cert.PleBwdIdeal.main_arg3)) →
    ∃ (v0 : (c : Dev Cert.PleBwdIdeal.nD) → Buf (Elt Ideal) ((c.tc : Thread Cert.PleBwdIdeal.nD Cert.PleBwdIdeal.τ).loc Cert.PleBwdIdeal.main_v5_0)) (v1 : (c : Dev Cert.PleBwdIdeal.nD) → Buf (Elt Ideal) ((c.tc : Thread Cert.PleBwdIdeal.nD Cert.PleBwdIdeal.τ).loc Cert.PleBwdIdeal.main_v5_1)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v5_0) = v0 c
          ∧ r.2.mem ((c.tc : Thread Cert.PleBwdIdeal.nD Cert.PleBwdIdeal.τ).loc Cert.PleBwdIdeal.main_v5_1) = v1 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
          ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3))
      ∧ θ_run (Cert.RefPleBwdIdeal.defs (F := Ideal)) (onTc (τ := Cert.RefPleBwdIdeal.τ) (Cert.RefPleBwdIdeal.main (F := Ideal))) ⟨m', fun _ => 0, g'⟩ (fun r => ∀ c : Dev Cert.RefPleBwdIdeal.nD,
          r.2.mem ((c.tc : Thread Cert.RefPleBwdIdeal.nD Cert.RefPleBwdIdeal.τ).loc Cert.RefPleBwdIdeal.main_v16) = v0 c
          ∧ r.2.mem ((c.tc : Thread Cert.RefPleBwdIdeal.nD Cert.RefPleBwdIdeal.τ).loc Cert.RefPleBwdIdeal.main_v18) = v1 c
          ∧ r.2.mem ((c.tc : Thread Cert.RefPleBwdIdeal.nD Cert.RefPleBwdIdeal.τ).loc Cert.RefPleBwdIdeal.main_arg0) = m' ((c.tc : Thread Cert.RefPleBwdIdeal.nD Cert.RefPleBwdIdeal.τ).loc Cert.RefPleBwdIdeal.main_arg0)
          ∧ r.2.mem ((c.tc : Thread Cert.RefPleBwdIdeal.nD Cert.RefPleBwdIdeal.τ).loc Cert.RefPleBwdIdeal.main_arg1) = m' ((c.tc : Thread Cert.RefPleBwdIdeal.nD Cert.RefPleBwdIdeal.τ).loc Cert.RefPleBwdIdeal.main_arg1)
          ∧ r.2.mem ((c.tc : Thread Cert.RefPleBwdIdeal.nD Cert.RefPleBwdIdeal.τ).loc Cert.RefPleBwdIdeal.main_arg2) = m' ((c.tc : Thread Cert.RefPleBwdIdeal.nD Cert.RefPleBwdIdeal.τ).loc Cert.RefPleBwdIdeal.main_arg2)
          ∧ r.2.mem ((c.tc : Thread Cert.RefPleBwdIdeal.nD Cert.RefPleBwdIdeal.τ).loc Cert.RefPleBwdIdeal.main_arg3) = m' ((c.tc : Thread Cert.RefPleBwdIdeal.nD Cert.RefPleBwdIdeal.τ).loc Cert.RefPleBwdIdeal.main_arg3))

def preserves_Loss_LossIdeal : Prop :=
  True

def algebraic_LossIdeal_RefLossIdeal [hLossIdeal : Cert.LossIdeal.Facts] [hRefLossIdeal : Cert.RefLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.RefLossIdeal.nD Cert.RefLossIdeal.τ Cert.RefLossIdeal.sig) → Buf (Elt Ideal) ℓ) (g' : Dev Cert.RefLossIdeal.nD → PrngReg), Pre_LossIdeal m →
    (∀ c : Dev Cert.LossIdeal.nD,
      m' ((c.tc : Thread Cert.RefLossIdeal.nD Cert.RefLossIdeal.τ).loc Cert.RefLossIdeal.main_arg0) = m ((c.tc : Thread Cert.LossIdeal.nD Cert.LossIdeal.τ).loc Cert.LossIdeal.main_arg0)
      ∧ m' ((c.tc : Thread Cert.RefLossIdeal.nD Cert.RefLossIdeal.τ).loc Cert.RefLossIdeal.main_arg1) = m ((c.tc : Thread Cert.LossIdeal.nD Cert.LossIdeal.τ).loc Cert.LossIdeal.main_arg1)
      ∧ m' ((c.tc : Thread Cert.RefLossIdeal.nD Cert.RefLossIdeal.τ).loc Cert.RefLossIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.RefLossIdeal.defs (F := Ideal)) (onTc (τ := Cert.RefLossIdeal.τ) (Cert.RefLossIdeal.main (F := Ideal))) ⟨m', fun _ => 0, g'⟩ (fun r => ∀ c : Dev Cert.RefLossIdeal.nD,
          r.2.mem ((c.tc : Thread Cert.RefLossIdeal.nD Cert.RefLossIdeal.τ).loc Cert.RefLossIdeal.main_v52) = v0 c
          ∧ r.2.mem ((c.tc : Thread Cert.RefLossIdeal.nD Cert.RefLossIdeal.τ).loc Cert.RefLossIdeal.main_v53) = v1 c
          ∧ r.2.mem ((c.tc : Thread Cert.RefLossIdeal.nD Cert.RefLossIdeal.τ).loc Cert.RefLossIdeal.main_v54) = v2 c
          ∧ r.2.mem ((c.tc : Thread Cert.RefLossIdeal.nD Cert.RefLossIdeal.τ).loc Cert.RefLossIdeal.main_arg0) = m' ((c.tc : Thread Cert.RefLossIdeal.nD Cert.RefLossIdeal.τ).loc Cert.RefLossIdeal.main_arg0)
          ∧ r.2.mem ((c.tc : Thread Cert.RefLossIdeal.nD Cert.RefLossIdeal.τ).loc Cert.RefLossIdeal.main_arg1) = m' ((c.tc : Thread Cert.RefLossIdeal.nD Cert.RefLossIdeal.τ).loc Cert.RefLossIdeal.main_arg1)
          ∧ r.2.mem ((c.tc : Thread Cert.RefLossIdeal.nD Cert.RefLossIdeal.τ).loc Cert.RefLossIdeal.main_arg2) = m' ((c.tc : Thread Cert.RefLossIdeal.nD Cert.RefLossIdeal.τ).loc Cert.RefLossIdeal.main_arg2))

def preserves_RmsFwd_RmsFwdIdeal : Prop :=
  True

def algebraic_RmsFwdIdeal_RefRmsFwdIdeal [hRmsFwdIdeal : Cert.RmsFwdIdeal.Facts] [hRefRmsFwdIdeal : Cert.RefRmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RefRmsFwdIdeal.nD Cert.RefRmsFwdIdeal.τ Cert.RefRmsFwdIdeal.sig) → Buf (Elt Ideal) ℓ) (g' : Dev Cert.RefRmsFwdIdeal.nD → PrngReg), Pre_RmsFwdIdeal m →
    (∀ c : Dev Cert.RmsFwdIdeal.nD,
      m' ((c.tc : Thread Cert.RefRmsFwdIdeal.nD Cert.RefRmsFwdIdeal.τ).loc Cert.RefRmsFwdIdeal.main_arg0) = m ((c.tc : Thread Cert.RmsFwdIdeal.nD Cert.RmsFwdIdeal.τ).loc Cert.RmsFwdIdeal.main_arg0)
      ∧ m' ((c.tc : Thread Cert.RefRmsFwdIdeal.nD Cert.RefRmsFwdIdeal.τ).loc Cert.RefRmsFwdIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v2)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v2) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RefRmsFwdIdeal.defs (F := Ideal)) (onTc (τ := Cert.RefRmsFwdIdeal.τ) (Cert.RefRmsFwdIdeal.main (F := Ideal))) ⟨m', fun _ => 0, g'⟩ (fun r => ∀ c : Dev Cert.RefRmsFwdIdeal.nD,
          r.2.mem ((c.tc : Thread Cert.RefRmsFwdIdeal.nD Cert.RefRmsFwdIdeal.τ).loc Cert.RefRmsFwdIdeal.main_v14) = v0 c
          ∧ r.2.mem ((c.tc : Thread Cert.RefRmsFwdIdeal.nD Cert.RefRmsFwdIdeal.τ).loc Cert.RefRmsFwdIdeal.main_arg0) = m' ((c.tc : Thread Cert.RefRmsFwdIdeal.nD Cert.RefRmsFwdIdeal.τ).loc Cert.RefRmsFwdIdeal.main_arg0)
          ∧ r.2.mem ((c.tc : Thread Cert.RefRmsFwdIdeal.nD Cert.RefRmsFwdIdeal.τ).loc Cert.RefRmsFwdIdeal.main_arg1) = m' ((c.tc : Thread Cert.RefRmsFwdIdeal.nD Cert.RefRmsFwdIdeal.τ).loc Cert.RefRmsFwdIdeal.main_arg1))

def preserves_PleFwd_PleFwdIdeal : Prop :=
  True

def algebraic_PleFwdIdeal_RefPleFwdIdeal [hPleFwdIdeal : Cert.PleFwdIdeal.Facts] [hRefPleFwdIdeal : Cert.RefPleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.RefPleFwdIdeal.nD Cert.RefPleFwdIdeal.τ Cert.RefPleFwdIdeal.sig) → Buf (Elt Ideal) ℓ) (g' : Dev Cert.RefPleFwdIdeal.nD → PrngReg), Pre_PleFwdIdeal m →
    (∀ c : Dev Cert.PleFwdIdeal.nD,
      m' ((c.tc : Thread Cert.RefPleFwdIdeal.nD Cert.RefPleFwdIdeal.τ).loc Cert.RefPleFwdIdeal.main_arg0) = m ((c.tc : Thread Cert.PleFwdIdeal.nD Cert.PleFwdIdeal.τ).loc Cert.PleFwdIdeal.main_arg0)
      ∧ m' ((c.tc : Thread Cert.RefPleFwdIdeal.nD Cert.RefPleFwdIdeal.τ).loc Cert.RefPleFwdIdeal.main_arg1) = m ((c.tc : Thread Cert.PleFwdIdeal.nD Cert.PleFwdIdeal.τ).loc Cert.PleFwdIdeal.main_arg1)
      ∧ m' ((c.tc : Thread Cert.RefPleFwdIdeal.nD Cert.RefPleFwdIdeal.τ).loc Cert.RefPleFwdIdeal.main_arg2) = m ((c.tc : Thread Cert.PleFwdIdeal.nD Cert.PleFwdIdeal.τ).loc Cert.PleFwdIdeal.main_arg2)) →
    ∃ (v0 : (c : Dev Cert.PleFwdIdeal.nD) → Buf (Elt Ideal) ((c.tc : Thread Cert.PleFwdIdeal.nD Cert.PleFwdIdeal.τ).loc Cert.PleFwdIdeal.main_v5)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v5) = v0 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2))
      ∧ θ_run (Cert.RefPleFwdIdeal.defs (F := Ideal)) (onTc (τ := Cert.RefPleFwdIdeal.τ) (Cert.RefPleFwdIdeal.main (F := Ideal))) ⟨m', fun _ => 0, g'⟩ (fun r => ∀ c : Dev Cert.RefPleFwdIdeal.nD,
          r.2.mem ((c.tc : Thread Cert.RefPleFwdIdeal.nD Cert.RefPleFwdIdeal.τ).loc Cert.RefPleFwdIdeal.main_v8) = v0 c
          ∧ r.2.mem ((c.tc : Thread Cert.RefPleFwdIdeal.nD Cert.RefPleFwdIdeal.τ).loc Cert.RefPleFwdIdeal.main_arg0) = m' ((c.tc : Thread Cert.RefPleFwdIdeal.nD Cert.RefPleFwdIdeal.τ).loc Cert.RefPleFwdIdeal.main_arg0)
          ∧ r.2.mem ((c.tc : Thread Cert.RefPleFwdIdeal.nD Cert.RefPleFwdIdeal.τ).loc Cert.RefPleFwdIdeal.main_arg1) = m' ((c.tc : Thread Cert.RefPleFwdIdeal.nD Cert.RefPleFwdIdeal.τ).loc Cert.RefPleFwdIdeal.main_arg1)
          ∧ r.2.mem ((c.tc : Thread Cert.RefPleFwdIdeal.nD Cert.RefPleFwdIdeal.τ).loc Cert.RefPleFwdIdeal.main_arg2) = m' ((c.tc : Thread Cert.RefPleFwdIdeal.nD Cert.RefPleFwdIdeal.τ).loc Cert.RefPleFwdIdeal.main_arg2))

def preserves_PleNorm_PleNormIdeal : Prop :=
  True

def algebraic_PleNormIdeal_RefPleNormIdeal [hPleNormIdeal : Cert.PleNormIdeal.Facts] [hRefPleNormIdeal : Cert.RefPleNormIdeal.Facts] : Prop :=
  ∀ (m : (ℓ : Loc Cert.PleNormIdeal.nD Cert.PleNormIdeal.τ Cert.PleNormIdeal.sig) → Buf (Elt Ideal) ℓ) (g : Dev Cert.PleNormIdeal.nD → PrngReg)
    (m' : (ℓ : Loc Cert.RefPleNormIdeal.nD Cert.RefPleNormIdeal.τ Cert.RefPleNormIdeal.sig) → Buf (Elt Ideal) ℓ) (g' : Dev Cert.RefPleNormIdeal.nD → PrngReg), Pre_PleNormIdeal m →
    (∀ c : Dev Cert.PleNormIdeal.nD,
      m' ((c.tc : Thread Cert.RefPleNormIdeal.nD Cert.RefPleNormIdeal.τ).loc Cert.RefPleNormIdeal.main_arg0) = m ((c.tc : Thread Cert.PleNormIdeal.nD Cert.PleNormIdeal.τ).loc Cert.PleNormIdeal.main_arg0)
      ∧ m' ((c.tc : Thread Cert.RefPleNormIdeal.nD Cert.RefPleNormIdeal.τ).loc Cert.RefPleNormIdeal.main_arg1) = m ((c.tc : Thread Cert.PleNormIdeal.nD Cert.PleNormIdeal.τ).loc Cert.PleNormIdeal.main_arg1)
      ∧ m' ((c.tc : Thread Cert.RefPleNormIdeal.nD Cert.RefPleNormIdeal.τ).loc Cert.RefPleNormIdeal.main_arg2) = m ((c.tc : Thread Cert.PleNormIdeal.nD Cert.PleNormIdeal.τ).loc Cert.PleNormIdeal.main_arg2)
      ∧ m' ((c.tc : Thread Cert.RefPleNormIdeal.nD Cert.RefPleNormIdeal.τ).loc Cert.RefPleNormIdeal.main_arg3) = m ((c.tc : Thread Cert.PleNormIdeal.nD Cert.PleNormIdeal.τ).loc Cert.PleNormIdeal.main_arg3)) →
    ∃ (v0 : (c : Dev Cert.PleNormIdeal.nD) → Buf (Elt Ideal) ((c.tc : Thread Cert.PleNormIdeal.nD Cert.PleNormIdeal.τ).loc Cert.PleNormIdeal.main_v6_0)) (v1 : (c : Dev Cert.PleNormIdeal.nD) → Buf (Elt Ideal) ((c.tc : Thread Cert.PleNormIdeal.nD Cert.PleNormIdeal.τ).loc Cert.PleNormIdeal.main_v6_1)),
      θ_run (Cert.PleNormIdeal.defs (F := Ideal)) (onTc (τ := Cert.PleNormIdeal.τ) (Cert.PleNormIdeal.main (F := Ideal))) ⟨m, fun _ => 0, g⟩ (fun r => ∀ c : Dev Cert.PleNormIdeal.nD,
          r.2.mem ((c.tc : Thread Cert.PleNormIdeal.nD Cert.PleNormIdeal.τ).loc Cert.PleNormIdeal.main_v6_0) = v0 c
          ∧ r.2.mem ((c.tc : Thread Cert.PleNormIdeal.nD Cert.PleNormIdeal.τ).loc Cert.PleNormIdeal.main_v6_1) = v1 c
          ∧ r.2.mem ((c.tc : Thread Cert.PleNormIdeal.nD Cert.PleNormIdeal.τ).loc Cert.PleNormIdeal.main_arg0) = m ((c.tc : Thread Cert.PleNormIdeal.nD Cert.PleNormIdeal.τ).loc Cert.PleNormIdeal.main_arg0)
          ∧ r.2.mem ((c.tc : Thread Cert.PleNormIdeal.nD Cert.PleNormIdeal.τ).loc Cert.PleNormIdeal.main_arg1) = m ((c.tc : Thread Cert.PleNormIdeal.nD Cert.PleNormIdeal.τ).loc Cert.PleNormIdeal.main_arg1)
          ∧ r.2.mem ((c.tc : Thread Cert.PleNormIdeal.nD Cert.PleNormIdeal.τ).loc Cert.PleNormIdeal.main_arg2) = m ((c.tc : Thread Cert.PleNormIdeal.nD Cert.PleNormIdeal.τ).loc Cert.PleNormIdeal.main_arg2)
          ∧ r.2.mem ((c.tc : Thread Cert.PleNormIdeal.nD Cert.PleNormIdeal.τ).loc Cert.PleNormIdeal.main_arg3) = m ((c.tc : Thread Cert.PleNormIdeal.nD Cert.PleNormIdeal.τ).loc Cert.PleNormIdeal.main_arg3))
      ∧ θ_run (Cert.RefPleNormIdeal.defs (F := Ideal)) (onTc (τ := Cert.RefPleNormIdeal.τ) (Cert.RefPleNormIdeal.main (F := Ideal))) ⟨m', fun _ => 0, g'⟩ (fun r => ∀ c : Dev Cert.RefPleNormIdeal.nD,
          r.2.mem ((c.tc : Thread Cert.RefPleNormIdeal.nD Cert.RefPleNormIdeal.τ).loc Cert.RefPleNormIdeal.main_v8) = v0 c
          ∧ r.2.mem ((c.tc : Thread Cert.RefPleNormIdeal.nD Cert.RefPleNormIdeal.τ).loc Cert.RefPleNormIdeal.main_v23) = v1 c
          ∧ r.2.mem ((c.tc : Thread Cert.RefPleNormIdeal.nD Cert.RefPleNormIdeal.τ).loc Cert.RefPleNormIdeal.main_arg0) = m' ((c.tc : Thread Cert.RefPleNormIdeal.nD Cert.RefPleNormIdeal.τ).loc Cert.RefPleNormIdeal.main_arg0)
          ∧ r.2.mem ((c.tc : Thread Cert.RefPleNormIdeal.nD Cert.RefPleNormIdeal.τ).loc Cert.RefPleNormIdeal.main_arg1) = m' ((c.tc : Thread Cert.RefPleNormIdeal.nD Cert.RefPleNormIdeal.τ).loc Cert.RefPleNormIdeal.main_arg1)
          ∧ r.2.mem ((c.tc : Thread Cert.RefPleNormIdeal.nD Cert.RefPleNormIdeal.τ).loc Cert.RefPleNormIdeal.main_arg2) = m' ((c.tc : Thread Cert.RefPleNormIdeal.nD Cert.RefPleNormIdeal.τ).loc Cert.RefPleNormIdeal.main_arg2)
          ∧ r.2.mem ((c.tc : Thread Cert.RefPleNormIdeal.nD Cert.RefPleNormIdeal.τ).loc Cert.RefPleNormIdeal.main_arg3) = m' ((c.tc : Thread Cert.RefPleNormIdeal.nD Cert.RefPleNormIdeal.τ).loc Cert.RefPleNormIdeal.main_arg3))

def preserves_SwaFwd_SwaFwdIdeal : Prop :=
  IdealRules.named_const.Statement Cert.SwaFwdIdeal.κ "mask" .f32 0xF149F2CA#32 ⊥

def algebraic_SwaFwdIdeal_RefSwaFwdIdeal_pre_finite_swa [hSwaFwdIdeal : Cert.SwaFwdIdeal.Facts] [hRefSwaFwdIdeal : Cert.RefSwaFwdIdeal.Facts] [hPre_finite_swa : Cert.Pre_finite_swa.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.RefSwaFwdIdeal.nD Cert.RefSwaFwdIdeal.τ Cert.RefSwaFwdIdeal.sig) → Buf (Elt Ideal) ℓ) (g' : Dev Cert.RefSwaFwdIdeal.nD → PrngReg), Pre_SwaFwdIdeal_finite_swa m →
    (∀ c : Dev Cert.SwaFwdIdeal.nD,
      m' ((c.tc : Thread Cert.RefSwaFwdIdeal.nD Cert.RefSwaFwdIdeal.τ).loc Cert.RefSwaFwdIdeal.main_arg0) = m ((c.tc : Thread Cert.SwaFwdIdeal.nD Cert.SwaFwdIdeal.τ).loc Cert.SwaFwdIdeal.main_arg0)
      ∧ m' ((c.tc : Thread Cert.RefSwaFwdIdeal.nD Cert.RefSwaFwdIdeal.τ).loc Cert.RefSwaFwdIdeal.main_arg1) = m ((c.tc : Thread Cert.SwaFwdIdeal.nD Cert.SwaFwdIdeal.τ).loc Cert.SwaFwdIdeal.main_arg1)
      ∧ m' ((c.tc : Thread Cert.RefSwaFwdIdeal.nD Cert.RefSwaFwdIdeal.τ).loc Cert.RefSwaFwdIdeal.main_arg2) = m ((c.tc : Thread Cert.SwaFwdIdeal.nD Cert.SwaFwdIdeal.τ).loc Cert.SwaFwdIdeal.main_arg2)
      ∧ m' ((c.tc : Thread Cert.RefSwaFwdIdeal.nD Cert.RefSwaFwdIdeal.τ).loc Cert.RefSwaFwdIdeal.main_arg3) = m ((c.tc : Thread Cert.SwaFwdIdeal.nD Cert.SwaFwdIdeal.τ).loc Cert.SwaFwdIdeal.main_arg3)) →
    ∃ (v0 : (c : Dev Cert.SwaFwdIdeal.nD) → Buf (Elt Ideal) ((c.tc : Thread Cert.SwaFwdIdeal.nD Cert.SwaFwdIdeal.τ).loc Cert.SwaFwdIdeal.main_v11_0)) (v1 : (c : Dev Cert.SwaFwdIdeal.nD) → Buf (Elt Ideal) ((c.tc : Thread Cert.SwaFwdIdeal.nD Cert.SwaFwdIdeal.τ).loc Cert.SwaFwdIdeal.main_v11_1)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v11_0) = v0 c
          ∧ r.2.mem ((c.tc : Thread Cert.SwaFwdIdeal.nD Cert.SwaFwdIdeal.τ).loc Cert.SwaFwdIdeal.main_v11_1) = v1 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
          ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
          ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3))
      ∧ θ_run (Cert.RefSwaFwdIdeal.defs (F := Ideal)) (onTc (τ := Cert.RefSwaFwdIdeal.τ) (Cert.RefSwaFwdIdeal.main (F := Ideal))) ⟨m', fun _ => 0, g'⟩ (fun r => ∀ c : Dev Cert.RefSwaFwdIdeal.nD,
          r.2.mem ((c.tc : Thread Cert.RefSwaFwdIdeal.nD Cert.RefSwaFwdIdeal.τ).loc Cert.RefSwaFwdIdeal.main_v79) = v0 c
          ∧ r.2.mem ((c.tc : Thread Cert.RefSwaFwdIdeal.nD Cert.RefSwaFwdIdeal.τ).loc Cert.RefSwaFwdIdeal.main_v78) = v1 c
          ∧ r.2.mem ((c.tc : Thread Cert.RefSwaFwdIdeal.nD Cert.RefSwaFwdIdeal.τ).loc Cert.RefSwaFwdIdeal.main_arg0) = m' ((c.tc : Thread Cert.RefSwaFwdIdeal.nD Cert.RefSwaFwdIdeal.τ).loc Cert.RefSwaFwdIdeal.main_arg0)
          ∧ r.2.mem ((c.tc : Thread Cert.RefSwaFwdIdeal.nD Cert.RefSwaFwdIdeal.τ).loc Cert.RefSwaFwdIdeal.main_arg1) = m' ((c.tc : Thread Cert.RefSwaFwdIdeal.nD Cert.RefSwaFwdIdeal.τ).loc Cert.RefSwaFwdIdeal.main_arg1)
          ∧ r.2.mem ((c.tc : Thread Cert.RefSwaFwdIdeal.nD Cert.RefSwaFwdIdeal.τ).loc Cert.RefSwaFwdIdeal.main_arg2) = m' ((c.tc : Thread Cert.RefSwaFwdIdeal.nD Cert.RefSwaFwdIdeal.τ).loc Cert.RefSwaFwdIdeal.main_arg2)
          ∧ r.2.mem ((c.tc : Thread Cert.RefSwaFwdIdeal.nD Cert.RefSwaFwdIdeal.τ).loc Cert.RefSwaFwdIdeal.main_arg3) = m' ((c.tc : Thread Cert.RefSwaFwdIdeal.nD Cert.RefSwaFwdIdeal.τ).loc Cert.RefSwaFwdIdeal.main_arg3))

def Claim : Prop :=
  ∃ (hKernel : Cert.Kernel.Facts) (hKernelIdeal : Cert.KernelIdeal.Facts) (hReferenceIdeal : Cert.ReferenceIdeal.Facts) (hDwDown : Cert.DwDown.Facts) (hDwDownIdeal : Cert.DwDownIdeal.Facts) (hRefDwDownIdeal : Cert.RefDwDownIdeal.Facts) (hHidden : Cert.Hidden.Facts) (hHiddenIdeal : Cert.HiddenIdeal.Facts) (hRefHiddenIdeal : Cert.RefHiddenIdeal.Facts) (hDwGateUp : Cert.DwGateUp.Facts) (hDwGateUpIdeal : Cert.DwGateUpIdeal.Facts) (hRefDwGateUpIdeal : Cert.RefDwGateUpIdeal.Facts) (hDxGateUp : Cert.DxGateUp.Facts) (hDxGateUpIdeal : Cert.DxGateUpIdeal.Facts) (hRefDxGateUpIdeal : Cert.RefDxGateUpIdeal.Facts) (hDwSquare : Cert.DwSquare.Facts) (hDwSquareIdeal : Cert.DwSquareIdeal.Facts) (hRefDwSquareIdeal : Cert.RefDwSquareIdeal.Facts) (hDwEvIn : Cert.DwEvIn.Facts) (hDwEvInIdeal : Cert.DwEvInIdeal.Facts) (hRefDwEvInIdeal : Cert.RefDwEvInIdeal.Facts) (hDwOdIn : Cert.DwOdIn.Facts) (hDwOdInIdeal : Cert.DwOdInIdeal.Facts) (hRefDwOdInIdeal : Cert.RefDwOdInIdeal.Facts) (hDwPleProj : Cert.DwPleProj.Facts) (hDwPleProjIdeal : Cert.DwPleProjIdeal.Facts) (hRefDwPleProjIdeal : Cert.RefDwPleProjIdeal.Facts) (hDxEvIn : Cert.DxEvIn.Facts) (hDxEvInIdeal : Cert.DxEvInIdeal.Facts) (hRefDxEvInIdeal : Cert.RefDxEvInIdeal.Facts) (hDxOdIn : Cert.DxOdIn.Facts) (hDxOdInIdeal : Cert.DxOdInIdeal.Facts) (hRefDxOdInIdeal : Cert.RefDxOdInIdeal.Facts) (hDxPleGate : Cert.DxPleGate.Facts) (hDxPleGateIdeal : Cert.DxPleGateIdeal.Facts) (hRefDxPleGateIdeal : Cert.RefDxPleGateIdeal.Facts) (hDxOut : Cert.DxOut.Facts) (hDxOutIdeal : Cert.DxOutIdeal.Facts) (hRefDxOutIdeal : Cert.RefDxOutIdeal.Facts) (hEvIn : Cert.EvIn.Facts) (hEvInIdeal : Cert.EvInIdeal.Facts) (hRefEvInIdeal : Cert.RefEvInIdeal.Facts) (hOdIn : Cert.OdIn.Facts) (hOdInIdeal : Cert.OdInIdeal.Facts) (hRefOdInIdeal : Cert.RefOdInIdeal.Facts) (hPleGate : Cert.PleGate.Facts) (hPleGateIdeal : Cert.PleGateIdeal.Facts) (hRefPleGateIdeal : Cert.RefPleGateIdeal.Facts) (hPleProj : Cert.PleProj.Facts) (hPleProjIdeal : Cert.PleProjIdeal.Facts) (hRefPleProjIdeal : Cert.RefPleProjIdeal.Facts) (hMixOut : Cert.MixOut.Facts) (hMixOutIdeal : Cert.MixOutIdeal.Facts) (hRefMixOutIdeal : Cert.RefMixOutIdeal.Facts) (hDown : Cert.Down.Facts) (hDownIdeal : Cert.DownIdeal.Facts) (hRefDownIdeal : Cert.RefDownIdeal.Facts) (hGateUp : Cert.GateUp.Facts) (hGateUpIdeal : Cert.GateUpIdeal.Facts) (hRefGateUpIdeal : Cert.RefGateUpIdeal.Facts) (hGradX : Cert.GradX.Facts) (hGradXIdeal : Cert.GradXIdeal.Facts) (hRefGradXIdeal : Cert.RefGradXIdeal.Facts) (hRmsBwd : Cert.RmsBwd.Facts) (hRmsBwdIdeal : Cert.RmsBwdIdeal.Facts) (hRefRmsBwdIdeal : Cert.RefRmsBwdIdeal.Facts) (hRmsMixBwd : Cert.RmsMixBwd.Facts) (hRmsMixBwdIdeal : Cert.RmsMixBwdIdeal.Facts) (hRefRmsMixBwdIdeal : Cert.RefRmsMixBwdIdeal.Facts) (hPleBwd : Cert.PleBwd.Facts) (hPleBwdIdeal : Cert.PleBwdIdeal.Facts) (hRefPleBwdIdeal : Cert.RefPleBwdIdeal.Facts) (hLoss : Cert.Loss.Facts) (hLossIdeal : Cert.LossIdeal.Facts) (hRefLossIdeal : Cert.RefLossIdeal.Facts) (hRmsFwd : Cert.RmsFwd.Facts) (hRmsFwdIdeal : Cert.RmsFwdIdeal.Facts) (hRefRmsFwdIdeal : Cert.RefRmsFwdIdeal.Facts) (hPleFwd : Cert.PleFwd.Facts) (hPleFwdIdeal : Cert.PleFwdIdeal.Facts) (hRefPleFwdIdeal : Cert.RefPleFwdIdeal.Facts) (hPleNorm : Cert.PleNorm.Facts) (hPleNormIdeal : Cert.PleNormIdeal.Facts) (hRefPleNormIdeal : Cert.RefPleNormIdeal.Facts) (hSwaFwd : Cert.SwaFwd.Facts) (hSwaFwdIdeal : Cert.SwaFwdIdeal.Facts) (hRefSwaFwdIdeal : Cert.RefSwaFwdIdeal.Facts) (hPre_finite : Cert.Pre_finite.Facts) (hPre_finite_ffn : Cert.Pre_finite_ffn.Facts) (hPre_finite_swa : Cert.Pre_finite_swa.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwDown (hDwDown := hDwDown)
    ∧ quiescent_DwDownIdeal (hDwDownIdeal := hDwDownIdeal)
    ∧ quiescent_RefDwDownIdeal (hRefDwDownIdeal := hRefDwDownIdeal)
    ∧ quiescent_Hidden (hHidden := hHidden)
    ∧ quiescent_HiddenIdeal (hHiddenIdeal := hHiddenIdeal)
    ∧ quiescent_HiddenIdeal_pre_finite_ffn (hHiddenIdeal := hHiddenIdeal) (hPre_finite_ffn := hPre_finite_ffn)
    ∧ quiescent_RefHiddenIdeal (hRefHiddenIdeal := hRefHiddenIdeal)
    ∧ quiescent_RefHiddenIdeal_pre_finite_ffn (hRefHiddenIdeal := hRefHiddenIdeal) (hPre_finite_ffn := hPre_finite_ffn)
    ∧ quiescent_DwGateUp (hDwGateUp := hDwGateUp)
    ∧ quiescent_DwGateUpIdeal (hDwGateUpIdeal := hDwGateUpIdeal)
    ∧ quiescent_RefDwGateUpIdeal (hRefDwGateUpIdeal := hRefDwGateUpIdeal)
    ∧ quiescent_DxGateUp (hDxGateUp := hDxGateUp)
    ∧ quiescent_DxGateUpIdeal (hDxGateUpIdeal := hDxGateUpIdeal)
    ∧ quiescent_RefDxGateUpIdeal (hRefDxGateUpIdeal := hRefDxGateUpIdeal)
    ∧ quiescent_DwSquare (hDwSquare := hDwSquare)
    ∧ quiescent_DwSquareIdeal (hDwSquareIdeal := hDwSquareIdeal)
    ∧ quiescent_RefDwSquareIdeal (hRefDwSquareIdeal := hRefDwSquareIdeal)
    ∧ quiescent_DwEvIn (hDwEvIn := hDwEvIn)
    ∧ quiescent_DwEvInIdeal (hDwEvInIdeal := hDwEvInIdeal)
    ∧ quiescent_RefDwEvInIdeal (hRefDwEvInIdeal := hRefDwEvInIdeal)
    ∧ quiescent_DwOdIn (hDwOdIn := hDwOdIn)
    ∧ quiescent_DwOdInIdeal (hDwOdInIdeal := hDwOdInIdeal)
    ∧ quiescent_RefDwOdInIdeal (hRefDwOdInIdeal := hRefDwOdInIdeal)
    ∧ quiescent_DwPleProj (hDwPleProj := hDwPleProj)
    ∧ quiescent_DwPleProjIdeal (hDwPleProjIdeal := hDwPleProjIdeal)
    ∧ quiescent_RefDwPleProjIdeal (hRefDwPleProjIdeal := hRefDwPleProjIdeal)
    ∧ quiescent_DxEvIn (hDxEvIn := hDxEvIn)
    ∧ quiescent_DxEvInIdeal (hDxEvInIdeal := hDxEvInIdeal)
    ∧ quiescent_RefDxEvInIdeal (hRefDxEvInIdeal := hRefDxEvInIdeal)
    ∧ quiescent_DxOdIn (hDxOdIn := hDxOdIn)
    ∧ quiescent_DxOdInIdeal (hDxOdInIdeal := hDxOdInIdeal)
    ∧ quiescent_RefDxOdInIdeal (hRefDxOdInIdeal := hRefDxOdInIdeal)
    ∧ quiescent_DxPleGate (hDxPleGate := hDxPleGate)
    ∧ quiescent_DxPleGateIdeal (hDxPleGateIdeal := hDxPleGateIdeal)
    ∧ quiescent_RefDxPleGateIdeal (hRefDxPleGateIdeal := hRefDxPleGateIdeal)
    ∧ quiescent_DxOut (hDxOut := hDxOut)
    ∧ quiescent_DxOutIdeal (hDxOutIdeal := hDxOutIdeal)
    ∧ quiescent_RefDxOutIdeal (hRefDxOutIdeal := hRefDxOutIdeal)
    ∧ quiescent_EvIn (hEvIn := hEvIn)
    ∧ quiescent_EvInIdeal (hEvInIdeal := hEvInIdeal)
    ∧ quiescent_RefEvInIdeal (hRefEvInIdeal := hRefEvInIdeal)
    ∧ quiescent_OdIn (hOdIn := hOdIn)
    ∧ quiescent_OdInIdeal (hOdInIdeal := hOdInIdeal)
    ∧ quiescent_RefOdInIdeal (hRefOdInIdeal := hRefOdInIdeal)
    ∧ quiescent_PleGate (hPleGate := hPleGate)
    ∧ quiescent_PleGateIdeal (hPleGateIdeal := hPleGateIdeal)
    ∧ quiescent_RefPleGateIdeal (hRefPleGateIdeal := hRefPleGateIdeal)
    ∧ quiescent_PleProj (hPleProj := hPleProj)
    ∧ quiescent_PleProjIdeal (hPleProjIdeal := hPleProjIdeal)
    ∧ quiescent_RefPleProjIdeal (hRefPleProjIdeal := hRefPleProjIdeal)
    ∧ quiescent_MixOut (hMixOut := hMixOut)
    ∧ quiescent_MixOutIdeal (hMixOutIdeal := hMixOutIdeal)
    ∧ quiescent_RefMixOutIdeal (hRefMixOutIdeal := hRefMixOutIdeal)
    ∧ quiescent_Down (hDown := hDown)
    ∧ quiescent_DownIdeal (hDownIdeal := hDownIdeal)
    ∧ quiescent_RefDownIdeal (hRefDownIdeal := hRefDownIdeal)
    ∧ quiescent_GateUp (hGateUp := hGateUp)
    ∧ quiescent_GateUpIdeal (hGateUpIdeal := hGateUpIdeal)
    ∧ quiescent_RefGateUpIdeal (hRefGateUpIdeal := hRefGateUpIdeal)
    ∧ quiescent_GradX (hGradX := hGradX)
    ∧ quiescent_GradXIdeal (hGradXIdeal := hGradXIdeal)
    ∧ quiescent_RefGradXIdeal (hRefGradXIdeal := hRefGradXIdeal)
    ∧ quiescent_RmsBwd (hRmsBwd := hRmsBwd)
    ∧ quiescent_RmsBwdIdeal (hRmsBwdIdeal := hRmsBwdIdeal)
    ∧ quiescent_RefRmsBwdIdeal (hRefRmsBwdIdeal := hRefRmsBwdIdeal)
    ∧ quiescent_RmsMixBwd (hRmsMixBwd := hRmsMixBwd)
    ∧ quiescent_RmsMixBwdIdeal (hRmsMixBwdIdeal := hRmsMixBwdIdeal)
    ∧ quiescent_RefRmsMixBwdIdeal (hRefRmsMixBwdIdeal := hRefRmsMixBwdIdeal)
    ∧ quiescent_PleBwd (hPleBwd := hPleBwd)
    ∧ quiescent_PleBwdIdeal (hPleBwdIdeal := hPleBwdIdeal)
    ∧ quiescent_RefPleBwdIdeal (hRefPleBwdIdeal := hRefPleBwdIdeal)
    ∧ quiescent_Loss (hLoss := hLoss)
    ∧ quiescent_LossIdeal (hLossIdeal := hLossIdeal)
    ∧ quiescent_RefLossIdeal (hRefLossIdeal := hRefLossIdeal)
    ∧ quiescent_RmsFwd (hRmsFwd := hRmsFwd)
    ∧ quiescent_RmsFwdIdeal (hRmsFwdIdeal := hRmsFwdIdeal)
    ∧ quiescent_RefRmsFwdIdeal (hRefRmsFwdIdeal := hRefRmsFwdIdeal)
    ∧ quiescent_PleFwd (hPleFwd := hPleFwd)
    ∧ quiescent_PleFwdIdeal (hPleFwdIdeal := hPleFwdIdeal)
    ∧ quiescent_RefPleFwdIdeal (hRefPleFwdIdeal := hRefPleFwdIdeal)
    ∧ quiescent_PleNorm (hPleNorm := hPleNorm)
    ∧ quiescent_PleNormIdeal (hPleNormIdeal := hPleNormIdeal)
    ∧ quiescent_RefPleNormIdeal (hRefPleNormIdeal := hRefPleNormIdeal)
    ∧ quiescent_SwaFwd (hSwaFwd := hSwaFwd)
    ∧ quiescent_SwaFwdIdeal (hSwaFwdIdeal := hSwaFwdIdeal)
    ∧ quiescent_SwaFwdIdeal_pre_finite_swa (hSwaFwdIdeal := hSwaFwdIdeal) (hPre_finite_swa := hPre_finite_swa)
    ∧ quiescent_RefSwaFwdIdeal (hRefSwaFwdIdeal := hRefSwaFwdIdeal)
    ∧ quiescent_RefSwaFwdIdeal_pre_finite_swa (hRefSwaFwdIdeal := hRefSwaFwdIdeal) (hPre_finite_swa := hPre_finite_swa)
    ∧ preserves_Kernel_KernelIdeal
    ∧ algebraic_KernelIdeal_ReferenceIdeal_pre_finite (hKernelIdeal := hKernelIdeal) (hReferenceIdeal := hReferenceIdeal) (hPre_finite := hPre_finite)
    ∧ preserves_DwDown_DwDownIdeal
    ∧ algebraic_DwDownIdeal_RefDwDownIdeal (hDwDownIdeal := hDwDownIdeal) (hRefDwDownIdeal := hRefDwDownIdeal)
    ∧ preserves_Hidden_HiddenIdeal
    ∧ algebraic_HiddenIdeal_RefHiddenIdeal_pre_finite_ffn (hHiddenIdeal := hHiddenIdeal) (hRefHiddenIdeal := hRefHiddenIdeal) (hPre_finite_ffn := hPre_finite_ffn)
    ∧ preserves_DwGateUp_DwGateUpIdeal
    ∧ algebraic_DwGateUpIdeal_RefDwGateUpIdeal (hDwGateUpIdeal := hDwGateUpIdeal) (hRefDwGateUpIdeal := hRefDwGateUpIdeal)
    ∧ preserves_DxGateUp_DxGateUpIdeal
    ∧ algebraic_DxGateUpIdeal_RefDxGateUpIdeal (hDxGateUpIdeal := hDxGateUpIdeal) (hRefDxGateUpIdeal := hRefDxGateUpIdeal)
    ∧ preserves_DwSquare_DwSquareIdeal
    ∧ algebraic_DwSquareIdeal_RefDwSquareIdeal (hDwSquareIdeal := hDwSquareIdeal) (hRefDwSquareIdeal := hRefDwSquareIdeal)
    ∧ preserves_DwEvIn_DwEvInIdeal
    ∧ algebraic_DwEvInIdeal_RefDwEvInIdeal (hDwEvInIdeal := hDwEvInIdeal) (hRefDwEvInIdeal := hRefDwEvInIdeal)
    ∧ preserves_DwOdIn_DwOdInIdeal
    ∧ algebraic_DwOdInIdeal_RefDwOdInIdeal (hDwOdInIdeal := hDwOdInIdeal) (hRefDwOdInIdeal := hRefDwOdInIdeal)
    ∧ preserves_DwPleProj_DwPleProjIdeal
    ∧ algebraic_DwPleProjIdeal_RefDwPleProjIdeal (hDwPleProjIdeal := hDwPleProjIdeal) (hRefDwPleProjIdeal := hRefDwPleProjIdeal)
    ∧ preserves_DxEvIn_DxEvInIdeal
    ∧ algebraic_DxEvInIdeal_RefDxEvInIdeal (hDxEvInIdeal := hDxEvInIdeal) (hRefDxEvInIdeal := hRefDxEvInIdeal)
    ∧ preserves_DxOdIn_DxOdInIdeal
    ∧ algebraic_DxOdInIdeal_RefDxOdInIdeal (hDxOdInIdeal := hDxOdInIdeal) (hRefDxOdInIdeal := hRefDxOdInIdeal)
    ∧ preserves_DxPleGate_DxPleGateIdeal
    ∧ algebraic_DxPleGateIdeal_RefDxPleGateIdeal (hDxPleGateIdeal := hDxPleGateIdeal) (hRefDxPleGateIdeal := hRefDxPleGateIdeal)
    ∧ preserves_DxOut_DxOutIdeal
    ∧ algebraic_DxOutIdeal_RefDxOutIdeal (hDxOutIdeal := hDxOutIdeal) (hRefDxOutIdeal := hRefDxOutIdeal)
    ∧ preserves_EvIn_EvInIdeal
    ∧ algebraic_EvInIdeal_RefEvInIdeal (hEvInIdeal := hEvInIdeal) (hRefEvInIdeal := hRefEvInIdeal)
    ∧ preserves_OdIn_OdInIdeal
    ∧ algebraic_OdInIdeal_RefOdInIdeal (hOdInIdeal := hOdInIdeal) (hRefOdInIdeal := hRefOdInIdeal)
    ∧ preserves_PleGate_PleGateIdeal
    ∧ algebraic_PleGateIdeal_RefPleGateIdeal (hPleGateIdeal := hPleGateIdeal) (hRefPleGateIdeal := hRefPleGateIdeal)
    ∧ preserves_PleProj_PleProjIdeal
    ∧ algebraic_PleProjIdeal_RefPleProjIdeal (hPleProjIdeal := hPleProjIdeal) (hRefPleProjIdeal := hRefPleProjIdeal)
    ∧ preserves_MixOut_MixOutIdeal
    ∧ algebraic_MixOutIdeal_RefMixOutIdeal (hMixOutIdeal := hMixOutIdeal) (hRefMixOutIdeal := hRefMixOutIdeal)
    ∧ preserves_Down_DownIdeal
    ∧ algebraic_DownIdeal_RefDownIdeal (hDownIdeal := hDownIdeal) (hRefDownIdeal := hRefDownIdeal)
    ∧ preserves_GateUp_GateUpIdeal
    ∧ algebraic_GateUpIdeal_RefGateUpIdeal (hGateUpIdeal := hGateUpIdeal) (hRefGateUpIdeal := hRefGateUpIdeal)
    ∧ preserves_GradX_GradXIdeal
    ∧ algebraic_GradXIdeal_RefGradXIdeal (hGradXIdeal := hGradXIdeal) (hRefGradXIdeal := hRefGradXIdeal)
    ∧ preserves_RmsBwd_RmsBwdIdeal
    ∧ algebraic_RmsBwdIdeal_RefRmsBwdIdeal (hRmsBwdIdeal := hRmsBwdIdeal) (hRefRmsBwdIdeal := hRefRmsBwdIdeal)
    ∧ preserves_RmsMixBwd_RmsMixBwdIdeal
    ∧ algebraic_RmsMixBwdIdeal_RefRmsMixBwdIdeal (hRmsMixBwdIdeal := hRmsMixBwdIdeal) (hRefRmsMixBwdIdeal := hRefRmsMixBwdIdeal)
    ∧ preserves_PleBwd_PleBwdIdeal
    ∧ algebraic_PleBwdIdeal_RefPleBwdIdeal (hPleBwdIdeal := hPleBwdIdeal) (hRefPleBwdIdeal := hRefPleBwdIdeal)
    ∧ preserves_Loss_LossIdeal
    ∧ algebraic_LossIdeal_RefLossIdeal (hLossIdeal := hLossIdeal) (hRefLossIdeal := hRefLossIdeal)
    ∧ preserves_RmsFwd_RmsFwdIdeal
    ∧ algebraic_RmsFwdIdeal_RefRmsFwdIdeal (hRmsFwdIdeal := hRmsFwdIdeal) (hRefRmsFwdIdeal := hRefRmsFwdIdeal)
    ∧ preserves_PleFwd_PleFwdIdeal
    ∧ algebraic_PleFwdIdeal_RefPleFwdIdeal (hPleFwdIdeal := hPleFwdIdeal) (hRefPleFwdIdeal := hRefPleFwdIdeal)
    ∧ preserves_PleNorm_PleNormIdeal
    ∧ algebraic_PleNormIdeal_RefPleNormIdeal (hPleNormIdeal := hPleNormIdeal) (hRefPleNormIdeal := hRefPleNormIdeal)
    ∧ preserves_SwaFwd_SwaFwdIdeal
    ∧ algebraic_SwaFwdIdeal_RefSwaFwdIdeal_pre_finite_swa (hSwaFwdIdeal := hSwaFwdIdeal) (hRefSwaFwdIdeal := hRefSwaFwdIdeal) (hPre_finite_swa := hPre_finite_swa)
-- ==== Pre_finite.lean ====
abbrev S1x8192x16x64 : Shape := ⟨4, ![1, 8192, 16, 64]⟩
abbrev S1x8192x4x64 : Shape := ⟨4, ![1, 8192, 4, 64]⟩
abbrev S16 : Shape := ⟨1, ![16]⟩
abbrev S_ : Shape := ⟨0, ![]⟩

class Facts : Prop where
  bcast_S_S1x8192x16x64 : S_.BroadcastsInDim S1x8192x16x64 (![] : Fin 0 → Fin S1x8192x16x64.rank)
  bcast_S_S1x8192x4x64 : S_.BroadcastsInDim S1x8192x4x64 (![] : Fin 0 → Fin S1x8192x4x64.rank)
  bcast_S_S16 : S_.BroadcastsInDim S16 (![] : Fin 0 → Fin S16.rank)

variable [Facts]

def fn {F : FTy → Type} [FloatOps F] (main_arg0 : FVec F S1x8192x16x64 .f32) (main_arg1 : FVec F S1x8192x4x64 .f32) (main_arg2 : FVec F S1x8192x4x64 .f32) (main_arg3 : FVec F S16 .f32) (main_arg4 : FVec F S1x8192x16x64 .f32) : IVec S1x8192x16x64 1 × IVec S1x8192x4x64 1 × IVec S1x8192x4x64 1 × IVec S16 1 × IVec S1x8192x16x64 1 :=
  let main_v0 : FVec F S1x8192x16x64 .f32 := Host.absf main_arg0
  let main_cst : FVec F S_ .f32 := constant S_ .f32 0x7F800000#32
  let main_v1 : FVec F S1x8192x16x64 .f32 := broadcastInDim S1x8192x16x64 ![] bcast_S_S1x8192x16x64 main_cst
  let main_v2 : IVec S1x8192x16x64 1 := cmpf .olt main_v0 main_v1
  let main_v3 : FVec F S1x8192x4x64 .f32 := Host.absf main_arg1
  let main_cst_0 : FVec F S_ .f32 := constant S_ .f32 0x7F800000#32
  let main_v4 : FVec F S1x8192x4x64 .f32 := broadcastInDim S1x8192x4x64 ![] bcast_S_S1x8192x4x64 main_cst_0
  let main_v5 : IVec S1x8192x4x64 1 := cmpf .olt main_v3 main_v4
  let main_v6 : FVec F S1x8192x4x64 .f32 := Host.absf main_arg2
  let main_cst_1 : FVec F S_ .f32 := constant S_ .f32 0x7F800000#32
  let main_v7 : FVec F S1x8192x4x64 .f32 := broadcastInDim S1x8192x4x64 ![] bcast_S_S1x8192x4x64 main_cst_1
  let main_v8 : IVec S1x8192x4x64 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S1x8192x16x64 .f32 := Host.absf main_arg4
  let main_cst_3 : FVec F S_ .f32 := constant S_ .f32 0x7F800000#32
  let main_v13 : FVec F S1x8192x16x64 .f32 := broadcastInDim S1x8192x16x64 ![] bcast_S_S1x8192x16x64 main_cst_3
  let main_v14 : IVec S1x8192x16x64 1 := cmpf .olt main_v12 main_v13
  (main_v2, main_v5, main_v8, main_v11, main_v14)
-- ==== Pre_finite_ffn.lean ====
abbrev S1x8192x1024 : Shape := ⟨3, ![1, 8192, 1024]⟩
abbrev S1024x2816 : Shape := ⟨2, ![1024, 2816]⟩
abbrev S2816x1024 : Shape := ⟨2, ![2816, 1024]⟩
abbrev S_ : Shape := ⟨0, ![]⟩

class Facts : Prop where
  bcast_S_S1x8192x1024 : S_.BroadcastsInDim S1x8192x1024 (![] : Fin 0 → Fin S1x8192x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S1x8192x1024 .f32) (main_arg1 : FVec F S1024x2816 .f32) (main_arg2 : FVec F S1024x2816 .f32) (main_arg3 : FVec F S2816x1024 .f32) (main_arg4 : FVec F S1x8192x1024 .f32) : IVec S1x8192x1024 1 × IVec S1024x2816 1 × IVec S1024x2816 1 × IVec S2816x1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S1x8192x1024 .f32 := Host.absf main_arg4
  let main_cst_3 : FVec F S_ .f32 := constant S_ .f32 0x7F800000#32
  let main_v13 : FVec F S1x8192x1024 .f32 := broadcastInDim S1x8192x1024 ![] bcast_S_S1x8192x1024 main_cst_3
  let main_v14 : IVec S1x8192x1024 1 := cmpf .olt main_v12 main_v13
  (main_v2, main_v5, main_v8, main_v11, main_v14)
-- ==== Pre_finite_swa.lean ====
abbrev S1x8192x16x64 : Shape := ⟨4, ![1, 8192, 16, 64]⟩
abbrev S1x8192x4x64 : Shape := ⟨4, ![1, 8192, 4, 64]⟩
abbrev S16 : Shape := ⟨1, ![16]⟩
abbrev S_ : Shape := ⟨0, ![]⟩

class Facts : Prop where
  bcast_S_S1x8192x16x64 : S_.BroadcastsInDim S1x8192x16x64 (![] : Fin 0 → Fin S1x8192x16x64.rank)
  bcast_S_S1x8192x4x64 : S_.BroadcastsInDim S1x8192x4x64 (![] : Fin 0 → Fin S1x8192x4x64.rank)
  bcast_S_S16 : S_.BroadcastsInDim S16 (![] : Fin 0 → Fin S16.rank)

variable [Facts]

def fn {F : FTy → Type} [FloatOps F] (main_arg0 : FVec F S1x8192x16x64 .f32) (main_arg1 : FVec F S1x8192x4x64 .f32) (main_arg2 : FVec F S1x8192x4x64 .f32) (main_arg3 : FVec F S16 .f32) : IVec S1x8192x16x64 1 × IVec S1x8192x4x64 1 × IVec S1x8192x4x64 1 × IVec S16 1 :=
  let main_v0 : FVec F S1x8192x16x64 .f32 := Host.absf main_arg0
  let main_cst : FVec F S_ .f32 := constant S_ .f32 0x7F800000#32
  let main_v1 : FVec F S1x8192x16x64 .f32 := broadcastInDim S1x8192x16x64 ![] bcast_S_S1x8192x16x64 main_cst
  let main_v2 : IVec S1x8192x16x64 1 := cmpf .olt main_v0 main_v1
  let main_v3 : FVec F S1x8192x4x64 .f32 := Host.absf main_arg1
  let main_cst_0 : FVec F S_ .f32 := constant S_ .f32 0x7F800000#32
  let main_v4 : FVec F S1x8192x4x64 .f32 := broadcastInDim S1x8192x4x64 ![] bcast_S_S1x8192x4x64 main_cst_0
  let main_v5 : IVec S1x8192x4x64 1 := cmpf .olt main_v3 main_v4
  let main_v6 : FVec F S1x8192x4x64 .f32 := Host.absf main_arg2
  let main_cst_1 : FVec F S_ .f32 := constant S_ .f32 0x7F800000#32
  let main_v7 : FVec F S1x8192x4x64 .f32 := broadcastInDim S1x8192x4x64 ![] bcast_S_S1x8192x4x64 main_cst_1
  let main_v8 : IVec S1x8192x4x64 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== Kernel.lean ====
abbrev S1x8192x16x64 : Shape := ⟨4, ![1, 8192, 16, 64]⟩
abbrev S1x8192x4x64 : Shape := ⟨4, ![1, 8192, 4, 64]⟩
abbrev S16 : Shape := ⟨1, ![16]⟩
abbrev S1x64x128x4x4x64 : Shape := ⟨6, ![1, 64, 128, 4, 4, 64]⟩
abbrev S1x64x128x4x64 : Shape := ⟨5, ![1, 64, 128, 4, 64]⟩
abbrev S1x1x128x4x64 : Shape := ⟨5, ![1, 1, 128, 4, 64]⟩
abbrev S_ : Shape := ⟨0, ![]⟩
abbrev S1x63x128x4x64 : Shape := ⟨5, ![1, 63, 128, 4, 64]⟩
abbrev S1x64x256x4x64 : Shape := ⟨5, ![1, 64, 256, 4, 64]⟩
abbrev S1x64x4x256x128x4 : Shape := ⟨6, ![1, 64, 4, 256, 128, 4]⟩
abbrev S1x64x4x4x128x256 : Shape := ⟨6, ![1, 64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S4x4 : Shape := ⟨2, ![4, 4]⟩
abbrev S1x1x4x4x1x1 : Shape := ⟨6, ![1, 1, 4, 4, 1, 1]⟩
abbrev S1x64x4x4x128x1 : Shape := ⟨6, ![1, 64, 4, 4, 128, 1]⟩
abbrev S1x64x4x4x128x257 : Shape := ⟨6, ![1, 64, 4, 4, 128, 257]⟩
abbrev S1x64x4x4x128 : Shape := ⟨5, ![1, 64, 4, 4, 128]⟩
abbrev S1x64x4x64x4x128 : Shape := ⟨6, ![1, 64, 4, 64, 4, 128]⟩
abbrev S1x64x128x4x4x1 : Shape := ⟨6, ![1, 64, 128, 4, 4, 1]⟩
abbrev S8192x1024 : Shape := ⟨2, ![8192, 1024]⟩
abbrev S8192x256 : Shape := ⟨2, ![8192, 256]⟩
abbrev S8192x1280 : Shape := ⟨2, ![8192, 1280]⟩
abbrev S8192x1536 : Shape := ⟨2, ![8192, 1536]⟩
abbrev S512x128 : Shape := ⟨2, ![512, 128]⟩
abbrev S512x512 : Shape := ⟨2, ![512, 512]⟩
abbrev S128x512 : Shape := ⟨2, ![128, 512]⟩
abbrev S640x512 : Shape := ⟨2, ![640, 512]⟩
abbrev S640x128 : Shape := ⟨2, ![640, 128]⟩
abbrev S256x128 : Shape := ⟨2, ![256, 128]⟩
abbrev S128x128 : Shape := ⟨2, ![128, 128]⟩
abbrev S256x1 : Shape := ⟨2, ![256, 1]⟩

abbrev nBuf : Space → Nat
  | .hbm => 115
  | .vmem => 24
  | .smem => 0
  | _ => 0

abbrev bufTy : (tb : Table) → Fin (tcTables nBuf tb) → BufTy
  | .hbm, ⟨0, _⟩ => ⟨S1x8192x16x64, .f32⟩
  | .hbm, ⟨1, _⟩ => ⟨S1x8192x4x64, .f32⟩
  | .hbm, ⟨2, _⟩ => ⟨S1x8192x4x64, .f32⟩
  | .hbm, ⟨3, _⟩ => ⟨S16, .f32⟩
  | .hbm, ⟨4, _⟩ => ⟨S1x8192x16x64, .f32⟩
  | .hbm, ⟨5, _⟩ => ⟨S1x64x128x4x4x64, .f32⟩
  | .hbm, ⟨6, _⟩ => ⟨S1x64x128x4x64, .f32⟩
  | .hbm, ⟨7, _⟩ => ⟨S1x1x128x4x64, .f32⟩
  | .hbm, ⟨8, _⟩ => ⟨S_, .f32⟩
  | .hbm, ⟨9, _⟩ => ⟨S1x1x128x4x64, .f32⟩
  | .hbm, ⟨10, _⟩ => ⟨S1x63x128x4x64, .f32⟩
  | .hbm, ⟨11, _⟩ => ⟨S1x64x128x4x64, .f32⟩
  | .hbm, ⟨12, _⟩ => ⟨S1x64x256x4x64, .f32⟩
  | .hbm, ⟨13, _⟩ => ⟨S1x64x128x4x64, .f32⟩
  | .hbm, ⟨14, _⟩ => ⟨S1x1x128x4x64, .f32⟩
  | .hbm, ⟨15, _⟩ => ⟨S_, .f32⟩
  | .hbm, ⟨16, _⟩ => ⟨S1x1x128x4x64, .f32⟩
  | .hbm, ⟨17, _⟩ => ⟨S1x63x128x4x64, .f32⟩
  | .hbm, ⟨18, _⟩ => ⟨S1x64x128x4x64, .f32⟩
  | .hbm, ⟨19, _⟩ => ⟨S1x64x256x4x64, .f32⟩
  | .hbm, ⟨20, _⟩ => ⟨S1x64x4x256x128x4, .f32⟩
  | .hbm, ⟨21, _⟩ => ⟨S1x64x4x4x128x256, .f32⟩
  | .hbm, ⟨22, _⟩ => ⟨S_, .f32⟩
  | .hbm, ⟨23, _⟩ => ⟨S1x64x4x4x128x256, .f32⟩
  | .hbm, ⟨24, _⟩ => ⟨S1x64x4x4x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S64, .i32⟩
  | .hbm, ⟨43, _⟩ => ⟨S64x1x1, .i32⟩
  | .hbm, ⟨44, _⟩ => ⟨S_, .i32⟩
  | .hbm, ⟨45, _⟩ => ⟨S64x1x1, .i32⟩
  | .hbm, ⟨46, _⟩ => ⟨S64x1x1, .i1⟩
  | .hbm, ⟨47, _⟩ => ⟨S1x1x256, .i32⟩
  | .hbm, ⟨48, _⟩ => ⟨S_, .i32⟩
  | .hbm, ⟨49, _⟩ => ⟨S1x1x256, .i32⟩
  | .hbm, ⟨50, _⟩ => ⟨S1x1x256, .i1⟩
  | .hbm, ⟨51, _⟩ => ⟨S64x1x256, .i1⟩
  | .hbm, ⟨52, _⟩ => ⟨S64x1x256, .i1⟩
  | .hbm, ⟨53, _⟩ => ⟨S64x1x256, .i1⟩
  | .hbm, ⟨54, _⟩ => ⟨S1x128x256, .i1⟩
  | .hbm, ⟨55, _⟩ => ⟨S64x1x256, .i1⟩
  | .hbm, ⟨56, _⟩ => ⟨S64x128x256, .i1⟩
  | .hbm, ⟨57, _⟩ => ⟨S64x128x256, .i1⟩
  | .hbm, ⟨58, _⟩ => ⟨S64x128x256, .i1⟩
  | .hbm, ⟨59, _⟩ => ⟨S1x64x1x1x128x256, .i1⟩
  | .hbm, ⟨60, _⟩ => ⟨S_, .f32⟩
  | .hbm, ⟨61, _⟩ => ⟨S_, .f32⟩
  | .hbm, ⟨62, _⟩ => ⟨S1x64x4x4x128x256, .i1⟩
  | .hbm, ⟨63, _⟩ => ⟨S1x64x4x4x128x256, .f32⟩
  | .hbm, ⟨64, _⟩ => ⟨S1x64x4x4x128x256, .f32⟩
  | .hbm, ⟨65, _⟩ => ⟨S4x4, .f32⟩
  | .hbm, ⟨66, _⟩ => ⟨S1x1x4x4x1x1, .f32⟩
  | .hbm, ⟨67, _⟩ => ⟨S1x64x4x4x128x1, .f32⟩
  | .hbm, ⟨68, _⟩ => ⟨S1x64x4x4x128x257, .f32⟩
  | .hbm, ⟨69, _⟩ => ⟨S_, .f32⟩
  | .hbm, ⟨70, _⟩ => ⟨S1x64x4x4x128, .f32⟩
  | .hbm, ⟨71, _⟩ => ⟨S_, .f32⟩
  | .hbm, ⟨72, _⟩ => ⟨S1x64x4x4x128, .f32⟩
  | .hbm, ⟨73, _⟩ => ⟨S1x64x4x4x128, .f32⟩
  | .hbm, ⟨74, _⟩ => ⟨S1x64x4x4x128x1, .f32⟩
  | .hbm, ⟨75, _⟩ => ⟨S1x64x4x4x128x257, .f32⟩
  | .hbm, ⟨76, _⟩ => ⟨S1x64x4x4x128x257, .f32⟩
  | .hbm, ⟨77, _⟩ => ⟨S1x64x4x4x128x257, .f32⟩
  | .hbm, ⟨78, _⟩ => ⟨S_, .f32⟩
  | .hbm, ⟨79, _⟩ => ⟨S1x64x4x4x128, .f32⟩
  | .hbm, ⟨80, _⟩ => ⟨S1x64x4x4x128x1, .f32⟩
  | .hbm, ⟨81, _⟩ => ⟨S1x64x4x4x128x257, .f32⟩
  | .hbm, ⟨82, _⟩ => ⟨S1x64x4x4x128x257, .f32⟩
  | .hbm, ⟨83, _⟩ => ⟨S1x64x4x4x128x256, .f32⟩
  | .hbm, ⟨84, _⟩ => ⟨S1x64x4x64x4x128, .f32⟩
  | .hbm, ⟨85, _⟩ => ⟨S1x64x128x4x4x64, .f32⟩
  | .hbm, ⟨86, _⟩ => ⟨S_, .f32⟩
  | .hbm, ⟨87, _⟩ => ⟨S1x64x4x4x128, .f32⟩
  | .hbm, ⟨88, _⟩ => ⟨S1x64x4x4x128x1, .f32⟩
  | .hbm, ⟨89, _⟩ => ⟨S1x64x4x4x128x257, .f32⟩
  | .hbm, ⟨90, _⟩ => ⟨S1x64x4x4x128x257, .f32⟩
  | .hbm, ⟨91, _⟩ => ⟨S1x64x4x4x128x257, .f32⟩
  | .hbm, ⟨92, _⟩ => ⟨S_, .f32⟩
  | .hbm, ⟨93, _⟩ => ⟨S1x64x4x4x128, .f32⟩
  | .hbm, ⟨94, _⟩ => ⟨S1x64x4x4x128x1, .f32⟩
  | .hbm, ⟨95, _⟩ => ⟨S1x64x4x4x128x1, .f32⟩
  | .hbm, ⟨96, _⟩ => ⟨S1x64x4x4x128x1, .f32⟩
  | .hbm, ⟨97, _⟩ => ⟨S1x64x128x4x4x1, .f32⟩
  | .hbm, ⟨98, _⟩ => ⟨S8192x1024, .f32⟩
  | .hbm, ⟨99, _⟩ => ⟨S1x64x128x4x4x64, .f32⟩
  | .hbm, ⟨100, _⟩ => ⟨S8192x1024, .f32⟩
  | .hbm, ⟨101, _⟩ => ⟨S8192x1024, .f32⟩
  | .hbm, ⟨102, _⟩ => ⟨S8192x256, .f32⟩
  | .hbm, ⟨103, _⟩ => ⟨S8192x1280, .f32⟩
  | .hbm, ⟨104, _⟩ => ⟨S8192x1280, .bf16⟩
  | .hbm, ⟨105, _⟩ => ⟨S_, .f32⟩
  | .hbm, ⟨106, _⟩ => ⟨S8192x1280, .f32⟩
  | .hbm, ⟨107, _⟩ => ⟨S8192x256, .f32⟩
  | .hbm, ⟨108, _⟩ => ⟨S8192x1536, .f32⟩
  | .hbm, ⟨109, _⟩ => ⟨S8192x1536, .bf16⟩
  | .hbm, ⟨110, _⟩ => ⟨S8192x1024, .f32⟩
  | .hbm, ⟨111, _⟩ => ⟨S8192x1024, .bf16⟩
  | .hbm, ⟨112, _⟩ => ⟨S8192x1024, .bf16⟩
  | .hbm, ⟨113, _⟩ => ⟨S8192x256, .bf16⟩
  | .hbm, ⟨114, _⟩ => ⟨S8192x256, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x512, .bf16⟩
  | .local _ .vmem, ⟨5, _⟩ => ⟨S512x512, .bf16⟩
  | .local _ .vmem, ⟨6, _⟩ => ⟨S128x512, .bf16⟩
  | .local _ .vmem, ⟨7, _⟩ => ⟨S128x512, .bf16⟩
  | .local _ .vmem, ⟨8, _⟩ => ⟨S512x512, .bf16⟩
  | .local _ .vmem, ⟨9, _⟩ => ⟨S512x512, .bf16⟩
  | .local _ .vmem, ⟨10, _⟩ => ⟨S128x512, .bf16⟩
  | .local _ .vmem, ⟨11, _⟩ => ⟨S128x512, .bf16⟩
  | .local _ .vmem, ⟨12, _⟩ => ⟨S512x512, .bf16⟩
  | .local _ .vmem, ⟨13, _⟩ => ⟨S512x512, .bf16⟩
  | .local _ .vmem, ⟨14, _⟩ => ⟨S128x512, .bf16⟩
  | .local _ .vmem, ⟨15, _⟩ => ⟨S128x512, .bf16⟩
  | .local _ .vmem, ⟨16, _⟩ => ⟨S512x512, .f32⟩
  | .local _ .vmem, ⟨17, _⟩ => ⟨S512x512, .f32⟩
  | .local _ .vmem, ⟨18, _⟩ => ⟨S128x512, .f32⟩
  | .local _ .vmem, ⟨19, _⟩ => ⟨S128x512, .f32⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | _, _ => ⟨S1x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_12 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90_0 : Ref sig .tc := ⟨.hbm, 113, rfl⟩
abbrev main_v90_1 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  ![v2.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x8192x16x64 : Shape := ⟨4, ![1, 8192, 16, 64]⟩
abbrev S1x8192x4x64 : Shape := ⟨4, ![1, 8192, 4, 64]⟩
abbrev S16 : Shape := ⟨1, ![16]⟩
abbrev S1x64x128x4x4x64 : Shape := ⟨6, ![1, 64, 128, 4, 4, 64]⟩
abbrev S1x64x128x4x64 : Shape := ⟨5, ![1, 64, 128, 4, 64]⟩
abbrev S1x1x128x4x64 : Shape := ⟨5, ![1, 1, 128, 4, 64]⟩
abbrev S_ : Shape := ⟨0, ![]⟩
abbrev S1x63x128x4x64 : Shape := ⟨5, ![1, 63, 128, 4, 64]⟩
abbrev S1x64x256x4x64 : Shape := ⟨5, ![1, 64, 256, 4, 64]⟩
abbrev S1x64x4x256x128x4 : Shape := ⟨6, ![1, 64, 4, 256, 128, 4]⟩
abbrev S1x64x4x4x128x256 : Shape := ⟨6, ![1, 64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S4x4 : Shape := ⟨2, ![4, 4]⟩
abbrev S1x1x4x4x1x1 : Shape := ⟨6, ![1, 1, 4, 4, 1, 1]⟩
abbrev S1x64x4x4x128x1 : Shape := ⟨6, ![1, 64, 4, 4, 128, 1]⟩
abbrev S1x64x4x4x128x257 : Shape := ⟨6, ![1, 64, 4, 4, 128, 257]⟩
abbrev S1x64x4x4x128 : Shape := ⟨5, ![1, 64, 4, 4, 128]⟩
abbrev S1x64x4x64x4x128 : Shape := ⟨6, ![1, 64, 4, 64, 4, 128]⟩
abbrev S1x64x4x64x256 : Shape := ⟨5, ![1, 64, 4, 64, 256]⟩
abbrev S64x4x4x128 : Shape := ⟨4, ![64, 4, 4, 128]⟩
abbrev S1x64x4x128x4x64 : Shape := ⟨6, ![1, 64, 4, 128, 4, 64]⟩
abbrev S1x64x4x256x64 : Shape := ⟨5, ![1, 64, 4, 256, 64]⟩
abbrev S8192x256 : Shape := ⟨2, ![8192, 256]⟩

abbrev nBuf : Space → Nat
  | .hbm => 179
  | .vmem => 0
  | .smem => 0
  | _ => 0

abbrev hbmTy0_0 (i : Nat) : BufTy := match i % 128 with
  | 0 => ⟨S1x8192x16x64, .f32⟩
  | 1 => ⟨S1x8192x4x64, .f32⟩
  | 2 => ⟨S1x8192x4x64, .f32⟩
  | 3 => ⟨S16, .f32⟩
  | 4 => ⟨S1x8192x16x64, .f32⟩
  | 5 => ⟨S1x64x128x4x4x64, .f32⟩
  | 6 => ⟨S1x64x128x4x64, .f32⟩
  | 7 => ⟨S1x1x128x4x64, .f32⟩
  | 8 => ⟨S_, .f32⟩
  | 9 => ⟨S1x1x128x4x64, .f32⟩
  | 10 => ⟨S1x63x128x4x64, .f32⟩
  | 11 => ⟨S1x64x128x4x64, .f32⟩
  | 12 => ⟨S_, .f32⟩
  | 13 => ⟨S1x1x128x4x64, .f32⟩
  | 14 => ⟨S1x64x256x4x64, .f32⟩
  | 15 => ⟨S1x64x128x4x64, .f32⟩
  | 16 => ⟨S1x1x128x4x64, .f32⟩
  | 17 => ⟨S_, .f32⟩
  | 18 => ⟨S1x1x128x4x64, .f32⟩
  | 19 => ⟨S1x63x128x4x64, .f32⟩
  | 20 => ⟨S1x64x128x4x64, .f32⟩
  | 21 => ⟨S_, .f32⟩
  | 22 => ⟨S1x1x128x4x64, .f32⟩
  | 23 => ⟨S1x64x256x4x64, .f32⟩
  | 24 => ⟨S1x64x4x256x128x4, .f32⟩
  | 25 => ⟨S1x64x4x4x128x256, .f32⟩
  | 26 => ⟨S_, .f32⟩
  | 27 => ⟨S1x64x4x4x128x256, .f32⟩
  | 28 => ⟨S1x64x4x4x128x256, .f32⟩
  | 29 => ⟨S128, .i32⟩
  | 30 => ⟨S128x1, .i32⟩
  | 31 => ⟨S256, .i32⟩
  | 32 => ⟨S1x256, .i32⟩
  | 33 => ⟨S_, .i32⟩
  | 34 => ⟨S128x1, .i32⟩
  | 35 => ⟨S128x1, .i32⟩
  | 36 => ⟨S128x256, .i32⟩
  | 37 => ⟨S128x256, .i32⟩
  | 38 => ⟨S128x256, .i32⟩
  | 39 => ⟨S_, .i32⟩
  | 40 => ⟨S128x256, .i32⟩
  | 41 => ⟨S128x256, .i1⟩
  | 42 => ⟨S_, .i32⟩
  | 43 => ⟨S128x256, .i32⟩
  | 44 => ⟨S128x256, .i1⟩
  | 45 => ⟨S128x256, .i1⟩
  | 46 => ⟨S64, .i32⟩
  | 47 => ⟨S64x1x1, .i32⟩
  | 48 => ⟨S_, .i32⟩
  | 49 => ⟨S64x1x1, .i32⟩
  | 50 => ⟨S64x1x1, .i1⟩
  | 51 => ⟨S1x1x256, .i32⟩
  | 52 => ⟨S_, .i32⟩
  | 53 => ⟨S1x1x256, .i32⟩
  | 54 => ⟨S1x1x256, .i1⟩
  | 55 => ⟨S64x1x256, .i1⟩
  | 56 => ⟨S64x1x256, .i1⟩
  | 57 => ⟨S64x1x256, .i1⟩
  | 58 => ⟨S1x128x256, .i1⟩
  | 59 => ⟨S64x1x256, .i1⟩
  | 60 => ⟨S64x128x256, .i1⟩
  | 61 => ⟨S64x128x256, .i1⟩
  | 62 => ⟨S64x128x256, .i1⟩
  | 63 => ⟨S1x64x1x1x128x256, .i1⟩
  | 64 => ⟨S_, .f32⟩
  | 65 => ⟨S_, .f32⟩
  | 66 => ⟨S1x64x4x4x128x256, .i1⟩
  | 67 => ⟨S1x64x4x4x128x256, .f32⟩
  | 68 => ⟨S1x64x4x4x128x256, .f32⟩
  | 69 => ⟨S_, .f32⟩
  | 70 => ⟨S1x64x4x4x128x256, .f32⟩
  | 71 => ⟨S4x4, .f32⟩
  | 72 => ⟨S1x1x4x4x1x1, .f32⟩
  | 73 => ⟨S1x64x4x4x128x1, .f32⟩
  | 74 => ⟨S1x64x4x4x128x257, .f32⟩
  | 75 => ⟨S_, .f32⟩
  | 76 => ⟨S1x64x4x4x128, .f32⟩
  | 77 => ⟨S1x64x4x4x128x1, .f32⟩
  | 78 => ⟨S1x64x4x4x128x257, .f32⟩
  | 79 => ⟨S1x64x4x4x128x257, .i1⟩
  | 80 => ⟨S1x64x4x4x128x257, .f32⟩
  | 81 => ⟨S_, .f32⟩
  | 82 => ⟨S1x64x4x4x128, .f32⟩
  | 83 => ⟨S_, .f32⟩
  | 84 => ⟨S1x64x4x4x128, .f32⟩
  | 85 => ⟨S1x64x4x4x128, .f32⟩
  | 86 => ⟨S_, .f32⟩
  | 87 => ⟨S1x64x4x4x128, .f32⟩
  | 88 => ⟨S1x64x4x4x128, .i1⟩
  | 89 => ⟨S_, .f32⟩
  | 90 => ⟨S1x64x4x4x128, .f32⟩
  | 91 => ⟨S1x64x4x4x128, .i1⟩
  | 92 => ⟨S_, .f32⟩
  | 93 => ⟨S1x64x4x4x128, .f32⟩
  | 94 => ⟨S_, .f32⟩
  | 95 => ⟨S1x64x4x4x128, .f32⟩
  | 96 => ⟨S_, .f32⟩
  | 97 => ⟨S1x64x4x4x128, .f32⟩
  | 98 => ⟨S1x64x4x4x128, .f32⟩
  | 99 => ⟨S1x64x4x4x128, .f32⟩
  | 100 => ⟨S1x64x4x4x128x1, .f32⟩
  | 101 => ⟨S1x64x4x4x128x257, .f32⟩
  | 102 => ⟨S1x64x4x4x128x257, .f32⟩
  | 103 => ⟨S1x64x4x4x128x257, .f32⟩
  | 104 => ⟨S_, .f32⟩
  | 105 => ⟨S1x64x4x4x128, .f32⟩
  | 106 => ⟨S1x64x4x4x128x1, .f32⟩
  | 107 => ⟨S1x64x4x4x128x257, .f32⟩
  | 108 => ⟨S1x64x4x4x128x257, .f32⟩
  | 109 => ⟨S1x64x4x4x128x1, .f32⟩
  | 110 => ⟨S_, .f32⟩
  | 111 => ⟨S1x64x4x4x128x1, .f32⟩
  | 112 => ⟨S1x64x4x4x128x1, .f32⟩
  | 113 => ⟨S1x64x4x4x128x256, .f32⟩
  | 114 => ⟨S1x64x4x64x4x128, .f32⟩
  | 115 => ⟨S1x64x128x4x4x64, .f32⟩
  | 116 => ⟨S1x8192x16x64, .f32⟩
  | 117 => ⟨S1x64x128x4x4x64, .f32⟩
  | 118 => ⟨S1x64x4x64x4x128, .f32⟩
  | 119 => ⟨S1x64x4x4x128x256, .f32⟩
  | 120 => ⟨S1x64x4x64x256, .f32⟩
  | 121 => ⟨S1x64x256x4x64, .f32⟩
  | 122 => ⟨S_, .f32⟩
  | 123 => ⟨S1x64x4x4x128x257, .f32⟩
  | 124 => ⟨S1x64x4x4x128x257, .f32⟩
  | 125 => ⟨S1x64x4x4x128x257, .f32⟩
  | 126 => ⟨S1x64x4x4x128x257, .f32⟩
  | 127 => ⟨S_, .f32⟩
  | _ => ⟨S1x8192x16x64, .f32⟩

abbrev hbmTy0_1 (i : Nat) : BufTy := match i % 128 with
  | 0 => ⟨S1x64x4x4x128, .f32⟩
  | 1 => ⟨S1x64x4x4x128x1, .f32⟩
  | 2 => ⟨S1x64x4x4x128x1, .f32⟩
  | 3 => ⟨S1x64x4x4x128x257, .f32⟩
  | 4 => ⟨S1x64x4x4x128x257, .f32⟩
  | 5 => ⟨S_, .f32⟩
  | 6 => ⟨S64x4x4x128, .f32⟩
  | 7 => ⟨S1x64x4x4x128, .f32⟩
  | 8 => ⟨S1x64x4x4x128x257, .f32⟩
  | 9 => ⟨S1x64x4x4x128x257, .f32⟩
  | 10 => ⟨S1x64x4x4x128x257, .f32⟩
  | 11 => ⟨S1x64x4x4x128x256, .f32⟩
  | 12 => ⟨S1x64x4x4x128x1, .f32⟩
  | 13 => ⟨S_, .f32⟩
  | 14 => ⟨S4x4, .f32⟩
  | 15 => ⟨S1x1x4x4x1x1, .f32⟩
  | 16 => ⟨S_, .f32⟩
  | 17 => ⟨S4x4, .f32⟩
  | 18 => ⟨S16, .f32⟩
  | 19 => ⟨S_, .f32⟩
  | 20 => ⟨S1x64x4x4x128x256, .f32⟩
  | 21 => ⟨S1x64x4x4x128x256, .f32⟩
  | 22 => ⟨S_, .f32⟩
  | 23 => ⟨S1x64x4x4x128x256, .f32⟩
  | 24 => ⟨S1x64x4x4x128x256, .f32⟩
  | 25 => ⟨S1x64x4x256x128x4, .f32⟩
  | 26 => ⟨S1x64x4x128x4x64, .f32⟩
  | 27 => ⟨S1x64x128x4x4x64, .f32⟩
  | 28 => ⟨S1x64x4x256x64, .f32⟩
  | 29 => ⟨S1x64x256x4x64, .f32⟩
  | 30 => ⟨S1x64x128x4x64, .f32⟩
  | 31 => ⟨S1x64x128x4x64, .f32⟩
  | 32 => ⟨S1x1x128x4x64, .f32⟩
  | 33 => ⟨S1x63x128x4x64, .f32⟩
  | 34 => ⟨S_, .f32⟩
  | 35 => ⟨S1x64x128x4x64, .f32⟩
  | 36 => ⟨S1x64x128x4x64, .f32⟩
  | 37 => ⟨S1x8192x4x64, .f32⟩
  | 38 => ⟨S1x64x128x4x64, .f32⟩
  | 39 => ⟨S1x64x128x4x64, .f32⟩
  | 40 => ⟨S1x1x128x4x64, .f32⟩
  | 41 => ⟨S1x63x128x4x64, .f32⟩
  | 42 => ⟨S_, .f32⟩
  | 43 => ⟨S1x64x128x4x64, .f32⟩
  | 44 => ⟨S1x64x128x4x64, .f32⟩
  | 45 => ⟨S1x8192x4x64, .f32⟩
  | 46 => ⟨S1x8192x16x64, .f32⟩
  | 47 => ⟨S8192x256, .f32⟩
  | 48 => ⟨S8192x256, .bf16⟩
  | 49 => ⟨S8192x256, .f32⟩
  | 50 => ⟨S8192x256, .bf16⟩
  | _ => ⟨S1x8192x16x64, .f32⟩

abbrev hbmTy (i : Nat) : BufTy := match i / 128 with
  | 0 => hbmTy0_0 i
  | 1 => hbmTy0_1 i
  | _ => ⟨S1x8192x16x64, .f32⟩

abbrev bufTy : (tb : Table) → Fin (tcTables nBuf tb) → BufTy
  | .hbm, ⟨i, _⟩ => hbmTy i
  | _, _ => ⟨S1x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_call0_v0 : Ref sig .tc := ⟨.hbm, 65, rfl⟩
abbrev main_v49_1 : Ref sig .tc := ⟨.hbm, 66, rfl⟩
abbrev main_call0_v2 : Ref sig .tc := ⟨.hbm, 67, rfl⟩
abbrev main_v49_0 : Ref sig .tc := ⟨.hbm, 68, rfl⟩
abbrev main_call0_cst : Ref sig .tc := ⟨.hbm, 69, rfl⟩
abbrev main_v49_2 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_cst_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_19 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_20 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_21 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_22 : Ref sig .tc := ⟨.hbm, 141, rfl⟩
abbrev main_v107 : Ref sig .tc := ⟨.hbm, 142, rfl⟩
abbrev main_v108 : Ref sig .tc := ⟨.hbm, 143, rfl⟩
abbrev main_cst_23 : Ref sig .tc := ⟨.hbm, 144, rfl⟩
abbrev main_v109 : Ref sig .tc := ⟨.hbm, 145, rfl⟩
abbrev main_v110 : Ref sig .tc := ⟨.hbm, 146, rfl⟩
abbrev main_call1_cst : Ref sig .tc := ⟨.hbm, 147, rfl⟩
abbrev main_call1_v0 : Ref sig .tc := ⟨.hbm, 148, rfl⟩
abbrev main_v111 : Ref sig .tc := ⟨.hbm, 149, rfl⟩
abbrev main_cst_24 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_25 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_26 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩

abbrev nD : Nat := 1
abbrev τ : Topo := Topo.v7x

variable {F : FTy → Type} [FloatOps F]
-- ==== DwDown.lean ====
abbrev S1x8192x1024 : Shape := ⟨3, ![1, 8192, 1024]⟩
abbrev S1024x2816 : Shape := ⟨2, ![1024, 2816]⟩
abbrev S2816x1024 : Shape := ⟨2, ![2816, 1024]⟩
abbrev S1x8192x2816 : Shape := ⟨3, ![1, 8192, 2816]⟩
abbrev S_ : Shape := ⟨0, ![]⟩
abbrev S8192x2816 : Shape := ⟨2, ![8192, 2816]⟩
abbrev S8192x8x352 : Shape := ⟨3, ![8192, 8, 352]⟩
abbrev S8192x8x32 : Shape := ⟨3, ![8192, 8, 32]⟩
abbrev S8192x8x384 : Shape := ⟨3, ![8192, 8, 384]⟩
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 27
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x8192x1024, .f32⟩
  | .hbm, ⟨5, _⟩ => ⟨S1x8192x2816, .f32⟩
  | .hbm, ⟨6, _⟩ => ⟨S1x8192x2816, .f32⟩
  | .hbm, ⟨7, _⟩ => ⟨S1x8192x2816, .f32⟩
  | .hbm, ⟨8, _⟩ => ⟨S1x8192x2816, .f32⟩
  | .hbm, ⟨9, _⟩ => ⟨S_, .f32⟩
  | .hbm, ⟨10, _⟩ => ⟨S1x8192x2816, .f32⟩
  | .hbm, ⟨11, _⟩ => ⟨S1x8192x2816, .f32⟩
  | .hbm, ⟨12, _⟩ => ⟨S_, .f32⟩
  | .hbm, ⟨13, _⟩ => ⟨S1x8192x2816, .f32⟩
  | .hbm, ⟨14, _⟩ => ⟨S1x8192x2816, .f32⟩
  | .hbm, ⟨15, _⟩ => ⟨S1x8192x2816, .f32⟩
  | .hbm, ⟨16, _⟩ => ⟨S1x8192x2816, .f32⟩
  | .hbm, ⟨17, _⟩ => ⟨S8192x2816, .f32⟩
  | .hbm, ⟨18, _⟩ => ⟨S8192x8x352, .f32⟩
  | .hbm, ⟨19, _⟩ => ⟨S_, .f32⟩
  | .hbm, ⟨20, _⟩ => ⟨S8192x8x32, .f32⟩
  | .hbm, ⟨21, _⟩ => ⟨S8192x8x384, .f32⟩
  | .hbm, ⟨22, _⟩ => ⟨S8192x3072, .f32⟩
  | .hbm, ⟨23, _⟩ => ⟨S8192x3072, .bf16⟩
  | .hbm, ⟨24, _⟩ => ⟨S8192x1024, .f32⟩
  | .hbm, ⟨25, _⟩ => ⟨S8192x1024, .bf16⟩
  | .hbm, ⟨26, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwDownIdeal.lean ====
abbrev S1x8192x1024 : Shape := ⟨3, ![1, 8192, 1024]⟩
abbrev S1024x2816 : Shape := ⟨2, ![1024, 2816]⟩
abbrev S2816x1024 : Shape := ⟨2, ![2816, 1024]⟩
abbrev S1x8192x2816 : Shape := ⟨3, ![1, 8192, 2816]⟩
abbrev S_ : Shape := ⟨0, ![]⟩
abbrev S8x352x1024 : Shape := ⟨3, ![8, 352, 1024]⟩
abbrev S8x32x1024 : Shape := ⟨3, ![8, 32, 1024]⟩
abbrev S8x384x1024 : Shape := ⟨3, ![8, 384, 1024]⟩
abbrev S3072x1024 : Shape := ⟨2, ![3072, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x8192x1024, .f32⟩
  | .hbm, ⟨5, _⟩ => ⟨S1x8192x2816, .f32⟩
  | .hbm, ⟨6, _⟩ => ⟨S1x8192x2816, .f32⟩
  | .hbm, ⟨7, _⟩ => ⟨S1x8192x2816, .f32⟩
  | .hbm, ⟨8, _⟩ => ⟨S_, .f32⟩
  | .hbm, ⟨9, _⟩ => ⟨S1x8192x2816, .f32⟩
  | .hbm, ⟨10, _⟩ => ⟨S1x8192x2816, .f32⟩
  | .hbm, ⟨11, _⟩ => ⟨S_, .f32⟩
  | .hbm, ⟨12, _⟩ => ⟨S1x8192x2816, .f32⟩
  | .hbm, ⟨13, _⟩ => ⟨S1x8192x2816, .f32⟩
  | .hbm, ⟨14, _⟩ => ⟨S_, .f32⟩
  | .hbm, ⟨15, _⟩ => ⟨S1x8192x2816, .f32⟩
  | .hbm, ⟨16, _⟩ => ⟨S1x8192x2816, .f32⟩
  | .hbm, ⟨17, _⟩ => ⟨S1x8192x2816, .f32⟩
  | .hbm, ⟨18, _⟩ => ⟨S1x8192x2816, .f32⟩
  | .hbm, ⟨19, _⟩ => ⟨S1x8192x2816, .f32⟩
  | .hbm, ⟨20, _⟩ => ⟨S1x8192x2816, .f32⟩
  | .hbm, ⟨21, _⟩ => ⟨S1x8192x1024, .f32⟩
  | .hbm, ⟨22, _⟩ => ⟨S1024x2816, .f32⟩
  | .hbm, ⟨23, _⟩ => ⟨S2816x1024, .f32⟩
  | .hbm, ⟨24, _⟩ => ⟨S1x8192x2816, .f32⟩
  | .hbm, ⟨25, _⟩ => ⟨S1x8192x2816, .f32⟩
  | .hbm, ⟨26, _⟩ => ⟨S1x8192x2816, .f32⟩
  | .hbm, ⟨27, _⟩ => ⟨S2816x1024, .f32⟩
  | .hbm, ⟨28, _⟩ => ⟨S1024x2816, .f32⟩
  | .hbm, ⟨29, _⟩ => ⟨S1x8192x1024, .f32⟩
  | .hbm, ⟨30, _⟩ => ⟨S1x8192x2816, .f32⟩
  | .hbm, ⟨31, _⟩ => ⟨S1x8192x2816, .f32⟩
  | .hbm, ⟨32, _⟩ => ⟨S1x8192x2816, .f32⟩
  | .hbm, ⟨33, _⟩ => ⟨S1x8192x2816, .f32⟩
  | .hbm, ⟨34, _⟩ => ⟨S2816x1024, .f32⟩
  | .hbm, ⟨35, _⟩ => ⟨S1024x2816, .f32⟩
  | .hbm, ⟨36, _⟩ => ⟨S1x8192x1024, .f32⟩
  | .hbm, ⟨37, _⟩ => ⟨S1x8192x1024, .f32⟩
  | .hbm, ⟨38, _⟩ => ⟨S8x352x1024, .f32⟩
  | .hbm, ⟨39, _⟩ => ⟨S_, .f32⟩
  | .hbm, ⟨40, _⟩ => ⟨S8x32x1024, .f32⟩
  | .hbm, ⟨41, _⟩ => ⟨S8x384x1024, .f32⟩
  | .hbm, ⟨42, _⟩ => ⟨S3072x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]
-- ==== Hidden.lean ====
abbrev S1x8192x1024 : Shape := ⟨3, ![1, 8192, 1024]⟩
abbrev S1024x2816 : Shape := ⟨2, ![1024, 2816]⟩
abbrev S2816x1024 : Shape := ⟨2, ![2816, 1024]⟩
abbrev S1x8192x2816 : Shape := ⟨3, ![1, 8192, 2816]⟩
abbrev S8192x2816 : Shape := ⟨2, ![8192, 2816]⟩
abbrev S8192x8x352 : Shape := ⟨3, ![8192, 8, 352]⟩
abbrev S_ : Shape := ⟨0, ![]⟩
abbrev S8192x8x32 : Shape := ⟨3, ![8192, 8, 32]⟩
abbrev S8192x8x384 : Shape := ⟨3, ![8192, 8, 384]⟩
abbrev S8192x8x768 : Shape := ⟨3, ![8192, 8, 768]⟩
abbrev S8192x6144 : Shape := ⟨2, ![8192, 6144]⟩
abbrev S8192x1024 : Shape := ⟨2, ![8192, 1024]⟩
abbrev S8x352x1024 : Shape := ⟨3, ![8, 352, 1024]⟩
abbrev S8x32x1024 : Shape := ⟨3, ![8, 32, 1024]⟩
abbrev S8x384x1024 : Shape := ⟨3, ![8, 384, 1024]⟩
abbrev S3072x1024 : Shape := ⟨2, ![3072, 1024]⟩
abbrev S1024x1024 : Shape := ⟨2, ![1024, 1024]⟩
abbrev S384x1024 : Shape := ⟨2, ![384, 1024]⟩
abbrev S1024x768 : Shape := ⟨2, ![1024, 768]⟩
abbrev S256x1024 : Shape := ⟨2, ![256, 1024]⟩
abbrev S256x384 : Shape := ⟨2, ![256, 384]⟩

abbrev nBuf : Space → Nat
  | .hbm => 29
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x8192x1024, .f32⟩
  | .hbm, ⟨5, _⟩ => ⟨S1x8192x2816, .f32⟩
  | .hbm, ⟨6, _⟩ => ⟨S1x8192x2816, .f32⟩
  | .hbm, ⟨7, _⟩ => ⟨S8192x2816, .f32⟩
  | .hbm, ⟨8, _⟩ => ⟨S8192x2816, .f32⟩
  | .hbm, ⟨9, _⟩ => ⟨S8192x8x352, .f32⟩
  | .hbm, ⟨10, _⟩ => ⟨S_, .f32⟩
  | .hbm, ⟨11, _⟩ => ⟨S8192x8x32, .f32⟩
  | .hbm, ⟨12, _⟩ => ⟨S8192x8x384, .f32⟩
  | .hbm, ⟨13, _⟩ => ⟨S8192x8x352, .f32⟩
  | .hbm, ⟨14, _⟩ => ⟨S_, .f32⟩
  | .hbm, ⟨15, _⟩ => ⟨S8192x8x32, .f32⟩
  | .hbm, ⟨16, _⟩ => ⟨S8192x8x384, .f32⟩
  | .hbm, ⟨17, _⟩ => ⟨S8192x8x768, .f32⟩
  | .hbm, ⟨18, _⟩ => ⟨S8192x6144, .f32⟩
  | .hbm, ⟨19, _⟩ => ⟨S8192x1024, .f32⟩
  | .hbm, ⟨20, _⟩ => ⟨S8192x1024, .bf16⟩
  | .hbm, ⟨21, _⟩ => ⟨S8x352x1024, .f32⟩
  | .hbm, ⟨22, _⟩ => ⟨S_, .f32⟩
  | .hbm, ⟨23, _⟩ => ⟨S8x32x1024, .f32⟩
  | .hbm, ⟨24, _⟩ => ⟨S8x384x1024, .f32⟩
  | .hbm, ⟨25, _⟩ => ⟨S3072x1024, .f32⟩
  | .hbm, ⟨26, _⟩ => ⟨S3072x1024, .bf16⟩
  | .hbm, ⟨27, _⟩ => ⟨S8192x6144, .bf16⟩
  | .hbm, ⟨28, _⟩ => ⟨S8192x6144, .bf16⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S384x1024, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefHiddenIdeal.lean ====
abbrev S1x8192x1024 : Shape := ⟨3, ![1, 8192, 1024]⟩
abbrev S1024x2816 : Shape := ⟨2, ![1024, 2816]⟩
abbrev S2816x1024 : Shape := ⟨2, ![2816, 1024]⟩
abbrev S1x8192x2816 : Shape := ⟨3, ![1, 8192, 2816]⟩
abbrev S_ : Shape := ⟨0, ![]⟩
abbrev S8192x8x32 : Shape := ⟨3, ![8192, 8, 32]⟩
abbrev S8192x8x352 : Shape := ⟨3, ![8192, 8, 352]⟩
abbrev S8192x8x768 : Shape := ⟨3, ![8192, 8, 768]⟩
abbrev S8192x6144 : Shape := ⟨2, ![8192, 6144]⟩

abbrev nBuf : Space → Nat
  | .hbm => 36
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x8192x1024, .f32⟩
  | .hbm, ⟨5, _⟩ => ⟨S1x8192x2816, .f32⟩
  | .hbm, ⟨6, _⟩ => ⟨S1x8192x2816, .f32⟩
  | .hbm, ⟨7, _⟩ => ⟨S1x8192x2816, .f32⟩
  | .hbm, ⟨8, _⟩ => ⟨S1x8192x2816, .f32⟩
  | .hbm, ⟨9, _⟩ => ⟨S_, .f32⟩
  | .hbm, ⟨10, _⟩ => ⟨S1x8192x2816, .f32⟩
  | .hbm, ⟨11, _⟩ => ⟨S1x8192x2816, .f32⟩
  | .hbm, ⟨12, _⟩ => ⟨S_, .f32⟩
  | .hbm, ⟨13, _⟩ => ⟨S1x8192x2816, .f32⟩
  | .hbm, ⟨14, _⟩ => ⟨S1x8192x2816, .f32⟩
  | .hbm, ⟨15, _⟩ => ⟨S_, .f32⟩
  | .hbm, ⟨16, _⟩ => ⟨S1x8192x2816, .f32⟩
  | .hbm, ⟨17, _⟩ => ⟨S1x8192x2816, .f32⟩
  | .hbm, ⟨18, _⟩ => ⟨S1x8192x2816, .f32⟩
  | .hbm, ⟨19, _⟩ => ⟨S1x8192x2816, .f32⟩
  | .hbm, ⟨20, _⟩ => ⟨S1x8192x2816, .f32⟩
  | .hbm, ⟨21, _⟩ => ⟨S1x8192x1024, .f32⟩
  | .hbm, ⟨22, _⟩ => ⟨S1x8192x2816, .f32⟩
  | .hbm, ⟨23, _⟩ => ⟨S1x8192x2816, .f32⟩
  | .hbm, ⟨24, _⟩ => ⟨S1x8192x2816, .f32⟩
  | .hbm, ⟨25, _⟩ => ⟨S1x8192x2816, .f32⟩
  | .hbm, ⟨26, _⟩ => ⟨S1x8192x2816, .f32⟩
  | .hbm, ⟨27, _⟩ => ⟨S1x8192x2816, .f32⟩
  | .hbm, ⟨28, _⟩ => ⟨S1x8192x2816, .f32⟩
  | .hbm, ⟨29, _⟩ => ⟨S_, .f32⟩
  | .hbm, ⟨30, _⟩ => ⟨S8192x8x32, .f32⟩
  | .hbm, ⟨31, _⟩ => ⟨S8192x8x352, .f32⟩
  | .hbm, ⟨32, _⟩ => ⟨S8192x8x352, .f32⟩
  | .hbm, ⟨33, _⟩ => ⟨S8192x8x768, .f32⟩
  | .hbm, ⟨34, _⟩ => ⟨S8192x6144, .f32⟩
  | .hbm, ⟨35, _⟩ => ⟨S8192x6144, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== DwGateUp.lean ====
abbrev S1x8192x1024 : Shape := ⟨3, ![1, 8192, 1024]⟩
abbrev S1024x2816 : Shape := ⟨2, ![1024, 2816]⟩
abbrev S2816x1024 : Shape := ⟨2, ![2816, 1024]⟩
abbrev S1x8192x2816 : Shape := ⟨3, ![1, 8192, 2816]⟩
abbrev S_ : Shape := ⟨0, ![]⟩
abbrev S8192x2816 : Shape := ⟨2, ![8192, 2816]⟩
abbrev S8192x8x352 : Shape := ⟨3, ![8192, 8, 352]⟩
abbrev S8192x8x32 : Shape := ⟨3, ![8192, 8, 32]⟩
abbrev S8192x8x384 : Shape := ⟨3, ![8192, 8, 384]⟩
abbrev S8192x8x768 : Shape := ⟨3, ![8192, 8, 768]⟩
abbrev S8192x6144 : Shape := ⟨2, ![8192, 6144]⟩
abbrev S8192x1024 : Shape := ⟨2, ![8192, 1024]⟩
abbrev S8x1024x768 : Shape := ⟨3, ![8, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 45
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x8192x1024, .f32⟩
  | .hbm, ⟨5, _⟩ => ⟨S1x8192x2816, .f32⟩
  | .hbm, ⟨6, _⟩ => ⟨S1x8192x2816, .f32⟩
  | .hbm, ⟨7, _⟩ => ⟨S1x8192x2816, .f32⟩
  | .hbm, ⟨8, _⟩ => ⟨S1x8192x2816, .f32⟩
  | .hbm, ⟨9, _⟩ => ⟨S_, .f32⟩
  | .hbm, ⟨10, _⟩ => ⟨S1x8192x2816, .f32⟩
  | .hbm, ⟨11, _⟩ => ⟨S1x8192x2816, .f32⟩
  | .hbm, ⟨12, _⟩ => ⟨S_, .f32⟩
  | .hbm, ⟨13, _⟩ => ⟨S1x8192x2816, .f32⟩
  | .hbm, ⟨14, _⟩ => ⟨S1x8192x2816, .f32⟩
  | .hbm, ⟨15, _⟩ => ⟨S_, .f32⟩
  | .hbm, ⟨16, _⟩ => ⟨S1x8192x2816, .f32⟩
  | .hbm, ⟨17, _⟩ => ⟨S1x8192x2816, .f32⟩
  | .hbm, ⟨18, _⟩ => ⟨S1x8192x2816, .f32⟩
  | .hbm, ⟨19, _⟩ => ⟨S1x8192x2816, .f32⟩
  | .hbm, ⟨20, _⟩ => ⟨S1x8192x2816, .f32⟩
  | .hbm, ⟨21, _⟩ => ⟨S1x8192x1024, .f32⟩
  | .hbm, ⟨22, _⟩ => ⟨S1x8192x2816, .f32⟩
  | .hbm, ⟨23, _⟩ => ⟨S1x8192x2816, .f32⟩
  | .hbm, ⟨24, _⟩ => ⟨S1x8192x2816, .f32⟩
  | .hbm, ⟨25, _⟩ => ⟨S1x8192x2816, .f32⟩
  | .hbm, ⟨26, _⟩ => ⟨S1x8192x2816, .f32⟩
  | .hbm, ⟨27, _⟩ => ⟨S1x8192x2816, .f32⟩
  | .hbm, ⟨28, _⟩ => ⟨S1x8192x2816, .f32⟩
  | .hbm, ⟨29, _⟩ => ⟨S8192x2816, .f32⟩
  | .hbm, ⟨30, _⟩ => ⟨S8192x2816, .f32⟩
  | .hbm, ⟨31, _⟩ => ⟨S8192x8x352, .f32⟩
  | .hbm, ⟨32, _⟩ => ⟨S_, .f32⟩
  | .hbm, ⟨33, _⟩ => ⟨S8192x8x32, .f32⟩
  | .hbm, ⟨34, _⟩ => ⟨S8192x8x384, .f32⟩
  | .hbm, ⟨35, _⟩ => ⟨S8192x8x352, .f32⟩
  | .hbm, ⟨36, _⟩ => ⟨S_, .f32⟩
  | .hbm, ⟨37, _⟩ => ⟨S8192x8x32, .f32⟩
  | .hbm, ⟨38, _⟩ => ⟨S8192x8x384, .f32⟩
  | .hbm, ⟨39, _⟩ => ⟨S8192x8x768, .f32⟩
  | .hbm, ⟨40, _⟩ => ⟨S8192x6144, .f32⟩
  | .hbm, ⟨41, _⟩ => ⟨S8192x1024, .f32⟩
  | .hbm, ⟨42, _⟩ => ⟨S8192x1024, .bf16⟩
  | .hbm, ⟨43, _⟩ => ⟨S8192x6144, .bf16⟩
  | .hbm, ⟨44, _⟩ => ⟨S8x1024x768, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwGateUpIdeal.lean ====
abbrev S1x8192x1024 : Shape := ⟨3, ![1, 8192, 1024]⟩
abbrev S1024x2816 : Shape := ⟨2, ![1024, 2816]⟩
abbrev S2816x1024 : Shape := ⟨2, ![2816, 1024]⟩
abbrev S1x8192x2816 : Shape := ⟨3, ![1, 8192, 2816]⟩
abbrev S_ : Shape := ⟨0, ![]⟩
abbrev S1024x8x32 : Shape := ⟨3, ![1024, 8, 32]⟩
abbrev S1024x8x352 : Shape := ⟨3, ![1024, 8, 352]⟩
abbrev S1024x8x768 : Shape := ⟨3, ![1024, 8, 768]⟩
abbrev S8x1024x768 : Shape := ⟨3, ![8, 1024, 768]⟩

abbrev nBuf : Space → Nat
  | .hbm => 44
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x8192x1024, .f32⟩
  | .hbm, ⟨5, _⟩ => ⟨S1x8192x2816, .f32⟩
  | .hbm, ⟨6, _⟩ => ⟨S1x8192x2816, .f32⟩
  | .hbm, ⟨7, _⟩ => ⟨S1x8192x2816, .f32⟩
  | .hbm, ⟨8, _⟩ => ⟨S_, .f32⟩
  | .hbm, ⟨9, _⟩ => ⟨S1x8192x2816, .f32⟩
  | .hbm, ⟨10, _⟩ => ⟨S1x8192x2816, .f32⟩
  | .hbm, ⟨11, _⟩ => ⟨S_, .f32⟩
  | .hbm, ⟨12, _⟩ => ⟨S1x8192x2816, .f32⟩
  | .hbm, ⟨13, _⟩ => ⟨S1x8192x2816, .f32⟩
  | .hbm, ⟨14, _⟩ => ⟨S_, .f32⟩
  | .hbm, ⟨15, _⟩ => ⟨S1x8192x2816, .f32⟩
  | .hbm, ⟨16, _⟩ => ⟨S1x8192x2816, .f32⟩
  | .hbm, ⟨17, _⟩ => ⟨S1x8192x2816, .f32⟩
  | .hbm, ⟨18, _⟩ => ⟨S1x8192x2816, .f32⟩
  | .hbm, ⟨19, _⟩ => ⟨S1x8192x2816, .f32⟩
  | .hbm, ⟨20, _⟩ => ⟨S1x8192x2816, .f32⟩
  | .hbm, ⟨21, _⟩ => ⟨S1x8192x1024, .f32⟩
  | .hbm, ⟨22, _⟩ => ⟨S1024x2816, .f32⟩
  | .hbm, ⟨23, _⟩ => ⟨S2816x1024, .f32⟩
  | .hbm, ⟨24, _⟩ => ⟨S1x8192x2816, .f32⟩
  | .hbm, ⟨25, _⟩ => ⟨S1x8192x2816, .f32⟩
  | .hbm, ⟨26, _⟩ => ⟨S1x8192x2816, .f32⟩
  | .hbm, ⟨27, _⟩ => ⟨S2816x1024, .f32⟩
  | .hbm, ⟨28, _⟩ => ⟨S1024x2816, .f32⟩
  | .hbm, ⟨29, _⟩ => ⟨S1x8192x1024, .f32⟩
  | .hbm, ⟨30, _⟩ => ⟨S1x8192x2816, .f32⟩
  | .hbm, ⟨31, _⟩ => ⟨S1x8192x2816, .f32⟩
  | .hbm, ⟨32, _⟩ => ⟨S1x8192x2816, .f32⟩
  | .hbm, ⟨33, _⟩ => ⟨S1x8192x2816, .f32⟩
  | .hbm, ⟨34, _⟩ => ⟨S2816x1024, .f32⟩
  | .hbm, ⟨35, _⟩ => ⟨S1024x2816, .f32⟩
  | .hbm, ⟨36, _⟩ => ⟨S1x8192x1024, .f32⟩
  | .hbm, ⟨37, _⟩ => ⟨S1x8192x1024, .f32⟩
  | .hbm, ⟨38, _⟩ => ⟨S_, .f32⟩
  | .hbm, ⟨39, _⟩ => ⟨S1024x8x32, .f32⟩
  | .hbm, ⟨40, _⟩ => ⟨S1024x8x352, .f32⟩
  | .hbm, ⟨41, _⟩ => ⟨S1024x8x352, .f32⟩
  | .hbm, ⟨42, _⟩ => ⟨S1024x8x768, .f32⟩
  | .hbm, ⟨43, _⟩ => ⟨S8x1024x768, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]
-- ==== DxGateUp.lean ====
abbrev S1x8192x1024 : Shape := ⟨3, ![1, 8192, 1024]⟩
abbrev S1024x2816 : Shape := ⟨2, ![1024, 2816]⟩
abbrev S2816x1024 : Shape := ⟨2, ![2816, 1024]⟩
abbrev S1x8192x2816 : Shape := ⟨3, ![1, 8192, 2816]⟩
abbrev S_ : Shape := ⟨0, ![]⟩
abbrev S8192x2816 : Shape := ⟨2, ![8192, 2816]⟩
abbrev S8192x8x352 : Shape := ⟨3, ![8192, 8, 352]⟩
abbrev S8192x8x32 : Shape := ⟨3, ![8192, 8, 32]⟩
abbrev S8192x8x384 : Shape := ⟨3, ![8192, 8, 384]⟩
abbrev S8192x8x768 : Shape := ⟨3, ![8192, 8, 768]⟩
abbrev S8192x6144 : Shape := ⟨2, ![8192, 6144]⟩
abbrev S1024x8x352 : Shape := ⟨3, ![1024, 8, 352]⟩
abbrev S1024x8x32 : Shape := ⟨3, ![1024, 8, 32]⟩
abbrev S1024x8x384 : Shape := ⟨3, ![1024, 8, 384]⟩
abbrev S1024x8x768 : Shape := ⟨3, ![1024, 8, 768]⟩
abbrev S8x1024x768 : Shape := ⟨3, ![8, 1024, 768]⟩
abbrev S8192x1024 : Shape := ⟨2, ![8192, 1024]⟩
abbrev S1024x1536 : Shape := ⟨2, ![1024, 1536]⟩
abbrev S2x1024x768 : Shape := ⟨3, ![2, 1024, 768]⟩
abbrev S1024x1024 : Shape := ⟨2, ![1024, 1024]⟩
abbrev S1024x768 : Shape := ⟨2, ![1024, 768]⟩
abbrev S1x1024x768 : Shape := ⟨3, ![1, 1024, 768]⟩

abbrev nBuf : Space → Nat
  | .hbm => 54
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x8192x1024, .f32⟩
  | .hbm, ⟨5, _⟩ => ⟨S1x8192x2816, .f32⟩
  | .hbm, ⟨6, _⟩ => ⟨S1x8192x2816, .f32⟩
  | .hbm, ⟨7, _⟩ => ⟨S1x8192x2816, .f32⟩
  | .hbm, ⟨8, _⟩ => ⟨S1x8192x2816, .f32⟩
  | .hbm, ⟨9, _⟩ => ⟨S_, .f32⟩
  | .hbm, ⟨10, _⟩ => ⟨S1x8192x2816, .f32⟩
  | .hbm, ⟨11, _⟩ => ⟨S1x8192x2816, .f32⟩
  | .hbm, ⟨12, _⟩ => ⟨S_, .f32⟩
  | .hbm, ⟨13, _⟩ => ⟨S1x8192x2816, .f32⟩
  | .hbm, ⟨14, _⟩ => ⟨S1x8192x2816, .f32⟩
  | .hbm, ⟨15, _⟩ => ⟨S_, .f32⟩
  | .hbm, ⟨16, _⟩ => ⟨S1x8192x2816, .f32⟩
  | .hbm, ⟨17, _⟩ => ⟨S1x8192x2816, .f32⟩
  | .hbm, ⟨18, _⟩ => ⟨S1x8192x2816, .f32⟩
  | .hbm, ⟨19, _⟩ => ⟨S1x8192x2816, .f32⟩
  | .hbm, ⟨20, _⟩ => ⟨S1x8192x2816, .f32⟩
  | .hbm, ⟨21, _⟩ => ⟨S1x8192x1024, .f32⟩
  | .hbm, ⟨22, _⟩ => ⟨S1x8192x2816, .f32⟩
  | .hbm, ⟨23, _⟩ => ⟨S1x8192x2816, .f32⟩
  | .hbm, ⟨24, _⟩ => ⟨S1x8192x2816, .f32⟩
  | .hbm, ⟨25, _⟩ => ⟨S1x8192x2816, .f32⟩
  | .hbm, ⟨26, _⟩ => ⟨S1x8192x2816, .f32⟩
  | .hbm, ⟨27, _⟩ => ⟨S1x8192x2816, .f32⟩
  | .hbm, ⟨28, _⟩ => ⟨S1x8192x2816, .f32⟩
  | .hbm, ⟨29, _⟩ => ⟨S8192x2816, .f32⟩
  | .hbm, ⟨30, _⟩ => ⟨S8192x2816, .f32⟩
  | .hbm, ⟨31, _⟩ => ⟨S8192x8x352, .f32⟩
  | .hbm, ⟨32, _⟩ => ⟨S_, .f32⟩
  | .hbm, ⟨33, _⟩ => ⟨S8192x8x32, .f32⟩
  | .hbm, ⟨34, _⟩ => ⟨S8192x8x384, .f32⟩
  | .hbm, ⟨35, _⟩ => ⟨S8192x8x352, .f32⟩
  | .hbm, ⟨36, _⟩ => ⟨S_, .f32⟩
  | .hbm, ⟨37, _⟩ => ⟨S8192x8x32, .f32⟩
  | .hbm, ⟨38, _⟩ => ⟨S8192x8x384, .f32⟩
  | .hbm, ⟨39, _⟩ => ⟨S8192x8x768, .f32⟩
  | .hbm, ⟨40, _⟩ => ⟨S8192x6144, .f32⟩
  | .hbm, ⟨41, _⟩ => ⟨S1024x8x352, .f32⟩
  | .hbm, ⟨42, _⟩ => ⟨S_, .f32⟩
  | .hbm, ⟨43, _⟩ => ⟨S1024x8x32, .f32⟩
  | .hbm, ⟨44, _⟩ => ⟨S1024x8x384, .f32⟩
  | .hbm, ⟨45, _⟩ => ⟨S1024x8x352, .f32⟩
  | .hbm, ⟨46, _⟩ => ⟨S_, .f32⟩
  | .hbm, ⟨47, _⟩ => ⟨S1024x8x32, .f32⟩
  | .hbm, ⟨48, _⟩ => ⟨S1024x8x384, .f32⟩
  | .hbm, ⟨49, _⟩ => ⟨S1024x8x768, .f32⟩
  | .hbm, ⟨50, _⟩ => ⟨S8x1024x768, .f32⟩
  | .hbm, ⟨51, _⟩ => ⟨S8192x6144, .bf16⟩
  | .hbm, ⟨52, _⟩ => ⟨S8x1024x768, .bf16⟩
  | .hbm, ⟨53, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S2x1024x768, .bf16⟩
  | .local _ .vmem, ⟨3, _⟩ => ⟨S2x1024x768, .bf16⟩
  | .local _ .vmem, ⟨4, _⟩ => ⟨S1024x1024, .f32⟩
  | .local _ .vmem, ⟨5, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v13 : BitVec 1 := Scalar.cmpi .eq arg2 c0_i32
  let v14 : BitVec 32 := Scalar.extui v13
  let c0_i32_9 : BitVec 32 := 0#32
  let v15 : BitVec 1 := Scalar.cmpi .ne v14 c0_i32_9
  v15

def k0_cond2 (i : grid0.Coords) : BitVec 1 :=
  let arg2 : BitVec 32 := BitVec.ofNat 32 (i 2).val
  let c0_i32_10 : BitVec 32 := 0#32
  let v16 : BitVec 1 := Scalar.cmpi .sgt arg2 c0_i32_10
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDxGateUpIdeal.lean ====
abbrev S1x8192x1024 : Shape := ⟨3, ![1, 8192, 1024]⟩
abbrev S1024x2816 : Shape := ⟨2, ![1024, 2816]⟩
abbrev S2816x1024 : Shape := ⟨2, ![2816, 1024]⟩
abbrev S1x8192x2816 : Shape := ⟨3, ![1, 8192, 2816]⟩
abbrev S_ : Shape := ⟨0, ![]⟩
abbrev S8192x1024 : Shape := ⟨2, ![8192, 1024]⟩

abbrev nBuf : Space → Nat
  | .hbm => 39
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x8192x1024, .f32⟩
  | .hbm, ⟨5, _⟩ => ⟨S1x8192x2816, .f32⟩
  | .hbm, ⟨6, _⟩ => ⟨S1x8192x2816, .f32⟩
  | .hbm, ⟨7, _⟩ => ⟨S1x8192x2816, .f32⟩
  | .hbm, ⟨8, _⟩ => ⟨S_, .f32⟩
  | .hbm, ⟨9, _⟩ => ⟨S1x8192x2816, .f32⟩
  | .hbm, ⟨10, _⟩ => ⟨S1x8192x2816, .f32⟩
  | .hbm, ⟨11, _⟩ => ⟨S_, .f32⟩
  | .hbm, ⟨12, _⟩ => ⟨S1x8192x2816, .f32⟩
  | .hbm, ⟨13, _⟩ => ⟨S1x8192x2816, .f32⟩
  | .hbm, ⟨14, _⟩ => ⟨S_, .f32⟩
  | .hbm, ⟨15, _⟩ => ⟨S1x8192x2816, .f32⟩
  | .hbm, ⟨16, _⟩ => ⟨S1x8192x2816, .f32⟩
  | .hbm, ⟨17, _⟩ => ⟨S1x8192x2816, .f32⟩
  | .hbm, ⟨18, _⟩ => ⟨S1x8192x2816, .f32⟩
  | .hbm, ⟨19, _⟩ => ⟨S1x8192x2816, .f32⟩
  | .hbm, ⟨20, _⟩ => ⟨S1x8192x2816, .f32⟩
  | .hbm, ⟨21, _⟩ => ⟨S1x8192x1024, .f32⟩
  | .hbm, ⟨22, _⟩ => ⟨S1024x2816, .f32⟩
  | .hbm, ⟨23, _⟩ => ⟨S2816x1024, .f32⟩
  | .hbm, ⟨24, _⟩ => ⟨S1x8192x2816, .f32⟩
  | .hbm, ⟨25, _⟩ => ⟨S1x8192x2816, .f32⟩
  | .hbm, ⟨26, _⟩ => ⟨S1x8192x2816, .f32⟩
  | .hbm, ⟨27, _⟩ => ⟨S2816x1024, .f32⟩
  | .hbm, ⟨28, _⟩ => ⟨S1024x2816, .f32⟩
  | .hbm, ⟨29, _⟩ => ⟨S1x8192x1024, .f32⟩
  | .hbm, ⟨30, _⟩ => ⟨S1x8192x2816, .f32⟩
  | .hbm, ⟨31, _⟩ => ⟨S1x8192x2816, .f32⟩
  | .hbm, ⟨32, _⟩ => ⟨S1x8192x2816, .f32⟩
  | .hbm, ⟨33, _⟩ => ⟨S1x8192x2816, .f32⟩
  | .hbm, ⟨34, _⟩ => ⟨S2816x1024, .f32⟩
  | .hbm, ⟨35, _⟩ => ⟨S1024x2816, .f32⟩
  | .hbm, ⟨36, _⟩ => ⟨S1x8192x1024, .f32⟩
  | .hbm, ⟨37, _⟩ => ⟨S1x8192x1024, .f32⟩
  | .hbm, ⟨38, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== DwSquare.lean ====
abbrev S1x8192x1024 : Shape := ⟨3, ![1, 8192, 1024]⟩
abbrev S1024x1024 : Shape := ⟨2, ![1024, 1024]⟩
abbrev S8192x1024 : Shape := ⟨2, ![8192, 1024]⟩
abbrev S2048x1024 : Shape := ⟨2, ![2048, 1024]⟩

abbrev nBuf : Space → Nat
  | .hbm => 8
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x8192x1024, .f32⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S8192x1024, .bf16⟩
  | .hbm, ⟨7, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwSquareIdeal.lean ====
abbrev S1x8192x1024 : Shape := ⟨3, ![1, 8192, 1024]⟩
abbrev S1024x1024 : Shape := ⟨2, ![1024, 1024]⟩
abbrev S8192x1024 : Shape := ⟨2, ![8192, 1024]⟩
abbrev S2048x1024 : Shape := ⟨2, ![2048, 1024]⟩

abbrev nBuf : Space → Nat
  | .hbm => 8
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x8192x1024, .f32⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S8192x1024, .bf16⟩
  | .hbm, ⟨7, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefDwSquareIdeal.lean ====
abbrev S1x8192x1024 : Shape := ⟨3, ![1, 8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x8192x1024, .f32⟩
  | .hbm, ⟨3, _⟩ => ⟨S1x8192x1024, .f32⟩
  | .hbm, ⟨4, _⟩ => ⟨S1024x1024, .f32⟩
  | .hbm, ⟨5, _⟩ => ⟨S1024x1024, .f32⟩
  | .hbm, ⟨6, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwEvIn.lean ====
abbrev S1x8192x1024 : Shape := ⟨3, ![1, 8192, 1024]⟩
abbrev S1024x3072 : Shape := ⟨2, ![1024, 3072]⟩
abbrev S1x8192x3072 : Shape := ⟨3, ![1, 8192, 3072]⟩
abbrev S8192x1024 : Shape := ⟨2, ![8192, 1024]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024x3072, .f32⟩
  | .hbm, ⟨2, _⟩ => ⟨S1x8192x3072, .f32⟩
  | .hbm, ⟨3, _⟩ => ⟨S8192x1024, .f32⟩
  | .hbm, ⟨4, _⟩ => ⟨S8192x1024, .bf16⟩
  | .hbm, ⟨5, _⟩ => ⟨S8192x3072, .f32⟩
  | .hbm, ⟨6, _⟩ => ⟨S8192x3072, .bf16⟩
  | .hbm, ⟨7, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwEvInIdeal.lean ====
abbrev S1x8192x1024 : Shape := ⟨3, ![1, 8192, 1024]⟩
abbrev S1024x3072 : Shape := ⟨2, ![1024, 3072]⟩
abbrev S1x8192x3072 : Shape := ⟨3, ![1, 8192, 3072]⟩
abbrev S8192x1024 : Shape := ⟨2, ![8192, 1024]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024x3072, .f32⟩
  | .hbm, ⟨2, _⟩ => ⟨S1x8192x3072, .f32⟩
  | .hbm, ⟨3, _⟩ => ⟨S8192x1024, .f32⟩
  | .hbm, ⟨4, _⟩ => ⟨S8192x1024, .bf16⟩
  | .hbm, ⟨5, _⟩ => ⟨S8192x3072, .f32⟩
  | .hbm, ⟨6, _⟩ => ⟨S8192x3072, .bf16⟩
  | .hbm, ⟨7, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwEvInIdeal.lean ====
abbrev S1x8192x1024 : Shape := ⟨3, ![1, 8192, 1024]⟩
abbrev S1024x3072 : Shape := ⟨2, ![1024, 3072]⟩
abbrev S1x8192x3072 : Shape := ⟨3, ![1, 8192, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x3072, .f32⟩
  | .hbm, ⟨2, _⟩ => ⟨S1x8192x3072, .f32⟩
  | .hbm, ⟨3, _⟩ => ⟨S1x8192x3072, .f32⟩
  | .hbm, ⟨4, _⟩ => ⟨S3072x1024, .f32⟩
  | .hbm, ⟨5, _⟩ => ⟨S1024x3072, .f32⟩
  | .hbm, ⟨6, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOdIn.lean ====
abbrev S1x8192x1024 : Shape := ⟨3, ![1, 8192, 1024]⟩
abbrev S1024x1536 : Shape := ⟨2, ![1024, 1536]⟩
abbrev S1x8192x1536 : Shape := ⟨3, ![1, 8192, 1536]⟩
abbrev S8192x1024 : Shape := ⟨2, ![8192, 1024]⟩
abbrev S8192x1536 : Shape := ⟨2, ![8192, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 8
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024x1536, .f32⟩
  | .hbm, ⟨2, _⟩ => ⟨S1x8192x1536, .f32⟩
  | .hbm, ⟨3, _⟩ => ⟨S8192x1024, .f32⟩
  | .hbm, ⟨4, _⟩ => ⟨S8192x1024, .bf16⟩
  | .hbm, ⟨5, _⟩ => ⟨S8192x1536, .f32⟩
  | .hbm, ⟨6, _⟩ => ⟨S8192x1536, .bf16⟩
  | .hbm, ⟨7, _⟩ => ⟨S1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOdInIdeal.lean ====
abbrev S1x8192x1024 : Shape := ⟨3, ![1, 8192, 1024]⟩
abbrev S1024x1536 : Shape := ⟨2, ![1024, 1536]⟩
abbrev S1x8192x1536 : Shape := ⟨3, ![1, 8192, 1536]⟩
abbrev S8192x1024 : Shape := ⟨2, ![8192, 1024]⟩
abbrev S8192x1536 : Shape := ⟨2, ![8192, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 8
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024x1536, .f32⟩
  | .hbm, ⟨2, _⟩ => ⟨S1x8192x1536, .f32⟩
  | .hbm, ⟨3, _⟩ => ⟨S8192x1024, .f32⟩
  | .hbm, ⟨4, _⟩ => ⟨S8192x1024, .bf16⟩
  | .hbm, ⟨5, _⟩ => ⟨S8192x1536, .f32⟩
  | .hbm, ⟨6, _⟩ => ⟨S8192x1536, .bf16⟩
  | .hbm, ⟨7, _⟩ => ⟨S1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwOdInIdeal.lean ====
abbrev S1x8192x1024 : Shape := ⟨3, ![1, 8192, 1024]⟩
abbrev S1024x1536 : Shape := ⟨2, ![1024, 1536]⟩
abbrev S1x8192x1536 : Shape := ⟨3, ![1, 8192, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1536, .f32⟩
  | .hbm, ⟨2, _⟩ => ⟨S1x8192x1536, .f32⟩
  | .hbm, ⟨3, _⟩ => ⟨S1x8192x1536, .f32⟩
  | .hbm, ⟨4, _⟩ => ⟨S1536x1024, .f32⟩
  | .hbm, ⟨5, _⟩ => ⟨S1024x1536, .f32⟩
  | .hbm, ⟨6, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwPleProj.lean ====
abbrev S1x8192x256 : Shape := ⟨3, ![1, 8192, 256]⟩
abbrev S256x1024 : Shape := ⟨2, ![256, 1024]⟩
abbrev S1x8192x1024 : Shape := ⟨3, ![1, 8192, 1024]⟩
abbrev S8192x256 : Shape := ⟨2, ![8192, 256]⟩
abbrev S8192x1024 : Shape := ⟨2, ![8192, 1024]⟩
abbrev S2048x256 : Shape := ⟨2, ![2048, 256]⟩
abbrev S2048x1024 : Shape := ⟨2, ![2048, 1024]⟩

abbrev nBuf : Space → Nat
  | .hbm => 8
  | .vmem => 5
  | .smem => 0
  | _ => 0

abbrev bufTy : (tb : Table) → Fin (tcTables nBuf tb) → BufTy
  | .hbm, ⟨0, _⟩ => ⟨S1x8192x256, .f32⟩
  | .hbm, ⟨1, _⟩ => ⟨S256x1024, .f32⟩
  | .hbm, ⟨2, _⟩ => ⟨S1x8192x1024, .f32⟩
  | .hbm, ⟨3, _⟩ => ⟨S8192x256, .f32⟩
  | .hbm, ⟨4, _⟩ => ⟨S8192x256, .bf16⟩
  | .hbm, ⟨5, _⟩ => ⟨S8192x1024, .f32⟩
  | .hbm, ⟨6, _⟩ => ⟨S8192x1024, .bf16⟩
  | .hbm, ⟨7, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S1x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefDwPleProjIdeal.lean ====
abbrev S1x8192x256 : Shape := ⟨3, ![1, 8192, 256]⟩
abbrev S256x1024 : Shape := ⟨2, ![256, 1024]⟩
abbrev S1x8192x1024 : Shape := ⟨3, ![1, 8192, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x256, .f32⟩
  | .hbm, ⟨1, _⟩ => ⟨S256x1024, .f32⟩
  | .hbm, ⟨2, _⟩ => ⟨S1x8192x1024, .f32⟩
  | .hbm, ⟨3, _⟩ => ⟨S1x8192x1024, .f32⟩
  | .hbm, ⟨4, _⟩ => ⟨S1024x256, .f32⟩
  | .hbm, ⟨5, _⟩ => ⟨S256x1024, .f32⟩
  | .hbm, ⟨6, _⟩ => ⟨S1x8192x256, .f32⟩
  | _, _ => ⟨S1x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DxEvIn.lean ====
abbrev S1x8192x1024 : Shape := ⟨3, ![1, 8192, 1024]⟩
abbrev S1024x3072 : Shape := ⟨2, ![1024, 3072]⟩
abbrev S1x8192x3072 : Shape := ⟨3, ![1, 8192, 3072]⟩
abbrev S8192x3072 : Shape := ⟨2, ![8192, 3072]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024x3072, .f32⟩
  | .hbm, ⟨2, _⟩ => ⟨S1x8192x3072, .f32⟩
  | .hbm, ⟨3, _⟩ => ⟨S8192x3072, .f32⟩
  | .hbm, ⟨4, _⟩ => ⟨S8192x3072, .bf16⟩
  | .hbm, ⟨5, _⟩ => ⟨S1024x3072, .bf16⟩
  | .hbm, ⟨6, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxEvInIdeal.lean ====
abbrev S1x8192x1024 : Shape := ⟨3, ![1, 8192, 1024]⟩
abbrev S1024x3072 : Shape := ⟨2, ![1024, 3072]⟩
abbrev S1x8192x3072 : Shape := ⟨3, ![1, 8192, 3072]⟩
abbrev S8192x3072 : Shape := ⟨2, ![8192, 3072]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024x3072, .f32⟩
  | .hbm, ⟨2, _⟩ => ⟨S1x8192x3072, .f32⟩
  | .hbm, ⟨3, _⟩ => ⟨S8192x3072, .f32⟩
  | .hbm, ⟨4, _⟩ => ⟨S8192x3072, .bf16⟩
  | .hbm, ⟨5, _⟩ => ⟨S1024x3072, .bf16⟩
  | .hbm, ⟨6, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDxEvInIdeal.lean ====
abbrev S1x8192x1024 : Shape := ⟨3, ![1, 8192, 1024]⟩
abbrev S1024x3072 : Shape := ⟨2, ![1024, 3072]⟩
abbrev S1x8192x3072 : Shape := ⟨3, ![1, 8192, 3072]⟩
abbrev S3072x1024 : Shape := ⟨2, ![3072, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x3072, .f32⟩
  | .hbm, ⟨2, _⟩ => ⟨S1x8192x3072, .f32⟩
  | .hbm, ⟨3, _⟩ => ⟨S1x8192x3072, .f32⟩
  | .hbm, ⟨4, _⟩ => ⟨S3072x1024, .f32⟩
  | .hbm, ⟨5, _⟩ => ⟨S1024x3072, .f32⟩
  | .hbm, ⟨6, _⟩ => ⟨S1x8192x1024, .f32⟩
  | .hbm, ⟨7, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DxOdIn.lean ====
abbrev S1x8192x1024 : Shape := ⟨3, ![1, 8192, 1024]⟩
abbrev S1024x1536 : Shape := ⟨2, ![1024, 1536]⟩
abbrev S1x8192x1536 : Shape := ⟨3, ![1, 8192, 1536]⟩
abbrev S8192x1536 : Shape := ⟨2, ![8192, 1536]⟩
abbrev S8192x1024 : Shape := ⟨2, ![8192, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1024x1536, .f32⟩
  | .hbm, ⟨2, _⟩ => ⟨S1x8192x1536, .f32⟩
  | .hbm, ⟨3, _⟩ => ⟨S8192x1536, .f32⟩
  | .hbm, ⟨4, _⟩ => ⟨S8192x1536, .bf16⟩
  | .hbm, ⟨5, _⟩ => ⟨S1024x1536, .bf16⟩
  | .hbm, ⟨6, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxOdInIdeal.lean ====
abbrev S1x8192x1024 : Shape := ⟨3, ![1, 8192, 1024]⟩
abbrev S1024x1536 : Shape := ⟨2, ![1024, 1536]⟩
abbrev S1x8192x1536 : Shape := ⟨3, ![1, 8192, 1536]⟩
abbrev S8192x1536 : Shape := ⟨2, ![8192, 1536]⟩
abbrev S8192x1024 : Shape := ⟨2, ![8192, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1024x1536, .f32⟩
  | .hbm, ⟨2, _⟩ => ⟨S1x8192x1536, .f32⟩
  | .hbm, ⟨3, _⟩ => ⟨S8192x1536, .f32⟩
  | .hbm, ⟨4, _⟩ => ⟨S8192x1536, .bf16⟩
  | .hbm, ⟨5, _⟩ => ⟨S1024x1536, .bf16⟩
  | .hbm, ⟨6, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDxOdInIdeal.lean ====
abbrev S1x8192x1024 : Shape := ⟨3, ![1, 8192, 1024]⟩
abbrev S1024x1536 : Shape := ⟨2, ![1024, 1536]⟩
abbrev S1x8192x1536 : Shape := ⟨3, ![1, 8192, 1536]⟩
abbrev S1536x1024 : Shape := ⟨2, ![1536, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1536, .f32⟩
  | .hbm, ⟨2, _⟩ => ⟨S1x8192x1536, .f32⟩
  | .hbm, ⟨3, _⟩ => ⟨S1x8192x1536, .f32⟩
  | .hbm, ⟨4, _⟩ => ⟨S1536x1024, .f32⟩
  | .hbm, ⟨5, _⟩ => ⟨S1024x1536, .f32⟩
  | .hbm, ⟨6, _⟩ => ⟨S1x8192x1024, .f32⟩
  | .hbm, ⟨7, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DxPleGate.lean ====
abbrev S1x8192x1024 : Shape := ⟨3, ![1, 8192, 1024]⟩
abbrev S1024x1024 : Shape := ⟨2, ![1024, 1024]⟩
abbrev S8192x1024 : Shape := ⟨2, ![8192, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x8192x1024, .f32⟩
  | .hbm, ⟨3, _⟩ => ⟨S8192x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDxPleGateIdeal.lean ====
abbrev S1x8192x1024 : Shape := ⟨3, ![1, 8192, 1024]⟩
abbrev S1024x1024 : Shape := ⟨2, ![1024, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x8192x1024, .f32⟩
  | .hbm, ⟨3, _⟩ => ⟨S1x8192x1024, .f32⟩
  | .hbm, ⟨4, _⟩ => ⟨S1024x1024, .f32⟩
  | .hbm, ⟨5, _⟩ => ⟨S1024x1024, .f32⟩
  | .hbm, ⟨6, _⟩ => ⟨S1x8192x1024, .f32⟩
  | .hbm, ⟨7, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DxOut.lean ====
abbrev S1x8192x1024 : Shape := ⟨3, ![1, 8192, 1024]⟩
abbrev S1024x1024 : Shape := ⟨2, ![1024, 1024]⟩
abbrev S8192x1024 : Shape := ⟨2, ![8192, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x8192x1024, .f32⟩
  | .hbm, ⟨3, _⟩ => ⟨S8192x1024, .f32⟩
  | .hbm, ⟨4, _⟩ => ⟨S8192x1024, .bf16⟩
  | .hbm, ⟨5, _⟩ => ⟨S1024x1024, .bf16⟩
  | .hbm, ⟨6, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDxOutIdeal.lean ====
abbrev S1x8192x1024 : Shape := ⟨3, ![1, 8192, 1024]⟩
abbrev S1024x1024 : Shape := ⟨2, ![1024, 1024]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x8192x1024, .f32⟩
  | .hbm, ⟨3, _⟩ => ⟨S1x8192x1024, .f32⟩
  | .hbm, ⟨4, _⟩ => ⟨S1024x1024, .f32⟩
  | .hbm, ⟨5, _⟩ => ⟨S1024x1024, .f32⟩
  | .hbm, ⟨6, _⟩ => ⟨S1x8192x1024, .f32⟩
  | .hbm, ⟨7, _⟩ => ⟨S8192x1024, .f32⟩
  | .hbm, ⟨8, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvIn.lean ====
abbrev S1x8192x1024 : Shape := ⟨3, ![1, 8192, 1024]⟩
abbrev S1024x3072 : Shape := ⟨2, ![1024, 3072]⟩
abbrev S8192x1024 : Shape := ⟨2, ![8192, 1024]⟩
abbrev S8192x3072 : Shape := ⟨2, ![8192, 3072]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024x3072, .f32⟩
  | .hbm, ⟨2, _⟩ => ⟨S8192x1024, .f32⟩
  | .hbm, ⟨3, _⟩ => ⟨S8192x1024, .bf16⟩
  | .hbm, ⟨4, _⟩ => ⟨S1024x3072, .bf16⟩
  | .hbm, ⟨5, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInIdeal.lean ====
abbrev S1x8192x1024 : Shape := ⟨3, ![1, 8192, 1024]⟩
abbrev S1024x3072 : Shape := ⟨2, ![1024, 3072]⟩
abbrev S8192x1024 : Shape := ⟨2, ![8192, 1024]⟩
abbrev S8192x3072 : Shape := ⟨2, ![8192, 3072]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024x3072, .f32⟩
  | .hbm, ⟨2, _⟩ => ⟨S8192x1024, .f32⟩
  | .hbm, ⟨3, _⟩ => ⟨S8192x1024, .bf16⟩
  | .hbm, ⟨4, _⟩ => ⟨S1024x3072, .bf16⟩
  | .hbm, ⟨5, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefEvInIdeal.lean ====
abbrev S1x8192x1024 : Shape := ⟨3, ![1, 8192, 1024]⟩
abbrev S1024x3072 : Shape := ⟨2, ![1024, 3072]⟩
abbrev S1x8192x3072 : Shape := ⟨3, ![1, 8192, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x3072, .f32⟩
  | .hbm, ⟨2, _⟩ => ⟨S1x8192x3072, .f32⟩
  | .hbm, ⟨3, _⟩ => ⟨S8192x3072, .f32⟩
  | .hbm, ⟨4, _⟩ => ⟨S8192x3072, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OdIn.lean ====
abbrev S1x8192x1024 : Shape := ⟨3, ![1, 8192, 1024]⟩
abbrev S1024x1536 : Shape := ⟨2, ![1024, 1536]⟩
abbrev S8192x1024 : Shape := ⟨2, ![8192, 1024]⟩
abbrev S8192x1536 : Shape := ⟨2, ![8192, 1536]⟩
abbrev S1024x1024 : Shape := ⟨2, ![1024, 1024]⟩
abbrev S1024x768 : Shape := ⟨2, ![1024, 768]⟩

abbrev nBuf : Space → Nat
  | .hbm => 6
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024x1536, .f32⟩
  | .hbm, ⟨2, _⟩ => ⟨S8192x1024, .f32⟩
  | .hbm, ⟨3, _⟩ => ⟨S8192x1024, .bf16⟩
  | .hbm, ⟨4, _⟩ => ⟨S1024x1536, .bf16⟩
  | .hbm, ⟨5, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdInIdeal.lean ====
abbrev S1x8192x1024 : Shape := ⟨3, ![1, 8192, 1024]⟩
abbrev S1024x1536 : Shape := ⟨2, ![1024, 1536]⟩
abbrev S8192x1024 : Shape := ⟨2, ![8192, 1024]⟩
abbrev S8192x1536 : Shape := ⟨2, ![8192, 1536]⟩
abbrev S1024x1024 : Shape := ⟨2, ![1024, 1024]⟩
abbrev S1024x768 : Shape := ⟨2, ![1024, 768]⟩

abbrev nBuf : Space → Nat
  | .hbm => 6
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024x1536, .f32⟩
  | .hbm, ⟨2, _⟩ => ⟨S8192x1024, .f32⟩
  | .hbm, ⟨3, _⟩ => ⟨S8192x1024, .bf16⟩
  | .hbm, ⟨4, _⟩ => ⟨S1024x1536, .bf16⟩
  | .hbm, ⟨5, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOdInIdeal.lean ====
abbrev S1x8192x1024 : Shape := ⟨3, ![1, 8192, 1024]⟩
abbrev S1024x1536 : Shape := ⟨2, ![1024, 1536]⟩
abbrev S1x8192x1536 : Shape := ⟨3, ![1, 8192, 1536]⟩
abbrev S8192x1536 : Shape := ⟨2, ![8192, 1536]⟩

abbrev nBuf : Space → Nat
  | .hbm => 5
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1536, .f32⟩
  | .hbm, ⟨2, _⟩ => ⟨S1x8192x1536, .f32⟩
  | .hbm, ⟨3, _⟩ => ⟨S8192x1536, .f32⟩
  | .hbm, ⟨4, _⟩ => ⟨S8192x1536, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PleGate.lean ====
abbrev S1x8192x1024 : Shape := ⟨3, ![1, 8192, 1024]⟩
abbrev S1024x1024 : Shape := ⟨2, ![1024, 1024]⟩
abbrev S8192x1024 : Shape := ⟨2, ![8192, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateIdeal.lean ====
abbrev S1x8192x1024 : Shape := ⟨3, ![1, 8192, 1024]⟩
abbrev S1024x1024 : Shape := ⟨2, ![1024, 1024]⟩
abbrev S8192x1024 : Shape := ⟨2, ![8192, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefPleGateIdeal.lean ====
abbrev S1x8192x1024 : Shape := ⟨3, ![1, 8192, 1024]⟩
abbrev S1024x1024 : Shape := ⟨2, ![1024, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x8192x1024, .f32⟩
  | .hbm, ⟨3, _⟩ => ⟨S8192x1024, .f32⟩
  | .hbm, ⟨4, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PleProj.lean ====
abbrev S1x8192x256 : Shape := ⟨3, ![1, 8192, 256]⟩
abbrev S256x1024 : Shape := ⟨2, ![256, 1024]⟩
abbrev S8192x256 : Shape := ⟨2, ![8192, 256]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1x8192x256, .f32⟩
  | .hbm, ⟨1, _⟩ => ⟨S256x1024, .f32⟩
  | .hbm, ⟨2, _⟩ => ⟨S8192x256, .f32⟩
  | .hbm, ⟨3, _⟩ => ⟨S8192x256, .bf16⟩
  | .hbm, ⟨4, _⟩ => ⟨S256x1024, .bf16⟩
  | .hbm, ⟨5, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | _, _ => ⟨S1x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefPleProjIdeal.lean ====
abbrev S1x8192x256 : Shape := ⟨3, ![1, 8192, 256]⟩
abbrev S256x1024 : Shape := ⟨2, ![256, 1024]⟩
abbrev S1x8192x1024 : Shape := ⟨3, ![1, 8192, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1x8192x256, .f32⟩
  | .hbm, ⟨1, _⟩ => ⟨S256x1024, .f32⟩
  | .hbm, ⟨2, _⟩ => ⟨S1x8192x1024, .f32⟩
  | .hbm, ⟨3, _⟩ => ⟨S8192x1024, .f32⟩
  | .hbm, ⟨4, _⟩ => ⟨S8192x1024, .bf16⟩
  | _, _ => ⟨S1x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOut.lean ====
abbrev S1x8192x1024 : Shape := ⟨3, ![1, 8192, 1024]⟩
abbrev S1024x1024 : Shape := ⟨2, ![1024, 1024]⟩
abbrev S8192x1024 : Shape := ⟨2, ![8192, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1024x1024, .f32⟩
  | .hbm, ⟨3, _⟩ => ⟨S8192x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefMixOutIdeal.lean ====
abbrev S1x8192x1024 : Shape := ⟨3, ![1, 8192, 1024]⟩
abbrev S1024x1024 : Shape := ⟨2, ![1024, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1024x1024, .f32⟩
  | .hbm, ⟨3, _⟩ => ⟨S1x8192x1024, .f32⟩
  | .hbm, ⟨4, _⟩ => ⟨S1x8192x1024, .f32⟩
  | .hbm, ⟨5, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Down.lean ====
abbrev S1x8192x1024 : Shape := ⟨3, ![1, 8192, 1024]⟩
abbrev S1024x2816 : Shape := ⟨2, ![1024, 2816]⟩
abbrev S2816x1024 : Shape := ⟨2, ![2816, 1024]⟩
abbrev S1x8192x2816 : Shape := ⟨3, ![1, 8192, 2816]⟩
abbrev S_ : Shape := ⟨0, ![]⟩
abbrev S8192x2816 : Shape := ⟨2, ![8192, 2816]⟩
abbrev S8192x8x352 : Shape := ⟨3, ![8192, 8, 352]⟩
abbrev S8192x8x32 : Shape := ⟨3, ![8192, 8, 32]⟩
abbrev S8192x8x384 : Shape := ⟨3, ![8192, 8, 384]⟩
abbrev S8192x3072 : Shape := ⟨2, ![8192, 3072]⟩
abbrev S8x352x1024 : Shape := ⟨3, ![8, 352, 1024]⟩
abbrev S8x32x1024 : Shape := ⟨3, ![8, 32, 1024]⟩
abbrev S8x384x1024 : Shape := ⟨3, ![8, 384, 1024]⟩
abbrev S3072x1024 : Shape := ⟨2, ![3072, 1024]⟩
abbrev S8192x1024 : Shape := ⟨2, ![8192, 1024]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 32
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x8192x2816, .f32⟩
  | .hbm, ⟨6, _⟩ => ⟨S1x8192x2816, .f32⟩
  | .hbm, ⟨7, _⟩ => ⟨S1x8192x2816, .f32⟩
  | .hbm, ⟨8, _⟩ => ⟨S1x8192x2816, .f32⟩
  | .hbm, ⟨9, _⟩ => ⟨S_, .f32⟩
  | .hbm, ⟨10, _⟩ => ⟨S1x8192x2816, .f32⟩
  | .hbm, ⟨11, _⟩ => ⟨S1x8192x2816, .f32⟩
  | .hbm, ⟨12, _⟩ => ⟨S_, .f32⟩
  | .hbm, ⟨13, _⟩ => ⟨S1x8192x2816, .f32⟩
  | .hbm, ⟨14, _⟩ => ⟨S1x8192x2816, .f32⟩
  | .hbm, ⟨15, _⟩ => ⟨S1x8192x2816, .f32⟩
  | .hbm, ⟨16, _⟩ => ⟨S1x8192x2816, .f32⟩
  | .hbm, ⟨17, _⟩ => ⟨S8192x2816, .f32⟩
  | .hbm, ⟨18, _⟩ => ⟨S8192x8x352, .f32⟩
  | .hbm, ⟨19, _⟩ => ⟨S_, .f32⟩
  | .hbm, ⟨20, _⟩ => ⟨S8192x8x32, .f32⟩
  | .hbm, ⟨21, _⟩ => ⟨S8192x8x384, .f32⟩
  | .hbm, ⟨22, _⟩ => ⟨S8192x3072, .f32⟩
  | .hbm, ⟨23, _⟩ => ⟨S8192x3072, .bf16⟩
  | .hbm, ⟨24, _⟩ => ⟨S8x352x1024, .f32⟩
  | .hbm, ⟨25, _⟩ => ⟨S_, .f32⟩
  | .hbm, ⟨26, _⟩ => ⟨S8x32x1024, .f32⟩
  | .hbm, ⟨27, _⟩ => ⟨S8x384x1024, .f32⟩
  | .hbm, ⟨28, _⟩ => ⟨S3072x1024, .f32⟩
  | .hbm, ⟨29, _⟩ => ⟨S3072x1024, .bf16⟩
  | .hbm, ⟨30, _⟩ => ⟨S8192x1024, .f32⟩
  | .hbm, ⟨31, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDownIdeal.lean ====
abbrev S1x8192x1024 : Shape := ⟨3, ![1, 8192, 1024]⟩
abbrev S1024x2816 : Shape := ⟨2, ![1024, 2816]⟩
abbrev S2816x1024 : Shape := ⟨2, ![2816, 1024]⟩
abbrev S1x8192x2816 : Shape := ⟨3, ![1, 8192, 2816]⟩
abbrev S_ : Shape := ⟨0, ![]⟩
abbrev S8192x1024 : Shape := ⟨2, ![8192, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x8192x2816, .f32⟩
  | .hbm, ⟨6, _⟩ => ⟨S1x8192x2816, .f32⟩
  | .hbm, ⟨7, _⟩ => ⟨S1x8192x2816, .f32⟩
  | .hbm, ⟨8, _⟩ => ⟨S_, .f32⟩
  | .hbm, ⟨9, _⟩ => ⟨S1x8192x2816, .f32⟩
  | .hbm, ⟨10, _⟩ => ⟨S1x8192x2816, .f32⟩
  | .hbm, ⟨11, _⟩ => ⟨S_, .f32⟩
  | .hbm, ⟨12, _⟩ => ⟨S1x8192x2816, .f32⟩
  | .hbm, ⟨13, _⟩ => ⟨S1x8192x2816, .f32⟩
  | .hbm, ⟨14, _⟩ => ⟨S1x8192x2816, .f32⟩
  | .hbm, ⟨15, _⟩ => ⟨S1x8192x2816, .f32⟩
  | .hbm, ⟨16, _⟩ => ⟨S1x8192x2816, .f32⟩
  | .hbm, ⟨17, _⟩ => ⟨S1x8192x1024, .f32⟩
  | .hbm, ⟨18, _⟩ => ⟨S1x8192x1024, .f32⟩
  | .hbm, ⟨19, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== GateUp.lean ====
abbrev S1x8192x1024 : Shape := ⟨3, ![1, 8192, 1024]⟩
abbrev S1024x2816 : Shape := ⟨2, ![1024, 2816]⟩
abbrev S1024x8x352 : Shape := ⟨3, ![1024, 8, 352]⟩
abbrev S_ : Shape := ⟨0, ![]⟩
abbrev S1024x8x32 : Shape := ⟨3, ![1024, 8, 32]⟩
abbrev S1024x8x384 : Shape := ⟨3, ![1024, 8, 384]⟩
abbrev S1024x8x768 : Shape := ⟨3, ![1024, 8, 768]⟩
abbrev S8x1024x768 : Shape := ⟨3, ![8, 1024, 768]⟩
abbrev S8192x1024 : Shape := ⟨2, ![8192, 1024]⟩
abbrev S8192x6144 : Shape := ⟨2, ![8192, 6144]⟩
abbrev S8192x3072 : Shape := ⟨2, ![8192, 3072]⟩
abbrev S1024x1024 : Shape := ⟨2, ![1024, 1024]⟩
abbrev S1x1024x768 : Shape := ⟨3, ![1, 1024, 768]⟩
abbrev S1024x768 : Shape := ⟨2, ![1024, 768]⟩
abbrev S1024x384 : Shape := ⟨2, ![1024, 384]⟩
abbrev S256x1024 : Shape := ⟨2, ![256, 1024]⟩
abbrev S256x768 : Shape := ⟨2, ![256, 768]⟩
abbrev S256x384 : Shape := ⟨2, ![256, 384]⟩

abbrev nBuf : Space → Nat
  | .hbm => 18
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S1024x2816, .f32⟩
  | .hbm, ⟨2, _⟩ => ⟨S1024x2816, .f32⟩
  | .hbm, ⟨3, _⟩ => ⟨S1024x8x352, .f32⟩
  | .hbm, ⟨4, _⟩ => ⟨S_, .f32⟩
  | .hbm, ⟨5, _⟩ => ⟨S1024x8x32, .f32⟩
  | .hbm, ⟨6, _⟩ => ⟨S1024x8x384, .f32⟩
  | .hbm, ⟨7, _⟩ => ⟨S1024x8x352, .f32⟩
  | .hbm, ⟨8, _⟩ => ⟨S_, .f32⟩
  | .hbm, ⟨9, _⟩ => ⟨S1024x8x32, .f32⟩
  | .hbm, ⟨10, _⟩ => ⟨S1024x8x384, .f32⟩
  | .hbm, ⟨11, _⟩ => ⟨S1024x8x768, .f32⟩
  | .hbm, ⟨12, _⟩ => ⟨S8x1024x768, .f32⟩
  | .hbm, ⟨13, _⟩ => ⟨S8192x1024, .f32⟩
  | .hbm, ⟨14, _⟩ => ⟨S8192x1024, .bf16⟩
  | .hbm, ⟨15, _⟩ => ⟨S8x1024x768, .bf16⟩
  | .hbm, ⟨16, _⟩ => ⟨S8192x6144, .bf16⟩
  | .hbm, ⟨17, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x384, .bf16⟩
  | .local _ .vmem, ⟨7, _⟩ => ⟨S1024x384, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefGateUpIdeal.lean ====
abbrev S1x8192x1024 : Shape := ⟨3, ![1, 8192, 1024]⟩
abbrev S1024x2816 : Shape := ⟨2, ![1024, 2816]⟩
abbrev S1x8192x2816 : Shape := ⟨3, ![1, 8192, 2816]⟩
abbrev S_ : Shape := ⟨0, ![]⟩
abbrev S8192x8x32 : Shape := ⟨3, ![8192, 8, 32]⟩
abbrev S8192x8x352 : Shape := ⟨3, ![8192, 8, 352]⟩
abbrev S8192x8x768 : Shape := ⟨3, ![8192, 8, 768]⟩
abbrev S8192x8x384 : Shape := ⟨3, ![8192, 8, 384]⟩
abbrev S8192x6144 : Shape := ⟨2, ![8192, 6144]⟩
abbrev S8192x3072 : Shape := ⟨2, ![8192, 3072]⟩

abbrev nBuf : Space → Nat
  | .hbm => 26
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x2816, .f32⟩
  | .hbm, ⟨2, _⟩ => ⟨S1024x2816, .f32⟩
  | .hbm, ⟨3, _⟩ => ⟨S1x8192x2816, .f32⟩
  | .hbm, ⟨4, _⟩ => ⟨S1x8192x2816, .f32⟩
  | .hbm, ⟨5, _⟩ => ⟨S1x8192x2816, .f32⟩
  | .hbm, ⟨6, _⟩ => ⟨S1x8192x2816, .f32⟩
  | .hbm, ⟨7, _⟩ => ⟨S_, .f32⟩
  | .hbm, ⟨8, _⟩ => ⟨S1x8192x2816, .f32⟩
  | .hbm, ⟨9, _⟩ => ⟨S1x8192x2816, .f32⟩
  | .hbm, ⟨10, _⟩ => ⟨S_, .f32⟩
  | .hbm, ⟨11, _⟩ => ⟨S1x8192x2816, .f32⟩
  | .hbm, ⟨12, _⟩ => ⟨S1x8192x2816, .f32⟩
  | .hbm, ⟨13, _⟩ => ⟨S1x8192x2816, .f32⟩
  | .hbm, ⟨14, _⟩ => ⟨S1x8192x2816, .f32⟩
  | .hbm, ⟨15, _⟩ => ⟨S_, .f32⟩
  | .hbm, ⟨16, _⟩ => ⟨S8192x8x32, .f32⟩
  | .hbm, ⟨17, _⟩ => ⟨S8192x8x352, .f32⟩
  | .hbm, ⟨18, _⟩ => ⟨S8192x8x352, .f32⟩
  | .hbm, ⟨19, _⟩ => ⟨S8192x8x768, .f32⟩
  | .hbm, ⟨20, _⟩ => ⟨S8192x8x352, .f32⟩
  | .hbm, ⟨21, _⟩ => ⟨S8192x8x384, .f32⟩
  | .hbm, ⟨22, _⟩ => ⟨S8192x6144, .f32⟩
  | .hbm, ⟨23, _⟩ => ⟨S8192x6144, .bf16⟩
  | .hbm, ⟨24, _⟩ => ⟨S8192x3072, .f32⟩
  | .hbm, ⟨25, _⟩ => ⟨S8192x3072, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== GradX.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S1x8192x1024, .f32⟩
  | .hbm, ⟨4, _⟩ => ⟨S1x8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefGradXIdeal.lean ====
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S8192x1024 : Shape := ⟨2, ![8192, 1024]⟩

abbrev nBuf : Space → Nat
  | .hbm => 55
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S1x8192x1024, .f32⟩
  | .hbm, ⟨4, _⟩ => ⟨S1x8192x1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1024, .f32⟩
  | .hbm, ⟨21, _⟩ => ⟨S1x8192x1024, .f32⟩
  | .hbm, ⟨22, _⟩ => ⟨S1x1x1024, .f32⟩
  | .hbm, ⟨23, _⟩ => ⟨S1x8192x1024, .f32⟩
  | .hbm, ⟨24, _⟩ => ⟨S1x8192x1024, .f32⟩
  | .hbm, ⟨25, _⟩ => ⟨S1x8192x1024, .f32⟩
  | .hbm, ⟨26, _⟩ => ⟨S1x8192x1024, .f32⟩
  | .hbm, ⟨27, _⟩ => ⟨S_, .f32⟩
  | .hbm, ⟨28, _⟩ => ⟨S1x1024, .f32⟩
  | .hbm, ⟨29, _⟩ => ⟨S1x1x1024, .f32⟩
  | .hbm, ⟨30, _⟩ => ⟨S1x8192x1024, .f32⟩
  | .hbm, ⟨31, _⟩ => ⟨S1x8192x1024, .f32⟩
  | .hbm, ⟨32, _⟩ => ⟨S_, .f32⟩
  | .hbm, ⟨33, _⟩ => ⟨S1024, .f32⟩
  | .hbm, ⟨34, _⟩ => ⟨S1x8192x1024, .f32⟩
  | .hbm, ⟨35, _⟩ => ⟨S_, .f32⟩
  | .hbm, ⟨36, _⟩ => ⟨S1x8192, .f32⟩
  | .hbm, ⟨37, _⟩ => ⟨S1x8192x1, .f32⟩
  | .hbm, ⟨38, _⟩ => ⟨S1x8192x1024, .f32⟩
  | .hbm, ⟨39, _⟩ => ⟨S1x8192x1024, .f32⟩
  | .hbm, ⟨40, _⟩ => ⟨S1x8192x1024, .f32⟩
  | .hbm, ⟨41, _⟩ => ⟨S1x8192x1, .f32⟩
  | .hbm, ⟨42, _⟩ => ⟨S_, .f32⟩
  | .hbm, ⟨43, _⟩ => ⟨S1x8192x1, .f32⟩
  | .hbm, ⟨44, _⟩ => ⟨S1x8192x1, .f32⟩
  | .hbm, ⟨45, _⟩ => ⟨S_, .f32⟩
  | .hbm, ⟨46, _⟩ => ⟨S8192, .f32⟩
  | .hbm, ⟨47, _⟩ => ⟨S1x8192, .f32⟩
  | .hbm, ⟨48, _⟩ => ⟨S1x8192x1024, .f32⟩
  | .hbm, ⟨49, _⟩ => ⟨S1x8192x1024, .f32⟩
  | .hbm, ⟨50, _⟩ => ⟨S1x8192x1024, .f32⟩
  | .hbm, ⟨51, _⟩ => ⟨S1x8192x1024, .f32⟩
  | .hbm, ⟨52, _⟩ => ⟨S1x8192x1024, .f32⟩
  | .hbm, ⟨53, _⟩ => ⟨S8192x1024, .f32⟩
  | .hbm, ⟨54, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== RmsBwd.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S1x8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefRmsBwdIdeal.lean ====
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S8192x1024 : Shape := ⟨2, ![8192, 1024]⟩

abbrev nBuf : Space → Nat
  | .hbm => 54
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S1x8192x1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S1x8192x1024, .f32⟩
  | .hbm, ⟨25, _⟩ => ⟨S_, .f32⟩
  | .hbm, ⟨26, _⟩ => ⟨S1x1024, .f32⟩
  | .hbm, ⟨27, _⟩ => ⟨S1x1x1024, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1024, .f32⟩
  | .hbm, ⟨32, _⟩ => ⟨S1x8192x1024, .f32⟩
  | .hbm, ⟨33, _⟩ => ⟨S_, .f32⟩
  | .hbm, ⟨34, _⟩ => ⟨S1x8192, .f32⟩
  | .hbm, ⟨35, _⟩ => ⟨S1x8192x1, .f32⟩
  | .hbm, ⟨36, _⟩ => ⟨S1x8192x1024, .f32⟩
  | .hbm, ⟨37, _⟩ => ⟨S1x8192x1024, .f32⟩
  | .hbm, ⟨38, _⟩ => ⟨S1x8192x1024, .f32⟩
  | .hbm, ⟨39, _⟩ => ⟨S1x8192x1, .f32⟩
  | .hbm, ⟨40, _⟩ => ⟨S_, .f32⟩
  | .hbm, ⟨41, _⟩ => ⟨S1x8192x1, .f32⟩
  | .hbm, ⟨42, _⟩ => ⟨S1x8192x1, .f32⟩
  | .hbm, ⟨43, _⟩ => ⟨S_, .f32⟩
  | .hbm, ⟨44, _⟩ => ⟨S8192, .f32⟩
  | .hbm, ⟨45, _⟩ => ⟨S1x8192, .f32⟩
  | .hbm, ⟨46, _⟩ => ⟨S1x8192x1024, .f32⟩
  | .hbm, ⟨47, _⟩ => ⟨S1x8192x1024, .f32⟩
  | .hbm, ⟨48, _⟩ => ⟨S1x8192x1024, .f32⟩
  | .hbm, ⟨49, _⟩ => ⟨S1x8192x1024, .f32⟩
  | .hbm, ⟨50, _⟩ => ⟨S1x8192x1024, .f32⟩
  | .hbm, ⟨51, _⟩ => ⟨S8192x1024, .f32⟩
  | .hbm, ⟨52, _⟩ => ⟨S8192x1024, .bf16⟩
  | .hbm, ⟨53, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== RmsMixBwd.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S1x8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefRmsMixBwdIdeal.lean ====
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S8192x1024 : Shape := ⟨2, ![8192, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S1x8192x1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S1x8192x1024, .f32⟩
  | .hbm, ⟨25, _⟩ => ⟨S_, .f32⟩
  | .hbm, ⟨26, _⟩ => ⟨S1x1024, .f32⟩
  | .hbm, ⟨27, _⟩ => ⟨S1x1x1024, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1024, .f32⟩
  | .hbm, ⟨32, _⟩ => ⟨S1x8192x1024, .f32⟩
  | .hbm, ⟨33, _⟩ => ⟨S_, .f32⟩
  | .hbm, ⟨34, _⟩ => ⟨S1x8192, .f32⟩
  | .hbm, ⟨35, _⟩ => ⟨S1x8192x1, .f32⟩
  | .hbm, ⟨36, _⟩ => ⟨S1x8192x1024, .f32⟩
  | .hbm, ⟨37, _⟩ => ⟨S1x8192x1024, .f32⟩
  | .hbm, ⟨38, _⟩ => ⟨S1x8192x1024, .f32⟩
  | .hbm, ⟨39, _⟩ => ⟨S1x8192x1, .f32⟩
  | .hbm, ⟨40, _⟩ => ⟨S_, .f32⟩
  | .hbm, ⟨41, _⟩ => ⟨S1x8192x1, .f32⟩
  | .hbm, ⟨42, _⟩ => ⟨S1x8192x1, .f32⟩
  | .hbm, ⟨43, _⟩ => ⟨S_, .f32⟩
  | .hbm, ⟨44, _⟩ => ⟨S8192, .f32⟩
  | .hbm, ⟨45, _⟩ => ⟨S1x8192, .f32⟩
  | .hbm, ⟨46, _⟩ => ⟨S1x8192x1024, .f32⟩
  | .hbm, ⟨47, _⟩ => ⟨S1x8192x1024, .f32⟩
  | .hbm, ⟨48, _⟩ => ⟨S1x8192x1024, .f32⟩
  | .hbm, ⟨49, _⟩ => ⟨S1x8192x1024, .f32⟩
  | .hbm, ⟨50, _⟩ => ⟨S1x8192x1024, .f32⟩
  | .hbm, ⟨51, _⟩ => ⟨S8192x1024, .f32⟩
  | .hbm, ⟨52, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== PleBwd.lean ====
abbrev S1x8192x1024 : Shape := ⟨3, ![1, 8192, 1024]⟩
abbrev S8192x1024 : Shape := ⟨2, ![8192, 1024]⟩
abbrev S512x1024 : Shape := ⟨2, ![512, 1024]⟩

abbrev nBuf : Space → Nat
  | .hbm => 11
  | .vmem => 10
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefPleBwdIdeal.lean ====
abbrev S1x8192x1024 : Shape := ⟨3, ![1, 8192, 1024]⟩
abbrev S_ : Shape := ⟨0, ![]⟩
abbrev S8192x1024 : Shape := ⟨2, ![8192, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x8192x1024, .f32⟩
  | .hbm, ⟨4, _⟩ => ⟨S1x8192x1024, .f32⟩
  | .hbm, ⟨5, _⟩ => ⟨S1x8192x1024, .f32⟩
  | .hbm, ⟨6, _⟩ => ⟨S_, .f32⟩
  | .hbm, ⟨7, _⟩ => ⟨S1x8192x1024, .f32⟩
  | .hbm, ⟨8, _⟩ => ⟨S1x8192x1024, .f32⟩
  | .hbm, ⟨9, _⟩ => ⟨S_, .f32⟩
  | .hbm, ⟨10, _⟩ => ⟨S1x8192x1024, .f32⟩
  | .hbm, ⟨11, _⟩ => ⟨S1x8192x1024, .f32⟩
  | .hbm, ⟨12, _⟩ => ⟨S_, .f32⟩
  | .hbm, ⟨13, _⟩ => ⟨S1x8192x1024, .f32⟩
  | .hbm, ⟨14, _⟩ => ⟨S1x8192x1024, .f32⟩
  | .hbm, ⟨15, _⟩ => ⟨S1x8192x1024, .f32⟩
  | .hbm, ⟨16, _⟩ => ⟨S1x8192x1024, .f32⟩
  | .hbm, ⟨17, _⟩ => ⟨S1x8192x1024, .f32⟩
  | .hbm, ⟨18, _⟩ => ⟨S1x8192x1024, .f32⟩
  | .hbm, ⟨19, _⟩ => ⟨S1x8192x1024, .f32⟩
  | .hbm, ⟨20, _⟩ => ⟨S1x8192x1024, .f32⟩
  | .hbm, ⟨21, _⟩ => ⟨S1x8192x1024, .f32⟩
  | .hbm, ⟨22, _⟩ => ⟨S8192x1024, .f32⟩
  | .hbm, ⟨23, _⟩ => ⟨S8192x1024, .bf16⟩
  | .hbm, ⟨24, _⟩ => ⟨S8192x1024, .f32⟩
  | .hbm, ⟨25, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Loss.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x128, .f32⟩
  | .hbm, ⟨7, _⟩ => ⟨S8192x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefLossIdeal.lean ====
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S1x128 : Shape := ⟨2, ![1, 128]⟩
abbrev S8192x1024 : Shape := ⟨2, ![8192, 1024]⟩

abbrev nBuf : Space → Nat
  | .hbm => 75
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S1x8192x1024, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S1x8192x1024, .f32⟩
  | .hbm, ⟨24, _⟩ => ⟨S1x8192x1024, .f32⟩
  | .hbm, ⟨25, _⟩ => ⟨S_, .f32⟩
  | .hbm, ⟨26, _⟩ => ⟨S1x8192x1024, .f32⟩
  | .hbm, ⟨27, _⟩ => ⟨S1x8192x1024, .f32⟩
  | .hbm, ⟨28, _⟩ => ⟨S_, .f32⟩
  | .hbm, ⟨29, _⟩ => ⟨S1x8192, .f32⟩
  | .hbm, ⟨30, _⟩ => ⟨S_, .f32⟩
  | .hbm, ⟨31, _⟩ => ⟨S1x8192, .f32⟩
  | .hbm, ⟨32, _⟩ => ⟨S1x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x8192, .f32⟩
  | .hbm, ⟨41, _⟩ => ⟨S_, .f32⟩
  | .hbm, ⟨42, _⟩ => ⟨S1x8192, .f32⟩
  | .hbm, ⟨43, _⟩ => ⟨S1x8192, .f32⟩
  | .hbm, ⟨44, _⟩ => ⟨S1x8192x1024, .f32⟩
  | .hbm, ⟨45, _⟩ => ⟨S1x8192x1024, .f32⟩
  | .hbm, ⟨46, _⟩ => ⟨S1x8192x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x8192x1024, .f32⟩
  | .hbm, ⟨51, _⟩ => ⟨S1x8192x1024, .f32⟩
  | .hbm, ⟨52, _⟩ => ⟨S_, .f32⟩
  | .hbm, ⟨53, _⟩ => ⟨S1024, .f32⟩
  | .hbm, ⟨54, _⟩ => ⟨S1x8192x1024, .f32⟩
  | .hbm, ⟨55, _⟩ => ⟨S_, .f32⟩
  | .hbm, ⟨56, _⟩ => ⟨S1x8192, .f32⟩
  | .hbm, ⟨57, _⟩ => ⟨S1x8192x1, .f32⟩
  | .hbm, ⟨58, _⟩ => ⟨S1x8192x1024, .f32⟩
  | .hbm, ⟨59, _⟩ => ⟨S1x8192x1024, .f32⟩
  | .hbm, ⟨60, _⟩ => ⟨S1x8192x1, .f32⟩
  | .hbm, ⟨61, _⟩ => ⟨S_, .f32⟩
  | .hbm, ⟨62, _⟩ => ⟨S1x8192x1, .f32⟩
  | .hbm, ⟨63, _⟩ => ⟨S1x8192x1, .f32⟩
  | .hbm, ⟨64, _⟩ => ⟨S_, .f32⟩
  | .hbm, ⟨65, _⟩ => ⟨S8192, .f32⟩
  | .hbm, ⟨66, _⟩ => ⟨S1x8192, .f32⟩
  | .hbm, ⟨67, _⟩ => ⟨S1x8192x1024, .f32⟩
  | .hbm, ⟨68, _⟩ => ⟨S1x8192x1024, .f32⟩
  | .hbm, ⟨69, _⟩ => ⟨S1x8192x1024, .f32⟩
  | .hbm, ⟨70, _⟩ => ⟨S1x8192x1024, .f32⟩
  | .hbm, ⟨71, _⟩ => ⟨S1x8192x1024, .f32⟩
  | .hbm, ⟨72, _⟩ => ⟨S1x128, .f32⟩
  | .hbm, ⟨73, _⟩ => ⟨S8192x1024, .f32⟩
  | .hbm, ⟨74, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== RmsFwd.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefRmsFwdIdeal.lean ====
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1024 : Shape := ⟨2, ![8192, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S_, .f32⟩
  | .hbm, ⟨4, _⟩ => ⟨S1x8192, .f32⟩
  | .hbm, ⟨5, _⟩ => ⟨S1x8192x1, .f32⟩
  | .hbm, ⟨6, _⟩ => ⟨S_, .f32⟩
  | .hbm, ⟨7, _⟩ => ⟨S1x8192x1, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S1x8192x1, .f32⟩
  | .hbm, ⟨13, _⟩ => ⟨S1x8192x1024, .f32⟩
  | .hbm, ⟨14, _⟩ => ⟨S1x8192x1024, .f32⟩
  | .hbm, ⟨15, _⟩ => ⟨S1x1x1024, .f32⟩
  | .hbm, ⟨16, _⟩ => ⟨S1x8192x1024, .f32⟩
  | .hbm, ⟨17, _⟩ => ⟨S1x8192x1024, .f32⟩
  | .hbm, ⟨18, _⟩ => ⟨S8192x1024, .f32⟩
  | .hbm, ⟨19, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== PleFwd.lean ====
abbrev S1x8192x1024 : Shape := ⟨3, ![1, 8192, 1024]⟩
abbrev S8192x1024 : Shape := ⟨2, ![8192, 1024]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefPleFwdIdeal.lean ====
abbrev S1x8192x1024 : Shape := ⟨3, ![1, 8192, 1024]⟩
abbrev S_ : Shape := ⟨0, ![]⟩
abbrev S8192x1024 : Shape := ⟨2, ![8192, 1024]⟩

abbrev nBuf : Space → Nat
  | .hbm => 14
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x8192x1024, .f32⟩
  | .hbm, ⟨4, _⟩ => ⟨S1x8192x1024, .f32⟩
  | .hbm, ⟨5, _⟩ => ⟨S_, .f32⟩
  | .hbm, ⟨6, _⟩ => ⟨S1x8192x1024, .f32⟩
  | .hbm, ⟨7, _⟩ => ⟨S1x8192x1024, .f32⟩
  | .hbm, ⟨8, _⟩ => ⟨S_, .f32⟩
  | .hbm, ⟨9, _⟩ => ⟨S1x8192x1024, .f32⟩
  | .hbm, ⟨10, _⟩ => ⟨S1x8192x1024, .f32⟩
  | .hbm, ⟨11, _⟩ => ⟨S1x8192x1024, .f32⟩
  | .hbm, ⟨12, _⟩ => ⟨S1x8192x1024, .f32⟩
  | .hbm, ⟨13, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== PleNorm.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .bf16⟩
  | .hbm, ⟨9, _⟩ => ⟨S1x1024, .f32⟩
  | .hbm, ⟨10, _⟩ => ⟨S8192x1024, .f32⟩
  | .hbm, ⟨11, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefPleNormIdeal.lean ====
abbrev S1x8192x1024 : Shape := ⟨3, ![1, 8192, 1024]⟩
abbrev S1024 : Shape := ⟨1, ![1024]⟩
abbrev S_ : Shape := ⟨0, ![]⟩
abbrev S8192x1024 : Shape := ⟨2, ![8192, 1024]⟩
abbrev S1x8192 : Shape := ⟨2, ![1, 8192]⟩
abbrev S1x8192x1 : Shape := ⟨3, ![1, 8192, 1]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1024, .f32⟩
  | .hbm, ⟨4, _⟩ => ⟨S1x8192x1024, .f32⟩
  | .hbm, ⟨5, _⟩ => ⟨S1x8192x1024, .f32⟩
  | .hbm, ⟨6, _⟩ => ⟨S_, .f32⟩
  | .hbm, ⟨7, _⟩ => ⟨S1x8192x1024, .f32⟩
  | .hbm, ⟨8, _⟩ => ⟨S1x8192x1024, .f32⟩
  | .hbm, ⟨9, _⟩ => ⟨S_, .f32⟩
  | .hbm, ⟨10, _⟩ => ⟨S1x8192x1024, .f32⟩
  | .hbm, ⟨11, _⟩ => ⟨S1x8192x1024, .f32⟩
  | .hbm, ⟨12, _⟩ => ⟨S1x8192x1024, .f32⟩
  | .hbm, ⟨13, _⟩ => ⟨S1x8192x1024, .f32⟩
  | .hbm, ⟨14, _⟩ => ⟨S8192x1024, .f32⟩
  | .hbm, ⟨15, _⟩ => ⟨S1x8192x1024, .f32⟩
  | .hbm, ⟨16, _⟩ => ⟨S_, .f32⟩
  | .hbm, ⟨17, _⟩ => ⟨S1x8192, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S1x8192x1, .f32⟩
  | .hbm, ⟨26, _⟩ => ⟨S1x8192x1024, .f32⟩
  | .hbm, ⟨27, _⟩ => ⟨S1x8192x1024, .f32⟩
  | .hbm, ⟨28, _⟩ => ⟨S1x1x1024, .f32⟩
  | .hbm, ⟨29, _⟩ => ⟨S1x8192x1024, .f32⟩
  | .hbm, ⟨30, _⟩ => ⟨S1x8192x1024, .f32⟩
  | .hbm, ⟨31, _⟩ => ⟨S8192x1024, .f32⟩
  | .hbm, ⟨32, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== SwaFwd.lean ====
abbrev S1x8192x16x64 : Shape := ⟨4, ![1, 8192, 16, 64]⟩
abbrev S1x8192x4x64 : Shape := ⟨4, ![1, 8192, 4, 64]⟩
abbrev S16 : Shape := ⟨1, ![16]⟩
abbrev S8192x1024 : Shape := ⟨2, ![8192, 1024]⟩
abbrev S8192x256 : Shape := ⟨2, ![8192, 256]⟩
abbrev S8192x1280 : Shape := ⟨2, ![8192, 1280]⟩
abbrev S_ : Shape := ⟨0, ![]⟩
abbrev S8192x1536 : Shape := ⟨2, ![8192, 1536]⟩
abbrev S16x64 : Shape := ⟨2, ![16, 64]⟩
abbrev S1024 : Shape := ⟨1, ![1024]⟩
abbrev S1x1024 : Shape := ⟨2, ![1, 1024]⟩
abbrev S512x512 : Shape := ⟨2, ![512, 512]⟩
abbrev S128x128 : Shape := ⟨2, ![128, 128]⟩
abbrev S512x128 : Shape := ⟨2, ![512, 128]⟩
abbrev S1x512 : Shape := ⟨2, ![1, 512]⟩
abbrev S640x128 : Shape := ⟨2, ![640, 128]⟩
abbrev S128x256 : Shape := ⟨2, ![128, 256]⟩
abbrev S256x128 : Shape := ⟨2, ![256, 128]⟩
abbrev S1x1 : Shape := ⟨2, ![1, 1]⟩
abbrev S128 : Shape := ⟨1, ![128]⟩
abbrev S128x1 : Shape := ⟨2, ![128, 1]⟩

abbrev nBuf : Space → Nat
  | .hbm => 18
  | .vmem => 16
  | .smem => 0
  | _ => 0

abbrev bufTy : (tb : Table) → Fin (tcTables nBuf tb) → BufTy
  | .hbm, ⟨0, _⟩ => ⟨S1x8192x16x64, .f32⟩
  | .hbm, ⟨1, _⟩ => ⟨S1x8192x4x64, .f32⟩
  | .hbm, ⟨2, _⟩ => ⟨S1x8192x4x64, .f32⟩
  | .hbm, ⟨3, _⟩ => ⟨S16, .f32⟩
  | .hbm, ⟨4, _⟩ => ⟨S8192x1024, .f32⟩
  | .hbm, ⟨5, _⟩ => ⟨S8192x256, .f32⟩
  | .hbm, ⟨6, _⟩ => ⟨S8192x1280, .f32⟩
  | .hbm, ⟨7, _⟩ => ⟨S8192x1280, .bf16⟩
  | .hbm, ⟨8, _⟩ => ⟨S_, .f32⟩
  | .hbm, ⟨9, _⟩ => ⟨S8192x1280, .f32⟩
  | .hbm, ⟨10, _⟩ => ⟨S8192x256, .f32⟩
  | .hbm, ⟨11, _⟩ => ⟨S8192x1536, .f32⟩
  | .hbm, ⟨12, _⟩ => ⟨S8192x1536, .bf16⟩
  | .hbm, ⟨13, _⟩ => ⟨S16x64, .f32⟩
  | .hbm, ⟨14, _⟩ => ⟨S1024, .f32⟩
  | .hbm, ⟨15, _⟩ => ⟨S1x1024, .f32⟩
  | .hbm, ⟨16, _⟩ => ⟨S8192x1024, .bf16⟩
  | .hbm, ⟨17, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S128x128, .bf16⟩
  | .local _ .vmem, ⟨3, _⟩ => ⟨S128x128, .bf16⟩
  | .local _ .vmem, ⟨4, _⟩ => ⟨S512x128, .bf16⟩
  | .local _ .vmem, ⟨5, _⟩ => ⟨S512x128, .bf16⟩
  | .local _ .vmem, ⟨6, _⟩ => ⟨S128x128, .bf16⟩
  | .local _ .vmem, ⟨7, _⟩ => ⟨S128x128, .bf16⟩
  | .local _ .vmem, ⟨8, _⟩ => ⟨S512x128, .bf16⟩
  | .local _ .vmem, ⟨9, _⟩ => ⟨S512x128, .bf16⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | _, _ => ⟨S1x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let v3 : BitVec 32 := Scalar.addi c10_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwaFwdIdeal.lean ====
variable {F : FTy → Type} [FloatOps F] [Named F]
def κ : String → Option EReal := fun
  | "mask" => some ⊥
  | _ => none
-- ==== RefSwaFwdIdeal.lean ====
abbrev S1x8192x16x64 : Shape := ⟨4, ![1, 8192, 16, 64]⟩
abbrev S1x8192x4x64 : Shape := ⟨4, ![1, 8192, 4, 64]⟩
abbrev S16 : Shape := ⟨1, ![16]⟩
abbrev S1x64x128x4x4x64 : Shape := ⟨6, ![1, 64, 128, 4, 4, 64]⟩
abbrev S1x64x128x4x64 : Shape := ⟨5, ![1, 64, 128, 4, 64]⟩
abbrev S1x1x128x4x64 : Shape := ⟨5, ![1, 1, 128, 4, 64]⟩
abbrev S_ : Shape := ⟨0, ![]⟩
abbrev S1x63x128x4x64 : Shape := ⟨5, ![1, 63, 128, 4, 64]⟩
abbrev S1x64x256x4x64 : Shape := ⟨5, ![1, 64, 256, 4, 64]⟩
abbrev S1x64x4x256x128x4 : Shape := ⟨6, ![1, 64, 4, 256, 128, 4]⟩
abbrev S1x64x4x4x128x256 : Shape := ⟨6, ![1, 64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S4x4 : Shape := ⟨2, ![4, 4]⟩
abbrev S1x1x4x4x1x1 : Shape := ⟨6, ![1, 1, 4, 4, 1, 1]⟩
abbrev S1x64x4x4x128x1 : Shape := ⟨6, ![1, 64, 4, 4, 128, 1]⟩
abbrev S1x64x4x4x128x257 : Shape := ⟨6, ![1, 64, 4, 4, 128, 257]⟩
abbrev S1x64x4x4x128 : Shape := ⟨5, ![1, 64, 4, 4, 128]⟩
abbrev S1x64x4x64x4x128 : Shape := ⟨6, ![1, 64, 4, 64, 4, 128]⟩
abbrev S1x64x128x4x4x1 : Shape := ⟨6, ![1, 64, 128, 4, 4, 1]⟩
abbrev S8192x1024 : Shape := ⟨2, ![8192, 1024]⟩

abbrev nBuf : Space → Nat
  | .hbm => 101
  | .vmem => 0
  | .smem => 0
  | _ => 0

abbrev bufTy : (tb : Table) → Fin (tcTables nBuf tb) → BufTy
  | .hbm, ⟨0, _⟩ => ⟨S1x8192x16x64, .f32⟩
  | .hbm, ⟨1, _⟩ => ⟨S1x8192x4x64, .f32⟩
  | .hbm, ⟨2, _⟩ => ⟨S1x8192x4x64, .f32⟩
  | .hbm, ⟨3, _⟩ => ⟨S16, .f32⟩
  | .hbm, ⟨4, _⟩ => ⟨S1x64x128x4x4x64, .f32⟩
  | .hbm, ⟨5, _⟩ => ⟨S1x64x128x4x64, .f32⟩
  | .hbm, ⟨6, _⟩ => ⟨S1x1x128x4x64, .f32⟩
  | .hbm, ⟨7, _⟩ => ⟨S_, .f32⟩
  | .hbm, ⟨8, _⟩ => ⟨S1x1x128x4x64, .f32⟩
  | .hbm, ⟨9, _⟩ => ⟨S1x63x128x4x64, .f32⟩
  | .hbm, ⟨10, _⟩ => ⟨S1x64x128x4x64, .f32⟩
  | .hbm, ⟨11, _⟩ => ⟨S1x64x256x4x64, .f32⟩
  | .hbm, ⟨12, _⟩ => ⟨S1x64x128x4x64, .f32⟩
  | .hbm, ⟨13, _⟩ => ⟨S1x1x128x4x64, .f32⟩
  | .hbm, ⟨14, _⟩ => ⟨S_, .f32⟩
  | .hbm, ⟨15, _⟩ => ⟨S1x1x128x4x64, .f32⟩
  | .hbm, ⟨16, _⟩ => ⟨S1x63x128x4x64, .f32⟩
  | .hbm, ⟨17, _⟩ => ⟨S1x64x128x4x64, .f32⟩
  | .hbm, ⟨18, _⟩ => ⟨S1x64x256x4x64, .f32⟩
  | .hbm, ⟨19, _⟩ => ⟨S1x64x4x256x128x4, .f32⟩
  | .hbm, ⟨20, _⟩ => ⟨S1x64x4x4x128x256, .f32⟩
  | .hbm, ⟨21, _⟩ => ⟨S_, .f32⟩
  | .hbm, ⟨22, _⟩ => ⟨S1x64x4x4x128x256, .f32⟩
  | .hbm, ⟨23, _⟩ => ⟨S1x64x4x4x128x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S64, .i32⟩
  | .hbm, ⟨42, _⟩ => ⟨S64x1x1, .i32⟩
  | .hbm, ⟨43, _⟩ => ⟨S_, .i32⟩
  | .hbm, ⟨44, _⟩ => ⟨S64x1x1, .i32⟩
  | .hbm, ⟨45, _⟩ => ⟨S64x1x1, .i1⟩
  | .hbm, ⟨46, _⟩ => ⟨S1x1x256, .i32⟩
  | .hbm, ⟨47, _⟩ => ⟨S_, .i32⟩
  | .hbm, ⟨48, _⟩ => ⟨S1x1x256, .i32⟩
  | .hbm, ⟨49, _⟩ => ⟨S1x1x256, .i1⟩
  | .hbm, ⟨50, _⟩ => ⟨S64x1x256, .i1⟩
  | .hbm, ⟨51, _⟩ => ⟨S64x1x256, .i1⟩
  | .hbm, ⟨52, _⟩ => ⟨S64x1x256, .i1⟩
  | .hbm, ⟨53, _⟩ => ⟨S1x128x256, .i1⟩
  | .hbm, ⟨54, _⟩ => ⟨S64x1x256, .i1⟩
  | .hbm, ⟨55, _⟩ => ⟨S64x128x256, .i1⟩
  | .hbm, ⟨56, _⟩ => ⟨S64x128x256, .i1⟩
  | .hbm, ⟨57, _⟩ => ⟨S64x128x256, .i1⟩
  | .hbm, ⟨58, _⟩ => ⟨S1x64x1x1x128x256, .i1⟩
  | .hbm, ⟨59, _⟩ => ⟨S_, .f32⟩
  | .hbm, ⟨60, _⟩ => ⟨S_, .f32⟩
  | .hbm, ⟨61, _⟩ => ⟨S1x64x4x4x128x256, .i1⟩
  | .hbm, ⟨62, _⟩ => ⟨S1x64x4x4x128x256, .f32⟩
  | .hbm, ⟨63, _⟩ => ⟨S1x64x4x4x128x256, .f32⟩
  | .hbm, ⟨64, _⟩ => ⟨S4x4, .f32⟩
  | .hbm, ⟨65, _⟩ => ⟨S1x1x4x4x1x1, .f32⟩
  | .hbm, ⟨66, _⟩ => ⟨S1x64x4x4x128x1, .f32⟩
  | .hbm, ⟨67, _⟩ => ⟨S1x64x4x4x128x257, .f32⟩
  | .hbm, ⟨68, _⟩ => ⟨S_, .f32⟩
  | .hbm, ⟨69, _⟩ => ⟨S1x64x4x4x128, .f32⟩
  | .hbm, ⟨70, _⟩ => ⟨S_, .f32⟩
  | .hbm, ⟨71, _⟩ => ⟨S1x64x4x4x128, .f32⟩
  | .hbm, ⟨72, _⟩ => ⟨S1x64x4x4x128, .f32⟩
  | .hbm, ⟨73, _⟩ => ⟨S1x64x4x4x128x1, .f32⟩
  | .hbm, ⟨74, _⟩ => ⟨S1x64x4x4x128x257, .f32⟩
  | .hbm, ⟨75, _⟩ => ⟨S1x64x4x4x128x257, .f32⟩
  | .hbm, ⟨76, _⟩ => ⟨S1x64x4x4x128x257, .f32⟩
  | .hbm, ⟨77, _⟩ => ⟨S_, .f32⟩
  | .hbm, ⟨78, _⟩ => ⟨S1x64x4x4x128, .f32⟩
  | .hbm, ⟨79, _⟩ => ⟨S1x64x4x4x128x1, .f32⟩
  | .hbm, ⟨80, _⟩ => ⟨S1x64x4x4x128x257, .f32⟩
  | .hbm, ⟨81, _⟩ => ⟨S1x64x4x4x128x257, .f32⟩
  | .hbm, ⟨82, _⟩ => ⟨S1x64x4x4x128x256, .f32⟩
  | .hbm, ⟨83, _⟩ => ⟨S1x64x4x64x4x128, .f32⟩
  | .hbm, ⟨84, _⟩ => ⟨S1x64x128x4x4x64, .f32⟩
  | .hbm, ⟨85, _⟩ => ⟨S_, .f32⟩
  | .hbm, ⟨86, _⟩ => ⟨S1x64x4x4x128, .f32⟩
  | .hbm, ⟨87, _⟩ => ⟨S1x64x4x4x128x1, .f32⟩
  | .hbm, ⟨88, _⟩ => ⟨S1x64x4x4x128x257, .f32⟩
  | .hbm, ⟨89, _⟩ => ⟨S1x64x4x4x128x257, .f32⟩
  | .hbm, ⟨90, _⟩ => ⟨S1x64x4x4x128x257, .f32⟩
  | .hbm, ⟨91, _⟩ => ⟨S_, .f32⟩
  | .hbm, ⟨92, _⟩ => ⟨S1x64x4x4x128, .f32⟩
  | .hbm, ⟨93, _⟩ => ⟨S1x64x4x4x128x1, .f32⟩
  | .hbm, ⟨94, _⟩ => ⟨S1x64x4x4x128x1, .f32⟩
  | .hbm, ⟨95, _⟩ => ⟨S1x64x4x4x128x1, .f32⟩
  | .hbm, ⟨96, _⟩ => ⟨S1x64x128x4x4x1, .f32⟩
  | .hbm, ⟨97, _⟩ => ⟨S8192x1024, .f32⟩
  | .hbm, ⟨98, _⟩ => ⟨S1x64x128x4x4x64, .f32⟩
  | .hbm, ⟨99, _⟩ => ⟨S8192x1024, .f32⟩
  | .hbm, ⟨100, _⟩ => ⟨S8192x1024, .bf16⟩
  | _, _ => ⟨S1x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_10 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩

abbrev nD : Nat := 1
abbrev τ : Topo := Topo.v7x

variable {F : FTy → Type} [FloatOps F]
-- ==== Proof.Blocks.lean ====
/- Hand-written. The blocks the kernel reads, at coordinates. -/
module

public import proofs.«01_k».proof.Proof.Gen.KernelIdeal.Value
public import Idealize.ShloMosaic.Lib.Pipeline.ValueKit.Point

@[expose] public section

noncomputable section

namespace Cert.Array

open Cert.KernelIdeal Cert.KernelIdeal.Gen Idealize.ShloMosaic Idealize.ShloMosaic.TcCoe
open scoped BigOperators

variable (m : (ℓ : Loc nD τ sig) → Buf (Elt Ideal) ℓ) (c : Dev nD)

theorem index0 : ∀ t : Fin cfg0.N, win0_0.index t = ![(grid0.coords t 1).val, 8 + (grid0.coords t 0).val] :=
  (by decide +kernel : ∀ t : Fin grid0.N, win0_0.index t = ![(grid0.coords t 1).val, 8 + (grid0.coords t 0).val])
theorem index1 : ∀ t : Fin cfg0.N, win0_1.index t = ![(grid0.coords t 1).val, 10 + (grid0.coords t 0).val] :=
  (by decide +kernel : ∀ t : Fin grid0.N, win0_1.index t = ![(grid0.coords t 1).val, 10 + (grid0.coords t 0).val])
theorem index2 : ∀ t : Fin cfg0.N, win0_2.index t = ![(grid0.coords t 1).val, (grid0.coords t 0).val] :=
  (by decide +kernel : ∀ t : Fin grid0.N, win0_2.index t = ![(grid0.coords t 1).val, (grid0.coords t 0).val])
theorem index3 : ∀ t : Fin cfg0.N, win0_3.index t = ![min (4 * (grid0.coords t 1).val + 4) 63, (grid0.coords t 0).val] :=
  (by decide +kernel : ∀ t : Fin grid0.N, win0_3.index t = ![min (4 * (grid0.coords t 1).val + 4) 63, (grid0.coords t 0).val])
theorem index4 : ∀ t : Fin cfg0.N, win0_4.index t = ![(grid0.coords t 1).val, (grid0.coords t 0).val] :=
  (by decide +kernel : ∀ t : Fin grid0.N, win0_4.index t = ![(grid0.coords t 1).val, (grid0.coords t 0).val])
theorem index5 : ∀ t : Fin cfg0.N, win0_5.index t = ![min (4 * (grid0.coords t 1).val + 4) 63, (grid0.coords t 0).val] :=
  (by decide +kernel : ∀ t : Fin grid0.N, win0_5.index t = ![min (4 * (grid0.coords t 1).val + 4) 63, (grid0.coords t 0).val])
theorem index6 : ∀ t : Fin cfg0.N, win0_6.index t = ![(grid0.coords t 1).val, (grid0.coords t 0).val] :=
  (by decide +kernel : ∀ t : Fin grid0.N, win0_6.index t = ![(grid0.coords t 1).val, (grid0.coords t 0).val])
theorem index7 : ∀ t : Fin cfg0.N, win0_7.index t = ![min (4 * (grid0.coords t 1).val + 4) 63, (grid0.coords t 0).val] :=
  (by decide +kernel : ∀ t : Fin grid0.N, win0_7.index t = ![min (4 * (grid0.coords t 1).val + 4) 63, (grid0.coords t 0).val])
theorem index8 : ∀ t : Fin cfg0.N, win0_8.index t = ![(grid0.coords t 1).val, (grid0.coords t 0).val] :=
  (by decide +kernel : ∀ t : Fin grid0.N, win0_8.index t = ![(grid0.coords t 1).val, (grid0.coords t 0).val])
theorem index9 : ∀ t : Fin cfg0.N, win0_9.index t = ![min (4 * (grid0.coords t 1).val + 4) 63, (grid0.coords t 0).val] :=
  (by decide +kernel : ∀ t : Fin grid0.N, win0_9.index t = ![min (4 * (grid0.coords t 1).val + 4) 63, (grid0.coords t 0).val])
theorem index10 : ∀ t : Fin cfg0.N, win0_10.index t = ![(grid0.coords t 1).val, (grid0.coords t 0).val] :=
  (by decide +kernel : ∀ t : Fin grid0.N, win0_10.index t = ![(grid0.coords t 1).val, (grid0.coords t 0).val])
theorem index11 : ∀ t : Fin cfg0.N, win0_11.index t = ![(grid0.coords t 1).val, (grid0.coords t 0).val] :=
  (by decide +kernel : ∀ t : Fin grid0.N, win0_11.index t = ![(grid0.coords t 1).val, (grid0.coords t 0).val])

theorem pair_lt (t : Fin cfg0.N) : (grid0.coords t 0).val < 2 := (grid0.coords t 0).isLt
theorem step_lt (t : Fin cfg0.N) : (grid0.coords t 1).val < 16 := (grid0.coords t 1).isLt

theorem block0 (t : Fin cfg0.N) (A : Vec Ideal S8192x1280 .bf16) (r : Fin 512) (l : Fin 128) :
    ((cfg0.win 0).blk t).view.read (Elt Ideal) A (ix2 r l) = A (ix2 ⟨512 * (grid0.coords t 1).val + r, by have := step_lt t; omega⟩ ⟨1024 + 128 * (grid0.coords t 0).val + l, by have := pair_lt t; omega⟩) := by
  blk_simp
  refine congrArg A ?_
  blk_ext [index0 t]

theorem block1 (t : Fin cfg0.N) (A : Vec Ideal S8192x1536 .bf16) (r : Fin 512) (l : Fin 128) :
    ((cfg0.win 1).blk t).view.read (Elt Ideal) A (ix2 r l) = A (ix2 ⟨512 * (grid0.coords t 1).val + r, by have := step_lt t; omega⟩ ⟨1280 + 128 * (grid0.coords t 0).val + l, by have := pair_lt t; omega⟩) := by
  blk_simp
  refine congrArg A ?_
  blk_ext [index1 t]

theorem block2 (t : Fin cfg0.N) (A : Vec Ideal S8192x1280 .bf16) (r : Fin 512) (l : Fin 512) :
    (cfg0.win 2).fill (cfg0.grid.coords t) dflt0_2 (((cfg0.win 2).blk t).view.read (Elt Ideal) A) (ix2 r l) = A (ix2 ⟨512 * (grid0.coords t 1).val + r, by have := step_lt t; omega⟩ ⟨512 * (grid0.coords t 0).val + l, by have := pair_lt t; omega⟩) := by
  unfold Pipeline.Window.fill
  rw [dif_pos (moved0_2 t _)]
  blk_simp
  refine congrArg A ?_
  blk_ext [index2 t]

theorem block3 (t : Fin cfg0.N) (A : Vec Ideal S8192x1280 .bf16) (r : Fin 128) (l : Fin 512) (n : Nat) (hn : n < 64) (e : win0_3.index t = ![n, (grid0.coords t 0).val]) :
    (cfg0.win 3).fill (cfg0.grid.coords t) dflt0_3 (((cfg0.win 3).blk t).view.read (Elt Ideal) A) (ix2 r l) = A (ix2 ⟨128 * n + r, by omega⟩ ⟨512 * (grid0.coords t 0).val + l, by have := pair_lt t; omega⟩) := by
  unfold Pipeline.Window.fill
  rw [dif_pos (moved0_3 t _)]
  blk_simp
  refine congrArg A ?_
  blk_ext [e]

theorem block4 (t : Fin cfg0.N) (A : Vec Ideal S8192x1024 .bf16) (r : Fin 512) (l : Fin 512) :
    ((cfg0.win 4).blk t).view.read (Elt Ideal) A (ix2 r l) = A (ix2 ⟨512 * (grid0.coords t 1).val + r, by have := step_lt t; omega⟩ ⟨512 * (grid0.coords t 0).val + l, by have := pair_lt t; omega⟩) := by
  blk_simp
  refine congrArg A ?_
  blk_ext [index4 t]

theorem block6 (t : Fin cfg0.N) (A : Vec Ideal S8192x1024 .bf16) (r : Fin 512) (l : Fin 512) :
    ((cfg0.win 6).blk t).view.read (Elt Ideal) A (ix2 r l) = A (ix2 ⟨512 * (grid0.coords t 1).val + r, by have := step_lt t; omega⟩ ⟨512 * (grid0.coords t 0).val + l, by have := pair_lt t; omega⟩) := by
  blk_simp
  refine congrArg A ?_
  blk_ext [index6 t]

theorem block8 (t : Fin cfg0.N) (A : Vec Ideal S8192x1024 .f32) (r : Fin 512) (l : Fin 512) :
    ((cfg0.win 8).blk t).view.read (Elt Ideal) A (ix2 r l) = A (ix2 ⟨512 * (grid0.coords t 1).val + r, by have := step_lt t; omega⟩ ⟨512 * (grid0.coords t 0).val + l, by have := pair_lt t; omega⟩) := by
  blk_simp
  refine congrArg A ?_
  blk_ext [index8 t]

theorem block5 (t : Fin cfg0.N) (A : Vec Ideal S8192x1024 .bf16) (r : Fin 128) (l : Fin 512) (n : Nat) (hn : n < 64) (e : win0_5.index t = ![n, (grid0.coords t 0).val]) :
    ((cfg0.win 5).blk t).view.read (Elt Ideal) A (ix2 r l) = A (ix2 ⟨128 * n + r, by omega⟩ ⟨512 * (grid0.coords t 0).val + l, by have := pair_lt t; omega⟩) := by
  blk_simp
  refine congrArg A ?_
  blk_ext [e]

theorem block7 (t : Fin cfg0.N) (A : Vec Ideal S8192x1024 .bf16) (r : Fin 128) (l : Fin 512) (n : Nat) (hn : n < 64) (e : win0_7.index t = ![n, (grid0.coords t 0).val]) :
    ((cfg0.win 7).blk t).view.read (Elt Ideal) A (ix2 r l) = A (ix2 ⟨128 * n + r, by omega⟩ ⟨512 * (grid0.coords t 0).val + l, by have := pair_lt t; omega⟩) := by
  blk_simp
  refine congrArg A ?_
  blk_ext [e]

theorem block9 (t : Fin cfg0.N) (A : Vec Ideal S8192x1024 .f32) (r : Fin 128) (l : Fin 512) (n : Nat) (hn : n < 64) (e : win0_9.index t = ![n, (grid0.coords t 0).val]) :
    ((cfg0.win 9).blk t).view.read (Elt Ideal) A (ix2 r l) = A (ix2 ⟨128 * n + r, by omega⟩ ⟨512 * (grid0.coords t 0).val + l, by have := pair_lt t; omega⟩) := by
  blk_simp
  refine congrArg A ?_
  blk_ext [e]

end Cert.Array
-- ==== Proof.Tile.lean ====
/- Hand-written. The kernel's body as a function of its twelve blocks: the pieces it stores in its two output blocks are the four
   windows' tiles, each the sum over the four pairs of query heads and the two heads of a pair. -/
module

public import proofs.«01_k».proof.Proof.Gen.KernelIdeal.Value
public import Idealize.ShloMosaic.Lib.Pointwise

@[expose] public section

noncomputable section

namespace Cert.Tile

open Cert.KernelIdeal Cert.KernelIdeal.Gen Idealize.ShloMosaic Idealize.ShloMosaic.TcCoe Idealize.SL.Sem

/-! ### The operands of one block: 640 query rows (the block's own 512 and the next 128) of 512 lanes (four pairs of heads) -/

def cat {t : FTy} (a : FVec Ideal S512x512 t) (b : FVec Ideal S128x512 t) : FVec Ideal S640x512 t :=
  concatenate S640x512 0 [⟨S512x512, shapeCast S512x512 a shapeCasts_S512x512_S512x512⟩, ⟨S128x512, shapeCast S128x512 b shapeCasts_S128x512_S128x512⟩]
    concatenates_S512x512_S128x512_S640x512_d0

theorem pair_slices : ∀ p : Fin 4, S640x512.Slices ![0, 128 * p.val] S640x128 := by decide

/-- A pair's two heads exchanged. -/
def turned (x : FVec Ideal S640x512 .bf16) (p : Fin 4) : FVec Ideal S640x128 .f32 :=
  dynamicRotate 1 64#32 none (extractStridedSlice S640x128 ![0, 128 * p.val] (extf .f32 x bitsLt_bf16_f32) (pair_slices p)) rotates_S640x128_d1

def swap (x : FVec Ideal S640x512 .bf16) : FVec Ideal S640x512 .bf16 :=
  truncf .bf16 (concatenate S640x512 1 [⟨S640x128, turned x 0⟩, ⟨S640x128, turned x 1⟩, ⟨S640x128, turned x 2⟩, ⟨S640x128, turned x 3⟩]
    concatenates_S640x128_S640x128_S640x128_S640x128_S640x512_d1) bitsLt_bf16_f32

theorem cut_slices : ∀ w p : Fin 4, S640x512.Slices ![128 * w.val, 128 * p.val] S256x128 := by decide

/-- Window `w`'s 256 query rows of the pair `p`. -/
def cut {t : FTy} (w p : Fin 4) (x : FVec Ideal S640x512 t) : FVec Ideal S256x128 t :=
  extractStridedSlice S256x128 ![128 * w.val, 128 * p.val] x (cut_slices w p)

theorem key_inb : ∀ (w : Fin 4) (a : Fin 2), (![128 * w.val, 0] : Fin 2 → Nat) a + S128x128.size a ≤ S512x128.size a := by decide

/-- Window `w`'s 128 rows of keys or values. -/
def keys (w : Fin 4) (x : FVec Ideal S512x128 .bf16) : FVec Ideal S128x128 .bf16 :=
  shapeCast S128x128 (View.ld (Val := Elt Ideal) (e' := EltTy.bf16) x (Rect.unit (s := S512x128) ![128 * w.val, 0] S128x128.size (key_inb w)) : FVec Ideal S128x128 .bf16) shapeCasts_S128x128_S128x128

/-! ### One head of a pair -/

def lanes : IVec S256x128 32 := iota .tc S256x128 32 [1] iota_S256x128_d1_w32
def rows : IVec S256x128 32 := iota .tc S256x128 32 [0] iota_S256x128_d0_w32

def half (lo hi : BitVec 32) : IVec S256x128 1 :=
  andi (cmpi .sge lanes (broadcast S256x128 lo)) (cmpi .slt lanes (broadcast S256x128 hi))

def first : IVec S256x128 1 := half 0#32 64#32
def second : IVec S256x128 1 := half 64#32 128#32

/-- Query row `r` sees the keys at most 127 rows before it. -/
def near : IVec S256x128 1 := andi (cmpi .sle lanes rows) (cmpi .slt rows (addi lanes (broadcast S256x128 128#32)))

/-- In the last window, the rows past the array see nothing. -/
def nearLast (n : BitVec 1) : IVec S256x128 1 := andi near (ori (cmpi .slt rows (broadcast S256x128 128#32)) (broadcast S256x128 n))

def hasNext (i : grid0.Coords) : BitVec 1 := Scalar.cmpi .slt (Scalar.addi (BitVec.ofNat 32 (i 1).val) 1#32) 16#32

def scaled (tm : IVec S256x128 1) (x : FVec Ideal S256x128 .bf16) : FVec Ideal S256x128 .bf16 :=
  truncf .bf16 (select tm (mulf (extf .f32 x bitsLt_bf16_f32) (broadcast S256x128 (Scalar.ofBits .f32 0x3E000000#32)))
    (broadcast S256x128 (Scalar.ofBits .f32 0x00000000#32))) bitsLt_bf16_f32

def kept (tm : IVec S256x128 1) (x : FVec Ideal S256x128 .bf16) : FVec Ideal S256x128 .bf16 :=
  select tm x (broadcast S256x128 (Scalar.ofBits .bf16 0x0000#16))

def against (x : FVec Ideal S256x128 .bf16) (k : FVec Ideal S128x128 .bf16) : FVec Ideal S256x128 .f32 :=
  matmul dot_S256x128_S128x128_S256x128_1_1_0_0_n_n none x k (constant S256x128 .f32 0x00000000#32)

def probs (ok : IVec S256x128 1) (q : FVec Ideal S256x128 .bf16) (k : FVec Ideal S128x128 .bf16) (l : FVec Ideal S256x1 .f32) : FVec Ideal S256x128 .f32 :=
  exp (subf (select ok (against q k) (broadcast S256x128 (Named.named κ "mask" 0xF149F2CA#32))) (broadcastTo S256x128 l broadcasts_S256x1_S256x128))

def firstCol (x : FVec Ideal S256x128 .f32) : FVec Ideal S256x1 .f32 := extractStridedSlice S256x1 ![0, 0] x slices_S256x128_o0_0_S256x1
def secondCol (x : FVec Ideal S256x128 .f32) : FVec Ideal S256x1 .f32 := extractStridedSlice S256x1 ![0, 64] x slices_S256x128_o0_64_S256x1

def prods (d o : FVec Ideal S256x128 .bf16) : FVec Ideal S256x128 .f32 := mulf (extf .f32 d bitsLt_bf16_f32) (extf .f32 o bitsLt_bf16_f32)

/-- The sums of a head's products. -/
def sums (hm : IVec S256x128 1) (x : FVec Ideal S256x128 .f32) : FVec Ideal S256x1 .f32 :=
  shapeCast S256x1 (multiReduction .add [1] S256 (select hm x (broadcast S256x128 (Scalar.ofBits .f32 0x00000000#32))) 0x00000000#32
    reduces_S256x128_S256 (.inl rfl) rfl) shapeCasts_S256_S256x1

def grads (p : FVec Ideal S256x128 .f32) (d : FVec Ideal S256x128 .bf16) (v : FVec Ideal S128x128 .bf16) (s : FVec Ideal S256x1 .f32) : FVec Ideal S256x128 .f32 :=
  mulf p (subf (against d v) (broadcastTo S256x128 s broadcasts_S256x1_S256x128))

def accum (a : FVec Ideal S128x128 .f32) (x : FVec Ideal S256x128 .f32) (y : FVec Ideal S256x128 .bf16) : FVec Ideal S128x128 .f32 :=
  addf a (matmul dot_S256x128_S256x128_S128x128_0_0_1_1_n_n none (truncf .bf16 x bitsLt_bf16_f32) y (constant S128x128 .f32 0x00000000#32))

def zeros : FVec Ideal S128x128 .f32 := broadcast S128x128 (Scalar.ofBits .f32 0x00000000#32)

/-! ### One window -/

section
variable (ok : IVec S256x128 1) (k v : FVec Ideal S128x128 .bf16) (q d qs ds o : FVec Ideal S640x512 .bf16) (l : FVec Ideal S640x512 .f32) (w : Fin 4)

/-- The pair `p`'s two heads, the first from `q` and `d`, the second from `q'` and `d'`, into the lanes `tm`. -/
def dkPair (q d q' d' D : FVec Ideal S640x512 .bf16) (tm : IVec S256x128 1) (p : Fin 4) (a : FVec Ideal S128x128 .f32) : FVec Ideal S128x128 .f32 :=
  accum
    (accum a
      (grads (probs ok (scaled tm (cut w p q)) k (firstCol (cut w p l))) (kept tm (cut w p d)) v (sums first (prods (cut w p D) (cut w p o))))
      (scaled tm (cut w p q)))
    (grads (probs ok (scaled tm (cut w p q')) k (secondCol (cut w p l))) (kept tm (cut w p d')) v (sums second (prods (cut w p D) (cut w p o))))
    (scaled tm (cut w p q'))

def dvPair (q d q' d' : FVec Ideal S640x512 .bf16) (tm : IVec S256x128 1) (p : Fin 4) (a : FVec Ideal S128x128 .f32) : FVec Ideal S128x128 .f32 :=
  accum (accum a (probs ok (scaled tm (cut w p q)) k (firstCol (cut w p l))) (kept tm (cut w p d)))
    (probs ok (scaled tm (cut w p q')) k (secondCol (cut w p l))) (kept tm (cut w p d'))

def dkTile : FVec Ideal S128x128 .bf16 :=
  truncf .bf16 (dkPair ok k v o l w qs ds q d d second 3 (dkPair ok k v o l w qs ds q d d second 2
    (dkPair ok k v o l w q d qs ds d first 1 (dkPair ok k v o l w q d qs ds d first 0 zeros)))) bitsLt_bf16_f32

def dvTile : FVec Ideal S128x128 .bf16 :=
  truncf .bf16 (dvPair ok k l w qs ds q d second 3 (dvPair ok k l w qs ds q d second 2
    (dvPair ok k l w q d qs ds first 1 (dvPair ok k l w q d qs ds first 0 zeros)))) bitsLt_bf16_f32

end

section
variable (i : grid0.Coords) (x0 : Vec Ideal S512x128 .bf16) (x1 : Vec Ideal S512x128 .bf16) (x2 : Vec Ideal S512x512 .bf16) (x3 : Vec Ideal S128x512 .bf16) (x4 : Vec Ideal S512x512 .bf16) (x5 : Vec Ideal S128x512 .bf16) (x6 : Vec Ideal S512x512 .bf16) (x7 : Vec Ideal S128x512 .bf16) (x8 : Vec Ideal S512x512 .f32) (x9 : Vec Ideal S128x512 .f32)

/-- Which keys window `w`'s query rows see. -/
def ok (w : Fin 4) : IVec S256x128 1 := if w = 3 then nearLast (hasNext i) else near

def dkOf (w : Fin 4) : FVec Ideal S128x128 .bf16 :=
  dkTile (ok i w) (keys w x0) (keys w x1) (cat x2 x3) (cat x4 x5) (swap (cat x2 x3)) (swap (cat x4 x5)) (cat x6 x7) (cat x8 x9) w

def dvOf (w : Fin 4) : FVec Ideal S128x128 .bf16 :=
  dvTile (ok i w) (keys w x0) (cat x2 x3) (cat x4 x5) (swap (cat x2 x3)) (swap (cat x4 x5)) (cat x8 x9) w

/-- The window an element of the block lies in, and its place there. -/
def place (y : S512x128.Idx) : Fin 4 × S128x128.Idx :=
  (⟨(y 0).val / 128, by have h : (y 0).val < 512 := (y 0).isLt; omega⟩, ix2 ⟨(y 0).val % 128, by omega⟩ (y 1))

def dkBlock : FVec Ideal S512x128 .bf16 := fun y => dkOf i x0 x1 x2 x3 x4 x5 x6 x7 x8 x9 (place y).1 (place y).2
def dvBlock : FVec Ideal S512x128 .bf16 := fun y => dvOf i x0 x2 x3 x4 x5 x8 x9 (place y).1 (place y).2

end

theorem place_emb (w : Fin 4) (x : S128x128.Idx) (h : ∀ a : Fin 2, (![128 * w.val, 0] : Fin 2 → Nat) a + S128x128.size a ≤ S512x128.size a) :
    place ((Rect.unit (s := S512x128) ![128 * w.val, 0] S128x128.size h).emb x) = (w, x) := by
  have h0 : (x 0).val < 128 := (x 0).isLt
  have e0 : ((Rect.unit (s := S512x128) ![128 * w.val, 0] S128x128.size h).emb x 0).val = 128 * w.val + (x 0).val := by
    show 128 * w.val + 1 * (x 0).val = _
    omega
  have e1 : ((Rect.unit (s := S512x128) ![128 * w.val, 0] S128x128.size h).emb x 1).val = (x 1).val := by
    show 0 + 1 * (x 1).val = _
    omega
  have hw : 128 * w.val + (x 0).val < 512 := by have := w.isLt; omega
  refine Prod.ext (Fin.ext ?_) ?_
  · show ((Rect.unit (s := S512x128) ![128 * w.val, 0] S128x128.size h).emb x 0).val / 128 = w.val
    rw [e0]; omega
  · funext a
    match a with
    | ⟨0, _⟩ =>
      refine Fin.ext ?_
      show ((Rect.unit (s := S512x128) ![128 * w.val, 0] S128x128.size h).emb x 0).val % 128 = _
      rw [e0]; show (128 * w.val + (x 0).val) % 128 = (x 0).val
      omega
    | ⟨1, _⟩ => exact Fin.ext e1

variable (c : Dev nD) (i : grid0.Coords) (a0 : Memref sig .tc .vmem S512x128 .bf16) (h0 : a0.IsWhole) (a1 : Memref sig .tc .vmem S512x128 .bf16) (h1 : a1.IsWhole) (a2 : Memref sig .tc .vmem S512x512 .bf16) (h2 : a2.IsWhole) (a3 : Memref sig .tc .vmem S128x512 .bf16) (h3 : a3.IsWhole) (a4 : Memref sig .tc .vmem S512x512 .bf16) (h4 : a4.IsWhole) (a5 : Memref sig .tc .vmem S128x512 .bf16) (h5 : a5.IsWhole) (a6 : Memref sig .tc .vmem S512x512 .bf16) (h6 : a6.IsWhole) (a7 : Memref sig .tc .vmem S128x512 .bf16) (h7 : a7.IsWhole) (a8 : Memref sig .tc .vmem S512x512 .f32) (h8 : a8.IsWhole) (a9 : Memref sig .tc .vmem S128x512 .f32) (h9 : a9.IsWhole) (a10 : Memref sig .tc .vmem S512x128 .bf16) (h10 : a10.IsWhole) (a11 : Memref sig .tc .vmem S512x128 .bf16) (h11 : a11.IsWhole)
  (x0 : Vec Ideal S512x128 .bf16) (x1 : Vec Ideal S512x128 .bf16) (x2 : Vec Ideal S512x512 .bf16) (x3 : Vec Ideal S128x512 .bf16) (x4 : Vec Ideal S512x512 .bf16) (x5 : Vec Ideal S128x512 .bf16) (x6 : Vec Ideal S512x512 .bf16) (x7 : Vec Ideal S128x512 .bf16) (x8 : Vec Ideal S512x512 .f32) (x9 : Vec Ideal S128x512 .f32)

set_option maxRecDepth 65536 in
theorem out10 : out0_A_10 c i a0 h0 a1 h1 a2 h2 a3 h3 a4 h4 a5 h5 a6 h6 a7 h7 a8 h8 a9 h9 a10 h10 a11 h11 x0 x1 x2 x3 x4 x5 x6 x7 x8 x9 = dkBlock i x0 x1 x2 x3 x4 x5 x6 x7 x8 x9 := by
  funext y
  unfold out0_A_10
  rw [View.read_writes_eq_canon _ _ _ (fun y => cover0_A_10 c i a0 h0 a1 h1 a2 h2 a3 h3 a4 h4 a5 h5 a6 h6 a7 h7 a8 h8 a9 h9 a10 h10 a11 h11 x0 x1 x2 x3 x4 x5 x6 x7 x8 x9 y)]
  refine View.canon_apply_of_pieces _ _ ?_ y (cover0_A_10 c i a0 h0 a1 h1 a2 h2 a3 h3 a4 h4 a5 h5 a6 h6 a7 h7 a8 h8 a9 h9 a10 h10 a11 h11 x0 x1 x2 x3 x4 x5 x6 x7 x8 x9 y)
  unfold kernelRun0_A
  dsimp only
  sl_unfold_words
  have e2 : a2.view.readAt (Elt Ideal) (Rect.unit (s := S512x512) ![0, 0] S512x512.size inb_S512x512_S512x512_0_0).toLoadRect (h2.unread x2) = x2 := by
    rw [View.readAt_eq_ld, h2.read_unread]; exact View.ld_unit_zero (funext fun a => by match a with | 0 => rfl | 1 => rfl) _ _
  have e3 : a3.view.readAt (Elt Ideal) (Rect.unit (s := S128x512) ![0, 0] S128x512.size inb_S128x512_S128x512_0_0).toLoadRect (h3.unread x3) = x3 := by
    rw [View.readAt_eq_ld, h3.read_unread]; exact View.ld_unit_zero (funext fun a => by match a with | 0 => rfl | 1 => rfl) _ _
  have e4 : a4.view.readAt (Elt Ideal) (Rect.unit (s := S512x512) ![0, 0] S512x512.size inb_S512x512_S512x512_0_0).toLoadRect (h4.unread x4) = x4 := by
    rw [View.readAt_eq_ld, h4.read_unread]; exact View.ld_unit_zero (funext fun a => by match a with | 0 => rfl | 1 => rfl) _ _
  have e5 : a5.view.readAt (Elt Ideal) (Rect.unit (s := S128x512) ![0, 0] S128x512.size inb_S128x512_S128x512_0_0).toLoadRect (h5.unread x5) = x5 := by
    rw [View.readAt_eq_ld, h5.read_unread]; exact View.ld_unit_zero (funext fun a => by match a with | 0 => rfl | 1 => rfl) _ _
  have e6 : a6.view.readAt (Elt Ideal) (Rect.unit (s := S512x512) ![0, 0] S512x512.size inb_S512x512_S512x512_0_0).toLoadRect (h6.unread x6) = x6 := by
    rw [View.readAt_eq_ld, h6.read_unread]; exact View.ld_unit_zero (funext fun a => by match a with | 0 => rfl | 1 => rfl) _ _
  have e7 : a7.view.readAt (Elt Ideal) (Rect.unit (s := S128x512) ![0, 0] S128x512.size inb_S128x512_S128x512_0_0).toLoadRect (h7.unread x7) = x7 := by
    rw [View.readAt_eq_ld, h7.read_unread]; exact View.ld_unit_zero (funext fun a => by match a with | 0 => rfl | 1 => rfl) _ _
  have e8 : a8.view.readAt (Elt Ideal) (Rect.unit (s := S512x512) ![0, 0] S512x512.size inb_S512x512_S512x512_0_0).toLoadRect (h8.unread x8) = x8 := by
    rw [View.readAt_eq_ld, h8.read_unread]; exact View.ld_unit_zero (funext fun a => by match a with | 0 => rfl | 1 => rfl) _ _
  have e9 : a9.view.readAt (Elt Ideal) (Rect.unit (s := S128x512) ![0, 0] S128x512.size inb_S128x512_S128x512_0_0).toLoadRect (h9.unread x9) = x9 := by
    rw [View.readAt_eq_ld, h9.read_unread]; exact View.ld_unit_zero (funext fun a => by match a with | 0 => rfl | 1 => rfl) _ _
  rw [e2, e3, e4, e5, e6, e7, e8, e9]
  simp only [View.readAt_eq_ld, h0.read_unread, h1.read_unread]
  intro p hp x
  simp only [List.mem_cons, List.mem_nil_iff, or_false] at hp
  rcases hp with rfl | rfl | rfl | rfl
  · exact Eq.trans (b := dkOf i x0 x1 x2 x3 x4 x5 x6 x7 x8 x9 3 x) rfl (congrArg (fun p : Fin 4 × S128x128.Idx => dkOf i x0 x1 x2 x3 x4 x5 x6 x7 x8 x9 p.1 p.2) (place_emb 3 x (key_inb 3))).symm
  · exact Eq.trans (b := dkOf i x0 x1 x2 x3 x4 x5 x6 x7 x8 x9 2 x) rfl (congrArg (fun p : Fin 4 × S128x128.Idx => dkOf i x0 x1 x2 x3 x4 x5 x6 x7 x8 x9 p.1 p.2) (place_emb 2 x (key_inb 2))).symm
  · exact Eq.trans (b := dkOf i x0 x1 x2 x3 x4 x5 x6 x7 x8 x9 1 x) rfl (congrArg (fun p : Fin 4 × S128x128.Idx => dkOf i x0 x1 x2 x3 x4 x5 x6 x7 x8 x9 p.1 p.2) (place_emb 1 x (key_inb 1))).symm
  · exact Eq.trans (b := dkOf i x0 x1 x2 x3 x4 x5 x6 x7 x8 x9 0 x) rfl (congrArg (fun p : Fin 4 × S128x128.Idx => dkOf i x0 x1 x2 x3 x4 x5 x6 x7 x8 x9 p.1 p.2) (place_emb 0 x (key_inb 0))).symm

set_option maxRecDepth 65536 in
theorem out11 : out0_A_11 c i a0 h0 a1 h1 a2 h2 a3 h3 a4 h4 a5 h5 a6 h6 a7 h7 a8 h8 a9 h9 a10 h10 a11 h11 x0 x1 x2 x3 x4 x5 x6 x7 x8 x9 = dvBlock i x0 x2 x3 x4 x5 x8 x9 := by
  funext y
  unfold out0_A_11
  rw [View.read_writes_eq_canon _ _ _ (fun y => cover0_A_11 c i a0 h0 a1 h1 a2 h2 a3 h3 a4 h4 a5 h5 a6 h6 a7 h7 a8 h8 a9 h9 a10 h10 a11 h11 x0 x1 x2 x3 x4 x5 x6 x7 x8 x9 y)]
  refine View.canon_apply_of_pieces _ _ ?_ y (cover0_A_11 c i a0 h0 a1 h1 a2 h2 a3 h3 a4 h4 a5 h5 a6 h6 a7 h7 a8 h8 a9 h9 a10 h10 a11 h11 x0 x1 x2 x3 x4 x5 x6 x7 x8 x9 y)
  unfold kernelRun0_A
  dsimp only
  sl_unfold_words
  have e2 : a2.view.readAt (Elt Ideal) (Rect.unit (s := S512x512) ![0, 0] S512x512.size inb_S512x512_S512x512_0_0).toLoadRect (h2.unread x2) = x2 := by
    rw [View.readAt_eq_ld, h2.read_unread]; exact View.ld_unit_zero (funext fun a => by match a with | 0 => rfl | 1 => rfl) _ _
  have e3 : a3.view.readAt (Elt Ideal) (Rect.unit (s := S128x512) ![0, 0] S128x512.size inb_S128x512_S128x512_0_0).toLoadRect (h3.unread x3) = x3 := by
    rw [View.readAt_eq_ld, h3.read_unread]; exact View.ld_unit_zero (funext fun a => by match a with | 0 => rfl | 1 => rfl) _ _
  have e4 : a4.view.readAt (Elt Ideal) (Rect.unit (s := S512x512) ![0, 0] S512x512.size inb_S512x512_S512x512_0_0).toLoadRect (h4.unread x4) = x4 := by
    rw [View.readAt_eq_ld, h4.read_unread]; exact View.ld_unit_zero (funext fun a => by match a with | 0 => rfl | 1 => rfl) _ _
  have e5 : a5.view.readAt (Elt Ideal) (Rect.unit (s := S128x512) ![0, 0] S128x512.size inb_S128x512_S128x512_0_0).toLoadRect (h5.unread x5) = x5 := by
    rw [View.readAt_eq_ld, h5.read_unread]; exact View.ld_unit_zero (funext fun a => by match a with | 0 => rfl | 1 => rfl) _ _
  have e8 : a8.view.readAt (Elt Ideal) (Rect.unit (s := S512x512) ![0, 0] S512x512.size inb_S512x512_S512x512_0_0).toLoadRect (h8.unread x8) = x8 := by
    rw [View.readAt_eq_ld, h8.read_unread]; exact View.ld_unit_zero (funext fun a => by match a with | 0 => rfl | 1 => rfl) _ _
  have e9 : a9.view.readAt (Elt Ideal) (Rect.unit (s := S128x512) ![0, 0] S128x512.size inb_S128x512_S128x512_0_0).toLoadRect (h9.unread x9) = x9 := by
    rw [View.readAt_eq_ld, h9.read_unread]; exact View.ld_unit_zero (funext fun a => by match a with | 0 => rfl | 1 => rfl) _ _
  rw [e2, e3, e4, e5, e8, e9]
  simp only [View.readAt_eq_ld, h0.read_unread, h1.read_unread]
  intro p hp x
  simp only [List.mem_cons, List.mem_nil_iff, or_false] at hp
  rcases hp with rfl | rfl | rfl | rfl
  · exact Eq.trans (b := dvOf i x0 x2 x3 x4 x5 x8 x9 3 x) rfl (congrArg (fun p : Fin 4 × S128x128.Idx => dvOf i x0 x2 x3 x4 x5 x8 x9 p.1 p.2) (place_emb 3 x (key_inb 3))).symm
  · exact Eq.trans (b := dvOf i x0 x2 x3 x4 x5 x8 x9 2 x) rfl (congrArg (fun p : Fin 4 × S128x128.Idx => dvOf i x0 x2 x3 x4 x5 x8 x9 p.1 p.2) (place_emb 2 x (key_inb 2))).symm
  · exact Eq.trans (b := dvOf i x0 x2 x3 x4 x5 x8 x9 1 x) rfl (congrArg (fun p : Fin 4 × S128x128.Idx => dvOf i x0 x2 x3 x4 x5 x8 x9 p.1 p.2) (place_emb 1 x (key_inb 1))).symm
  · exact Eq.trans (b := dvOf i x0 x2 x3 x4 x5 x8 x9 0 x) rfl (congrArg (fun p : Fin 4 × S128x128.Idx => dvOf i x0 x2 x3 x4 x5 x8 x9 p.1 p.2) (place_emb 0 x (key_inb 0))).symm

end Cert.Tile
-- ==== Proof.Spec.lean ====
/- Hand-written. The gradient of the sliding window attention with a sink, written over the real numbers, with rows, heads and
   lanes as plain natural numbers; and the few facts on extended reals by which both programs are read as these sums. -/
module

public import Idealize.ShloMosaic.PureOps.Ideal
public import Idealize.ShloMosaic.Lib.Pointwise

@[expose] public section

noncomputable section

namespace Cert.Spec

open Idealize.ShloMosaic
open scoped BigOperators

/-! ### Extended reals -/

/-- A finite sum of reals, as an extended real. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A sum over `Fin n` of extended reals that are all real. -/
theorem sum_fin_coe {n : Nat} (g : Fin n → EReal) (f : Nat → ℝ) (h : ∀ i : Fin n, g i = (f i : EReal)) :
    ∑ i, g i = ((∑ i ∈ Finset.range n, f i : ℝ) : EReal) := by
  rw [Finset.sum_congr rfl fun i _ => h i, coe_sum, Finset.sum_range]

theorem coe_ite (p : Prop) [Decidable p] (a b : ℝ) : (if p then (a : EReal) else (b : EReal)) = ((if p then a else b : ℝ) : EReal) := by
  split <;> rfl

/-- The exponential of a score that is real where kept and the bottom where masked, less a real. -/
theorem exp_masked (p : Prop) [Decidable p] (z m : ℝ) :
    Ideal.exp ((if p then (z : EReal) else ⊥) - (m : EReal)) = ((if p then Real.exp (z - m) else 0 : ℝ) : EReal) := by
  split
  · rw [← EReal.coe_sub]; rfl
  · rw [EReal.bot_sub]; rfl

/-- The quotient by a real other than zero. -/
theorem div_real {y : ℝ} (h : y ≠ 0) (x : ℝ) : Ideal.div (x : EReal) (y : EReal) = ((x / y : ℝ) : EReal) := by
  rw [Ideal.div_coe h, ← EReal.coe_mul]; congr 1; ring

theorem log_pos {y : ℝ} (h : 0 < y) : Ideal.log (y : EReal) = ((Real.log y : ℝ) : EReal) := by
  rw [Ideal.log_coe, if_neg (not_le.mpr h)]

/-- The largest of finitely many values, none the top and one of them real, is real. -/
theorem fold_max_real {ι : Type*} [Fintype ι] (g : ι → EReal) (hT : ∀ i, g i ≠ ⊤) (i₀ : ι) (h₀ : g i₀ ≠ ⊥) :
    ∃ r : ℝ, Finset.univ.fold max ⊥ g = (r : EReal) := by
  classical
  have hlt : Finset.univ.fold max ⊥ g < ⊤ :=
    (Finset.fold_max_lt _).mpr ⟨bot_lt_top, fun i _ => lt_top_iff_ne_top.mpr (hT i)⟩
  have hge : g i₀ ≤ Finset.univ.fold max ⊥ g := (Finset.le_fold_max _).mpr (Or.inr ⟨i₀, Finset.mem_univ _, le_rfl⟩)
  have hb : Finset.univ.fold max ⊥ g ≠ ⊥ := fun h => h₀ (le_bot_iff.mp (h ▸ hge))
  exact ⟨_, (EReal.coe_toReal hlt.ne hb).symm⟩

/-! ### The arrays as real functions of natural numbers -/

/-- A `[1, 8192, n, 64]` array at row `t`, head `h` and lane `d`. -/
def rd {n : Nat} (x : (⟨4, ![1, 8192, n, 64]⟩ : Shape).Idx → EReal) (t h d : Nat) : ℝ :=
  if hh : t < 8192 ∧ h < n ∧ d < 64 then (x (ix4 0 ⟨t, hh.1⟩ ⟨h, hh.2.1⟩ ⟨d, hh.2.2⟩)).toReal else 0

/-- A `[16]` array at `h`. -/
def rd1 (x : (⟨1, ![16]⟩ : Shape).Idx → EReal) (h : Nat) : ℝ := if hh : h < 16 then (x (ix1 ⟨h, hh⟩)).toReal else 0

/-- Every element real. -/
def Fine {s : Shape} (x : s.Idx → EReal) : Prop := ∀ i, x i ≠ ⊤ ∧ x i ≠ ⊥

theorem Fine.rd_eq {n : Nat} {x : (⟨4, ![1, 8192, n, 64]⟩ : Shape).Idx → EReal} (hx : Fine x) (z : Fin 1) (t : Fin 8192) (h : Fin n)
    (d : Fin 64) : x (ix4 z t h d) = (rd x t h d : EReal) := by
  obtain rfl : z = 0 := Subsingleton.elim _ _
  unfold rd
  rw [dif_pos ⟨t.isLt, h.isLt, d.isLt⟩]
  exact (EReal.coe_toReal (hx _).1 (hx _).2).symm

theorem Fine.rd1_eq {x : (⟨1, ![16]⟩ : Shape).Idx → EReal} (hx : Fine x) (h : Fin 16) : x (ix1 h) = (rd1 x h : EReal) := by
  unfold rd1
  rw [dif_pos h.isLt]
  exact (EReal.coe_toReal (hx _).1 (hx _).2).symm

/-! ### The attention of one window of 128 query rows over its 256 keys, and its gradient -/

section
variable (Q K V : Nat → Nat → Nat → ℝ) (S : Nat → ℝ) (C : Nat → Nat → Nat → ℝ)

/-- Window `n`'s band of keys or values: position `κ` is row `128 n + κ - 128`, and zero before the first row. -/
def band (X : Nat → Nat → Nat → ℝ) (n κ h d : Nat) : ℝ := if n = 0 ∧ κ < 128 then 0 else X (128 * n + κ - 128) h d

/-- Query row `i` of window `n` sees position `κ`: at most 127 rows back, and not before the first row. -/
def sees (n i κ : Nat) : Prop := κ ≤ i + 128 ∧ i < κ ∧ ¬ (n = 0 ∧ κ < 128)

instance (n i κ : Nat) : Decidable (sees n i κ) := by unfold sees; infer_instance

/-- The scaled score of query row `i`, head `4 h + g`, against position `κ`. -/
def score (n i h g κ : Nat) : ℝ := (∑ d ∈ Finset.range 64, band K n κ h d * Q (128 * n + i) (4 * h + g) d) * 0.125

/-- The softmax's denominator, with the sink's term. -/
def den (n i h g : Nat) : ℝ :=
  (∑ κ ∈ Finset.range 256, if sees n i κ then Real.exp (score Q K n i h g κ) else 0) + Real.exp (S (4 * h + g))

/-- The weight on position `κ`. -/
def wt (n i h g κ : Nat) : ℝ := if sees n i κ then Real.exp (score Q K n i h g κ) / den Q K S n i h g else 0

/-- The result at lane `d`. -/
def out (n i h g d : Nat) : ℝ := ∑ κ ∈ Finset.range 256, wt Q K S n i h g κ * band V n κ h d

/-- The cotangent of the weight on position `κ`. -/
def dwt (n i h g κ : Nat) : ℝ := ∑ d ∈ Finset.range 64, C (128 * n + i) (4 * h + g) d * band V n κ h d

/-- The weights' mean of their cotangents. -/
def mean (n i h g : Nat) : ℝ := ∑ κ ∈ Finset.range 256, wt Q K S n i h g κ * dwt V C n i h g κ

/-- The cotangent of the scaled score. -/
def dscore (n i h g κ : Nat) : ℝ := wt Q K S n i h g κ * (dwt V C n i h g κ - mean Q K V S C n i h g)

/-- The cotangents of window `n`'s band of keys and of values. -/
def dkBand (n κ h d : Nat) : ℝ :=
  ∑ g ∈ Finset.range 4, ∑ i ∈ Finset.range 128, dscore Q K V S C n i h g κ * (Q (128 * n + i) (4 * h + g) d * 0.125)
def dvBand (n κ h d : Nat) : ℝ :=
  ∑ g ∈ Finset.range 4, ∑ i ∈ Finset.range 128, wt Q K S n i h g κ * C (128 * n + i) (4 * h + g) d

/-- A row's gradient: its own window's band and the next one's, which both hold it. -/
def fold (B : Nat → Nat → Nat → Nat → ℝ) (t h d : Nat) : ℝ :=
  B (t / 128) (128 + t % 128) h d + if t / 128 < 63 then B (t / 128 + 1) (t % 128) h d else 0

def dk (t h d : Nat) : ℝ := fold (dkBand Q K V S C) t h d
def dv (t h d : Nat) : ℝ := fold (dvBand Q K S C) t h d

theorem den_pos (n i h g : Nat) : 0 < den Q K S n i h g := by
  unfold den
  refine add_pos_of_nonneg_of_pos (Finset.sum_nonneg fun κ _ => ?_) (Real.exp_pos _)
  split
  · exact (Real.exp_pos _).le
  · exact le_rfl

/-- The mean of the weights' cotangents is the product of the cotangent with the result. -/
theorem mean_eq (n i h g : Nat) :
    mean Q K V S C n i h g = ∑ d ∈ Finset.range 64, C (128 * n + i) (4 * h + g) d * out Q K V S n i h g d := by
  unfold mean out dwt
  simp only [Finset.mul_sum]
  rw [Finset.sum_comm]
  refine Finset.sum_congr rfl fun d _ => Finset.sum_congr rfl fun κ _ => ?_
  ring

/-- The denominator taken relative to any real `M`. -/
theorem den_shift (M : ℝ) (n i h g : Nat) :
    (∑ κ ∈ Finset.range 256, if sees n i κ then Real.exp (score Q K n i h g κ - M) else 0) + Real.exp (S (4 * h + g) - M)
      = den Q K S n i h g * Real.exp (-M) := by
  unfold den
  rw [add_mul, Finset.sum_mul, ← Real.exp_add, ← sub_eq_add_neg]
  congr 1
  refine Finset.sum_congr rfl fun κ _ => ?_
  split
  · rw [← Real.exp_add, ← sub_eq_add_neg]
  · rw [zero_mul]

/-- The weight from a score and a denominator relative to `M`. -/
theorem wt_shift (M : ℝ) (n i h g κ : Nat) :
    (if sees n i κ then Real.exp (score Q K n i h g κ - M) else 0) / (den Q K S n i h g * Real.exp (-M)) = wt Q K S n i h g κ := by
  unfold wt
  split
  · rw [sub_eq_add_neg, Real.exp_add, mul_div_mul_right _ _ (Real.exp_pos _).ne']
  · rw [zero_div]

/-- The weight from the logarithm of the denominator. -/
theorem wt_log (n i h g κ : Nat) :
    (if sees n i κ then Real.exp (score Q K n i h g κ - Real.log (den Q K S n i h g)) else 0) = wt Q K S n i h g κ := by
  unfold wt
  split
  · rw [Real.exp_sub, Real.exp_log (den_pos Q K S n i h g)]
  · rfl

end

end Cert.Spec
-- ==== Proof.TileRead.lean ====
/- Hand-written. The tiles of Tile.lean at an index, as real sums, for blocks that are all real. -/
module

public import proofs.«01_k».proof.Proof.Tile
public import proofs.«01_k».proof.Proof.Spec
public import Idealize.ShloMosaic.Lib.WordCmp

@[expose] public section

noncomputable section

namespace Cert.Tile

open Cert.KernelIdeal Cert.KernelIdeal.Gen Idealize.ShloMosaic Idealize.ShloMosaic.TcCoe Idealize.SL.Sem Cert.Spec
open scoped BigOperators

/-! ### Words -/

theorem word_scale : Ideal.ofBits .f32 0x3E000000#32 = ((0.125 : ℝ) : EReal) := by
  simp [Ideal.ofBits, Ideal.ieee]
  rw [← EReal.coe_mul]; norm_num

theorem named_mask : (Named.named κ "mask" 0xF149F2CA#32 : Ideal .f32) = ⊥ := rfl

theorem choose_ite {α : Type} (p : Prop) [Decidable p] (a b : α) : Scalar.select (BitVec.ofBool (decide p)) a b = if p then a else b := by
  by_cases h : p <;> simp [h, Scalar.select]

theorem and_words (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem or_words (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem first_word : ∀ l : Fin 128, IntOp.andi (IntOp.cmpi CmpIPredicate.sge (BitVec.ofNat 32 l) 0#32)
    (IntOp.cmpi CmpIPredicate.slt (BitVec.ofNat 32 l) 64#32) = BitVec.ofBool (decide (l.val / 64 = 0)) := by decide +kernel

theorem second_word : ∀ l : Fin 128, IntOp.andi (IntOp.cmpi CmpIPredicate.sge (BitVec.ofNat 32 l) 64#32)
    (IntOp.cmpi CmpIPredicate.slt (BitVec.ofNat 32 l) 128#32) = BitVec.ofBool (decide (l.val / 64 = 1)) := by decide +kernel

theorem small_le {a b : Nat} (ha : a < 512) (hb : b < 512) :
    IntOp.cmpi CmpIPredicate.sle (BitVec.ofNat 32 a) (BitVec.ofNat 32 b) = BitVec.ofBool (decide (a ≤ b)) :=
  Idealize.ShloMosaic.WordCmp.cmpi_sle_ofNat (by omega) (by omega)

theorem small_lt {a b : Nat} (ha : a < 512) (hb : b < 512) :
    IntOp.cmpi CmpIPredicate.slt (BitVec.ofNat 32 a) (BitVec.ofNat 32 b) = BitVec.ofBool (decide (a < b)) :=
  Idealize.ShloMosaic.WordCmp.cmpi_slt_ofNat (by omega) (by omega)

theorem first_apply (r : Fin 256) (l : Fin 128) : first (ix2 r l) = BitVec.ofBool (decide (l.val / 64 = 0)) := by
  pointwise [first, half, lanes]
  exact first_word l

theorem second_apply (r : Fin 256) (l : Fin 128) : second (ix2 r l) = BitVec.ofBool (decide (l.val / 64 = 1)) := by
  pointwise [second, half, lanes]
  exact second_word l

theorem near_apply (r : Fin 256) (c : Fin 128) : near (ix2 r c) = BitVec.ofBool (decide (c.val ≤ r.val ∧ r.val < c.val + 128)) := by
  pointwise [near, lanes, rows]
  have e : IntOp.addi (BitVec.ofNat 32 c.val) 128#32 = BitVec.ofNat 32 (c.val + 128) := (BitVec.ofNat_add c.val 128).symm
  rw [e, small_le (by omega) (by omega), small_lt (by omega) (by omega), and_words]

theorem nearLast_apply (p : Prop) [Decidable p] (r : Fin 256) (c : Fin 128) :
    nearLast (BitVec.ofBool (decide p)) (ix2 r c)
      = BitVec.ofBool (decide ((c.val ≤ r.val ∧ r.val < c.val + 128) ∧ (r.val < 128 ∨ p))) := by
  have hn := near_apply r c
  unfold nearLast
  generalize near = x at hn
  pointwise [rows]
  rw [hn, small_lt (by omega) (by omega), or_words, and_words]

theorem hasNext_apply (i : grid0.Coords) : hasNext i = BitVec.ofBool (decide ((i 1).val + 1 < 16)) := by
  have h : (i 1).val < 16 := (i 1).isLt
  have e : IntOp.addi (BitVec.ofNat 32 (i 1).val) 1#32 = BitVec.ofNat 32 ((i 1).val + 1) := (BitVec.ofNat_add _ 1).symm
  show IntOp.cmpi CmpIPredicate.slt (IntOp.addi (BitVec.ofNat 32 (i 1).val) 1#32) (BitVec.ofNat 32 16) = _
  rw [e, small_lt (by omega) (by omega)]

/-- Query row `r` of the window `w` of tile `j`'s sees key `c`: at most 127 rows later, and a row of the array. -/
def reach (j w r c : Nat) : Prop := c ≤ r ∧ r < c + 128 ∧ 4 * j + w + r / 128 < 64

instance (j w r c : Nat) : Decidable (reach j w r c) := by unfold reach; infer_instance

theorem ok_apply (i : grid0.Coords) (w : Fin 4) (r : Fin 256) (c : Fin 128) :
    ok i w (ix2 r c) = BitVec.ofBool (decide (reach (i 1).val w r c)) := by
  have hi : (i 1).val < 16 := (i 1).isLt
  have hw := w.isLt
  have hr := r.isLt
  unfold ok
  by_cases h : w = 3
  · rw [if_pos h, hasNext_apply, nearLast_apply]
    subst h
    refine congrArg BitVec.ofBool (decide_eq_decide.mpr ?_)
    unfold reach
    show _ ↔ _ ∧ _ ∧ 4 * (i 1).val + 3 + r.val / 128 < 64
    omega
  · rw [if_neg h, near_apply]
    have : w.val ≠ 3 := fun e => h (Fin.ext e)
    refine congrArg BitVec.ofBool (decide_eq_decide.mpr ?_)
    unfold reach
    omega

/-! ### Layout -/

theorem cat_apply {t : FTy} (a : FVec Ideal S512x512 t) (b : FVec Ideal S128x512 t) (r : Fin 640) (l : Fin 512) :
    cat a b (ix2 r l) = if h : r.val < 512 then a (ix2 ⟨r, h⟩ l) else b (ix2 ⟨r.val - 512, by omega⟩ l) := by
  pointwise [cat]

theorem turned_apply (x : FVec Ideal S640x512 .bf16) (p : Fin 4) (r : Fin 640) (l : Fin 128) :
    turned x p (ix2 r l) = x (ix2 r ⟨128 * p.val + (l.val + 64) % 128, by omega⟩) := by
  pointwise [turned]
  have e : l.val + 128 - 64 = l.val + 64 := by omega
  simp only [e]

theorem swap_apply (x : FVec Ideal S640x512 .bf16) (r : Fin 640) (l : Fin 512) :
    swap x (ix2 r l) = x (ix2 r ⟨128 * (l.val / 128) + (l.val % 128 + 64) % 128, by omega⟩) := by
  have h0 := turned_apply x 0
  have h1 := turned_apply x 1
  have h2 := turned_apply x 2
  have h3 := turned_apply x 3
  unfold swap
  generalize turned x 0 = y0 at h0 ⊢
  generalize turned x 1 = y1 at h1 ⊢
  generalize turned x 2 = y2 at h2 ⊢
  generalize turned x 3 = y3 at h3 ⊢
  have hl := l.isLt
  pointwise
  simp only [h0, h1, h2, h3]
  split
  · refine congrArg (fun z => x (ix2 r z)) (Fin.ext ?_); show 128 * 0 + _ = _; simp only []; omega
  · split
    · refine congrArg (fun z => x (ix2 r z)) (Fin.ext ?_); show 128 * 1 + _ = _; simp only []; omega
    · split
      · refine congrArg (fun z => x (ix2 r z)) (Fin.ext ?_); show 128 * 2 + _ = _; simp only []; omega
      · refine congrArg (fun z => x (ix2 r z)) (Fin.ext ?_); show 128 * 3 + _ = _; simp only []; omega

theorem cut_apply {t : FTy} (w p : Fin 4) (x : FVec Ideal S640x512 t) (r : Fin 256) (l : Fin 128) :
    cut w p x (ix2 r l) = x (ix2 ⟨128 * w.val + r.val, by omega⟩ ⟨128 * p.val + l.val, by omega⟩) := by
  pointwise [cut]

theorem keys_apply (w : Fin 4) (x : FVec Ideal S512x128 .bf16) (r : Fin 128) (l : Fin 128) :
    keys w x (ix2 r l) = x (ix2 ⟨128 * w.val + r.val, by omega⟩ l) := by
  pointwise [keys]

/-! ### One head, on real operands -/

/-- The sum over the lanes of one half. -/
theorem half_sum (f : Nat → ℝ) (h : Nat) (hh : h < 2) :
    (∑ l ∈ Finset.range 128, if l / 64 = h then f l else 0) = ∑ d ∈ Finset.range 64, f (64 * h + d) := by
  rw [← Finset.sum_filter]
  symm
  refine Finset.sum_bij (fun d _ => 64 * h + d) (fun d hd => ?_) (fun a _ b _ e => by simpa using e) (fun l hl => ?_) (fun _ _ => rfl)
  · rw [Finset.mem_filter, Finset.mem_range] ; rw [Finset.mem_range] at hd; omega
  · rw [Finset.mem_filter, Finset.mem_range] at hl
    exact ⟨l - 64 * h, by rw [Finset.mem_range]; omega, by show 64 * h + (l - 64 * h) = l; omega⟩

/-- A mask that keeps the lanes of half `h`. -/
def Keeps (m : IVec S256x128 1) (h : Nat) : Prop := ∀ (r : Fin 256) (l : Fin 128), m (ix2 r l) = BitVec.ofBool (decide (l.val / 64 = h))

theorem scaled_apply {m : IVec S256x128 1} {h : Nat} (hm : Keeps m h) (x : FVec Ideal S256x128 .bf16) (f : Nat → Nat → ℝ)
    (hx : ∀ (r : Fin 256) (l : Fin 128), l.val / 64 = h → x (ix2 r l) = (f r (l.val % 64) : EReal)) (r : Fin 256) (l : Fin 128) :
    scaled m x (ix2 r l) = ((if l.val / 64 = h then f r (l.val % 64) * 0.125 else 0 : ℝ) : EReal) := by
  pointwise [scaled]
  rw [hm, choose_ite, word_scale]
  by_cases e : l.val / 64 = h
  · rw [if_pos e, if_pos e, hx r l e, ← EReal.coe_mul]
  · rw [if_neg e, if_neg e]; rfl

theorem kept_apply {m : IVec S256x128 1} {h : Nat} (hm : Keeps m h) (x : FVec Ideal S256x128 .bf16) (f : Nat → Nat → ℝ)
    (hx : ∀ (r : Fin 256) (l : Fin 128), l.val / 64 = h → x (ix2 r l) = (f r (l.val % 64) : EReal)) (r : Fin 256) (l : Fin 128) :
    kept m x (ix2 r l) = ((if l.val / 64 = h then f r (l.val % 64) else 0 : ℝ) : EReal) := by
  pointwise [kept]
  rw [hm, choose_ite]
  by_cases e : l.val / 64 = h
  · rw [if_pos e, if_pos e, hx r l e]
  · rw [if_neg e, if_neg e]; rfl

theorem against_apply (x : FVec Ideal S256x128 .bf16) (k : FVec Ideal S128x128 .bf16) {h : Nat} (hh : h < 2) (f g : Nat → Nat → ℝ)
    (hx : ∀ (r : Fin 256) (l : Fin 128), x (ix2 r l) = ((if l.val / 64 = h then f r (l.val % 64) else 0 : ℝ) : EReal))
    (hk : ∀ (c l : Fin 128), k (ix2 c l) = (g c l : EReal)) (r : Fin 256) (c : Fin 128) :
    against x k (ix2 r c) = ((∑ d ∈ Finset.range 64, f r d * g c (64 * h + d) : ℝ) : EReal) := by
  pointwise [against]
  simp only [hx, hk, ← EReal.coe_mul]
  rw [sum_fin_coe _ (fun l => if l / 64 = h then f r (l % 64) * g c l else 0)]
  · rw [half_sum (fun l => f r (l % 64) * g c l) h hh]
    refine congrArg Real.toEReal (Finset.sum_congr rfl fun d hd => ?_)
    have hd := Finset.mem_range.mp hd
    have e : (64 * h + d) % 64 = d := by omega
    simp only [e]
  · intro l
    split
    · rfl
    · rw [zero_mul]

theorem probs_apply (m : IVec S256x128 1) (P : Nat → Nat → Prop) [∀ r c, Decidable (P r c)] (q : FVec Ideal S256x128 .bf16)
    (k : FVec Ideal S128x128 .bf16) (l : FVec Ideal S256x1 .f32) (s : Nat → Nat → ℝ) (e : Nat → ℝ)
    (hm : ∀ (r : Fin 256) (c : Fin 128), m (ix2 r c) = BitVec.ofBool (decide (P r c)))
    (hs : ∀ (r : Fin 256) (c : Fin 128), against q k (ix2 r c) = (s r c : EReal))
    (hl : ∀ r : Fin 256, l (ix2 r 0) = (e r : EReal)) (r : Fin 256) (c : Fin 128) :
    probs m q k l (ix2 r c) = ((if P r c then Real.exp (s r c - e r) else 0 : ℝ) : EReal) := by
  have hs := hs r c
  unfold probs
  generalize against q k = x at hs
  pointwise
  rw [hm, hs, hl, choose_ite, named_mask]
  exact exp_masked _ _ _

theorem firstCol_apply (x : FVec Ideal S256x128 .f32) (r : Fin 256) : firstCol x (ix2 r 0) = x (ix2 r 0) := by
  pointwise [firstCol]

theorem secondCol_apply (x : FVec Ideal S256x128 .f32) (r : Fin 256) : secondCol x (ix2 r 0) = x (ix2 r 64) := by
  pointwise [secondCol]

theorem sums_apply {m : IVec S256x128 1} {h : Nat} (hh : h < 2) (hm : Keeps m h) (d o : FVec Ideal S256x128 .bf16) (f g : Nat → Nat → ℝ)
    (hd : ∀ (r : Fin 256) (l : Fin 128), d (ix2 r l) = (f r l : EReal)) (ho : ∀ (r : Fin 256) (l : Fin 128), o (ix2 r l) = (g r l : EReal))
    (r : Fin 256) :
    sums m (prods d o) (ix2 r 0) = ((∑ i ∈ Finset.range 64, f r (64 * h + i) * g r (64 * h + i) : ℝ) : EReal) := by
  pointwise [sums, prods]
  simp only [hm r, choose_ite, hd, ho, ← EReal.coe_mul]
  rw [sum_fin_coe _ (fun l => if l / 64 = h then f r l * g r l else 0)]
  · rw [half_sum (fun l => f r l * g r l) h hh]
  · intro l
    exact coe_ite (l.val / 64 = h) _ 0

theorem grads_apply (p : FVec Ideal S256x128 .f32) (d : FVec Ideal S256x128 .bf16) (v : FVec Ideal S128x128 .bf16) (s : FVec Ideal S256x1 .f32)
    (a b : Nat → Nat → ℝ) (e : Nat → ℝ) (hp : ∀ (r : Fin 256) (c : Fin 128), p (ix2 r c) = (a r c : EReal))
    (hd : ∀ (r : Fin 256) (c : Fin 128), against d v (ix2 r c) = (b r c : EReal)) (hs : ∀ r : Fin 256, s (ix2 r 0) = (e r : EReal))
    (r : Fin 256) (c : Fin 128) : grads p d v s (ix2 r c) = ((a r c * (b r c - e r) : ℝ) : EReal) := by
  have hd := hd r c
  unfold grads
  generalize against d v = x at hd
  pointwise
  rw [hp, hd, hs, ← EReal.coe_sub, ← EReal.coe_mul]

theorem accum_apply (a : FVec Ideal S128x128 .f32) (x : FVec Ideal S256x128 .f32) (y : FVec Ideal S256x128 .bf16) (f g h : Nat → Nat → ℝ)
    (ha : ∀ c l : Fin 128, a (ix2 c l) = (f c l : EReal)) (hx : ∀ (r : Fin 256) (c : Fin 128), x (ix2 r c) = (g r c : EReal))
    (hy : ∀ (r : Fin 256) (l : Fin 128), y (ix2 r l) = (h r l : EReal)) (c l : Fin 128) :
    accum a x y (ix2 c l) = ((f c l + ∑ r ∈ Finset.range 256, g r c * h r l : ℝ) : EReal) := by
  pointwise [accum]
  simp only [hx, hy, ← EReal.coe_mul, ha]
  rw [sum_fin_coe _ (fun r => g r c * h r l) (fun _ => rfl), EReal.coe_add]

/-! ### A tile's gradients, as real sums over the group's four heads -/

section
variable (QB DB OB LB KB VB : Nat → Nat → ℝ) (j w : Nat)

/-- The weight of key `c` for query row `r`, with the head's lanes from `b` and its keys' lanes from `kb`. -/
def weight (b kb r c : Nat) : ℝ :=
  if reach j w r c then
    Real.exp ((∑ d ∈ Finset.range 64, QB (128 * w + r) (b + d) * 0.125 * KB (128 * w + c) (kb + d)) - LB (128 * w + r) b)
  else 0

/-- The cotangent of the scaled score. -/
def cotan (b kb r c : Nat) : ℝ :=
  weight QB LB KB j w b kb r c *
    ((∑ d ∈ Finset.range 64, DB (128 * w + r) (b + d) * VB (128 * w + c) (kb + d))
      - ∑ d ∈ Finset.range 64, DB (128 * w + r) (b + d) * OB (128 * w + r) (b + d))

/-- One head's part of the keys' gradient at lane `l`, when its keys lie in half `h`. -/
def keyPart (b h c l : Nat) : ℝ :=
  ∑ r ∈ Finset.range 256, cotan QB DB OB LB KB VB j w b (64 * h) r c * (if l / 64 = h then QB (128 * w + r) (b + l % 64) * 0.125 else 0)

/-- One head's part of the values' gradient. -/
def valPart (b h c l : Nat) : ℝ :=
  ∑ r ∈ Finset.range 256, weight QB LB KB j w b (64 * h) r c * (if l / 64 = h then DB (128 * w + r) (b + l % 64) else 0)

end

/-- Lanes of half `h` of pair `p` hold `X` from lane `b` on. -/
def Lanes (x : FVec Ideal S640x512 .bf16) (X : Nat → Nat → ℝ) (p : Fin 4) (h b : Nat) : Prop :=
  ∀ (r : Fin 640) (l : Fin 128), l.val / 64 = h → x (ix2 r ⟨128 * p.val + l.val, by omega⟩) = (X r (b + l.val % 64) : EReal)

/-- Every element of `x` is that of `X`. -/
def Holds {a b : Nat} {t : FTy} (x : FVec Ideal ⟨2, ![a, b]⟩ t) (X : Nat → Nat → ℝ) : Prop := ∀ (r : Fin a) (l : Fin b), x (ix2 r l) = (X r l : EReal)

theorem Holds.lanes {x : FVec Ideal S640x512 .bf16} {X : Nat → Nat → ℝ} (hx : Holds x X) (p : Fin 4) (h : Nat) : Lanes x X p h (128 * p + 64 * h) := by
  intro r l hl
  have hx := hx r ⟨128 * p.val + l.val, by omega⟩
  rw [hx]
  refine congrArg (fun z => ((X r z : ℝ) : EReal)) ?_
  show 128 * p.val + l.val = _
  omega

theorem Holds.swapped {x : FVec Ideal S640x512 .bf16} {X : Nat → Nat → ℝ} (hx : Holds x X) (p : Fin 4) (h : Nat) (hh : h < 2) :
    Lanes (swap x) X p h (128 * p + 64 * (1 - h)) := by
  intro r l hl
  rw [swap_apply, hx]
  refine congrArg (fun z => ((X r z : ℝ) : EReal)) ?_
  show 128 * ((128 * p.val + l.val) / 128) + ((128 * p.val + l.val) % 128 + 64) % 128 = _
  omega

theorem Lanes.cut {x : FVec Ideal S640x512 .bf16} {X : Nat → Nat → ℝ} {p : Fin 4} {h b : Nat} (hx : Lanes x X p h b) (w : Fin 4) (r : Fin 256)
    (l : Fin 128) (hl : l.val / 64 = h) : cut w p x (ix2 r l) = (X (128 * w + r) (b + l.val % 64) : EReal) := by
  rw [cut_apply]
  exact hx ⟨128 * w.val + r.val, by omega⟩ l hl

theorem Holds.cut {t : FTy} {x : FVec Ideal S640x512 t} {X : Nat → Nat → ℝ} (hx : Holds x X) (w p : Fin 4) (r : Fin 256) (l : Fin 128) :
    cut w p x (ix2 r l) = (X (128 * w + r) (128 * p + l) : EReal) := by
  rw [cut_apply]
  exact hx _ _

section
variable {QB DB OB LB KB VB : Nat → Nat → ℝ} {j : Nat} {w p : Fin 4} {h : Nat} (hh : h < 2)
  {ok : IVec S256x128 1} (hok : ∀ (r : Fin 256) (c : Fin 128), ok (ix2 r c) = BitVec.ofBool (decide (reach j w r c)))
  {k v : FVec Ideal S128x128 .bf16} (hk : Holds k (fun c l => KB (128 * w + c) l)) (hv : Holds v (fun c l => VB (128 * w + c) l))
  {o : FVec Ideal S640x512 .bf16} (ho : Holds o OB) {l : FVec Ideal S640x512 .f32} (hl : Holds l LB)
  {q d q' d' D : FVec Ideal S640x512 .bf16} (hq : Lanes q QB p h (128 * p)) (hd : Lanes d DB p h (128 * p))
  (hq' : Lanes q' QB p h (128 * p + 64)) (hd' : Lanes d' DB p h (128 * p + 64)) (hD : Holds D DB)
  {tm : IVec S256x128 1} (hm : Keeps tm h)
include hh hok hk hl hm

theorem weight_apply {b : Nat} {x : FVec Ideal S640x512 .bf16} (hx : Lanes x QB p h b) {e : FVec Ideal S256x1 .f32}
    (he : ∀ r : Fin 256, e (ix2 r 0) = (LB (128 * w + r) b : EReal)) (r : Fin 256) (c : Fin 128) :
    probs ok (scaled tm (cut w p x)) k e (ix2 r c) = (weight QB LB KB j w b (64 * h) r c : EReal) :=
  probs_apply ok (fun r c => reach j w r c) _ k e
    (fun r c => ∑ d ∈ Finset.range 64, QB (128 * w + r) (b + d) * 0.125 * KB (128 * w + c) (64 * h + d)) (fun r => LB (128 * w + r) b) hok
    (against_apply _ k hh (fun r d => QB (128 * w + r) (b + d) * 0.125) (fun c l => KB (128 * w + c) l)
      (scaled_apply hm _ (fun r d => QB (128 * w + r) (b + d)) (hx.cut w)) hk) he r c

include hv in
theorem cotan_apply {b : Nat} {x y : FVec Ideal S640x512 .bf16} (hx : Lanes x QB p h b) (hy : Lanes y DB p h b) {e s : FVec Ideal S256x1 .f32}
    (he : ∀ r : Fin 256, e (ix2 r 0) = (LB (128 * w + r) b : EReal))
    (hs : ∀ r : Fin 256, s (ix2 r 0) = ((∑ d ∈ Finset.range 64, DB (128 * w + r) (b + d) * OB (128 * w + r) (b + d) : ℝ) : EReal))
    (r : Fin 256) (c : Fin 128) :
    grads (probs ok (scaled tm (cut w p x)) k e) (kept tm (cut w p y)) v s (ix2 r c) = (cotan QB DB OB LB KB VB j w b (64 * h) r c : EReal) :=
  grads_apply _ _ v s (fun r c => weight QB LB KB j w b (64 * h) r c)
    (fun r c => ∑ d ∈ Finset.range 64, DB (128 * w + r) (b + d) * VB (128 * w + c) (64 * h + d))
    (fun r => ∑ d ∈ Finset.range 64, DB (128 * w + r) (b + d) * OB (128 * w + r) (b + d))
    (weight_apply hh hok hk hl hm hx he)
    (against_apply _ v hh (fun r d => DB (128 * w + r) (b + d)) (fun c l => VB (128 * w + c) l)
      (kept_apply hm _ (fun r d => DB (128 * w + r) (b + d)) (hy.cut w)) hv) hs r c

include hl in
omit hh hok hk hm in
theorem firstLog (r : Fin 256) : firstCol (cut w p l) (ix2 r 0) = (LB (128 * w + r) (128 * p) : EReal) :=
  (firstCol_apply _ r).trans (hl.cut w p r 0)

include hl in
omit hh hok hk hm in
theorem secondLog (r : Fin 256) : secondCol (cut w p l) (ix2 r 0) = (LB (128 * w + r) (128 * p + 64) : EReal) :=
  (secondCol_apply _ r).trans (hl.cut w p r 64)

include ho hD in
omit hh hok hk hl hm in
theorem firstSum (r : Fin 256) : sums first (prods (cut w p D) (cut w p o)) (ix2 r 0)
    = ((∑ d ∈ Finset.range 64, DB (128 * w + r) (128 * p + d) * OB (128 * w + r) (128 * p + d) : ℝ) : EReal) := by
  rw [sums_apply (by omega : 0 < 2) first_apply _ _ (fun r l => DB (128 * w + r) (128 * p + l)) (fun r l => OB (128 * w + r) (128 * p + l))
    (hD.cut w p) (ho.cut w p)]
  refine congrArg Real.toEReal (Finset.sum_congr rfl fun d _ => ?_)
  simp only [Nat.mul_zero, Nat.zero_add]

include ho hD in
omit hh hok hk hl hm in
theorem secondSum (r : Fin 256) : sums second (prods (cut w p D) (cut w p o)) (ix2 r 0)
    = ((∑ d ∈ Finset.range 64, DB (128 * w + r) (128 * p + 64 + d) * OB (128 * w + r) (128 * p + 64 + d) : ℝ) : EReal) := by
  rw [sums_apply (by omega : 1 < 2) second_apply _ _ (fun r l => DB (128 * w + r) (128 * p + l)) (fun r l => OB (128 * w + r) (128 * p + l))
    (hD.cut w p) (ho.cut w p)]
  refine congrArg Real.toEReal (Finset.sum_congr rfl fun d _ => ?_)
  simp only [Nat.mul_one, Nat.add_assoc]

include hv ho hq hd hq' hd' hD in
theorem dkPair_apply (a : FVec Ideal S128x128 .f32) (A : Nat → Nat → ℝ) (ha : Holds a A) :
    Holds (dkPair ok k v o l w q d q' d' D tm p a)
      (fun c z => A c z + keyPart QB DB OB LB KB VB j w (128 * p) h c z + keyPart QB DB OB LB KB VB j w (128 * p + 64) h c z) :=
  fun c z => accum_apply _ _ _ (fun c z => A c z + keyPart QB DB OB LB KB VB j w (128 * p) h c z) (fun r c => cotan QB DB OB LB KB VB j w (128 * p + 64) (64 * h) r c)
    (fun r z => if z / 64 = h then QB (128 * w + r) (128 * p + 64 + z % 64) * 0.125 else 0)
    (accum_apply a _ _ A (fun r c => cotan QB DB OB LB KB VB j w (128 * p) (64 * h) r c)
      (fun r z => if z / 64 = h then QB (128 * w + r) (128 * p + z % 64) * 0.125 else 0) ha
      (cotan_apply hh hok hk hv hl hm hq hd (firstLog hl) (firstSum ho hD))
      (scaled_apply hm _ (fun r d => QB (128 * w + r) (128 * p + d)) (hq.cut w)))
    (cotan_apply hh hok hk hv hl hm hq' hd' (secondLog hl) (secondSum ho hD))
    (scaled_apply hm _ (fun r d => QB (128 * w + r) (128 * p + 64 + d)) (hq'.cut w)) c z

include hq hd hq' hd' in
theorem dvPair_apply (a : FVec Ideal S128x128 .f32) (A : Nat → Nat → ℝ) (ha : Holds a A) :
    Holds (dvPair ok k l w q d q' d' tm p a)
      (fun c z => A c z + valPart QB DB LB KB j w (128 * p) h c z + valPart QB DB LB KB j w (128 * p + 64) h c z) :=
  fun c z => accum_apply _ _ _ (fun c z => A c z + valPart QB DB LB KB j w (128 * p) h c z) (fun r c => weight QB LB KB j w (128 * p + 64) (64 * h) r c)
    (fun r z => if z / 64 = h then DB (128 * w + r) (128 * p + 64 + z % 64) else 0)
    (accum_apply a _ _ A (fun r c => weight QB LB KB j w (128 * p) (64 * h) r c)
      (fun r z => if z / 64 = h then DB (128 * w + r) (128 * p + z % 64) else 0) ha
      (weight_apply hh hok hk hl hm hq (firstLog hl))
      (kept_apply hm _ (fun r d => DB (128 * w + r) (128 * p + d)) (hd.cut w)))
    (weight_apply hh hok hk hl hm hq' (secondLog hl))
    (kept_apply hm _ (fun r d => DB (128 * w + r) (128 * p + 64 + d)) (hd'.cut w)) c z

end

/-- The eight parts, of which the four of the lane's own half count. -/
theorem parts_eq (F : Nat → Nat → ℝ) (l : Nat) (hl : l < 128) (h0 : ∀ b h, l / 64 ≠ h → F b h = 0) :
    (((0 + F 0 0 + F (0 + 64) 0) + F 128 0 + F (128 + 64) 0) + F 256 1 + F (256 + 64) 1) + F 384 1 + F (384 + 64) 1
      = ∑ g ∈ Finset.range 4, F (256 * (l / 64) + 64 * g) (l / 64) := by
  have e : l / 64 = 0 ∨ l / 64 = 1 := by omega
  simp only [Finset.sum_range_succ, Finset.sum_range_zero]
  rcases e with e | e
  · rw [e, h0 256 1 (by omega), h0 (256 + 64) 1 (by omega), h0 384 1 (by omega), h0 (384 + 64) 1 (by omega)]
    norm_num
  · rw [e, h0 0 0 (by omega), h0 (0 + 64) 0 (by omega), h0 128 0 (by omega), h0 (128 + 64) 0 (by omega)]
    norm_num

section
variable {QB DB OB LB KB VB : Nat → Nat → ℝ} {i : grid0.Coords}
  {x0 x1 : Vec Ideal S512x128 .bf16} {x2 : Vec Ideal S512x512 .bf16} {x3 : Vec Ideal S128x512 .bf16} {x4 : Vec Ideal S512x512 .bf16}
  {x5 : Vec Ideal S128x512 .bf16} {x6 : Vec Ideal S512x512 .bf16} {x7 : Vec Ideal S128x512 .bf16} {x8 : Vec Ideal S512x512 .f32}
  {x9 : Vec Ideal S128x512 .f32}
  (hk : Holds (t := .bf16) x0 KB) (hv : Holds (t := .bf16) x1 VB) (hq : Holds (cat (t := .bf16) x2 x3) QB) (hd : Holds (cat (t := .bf16) x4 x5) DB)
  (ho : Holds (cat (t := .bf16) x6 x7) OB) (hl : Holds (cat (t := .f32) x8 x9) LB)

theorem zeros_holds : Holds zeros (fun _ _ => 0) := fun _ _ => Ideal.ofBits_zero_f32

theorem Holds.keys {x : Vec Ideal S512x128 .bf16} {X : Nat → Nat → ℝ} (hx : Holds (t := .bf16) x X) (w : Fin 4) :
    Holds (keys w x) (fun c l => X (128 * w + c) l) := fun c l => by
  rw [keys_apply]
  exact hx _ _

include hk hv hq hd ho hl in
theorem dkOf_apply (w : Fin 4) (c l : Fin 128) :
    dkOf i x0 x1 x2 x3 x4 x5 x6 x7 x8 x9 w (ix2 c l) = ((∑ g ∈ Finset.range 4, ∑ r ∈ Finset.range 256,
      cotan QB DB OB LB KB VB (i 1).val w (256 * (l.val / 64) + 64 * g) (64 * (l.val / 64)) r c
        * (QB (128 * w + r) (256 * (l.val / 64) + 64 * g + l.val % 64) * 0.125) : ℝ) : EReal) := by
  have s0 := dkPair_apply (p := 0) (h := 0) (by omega) (ok_apply i w) (hk.keys w) (hv.keys w) ho hl (hq.lanes 0 0) (hd.lanes 0 0)
    (hq.swapped 0 0 (by omega)) (hd.swapped 0 0 (by omega)) hd first_apply _ _ zeros_holds
  have s1 := dkPair_apply (p := 1) (h := 0) (by omega) (ok_apply i w) (hk.keys w) (hv.keys w) ho hl (hq.lanes 1 0) (hd.lanes 1 0)
    (hq.swapped 1 0 (by omega)) (hd.swapped 1 0 (by omega)) hd first_apply _ _ s0
  have s2 := dkPair_apply (p := 2) (h := 1) (by omega) (ok_apply i w) (hk.keys w) (hv.keys w) ho hl (hq.swapped 2 1 (by omega))
    (hd.swapped 2 1 (by omega)) (hq.lanes 2 1) (hd.lanes 2 1) hd second_apply _ _ s1
  have s3 := dkPair_apply (p := 3) (h := 1) (by omega) (ok_apply i w) (hk.keys w) (hv.keys w) ho hl (hq.swapped 3 1 (by omega))
    (hd.swapped 3 1 (by omega)) (hq.lanes 3 1) (hd.lanes 3 1) hd second_apply _ _ s2
  refine (s3 c l).trans (congrArg Real.toEReal ?_)
  refine (parts_eq (fun b h => keyPart QB DB OB LB KB VB (i 1).val w b h c l) l l.isLt fun b h hb => ?_).trans ?_
  · exact Finset.sum_eq_zero fun r _ => by rw [if_neg hb, mul_zero]
  · refine Finset.sum_congr rfl fun g _ => Finset.sum_congr rfl fun r _ => ?_
    rw [if_pos rfl]

include hk hq hd hl in
theorem dvOf_apply (w : Fin 4) (c l : Fin 128) :
    dvOf i x0 x2 x3 x4 x5 x8 x9 w (ix2 c l) = ((∑ g ∈ Finset.range 4, ∑ r ∈ Finset.range 256,
      weight QB LB KB (i 1).val w (256 * (l.val / 64) + 64 * g) (64 * (l.val / 64)) r c
        * DB (128 * w + r) (256 * (l.val / 64) + 64 * g + l.val % 64) : ℝ) : EReal) := by
  have s0 := dvPair_apply (p := 0) (h := 0) (by omega) (ok_apply i w) (hk.keys w) hl (hq.lanes 0 0) (hd.lanes 0 0)
    (hq.swapped 0 0 (by omega)) (hd.swapped 0 0 (by omega)) first_apply _ _ zeros_holds
  have s1 := dvPair_apply (p := 1) (h := 0) (by omega) (ok_apply i w) (hk.keys w) hl (hq.lanes 1 0) (hd.lanes 1 0)
    (hq.swapped 1 0 (by omega)) (hd.swapped 1 0 (by omega)) first_apply _ _ s0
  have s2 := dvPair_apply (p := 2) (h := 1) (by omega) (ok_apply i w) (hk.keys w) hl (hq.swapped 2 1 (by omega))
    (hd.swapped 2 1 (by omega)) (hq.lanes 2 1) (hd.lanes 2 1) second_apply _ _ s1
  have s3 := dvPair_apply (p := 3) (h := 1) (by omega) (ok_apply i w) (hk.keys w) hl (hq.swapped 3 1 (by omega))
    (hd.swapped 3 1 (by omega)) (hq.lanes 3 1) (hd.lanes 3 1) second_apply _ _ s2
  refine (s3 c l).trans (congrArg Real.toEReal ?_)
  refine (parts_eq (fun b h => valPart QB DB LB KB (i 1).val w b h c l) l l.isLt fun b h hb => ?_).trans ?_
  · exact Finset.sum_eq_zero fun r _ => by rw [if_neg hb, mul_zero]
  · refine Finset.sum_congr rfl fun g _ => Finset.sum_congr rfl fun r _ => ?_
    rw [if_pos rfl]

end

end Cert.Tile
-- ==== Proof.Stages.lean ====
/- Hand-written. The reference's arrays, operation by operation, grouped in stages: each stage as a function of the arrays it
   reads, over extended reals. `Gen/ReferenceIdeal/Run.lean`'s two result terms are the last stages of these (`dk_term`, `dv_term`). -/
module

public import proofs.«01_k».proof.Proof.Gen.ReferenceIdeal.Run
public import proofs.«01_k».proof.Proof.Spec

@[expose] public section

noncomputable section

namespace Cert.Stages

open Cert.ReferenceIdeal Cert.ReferenceIdeal.Gen Idealize.ShloMosaic Idealize.ShloMosaic.TcCoe

/-- An f32 array of extended reals. -/
abbrev Arr (s : Shape) := FVec Ideal s .f32

def zero_ : Arr S_ := constant S_ .f32 0x00000000#32

/-- The queries, or the cotangents of the results, by window. -/
def byWindow (x : Arr S1x8192x16x64) : Arr S1x64x128x4x4x64 := shapeCast _ x shapeCasts_S1x8192x16x64_S1x64x128x4x4x64

def rows4 (x : Arr S1x8192x4x64) : Arr S1x64x128x4x64 := shapeCast _ x shapeCasts_S1x8192x4x64_S1x64x128x4x64

/-- Each window's band: the rows of the window before it (zero before the first), then its own. -/
def bands (x : Arr S1x8192x4x64) : Arr S1x64x256x4x64 :=
  concatenate S1x64x256x4x64 2
    [⟨S1x64x128x4x64, concatenate S1x64x128x4x64 1
        [⟨S1x1x128x4x64, broadcastInDim S1x1x128x4x64 ![] bcast_S_S1x1x128x4x64 zero_⟩,
         ⟨S1x63x128x4x64, extractStridedSlice S1x63x128x4x64 ![0, 0, 0, 0, 0] (rows4 x) slices_S1x64x128x4x64_S1x63x128x4x64_0_0_0_0_0⟩]
        concatenates_S1x1x128x4x64_S1x63x128x4x64_S1x64x128x4x64_d1⟩,
     ⟨S1x64x128x4x64, rows4 x⟩] concatenates_S1x64x128x4x64_S1x64x128x4x64_S1x64x256x4x64_d2

/-- The scaled scores. -/
def scores (kb : Arr S1x64x256x4x64) (qb : Arr S1x64x128x4x4x64) : Arr S1x64x4x4x128x256 :=
  mulf (transpose S1x64x4x4x128x256 [0, 1, 2, 5, 4, 3]
      (Host.dotGeneral dot_S1x64x256x4x64_S1x64x128x4x4x64_S1x64x4x256x128x4_4_5_2_24_013_013 none kb qb)
      transposes_S1x64x4x256x128x4_S1x64x4x4x128x256_0_1_2_5_4_3)
    (broadcastInDim S1x64x4x4x128x256 ![] bcast_S_S1x64x4x4x128x256 (constant S_ .f32 0x3E000000#32))

/-- How far row `i` of a window lies after position `κ` of its band, as a word. -/
def ahead : IVec S128x256 32 :=
  subi (broadcastInDim S128x256 ![0, 1] bcast_S128x1_S128x256_0_1
      (addi (broadcastInDim S128x1 ![0] bcast_S128_S128x1_0 (iotaInDim S128 32 0)) (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- Within the window of 128 rows. -/
def near : IVec S128x256 1 :=
  andi (cmpi .sge ahead (broadcastInDim S128x256 ![] bcast_S_S128x256 (constantI S_ 32 0#32)))
    (cmpi .slt ahead (broadcastInDim S128x256 ![] bcast_S_S128x256 (constantI S_ 32 128#32)))

/-- The band positions before the first row. -/
def before : IVec S64x1x256 1 :=
  andi (broadcastInDim S64x1x256 ![0, 1, 2] bcast_S64x1x1_S64x1x256_0_1_2
      (cmpi .eq (broadcastInDim S64x1x1 ![0] bcast_S64_S64x1x1_0 (iotaInDim S64 32 0)) (broadcastInDim S64x1x1 ![] bcast_S_S64x1x1 (constantI S_ 32 0#32))))
    (broadcastInDim S64x1x256 ![0, 1, 2] bcast_S1x1x256_S64x1x256_0_1_2
      (cmpi .slt (broadcastInDim S1x1x256 ![1, 2] bcast_S1x256_S1x1x256_1_2 (broadcastInDim S1x256 ![1] bcast_S256_S1x256_1 (iotaInDim S256 32 0)))
        (broadcastInDim S1x1x256 ![] bcast_S_S1x1x256 (constantI S_ 32 128#32))))

/-- The mask: which positions a row sees. -/
def seen : IVec S1x64x4x4x128x256 1 :=
  broadcastInDim S1x64x4x4x128x256 ![0, 1, 2, 3, 4, 5] bcast_S1x64x1x1x128x256_S1x64x4x4x128x256_0_1_2_3_4_5
    (broadcastInDim S1x64x1x1x128x256 ![1, 4, 5] bcast_S64x128x256_S1x64x1x1x128x256_1_4_5
      (andi (broadcastInDim S64x128x256 ![0, 1, 2] bcast_S1x128x256_S64x128x256_0_1_2
          (broadcastInDim S1x128x256 ![1, 2] bcast_S128x256_S1x128x256_1_2 near))
        (broadcastInDim S64x128x256 ![0, 1, 2] bcast_S64x1x256_S64x128x256_0_1_2 (noti before))))

def masked (s : Arr S1x64x4x4x128x256) : Arr S1x64x4x4x128x256 :=
  select seen s (broadcastInDim S1x64x4x4x128x256 ![] bcast_S_S1x64x4x4x128x256 (id (constant S_ .f32 0xFF800000#32)))

def sinkCol (x : Arr S16) : Arr S1x64x4x4x128x1 :=
  broadcastInDim S1x64x4x4x128x1 ![0, 1, 2, 3, 4, 5] bcast_S1x1x4x4x1x1_S1x64x4x4x128x1_0_1_2_3_4_5
    (broadcastInDim S1x1x4x4x1x1 ![2, 3] bcast_S4x4_S1x1x4x4x1x1_2_3 (shapeCast _ x shapeCasts_S16_S4x4))

/-- A row's masked scores, then its sink. -/
def logits (s : Arr S1x64x4x4x128x256) (k : Arr S1x64x4x4x128x1) : Arr S1x64x4x4x128x257 :=
  concatenate S1x64x4x4x128x257 5 [⟨S1x64x4x4x128x256, s⟩, ⟨S1x64x4x4x128x1, k⟩]
    concatenates_S1x64x4x4x128x256_S1x64x4x4x128x1_S1x64x4x4x128x257_d5

def rowMax (l : Arr S1x64x4x4x128x257) : Arr S1x64x4x4x128 :=
  Host.reduce FloatOps.maximumf l (constant S_ .f32 0xFF800000#32) reducesTo_S1x64x4x4x128x257_S1x64x4x4x128_d5 h_S_

def shift (l : Arr S1x64x4x4x128x257) : Arr S1x64x4x4x128 :=
  maximumf (broadcastInDim S1x64x4x4x128 ![] bcast_S_S1x64x4x4x128 (constant S_ .f32 0xFF800000#32)) (rowMax l)

def col (x : Arr S1x64x4x4x128) : Arr S1x64x4x4x128x1 :=
  broadcastInDim S1x64x4x4x128x1 ![0, 1, 2, 3, 4] bcast_S1x64x4x4x128_S1x64x4x4x128x1_0_1_2_3_4 x

def wide (x : Arr S1x64x4x4x128x1) : Arr S1x64x4x4x128x257 :=
  broadcastInDim S1x64x4x4x128x257 ![0, 1, 2, 3, 4, 5] bcast_S1x64x4x4x128x1_S1x64x4x4x128x257_0_1_2_3_4_5 x

/-- The exponentials relative to the row's shift. -/
def exps (l : Arr S1x64x4x4x128x257) (M : Arr S1x64x4x4x128) : Arr S1x64x4x4x128x257 := Host.exp (subf l (wide (col M)))

def rowSum (x : Arr S1x64x4x4x128x257) : Arr S1x64x4x4x128 := Host.reduceAdd x zero_ reducesTo_S1x64x4x4x128x257_S1x64x4x4x128_d5 h_S_

def weights (e : Arr S1x64x4x4x128x257) (L : Arr S1x64x4x4x128) : Arr S1x64x4x4x128x256 :=
  extractStridedSlice S1x64x4x4x128x256 ![0, 0, 0, 0, 0, 0] (Host.divf e (wide (col L))) slices_S1x64x4x4x128x257_S1x64x4x4x128x256_0_0_0_0_0_0

/-- The cotangents by window, lanes before groups before rows. -/
def cots (x : Arr S1x8192x16x64) : Arr S1x64x4x64x4x128 :=
  transpose S1x64x4x64x4x128 [0, 1, 3, 5, 4, 2] (byWindow x) transposes_S1x64x128x4x4x64_S1x64x4x64x4x128_0_1_3_5_4_2

/-- The cotangents of the weights. -/
def dweights (ct : Arr S1x64x4x64x4x128) (vb : Arr S1x64x256x4x64) : Arr S1x64x4x4x128x256 :=
  Host.dotGeneral dot_S1x64x4x64x4x128_S1x64x256x4x64_S1x64x4x4x128x256_3_4_45_2_012_013 none ct vb

/-- The cotangents of the values' bands. -/
def dvBands (ct : Arr S1x64x4x64x4x128) (w : Arr S1x64x4x4x128x256) : Arr S1x64x256x4x64 :=
  transpose S1x64x256x4x64 [0, 1, 4, 2, 3]
    (Host.dotGeneral dot_S1x64x4x64x4x128_S1x64x4x4x128x256_S1x64x4x64x256_45_34_3_5_012_012 none ct w)
    transposes_S1x64x4x64x256_S1x64x256x4x64_0_1_4_2_3

/-- A zero for the sink after each row of the weights' cotangents. -/
def padded (dw : Arr S1x64x4x4x128x256) : Arr S1x64x4x4x128x257 :=
  pad S1x64x4x4x128x257 ![0, 0, 0, 0, 0, 0] ![0, 0, 0, 0, 0, 1] ![0, 0, 0, 0, 0, 0] dw zero_
    pads_S1x64x4x4x128x256_S1x64x4x4x128x257_000_000_000_000_000_010 h_S_

def recip (L : Arr S1x64x4x4x128) : Arr S1x64x4x4x128x1 :=
  Host.divf (broadcastInDim S1x64x4x4x128x1 ![] bcast_S_S1x64x4x4x128x1 (constant S_ .f32 0x3F800000#32)) (mulf (col L) (col L))

/-- The denominator's cotangent. -/
def dsum (dw e : Arr S1x64x4x4x128x257) (L : Arr S1x64x4x4x128) : Arr S64x4x4x128 :=
  Host.reduceAdd (Host.negf (shapeCast S1x64x4x4x128x1 (rowSum (mulf (mulf dw (wide (recip L))) e)) shapeCasts_S1x64x4x4x128_S1x64x4x4x128x1))
    zero_ reducesTo_S1x64x4x4x128x1_S64x4x4x128_d0_5 h_S_

def dexps (dw e : Arr S1x64x4x4x128x257) (L : Arr S1x64x4x4x128) : Arr S1x64x4x4x128x257 :=
  addf (Host.divf dw (wide (col L)))
    (broadcastInDim S1x64x4x4x128x257 ![0, 1, 2, 3, 4] bcast_S1x64x4x4x128_S1x64x4x4x128x257_0_1_2_3_4
      (broadcastInDim S1x64x4x4x128 ![1, 2, 3, 4] bcast_S64x4x4x128_S1x64x4x4x128_1_2_3_4 (dsum dw e L)))

/-- The cotangents of the scores before the scale. -/
def dscores (dw e : Arr S1x64x4x4x128x257) (L : Arr S1x64x4x4x128) : Arr S1x64x4x4x128x256 :=
  mulf (select seen
      (extractStridedSlice S1x64x4x4x128x256 ![0, 0, 0, 0, 0, 0] (mulf (dexps dw e L) e) slices_S1x64x4x4x128x257_S1x64x4x4x128x256_0_0_0_0_0_0)
      (broadcastInDim S1x64x4x4x128x256 ![] bcast_S_S1x64x4x4x128x256 zero_))
    (broadcastInDim S1x64x4x4x128x256 ![] bcast_S_S1x64x4x4x128x256 (constant S_ .f32 0x3E000000#32))

/-- The cotangents of the keys' bands. -/
def dkBands (ds : Arr S1x64x4x4x128x256) (qb : Arr S1x64x128x4x4x64) : Arr S1x64x256x4x64 :=
  transpose S1x64x256x4x64 [0, 1, 3, 2, 4]
    (Host.dotGeneral dot_S1x64x4x256x128x4_S1x64x128x4x4x64_S1x64x4x256x64_45_24_3_5_012_013 none
      (transpose S1x64x4x256x128x4 [0, 1, 2, 5, 4, 3] ds transposes_S1x64x4x4x128x256_S1x64x4x256x128x4_0_1_2_5_4_3) qb)
    transposes_S1x64x4x256x64_S1x64x256x4x64_0_1_3_2_4

/-- The rows' gradient from the bands': a row lies in its own window's band and in the next one's. -/
def folded (b : Arr S1x64x256x4x64) : FVec Ideal S8192x256 .bf16 :=
  truncf .bf16 (shapeCast _ (shapeCast _
    (addf (extractStridedSlice S1x64x128x4x64 ![0, 0, 128, 0, 0] b slices_S1x64x256x4x64_S1x64x128x4x64_0_0_128_0_0)
      (pad S1x64x128x4x64 ![0, 0, 0, 0, 0] ![0, 1, 0, 0, 0] ![0, 0, 0, 0, 0]
        (extractStridedSlice S1x63x128x4x64 ![0, 1, 0, 0, 0]
          (extractStridedSlice S1x64x128x4x64 ![0, 0, 0, 0, 0] b slices_S1x64x256x4x64_S1x64x128x4x64_0_0_0_0_0)
          slices_S1x64x128x4x64_S1x63x128x4x64_0_1_0_0_0)
        zero_ pads_S1x63x128x4x64_S1x64x128x4x64_000_010_000_000_000 h_S_))
    shapeCasts_S1x64x128x4x64_S1x8192x4x64) shapeCasts_S1x8192x4x64_S8192x256) bitsLt_bf16_f32

section
variable (q : Arr S1x8192x16x64) (k v : Arr S1x8192x4x64) (s : Arr S16) (ct : Arr S1x8192x16x64)

def lg : Arr S1x64x4x4x128x257 := logits (masked (scores (bands k) (byWindow q))) (sinkCol s)
def ex : Arr S1x64x4x4x128x257 := exps (lg q k s) (shift (lg q k s))
def total : Arr S1x64x4x4x128 := rowSum (ex q k s)
def wts : Arr S1x64x4x4x128x256 := weights (ex q k s) (total q k s)
def dvArr : FVec Ideal S8192x256 .bf16 := folded (dvBands (cots ct) (wts q k s))
def dkArr : FVec Ideal S8192x256 .bf16 :=
  folded (dkBands (dscores (padded (dweights (cots ct) (bands v))) (ex q k s) (total q k s)) (byWindow q))

end

open Cert.ReferenceIdeal.Value in
theorem dv_term (m : (ℓ : Loc nD τ sig) → Buf (Elt Ideal) ℓ) (c : Dev nD) :
    res_main_v137 (F := Ideal) m c = dvArr (m (c, main_arg0)) (m (c, main_arg1)) (m (c, main_arg3)) (m (c, main_arg4)) := rfl

open Cert.ReferenceIdeal.Value in
theorem dk_term (m : (ℓ : Loc nD τ sig) → Buf (Elt Ideal) ℓ) (c : Dev nD) :
    res_main_v135 (F := Ideal) m c
      = dkArr (m (c, main_arg0)) (m (c, main_arg1)) (m (c, main_arg2)) (m (c, main_arg3)) (m (c, main_arg4)) := rfl

end Cert.Stages
-- ==== Proof.Reading.lean ====
/- Hand-written. The stages of Stages.lean read at an index, down to the real sums of Spec.lean, for arguments that are all real. -/
module

public import proofs.«01_k».proof.Proof.Stages

@[expose] public section

noncomputable section

namespace Cert.Stages

open Cert.ReferenceIdeal Cert.ReferenceIdeal.Gen Idealize.ShloMosaic Cert.Spec
open scoped BigOperators

/-! ### Constants, sums and maxima along a row -/

theorem word_eighth : Ideal.ofBits .f32 0x3E000000#32 = ((0.125 : ℝ) : EReal) := by
  simp [Ideal.ofBits, Ideal.ieee]
  rw [← EReal.coe_mul]; norm_num

theorem word_bot : Ideal.ofBits .f32 0xFF800000#32 = ⊥ := by simp [Ideal.ofBits, Ideal.ieee]

/-- The logits that drop to a row are those of the row. -/
theorem row_fiber (n : Fin 64) (h g : Fin 4) (i : Fin 128) (x : S1x64x4x4x128x257.Idx) :
    reducesTo_S1x64x4x4x128x257_S1x64x4x4x128_d5.drop x = ix5 0 n h g i ↔ ∃ κ : Fin 257, ix6 0 n h g i κ = x := by
  constructor
  · intro e
    refine ⟨x 5, ?_⟩
    rw [eq_ix6 x]
    have e0 := congrFun e 0; have e1 := congrFun e 1; have e2 := congrFun e 2; have e3 := congrFun e 3; have e4 := congrFun e 4
    exact (ix6_inj ..).mpr ⟨e0.symm, e1.symm, e2.symm, e3.symm, e4.symm, rfl⟩
  · rintro ⟨κ, rfl⟩
    funext b
    match b with
    | ⟨0, _⟩ => rfl
    | ⟨1, _⟩ => rfl
    | ⟨2, _⟩ => rfl
    | ⟨3, _⟩ => rfl
    | ⟨4, _⟩ => rfl

theorem row_inj (n : Fin 64) (h g : Fin 4) (i : Fin 128) :
    Function.Injective fun κ : Fin 257 => (ix6 0 n h g i κ : S1x64x4x4x128x257.Idx) := fun _ _ e => congrFun e 5

theorem rowSum_apply (l : Arr S1x64x4x4x128x257) (n : Fin 64) (i : Fin 128) (h g : Fin 4) :
    rowSum l (ix5 0 n h g i) = ∑ κ : Fin 257, l (ix6 0 n h g i κ) := by
  pointwise [rowSum, zero_]
  unfold Ideal.hostReduceAdd
  rw [zero_add]
  exact Finset.sum_filter_eq_sum_of_fiber _ (fun κ : Fin 257 => ix6 0 n h g i κ) (row_inj n h g i) (row_fiber n h g i) l

theorem rowMax_apply (l : Arr S1x64x4x4x128x257) (n : Fin 64) (i : Fin 128) (h g : Fin 4) :
    rowMax l (ix5 0 n h g i) = Finset.univ.fold max ⊥ fun κ : Fin 257 => l (ix6 0 n h g i κ) := by
  pointwise [rowMax]
  rw [word_bot]
  exact Finset.fold_filter_eq_fold_of_fiber max _ (fun κ : Fin 257 => ix6 0 n h g i κ) (row_inj n h g i) (row_fiber n h g i) ⊥ l

theorem shift_apply (l : Arr S1x64x4x4x128x257) (n : Fin 64) (i : Fin 128) (h g : Fin 4) :
    shift l (ix5 0 n h g i) = rowMax l (ix5 0 n h g i) := by
  unfold shift
  rw [maximumf_apply]
  show max (Ideal.ofBits .f32 0xFF800000#32) _ = _
  rw [word_bot]; exact max_eq_right bot_le

/-- The one index of the column of row sums that drops to a row. -/
theorem col_fiber (n : Fin 64) (h g : Fin 4) (i : Fin 128) (x : S1x64x4x4x128x1.Idx) :
    reducesTo_S1x64x4x4x128x1_S64x4x4x128_d0_5.drop x = ix4 n h g i ↔ ∃ κ : Fin 1, ix6 0 n h g i κ = x := by
  constructor
  · intro e
    refine ⟨x 5, ?_⟩
    rw [eq_ix6 x]
    have e0 := congrFun e 0; have e1 := congrFun e 1; have e2 := congrFun e 2; have e3 := congrFun e 3
    exact (ix6_inj ..).mpr ⟨Subsingleton.elim (α := Fin 1) _ _, e0.symm, e1.symm, e2.symm, e3.symm, rfl⟩
  · rintro ⟨κ, rfl⟩
    funext b
    match b with
    | ⟨0, _⟩ => rfl
    | ⟨1, _⟩ => rfl
    | ⟨2, _⟩ => rfl
    | ⟨3, _⟩ => rfl

theorem flat_col (x : Arr S1x64x4x4x128) (n : Fin 64) (i : Fin 128) (h g : Fin 4) :
    shapeCast S1x64x4x4x128x1 x shapeCasts_S1x64x4x4x128_S1x64x4x4x128x1 (ix6 0 n h g i 0) = x (ix5 0 n h g i) := by
  pointwise

theorem dsum_apply (dw e : Arr S1x64x4x4x128x257) (L : Arr S1x64x4x4x128) (n : Fin 64) (i : Fin 128) (h g : Fin 4) :
    dsum dw e L (ix4 n h g i) = -∑ κ : Fin 257, dw (ix6 0 n h g i κ) * Ideal.div 1 (L (ix5 0 n h g i) * L (ix5 0 n h g i)) * e (ix6 0 n h g i κ) := by
  unfold dsum
  generalize hr : rowSum (mulf (mulf dw (wide (recip L))) e) = r
  have hr' : r (ix5 0 n h g i) = ∑ κ : Fin 257, dw (ix6 0 n h g i κ) * Ideal.div 1 (L (ix5 0 n h g i) * L (ix5 0 n h g i)) * e (ix6 0 n h g i κ) := by
    rw [← hr, rowSum_apply]
    refine Finset.sum_congr rfl fun κ _ => ?_
    pointwise [wide, recip, col]
  rw [Host.reduceAdd_apply, Ideal.hostReduceAdd_def]
  unfold Ideal.hostReduceAdd
  rw [Finset.sum_filter_eq_sum_of_fiber _ (fun κ : Fin 1 => (ix6 0 n h g i κ : S1x64x4x4x128x1.Idx)) (fun _ _ e => congrFun e 5) (col_fiber n h g i)]
  rw [Fin.sum_univ_one, ← hr']
  have hz : zero_ (Shape.Idx.first h_S_) = 0 := Ideal.ofBits_zero_f32
  rw [hz, zero_add, ← flat_col r n i h g]
  rfl

/-! ### The layout stages -/

theorem bands_apply (x : Arr S1x8192x4x64) (hx : Fine x) (n : Fin 64) (κ : Fin 256) (h : Fin 4) (d : Fin 64) :
    bands x (ix5 0 n κ h d) = (band (rd x) n κ h d : EReal) := by
  pointwise [bands, rows4, zero_]
  simp only [hx.rd_eq]
  unfold band
  by_cases hκ : κ.val < 128
  · by_cases hn : n.val = 0
    · rw [dif_pos hκ, dif_pos (by omega), if_pos ⟨hn, hκ⟩]; rfl
    · rw [dif_pos hκ, dif_neg (by omega), if_neg (by omega)]
      congr 2; show (n.val - 1) * 128 + κ.val = _; omega
  · rw [dif_neg hκ, if_neg (by omega)]
    congr 2; show n.val * 128 + (κ.val - 128) = _; omega

theorem byWindow_apply (x : Arr S1x8192x16x64) (hx : Fine x) (n : Fin 64) (i : Fin 128) (h g : Fin 4) (d : Fin 64) :
    byWindow x (ix6 0 n i h g d) = (rd x (128 * n + i) (4 * h + g) d : EReal) := by
  pointwise [byWindow]
  rw [hx.rd_eq]
  simp only [Nat.mul_comm]

theorem cots_apply (x : Arr S1x8192x16x64) (hx : Fine x) (n : Fin 64) (i : Fin 128) (h g : Fin 4) (d : Fin 64) :
    cots x (ix6 0 n h d g i) = (rd x (128 * n + i) (4 * h + g) d : EReal) := by
  rw [← byWindow_apply x hx]
  pointwise [cots]

theorem near_word : ∀ (i : Fin 128) (κ : Fin 256),
    IntOp.andi (IntOp.cmpi CmpIPredicate.sge (IntOp.subi (IntOp.addi (BitVec.ofNat 32 i) 128#32) (BitVec.ofNat 32 κ)) 0#32)
        (IntOp.cmpi CmpIPredicate.slt (IntOp.subi (IntOp.addi (BitVec.ofNat 32 i) 128#32) (BitVec.ofNat 32 κ)) 128#32)
      = BitVec.ofBool (decide (κ.val ≤ i.val + 128 ∧ i.val < κ.val)) := by decide +kernel

theorem before_word : ∀ (n : Fin 64) (κ : Fin 256),
    (~~~IntOp.andi (IntOp.cmpi CmpIPredicate.eq (BitVec.ofNat 32 n) 0#32) (IntOp.cmpi CmpIPredicate.slt (BitVec.ofNat 32 κ) 128#32))
      = BitVec.ofBool (decide (¬ (n.val = 0 ∧ κ.val < 128))) := by decide +kernel

theorem seen_apply (n : Fin 64) (i : Fin 128) (h g : Fin 4) (κ : Fin 256) :
    seen (ix6 0 n h g i κ) = BitVec.ofBool (decide (sees n i κ)) := by
  pointwise [seen, near, before, ahead]
  rw [near_word, before_word]
  have hb : ∀ a b : Bool, IntOp.andi (BitVec.ofBool a) (BitVec.ofBool b) = BitVec.ofBool (a && b) := by decide
  rw [hb, ← Bool.decide_and]
  simp only [sees, and_assoc]

theorem sinkCol_apply (s : Arr S16) (hs : Fine s) (n : Fin 64) (i : Fin 128) (h g : Fin 4) (κ : Fin 1) :
    sinkCol s (ix6 0 n h g i κ) = (rd1 s (4 * h + g) : EReal) := by
  pointwise [sinkCol]
  rw [hs.rd1_eq]
  simp only [Nat.mul_comm]

end Cert.Stages
-- ==== Proof.Ref.lean ====
/- Hand-written. The reference's two results at an index, as the real sums of Spec.lean, for arguments that are all real. -/
module

public import proofs.«01_k».proof.Proof.Reading

@[expose] public section

noncomputable section

namespace Cert.Stages

open Cert.ReferenceIdeal Cert.ReferenceIdeal.Gen Idealize.ShloMosaic Cert.Spec
open scoped BigOperators

/-- Reciprocals and quotients of reals, where the divisor is not zero. -/
theorem div_one_real {x : ℝ} (hx : x ≠ 0) : Ideal.div 1 (x * x : EReal) = ((1 / (x * x) : ℝ) : EReal) := by
  rw [← EReal.coe_mul, ← EReal.coe_one]
  exact div_real (mul_ne_zero hx hx) 1

/-- A choice by a truth value is a choice by the proposition it decides. -/
theorem select_ite {α : Type} (p : Prop) [Decidable p] (a b : α) : Scalar.select (BitVec.ofBool (decide p)) a b = if p then a else b := by
  by_cases h : p <;> simp [h, Scalar.select]

variable {q : Arr S1x8192x16x64} {k v : Arr S1x8192x4x64} {s : Arr S16} {ct : Arr S1x8192x16x64}

theorem scores_apply (hq : Fine q) (hk : Fine k) (n : Fin 64) (i : Fin 128) (h g : Fin 4) (κ : Fin 256) :
    scores (bands k) (byWindow q) (ix6 0 n h g i κ) = (score (rd q) (rd k) n i h g κ : EReal) := by
  pointwise [scores]
  simp only [bands_apply k hk, byWindow_apply q hq, word_eighth, ← EReal.coe_mul]
  rw [sum_fin_coe _ (fun d => band (rd k) n κ h d * rd q (128 * n + i) (4 * h + g) d) (fun _ => rfl), ← EReal.coe_mul]
  rfl

theorem masked_apply (hq : Fine q) (hk : Fine k) (n : Fin 64) (i : Fin 128) (h g : Fin 4) (κ : Fin 256) :
    masked (scores (bands k) (byWindow q)) (ix6 0 n h g i κ)
      = if sees n i κ then (score (rd q) (rd k) n i h g κ : EReal) else ⊥ := by
  show Scalar.select (seen (ix6 0 n h g i κ)) (scores (bands k) (byWindow q) (ix6 0 n h g i κ)) (Ideal.ofBits .f32 0xFF800000#32) = _
  rw [seen_apply, scores_apply hq hk, word_bot, select_ite]

theorem lg_apply (hq : Fine q) (hk : Fine k) (hs : Fine s) (n : Fin 64) (i : Fin 128) (h g : Fin 4) (κ : Fin 257) :
    lg q k s (ix6 0 n h g i κ)
      = if κ.val < 256 then if sees n i κ then (score (rd q) (rd k) n i h g κ : EReal) else ⊥ else (rd1 s (4 * h + g) : EReal) := by
  unfold lg
  generalize hm : masked (scores (bands k) (byWindow q)) = M
  pointwise [logits]
  by_cases hκ : κ.val < 256
  · rw [dif_pos hκ, if_pos hκ, ← hm]
    exact masked_apply hq hk n i h g ⟨κ, hκ⟩
  · rw [dif_neg hκ, if_neg hκ]
    exact sinkCol_apply s hs n i h g _

/-- A row's shift is real: its logits are reals or `⊥`, and the sink's is real. -/
theorem shift_real (hq : Fine q) (hk : Fine k) (hs : Fine s) (n : Fin 64) (i : Fin 128) (h g : Fin 4) :
    ∃ M : ℝ, shift (lg q k s) (ix5 0 n h g i) = (M : EReal) := by
  rw [shift_apply, rowMax_apply]
  refine fold_max_real _ (fun κ => ?_) (256 : Fin 257) ?_
  · rw [lg_apply hq hk hs]; split
    · split
      · exact EReal.coe_ne_top _
      · exact bot_ne_top
    · exact EReal.coe_ne_top _
  · rw [lg_apply hq hk hs, if_neg (by decide)]
    exact EReal.coe_ne_bot _

theorem ex_apply (hq : Fine q) (hk : Fine k) (hs : Fine s) {n : Fin 64} {i : Fin 128} {h g : Fin 4} {M : ℝ}
    (hM : shift (lg q k s) (ix5 0 n h g i) = (M : EReal)) (κ : Fin 257) :
    ex q k s (ix6 0 n h g i κ)
      = ((if κ.val < 256 then if sees n i κ then Real.exp (score (rd q) (rd k) n i h g κ - M) else 0
          else Real.exp (rd1 s (4 * h + g) - M) : ℝ) : EReal) := by
  unfold ex
  generalize hS : shift (lg q k s) = sh at hM
  generalize hl : lg q k s = l
  pointwise [exps, wide, col]
  rw [hM, ← hl, lg_apply hq hk hs]
  by_cases hκ : κ.val < 256
  · simp only [if_pos hκ, exp_masked]
  · simp only [if_neg hκ]; rw [← EReal.coe_sub, Ideal.exp_coe]

theorem total_apply (hq : Fine q) (hk : Fine k) (hs : Fine s) {n : Fin 64} {i : Fin 128} {h g : Fin 4} {M : ℝ}
    (hM : shift (lg q k s) (ix5 0 n h g i) = (M : EReal)) :
    total q k s (ix5 0 n h g i) = ((den (rd q) (rd k) (rd1 s) n i h g * Real.exp (-M) : ℝ) : EReal) := by
  unfold total
  rw [rowSum_apply, sum_fin_coe _ (fun κ => if κ < 256 then if sees n i κ then Real.exp (score (rd q) (rd k) n i h g κ - M) else 0
          else Real.exp (rd1 s (4 * h + g) - M)) (ex_apply hq hk hs hM), Finset.sum_range_succ, if_neg (by decide), ← den_shift]
  refine congrArg Real.toEReal (congrArg (· + _) (Finset.sum_congr rfl fun κ hκ => ?_))
  rw [if_pos (Finset.mem_range.mp hκ)]

theorem wts_apply (hq : Fine q) (hk : Fine k) (hs : Fine s) (n : Fin 64) (i : Fin 128) (h g : Fin 4) (κ : Fin 256) :
    wts q k s (ix6 0 n h g i κ) = (wt (rd q) (rd k) (rd1 s) n i h g κ : EReal) := by
  obtain ⟨M, hM⟩ := shift_real hq hk hs n i h g
  unfold wts
  have e1 := ex_apply hq hk hs hM (κ.castLE (by decide))
  have e2 := total_apply hq hk hs hM
  generalize ex q k s = e at e1 ⊢
  generalize total q k s = L at e2 ⊢
  pointwise [weights, wide, col]
  have e1' : e (ix6 0 n h g i ⟨κ, by omega⟩) = _ := e1
  rw [e1', e2, div_real (mul_ne_zero (den_pos ..).ne' (Real.exp_pos _).ne')]
  refine congrArg Real.toEReal ?_
  have hκ : (κ.castLE (by decide : 256 ≤ 257)).val < 256 := κ.isLt
  rw [if_pos hκ]
  exact wt_shift ..

theorem dwt_apply (hv : Fine v) (hc : Fine ct) (n : Fin 64) (i : Fin 128) (h g : Fin 4) (κ : Fin 256) :
    dweights (cots ct) (bands v) (ix6 0 n h g i κ) = (dwt (rd v) (rd ct) n i h g κ : EReal) := by
  generalize hb : bands v = vb
  generalize hcc : cots ct = cc
  pointwise [dweights]
  subst hb hcc
  simp only [bands_apply v hv, cots_apply ct hc, ← EReal.coe_mul]
  exact sum_fin_coe _ (fun d => rd ct (128 * n + i) (4 * h + g) d * band (rd v) n κ h d) (fun _ => rfl)

theorem padded_apply (w : Arr S1x64x4x4x128x256) (n : Fin 64) (i : Fin 128) (h g : Fin 4) (κ : Fin 257) :
    padded w (ix6 0 n h g i κ) = if hκ : κ.val < 256 then w (ix6 0 n h g i ⟨κ, hκ⟩) else 0 := by
  pointwise [padded, zero_]

theorem dsum_value (hq : Fine q) (hk : Fine k) (hv : Fine v) (hs : Fine s) (hc : Fine ct) {n : Fin 64} {i : Fin 128} {h g : Fin 4} {M : ℝ}
    (hM : shift (lg q k s) (ix5 0 n h g i) = (M : EReal)) :
    dsum (padded (dweights (cots ct) (bands v))) (ex q k s) (total q k s) (ix4 n h g i)
      = ((-(mean (rd q) (rd k) (rd v) (rd1 s) (rd ct) n i h g / (den (rd q) (rd k) (rd1 s) n i h g * Real.exp (-M))) : ℝ) : EReal) := by
  have hL := mul_ne_zero (den_pos (rd q) (rd k) (rd1 s) n i h g).ne' (Real.exp_pos (-M)).ne'
  rw [dsum_apply, total_apply hq hk hs hM, div_one_real hL]
  set L := den (rd q) (rd k) (rd1 s) n i h g * Real.exp (-M) with hLd
  rw [sum_fin_coe _ (fun κ => if κ < 256 then dwt (rd v) (rd ct) n i h g κ * (1 / (L * L))
      * (if sees n i κ then Real.exp (score (rd q) (rd k) n i h g κ - M) else 0) else 0), ← EReal.coe_neg]
  · rw [Finset.sum_range_succ, if_neg (by decide), add_zero]
    refine congrArg (fun x : ℝ => ((-x : ℝ) : EReal)) ?_
    unfold mean
    rw [Finset.sum_div]
    refine Finset.sum_congr rfl fun κ hκ => ?_
    rw [if_pos (Finset.mem_range.mp hκ), ← wt_shift _ _ _ M, ← hLd]
    field_simp
  · intro κ
    rw [padded_apply, ex_apply hq hk hs hM]
    by_cases hκ : κ.val < 256
    · simp only [dif_pos hκ, if_pos hκ]
      rw [dwt_apply hv hc, ← EReal.coe_mul, ← EReal.coe_mul]
    · simp only [dif_neg hκ, if_neg hκ, zero_mul, EReal.coe_zero]

theorem dscores_apply (hq : Fine q) (hk : Fine k) (hv : Fine v) (hs : Fine s) (hc : Fine ct) (n : Fin 64) (i : Fin 128) (h g : Fin 4)
    (κ : Fin 256) :
    dscores (padded (dweights (cots ct) (bands v))) (ex q k s) (total q k s) (ix6 0 n h g i κ)
      = ((dscore (rd q) (rd k) (rd v) (rd1 s) (rd ct) n i h g κ * 0.125 : ℝ) : EReal) := by
  obtain ⟨M, hM⟩ := shift_real hq hk hs n i h g
  have hL := mul_ne_zero (den_pos (rd q) (rd k) (rd1 s) n i h g).ne' (Real.exp_pos (-M)).ne'
  have e0 := dsum_value hq hk hv hs hc hM
  have e1 := ex_apply hq hk hs hM (κ.castLE (by decide))
  have e2 := total_apply hq hk hs hM
  have e3 := padded_apply (dweights (cots ct) (bands v)) n i h g (κ.castLE (by decide))
  have hκ : (κ.castLE (by decide : 256 ≤ 257)).val < 256 := κ.isLt
  rw [if_pos hκ] at e1
  rw [dif_pos hκ] at e3
  have e3' := e3.trans (dwt_apply hv hc n i h g κ)
  unfold dscores dexps
  generalize dsum _ _ _ = S at e0 ⊢
  generalize ex q k s = e at e1 ⊢
  generalize total q k s = L at e2 ⊢
  generalize padded (dweights (cots ct) (bands v)) = w at e3' ⊢
  have hs := seen_apply n i h g κ
  generalize seen = sn at hs ⊢
  pointwise [wide, col, zero_]
  have e1' : e (ix6 0 n h g i ⟨κ, by omega⟩) = _ := e1
  have e3'' : w (ix6 0 n h g i ⟨κ, by omega⟩) = _ := e3'
  rw [e1', e3'', e0, e2, word_eighth, div_real hL, hs, select_ite, ← EReal.coe_add, ← EReal.coe_mul]
  unfold dscore
  by_cases hp : sees n i κ
  · have hp' : sees n i (κ.castLE (by decide : 256 ≤ 257)).val := hp
    rw [if_pos hp, if_pos hp', ← EReal.coe_mul, ← wt_shift _ _ _ M, if_pos hp]
    refine congrArg Real.toEReal ?_
    show _ * Real.exp (score (rd q) (rd k) n i h g κ - M) * _ = _
    ring
  · rw [if_neg hp]
    unfold wt
    rw [if_neg hp, zero_mul, zero_mul, EReal.coe_zero]

theorem dvBands_apply (hq : Fine q) (hk : Fine k) (hs : Fine s) (hc : Fine ct) (n : Fin 64) (κ : Fin 256) (h : Fin 4) (d : Fin 64) :
    dvBands (cots ct) (wts q k s) (ix5 0 n κ h d) = (dvBand (rd q) (rd k) (rd1 s) (rd ct) n κ h d : EReal) := by
  generalize hw : wts q k s = w
  generalize hcc : cots ct = cc
  pointwise [dvBands]
  subst hw hcc
  simp only [wts_apply hq hk hs, cots_apply ct hc, ← EReal.coe_mul]
  refine sum_fin_coe _ (fun g => ∑ i ∈ Finset.range 128, wt (rd q) (rd k) (rd1 s) n i h g κ * rd ct (128 * n + i) (4 * h + g) d) fun g => ?_
  refine sum_fin_coe _ (fun i => wt (rd q) (rd k) (rd1 s) n i h g κ * rd ct (128 * n + i) (4 * h + g) d) fun i => ?_
  rw [mul_comm]

theorem dkBands_apply (hq : Fine q) (hk : Fine k) (hv : Fine v) (hs : Fine s) (hc : Fine ct) (n : Fin 64) (κ : Fin 256) (h : Fin 4)
    (d : Fin 64) :
    dkBands (dscores (padded (dweights (cots ct) (bands v))) (ex q k s) (total q k s)) (byWindow q) (ix5 0 n κ h d)
      = (dkBand (rd q) (rd k) (rd v) (rd1 s) (rd ct) n κ h d : EReal) := by
  generalize hw : dscores (padded (dweights (cots ct) (bands v))) (ex q k s) (total q k s) = w
  generalize hcc : byWindow q = cc
  pointwise [dkBands]
  subst hw hcc
  simp only [dscores_apply hq hk hv hs hc, byWindow_apply q hq, ← EReal.coe_mul]
  unfold dkBand
  rw [Finset.sum_comm]
  refine sum_fin_coe _ (fun g => ∑ i ∈ Finset.range 128, dscore (rd q) (rd k) (rd v) (rd1 s) (rd ct) n i h g κ
    * (rd q (128 * n + i) (4 * h + g) d * 0.125)) fun g => ?_
  refine sum_fin_coe _ (fun i => dscore (rd q) (rd k) (rd v) (rd1 s) (rd ct) n i h g κ
    * (rd q (128 * n + i) (4 * h + g) d * 0.125)) fun i => ?_
  refine congrArg Real.toEReal ?_
  ring

theorem folded_apply (b : Arr S1x64x256x4x64) (B : Nat → Nat → Nat → Nat → ℝ)
    (hb : ∀ (n : Fin 64) (κ : Fin 256) (h : Fin 4) (d : Fin 64), b (ix5 0 n κ h d) = (B n κ h d : EReal)) (t : Fin 8192) (c : Fin 256) :
    folded b (ix2 t c) = (fold B t (c / 64) (c % 64) : EReal) := by
  pointwise [folded, zero_]
  simp only [hb]
  unfold fold
  rw [EReal.coe_add]
  congr 1
  by_cases h : t.val / 128 < 63
  · rw [if_pos h, dif_pos (by omega), Nat.add_comm]
  · rw [if_neg h, dif_neg (by omega)]; rfl

theorem dvArr_apply (hq : Fine q) (hk : Fine k) (hs : Fine s) (hc : Fine ct) (t : Fin 8192) (c : Fin 256) :
    dvArr q k s ct (ix2 t c) = (dv (rd q) (rd k) (rd1 s) (rd ct) t (c / 64) (c % 64) : EReal) :=
  folded_apply _ _ (dvBands_apply hq hk hs hc) t c

theorem dkArr_apply (hq : Fine q) (hk : Fine k) (hv : Fine v) (hs : Fine s) (hc : Fine ct) (t : Fin 8192) (c : Fin 256) :
    dkArr q k v s ct (ix2 t c) = (dk (rd q) (rd k) (rd v) (rd1 s) (rd ct) t (c / 64) (c % 64) : EReal) :=
  folded_apply _ _ (dkBands_apply hq hk hv hs hc) t c

end Cert.Stages
-- ==== Proof.Host.lean ====
/- Hand-written. The arrays the kernel is called on: what the host operations before it compute, in the stages of Stages.lean. -/
module

public import proofs.«01_k».proof.Proof.Gen.KernelIdeal.Frame.Runs
public import proofs.«01_k».proof.Proof.Ref

@[expose] public section

noncomputable section

namespace Cert.Host

open Cert.KernelIdeal Cert.KernelIdeal.Gen Idealize.ShloMosaic Idealize.ShloMosaic.TcCoe Cert.Spec Cert.Stages
open scoped BigOperators

/-- The queries and keys side by side. -/
def qkArr (q : Arr S1x8192x16x64) (k : Arr S1x8192x4x64) : FVec Ideal S8192x1280 .bf16 :=
  truncf .bf16 (concatenate S8192x1280 1 [⟨S8192x1024, shapeCast _ q shapeCasts_S1x8192x16x64_S8192x1024⟩,
    ⟨S8192x256, shapeCast _ k shapeCasts_S1x8192x4x64_S8192x256⟩] concatenates_S8192x1024_S8192x256_S8192x1280_d1) bitsLt_bf16_f32

/-- Zeros, then the values. -/
def vArr (v : Arr S1x8192x4x64) : FVec Ideal S8192x1536 .bf16 :=
  truncf .bf16 (concatenate S8192x1536 1 [⟨S8192x1280, broadcastInDim S8192x1280 ![] bcast_S_S8192x1280 zero_⟩,
    ⟨S8192x256, shapeCast _ v shapeCasts_S1x8192x4x64_S8192x256⟩] concatenates_S8192x1280_S8192x256_S8192x1536_d1) bitsLt_bf16_f32

/-- The cotangents. -/
def ctArr (c : Arr S1x8192x16x64) : FVec Ideal S8192x1024 .bf16 :=
  truncf .bf16 (shapeCast _ c shapeCasts_S1x8192x16x64_S8192x1024) bitsLt_bf16_f32

/-- The attention's result from the weights and the values' bands. -/
def outs (vb : Arr S1x64x256x4x64) (w : Arr S1x64x4x4x128x256) : Arr S1x64x128x4x4x64 :=
  transpose S1x64x128x4x4x64 [0, 1, 5, 2, 4, 3]
    (Host.dotGeneral dot_S1x64x256x4x64_S1x64x4x4x128x256_S1x64x4x64x4x128_2_5_4_34_013_012 none vb w)
    transposes_S1x64x4x64x4x128_S1x64x128x4x4x64_0_1_5_2_4_3

def oArr (q : Arr S1x8192x16x64) (k v : Arr S1x8192x4x64) (s : Arr S16) : FVec Ideal S8192x1024 .bf16 :=
  truncf .bf16 (shapeCast _ (outs (bands v) (wts q k s)) shapeCasts_S1x64x128x4x4x64_S8192x1024) bitsLt_bf16_f32

/-- Each row's logarithm of its denominator, from its maximum and its sum relative to it. -/
def logs (M L : Arr S1x64x4x4x128) : Arr S8192x1024 :=
  shapeCast _ (broadcastInDim S1x64x128x4x4x64 ![0, 1, 2, 3, 4, 5] bcast_S1x64x128x4x4x1_S1x64x128x4x4x64_0_1_2_3_4_5
    (transpose S1x64x128x4x4x1 [0, 1, 4, 2, 3, 5] (addf (col M) (Host.log (col L)))
      transposes_S1x64x4x4x128x1_S1x64x128x4x4x1_0_1_4_2_3_5)) shapeCasts_S1x64x128x4x4x64_S8192x1024

def lseArr (q : Arr S1x8192x16x64) (k : Arr S1x8192x4x64) (s : Arr S16) : Arr S8192x1024 :=
  logs (rowMax (lg q k s)) (rowSum (exps (lg q k s) (rowMax (lg q k s))))

variable (m : (ℓ : Loc nD τ sig) → Buf (Elt Ideal) ℓ) (c : Dev nD)

abbrev arg0 : Arr S1x8192x16x64 := m ((c : Thread nD τ).loc main_arg0)
abbrev arg1 : Arr S1x8192x4x64 := m ((c : Thread nD τ).loc main_arg1)
abbrev arg2 : Arr S1x8192x4x64 := m ((c : Thread nD τ).loc main_arg2)
abbrev arg3 : Arr S16 := m ((c : Thread nD τ).loc main_arg3)
abbrev arg4 : Arr S1x8192x16x64 := m ((c : Thread nD τ).loc main_arg4)

set_option maxHeartbeats 4000000 in
theorem V_v82 : V m c main_v82 = qkArr (arg0 m c) (arg1 m c) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl

set_option maxHeartbeats 4000000 in
theorem V_v86 : V m c main_v86 = vArr (arg2 m c) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl

set_option maxHeartbeats 4000000 in
theorem V_v88 : V m c main_v88 = ctArr (arg4 m c) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl

set_option maxHeartbeats 4000000 in
theorem V_v89 : V m c main_v89 = oArr (arg0 m c) (arg1 m c) (arg2 m c) (arg3 m c) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl

set_option maxHeartbeats 4000000 in
theorem V_v78 : V m c main_v78 = lseArr (arg0 m c) (arg1 m c) (arg3 m c) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl

end Cert.Host
-- ==== Proof.HostRead.lean ====
/- Hand-written. The arrays of Host.lean at an index, as reals, for real arguments. -/
module

public import proofs.«01_k».proof.Proof.Host

@[expose] public section

noncomputable section

namespace Cert.Host

open Cert.KernelIdeal Cert.KernelIdeal.Gen Idealize.ShloMosaic Idealize.ShloMosaic.TcCoe Cert.Spec Cert.Stages
open scoped BigOperators

variable {q ct : Arr S1x8192x16x64} {k v : Arr S1x8192x4x64} {s : Arr S16}

theorem qkArr_apply (hq : Fine q) (hk : Fine k) (t : Fin 8192) (c : Fin 1280) :
    qkArr q k (ix2 t c) = ((if c.val < 1024 then rd q t (c / 64) (c % 64) else rd k t ((c - 1024) / 64) (c % 64) : ℝ) : EReal) := by
  pointwise [qkArr]
  split
  · exact hq.rd_eq _ _ _ _
  · next h =>
    refine (hk.rd_eq _ _ _ _).trans (congrArg Real.toEReal (congrArg (fun z => rd k t ((c.val - 1024) / 64) z) ?_))
    show (c.val - 1024) % 64 = c.val % 64
    omega

theorem vArr_apply (hv : Fine v) (t : Fin 8192) (c : Fin 1536) (hc : 1280 ≤ c.val) :
    vArr v (ix2 t c) = (rd v t ((c - 1280) / 64) (c % 64) : EReal) := by
  pointwise [vArr]
  rw [dif_neg (by omega), hv.rd_eq]
  refine congrArg (fun z => ((rd v t ((c.val - 1280) / 64) z : ℝ) : EReal)) ?_
  show (c.val - 1280) % 64 = c.val % 64
  omega

theorem ctArr_apply (hc : Fine ct) (t : Fin 8192) (c : Fin 1024) : ctArr ct (ix2 t c) = (rd ct t (c / 64) (c % 64) : EReal) := by
  pointwise [ctArr]
  rw [hc.rd_eq]

theorem oArr_apply (hq : Fine q) (hk : Fine k) (hv : Fine v) (hs : Fine s) (t : Fin 8192) (c : Fin 1024) :
    oArr q k v s (ix2 t c) = (out (rd q) (rd k) (rd v) (rd1 s) (t / 128) (t % 128) (c / 256) (c / 64 % 4) (c % 64) : EReal) := by
  generalize hw : wts q k s = w
  generalize hb : bands v = b
  unfold oArr
  rw [hw, hb]
  pointwise [outs]
  subst hw hb
  simp only [bands_apply v hv, wts_apply hq hk hs, ← EReal.coe_mul]
  refine (sum_fin_coe _ (fun κ => band (rd v) (t / 128) κ (c / 256) (c % 64)
    * wt (rd q) (rd k) (rd1 s) (t / 128) (t % 128) (c / 256) (c / 64 % 4) κ) (fun _ => rfl)).trans ?_
  exact congrArg Real.toEReal (Finset.sum_congr rfl fun κ _ => mul_comm _ _)

theorem logs_apply (M L : Arr S1x64x4x4x128) (t : Fin 8192) (c : Fin 1024) :
    logs M L (ix2 t c) = M (ix5 0 ⟨t / 128, by omega⟩ ⟨c / 256, by omega⟩ ⟨c / 64 % 4, by omega⟩ ⟨t % 128, by omega⟩)
      + Ideal.log (L (ix5 0 ⟨t / 128, by omega⟩ ⟨c / 256, by omega⟩ ⟨c / 64 % 4, by omega⟩ ⟨t % 128, by omega⟩)) := by
  pointwise [logs, col]

theorem shift_rowMax (l : Arr S1x64x4x4x128x257) : shift l = rowMax l :=
  funext fun x => by rw [eq_ix5 x]; obtain h0 : x 0 = (0 : Fin 1) := Fin.ext (Nat.lt_one_iff.mp (x 0).isLt); rw [h0]; exact shift_apply l _ _ _ _

theorem lseArr_apply (hq : Fine q) (hk : Fine k) (hs : Fine s) (t : Fin 8192) (c : Fin 1024) :
    lseArr q k s (ix2 t c) = (Real.log (den (rd q) (rd k) (rd1 s) (t / 128) (t % 128) (c / 256) (c / 64 % 4)) : EReal) := by
  unfold lseArr
  rw [← shift_rowMax, logs_apply]
  obtain ⟨M, hM⟩ := shift_real hq hk hs ⟨t / 128, by omega⟩ ⟨t % 128, by omega⟩ ⟨c / 256, by omega⟩ ⟨c / 64 % 4, by omega⟩
  have hL := total_apply hq hk hs hM
  have hL' : rowSum (exps (lg q k s) (shift (lg q k s))) _ = _ := hL
  rw [hM, hL']
  have hd := den_pos (rd q) (rd k) (rd1 s) (t / 128) (t % 128) (c / 256) (c / 64 % 4)
  rw [log_pos (mul_pos hd (Real.exp_pos _)), ← EReal.coe_add]
  refine congrArg Real.toEReal ?_
  rw [Real.log_mul hd.ne' (Real.exp_pos _).ne', Real.log_exp]
  show M + (_ + -M) = _
  ring

end Cert.Host
-- ==== Proof.Join.lean ====
/- Hand-written. The tiles' real sums, at a grid point's own operands, are the gradients of Spec.lean. -/
module

public import proofs.«01_k».proof.Proof.TileRead

@[expose] public section

noncomputable section

namespace Cert.Join

open Cert.Tile Cert.Spec
open scoped BigOperators

/-- The row of the arrays that row `r` of tile `j`'s operand holds: its own 512, then the next block's 128 (the last block again after the last). -/
def row (j r : Nat) : Nat := if r < 512 then 512 * j + r else 128 * min (4 * j + 4) 63 + (r - 512)

section
variable (Q K V : Nat → Nat → Nat → ℝ) (S : Nat → ℝ) (C : Nat → Nat → Nat → ℝ) (j kp : Nat)

def rowsOf (X : Nat → Nat → Nat → ℝ) (r c : Nat) : ℝ := X (row j r) (8 * kp + c / 64) (c % 64)
def keysOf (X : Nat → Nat → Nat → ℝ) (r l : Nat) : ℝ := X (512 * j + r) (2 * kp + l / 64) (l % 64)
def outOf (r c : Nat) : ℝ := out Q K V S (row j r / 128) (row j r % 128) ((512 * kp + c) / 256) ((512 * kp + c) / 64 % 4) (c % 64)
def logOf (r c : Nat) : ℝ := Real.log (den Q K S (row j r / 128) (row j r % 128) ((512 * kp + c) / 256) ((512 * kp + c) / 64 % 4))

end

section
variable {Q K V : Nat → Nat → Nat → ℝ} {S : Nat → ℝ} {C : Nat → Nat → Nat → ℝ} {j kp w r c z g : Nat}

/-- A row some key reaches is the arrays' own. -/
theorem row_eq (hw : w < 4) (hr : r < 256) (hn : 4 * j + w + r / 128 < 64) :
    row j (128 * w + r) = 128 * (4 * j + w + r / 128) + r % 128 := by
  unfold row
  split
  · omega
  · have : min (4 * j + 4) 63 = 4 * j + 4 := by omega
    rw [this]; omega

theorem reach_iff (hr : r < 256) (hc : c < 128) :
    reach j w r c ↔ 4 * j + w + r / 128 < 64 ∧ sees (4 * j + w + r / 128) (r % 128) (c + 128 - 128 * (r / 128)) := by
  unfold reach sees
  have : r / 128 = 0 ∨ r / 128 = 1 := by omega
  rcases this with e | e <;> rw [e] <;> omega

theorem rowsOf_eq (X : Nat → Nat → Nat → ℝ) (hw : w < 4) (hr : r < 256) (hn : 4 * j + w + r / 128 < 64) (hg : g < 4) {d : Nat} (hd : d < 64) :
    rowsOf j kp X (128 * w + r) (256 * z + 64 * g + d) = X (128 * (4 * j + w + r / 128) + r % 128) (4 * (2 * kp + z) + g) d := by
  unfold rowsOf
  rw [row_eq hw hr hn]
  have e1 : 8 * kp + (256 * z + 64 * g + d) / 64 = 4 * (2 * kp + z) + g := by omega
  have e2 : (256 * z + 64 * g + d) % 64 = d := by omega
  rw [e1, e2]

theorem keysOf_eq (X : Nat → Nat → Nat → ℝ) (hr : r < 256) {d : Nat} (hd : d < 64) :
    keysOf j kp X (128 * w + c) (64 * z + d) = band X (4 * j + w + r / 128) (c + 128 - 128 * (r / 128)) (2 * kp + z) d := by
  have h : r / 128 = 0 ∨ r / 128 = 1 := by omega
  unfold keysOf band
  rw [if_neg (by omega)]
  have e1 : 2 * kp + (64 * z + d) / 64 = 2 * kp + z := by omega
  have e2 : (64 * z + d) % 64 = d := by omega
  have e3 : 512 * j + (128 * w + c) = 128 * (4 * j + w + r / 128) + (c + 128 - 128 * (r / 128)) - 128 := by
    rcases h with e | e <;> rw [e] <;> omega
  rw [e1, e2, e3]

theorem weight_eq (hw : w < 4) (hr : r < 256) (hc : c < 128) (hg : g < 4) :
    weight (rowsOf j kp Q) (logOf Q K S j kp) (keysOf j kp K) j w (256 * z + 64 * g) (64 * z) r c
      = if 4 * j + w + r / 128 < 64 then wt Q K S (4 * j + w + r / 128) (r % 128) (2 * kp + z) g (c + 128 - 128 * (r / 128)) else 0 := by
  unfold weight
  by_cases hn : 4 * j + w + r / 128 < 64
  · rw [if_pos hn, ← wt_log]
    have hs : (∑ d ∈ Finset.range 64, rowsOf j kp Q (128 * w + r) (256 * z + 64 * g + d) * 0.125 * keysOf j kp K (128 * w + c) (64 * z + d))
        = score Q K (4 * j + w + r / 128) (r % 128) (2 * kp + z) g (c + 128 - 128 * (r / 128)) := by
      unfold score
      rw [Finset.sum_mul]
      refine Finset.sum_congr rfl fun d hd => ?_
      have hd := Finset.mem_range.mp hd
      rw [rowsOf_eq Q hw hr hn hg hd, keysOf_eq K hr hd]
      ring
    have hl : logOf Q K S j kp (128 * w + r) (256 * z + 64 * g)
        = Real.log (den Q K S (4 * j + w + r / 128) (r % 128) (2 * kp + z) g) := by
      unfold logOf
      rw [row_eq hw hr hn]
      have e1 : (128 * (4 * j + w + r / 128) + r % 128) / 128 = 4 * j + w + r / 128 := by omega
      have e2 : (128 * (4 * j + w + r / 128) + r % 128) % 128 = r % 128 := by omega
      have e3 : (512 * kp + (256 * z + 64 * g)) / 256 = 2 * kp + z := by omega
      have e4 : (512 * kp + (256 * z + 64 * g)) / 64 % 4 = g := by omega
      rw [e1, e2, e3, e4]
    rw [hs, hl]
    have e := reach_iff (j := j) (w := w) hr hc
    by_cases hv : sees (4 * j + w + r / 128) (r % 128) (c + 128 - 128 * (r / 128))
    · rw [if_pos (e.mpr ⟨hn, hv⟩), if_pos hv]
    · rw [if_neg fun h => hv (e.mp h).2, if_neg hv]
  · rw [if_neg hn, if_neg fun h => hn ((reach_iff hr hc).mp h).1]

theorem cotan_eq (hw : w < 4) (hr : r < 256) (hc : c < 128) (hg : g < 4) :
    cotan (rowsOf j kp Q) (rowsOf j kp C) (outOf Q K V S j kp) (logOf Q K S j kp) (keysOf j kp K) (keysOf j kp V) j w (256 * z + 64 * g) (64 * z) r c
      = if 4 * j + w + r / 128 < 64 then dscore Q K V S C (4 * j + w + r / 128) (r % 128) (2 * kp + z) g (c + 128 - 128 * (r / 128)) else 0 := by
  unfold cotan
  rw [weight_eq hw hr hc hg]
  by_cases hn : 4 * j + w + r / 128 < 64
  · rw [if_pos hn, if_pos hn]
    unfold dscore
    rw [mean_eq]
    unfold dwt
    refine congrArg _ (congrArg₂ (· - ·) (Finset.sum_congr rfl fun d hd => ?_) (Finset.sum_congr rfl fun d hd => ?_))
    · have hd := Finset.mem_range.mp hd
      rw [rowsOf_eq C hw hr hn hg hd, keysOf_eq V hr hd]
    · have hd := Finset.mem_range.mp hd
      rw [rowsOf_eq C hw hr hn hg hd]
      unfold outOf
      rw [row_eq hw hr hn]
      have e1 : (128 * (4 * j + w + r / 128) + r % 128) / 128 = 4 * j + w + r / 128 := by omega
      have e2 : (128 * (4 * j + w + r / 128) + r % 128) % 128 = r % 128 := by omega
      have e3 : (512 * kp + (256 * z + 64 * g + d)) / 256 = 2 * kp + z := by omega
      have e4 : (512 * kp + (256 * z + 64 * g + d)) / 64 % 4 = g := by omega
      have e5 : (256 * z + 64 * g + d) % 64 = d := by omega
      rw [e1, e2, e3, e4, e5]
  · rw [if_neg hn, if_neg hn, zero_mul]

/-- The 256 query rows are two windows of 128: the key's own and the next, when there is one. -/
theorem fold_rows (B : Nat → Nat → Nat → Nat → ℝ) (F : Nat → Nat → Nat → Nat → ℝ) (h d : Nat) (hw : w < 4) (hj : j < 16) (hc : c < 128)
    (hB : ∀ n κ, B n κ h d = ∑ g ∈ Finset.range 4, ∑ i ∈ Finset.range 128, F n i g κ) :
    (∑ g ∈ Finset.range 4, ∑ r ∈ Finset.range 256,
        if 4 * j + w + r / 128 < 64 then F (4 * j + w + r / 128) (r % 128) g (c + 128 - 128 * (r / 128)) else 0)
      = fold B (512 * j + (128 * w + c)) h d := by
  unfold fold
  have e1 : (512 * j + (128 * w + c)) / 128 = 4 * j + w := by omega
  have e2 : (512 * j + (128 * w + c)) % 128 = c := by omega
  rw [e1, e2, hB, hB]
  have hs : ∀ g, (∑ r ∈ Finset.range 256, if 4 * j + w + r / 128 < 64 then F (4 * j + w + r / 128) (r % 128) g (c + 128 - 128 * (r / 128)) else 0)
      = (∑ i ∈ Finset.range 128, F (4 * j + w) i g (128 + c))
        + if 4 * j + w < 63 then ∑ i ∈ Finset.range 128, F (4 * j + w + 1) i g c else 0 := by
    intro g
    rw [show (256 : Nat) = 128 + 128 from rfl, Finset.sum_range_add]
    refine congrArg₂ (· + ·) (Finset.sum_congr rfl fun i hi => ?_) ?_
    · have hi := Finset.mem_range.mp hi
      have a1 : i / 128 = 0 := by omega
      have a2 : i % 128 = i := by omega
      rw [a1, a2, if_pos (by omega), Nat.add_zero, Nat.mul_zero, Nat.sub_zero, Nat.add_comm c]
    · by_cases hn : 4 * j + w < 63
      · rw [if_pos hn]
        refine Finset.sum_congr rfl fun i hi => ?_
        have hi := Finset.mem_range.mp hi
        have a1 : (128 + i) / 128 = 1 := by omega
        have a2 : (128 + i) % 128 = i := by omega
        rw [a1, a2, if_pos (by omega), Nat.mul_one, Nat.add_sub_cancel]
      · rw [if_neg hn]
        refine Finset.sum_eq_zero fun i hi => if_neg ?_
        have hi := Finset.mem_range.mp hi
        omega
  rw [Finset.sum_congr rfl fun g _ => hs g, Finset.sum_add_distrib]
  congr 1
  by_cases hn : 4 * j + w < 63
  · simp only [if_pos hn]
  · simp only [if_neg hn, Finset.sum_const_zero]

end

section
variable (Q K V : Nat → Nat → Nat → ℝ) (S : Nat → ℝ) (C : Nat → Nat → Nat → ℝ) {j kp w c l : Nat} (hj : j < 16) (hw : w < 4) (hc : c < 128)
include hj hw hc

theorem valGrad_eq :
    (∑ g ∈ Finset.range 4, ∑ r ∈ Finset.range 256,
      weight (rowsOf j kp Q) (logOf Q K S j kp) (keysOf j kp K) j w (256 * (l / 64) + 64 * g) (64 * (l / 64)) r c
        * rowsOf j kp C (128 * w + r) (256 * (l / 64) + 64 * g + l % 64))
      = dv Q K S C (512 * j + (128 * w + c)) (2 * kp + l / 64) (l % 64) := by
  unfold dv
  rw [← fold_rows (dvBand Q K S C)
    (fun n i g κ => wt Q K S n i (2 * kp + l / 64) g κ * C (128 * n + i) (4 * (2 * kp + l / 64) + g) (l % 64))
    (2 * kp + l / 64) (l % 64) hw hj hc]
  · refine Finset.sum_congr rfl fun g hg => Finset.sum_congr rfl fun r hr => ?_
    have hg := Finset.mem_range.mp hg
    have hr := Finset.mem_range.mp hr
    rw [weight_eq hw hr hc hg]
    by_cases hn : 4 * j + w + r / 128 < 64
    · rw [if_pos hn, if_pos hn, rowsOf_eq C hw hr hn hg (by omega)]
    · rw [if_neg hn, if_neg hn, zero_mul]
  · intro n κ
    rfl

theorem keyGrad_eq :
    (∑ g ∈ Finset.range 4, ∑ r ∈ Finset.range 256,
      cotan (rowsOf j kp Q) (rowsOf j kp C) (outOf Q K V S j kp) (logOf Q K S j kp) (keysOf j kp K) (keysOf j kp V) j w (256 * (l / 64) + 64 * g)
          (64 * (l / 64)) r c
        * (rowsOf j kp Q (128 * w + r) (256 * (l / 64) + 64 * g + l % 64) * 0.125))
      = dk Q K V S C (512 * j + (128 * w + c)) (2 * kp + l / 64) (l % 64) := by
  unfold dk
  rw [← fold_rows (dkBand Q K V S C)
    (fun n i g κ => dscore Q K V S C n i (2 * kp + l / 64) g κ
      * (Q (128 * n + i) (4 * (2 * kp + l / 64) + g) (l % 64) * 0.125))
    (2 * kp + l / 64) (l % 64) hw hj hc]
  · refine Finset.sum_congr rfl fun g hg => Finset.sum_congr rfl fun r hr => ?_
    have hg := Finset.mem_range.mp hg
    have hr := Finset.mem_range.mp hr
    rw [cotan_eq hw hr hc hg]
    by_cases hn : 4 * j + w + r / 128 < 64
    · rw [if_pos hn, if_pos hn, rowsOf_eq Q hw hr hn hg (by omega)]
    · rw [if_neg hn, if_neg hn, zero_mul]
  · intro n κ
    rfl

end

end Cert.Join
-- ==== Proof.Array.lean ====
/- Hand-written. The kernel's two result arrays. -/
module

public import proofs.«01_k».proof.Proof.Blocks
public import proofs.«01_k».proof.Proof.TileRead
public import proofs.«01_k».proof.Proof.HostRead
public import proofs.«01_k».proof.Proof.Join
public import proofs.«01_k».proof.Proof.Ref
public import Idealize.ShloMosaic.Lib.Pipeline.ValueKit.Point

@[expose] public section

noncomputable section

namespace Cert.Array

open Cert.KernelIdeal Cert.KernelIdeal.Gen Cert.KernelIdeal.Value Idealize.ShloMosaic Idealize.ShloMosaic.TcCoe Cert.Spec Cert.Host
open scoped BigOperators

/-! ### The operands at a point, as reals -/

open Cert.Tile Cert.Join Cert.Stages

section
variable {q ct : Arr S1x8192x16x64} {k v : Arr S1x8192x4x64} {s : Arr S16} (hq : Fine q) (hk : Fine k) (hv : Fine v) (hs : Fine s) (hc : Fine ct)
  (t : Fin cfg0.N)

include hq hk in
theorem keys_hold : Holds (t := .bf16) (((cfg0.win 0).blk t).view.read (Elt Ideal) (qkArr q k))
    (keysOf (grid0.coords t 1).val (grid0.coords t 0).val (rd k)) := fun r l => by
  have := pair_lt t
  have := step_lt t
  rw [block0, qkArr_apply hq hk]
  refine congrArg Real.toEReal ?_
  dsimp only
  rw [if_neg (by omega)]
  unfold keysOf
  congr 1 <;> omega

include hv in
theorem vals_hold : Holds (t := .bf16) (((cfg0.win 1).blk t).view.read (Elt Ideal) (vArr v))
    (keysOf (grid0.coords t 1).val (grid0.coords t 0).val (rd v)) := fun r l => by
  have := pair_lt t
  have := step_lt t
  rw [block1, vArr_apply hv _ _ (by dsimp only; omega)]
  refine congrArg Real.toEReal ?_
  dsimp only
  unfold keysOf
  congr 1 <;> omega

/-- A pair of blocks, this tile's rows and the next block's, whose arrays hold `X`. -/
theorem cat_holds {f : FTy} {x : FVec Ideal S512x512 f} {y : FVec Ideal S128x512 f} (X : Nat → Nat → ℝ)
    (hx : ∀ (r : Fin 512) (l : Fin 512), x (ix2 r l) = (X (512 * (grid0.coords t 1).val + r) l : EReal))
    (hy : ∀ (r : Fin 128) (l : Fin 512), y (ix2 r l) = (X (128 * min (4 * (grid0.coords t 1).val + 4) 63 + r) l : EReal)) :
    Holds (cat x y) (fun r l => X (row (grid0.coords t 1).val r) l) := fun r l => by
  rw [cat_apply]
  unfold row
  dsimp only
  split
  · next h => exact hx ⟨r, h⟩ l
  · next h => exact hy ⟨r.val - 512, by omega⟩ l

theorem min_lt : min (4 * (grid0.coords t 1).val + 4) 63 < 64 := by omega

include hq hk in
theorem queries_hold : Holds (cat (t := .bf16)
      ((cfg0.win 2).fill (cfg0.grid.coords t) (dflt0_2 (F := Ideal)) (((cfg0.win 2).blk t).view.read (Elt Ideal) (qkArr q k)))
      ((cfg0.win 3).fill (cfg0.grid.coords t) (dflt0_3 (F := Ideal)) (((cfg0.win 3).blk t).view.read (Elt Ideal) (qkArr q k))))
    (rowsOf (grid0.coords t 1).val (grid0.coords t 0).val (rd q)) := by
  have := pair_lt t
  have := step_lt t
  refine cat_holds t (fun r c => rd q r (8 * (grid0.coords t 0).val + c / 64) (c % 64)) (fun r l => ?_) fun r l => ?_
  · rw [block2, qkArr_apply hq hk]
    refine congrArg Real.toEReal ?_
    dsimp only
    rw [if_pos (by omega)]
    congr 1 <;> omega
  · rw [block3 t _ r l _ (min_lt t) (index3 t), qkArr_apply hq hk]
    refine congrArg Real.toEReal ?_
    dsimp only
    rw [if_pos (by omega)]
    congr 1 <;> omega

include hc in
theorem cots_hold : Holds (cat (t := .bf16) (((cfg0.win 4).blk t).view.read (Elt Ideal) (ctArr ct)) (((cfg0.win 5).blk t).view.read (Elt Ideal) (ctArr ct)))
    (rowsOf (grid0.coords t 1).val (grid0.coords t 0).val (rd ct)) := by
  have := pair_lt t
  have := step_lt t
  refine cat_holds t (fun r c => rd ct r (8 * (grid0.coords t 0).val + c / 64) (c % 64)) (fun r l => ?_) fun r l => ?_
  · rw [block4, ctArr_apply hc]
    refine congrArg Real.toEReal ?_
    dsimp only
    congr 1 <;> omega
  · rw [block5 t _ r l _ (min_lt t) (index5 t), ctArr_apply hc]
    refine congrArg Real.toEReal ?_
    dsimp only
    congr 1 <;> omega

include hq hk hv hs in
theorem outs_hold : Holds (cat (t := .bf16) (((cfg0.win 6).blk t).view.read (Elt Ideal) (oArr q k v s))
      (((cfg0.win 7).blk t).view.read (Elt Ideal) (oArr q k v s)))
    (outOf (rd q) (rd k) (rd v) (rd1 s) (grid0.coords t 1).val (grid0.coords t 0).val) := by
  have := pair_lt t
  have := step_lt t
  refine cat_holds t (fun r c => out (rd q) (rd k) (rd v) (rd1 s) (r / 128) (r % 128) ((512 * (grid0.coords t 0).val + c) / 256)
    ((512 * (grid0.coords t 0).val + c) / 64 % 4) (c % 64)) (fun r l => ?_) fun r l => ?_
  · rw [block6, oArr_apply hq hk hv hs]
    refine congrArg Real.toEReal ?_
    dsimp only
    congr 1; omega
  · rw [block7 t _ r l _ (min_lt t) (index7 t), oArr_apply hq hk hv hs]
    refine congrArg Real.toEReal ?_
    dsimp only
    congr 1; omega

include hq hk hs in
theorem logs_hold : Holds (cat (t := .f32) (((cfg0.win 8).blk t).view.read (Elt Ideal) (lseArr q k s))
      (((cfg0.win 9).blk t).view.read (Elt Ideal) (lseArr q k s)))
    (logOf (rd q) (rd k) (rd1 s) (grid0.coords t 1).val (grid0.coords t 0).val) := by
  refine cat_holds t (fun r c => Real.log (den (rd q) (rd k) (rd1 s) (r / 128) (r % 128) ((512 * (grid0.coords t 0).val + c) / 256)
    ((512 * (grid0.coords t 0).val + c) / 64 % 4))) (fun r l => ?_) fun r l => ?_
  · rw [block8, lseArr_apply hq hk hs]
  · rw [block9 t _ r l _ (min_lt t) (index9 t), lseArr_apply hq hk hs]

include hq hk hv hs hc in
/-- A tile's block of the keys' gradient is the reference's array at the block's place. -/
theorem dkBlock_eq (y : S512x128.Idx) :
    dkBlock (grid0.coords t) (((cfg0.win 0).blk t).view.read (Elt Ideal) (qkArr q k)) (((cfg0.win 1).blk t).view.read (Elt Ideal) (vArr v))
      ((cfg0.win 2).fill (cfg0.grid.coords t) (dflt0_2 (F := Ideal)) (((cfg0.win 2).blk t).view.read (Elt Ideal) (qkArr q k)))
      ((cfg0.win 3).fill (cfg0.grid.coords t) (dflt0_3 (F := Ideal)) (((cfg0.win 3).blk t).view.read (Elt Ideal) (qkArr q k)))
      (((cfg0.win 4).blk t).view.read (Elt Ideal) (ctArr ct)) (((cfg0.win 5).blk t).view.read (Elt Ideal) (ctArr ct))
      (((cfg0.win 6).blk t).view.read (Elt Ideal) (oArr q k v s)) (((cfg0.win 7).blk t).view.read (Elt Ideal) (oArr q k v s))
      (((cfg0.win 8).blk t).view.read (Elt Ideal) (lseArr q k s)) (((cfg0.win 9).blk t).view.read (Elt Ideal) (lseArr q k s)) y
      = dkArr q k v s ct (((View.whole main_v90_0).slice (win0_10.rect t)).emb y) := by
  have := pair_lt t
  have := step_lt t
  have h0 : (y 0).val < 512 := (y 0).isLt
  have h1 : (y 1).val < 128 := (y 1).isLt
  have e : ((View.whole main_v90_0).slice (win0_10.rect t)).emb y
      = ix2 ⟨512 * (grid0.coords t 1).val + (y 0).val, by omega⟩ ⟨128 * (grid0.coords t 0).val + (y 1).val, by omega⟩ := by
    blk_ext [index10 t]
  rw [e, dkArr_apply hq hk hv hs hc]
  refine (dkOf_apply (keys_hold hq hk t) (vals_hold hv t) (queries_hold hq hk t) (cots_hold hc t) (outs_hold hq hk hv hs t)
    (logs_hold hq hk hs t) ⟨(y 0).val / 128, by omega⟩ ⟨(y 0).val % 128, by omega⟩ (y 1)).trans (congrArg Real.toEReal ?_)
  dsimp only
  rw [keyGrad_eq _ _ _ _ _ (by omega) (by omega) (by omega)]
  congr 1 <;> omega

include hq hk hs hc in
/-- A tile's block of the values' gradient is the reference's array at the block's place. -/
theorem dvBlock_eq (y : S512x128.Idx) :
    dvBlock (grid0.coords t) (((cfg0.win 0).blk t).view.read (Elt Ideal) (qkArr q k))
      ((cfg0.win 2).fill (cfg0.grid.coords t) (dflt0_2 (F := Ideal)) (((cfg0.win 2).blk t).view.read (Elt Ideal) (qkArr q k)))
      ((cfg0.win 3).fill (cfg0.grid.coords t) (dflt0_3 (F := Ideal)) (((cfg0.win 3).blk t).view.read (Elt Ideal) (qkArr q k)))
      (((cfg0.win 4).blk t).view.read (Elt Ideal) (ctArr ct)) (((cfg0.win 5).blk t).view.read (Elt Ideal) (ctArr ct))
      (((cfg0.win 8).blk t).view.read (Elt Ideal) (lseArr q k s)) (((cfg0.win 9).blk t).view.read (Elt Ideal) (lseArr q k s)) y
      = dvArr q k s ct (((View.whole main_v90_1).slice (win0_11.rect t)).emb y) := by
  have := pair_lt t
  have := step_lt t
  have h0 : (y 0).val < 512 := (y 0).isLt
  have h1 : (y 1).val < 128 := (y 1).isLt
  have e : ((View.whole main_v90_1).slice (win0_11.rect t)).emb y
      = ix2 ⟨512 * (grid0.coords t 1).val + (y 0).val, by omega⟩ ⟨128 * (grid0.coords t 0).val + (y 1).val, by omega⟩ := by
    blk_ext [index11 t]
  rw [e, dvArr_apply hq hk hs hc]
  refine (dvOf_apply (keys_hold hq hk t) (queries_hold hq hk t) (cots_hold hc t)
    (logs_hold hq hk hs t) ⟨(y 0).val / 128, by omega⟩ ⟨(y 0).val % 128, by omega⟩ (y 1)).trans (congrArg Real.toEReal ?_)
  dsimp only
  rw [valGrad_eq _ _ _ _ (by omega) (by omega) (by omega)]
  congr 1 <;> omega

end

/-! ### The arrays after the last step -/

variable (m : (ℓ : Loc nD τ sig) → Buf (Elt Ideal) ℓ) (c : Dev nD) (hq : Fine (arg0 m c)) (hk : Fine (arg1 m c)) (hv : Fine (arg2 m c))
  (hs : Fine (arg3 m c)) (hc : Fine (arg4 m c))

include hq hk hv hs hc in
theorem final10 : (dats m 0 c).arrAt 10 cfg0.N = dkArr (arg0 m c) (arg1 m c) (arg2 m c) (arg3 m c) (arg4 m c) := by
  refine (dats m 0 c).arrAt_eq_of_covers 10 _ (by decide +kernel) fun t hf y => ?_
  blk_simp
  rw [after0_10, outsAt0]
  dsimp only
  rw [Cert.Tile.out10, ← dkBlock_eq hq hk hv hs hc t y, ← V_v82, ← V_v86, ← V_v88, ← V_v89, ← V_v78]
  rfl

include hq hk hs hc in
theorem final11 : (dats m 0 c).arrAt 11 cfg0.N = dvArr (arg0 m c) (arg1 m c) (arg3 m c) (arg4 m c) := by
  refine (dats m 0 c).arrAt_eq_of_covers 11 _ (by decide +kernel) fun t hf y => ?_
  blk_simp
  rw [after0_11, outsAt0]
  dsimp only
  rw [Cert.Tile.out11, ← dvBlock_eq hq hk hs hc t y, ← V_v82, ← V_v88, ← V_v78]
  rfl

end Cert.Array
-- ==== Proof.Fine.lean ====
/- Hand-written. The precondition read: every argument element is a real number. -/
module

public import proofs.«01_k».proof.Pre_finite
public import proofs.«01_k».proof.Pre_finite_ffn
public import proofs.«01_k».proof.Pre_finite_swa
public import proofs.«01_k».proof.Proof.Spec
public import Idealize.ShloMosaic.Lib.Pointwise

@[expose] public section

noncomputable section

namespace Cert.Proof

open Idealize.ShloMosaic Cert.Spec

theorem preFacts : Cert.Pre_finite.Facts where
  bcast_S_S1x8192x16x64 := by decide
  bcast_S_S1x8192x4x64 := by decide
  bcast_S_S16 := by decide

theorem preFactsFfn : Cert.Pre_finite_ffn.Facts where
  bcast_S_S1x8192x1024 := by decide
  bcast_S_S1024x2816 := by decide
  bcast_S_S2816x1024 := by decide

theorem preFactsSwa : Cert.Pre_finite_swa.Facts where
  bcast_S_S1x8192x16x64 := by decide
  bcast_S_S1x8192x4x64 := by decide
  bcast_S_S16 := by decide

/-- An array whose magnitudes all lie below infinity is an array of reals. -/
theorem fine_of_lt {s : Shape} (d : Fin 0 → Fin s.rank) (h : Cert.Pre_finite.S_.BroadcastsInDim s d) (x : FVec Ideal s .f32)
    (e : cmpf .olt (Host.absf x) (broadcastInDim s d h (constant (F := Ideal) Cert.Pre_finite.S_ .f32 0x7F800000#32)) = fun _ => 1#1) : Fine x := by
  intro i
  have hi := congrFun e i
  have hi' : BitVec.ofBool (decide (max (x i) (-(x i)) < (Ideal.ofBits .f32 0x7F800000#32 : EReal))) = 1#1 := hi
  have ht : (Ideal.ofBits .f32 0x7F800000#32 : EReal) = ⊤ := by
    simp [Ideal.ofBits, Ideal.ieee]
  rw [ht] at hi'
  have hlt : max (x i) (-(x i)) < ⊤ := by
    by_contra hn
    rw [decide_eq_false hn] at hi'
    exact absurd hi' (by decide)
  refine ⟨fun h1 => ?_, fun h1 => ?_⟩
  · rw [h1] at hlt; simp at hlt
  · rw [h1] at hlt; simp at hlt

end Cert.Proof

end
-- ==== Proof.DwDown.lean ====
/- Hand-written. The down projection's weight gradient: what the kernel's grid leaves, for any operands. -/
module

public import proofs.«01_k».proof.Proof.Gen.DwDownIdeal.Value
public import Idealize.ShloMosaic.Lib.Pipeline.ValueKit.Point
public import Idealize.ShloMosaic.Lib.Pipeline.ValueKit.Acc
public import Idealize.ShloMosaic.Lib.Pointwise

@[expose] public section

noncomputable section

namespace Cert.DwDownArray

open Cert.DwDownIdeal Cert.DwDownIdeal.Gen Idealize.ShloMosaic Idealize.ShloMosaic.TcCoe
open scoped BigOperators

/-- The product of a tall array's transpose with another: the sum over the rows. -/
def prod (a : Vec Ideal S8192x3072 .bf16) (b : Vec Ideal S8192x1024 .bf16) : Vec Ideal S3072x1024 .f32 :=
  fun i => ∑ l : Fin 8192, a (ix2 l (i 0)) * b (ix2 l (i 1))

theorem pay_apply (x y : Vec Ideal S2048x1024 .bf16) (r c : Fin 1024) :
    k0_pay1 x y (ix2 r c) = ∑ k : Fin 2048, x (ix2 k r) * y (ix2 k c) := by
  pointwise [k0_pay1]

theorem pay_add (x y : Vec Ideal S2048x1024 .bf16) (z : Vec Ideal S1024x1024 .f32) (j : S1024x1024.Idx) :
    k0_pay2 x y z j = z j + k0_pay1 x y j := by
  obtain ⟨r, c, rfl⟩ : ∃ r c, j = ix2 r c := ⟨j 0, j 1, by funext k; fin_cases k <;> rfl⟩
  pointwise [k0_pay2]

theorem index0 : ∀ t : Fin cfg0.N, win0_0.index t = ![t.val % 4, t.val / 4] :=
  (by decide +kernel : ∀ t : Fin grid0.N, win0_0.index t = ![t.val % 4, t.val / 4])
theorem index1 : ∀ t : Fin cfg0.N, win0_1.index t = ![t.val % 4, 0] :=
  (by decide +kernel : ∀ t : Fin grid0.N, win0_1.index t = ![t.val % 4, 0])
theorem index2 : ∀ t : Fin cfg0.N, win0_2.index t = ![t.val / 4, 0] :=
  (by decide +kernel : ∀ t : Fin grid0.N, win0_2.index t = ![t.val / 4, 0])

theorem point_lt (t : Fin cfg0.N) : t.val < 12 := lt_of_lt_of_eq t.isLt N_0

theorem step_lt (t : Fin cfg0.N) (s : Fin 4) : 4 * (t.val / 4) + s.val < cfg0.N :=
  lt_of_lt_of_eq (by have := point_lt t; omega) N_0.symm

theorem block0 (t : Fin cfg0.N) (g s : Nat) (hg : g < 3) (hs : s < 4) (ht : t.val = 4 * g + s) (A : Vec Ideal S8192x3072 .bf16)
    (r : Fin 2048) (l : Fin 1024) :
    ((cfg0.win 0).blk t).view.read (Elt Ideal) A (ix2 r l) = A (ix2 ⟨s * 2048 + r, by omega⟩ ⟨1024 * g + l, by omega⟩) := by
  have h1 : t.val / 4 = g := by omega
  have h2 : t.val % 4 = s := by omega
  blk_simp
  refine congrArg A ?_
  blk_ext [index0 t, h1, h2]

theorem block1 (t : Fin cfg0.N) (g s : Nat) (hs : s < 4) (ht : t.val = 4 * g + s) (A : Vec Ideal S8192x1024 .bf16)
    (r : Fin 2048) (l : Fin 1024) :
    ((cfg0.win 1).blk t).view.read (Elt Ideal) A (ix2 r l) = A (ix2 ⟨s * 2048 + r, by omega⟩ l) := by
  have h2 : t.val % 4 = s := by omega
  blk_simp
  refine congrArg A ?_
  blk_ext [index1 t, h2]

/-- The four points of a block, together: the product at the block's place. -/
theorem run_sum (t : Fin cfg0.N) (a : Vec Ideal S8192x3072 .bf16) (b : Vec Ideal S8192x1024 .bf16) (r q : Fin 1024) :
    (∑ s : Fin 4, k0_pay1 (((cfg0.win 0).blk ⟨4 * (t.val / 4) + s, step_lt t s⟩).view.read (Elt Ideal) a)
      (((cfg0.win 1).blk ⟨4 * (t.val / 4) + s, step_lt t s⟩).view.read (Elt Ideal) b) (ix2 r q) : EReal)
      = prod a b (ix2 ⟨1024 * (t.val / 4) + r.val, by have := point_lt t; omega⟩ q) := by
  have := point_lt t
  refine Eq.trans (Finset.sum_congr rfl fun s _ => (pay_apply _ _ _ _).trans (Finset.sum_congr rfl fun k _ => ?_))
    (Fin.sum_mul_add_fin 4 2048 (L := 8192)
      (fun l => (a (ix2 l ⟨1024 * (t.val / 4) + r.val, by omega⟩) * b (ix2 l q) : EReal)))
  rw [block0 _ (t.val / 4) s.val (by omega) s.isLt rfl, block1 _ (t.val / 4) s.val s.isLt rfl]

variable (m : (ℓ : Loc nD τ sig) → Buf (Elt Ideal) ℓ) (c : Dev nD)

/-- At the last of a block's four points the accumulated block is the sum over the points. -/
theorem outs_sum (t : Fin cfg0.N) (hf : (cfg0.win 2).flush t = true) (j : S1024x1024.Idx) :
    outsAt0 m c t.val t.isLt j = ∑ s : Fin 4, k0_pay1 (iblk m c 0 ⟨4 * (t.val / 4) + s, step_lt t s⟩)
      (iblk m c 1 ⟨4 * (t.val / 4) + s, step_lt t s⟩) j := by
  have h0 (k : Nat) (h : k % 4 = 0) : ¬1 ≤ k % 4 := by omega
  have h1 (k : Nat) (h : ¬k % 4 = 0) : 1 ≤ k % 4 := by omega
  rw [Pipeline.eq_sum_fin_of_reset_step_apply_of_flush (fun n h => outsAt0 m c n h) 4 (fun _ => 0)
    (fun t j => k0_pay1 (iblk m c 0 t) (iblk m c 1 t) j)
    (fun t h j => by rw [outsAt0_A m c t h (h0 _ h)]; frame_out; exact (zero_add _).symm)
    (fun t h j => by rw [outsAt0_B m c t h (h1 _ h)]; frame_out; exact pay_add _ _ _ _) t ((flush0_2 t).mp hf) j]
  exact zero_add _

theorem final (a : Vec Ideal S8192x3072 .bf16) (b : Vec Ideal S8192x1024 .bf16) (ha : V m c main_v9 = a) (hb : V m c main_v11 = b) :
    (dats m 0 c).arrAt 2 cfg0.N = prod a b := by
  refine (dats m 0 c).arrAt_eq_of_covers 2 _ (by decide +kernel) fun t hf y => ?_
  have := point_lt t
  obtain ⟨r, q, rfl⟩ : ∃ (r q : Fin 1024), y = ix2 r q := ⟨y 0, y 1, by funext k; fin_cases k <;> rfl⟩
  have e : (win0_2.blk t).view.emb (ix2 r q) = ix2 ⟨1024 * (t.val / 4) + r.val, by omega⟩ q := by
    blk_ext [index2 t]
  have i0 (u : Fin cfg0.N) : iblk m c 0 u = ((cfg0.win 0).blk u).view.read (Elt Ideal) a := by rw [← ha]; rfl
  have i1 (u : Fin cfg0.N) : iblk m c 1 u = ((cfg0.win 1).blk u).view.read (Elt Ideal) b := by rw [← hb]; rfl
  blk_simp
  rw [after0_2, outs_sum m c t hf, e]
  simp only [i0, i1]
  exact run_sum t a b r q

end Cert.DwDownArray

end
-- ==== Proof.FfnStages.lean ====
/- Hand-written. The gated product's intermediate arrays and its cotangents, stage by stage, over extended reals: what the host lines
   of the feed-forward programs and the references' terms are made of. -/
module

public import proofs.«01_k».proof.Proof.Gen.RefDxGateUpIdeal.Run
public import Idealize.ShloMosaic.Lib.Pointwise
public import Idealize.ShloMosaic.Lib.Pipeline.ValueKit.Acc

@[expose] public section

noncomputable section

namespace Cert.Ffn

open Cert.RefDxGateUpIdeal Cert.RefDxGateUpIdeal.Gen Idealize.ShloMosaic Idealize.ShloMosaic.TcCoe
open scoped BigOperators

/-- The activations, the hidden activations and the two shapes of weights. -/
abbrev Act := FVec Ideal S1x8192x1024 .f32
abbrev Hid := FVec Ideal S1x8192x2816 .f32
abbrev Win := FVec Ideal S1024x2816 .f32
abbrev Wout := FVec Ideal S2816x1024 .f32

/-- The gate's or the up projection's product. -/
def into (x : Act) (w : Win) : Hid := Host.dotGeneral dot_S1x8192x1024_S1024x2816_S1x8192x2816_2_0_01_1_n_n none x w
def one : Hid := broadcastInDim S1x8192x2816 ![] bcast_S_S1x8192x2816 (constant S_ .f32 0x3F800000#32)
def sigm (a : Hid) : Hid := Host.divf one (addf one (Host.exp (Host.negf a)))
def swish (a : Hid) : Hid := mulf a (sigm a)
def hid (a b : Hid) : Hid := mulf (swish a) b
/-- The down projection's cotangent. -/
def back (ct : Act) (w : Wout) : Hid := Host.dotGeneral dot_S1x8192x1024_S2816x1024_S1x8192x2816_2_1_01_0_n_n none ct w
/-- The gate's and the up projection's cotangents. -/
def dGate (a b g : Hid) : Hid :=
  addf (mulf (mulf g b) (sigm a)) (mulf (mulf a (mulf g b)) (mulf (sigm a) (subf one (sigm a))))
def dUp (a g : Hid) : Hid := mulf (swish a) g

/-- Padded lane `f` of the hidden axis is owner `f / 384`'s lane `f % 384`: one of the 2816 hidden units, or zero. -/
def padded (f : Fin 2816 → EReal) (l : Fin 3072) : EReal :=
  if h : l.val % 384 < 352 then f ⟨l.val / 384 * 352 + l.val % 384, by omega⟩ else 0

/-- Lane `k` of an owner's 384: one of its 352 hidden units, or zero. -/
def lane (f : Fin 2816 → EReal) (o : Fin 8) (k : Nat) : EReal :=
  if h : k < 352 then f ⟨o.val * 352 + k, by omega⟩ else 0

/-- Lane `l` of an owner's 768: 384 of one kind, then 384 of another. -/
def paired (f g : Fin 2816 → EReal) (o : Fin 8) (l : Nat) : EReal := if l < 384 then lane f o l else lane g o (l - 384)

theorem lane_mul (f g : Fin 2816 → EReal) (o : Fin 8) (k : Nat) : lane f o k * lane g o k = lane (fun i => f i * g i) o k := by
  unfold lane
  split
  · rfl
  · exact zero_mul 0

theorem paired_mul (f g f' g' : Fin 2816 → EReal) (o : Fin 8) (l : Nat) :
    paired f g o l * paired f' g' o l = paired (fun i => f i * f' i) (fun i => g i * g' i) o l := by
  unfold paired
  split <;> exact lane_mul ..

theorem sum_lane (f : Fin 2816 → EReal) (o : Fin 8) :
    ∑ k : Fin 384, lane f o k.val = ∑ k : Fin 352, f ⟨o.val * 352 + k.val, by omega⟩ := by
  refine (Fin.sum_univ_add (a := 352) (b := 32) fun k => lane f o k.val).trans ?_
  have e : ∑ k : Fin 32, lane f o (Fin.natAdd 352 k).val = 0 :=
    Finset.sum_eq_zero fun k _ => dif_neg (by simp)
  rw [e, add_zero]
  exact Finset.sum_congr rfl fun k _ => dif_pos k.isLt

theorem sum_paired (f g : Fin 2816 → EReal) (o : Fin 8) :
    ∑ l : Fin 768, paired f g o l.val = ∑ k : Fin 384, lane f o k.val + ∑ k : Fin 384, lane g o k.val := by
  refine (Fin.sum_univ_add (a := 384) (b := 384) fun l => paired f g o l.val).trans (congrArg₂ _ ?_ ?_)
  · exact Finset.sum_congr rfl fun k _ => if_pos k.isLt
  · refine Finset.sum_congr rfl fun k _ => ?_
    unfold paired
    rw [if_neg (by simp)]
    exact congrArg _ (by simp)

/-- A product over all the owners' lanes is the sum of the two products over the hidden axis. -/
theorem sum_owners (f g f' g' : Fin 2816 → EReal) :
    ∑ o : Fin 8, ∑ l : Fin 768, paired f g o l.val * paired f' g' o l.val = ∑ i, f i * f' i + ∑ i, g i * g' i := by
  simp only [paired_mul, sum_paired, sum_lane, Finset.sum_add_distrib]
  exact congrArg₂ _ (Fin.sum_mul_add_fin 8 352 (L := 2816) fun i => f i * f' i) (Fin.sum_mul_add_fin 8 352 (L := 2816) fun i => g i * g' i)

end Cert.Ffn

end
-- ==== Proof.DwDownRef.lean ====
/- Hand-written. The reference's weight gradient of the down projection, at an index. -/
module

public import proofs.«01_k».proof.Proof.FfnStages
public import proofs.«01_k».proof.Proof.Gen.RefDwDownIdeal.Run

@[expose] public section

noncomputable section

namespace Cert.DwDownRef

open Cert.RefDwDownIdeal Cert.RefDwDownIdeal.Gen Idealize.ShloMosaic Idealize.ShloMosaic.TcCoe Cert.Ffn
open scoped BigOperators

/-- The product of the cotangents' transpose and the hidden activations. -/
def dw (u : Hid) (ct : Act) : FVec Ideal S1024x2816 .f32 :=
  Host.dotGeneral (φ₁ := .f32) (φ₂ := .f32) dot_S1x8192x1024_S1x8192x2816_S1024x2816_01_01_2_2_n_n none ct u

theorem dw_apply (u : Hid) (ct : Act) (q : Fin 1024) (f : Fin 2816) : dw u ct (ix2 q f) = ∑ t : Fin 8192, ct (ix3 0 t q) * u (ix3 0 t f) := by
  pointwise [dw]
  exact Fin.sum_univ_one _

/-- It transposed, its rows by owner. -/
def refArr (w : FVec Ideal S1024x2816 .f32) : FVec Ideal S3072x1024 .f32 :=
  shapeCast _ (concatenate S8x384x1024 1 [⟨S8x352x1024, shapeCast _ (transpose S2816x1024 [1, 0] w transposes_S1024x2816_S2816x1024_1_0) shapeCasts_S2816x1024_S8x352x1024⟩,
    ⟨S8x32x1024, broadcastInDim S8x32x1024 ![] bcast_S_S8x32x1024 (constant (F := Ideal) S_ .f32 0x00000000#32)⟩]
    concatenates_S8x352x1024_S8x32x1024_S8x384x1024_d1) shapeCasts_S8x384x1024_S3072x1024

theorem refArr_apply (w : FVec Ideal S1024x2816 .f32) (r : Fin 3072) (q : Fin 1024) :
    refArr w (ix2 r q) = padded (fun f => w (ix2 q f)) r := by
  unfold padded
  pointwise [refArr]

end Cert.DwDownRef

end
-- ==== Proof.DwDownHost.lean ====
/- Hand-written. The down projection's weight gradient: the arrays its call is given, and the reference's array, at an index. -/
module

public import proofs.«01_k».proof.Proof.DwDown
public import proofs.«01_k».proof.Proof.FfnStages
public import proofs.«01_k».proof.Proof.DwDownRef

@[expose] public section

noncomputable section

namespace Cert.DwDownArray

open Cert.DwDownIdeal Cert.DwDownIdeal.Gen Idealize.ShloMosaic Idealize.ShloMosaic.TcCoe Cert.Ffn Cert.DwDownRef
open scoped BigOperators

def uArr (u : Hid) : FVec Ideal S8192x3072 .bf16 :=
  truncf .bf16 (shapeCast _ (concatenate S8192x8x384 2 [⟨S8192x8x352, shapeCast _ (shapeCast S8192x2816 u shapeCasts_S1x8192x2816_S8192x2816) shapeCasts_S8192x2816_S8192x8x352⟩,
    ⟨S8192x8x32, broadcastInDim S8192x8x32 ![] bcast_S_S8192x8x32 (constant (F := Ideal) S_ .f32 0x00000000#32)⟩]
    concatenates_S8192x8x352_S8192x8x32_S8192x8x384_d2) shapeCasts_S8192x8x384_S8192x3072) bitsLt_bf16_f32

def ctArr (ct : Act) : FVec Ideal S8192x1024 .bf16 :=
  truncf .bf16 (shapeCast _ ct shapeCasts_S1x8192x1024_S8192x1024) bitsLt_bf16_f32

variable (m : (ℓ : Loc nD τ sig) → Buf (Elt Ideal) ℓ) (c : Dev nD)

abbrev arg0 : Act := m ((c : Thread nD τ).loc main_arg0)
abbrev arg1 : Win := m ((c : Thread nD τ).loc main_arg1)
abbrev arg2 : Win := m ((c : Thread nD τ).loc main_arg2)
abbrev arg3 : Wout := m ((c : Thread nD τ).loc main_arg3)
abbrev arg4 : Act := m ((c : Thread nD τ).loc main_arg4)

set_option maxHeartbeats 4000000 in
theorem V_v9 : V m c main_v9 = uArr (hid (into (arg0 m c) (arg1 m c)) (into (arg0 m c) (arg2 m c))) := by
  simp only [V, hostOps0, hostOps0_1, hostOps0_2, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

set_option maxHeartbeats 4000000 in
theorem V_v11 : V m c main_v11 = ctArr (arg4 m c) := by
  simp only [V, hostOps0, hostOps0_1, hostOps0_2, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem uArr_apply (u : Hid) (t : Fin 8192) (l : Fin 3072) : uArr u (ix2 t l) = padded (fun f => u (ix3 0 t f)) l := by
  unfold padded
  pointwise [uArr]

theorem ctArr_apply (ct : Act) (t : Fin 8192) (l : Fin 1024) : ctArr ct (ix2 t l) = ct (ix3 0 t l) := by
  pointwise [ctArr]

theorem refArr_eq (u : Hid) (ct : Act) : refArr (dw u ct) = prod (uArr u) (ctArr ct) := by
  funext i
  obtain ⟨r, q, rfl⟩ : ∃ (r : Fin 3072) (q : Fin 1024), i = ix2 r q := ⟨i 0, i 1, by funext k; fin_cases k <;> rfl⟩
  rw [refArr_apply]
  show _ = ∑ t : Fin 8192, uArr u (ix2 t r) * ctArr ct (ix2 t q)
  simp only [uArr_apply, ctArr_apply, padded, dw_apply]
  split
  · exact Finset.sum_congr rfl fun t _ => mul_comm _ _
  · simp

end Cert.DwDownArray

end
-- ==== Proof.Hidden.lean ====
/- Hand-written. The hidden cotangents: what the kernel's grid leaves, for any operands. -/
module

public import proofs.«01_k».proof.Proof.Gen.HiddenIdeal.Value
public import Idealize.ShloMosaic.Lib.Pipeline.ValueKit.Point
public import Idealize.ShloMosaic.Lib.Pipeline.ValueKit.Acc
public import Idealize.ShloMosaic.Lib.Pipeline.CanonAppend
public import Idealize.ShloMosaic.Lib.Pointwise

@[expose] public section

noncomputable section

namespace Cert.HiddenArray

open Cert.HiddenIdeal Cert.HiddenIdeal.Gen Idealize.ShloMosaic Idealize.ShloMosaic.TcCoe
open scoped BigOperators

/-! ### One element -/

def mag (a : EReal) : EReal := Ideal.exp (0 - FloatOps.absf (F := Ideal) (φ := .f32) a)
def inv (a : EReal) : EReal := Ideal.div 1 (1 + mag a)
/-- The sigmoid and its complement, each from the exponential of minus the magnitude. -/
def sg (a : EReal) : EReal := if 0 ≤ a then inv a else mag a * inv a
def cosg (a : EReal) : EReal := if 0 ≤ a then mag a * inv a else inv a
/-- The gate's and the up projection's cotangent, from the hidden cotangent and the two products. -/
def gateOf (g a b : EReal) : EReal := g * b * (sg a + a * sg a * cosg a)
def upOf (g a : EReal) : EReal := g * (a * sg a)

/-! ### One point -/

section Point

variable (x0 : Vec Ideal S1024x1024 .bf16) (x1 : Vec Ideal S384x1024 .bf16) (x2 : Vec Ideal S1024x768 .bf16)

/-- The hidden cotangent at a row and a lane of the owner. -/
def back1 (r : Fin 1024) (l : Fin 384) : EReal := ∑ k : Fin 1024, x0 (ix2 r k) * x1 (ix2 l k)

def gateCell (r : Fin 1024) (l : Fin 384) : EReal := gateOf (back1 x0 x1 r l) (x2 (ix2 r ⟨l, by omega⟩)) (x2 (ix2 r ⟨384 + l, by omega⟩))
def upCell (r : Fin 1024) (l : Fin 384) : EReal := upOf (back1 x0 x1 r l) (x2 (ix2 r ⟨l, by omega⟩))

/-- What one point leaves: an owner's gate lanes, then its up lanes. -/
def block : Vec Ideal S1024x768 .bf16 := fun y =>
  if h : (y 1).val < 384 then gateCell x0 x1 x2 (y 0) ⟨(y 1).val, h⟩
  else upCell x0 x1 x2 (y 0) ⟨(y 1).val - 384, by have : (y 1).val < 768 := (y 1).isLt; omega⟩

theorem block_gate (r : Fin 1024) (l : Fin 384) (h : 0 + l.val < 768) : block x0 x1 x2 (ix2 r ⟨0 + l, h⟩) = gateCell x0 x1 x2 r l := by
  refine (dif_pos (by show 0 + l.val < 384; omega)).trans (congrArg _ (Fin.ext ?_))
  show 0 + l.val = l.val
  omega

theorem block_up (r : Fin 1024) (l : Fin 384) (h : 384 + l.val < 768) : block x0 x1 x2 (ix2 r ⟨384 + l, h⟩) = upCell x0 x1 x2 r l := by
  refine (dif_neg (by show ¬(384 + l.val < 384); omega)).trans (congrArg _ (Fin.ext ?_))
  show 384 + l.val - 384 = l.val
  omega

theorem place (R : Nat) (C : Nat) (hR : R + 256 ≤ 1024) (hC : C + 384 ≤ 768) (h) (r : Fin 256) (l : Fin 384) :
    (Rect.unit (s := S1024x768) ![R, C] S256x384.size h).emb (ix2 r l) = ix2 ⟨R + r, by omega⟩ ⟨C + l, by omega⟩ := by
  funext a
  fin_cases a <;> exact Fin.ext (by simp [Rect.emb, Rect.unit])

theorem gate0 (r : Fin 256) (l : Fin 384) :
    k0_pay18 (View.ld x0 r0_0) (View.ld x1 r0_1) (View.ld x2 r0_2) (View.ld x2 r0_3) (ix2 r l) = gateCell x0 x1 x2 ⟨0 + r, by omega⟩ l := by
  unfold gateCell gateOf sg cosg inv mag back1
  pointwise [k0_pay18, k0_pay17, k0_pay16, k0_pay15, k0_pay14, k0_pay13, k0_pay12, k0_pay11, k0_pay10]

theorem up0 (r : Fin 256) (l : Fin 384) :
    k0_pay19 (View.ld x0 r0_0) (View.ld x1 r0_1) (View.ld x2 r0_2) (ix2 r l) = upCell x0 x1 x2 ⟨0 + r, by omega⟩ l := by
  unfold upCell upOf sg inv mag back1
  pointwise [k0_pay19, k0_pay17, k0_pay16, k0_pay15, k0_pay14, k0_pay13, k0_pay12, k0_pay11, k0_pay10]

theorem gate1 (r : Fin 256) (l : Fin 384) :
    k0_pay28 (View.ld x0 r0_4) (View.ld x1 r0_1) (View.ld x2 r0_5) (View.ld x2 r0_6) (ix2 r l) = gateCell x0 x1 x2 ⟨256 + r, by omega⟩ l := by
  unfold gateCell gateOf sg cosg inv mag back1
  pointwise [k0_pay28, k0_pay27, k0_pay26, k0_pay25, k0_pay24, k0_pay23, k0_pay22, k0_pay21, k0_pay20]

theorem up1 (r : Fin 256) (l : Fin 384) :
    k0_pay29 (View.ld x0 r0_4) (View.ld x1 r0_1) (View.ld x2 r0_5) (ix2 r l) = upCell x0 x1 x2 ⟨256 + r, by omega⟩ l := by
  unfold upCell upOf sg inv mag back1
  pointwise [k0_pay29, k0_pay27, k0_pay26, k0_pay25, k0_pay24, k0_pay23, k0_pay22, k0_pay21, k0_pay20]

theorem gate2 (r : Fin 256) (l : Fin 384) :
    k0_pay40 (k0_pay43 x0 x1 x2) (k0_pay44 x0 x1 x2) (View.ld x2 r0_8) (View.ld x2 r0_9) (ix2 r l) = gateCell x0 x1 x2 ⟨512 + r, by omega⟩ l := by
  unfold gateCell gateOf sg cosg inv mag back1 k0_pay43 k0_pay44
  pointwise [k0_pay40, k0_pay39, k0_pay38, k0_pay37, k0_pay36, k0_pay35, k0_pay34, k0_pay33, k0_pay32, k0_pay31, k0_pay30]

theorem up2 (r : Fin 256) (l : Fin 384) :
    k0_pay41 (k0_pay43 x0 x1 x2) (k0_pay44 x0 x1 x2) (View.ld x2 r0_8) (ix2 r l) = upCell x0 x1 x2 ⟨512 + r, by omega⟩ l := by
  unfold upCell upOf sg inv mag back1 k0_pay43 k0_pay44
  pointwise [k0_pay41, k0_pay39, k0_pay38, k0_pay37, k0_pay36, k0_pay35, k0_pay34, k0_pay33, k0_pay32, k0_pay31, k0_pay30]

theorem gate3 (r : Fin 256) (l : Fin 384) :
    k0_pay8 (k0_pay45 x0 x1 x2) (View.ld x2 r0_11) (View.ld x2 r0_12) (ix2 r l) = gateCell x0 x1 x2 ⟨768 + r, by omega⟩ l := by
  unfold gateCell gateOf sg cosg inv mag back1 k0_pay45
  pointwise [k0_pay8, k0_pay7, k0_pay6, k0_pay5, k0_pay4, k0_pay3, k0_pay2, k0_pay1, k0_pay42]

theorem up3 (r : Fin 256) (l : Fin 384) :
    k0_pay9 (k0_pay45 x0 x1 x2) (View.ld x2 r0_11) (ix2 r l) = upCell x0 x1 x2 ⟨768 + r, by omega⟩ l := by
  unfold upCell upOf sg inv mag back1 k0_pay45
  pointwise [k0_pay9, k0_pay7, k0_pay6, k0_pay5, k0_pay4, k0_pay3, k0_pay2, k0_pay1, k0_pay42]

theorem out_eq : out0_3 x0 x1 x2 = block x0 x1 x2 := by
  funext y
  unfold out0_3
  refine View.canon_apply_of_pieces _ _ ?_ y (cover0_3 _ _ _ _ _ _ _ _ y)
  intro p hp x
  have hx (x : S256x384.Idx) : ∃ (r : Fin 256) (l : Fin 384), x = ix2 r l := ⟨x 0, x 1, by funext k; fin_cases k <;> rfl⟩
  simp only [List.mem_cons, List.mem_nil_iff, or_false] at hp
  rcases hp with rfl | rfl | rfl | rfl | rfl | rfl | rfl | rfl
  · obtain ⟨r, l, rfl⟩ := hx x
    exact (up3 x0 x1 x2 r l).trans ((congrArg _ (place 768 384 (by omega) (by omega) inb_S1024x768_S256x384_768_384 r l)).trans (block_up x0 x1 x2 _ l _)).symm
  · obtain ⟨r, l, rfl⟩ := hx x
    exact (gate3 x0 x1 x2 r l).trans ((congrArg _ (place 768 0 (by omega) (by omega) inb_S1024x768_S256x384_768_0 r l)).trans (block_gate x0 x1 x2 _ l _)).symm
  · obtain ⟨r, l, rfl⟩ := hx x
    exact (up2 x0 x1 x2 r l).trans ((congrArg _ (place 512 384 (by omega) (by omega) inb_S1024x768_S256x384_512_384 r l)).trans (block_up x0 x1 x2 _ l _)).symm
  · obtain ⟨r, l, rfl⟩ := hx x
    exact (gate2 x0 x1 x2 r l).trans ((congrArg _ (place 512 0 (by omega) (by omega) inb_S1024x768_S256x384_512_0 r l)).trans (block_gate x0 x1 x2 _ l _)).symm
  · obtain ⟨r, l, rfl⟩ := hx x
    exact (up1 x0 x1 x2 r l).trans ((congrArg _ (place 256 384 (by omega) (by omega) inb_S1024x768_S256x384_256_384 r l)).trans (block_up x0 x1 x2 _ l _)).symm
  · obtain ⟨r, l, rfl⟩ := hx x
    exact (gate1 x0 x1 x2 r l).trans ((congrArg _ (place 256 0 (by omega) (by omega) inb_S1024x768_S256x384_256_0 r l)).trans (block_gate x0 x1 x2 _ l _)).symm
  · obtain ⟨r, l, rfl⟩ := hx x
    exact (up0 x0 x1 x2 r l).trans ((congrArg _ (place 0 384 (by omega) (by omega) inb_S1024x768_S256x384_0_384 r l)).trans (block_up x0 x1 x2 _ l _)).symm
  · obtain ⟨r, l, rfl⟩ := hx x
    exact (gate0 x0 x1 x2 r l).trans ((congrArg _ (place 0 0 (by omega) (by omega) inb_S1024x768_S256x384_0_0 r l)).trans (block_gate x0 x1 x2 _ l _)).symm

end Point

/-! ### The whole array -/

section Whole

variable (a : Vec Ideal S8192x1024 .bf16) (w : Vec Ideal S3072x1024 .bf16) (ab : Vec Ideal S8192x6144 .bf16)

/-- Row `t`, owner `o`, lane `l` of the owner's 768. -/
def cell (t : Fin 8192) (o : Fin 8) (l : Fin 768) : EReal :=
  if h : l.val < 384 then
    gateOf (∑ k : Fin 1024, a (ix2 t k) * w (ix2 ⟨384 * o + l, by omega⟩ k)) (ab (ix2 t ⟨768 * o + l, by omega⟩)) (ab (ix2 t ⟨768 * o + (384 + l), by omega⟩))
  else upOf (∑ k : Fin 1024, a (ix2 t k) * w (ix2 ⟨384 * o + (l - 384), by omega⟩ k)) (ab (ix2 t ⟨768 * o + (l - 384), by omega⟩))

def whole : Vec Ideal S8192x6144 .bf16 := fun i =>
  cell a w ab (i 0) ⟨(i 1).val / 768, by have : (i 1).val < 6144 := (i 1).isLt; omega⟩ ⟨(i 1).val % 768, by omega⟩

theorem index0 : ∀ t : Fin cfg0.N, win0_0.index t = ![t.val / 8, 0] :=
  (by decide +kernel : ∀ t : Fin grid0.N, win0_0.index t = ![t.val / 8, 0])
theorem index1 : ∀ t : Fin cfg0.N, win0_1.index t = ![t.val % 8, 0] :=
  (by decide +kernel : ∀ t : Fin grid0.N, win0_1.index t = ![t.val % 8, 0])
theorem index2 : ∀ t : Fin cfg0.N, win0_2.index t = ![t.val / 8, t.val % 8] :=
  (by decide +kernel : ∀ t : Fin grid0.N, win0_2.index t = ![t.val / 8, t.val % 8])
theorem index3 : ∀ t : Fin cfg0.N, win0_3.index t = ![t.val / 8, t.val % 8] :=
  (by decide +kernel : ∀ t : Fin grid0.N, win0_3.index t = ![t.val / 8, t.val % 8])

theorem point_lt (t : Fin cfg0.N) : t.val < 64 := lt_of_lt_of_eq t.isLt N_0

theorem block0 (t : Fin cfg0.N) (i : Nat) (hi : i < 8) (h : t.val / 8 = i) (r k : Fin 1024) :
    ((cfg0.win 0).blk t).view.read (Elt Ideal) a (ix2 r k) = a (ix2 ⟨i * 1024 + r, by omega⟩ k) := by
  blk_simp
  refine congrArg a ?_
  blk_ext [index0 t, h]

theorem block1 (t : Fin cfg0.N) (j : Nat) (hj : j < 8) (h : t.val % 8 = j) (l : Fin 384) (k : Fin 1024) :
    ((cfg0.win 1).blk t).view.read (Elt Ideal) w (ix2 l k) = w (ix2 ⟨384 * j + l, by omega⟩ k) := by
  blk_simp
  refine congrArg w ?_
  blk_ext [index1 t, h]

theorem block2 (t : Fin cfg0.N) (i j : Nat) (hi : i < 8) (hj : j < 8) (h0 : t.val / 8 = i) (h1 : t.val % 8 = j) (r : Fin 1024) (l : Fin 768) :
    ((cfg0.win 2).blk t).view.read (Elt Ideal) ab (ix2 r l) = ab (ix2 ⟨i * 1024 + r, by omega⟩ ⟨768 * j + l, by omega⟩) := by
  blk_simp
  refine congrArg ab ?_
  blk_ext [index2 t, h0, h1]

/-- A point's block is the whole array's at the block's place. -/
theorem block_whole (t : Fin cfg0.N) (i j : Nat) (hi : i < 8) (hj : j < 8) (h0 : t.val / 8 = i) (h1 : t.val % 8 = j) (r : Fin 1024) (q : Fin 768) :
    block (((cfg0.win 0).blk t).view.read (Elt Ideal) a) (((cfg0.win 1).blk t).view.read (Elt Ideal) w)
      (((cfg0.win 2).blk t).view.read (Elt Ideal) ab) (ix2 r q) = cell a w ab ⟨i * 1024 + r, by omega⟩ ⟨j, hj⟩ q := by
  unfold cell
  by_cases h : q.val < 384
  · refine (dif_pos h).trans (Eq.trans (b := gateCell _ _ _ r ⟨q.val, h⟩) rfl ?_)
    rw [dif_pos h]
    unfold gateCell back1
    simp only [block0 a t i hi h0, block1 w t j hj h1, block2 ab t i j hi hj h0 h1]
  · refine (dif_neg h).trans (Eq.trans (b := upCell _ _ _ r ⟨q.val - 384, by omega⟩) rfl ?_)
    rw [dif_neg h]
    unfold upCell back1
    simp only [block0 a t i hi h0, block1 w t j hj h1, block2 ab t i j hi hj h0 h1]

variable (m : (ℓ : Loc nD τ sig) → Buf (Elt Ideal) ℓ) (c : Dev nD)

theorem final (ha : V m c main_v13 = a) (hw : V m c main_v18 = w) (hab : V m c main_v19 = ab) :
    (dats m 0 c).arrAt 3 cfg0.N = whole a w ab := by
  refine (dats m 0 c).arrAt_eq_of_covers 3 _ (by decide +kernel) fun t hf y => ?_
  have := point_lt t
  obtain ⟨r, q, rfl⟩ : ∃ (r : Fin 1024) (q : Fin 768), y = ix2 r q := ⟨y 0, y 1, by funext k; fin_cases k <;> rfl⟩
  have e : (win0_3.blk t).view.emb (ix2 r q) = ix2 ⟨t.val / 8 * 1024 + r, by omega⟩ ⟨768 * (t.val % 8) + q, by omega⟩ := by
    blk_ext [index3 t]
  have i0 : iblk m c 0 t = ((cfg0.win 0).blk t).view.read (Elt Ideal) a := by rw [← ha]; rfl
  have i1 : iblk m c 1 t = ((cfg0.win 1).blk t).view.read (Elt Ideal) w := by rw [← hw]; rfl
  have i2 : iblk m c 2 t = ((cfg0.win 2).blk t).view.read (Elt Ideal) ab := by rw [← hab]; rfl
  blk_simp
  rw [after0_3, out_eq, e, i0, i1, i2]
  refine (block_whole a w ab t (t.val / 8) (t.val % 8) (by omega) (by omega) rfl rfl r q).trans ?_
  have e1 : (768 * (t.val % 8) + q.val) / 768 = t.val % 8 := by omega
  have e2 : (768 * (t.val % 8) + q.val) % 768 = q.val := by omega
  show _ = cell a w ab _ ⟨(768 * (t.val % 8) + q.val) / 768, _⟩ ⟨(768 * (t.val % 8) + q.val) % 768, _⟩
  simp only [e1, e2]
  rfl

end Whole

end Cert.HiddenArray

end
-- ==== Proof.HiddenRef.lean ====
/- Hand-written. The reference's hidden cotangents, laid out owner by owner, at an index. -/
module

public import proofs.«01_k».proof.Proof.FfnStages
public import proofs.«01_k».proof.Proof.Gen.RefHiddenIdeal.Run

@[expose] public section

noncomputable section

namespace Cert.HiddenRef

open Cert.RefHiddenIdeal Cert.RefHiddenIdeal.Gen Idealize.ShloMosaic Idealize.ShloMosaic.TcCoe Cert.Ffn
open scoped BigOperators

/-- Two cotangents side by side for each owner. -/
def refArr (g u : Hid) : FVec Ideal S8192x6144 .bf16 :=
  truncf .bf16 (shapeCast S8192x6144 (concatenate S8192x8x768 2 [⟨S8192x8x352, shapeCast _ g shapeCasts_S1x8192x2816_S8192x8x352⟩,
    ⟨S8192x8x32, broadcastInDim S8192x8x32 ![] bcast_S_S8192x8x32 (constant (F := Ideal) S_ .f32 0x00000000#32)⟩,
    ⟨S8192x8x352, shapeCast _ u shapeCasts_S1x8192x2816_S8192x8x352⟩,
    ⟨S8192x8x32, broadcastInDim S8192x8x32 ![] bcast_S_S8192x8x32 (constant (F := Ideal) S_ .f32 0x00000000#32)⟩]
    concatenates_S8192x8x352_S8192x8x32_S8192x8x352_S8192x8x32_S8192x8x768_d2) shapeCasts_S8192x8x768_S8192x6144) bitsLt_bf16_f32

theorem refArr_apply (g u : Hid) (t : Fin 8192) (l : Fin 6144) :
    refArr g u (ix2 t l) = paired (fun f => g (ix3 0 t f)) (fun f => u (ix3 0 t f)) ⟨l.val / 768, by omega⟩ (l.val % 768) := by
  pointwise [refArr]
  unfold paired lane
  by_cases h1 : l.val % 768 < 352
  · have h2 : l.val % 768 < 384 := by omega
    refine (dif_pos h1).trans ?_
    rw [if_pos h2, dif_pos h1]
  · refine (dif_neg h1).trans ?_
    by_cases h2 : l.val % 768 < 384
    · refine (dif_pos (by omega)).trans ?_
      rw [if_pos h2, dif_neg h1]
    · refine (dif_neg (by omega)).trans ?_
      by_cases h3 : l.val % 768 - 384 < 352
      · refine (dif_pos (by omega)).trans ?_
        rw [if_neg h2, dif_pos h3]
        refine congrArg (fun z => u (ix3 0 t z)) (Fin.ext ?_)
        show l.val / 768 * 352 + (l.val % 768 - 352 - 32) = l.val / 768 * 352 + (l.val % 768 - 384)
        omega
      · refine (dif_neg (by omega)).trans ?_
        rw [if_neg h2, dif_neg h3]

end Cert.HiddenRef

end
-- ==== Proof.HiddenHost.lean ====
/- Hand-written. The hidden cotangents: the arrays the call is given at an index, and the call's array as the reference's. -/
module

public import proofs.«01_k».proof.Proof.Hidden
public import proofs.«01_k».proof.Proof.HiddenRef
public import proofs.«01_k».proof.Proof.Spec

@[expose] public section

noncomputable section

namespace Cert.HiddenArray

open Cert.HiddenIdeal Cert.HiddenIdeal.Gen Idealize.ShloMosaic Idealize.ShloMosaic.TcCoe Cert.Ffn Cert.HiddenRef
open scoped BigOperators

def ownCols (u : Hid) : FVec Ideal S8192x8x384 .f32 :=
  concatenate S8192x8x384 2 [⟨S8192x8x352, shapeCast _ (shapeCast S8192x2816 u shapeCasts_S1x8192x2816_S8192x2816) shapeCasts_S8192x2816_S8192x8x352⟩,
    ⟨S8192x8x32, broadcastInDim S8192x8x32 ![] bcast_S_S8192x8x32 (constant (F := Ideal) S_ .f32 0x00000000#32)⟩]
    concatenates_S8192x8x352_S8192x8x32_S8192x8x384_d2

/-- The gate's and the up projection's products side by side for each owner. -/
def pairArr (a b : Hid) : FVec Ideal S8192x6144 .bf16 :=
  truncf .bf16 (shapeCast _ (concatenate S8192x8x768 2 [⟨S8192x8x384, ownCols a⟩, ⟨S8192x8x384, ownCols b⟩]
    concatenates_S8192x8x384_S8192x8x384_S8192x8x768_d2) shapeCasts_S8192x8x768_S8192x6144) bitsLt_bf16_f32

def ctArr (ct : Act) : FVec Ideal S8192x1024 .bf16 :=
  truncf .bf16 (shapeCast _ ct shapeCasts_S1x8192x1024_S8192x1024) bitsLt_bf16_f32

/-- The down weights' rows, owner by owner. -/
def wArr (w : Wout) : FVec Ideal S3072x1024 .bf16 :=
  truncf .bf16 (shapeCast _ (concatenate S8x384x1024 1 [⟨S8x352x1024, shapeCast _ w shapeCasts_S2816x1024_S8x352x1024⟩,
    ⟨S8x32x1024, broadcastInDim S8x32x1024 ![] bcast_S_S8x32x1024 (constant (F := Ideal) S_ .f32 0x00000000#32)⟩]
    concatenates_S8x352x1024_S8x32x1024_S8x384x1024_d1) shapeCasts_S8x384x1024_S3072x1024) bitsLt_bf16_f32

section Launch

variable (m : (ℓ : Loc nD τ sig) → Buf (Elt Ideal) ℓ) (c : Dev nD)

abbrev arg0 : Act := m ((c : Thread nD τ).loc main_arg0)
abbrev arg1 : Win := m ((c : Thread nD τ).loc main_arg1)
abbrev arg2 : Win := m ((c : Thread nD τ).loc main_arg2)
abbrev arg3 : Wout := m ((c : Thread nD τ).loc main_arg3)
abbrev arg4 : Act := m ((c : Thread nD τ).loc main_arg4)

set_option maxHeartbeats 4000000 in
theorem V_v13 : V m c main_v13 = ctArr (arg4 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

set_option maxHeartbeats 4000000 in
theorem V_v18 : V m c main_v18 = wArr (arg3 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

set_option maxHeartbeats 4000000 in
theorem V_v19 : V m c main_v19 = pairArr (into (arg0 m c) (arg1 m c)) (into (arg0 m c) (arg2 m c)) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

end Launch

theorem pairArr_apply (a b : Hid) (t : Fin 8192) (l : Fin 6144) :
    pairArr a b (ix2 t l) = paired (fun f => a (ix3 0 t f)) (fun f => b (ix3 0 t f)) ⟨l.val / 768, by omega⟩ (l.val % 768) := by
  pointwise [pairArr, ownCols]
  rfl

theorem ctArr_apply (x : Act) (t : Fin 8192) (l : Fin 1024) : ctArr x (ix2 t l) = x (ix3 0 t l) := by
  pointwise [ctArr]

theorem wArr_apply (w : Wout) (l : Fin 3072) (k : Fin 1024) : wArr w (ix2 l k) = padded (fun f => w (ix2 f k)) l := by
  unfold padded
  pointwise [wArr]

theorem into_apply (x : Act) (w : Win) (t : Fin 8192) (f : Fin 2816) : into x w (ix3 0 t f) = ∑ k : Fin 1024, x (ix3 0 t k) * w (ix2 k f) := by
  pointwise [into]

theorem back_apply (ct : Act) (w : Wout) (t : Fin 8192) (f : Fin 2816) : back ct w (ix3 0 t f) = ∑ k : Fin 1024, ct (ix3 0 t k) * w (ix2 f k) := by
  pointwise [back]

/-- The reference's sigmoid. -/
def logistic (a : EReal) : EReal := Ideal.div 1 (1 + Ideal.exp (-a))

theorem dGate_apply (a b g : Hid) (t : Fin 8192) (f : Fin 2816) :
    dGate a b g (ix3 0 t f) = g (ix3 0 t f) * b (ix3 0 t f) * logistic (a (ix3 0 t f))
      + a (ix3 0 t f) * (g (ix3 0 t f) * b (ix3 0 t f)) * (logistic (a (ix3 0 t f)) * (1 - logistic (a (ix3 0 t f)))) := by
  unfold logistic
  pointwise [dGate, sigm, one]

theorem dUp_apply (a g : Hid) (t : Fin 8192) (f : Fin 2816) :
    dUp a g (ix3 0 t f) = a (ix3 0 t f) * logistic (a (ix3 0 t f)) * g (ix3 0 t f) := by
  unfold logistic
  pointwise [dUp, swish, sigm, one]

/-! ### The two sigmoids at a real -/

theorem logistic_coe (a : ℝ) : logistic a = ((1 / (1 + Real.exp (-a)) : ℝ) : EReal) := by
  have h : 1 + Real.exp (-a) ≠ 0 := by positivity
  refine Eq.trans ?_ (Cert.Spec.div_real h 1)
  rfl

theorem mag_coe (a : ℝ) : mag a = ((Real.exp (-|a|) : ℝ) : EReal) := by
  have h : FloatOps.absf (F := Ideal) (φ := .f32) (a : EReal) = ((|a| : ℝ) : EReal) := by
    show max (a : EReal) (-(a : EReal)) = _
    rw [abs_eq_max_neg]
    exact (EReal.coe_strictMono.monotone.map_max (a := a) (b := -a)).symm
  unfold mag
  rw [h, zero_sub]
  rfl

theorem inv_coe (a : ℝ) : inv a = ((1 / (1 + Real.exp (-|a|)) : ℝ) : EReal) := by
  have h : 1 + Real.exp (-|a|) ≠ 0 := by positivity
  unfold inv
  rw [mag_coe]
  refine Eq.trans ?_ (Cert.Spec.div_real h 1)
  rfl

theorem sg_coe (a : ℝ) : sg a = ((1 / (1 + Real.exp (-a)) : ℝ) : EReal) := by
  unfold sg
  rw [mag_coe, inv_coe]
  by_cases h : 0 ≤ a
  · rw [if_pos (EReal.coe_nonneg.mpr h), abs_of_nonneg h]
  · rw [if_neg (fun h' => h (EReal.coe_nonneg.mp h')), abs_of_neg (not_le.mp h), neg_neg, ← EReal.coe_mul]
    refine congrArg Real.toEReal ?_
    rw [Real.exp_neg]
    have := Real.exp_pos a
    field_simp
    ring

theorem cosg_coe (a : ℝ) : cosg a = ((1 - 1 / (1 + Real.exp (-a)) : ℝ) : EReal) := by
  unfold cosg
  rw [mag_coe, inv_coe]
  have := Real.exp_pos a
  by_cases h : 0 ≤ a
  · rw [if_pos (EReal.coe_nonneg.mpr h), abs_of_nonneg h, ← EReal.coe_mul]
    refine congrArg Real.toEReal ?_
    rw [Real.exp_neg]
    field_simp
    ring
  · rw [if_neg (fun h' => h (EReal.coe_nonneg.mp h')), abs_of_neg (not_le.mp h), neg_neg]
    refine congrArg Real.toEReal ?_
    rw [Real.exp_neg]
    field_simp
    ring

/-- An extended real that is a real number. -/
def Real1 (x : EReal) : Prop := ∃ r : ℝ, x = (r : EReal)

theorem gateOf_eq {g a b : EReal} (hg : Real1 g) (ha : Real1 a) (hb : Real1 b) :
    gateOf g a b = g * b * logistic a + a * (g * b) * (logistic a * (1 - logistic a)) := by
  obtain ⟨g, rfl⟩ := hg
  obtain ⟨a, rfl⟩ := ha
  obtain ⟨b, rfl⟩ := hb
  unfold gateOf
  rw [sg_coe, cosg_coe, logistic_coe]
  norm_cast
  ring

theorem upOf_eq {g a : EReal} (ha : Real1 a) : upOf g a = a * logistic a * g := by
  obtain ⟨a, rfl⟩ := ha
  unfold upOf
  rw [sg_coe, logistic_coe, mul_comm]

theorem gateOf_zero : gateOf 0 0 0 = 0 := by simp [gateOf]
theorem upOf_zero (a : EReal) : upOf 0 a = 0 := by simp [upOf]

theorem real1_sum {n : Nat} (f g : Fin n → EReal) (hf : ∀ i, Real1 (f i)) (hg : ∀ i, Real1 (g i)) : Real1 (∑ i, f i * g i) := by
  choose f' hf using hf
  choose g' hg using hg
  refine ⟨∑ i, f' i * g' i, ?_⟩
  rw [← Cert.Spec.coe_sum]
  exact Finset.sum_congr rfl fun i _ => by rw [hf, hg, EReal.coe_mul]

theorem real1_of_fine {s : Shape} {x : s.Idx → EReal} (h : Cert.Spec.Fine x) (i : s.Idx) : Real1 (x i) :=
  ⟨_, (EReal.coe_toReal (h i).1 (h i).2).symm⟩

/-- The whole array is the reference's, where the products and the hidden cotangent are real. -/
theorem refArr_eq (a b : Hid) (ct : Act) (w : Wout) (ha : ∀ t f, Real1 (a (ix3 0 t f))) (hb : ∀ t f, Real1 (b (ix3 0 t f)))
    (hg : ∀ t f, Real1 (back ct w (ix3 0 t f))) :
    refArr (dGate a b (back ct w)) (dUp a (back ct w)) = whole (ctArr ct) (wArr w) (pairArr a b) := by
  funext i
  obtain ⟨t, l, rfl⟩ : ∃ (t : Fin 8192) (l : Fin 6144), i = ix2 t l := ⟨i 0, i 1, by funext k; fin_cases k <;> rfl⟩
  rw [refArr_apply]
  show _ = cell _ _ _ t ⟨l.val / 768, _⟩ ⟨l.val % 768, _⟩
  generalize ho : (⟨l.val / 768, by omega⟩ : Fin 8) = o
  generalize hq : (⟨l.val % 768, by omega⟩ : Fin 768) = q
  have hq' : l.val % 768 = q.val := congrArg Fin.val hq
  rw [hq']
  unfold cell paired
  by_cases h : q.val < 384
  · have e1 : (768 * o.val + q.val) / 768 = o.val := by omega
    have e2 : (768 * o.val + q.val) % 768 = q.val := by omega
    have e3 : (768 * o.val + (384 + q.val)) / 768 = o.val := by omega
    have e4 : (768 * o.val + (384 + q.val)) % 768 = 384 + q.val := by omega
    have e5 : (384 * o.val + q.val) / 384 = o.val := by omega
    have e6 : (384 * o.val + q.val) % 384 = q.val := by omega
    have e7 : 384 + q.val - 384 = q.val := by omega
    have e8 : ¬(384 + q.val < 384) := by omega
    rw [if_pos h, dif_pos h]
    simp only [pairArr_apply, ctArr_apply, wArr_apply, paired, padded, lane, e1, e2, e3, e4, e5, e6, e7, if_pos h, if_neg e8, Fin.eta]
    by_cases hl : q.val < 352
    · simp only [dif_pos hl]
      rw [dGate_apply, ← gateOf_eq (hg _ _) (ha _ _) (hb _ _), back_apply]
    · simp only [dif_neg hl, mul_zero, Finset.sum_const_zero]
      exact gateOf_zero.symm
  · have e1 : (768 * o.val + (q.val - 384)) / 768 = o.val := by omega
    have e2 : (768 * o.val + (q.val - 384)) % 768 = q.val - 384 := by omega
    have e5 : (384 * o.val + (q.val - 384)) / 384 = o.val := by omega
    have e6 : (384 * o.val + (q.val - 384)) % 384 = q.val - 384 := by omega
    have e8 : q.val - 384 < 384 := by omega
    rw [if_neg h, dif_neg h]
    simp only [pairArr_apply, ctArr_apply, wArr_apply, paired, padded, lane, e1, e2, e5, e6, if_pos e8, Fin.eta]
    by_cases hl : q.val - 384 < 352
    · simp only [dif_pos hl]
      rw [dUp_apply, ← upOf_eq (ha _ _), back_apply]
    · simp only [dif_neg hl, mul_zero, Finset.sum_const_zero]
      exact (upOf_zero _).symm

theorem final_ref (m : (ℓ : Loc nD τ sig) → Buf (Elt Ideal) ℓ) (c : Dev nD) (h0 : Cert.Spec.Fine (arg0 m c)) (h1 : Cert.Spec.Fine (arg1 m c))
    (h2 : Cert.Spec.Fine (arg2 m c)) (h3 : Cert.Spec.Fine (arg3 m c)) (h4 : Cert.Spec.Fine (arg4 m c)) :
    (dats m 0 c).arrAt 3 cfg0.N = refArr (dGate (into (arg0 m c) (arg1 m c)) (into (arg0 m c) (arg2 m c)) (back (arg4 m c) (arg3 m c)))
      (dUp (into (arg0 m c) (arg1 m c)) (back (arg4 m c) (arg3 m c))) := by
  refine (final _ _ _ m c (V_v13 m c) (V_v18 m c) (V_v19 m c)).trans (refArr_eq _ _ _ _ ?_ ?_ ?_).symm
  · intro t f
    rw [into_apply]
    exact real1_sum _ _ (fun _ => real1_of_fine h0 _) fun _ => real1_of_fine h1 _
  · intro t f
    rw [into_apply]
    exact real1_sum _ _ (fun _ => real1_of_fine h0 _) fun _ => real1_of_fine h2 _
  · intro t f
    rw [back_apply]
    exact real1_sum _ _ (fun _ => real1_of_fine h4 _) fun _ => real1_of_fine h3 _

end Cert.HiddenArray

end
-- ==== Proof.DwGateUp.lean ====
/- Hand-written. The gate's and the up projection's weight gradient: what the kernel's grid leaves, for any operands. -/
module

public import proofs.«01_k».proof.Proof.Gen.DwGateUpIdeal.Value
public import Idealize.ShloMosaic.Lib.Pipeline.ValueKit.Point
public import Idealize.ShloMosaic.Lib.Pipeline.ValueKit.Acc
public import Idealize.ShloMosaic.Lib.Pointwise

@[expose] public section

noncomputable section

namespace Cert.DwGateUpArray

open Cert.DwGateUpIdeal Cert.DwGateUpIdeal.Gen Idealize.ShloMosaic Idealize.ShloMosaic.TcCoe
open scoped BigOperators

/-- The product of a tall array's transpose with another, the columns in groups of 768: the sum over the rows. -/
def prod (a : Vec Ideal S8192x1024 .bf16) (b : Vec Ideal S8192x6144 .bf16) : Vec Ideal S8x1024x768 .f32 :=
  fun i => ∑ l : Fin 8192, a (ix2 l (i 1)) * b (ix2 l ⟨768 * (i 0).val + (i 2).val, by
    have h0 : (i 0).val < 8 := (i 0).isLt
    have h2 : (i 2).val < 768 := (i 2).isLt
    omega⟩)

theorem pay_apply (x : Vec Ideal S2048x1024 .bf16) (y : Vec Ideal S2048x768 .bf16) (o : Fin 1) (r : Fin 1024) (c : Fin 768) :
    k0_pay2 x y (ix3 o r c) = ∑ k : Fin 2048, x (ix2 k r) * y (ix2 k c) := by
  pointwise [k0_pay2, k0_pay1]

theorem pay_add (x : Vec Ideal S2048x1024 .bf16) (y : Vec Ideal S2048x768 .bf16) (z : Vec Ideal S1x1024x768 .f32) (j : S1x1024x768.Idx) :
    k0_pay3 x y z j = z j + k0_pay2 x y j := by
  obtain ⟨o, r, c, rfl⟩ : ∃ o r c, j = ix3 o r c := ⟨j 0, j 1, j 2, by funext k; fin_cases k <;> rfl⟩
  obtain rfl : o = (0 : Fin 1) := Fin.ext (Nat.lt_one_iff.mp o.isLt)
  pointwise [k0_pay3, k0_pay2]

theorem index0 : ∀ t : Fin cfg0.N, win0_0.index t = ![t.val % 4, 0] :=
  (by decide +kernel : ∀ t : Fin grid0.N, win0_0.index t = ![t.val % 4, 0])
theorem index1 : ∀ t : Fin cfg0.N, win0_1.index t = ![t.val % 4, t.val / 4] :=
  (by decide +kernel : ∀ t : Fin grid0.N, win0_1.index t = ![t.val % 4, t.val / 4])
theorem index2 : ∀ t : Fin cfg0.N, win0_2.index t = ![t.val / 4, 0, 0] :=
  (by decide +kernel : ∀ t : Fin grid0.N, win0_2.index t = ![t.val / 4, 0, 0])

theorem point_lt (t : Fin cfg0.N) : t.val < 32 := lt_of_lt_of_eq t.isLt N_0

theorem step_lt (t : Fin cfg0.N) (s : Fin 4) : 4 * (t.val / 4) + s.val < cfg0.N :=
  lt_of_lt_of_eq (by have := point_lt t; omega) N_0.symm

theorem block0 (t : Fin cfg0.N) (g s : Nat) (hs : s < 4) (ht : t.val = 4 * g + s) (A : Vec Ideal S8192x1024 .bf16)
    (r : Fin 2048) (l : Fin 1024) :
    ((cfg0.win 0).blk t).view.read (Elt Ideal) A (ix2 r l) = A (ix2 ⟨s * 2048 + r, by omega⟩ l) := by
  have h2 : t.val % 4 = s := by omega
  blk_simp
  refine congrArg A ?_
  blk_ext [index0 t, h2]

theorem block1 (t : Fin cfg0.N) (g s : Nat) (hg : g < 8) (hs : s < 4) (ht : t.val = 4 * g + s) (A : Vec Ideal S8192x6144 .bf16)
    (r : Fin 2048) (l : Fin 768) :
    ((cfg0.win 1).blk t).view.read (Elt Ideal) A (ix2 r l) = A (ix2 ⟨s * 2048 + r, by omega⟩ ⟨768 * g + l, by omega⟩) := by
  have h1 : t.val / 4 = g := by omega
  have h2 : t.val % 4 = s := by omega
  blk_simp
  refine congrArg A ?_
  blk_ext [index1 t, h1, h2]

/-- The four points of a block, together: the product at the block's place. -/
theorem run_sum (t : Fin cfg0.N) (a : Vec Ideal S8192x1024 .bf16) (b : Vec Ideal S8192x6144 .bf16) (r : Fin 1024) (q : Fin 768) :
    (∑ s : Fin 4, k0_pay2 (((cfg0.win 0).blk ⟨4 * (t.val / 4) + s, step_lt t s⟩).view.read (Elt Ideal) a)
      (((cfg0.win 1).blk ⟨4 * (t.val / 4) + s, step_lt t s⟩).view.read (Elt Ideal) b) (ix3 0 r q) : EReal)
      = prod a b (ix3 ⟨t.val / 4, by have := point_lt t; omega⟩ r q) := by
  have := point_lt t
  refine Eq.trans (Finset.sum_congr rfl fun s _ => (pay_apply _ _ _ _ _).trans (Finset.sum_congr rfl fun k _ => ?_))
    (Fin.sum_mul_add_fin 4 2048 (L := 8192)
      (fun l => (a (ix2 l r) * b (ix2 l ⟨768 * (t.val / 4) + q.val, by omega⟩) : EReal)))
  rw [block0 _ (t.val / 4) s.val s.isLt rfl, block1 _ (t.val / 4) s.val (by omega) s.isLt rfl]

variable (m : (ℓ : Loc nD τ sig) → Buf (Elt Ideal) ℓ) (c : Dev nD)

/-- At the last of a block's four points the accumulated block is the sum over the points. -/
theorem outs_sum (t : Fin cfg0.N) (hf : (cfg0.win 2).flush t = true) (j : S1x1024x768.Idx) :
    outsAt0 m c t.val t.isLt j = ∑ s : Fin 4, k0_pay2 (iblk m c 0 ⟨4 * (t.val / 4) + s, step_lt t s⟩)
      (iblk m c 1 ⟨4 * (t.val / 4) + s, step_lt t s⟩) j := by
  have h0 (k : Nat) (h : k % 4 = 0) : ¬1 ≤ k % 4 := by omega
  have h1 (k : Nat) (h : ¬k % 4 = 0) : 1 ≤ k % 4 := by omega
  rw [Pipeline.eq_sum_fin_of_reset_step_apply_of_flush (fun n h => outsAt0 m c n h) 4 (fun _ => 0)
    (fun t j => k0_pay2 (iblk m c 0 t) (iblk m c 1 t) j)
    (fun t h j => by rw [outsAt0_A m c t h (h0 _ h)]; frame_out; exact (zero_add _).symm)
    (fun t h j => by rw [outsAt0_B m c t h (h1 _ h)]; frame_out; exact pay_add _ _ _ _) t ((flush0_2 t).mp hf) j]
  exact zero_add _

theorem final (a : Vec Ideal S8192x1024 .bf16) (b : Vec Ideal S8192x6144 .bf16) (ha : V m c main_v20 = a) (hb : V m c main_v21 = b) :
    (dats m 0 c).arrAt 2 cfg0.N = prod a b := by
  refine (dats m 0 c).arrAt_eq_of_covers 2 _ (by decide +kernel) fun t hf y => ?_
  have := point_lt t
  obtain ⟨o, r, q, rfl⟩ : ∃ (o : Fin 1) (r : Fin 1024) (q : Fin 768), y = ix3 o r q := ⟨y 0, y 1, y 2, by funext k; fin_cases k <;> rfl⟩
  obtain rfl : o = (0 : Fin 1) := Fin.ext (Nat.lt_one_iff.mp o.isLt)
  have e : (win0_2.blk t).view.emb (ix3 (0 : Fin 1) r q) = ix3 ⟨t.val / 4, by omega⟩ r q := by
    blk_ext [index2 t]
  have i0 (u : Fin cfg0.N) : iblk m c 0 u = ((cfg0.win 0).blk u).view.read (Elt Ideal) a := by rw [← ha]; rfl
  have i1 (u : Fin cfg0.N) : iblk m c 1 u = ((cfg0.win 1).blk u).view.read (Elt Ideal) b := by rw [← hb]; rfl
  blk_simp
  rw [after0_2, outs_sum m c t hf, e]
  simp only [i0, i1]
  exact run_sum t a b r q

end Cert.DwGateUpArray

end
-- ==== Proof.DwGateUpRef.lean ====
/- Hand-written. The reference's weight gradient of the gate and the up projection, at an index. -/
module

public import proofs.«01_k».proof.Proof.FfnStages
public import proofs.«01_k».proof.Proof.Gen.RefDwGateUpIdeal.Run

@[expose] public section

noncomputable section

namespace Cert.DwGateUpRef

open Cert.RefDwGateUpIdeal Cert.RefDwGateUpIdeal.Gen Idealize.ShloMosaic Idealize.ShloMosaic.TcCoe Cert.Ffn
open scoped BigOperators

/-- The product of a cotangent's transpose and the activations, transposed. -/
def dw (x : Act) (d : Hid) : FVec Ideal S1024x2816 .f32 :=
  transpose S1024x2816 [1, 0] (Host.dotGeneral (φ₁ := .f32) (φ₂ := .f32) dot_S1x8192x2816_S1x8192x1024_S2816x1024_01_01_2_2_n_n none d x)
    transposes_S2816x1024_S1024x2816_1_0

theorem dw_apply (x : Act) (d : Hid) (q : Fin 1024) (f : Fin 2816) : dw x d (ix2 q f) = ∑ t : Fin 8192, d (ix3 0 t f) * x (ix3 0 t q) := by
  pointwise [dw]
  exact Fin.sum_univ_one _

/-- Two weights' gradients side by side for each owner. -/
def refArr (g u : FVec Ideal S1024x2816 .f32) : FVec Ideal S8x1024x768 .f32 :=
  transpose S8x1024x768 [1, 0, 2] (concatenate S1024x8x768 2 [⟨S1024x8x352, shapeCast _ g shapeCasts_S1024x2816_S1024x8x352⟩,
    ⟨S1024x8x32, broadcastInDim S1024x8x32 ![] bcast_S_S1024x8x32 (constant (F := Ideal) S_ .f32 0x00000000#32)⟩,
    ⟨S1024x8x352, shapeCast _ u shapeCasts_S1024x2816_S1024x8x352⟩,
    ⟨S1024x8x32, broadcastInDim S1024x8x32 ![] bcast_S_S1024x8x32 (constant (F := Ideal) S_ .f32 0x00000000#32)⟩]
    concatenates_S1024x8x352_S1024x8x32_S1024x8x352_S1024x8x32_S1024x8x768_d2) transposes_S1024x8x768_S8x1024x768_1_0_2

theorem refArr_apply (g u : FVec Ideal S1024x2816 .f32) (o : Fin 8) (q : Fin 1024) (l : Fin 768) :
    refArr g u (ix3 o q l) = paired (fun f => g (ix2 q f)) (fun f => u (ix2 q f)) o l.val := by
  pointwise [refArr]
  unfold paired lane
  by_cases h1 : l.val < 352
  · have h2 : l.val < 384 := by omega
    refine (dif_pos h1).trans ?_
    rw [if_pos h2, dif_pos h1]
  · refine (dif_neg h1).trans ?_
    by_cases h2 : l.val < 384
    · refine (dif_pos (by omega)).trans ?_
      rw [if_pos h2, dif_neg h1]
    · refine (dif_neg (by omega)).trans ?_
      by_cases h3 : l.val - 384 < 352
      · refine (dif_pos (by omega)).trans ?_
        rw [if_neg h2, dif_pos h3]
        refine congrArg (fun z => u (ix2 q z)) (Fin.ext ?_)
        show o.val * 352 + (l.val - 352 - 32) = o.val * 352 + (l.val - 384)
        omega
      · refine (dif_neg (by omega)).trans ?_
        rw [if_neg h2, dif_neg h3]

end Cert.DwGateUpRef

end
-- ==== Proof.DwGateUpHost.lean ====
/- Hand-written. The gate's and the up projection's weight gradient: the arrays its call is given, at an index. -/
module

public import proofs.«01_k».proof.Proof.DwGateUp
public import proofs.«01_k».proof.Proof.DwGateUpRef

@[expose] public section

noncomputable section

namespace Cert.DwGateUpArray

open Cert.DwGateUpIdeal Cert.DwGateUpIdeal.Gen Idealize.ShloMosaic Idealize.ShloMosaic.TcCoe Cert.Ffn Cert.DwGateUpRef
open scoped BigOperators

def ownCols (u : Hid) : FVec Ideal S8192x8x384 .f32 :=
  concatenate S8192x8x384 2 [⟨S8192x8x352, shapeCast _ (shapeCast S8192x2816 u shapeCasts_S1x8192x2816_S8192x2816) shapeCasts_S8192x2816_S8192x8x352⟩,
    ⟨S8192x8x32, broadcastInDim S8192x8x32 ![] bcast_S_S8192x8x32 (constant (F := Ideal) S_ .f32 0x00000000#32)⟩]
    concatenates_S8192x8x352_S8192x8x32_S8192x8x384_d2

/-- Two cotangents side by side for each owner. -/
def pairArr (a b : Hid) : FVec Ideal S8192x6144 .bf16 :=
  truncf .bf16 (shapeCast _ (concatenate S8192x8x768 2 [⟨S8192x8x384, ownCols a⟩, ⟨S8192x8x384, ownCols b⟩]
    concatenates_S8192x8x384_S8192x8x384_S8192x8x768_d2) shapeCasts_S8192x8x768_S8192x6144) bitsLt_bf16_f32

def xArr (x : Act) : FVec Ideal S8192x1024 .bf16 :=
  truncf .bf16 (shapeCast _ x shapeCasts_S1x8192x1024_S8192x1024) bitsLt_bf16_f32

variable (m : (ℓ : Loc nD τ sig) → Buf (Elt Ideal) ℓ) (c : Dev nD)

abbrev arg0 : Act := m ((c : Thread nD τ).loc main_arg0)
abbrev arg1 : Win := m ((c : Thread nD τ).loc main_arg1)
abbrev arg2 : Win := m ((c : Thread nD τ).loc main_arg2)
abbrev arg3 : Wout := m ((c : Thread nD τ).loc main_arg3)
abbrev arg4 : Act := m ((c : Thread nD τ).loc main_arg4)

set_option maxHeartbeats 4000000 in
theorem V_v21 : V m c main_v21 = pairArr (dGate (into (arg0 m c) (arg1 m c)) (into (arg0 m c) (arg2 m c)) (back (arg4 m c) (arg3 m c)))
    (dUp (into (arg0 m c) (arg1 m c)) (back (arg4 m c) (arg3 m c))) := by
  simp only [V, hostOps0, hostOps0_1, hostOps0_2, hostOps0_3, hostOps0_4, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

set_option maxHeartbeats 4000000 in
theorem V_v20 : V m c main_v20 = xArr (arg0 m c) := by
  simp only [V, hostOps0, hostOps0_1, hostOps0_2, hostOps0_3, hostOps0_4, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem pairArr_apply (a b : Hid) (t : Fin 8192) (l : Fin 6144) :
    pairArr a b (ix2 t l) = paired (fun f => a (ix3 0 t f)) (fun f => b (ix3 0 t f)) ⟨l.val / 768, by omega⟩ (l.val % 768) := by
  pointwise [pairArr, ownCols]
  rfl

theorem xArr_apply (x : Act) (t : Fin 8192) (l : Fin 1024) : xArr x (ix2 t l) = x (ix3 0 t l) := by
  pointwise [xArr]

theorem refArr_eq (x : Act) (a b : Hid) : refArr (dw x a) (dw x b) = prod (xArr x) (pairArr a b) := by
  funext i
  obtain ⟨o, q, l, rfl⟩ : ∃ (o : Fin 8) (q : Fin 1024) (l : Fin 768), i = ix3 o q l := ⟨i 0, i 1, i 2, by funext k; fin_cases k <;> rfl⟩
  rw [refArr_apply]
  show _ = ∑ t : Fin 8192, xArr x (ix2 t q) * pairArr a b (ix2 t ⟨768 * o.val + l.val, _⟩)
  have e1 : (768 * o.val + l.val) / 768 = o.val := by omega
  have e2 : (768 * o.val + l.val) % 768 = l.val := by omega
  simp only [pairArr_apply, xArr_apply, e1, e2, Fin.eta, paired, lane, dw_apply]
  split_ifs
  · exact Finset.sum_congr rfl fun t _ => mul_comm _ _
  · simp
  · exact Finset.sum_congr rfl fun t _ => mul_comm _ _
  · simp

end Cert.DwGateUpArray

end
-- ==== Proof.DxGateUp.lean ====
/- Hand-written. The gradient the gate's and the up projection's products pass back: what the kernel's grid leaves, for any operands. -/
module

public import proofs.«01_k».proof.Proof.Gen.DxGateUpIdeal.Value
public import Idealize.ShloMosaic.Lib.Pipeline.ValueKit.Point
public import Idealize.ShloMosaic.Lib.Pipeline.ValueKit.Acc
public import Idealize.ShloMosaic.Lib.Pointwise

@[expose] public section

noncomputable section

namespace Cert.DxGateUpArray

open Cert.DxGateUpIdeal Cert.DxGateUpIdeal.Gen Idealize.ShloMosaic Idealize.ShloMosaic.TcCoe
open scoped BigOperators

/-- The product with the transpose of a weight stored in eight groups of 768 columns: the sum over groups and columns. -/
def prod (a : Vec Ideal S8192x6144 .bf16) (b : Vec Ideal S8x1024x768 .bf16) : Vec Ideal S8192x1024 .f32 :=
  fun i => ∑ o : Fin 8, ∑ l : Fin 768, a (ix2 (i 0) ⟨768 * o.val + l.val, by omega⟩) * b (ix3 o (i 1) l)

theorem pay_apply (x0 x1 : Vec Ideal S1024x768 .bf16) (y0 y1 : Vec Ideal S1x1024x768 .bf16) (r c : Fin 1024) :
    k0_pay1 x0 y0 x1 y1 (ix2 r c)
      = (∑ k : Fin 768, x0 (ix2 r k) * y0 (ix3 0 c k)) + ∑ k : Fin 768, x1 (ix2 r k) * y1 (ix3 0 c k) := by
  pointwise [k0_pay1]

theorem pay_add (x0 x1 : Vec Ideal S1024x768 .bf16) (y0 y1 : Vec Ideal S1x1024x768 .bf16) (z : Vec Ideal S1024x1024 .f32) (j : S1024x1024.Idx) :
    k0_pay2 x0 y0 x1 y1 z j = z j + k0_pay1 x0 y0 x1 y1 j := by
  obtain ⟨r, c, rfl⟩ : ∃ r c, j = ix2 r c := ⟨j 0, j 1, by funext k; fin_cases k <;> rfl⟩
  generalize hp : k0_pay1 x0 y0 x1 y1 = p
  unfold k0_pay2
  rw [hp]
  pointwise

theorem index0 : ∀ t : Fin cfg0.N, win0_0.index t = ![t.val / 4, t.val % 4] :=
  (by decide +kernel : ∀ t : Fin grid0.N, win0_0.index t = ![t.val / 4, t.val % 4])
theorem index1 : ∀ t : Fin cfg0.N, win0_1.index t = ![t.val % 4, 0, 0] :=
  (by decide +kernel : ∀ t : Fin grid0.N, win0_1.index t = ![t.val % 4, 0, 0])
theorem index2 : ∀ t : Fin cfg0.N, win0_2.index t = ![t.val / 4, 0] :=
  (by decide +kernel : ∀ t : Fin grid0.N, win0_2.index t = ![t.val / 4, 0])

theorem point_lt (t : Fin cfg0.N) : t.val < 32 := lt_of_lt_of_eq t.isLt N_0

theorem step_lt (t : Fin cfg0.N) (s : Fin 4) : 4 * (t.val / 4) + s.val < cfg0.N :=
  lt_of_lt_of_eq (by have := point_lt t; omega) N_0.symm

/-- What a point adds: its block's two groups of columns, one after the other. -/
def part (x : Vec Ideal S1024x1536 .bf16) (y : Vec Ideal S2x1024x768 .bf16) : Vec Ideal S1024x1024 .f32 :=
  k0_pay1 (View.ld x (Rect.unit ![0, 0] ![1024, 768] inb_S1024x1536_S1024x768_0_0))
    (View.ld y (Rect.unit ![0, 0, 0] ![1, 1024, 768] inb_S2x1024x768_S1x1024x768_0_0_0))
    (View.ld x (Rect.unit ![0, 768] ![1024, 768] inb_S1024x1536_S1024x768_0_768))
    (View.ld y (Rect.unit ![1, 0, 0] ![1, 1024, 768] inb_S2x1024x768_S1x1024x768_1_0_0))

theorem part_apply (x : Vec Ideal S1024x1536 .bf16) (y : Vec Ideal S2x1024x768 .bf16) (r c : Fin 1024) :
    part x y (ix2 r c) = ∑ o : Fin 2, ∑ k : Fin 768, x (ix2 r ⟨768 * o.val + k.val, by omega⟩) * y (ix3 o c k) := by
  unfold part
  rw [pay_apply, Fin.sum_univ_two]
  refine congrArg₂ _ (Finset.sum_congr rfl fun k _ => ?_) (Finset.sum_congr rfl fun k _ => ?_)
  · refine congrArg₂ _ ?_ ?_
    · pointwise
    · pointwise
  · refine congrArg₂ _ ?_ ?_
    · pointwise
    · pointwise

theorem block0 (t : Fin cfg0.N) (g s : Nat) (hg : g < 8) (hs : s < 4) (ht : t.val = 4 * g + s) (A : Vec Ideal S8192x6144 .bf16)
    (r : Fin 1024) (l : Fin 1536) :
    ((cfg0.win 0).blk t).view.read (Elt Ideal) A (ix2 r l) = A (ix2 ⟨1024 * g + r, by omega⟩ ⟨1536 * s + l, by omega⟩) := by
  have h1 : t.val / 4 = g := by omega
  have h2 : t.val % 4 = s := by omega
  blk_simp
  refine congrArg A ?_
  blk_ext [index0 t, h1, h2]

theorem block1 (t : Fin cfg0.N) (g s : Nat) (hs : s < 4) (ht : t.val = 4 * g + s) (A : Vec Ideal S8x1024x768 .bf16)
    (o : Fin 2) (r : Fin 1024) (l : Fin 768) :
    ((cfg0.win 1).blk t).view.read (Elt Ideal) A (ix3 o r l) = A (ix3 ⟨s * 2 + o, by omega⟩ r l) := by
  have h2 : t.val % 4 = s := by omega
  blk_simp
  refine congrArg A ?_
  blk_ext [index1 t, h2]

/-- The four points of a block, together: the product at the block's place. -/
theorem run_sum (t : Fin cfg0.N) (a : Vec Ideal S8192x6144 .bf16) (b : Vec Ideal S8x1024x768 .bf16) (r q : Fin 1024) :
    (∑ s : Fin 4, part (((cfg0.win 0).blk ⟨4 * (t.val / 4) + s, step_lt t s⟩).view.read (Elt Ideal) a)
      (((cfg0.win 1).blk ⟨4 * (t.val / 4) + s, step_lt t s⟩).view.read (Elt Ideal) b) (ix2 r q) : EReal)
      = prod a b (ix2 ⟨1024 * (t.val / 4) + r.val, by have := point_lt t; omega⟩ q) := by
  have := point_lt t
  refine Eq.trans (Finset.sum_congr rfl fun s _ => (part_apply _ _ _ _).trans (Finset.sum_congr rfl fun o _ => ?_))
    (Fin.sum_mul_add_fin 4 2 (L := 8)
      (fun o => (∑ l : Fin 768, a (ix2 ⟨1024 * (t.val / 4) + r.val, by omega⟩ ⟨768 * o.val + l.val, by omega⟩) * b (ix3 o q l) : EReal)))
  refine Finset.sum_congr rfl fun k _ => ?_
  rw [block0 _ (t.val / 4) s.val (by omega) s.isLt rfl, block1 _ (t.val / 4) s.val s.isLt rfl]
  refine congrArg (fun z => (a (ix2 _ z) * _ : EReal)) (Fin.ext ?_)
  dsimp only
  omega

variable (m : (ℓ : Loc nD τ sig) → Buf (Elt Ideal) ℓ) (c : Dev nD)

/-- At the last of a block's four points the accumulated block is the sum over the points. -/
theorem outs_sum (t : Fin cfg0.N) (hf : (cfg0.win 2).flush t = true) (j : S1024x1024.Idx) :
    outsAt0 m c t.val t.isLt j = ∑ s : Fin 4, part (iblk m c 0 ⟨4 * (t.val / 4) + s, step_lt t s⟩)
      (iblk m c 1 ⟨4 * (t.val / 4) + s, step_lt t s⟩) j := by
  have h0 (k : Nat) (h : k % 4 = 0) : ¬1 ≤ k % 4 := by omega
  have h1 (k : Nat) (h : ¬k % 4 = 0) : 1 ≤ k % 4 := by omega
  rw [Pipeline.eq_sum_fin_of_reset_step_apply_of_flush (fun n h => outsAt0 m c n h) 4 (fun _ => 0)
    (fun t j => part (iblk m c 0 t) (iblk m c 1 t) j)
    (fun t h j => by rw [outsAt0_A m c t h (h0 _ h)]; frame_out; exact (zero_add _).symm)
    (fun t h j => by rw [outsAt0_B m c t h (h1 _ h)]; frame_out; exact pay_add _ _ _ _ _ _) t ((flush0_2 t).mp hf) j]
  exact zero_add _

theorem final (a : Vec Ideal S8192x6144 .bf16) (b : Vec Ideal S8x1024x768 .bf16) (ha : V m c main_v27 = a) (hb : V m c main_v28 = b) :
    (dats m 0 c).arrAt 2 cfg0.N = prod a b := by
  refine (dats m 0 c).arrAt_eq_of_covers 2 _ (by decide +kernel) fun t hf y => ?_
  have := point_lt t
  obtain ⟨r, q, rfl⟩ : ∃ (r q : Fin 1024), y = ix2 r q := ⟨y 0, y 1, by funext k; fin_cases k <;> rfl⟩
  have e : (win0_2.blk t).view.emb (ix2 r q) = ix2 ⟨1024 * (t.val / 4) + r.val, by omega⟩ q := by
    blk_ext [index2 t]
  have i0 (u : Fin cfg0.N) : iblk m c 0 u = ((cfg0.win 0).blk u).view.read (Elt Ideal) a := by rw [← ha]; rfl
  have i1 (u : Fin cfg0.N) : iblk m c 1 u = ((cfg0.win 1).blk u).view.read (Elt Ideal) b := by rw [← hb]; rfl
  blk_simp
  rw [after0_2, outs_sum m c t hf, e]
  simp only [i0, i1]
  exact run_sum t a b r q

end Cert.DxGateUpArray

end
-- ==== Proof.DxGateUpRef.lean ====
/- Hand-written. The reference's gradient through the gate's and the up projection's products, at an index. -/
module

public import proofs.«01_k».proof.Proof.FfnStages

@[expose] public section

noncomputable section

namespace Cert.DxGateUpRef

open Cert.RefDxGateUpIdeal Cert.RefDxGateUpIdeal.Gen Idealize.ShloMosaic Idealize.ShloMosaic.TcCoe Cert.Ffn
open scoped BigOperators

/-- A cotangent times a weight's transpose. -/
def dx (d : Hid) (w : Win) : Act :=
  Host.dotGeneral (φ₁ := .f32) (φ₂ := .f32) dot_S1x8192x2816_S1024x2816_S1x8192x1024_2_1_01_0_n_n none d w

theorem dx_apply (d : Hid) (w : Win) (t : Fin 8192) (q : Fin 1024) :
    dx d w (ix3 0 t q) = ∑ f : Fin 2816, d (ix3 0 t f) * w (ix2 q f) := by
  pointwise [dx]

def refArr (u g : Act) : FVec Ideal S8192x1024 .f32 := shapeCast _ (addf u g) shapeCasts_S1x8192x1024_S8192x1024

theorem refArr_apply (u g : Act) (t : Fin 8192) (q : Fin 1024) : refArr u g (ix2 t q) = u (ix3 0 t q) + g (ix3 0 t q) := by
  pointwise [refArr]

end Cert.DxGateUpRef

end
-- ==== Proof.DxGateUpHost.lean ====
/- Hand-written. The gradient the gate's and the up projection's products pass back: the arrays its call is given, at an index. -/
module

public import proofs.«01_k».proof.Proof.DxGateUp
public import proofs.«01_k».proof.Proof.DxGateUpRef

@[expose] public section

noncomputable section

namespace Cert.DxGateUpArray

open Cert.DxGateUpIdeal Cert.DxGateUpIdeal.Gen Idealize.ShloMosaic Idealize.ShloMosaic.TcCoe Cert.Ffn Cert.DxGateUpRef
open scoped BigOperators

def ownCols (u : Hid) : FVec Ideal S8192x8x384 .f32 :=
  concatenate S8192x8x384 2 [⟨S8192x8x352, shapeCast _ (shapeCast S8192x2816 u shapeCasts_S1x8192x2816_S8192x2816) shapeCasts_S8192x2816_S8192x8x352⟩,
    ⟨S8192x8x32, broadcastInDim S8192x8x32 ![] bcast_S_S8192x8x32 (constant (F := Ideal) S_ .f32 0x00000000#32)⟩]
    concatenates_S8192x8x352_S8192x8x32_S8192x8x384_d2

/-- Two cotangents side by side for each owner. -/
def pairArr (a b : Hid) : FVec Ideal S8192x6144 .bf16 :=
  truncf .bf16 (shapeCast _ (concatenate S8192x8x768 2 [⟨S8192x8x384, ownCols a⟩, ⟨S8192x8x384, ownCols b⟩]
    concatenates_S8192x8x384_S8192x8x384_S8192x8x768_d2) shapeCasts_S8192x8x768_S8192x6144) bitsLt_bf16_f32

def ownWin (w : Win) : FVec Ideal S1024x8x384 .f32 :=
  concatenate S1024x8x384 2 [⟨S1024x8x352, shapeCast _ w shapeCasts_S1024x2816_S1024x8x352⟩,
    ⟨S1024x8x32, broadcastInDim S1024x8x32 ![] bcast_S_S1024x8x32 (constant (F := Ideal) S_ .f32 0x00000000#32)⟩]
    concatenates_S1024x8x352_S1024x8x32_S1024x8x384_d2

/-- Two weights side by side for each owner. -/
def wArr (g u : Win) : FVec Ideal S8x1024x768 .bf16 :=
  truncf .bf16 (transpose S8x1024x768 [1, 0, 2] (concatenate S1024x8x768 2 [⟨S1024x8x384, ownWin g⟩, ⟨S1024x8x384, ownWin u⟩]
    concatenates_S1024x8x384_S1024x8x384_S1024x8x768_d2) transposes_S1024x8x768_S8x1024x768_1_0_2) bitsLt_bf16_f32

variable (m : (ℓ : Loc nD τ sig) → Buf (Elt Ideal) ℓ) (c : Dev nD)

abbrev arg0 : Act := m ((c : Thread nD τ).loc main_arg0)
abbrev arg1 : Win := m ((c : Thread nD τ).loc main_arg1)
abbrev arg2 : Win := m ((c : Thread nD τ).loc main_arg2)
abbrev arg3 : Wout := m ((c : Thread nD τ).loc main_arg3)
abbrev arg4 : Act := m ((c : Thread nD τ).loc main_arg4)

set_option maxHeartbeats 4000000 in
theorem V_v27 : V m c main_v27 = pairArr (dGate (into (arg0 m c) (arg1 m c)) (into (arg0 m c) (arg2 m c)) (back (arg4 m c) (arg3 m c)))
    (dUp (into (arg0 m c) (arg1 m c)) (back (arg4 m c) (arg3 m c))) := by
  simp only [V, hostOps0, hostOps0_1, hostOps0_2, hostOps0_3, hostOps0_4, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

set_option maxHeartbeats 4000000 in
theorem V_v28 : V m c main_v28 = wArr (arg1 m c) (arg2 m c) := by
  simp only [V, hostOps0, hostOps0_1, hostOps0_2, hostOps0_3, hostOps0_4, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem pairArr_apply (a b : Hid) (t : Fin 8192) (l : Fin 6144) :
    pairArr a b (ix2 t l) = paired (fun f => a (ix3 0 t f)) (fun f => b (ix3 0 t f)) ⟨l.val / 768, by omega⟩ (l.val % 768) := by
  pointwise [pairArr, ownCols]
  rfl

theorem wArr_apply (g u : Win) (o : Fin 8) (q : Fin 1024) (l : Fin 768) :
    wArr g u (ix3 o q l) = paired (fun f => g (ix2 q f)) (fun f => u (ix2 q f)) o l.val := by
  pointwise [wArr, ownWin]
  rfl

theorem refArr_eq (a b : Hid) (g u : Win) : refArr (dx b u) (dx a g) = prod (pairArr a b) (wArr g u) := by
  funext i
  obtain ⟨t, q, rfl⟩ : ∃ (t : Fin 8192) (q : Fin 1024), i = ix2 t q := ⟨i 0, i 1, by funext k; fin_cases k <;> rfl⟩
  rw [refArr_apply, dx_apply, dx_apply]
  show _ = ∑ o : Fin 8, ∑ l : Fin 768, pairArr a b (ix2 t ⟨768 * o.val + l.val, _⟩) * wArr g u (ix3 o q l)
  have e1 (o : Fin 8) (l : Fin 768) : (768 * o.val + l.val) / 768 = o.val := by omega
  have e2 (o : Fin 8) (l : Fin 768) : (768 * o.val + l.val) % 768 = l.val := by omega
  simp only [pairArr_apply, wArr_apply, e1, e2, Fin.eta]
  exact (add_comm _ _).trans (sum_owners _ _ _ _).symm

end Cert.DxGateUpArray

end
-- ==== Proof.DwSquareRef.lean ====
/- Hand-written. The reference's gradient of a square product's weights, at an index. -/
module

public import proofs.«01_k».proof.Proof.Gen.RefDwSquareIdeal.Run
public import Idealize.ShloMosaic.Lib.Pointwise

@[expose] public section

noncomputable section

namespace Cert.DwSquareRef

open Cert.RefDwSquareIdeal Cert.RefDwSquareIdeal.Gen Idealize.ShloMosaic Idealize.ShloMosaic.TcCoe
open scoped BigOperators

/-- The transpose of the cotangents' and the inputs' product over the rows. -/
def refArr (x : FVec Ideal S1x8192x1024 .f32) (ct : FVec Ideal S1x8192x1024 .f32) : FVec Ideal S1024x1024 .f32 :=
  transpose S1024x1024 [1, 0] (Host.dotGeneral (φ₁ := .f32) (φ₂ := .f32) dot_S1x8192x1024_S1x8192x1024_S1024x1024_01_01_2_2_n_n none ct x)
    transposes_S1024x1024_S1024x1024_1_0

theorem refArr_apply (x : FVec Ideal S1x8192x1024 .f32) (ct : FVec Ideal S1x8192x1024 .f32) (p : Fin 1024) (q : Fin 1024) :
    refArr x ct (ix2 p q) = ∑ t : Fin 8192, ct (ix3 0 t q) * x (ix3 0 t p) := by
  pointwise [refArr]
  exact Fin.sum_univ_one _

end Cert.DwSquareRef

end
-- ==== Proof.DwSquare.lean ====
/- Hand-written. The gradient of a square product's weights: what the kernel's grid leaves, and that it is the reference's array. -/
module

public import proofs.«01_k».proof.Proof.DwSquareRef
public import proofs.«01_k».proof.Proof.Gen.DwSquareIdeal.Value
public import Idealize.ShloMosaic.Lib.Pipeline.ValueKit.Point
public import Idealize.ShloMosaic.Lib.Pipeline.ValueKit.Acc
public import Idealize.ShloMosaic.Lib.Pointwise

@[expose] public section

noncomputable section

namespace Cert.DwSquareArray

open Cert.DwSquareIdeal Cert.DwSquareIdeal.Gen Idealize.ShloMosaic Idealize.ShloMosaic.TcCoe
open scoped BigOperators

/-- The product of one array's transpose with another: the sum over the rows. -/
def prod (a : Vec Ideal S8192x1024 .bf16) (b : Vec Ideal S8192x1024 .bf16) : Vec Ideal S1024x1024 .f32 :=
  fun i => ∑ l : Fin 8192, a (ix2 l (i 0)) * b (ix2 l (i 1))

theorem pay_apply (x : Vec Ideal S2048x1024 .bf16) (y : Vec Ideal S2048x1024 .bf16) (r : Fin 1024) (c : Fin 1024) :
    k0_pay1 x y (ix2 r c) = ∑ k : Fin 2048, x (ix2 k r) * y (ix2 k c) := by
  pointwise [k0_pay1]

theorem pay_add (x : Vec Ideal S2048x1024 .bf16) (y : Vec Ideal S2048x1024 .bf16) (z : Vec Ideal S1024x1024 .f32) (j : S1024x1024.Idx) :
    k0_pay2 x y z j = z j + k0_pay1 x y j := by
  obtain ⟨r, c, rfl⟩ : ∃ r c, j = ix2 r c := ⟨j 0, j 1, by funext k; fin_cases k <;> rfl⟩
  pointwise [k0_pay2]

theorem index0 : ∀ t : Fin cfg0.N, win0_0.index t = ![t.val % 4, 0] :=
  (by decide +kernel : ∀ t : Fin grid0.N, win0_0.index t = ![t.val % 4, 0])
theorem index1 : ∀ t : Fin cfg0.N, win0_1.index t = ![t.val % 4, t.val / 4] :=
  (by decide +kernel : ∀ t : Fin grid0.N, win0_1.index t = ![t.val % 4, t.val / 4])
theorem index2 : ∀ t : Fin cfg0.N, win0_2.index t = ![0, t.val / 4] :=
  (by decide +kernel : ∀ t : Fin grid0.N, win0_2.index t = ![0, t.val / 4])

theorem point_lt (t : Fin cfg0.N) : t.val < 4 := lt_of_lt_of_eq t.isLt N_0

theorem step_lt (t : Fin cfg0.N) (s : Fin 4) : 4 * (t.val / 4) + s.val < cfg0.N :=
  lt_of_lt_of_eq (by have := point_lt t; omega) N_0.symm

theorem block0 (t : Fin cfg0.N) (g s : Nat) (hs : s < 4) (ht : t.val = 4 * g + s) (A : Vec Ideal S8192x1024 .bf16)
    (r : Fin 2048) (l : Fin 1024) :
    ((cfg0.win 0).blk t).view.read (Elt Ideal) A (ix2 r l) = A (ix2 ⟨s * 2048 + r, by omega⟩ l) := by
  have h2 : t.val % 4 = s := by omega
  blk_simp
  refine congrArg A ?_
  blk_ext [index0 t, h2]

theorem block1 (t : Fin cfg0.N) (g s : Nat) (hg : g < 1) (hs : s < 4) (ht : t.val = 4 * g + s) (A : Vec Ideal S8192x1024 .bf16)
    (r : Fin 2048) (l : Fin 1024) :
    ((cfg0.win 1).blk t).view.read (Elt Ideal) A (ix2 r l) = A (ix2 ⟨s * 2048 + r, by omega⟩ ⟨1024 * g + l, by omega⟩) := by
  have h1 : t.val / 4 = g := by omega
  have h2 : t.val % 4 = s := by omega
  blk_simp
  refine congrArg A ?_
  blk_ext [index1 t, h1, h2]

/-- The four points of a block, together: the product at the block's place. -/
theorem run_sum (t : Fin cfg0.N) (a : Vec Ideal S8192x1024 .bf16) (b : Vec Ideal S8192x1024 .bf16) (r : Fin 1024) (q : Fin 1024) :
    (∑ s : Fin 4, k0_pay1 (((cfg0.win 0).blk ⟨4 * (t.val / 4) + s, step_lt t s⟩).view.read (Elt Ideal) a)
      (((cfg0.win 1).blk ⟨4 * (t.val / 4) + s, step_lt t s⟩).view.read (Elt Ideal) b) (ix2 r q) : EReal)
      = prod a b (ix2 r ⟨1024 * (t.val / 4) + q.val, by have := point_lt t; omega⟩) := by
  have := point_lt t
  refine Eq.trans (Finset.sum_congr rfl fun s _ => (pay_apply _ _ _ _).trans (Finset.sum_congr rfl fun k _ => ?_))
    (Fin.sum_mul_add_fin 4 2048 (L := 8192)
      (fun l => (a (ix2 l r) * b (ix2 l ⟨1024 * (t.val / 4) + q.val, by omega⟩) : EReal)))
  rw [block0 _ (t.val / 4) s.val s.isLt rfl, block1 _ (t.val / 4) s.val (by omega) s.isLt rfl]

section Grid

variable (m : (ℓ : Loc nD τ sig) → Buf (Elt Ideal) ℓ) (c : Dev nD)

/-- At the last of a block's points the accumulated block is the sum over the points. -/
theorem outs_sum (t : Fin cfg0.N) (hf : (cfg0.win 2).flush t = true) (j : S1024x1024.Idx) :
    outsAt0 m c t.val t.isLt j = ∑ s : Fin 4, k0_pay1 (iblk m c 0 ⟨4 * (t.val / 4) + s, step_lt t s⟩)
      (iblk m c 1 ⟨4 * (t.val / 4) + s, step_lt t s⟩) j := by
  rw [Pipeline.eq_sum_fin_of_reset_step_apply_of_flush (fun n h => outsAt0 m c n h) 4 (fun _ => 0)
    (fun t j => k0_pay1 (iblk m c 0 t) (iblk m c 1 t) j)
    (fun t h j => by rw [outsAt0_A m c t h (by have := point_lt t; omega)]; frame_out; exact (zero_add _).symm)
    (fun t h j => by rw [outsAt0_B m c t h (by have := point_lt t; omega)]; frame_out; exact pay_add _ _ _ _) t ((flush0_2 t).mp hf) j]
  exact zero_add _

theorem final (a : Vec Ideal S8192x1024 .bf16) (b : Vec Ideal S8192x1024 .bf16) (ha : V m c main_v1 = a) (hb : V m c main_v3 = b) :
    (dats m 0 c).arrAt 2 cfg0.N = prod a b := by
  refine (dats m 0 c).arrAt_eq_of_covers 2 _ (by decide +kernel) fun t hf y => ?_
  have := point_lt t
  obtain ⟨r, q, rfl⟩ : ∃ (r : Fin 1024) (q : Fin 1024), y = ix2 r q := ⟨y 0, y 1, by funext k; fin_cases k <;> rfl⟩
  have e : (win0_2.blk t).view.emb (ix2 r q) = ix2 r ⟨1024 * (t.val / 4) + q.val, by omega⟩ := by
    blk_ext [index2 t]
  have i0 (u : Fin cfg0.N) : iblk m c 0 u = ((cfg0.win 0).blk u).view.read (Elt Ideal) a := by rw [← ha]; rfl
  have i1 (u : Fin cfg0.N) : iblk m c 1 u = ((cfg0.win 1).blk u).view.read (Elt Ideal) b := by rw [← hb]; rfl
  blk_simp
  rw [after0_2, outs_sum m c t hf, e]
  simp only [i0, i1]
  exact run_sum t a b r q

end Grid

/-! ### The operands and the reference -/

/-- An array's 8192 rows, in bf16. -/
def xArr (x : FVec Ideal S1x8192x1024 .f32) : FVec Ideal S8192x1024 .bf16 :=
  truncf .bf16 (shapeCast _ x shapeCasts_S1x8192x1024_S8192x1024) bitsLt_bf16_f32

theorem xArr_apply (x : FVec Ideal S1x8192x1024 .f32) (t : Fin 8192) (l : Fin 1024) : xArr x (ix2 t l) = x (ix3 0 t l) := by
  pointwise [xArr]

/-- An array's 8192 rows, in bf16. -/
def ctArr (x : FVec Ideal S1x8192x1024 .f32) : FVec Ideal S8192x1024 .bf16 :=
  truncf .bf16 (shapeCast _ x shapeCasts_S1x8192x1024_S8192x1024) bitsLt_bf16_f32

theorem ctArr_apply (x : FVec Ideal S1x8192x1024 .f32) (t : Fin 8192) (l : Fin 1024) : ctArr x (ix2 t l) = x (ix3 0 t l) := by
  pointwise [ctArr]

theorem refArr_eq (x : FVec Ideal S1x8192x1024 .f32) (ct : FVec Ideal S1x8192x1024 .f32) :
    prod (xArr x) (ctArr ct) = Cert.DwSquareRef.refArr x ct := by
  funext i
  obtain ⟨p, q, rfl⟩ : ∃ (p : Fin 1024) (q : Fin 1024), i = ix2 p q := ⟨i 0, i 1, by funext k; fin_cases k <;> rfl⟩
  refine Eq.trans ?_ (Cert.DwSquareRef.refArr_apply x ct p q).symm
  show ∑ t : Fin 8192, xArr x (ix2 t p) * ctArr ct (ix2 t q) = _
  simp only [xArr_apply, ctArr_apply]
  exact Finset.sum_congr rfl fun t _ => mul_comm _ _

variable (m : (ℓ : Loc nD τ sig) → Buf (Elt Ideal) ℓ) (c : Dev nD)

abbrev arg0 : FVec Ideal S1x8192x1024 .f32 := m ((c : Thread nD τ).loc main_arg0)
abbrev arg1 : FVec Ideal S1024x1024 .f32 := m ((c : Thread nD τ).loc main_arg1)
abbrev arg2 : FVec Ideal S1x8192x1024 .f32 := m ((c : Thread nD τ).loc main_arg2)

theorem V_v1 : V m c main_v1 = xArr (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v3 : V m c main_v3 = ctArr (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem final_ref : (dats m 0 c).arrAt 2 cfg0.N = Cert.DwSquareRef.refArr (arg0 m c) (arg2 m c) :=
  (final m c _ _ (V_v1 m c) (V_v3 m c)).trans (refArr_eq _ _)

end Cert.DwSquareArray

end
-- ==== Proof.DwEvInRef.lean ====
/- Hand-written. The reference's gradient of the even layer's in weights, at an index. -/
module

public import proofs.«01_k».proof.Proof.Gen.RefDwEvInIdeal.Run
public import Idealize.ShloMosaic.Lib.Pointwise

@[expose] public section

noncomputable section

namespace Cert.DwEvInRef

open Cert.RefDwEvInIdeal Cert.RefDwEvInIdeal.Gen Idealize.ShloMosaic Idealize.ShloMosaic.TcCoe
open scoped BigOperators

/-- The transpose of the cotangents' and the inputs' product over the rows. -/
def refArr (x : FVec Ideal S1x8192x1024 .f32) (ct : FVec Ideal S1x8192x3072 .f32) : FVec Ideal S1024x3072 .f32 :=
  transpose S1024x3072 [1, 0] (Host.dotGeneral (φ₁ := .f32) (φ₂ := .f32) dot_S1x8192x3072_S1x8192x1024_S3072x1024_01_01_2_2_n_n none ct x)
    transposes_S3072x1024_S1024x3072_1_0

theorem refArr_apply (x : FVec Ideal S1x8192x1024 .f32) (ct : FVec Ideal S1x8192x3072 .f32) (p : Fin 1024) (q : Fin 3072) :
    refArr x ct (ix2 p q) = ∑ t : Fin 8192, ct (ix3 0 t q) * x (ix3 0 t p) := by
  pointwise [refArr]
  exact Fin.sum_univ_one _

end Cert.DwEvInRef

end
-- ==== Proof.DwEvIn.lean ====
/- Hand-written. The gradient of the even layer's in weights: what the kernel's grid leaves, and that it is the reference's array. -/
module

public import proofs.«01_k».proof.Proof.DwEvInRef
public import proofs.«01_k».proof.Proof.Gen.DwEvInIdeal.Value
public import Idealize.ShloMosaic.Lib.Pipeline.ValueKit.Point
public import Idealize.ShloMosaic.Lib.Pipeline.ValueKit.Acc
public import Idealize.ShloMosaic.Lib.Pointwise

@[expose] public section

noncomputable section

namespace Cert.DwEvInArray

open Cert.DwEvInIdeal Cert.DwEvInIdeal.Gen Idealize.ShloMosaic Idealize.ShloMosaic.TcCoe
open scoped BigOperators

/-- The product of one array's transpose with another: the sum over the rows. -/
def prod (a : Vec Ideal S8192x1024 .bf16) (b : Vec Ideal S8192x3072 .bf16) : Vec Ideal S1024x3072 .f32 :=
  fun i => ∑ l : Fin 8192, a (ix2 l (i 0)) * b (ix2 l (i 1))

theorem pay_apply (x : Vec Ideal S2048x1024 .bf16) (y : Vec Ideal S2048x1024 .bf16) (r : Fin 1024) (c : Fin 1024) :
    k0_pay1 x y (ix2 r c) = ∑ k : Fin 2048, x (ix2 k r) * y (ix2 k c) := by
  pointwise [k0_pay1]

theorem pay_add (x : Vec Ideal S2048x1024 .bf16) (y : Vec Ideal S2048x1024 .bf16) (z : Vec Ideal S1024x1024 .f32) (j : S1024x1024.Idx) :
    k0_pay2 x y z j = z j + k0_pay1 x y j := by
  obtain ⟨r, c, rfl⟩ : ∃ r c, j = ix2 r c := ⟨j 0, j 1, by funext k; fin_cases k <;> rfl⟩
  pointwise [k0_pay2]

theorem index0 : ∀ t : Fin cfg0.N, win0_0.index t = ![t.val % 4, 0] :=
  (by decide +kernel : ∀ t : Fin grid0.N, win0_0.index t = ![t.val % 4, 0])
theorem index1 : ∀ t : Fin cfg0.N, win0_1.index t = ![t.val % 4, t.val / 4] :=
  (by decide +kernel : ∀ t : Fin grid0.N, win0_1.index t = ![t.val % 4, t.val / 4])
theorem index2 : ∀ t : Fin cfg0.N, win0_2.index t = ![0, t.val / 4] :=
  (by decide +kernel : ∀ t : Fin grid0.N, win0_2.index t = ![0, t.val / 4])

theorem point_lt (t : Fin cfg0.N) : t.val < 12 := lt_of_lt_of_eq t.isLt N_0

theorem step_lt (t : Fin cfg0.N) (s : Fin 4) : 4 * (t.val / 4) + s.val < cfg0.N :=
  lt_of_lt_of_eq (by have := point_lt t; omega) N_0.symm

theorem block0 (t : Fin cfg0.N) (g s : Nat) (hs : s < 4) (ht : t.val = 4 * g + s) (A : Vec Ideal S8192x1024 .bf16)
    (r : Fin 2048) (l : Fin 1024) :
    ((cfg0.win 0).blk t).view.read (Elt Ideal) A (ix2 r l) = A (ix2 ⟨s * 2048 + r, by omega⟩ l) := by
  have h2 : t.val % 4 = s := by omega
  blk_simp
  refine congrArg A ?_
  blk_ext [index0 t, h2]

theorem block1 (t : Fin cfg0.N) (g s : Nat) (hg : g < 3) (hs : s < 4) (ht : t.val = 4 * g + s) (A : Vec Ideal S8192x3072 .bf16)
    (r : Fin 2048) (l : Fin 1024) :
    ((cfg0.win 1).blk t).view.read (Elt Ideal) A (ix2 r l) = A (ix2 ⟨s * 2048 + r, by omega⟩ ⟨1024 * g + l, by omega⟩) := by
  have h1 : t.val / 4 = g := by omega
  have h2 : t.val % 4 = s := by omega
  blk_simp
  refine congrArg A ?_
  blk_ext [index1 t, h1, h2]

/-- The four points of a block, together: the product at the block's place. -/
theorem run_sum (t : Fin cfg0.N) (a : Vec Ideal S8192x1024 .bf16) (b : Vec Ideal S8192x3072 .bf16) (r : Fin 1024) (q : Fin 1024) :
    (∑ s : Fin 4, k0_pay1 (((cfg0.win 0).blk ⟨4 * (t.val / 4) + s, step_lt t s⟩).view.read (Elt Ideal) a)
      (((cfg0.win 1).blk ⟨4 * (t.val / 4) + s, step_lt t s⟩).view.read (Elt Ideal) b) (ix2 r q) : EReal)
      = prod a b (ix2 r ⟨1024 * (t.val / 4) + q.val, by have := point_lt t; omega⟩) := by
  have := point_lt t
  refine Eq.trans (Finset.sum_congr rfl fun s _ => (pay_apply _ _ _ _).trans (Finset.sum_congr rfl fun k _ => ?_))
    (Fin.sum_mul_add_fin 4 2048 (L := 8192)
      (fun l => (a (ix2 l r) * b (ix2 l ⟨1024 * (t.val / 4) + q.val, by omega⟩) : EReal)))
  rw [block0 _ (t.val / 4) s.val s.isLt rfl, block1 _ (t.val / 4) s.val (by omega) s.isLt rfl]

section Grid

variable (m : (ℓ : Loc nD τ sig) → Buf (Elt Ideal) ℓ) (c : Dev nD)

/-- At the last of a block's points the accumulated block is the sum over the points. -/
theorem outs_sum (t : Fin cfg0.N) (hf : (cfg0.win 2).flush t = true) (j : S1024x1024.Idx) :
    outsAt0 m c t.val t.isLt j = ∑ s : Fin 4, k0_pay1 (iblk m c 0 ⟨4 * (t.val / 4) + s, step_lt t s⟩)
      (iblk m c 1 ⟨4 * (t.val / 4) + s, step_lt t s⟩) j := by
  rw [Pipeline.eq_sum_fin_of_reset_step_apply_of_flush (fun n h => outsAt0 m c n h) 4 (fun _ => 0)
    (fun t j => k0_pay1 (iblk m c 0 t) (iblk m c 1 t) j)
    (fun t h j => by rw [outsAt0_A m c t h (by have := point_lt t; omega)]; frame_out; exact (zero_add _).symm)
    (fun t h j => by rw [outsAt0_B m c t h (by have := point_lt t; omega)]; frame_out; exact pay_add _ _ _ _) t ((flush0_2 t).mp hf) j]
  exact zero_add _

theorem final (a : Vec Ideal S8192x1024 .bf16) (b : Vec Ideal S8192x3072 .bf16) (ha : V m c main_v1 = a) (hb : V m c main_v3 = b) :
    (dats m 0 c).arrAt 2 cfg0.N = prod a b := by
  refine (dats m 0 c).arrAt_eq_of_covers 2 _ (by decide +kernel) fun t hf y => ?_
  have := point_lt t
  obtain ⟨r, q, rfl⟩ : ∃ (r : Fin 1024) (q : Fin 1024), y = ix2 r q := ⟨y 0, y 1, by funext k; fin_cases k <;> rfl⟩
  have e : (win0_2.blk t).view.emb (ix2 r q) = ix2 r ⟨1024 * (t.val / 4) + q.val, by omega⟩ := by
    blk_ext [index2 t]
  have i0 (u : Fin cfg0.N) : iblk m c 0 u = ((cfg0.win 0).blk u).view.read (Elt Ideal) a := by rw [← ha]; rfl
  have i1 (u : Fin cfg0.N) : iblk m c 1 u = ((cfg0.win 1).blk u).view.read (Elt Ideal) b := by rw [← hb]; rfl
  blk_simp
  rw [after0_2, outs_sum m c t hf, e]
  simp only [i0, i1]
  exact run_sum t a b r q

end Grid

/-! ### The operands and the reference -/

/-- An array's 8192 rows, in bf16. -/
def xArr (x : FVec Ideal S1x8192x1024 .f32) : FVec Ideal S8192x1024 .bf16 :=
  truncf .bf16 (shapeCast _ x shapeCasts_S1x8192x1024_S8192x1024) bitsLt_bf16_f32

theorem xArr_apply (x : FVec Ideal S1x8192x1024 .f32) (t : Fin 8192) (l : Fin 1024) : xArr x (ix2 t l) = x (ix3 0 t l) := by
  pointwise [xArr]

/-- An array's 8192 rows, in bf16. -/
def ctArr (x : FVec Ideal S1x8192x3072 .f32) : FVec Ideal S8192x3072 .bf16 :=
  truncf .bf16 (shapeCast _ x shapeCasts_S1x8192x3072_S8192x3072) bitsLt_bf16_f32

theorem ctArr_apply (x : FVec Ideal S1x8192x3072 .f32) (t : Fin 8192) (l : Fin 3072) : ctArr x (ix2 t l) = x (ix3 0 t l) := by
  pointwise [ctArr]

theorem refArr_eq (x : FVec Ideal S1x8192x1024 .f32) (ct : FVec Ideal S1x8192x3072 .f32) :
    prod (xArr x) (ctArr ct) = Cert.DwEvInRef.refArr x ct := by
  funext i
  obtain ⟨p, q, rfl⟩ : ∃ (p : Fin 1024) (q : Fin 3072), i = ix2 p q := ⟨i 0, i 1, by funext k; fin_cases k <;> rfl⟩
  refine Eq.trans ?_ (Cert.DwEvInRef.refArr_apply x ct p q).symm
  show ∑ t : Fin 8192, xArr x (ix2 t p) * ctArr ct (ix2 t q) = _
  simp only [xArr_apply, ctArr_apply]
  exact Finset.sum_congr rfl fun t _ => mul_comm _ _

variable (m : (ℓ : Loc nD τ sig) → Buf (Elt Ideal) ℓ) (c : Dev nD)

abbrev arg0 : FVec Ideal S1x8192x1024 .f32 := m ((c : Thread nD τ).loc main_arg0)
abbrev arg1 : FVec Ideal S1024x3072 .f32 := m ((c : Thread nD τ).loc main_arg1)
abbrev arg2 : FVec Ideal S1x8192x3072 .f32 := m ((c : Thread nD τ).loc main_arg2)

theorem V_v1 : V m c main_v1 = xArr (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v3 : V m c main_v3 = ctArr (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem final_ref : (dats m 0 c).arrAt 2 cfg0.N = Cert.DwEvInRef.refArr (arg0 m c) (arg2 m c) :=
  (final m c _ _ (V_v1 m c) (V_v3 m c)).trans (refArr_eq _ _)

end Cert.DwEvInArray

end
-- ==== Proof.DwOdInRef.lean ====
/- Hand-written. The reference's gradient of the odd layer's in weights, at an index. -/
module

public import proofs.«01_k».proof.Proof.Gen.RefDwOdInIdeal.Run
public import Idealize.ShloMosaic.Lib.Pointwise

@[expose] public section

noncomputable section

namespace Cert.DwOdInRef

open Cert.RefDwOdInIdeal Cert.RefDwOdInIdeal.Gen Idealize.ShloMosaic Idealize.ShloMosaic.TcCoe
open scoped BigOperators

/-- The transpose of the cotangents' and the inputs' product over the rows. -/
def refArr (x : FVec Ideal S1x8192x1024 .f32) (ct : FVec Ideal S1x8192x1536 .f32) : FVec Ideal S1024x1536 .f32 :=
  transpose S1024x1536 [1, 0] (Host.dotGeneral (φ₁ := .f32) (φ₂ := .f32) dot_S1x8192x1536_S1x8192x1024_S1536x1024_01_01_2_2_n_n none ct x)
    transposes_S1536x1024_S1024x1536_1_0

theorem refArr_apply (x : FVec Ideal S1x8192x1024 .f32) (ct : FVec Ideal S1x8192x1536 .f32) (p : Fin 1024) (q : Fin 1536) :
    refArr x ct (ix2 p q) = ∑ t : Fin 8192, ct (ix3 0 t q) * x (ix3 0 t p) := by
  pointwise [refArr]
  exact Fin.sum_univ_one _

end Cert.DwOdInRef

end
-- ==== Proof.DwOdIn.lean ====
/- Hand-written. The gradient of the odd layer's in weights: what the kernel's grid leaves, and that it is the reference's array. -/
module

public import proofs.«01_k».proof.Proof.DwOdInRef
public import proofs.«01_k».proof.Proof.Gen.DwOdInIdeal.Value
public import Idealize.ShloMosaic.Lib.Pipeline.ValueKit.Point
public import Idealize.ShloMosaic.Lib.Pipeline.ValueKit.Acc
public import Idealize.ShloMosaic.Lib.Pointwise

@[expose] public section

noncomputable section

namespace Cert.DwOdInArray

open Cert.DwOdInIdeal Cert.DwOdInIdeal.Gen Idealize.ShloMosaic Idealize.ShloMosaic.TcCoe
open scoped BigOperators

/-- The product of one array's transpose with another: the sum over the rows. -/
def prod (a : Vec Ideal S8192x1024 .bf16) (b : Vec Ideal S8192x1536 .bf16) : Vec Ideal S1024x1536 .f32 :=
  fun i => ∑ l : Fin 8192, a (ix2 l (i 0)) * b (ix2 l (i 1))

theorem pay_apply (x : Vec Ideal S2048x1024 .bf16) (y : Vec Ideal S2048x768 .bf16) (r : Fin 1024) (c : Fin 768) :
    k0_pay1 x y (ix2 r c) = ∑ k : Fin 2048, x (ix2 k r) * y (ix2 k c) := by
  pointwise [k0_pay1]

theorem pay_add (x : Vec Ideal S2048x1024 .bf16) (y : Vec Ideal S2048x768 .bf16) (z : Vec Ideal S1024x768 .f32) (j : S1024x768.Idx) :
    k0_pay2 x y z j = z j + k0_pay1 x y j := by
  obtain ⟨r, c, rfl⟩ : ∃ r c, j = ix2 r c := ⟨j 0, j 1, by funext k; fin_cases k <;> rfl⟩
  pointwise [k0_pay2]

theorem index0 : ∀ t : Fin cfg0.N, win0_0.index t = ![t.val % 4, 0] :=
  (by decide +kernel : ∀ t : Fin grid0.N, win0_0.index t = ![t.val % 4, 0])
theorem index1 : ∀ t : Fin cfg0.N, win0_1.index t = ![t.val % 4, t.val / 4] :=
  (by decide +kernel : ∀ t : Fin grid0.N, win0_1.index t = ![t.val % 4, t.val / 4])
theorem index2 : ∀ t : Fin cfg0.N, win0_2.index t = ![0, t.val / 4] :=
  (by decide +kernel : ∀ t : Fin grid0.N, win0_2.index t = ![0, t.val / 4])

theorem point_lt (t : Fin cfg0.N) : t.val < 8 := lt_of_lt_of_eq t.isLt N_0

theorem step_lt (t : Fin cfg0.N) (s : Fin 4) : 4 * (t.val / 4) + s.val < cfg0.N :=
  lt_of_lt_of_eq (by have := point_lt t; omega) N_0.symm

theorem block0 (t : Fin cfg0.N) (g s : Nat) (hs : s < 4) (ht : t.val = 4 * g + s) (A : Vec Ideal S8192x1024 .bf16)
    (r : Fin 2048) (l : Fin 1024) :
    ((cfg0.win 0).blk t).view.read (Elt Ideal) A (ix2 r l) = A (ix2 ⟨s * 2048 + r, by omega⟩ l) := by
  have h2 : t.val % 4 = s := by omega
  blk_simp
  refine congrArg A ?_
  blk_ext [index0 t, h2]

theorem block1 (t : Fin cfg0.N) (g s : Nat) (hg : g < 2) (hs : s < 4) (ht : t.val = 4 * g + s) (A : Vec Ideal S8192x1536 .bf16)
    (r : Fin 2048) (l : Fin 768) :
    ((cfg0.win 1).blk t).view.read (Elt Ideal) A (ix2 r l) = A (ix2 ⟨s * 2048 + r, by omega⟩ ⟨768 * g + l, by omega⟩) := by
  have h1 : t.val / 4 = g := by omega
  have h2 : t.val % 4 = s := by omega
  blk_simp
  refine congrArg A ?_
  blk_ext [index1 t, h1, h2]

/-- The four points of a block, together: the product at the block's place. -/
theorem run_sum (t : Fin cfg0.N) (a : Vec Ideal S8192x1024 .bf16) (b : Vec Ideal S8192x1536 .bf16) (r : Fin 1024) (q : Fin 768) :
    (∑ s : Fin 4, k0_pay1 (((cfg0.win 0).blk ⟨4 * (t.val / 4) + s, step_lt t s⟩).view.read (Elt Ideal) a)
      (((cfg0.win 1).blk ⟨4 * (t.val / 4) + s, step_lt t s⟩).view.read (Elt Ideal) b) (ix2 r q) : EReal)
      = prod a b (ix2 r ⟨768 * (t.val / 4) + q.val, by have := point_lt t; omega⟩) := by
  have := point_lt t
  refine Eq.trans (Finset.sum_congr rfl fun s _ => (pay_apply _ _ _ _).trans (Finset.sum_congr rfl fun k _ => ?_))
    (Fin.sum_mul_add_fin 4 2048 (L := 8192)
      (fun l => (a (ix2 l r) * b (ix2 l ⟨768 * (t.val / 4) + q.val, by omega⟩) : EReal)))
  rw [block0 _ (t.val / 4) s.val s.isLt rfl, block1 _ (t.val / 4) s.val (by omega) s.isLt rfl]

section Grid

variable (m : (ℓ : Loc nD τ sig) → Buf (Elt Ideal) ℓ) (c : Dev nD)

/-- At the last of a block's points the accumulated block is the sum over the points. -/
theorem outs_sum (t : Fin cfg0.N) (hf : (cfg0.win 2).flush t = true) (j : S1024x768.Idx) :
    outsAt0 m c t.val t.isLt j = ∑ s : Fin 4, k0_pay1 (iblk m c 0 ⟨4 * (t.val / 4) + s, step_lt t s⟩)
      (iblk m c 1 ⟨4 * (t.val / 4) + s, step_lt t s⟩) j := by
  rw [Pipeline.eq_sum_fin_of_reset_step_apply_of_flush (fun n h => outsAt0 m c n h) 4 (fun _ => 0)
    (fun t j => k0_pay1 (iblk m c 0 t) (iblk m c 1 t) j)
    (fun t h j => by rw [outsAt0_A m c t h (by have := point_lt t; omega)]; frame_out; exact (zero_add _).symm)
    (fun t h j => by rw [outsAt0_B m c t h (by have := point_lt t; omega)]; frame_out; exact pay_add _ _ _ _) t ((flush0_2 t).mp hf) j]
  exact zero_add _

theorem final (a : Vec Ideal S8192x1024 .bf16) (b : Vec Ideal S8192x1536 .bf16) (ha : V m c main_v1 = a) (hb : V m c main_v3 = b) :
    (dats m 0 c).arrAt 2 cfg0.N = prod a b := by
  refine (dats m 0 c).arrAt_eq_of_covers 2 _ (by decide +kernel) fun t hf y => ?_
  have := point_lt t
  obtain ⟨r, q, rfl⟩ : ∃ (r : Fin 1024) (q : Fin 768), y = ix2 r q := ⟨y 0, y 1, by funext k; fin_cases k <;> rfl⟩
  have e : (win0_2.blk t).view.emb (ix2 r q) = ix2 r ⟨768 * (t.val / 4) + q.val, by omega⟩ := by
    blk_ext [index2 t]
  have i0 (u : Fin cfg0.N) : iblk m c 0 u = ((cfg0.win 0).blk u).view.read (Elt Ideal) a := by rw [← ha]; rfl
  have i1 (u : Fin cfg0.N) : iblk m c 1 u = ((cfg0.win 1).blk u).view.read (Elt Ideal) b := by rw [← hb]; rfl
  blk_simp
  rw [after0_2, outs_sum m c t hf, e]
  simp only [i0, i1]
  exact run_sum t a b r q

end Grid

/-! ### The operands and the reference -/

/-- An array's 8192 rows, in bf16. -/
def xArr (x : FVec Ideal S1x8192x1024 .f32) : FVec Ideal S8192x1024 .bf16 :=
  truncf .bf16 (shapeCast _ x shapeCasts_S1x8192x1024_S8192x1024) bitsLt_bf16_f32

theorem xArr_apply (x : FVec Ideal S1x8192x1024 .f32) (t : Fin 8192) (l : Fin 1024) : xArr x (ix2 t l) = x (ix3 0 t l) := by
  pointwise [xArr]

/-- An array's 8192 rows, in bf16. -/
def ctArr (x : FVec Ideal S1x8192x1536 .f32) : FVec Ideal S8192x1536 .bf16 :=
  truncf .bf16 (shapeCast _ x shapeCasts_S1x8192x1536_S8192x1536) bitsLt_bf16_f32

theorem ctArr_apply (x : FVec Ideal S1x8192x1536 .f32) (t : Fin 8192) (l : Fin 1536) : ctArr x (ix2 t l) = x (ix3 0 t l) := by
  pointwise [ctArr]

theorem refArr_eq (x : FVec Ideal S1x8192x1024 .f32) (ct : FVec Ideal S1x8192x1536 .f32) :
    prod (xArr x) (ctArr ct) = Cert.DwOdInRef.refArr x ct := by
  funext i
  obtain ⟨p, q, rfl⟩ : ∃ (p : Fin 1024) (q : Fin 1536), i = ix2 p q := ⟨i 0, i 1, by funext k; fin_cases k <;> rfl⟩
  refine Eq.trans ?_ (Cert.DwOdInRef.refArr_apply x ct p q).symm
  show ∑ t : Fin 8192, xArr x (ix2 t p) * ctArr ct (ix2 t q) = _
  simp only [xArr_apply, ctArr_apply]
  exact Finset.sum_congr rfl fun t _ => mul_comm _ _

variable (m : (ℓ : Loc nD τ sig) → Buf (Elt Ideal) ℓ) (c : Dev nD)

abbrev arg0 : FVec Ideal S1x8192x1024 .f32 := m ((c : Thread nD τ).loc main_arg0)
abbrev arg1 : FVec Ideal S1024x1536 .f32 := m ((c : Thread nD τ).loc main_arg1)
abbrev arg2 : FVec Ideal S1x8192x1536 .f32 := m ((c : Thread nD τ).loc main_arg2)

theorem V_v1 : V m c main_v1 = xArr (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v3 : V m c main_v3 = ctArr (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem final_ref : (dats m 0 c).arrAt 2 cfg0.N = Cert.DwOdInRef.refArr (arg0 m c) (arg2 m c) :=
  (final m c _ _ (V_v1 m c) (V_v3 m c)).trans (refArr_eq _ _)

end Cert.DwOdInArray

end
-- ==== Proof.DwPleProjRef.lean ====
/- Hand-written. The reference's gradient of the per-layer embedding's weights, at an index. -/
module

public import proofs.«01_k».proof.Proof.Gen.RefDwPleProjIdeal.Run
public import Idealize.ShloMosaic.Lib.Pointwise

@[expose] public section

noncomputable section

namespace Cert.DwPleProjRef

open Cert.RefDwPleProjIdeal Cert.RefDwPleProjIdeal.Gen Idealize.ShloMosaic Idealize.ShloMosaic.TcCoe
open scoped BigOperators

/-- The transpose of the cotangents' and the inputs' product over the rows. -/
def refArr (x : FVec Ideal S1x8192x256 .f32) (ct : FVec Ideal S1x8192x1024 .f32) : FVec Ideal S256x1024 .f32 :=
  transpose S256x1024 [1, 0] (Host.dotGeneral (φ₁ := .f32) (φ₂ := .f32) dot_S1x8192x1024_S1x8192x256_S1024x256_01_01_2_2_n_n none ct x)
    transposes_S1024x256_S256x1024_1_0

theorem refArr_apply (x : FVec Ideal S1x8192x256 .f32) (ct : FVec Ideal S1x8192x1024 .f32) (p : Fin 256) (q : Fin 1024) :
    refArr x ct (ix2 p q) = ∑ t : Fin 8192, ct (ix3 0 t q) * x (ix3 0 t p) := by
  pointwise [refArr]
  exact Fin.sum_univ_one _

end Cert.DwPleProjRef

end
-- ==== Proof.DwPleProj.lean ====
/- Hand-written. The gradient of the per-layer embedding's weights: what the kernel's grid leaves, and that it is the reference's array. -/
module

public import proofs.«01_k».proof.Proof.DwPleProjRef
public import proofs.«01_k».proof.Proof.Gen.DwPleProjIdeal.Value
public import Idealize.ShloMosaic.Lib.Pipeline.ValueKit.Point
public import Idealize.ShloMosaic.Lib.Pipeline.ValueKit.Acc
public import Idealize.ShloMosaic.Lib.Pointwise

@[expose] public section

noncomputable section

namespace Cert.DwPleProjArray

open Cert.DwPleProjIdeal Cert.DwPleProjIdeal.Gen Idealize.ShloMosaic Idealize.ShloMosaic.TcCoe
open scoped BigOperators

/-- The product of one array's transpose with another: the sum over the rows. -/
def prod (a : Vec Ideal S8192x256 .bf16) (b : Vec Ideal S8192x1024 .bf16) : Vec Ideal S256x1024 .f32 :=
  fun i => ∑ l : Fin 8192, a (ix2 l (i 0)) * b (ix2 l (i 1))

theorem pay_apply (x : Vec Ideal S2048x256 .bf16) (y : Vec Ideal S2048x1024 .bf16) (r : Fin 256) (c : Fin 1024) :
    k0_pay1 x y (ix2 r c) = ∑ k : Fin 2048, x (ix2 k r) * y (ix2 k c) := by
  pointwise [k0_pay1]

theorem pay_add (x : Vec Ideal S2048x256 .bf16) (y : Vec Ideal S2048x1024 .bf16) (z : Vec Ideal S256x1024 .f32) (j : S256x1024.Idx) :
    k0_pay2 x y z j = z j + k0_pay1 x y j := by
  obtain ⟨r, c, rfl⟩ : ∃ r c, j = ix2 r c := ⟨j 0, j 1, by funext k; fin_cases k <;> rfl⟩
  pointwise [k0_pay2]

theorem index0 : ∀ t : Fin cfg0.N, win0_0.index t = ![t.val % 4, 0] :=
  (by decide +kernel : ∀ t : Fin grid0.N, win0_0.index t = ![t.val % 4, 0])
theorem index1 : ∀ t : Fin cfg0.N, win0_1.index t = ![t.val % 4, t.val / 4] :=
  (by decide +kernel : ∀ t : Fin grid0.N, win0_1.index t = ![t.val % 4, t.val / 4])
theorem index2 : ∀ t : Fin cfg0.N, win0_2.index t = ![0, t.val / 4] :=
  (by decide +kernel : ∀ t : Fin grid0.N, win0_2.index t = ![0, t.val / 4])

theorem point_lt (t : Fin cfg0.N) : t.val < 4 := lt_of_lt_of_eq t.isLt N_0

theorem step_lt (t : Fin cfg0.N) (s : Fin 4) : 4 * (t.val / 4) + s.val < cfg0.N :=
  lt_of_lt_of_eq (by have := point_lt t; omega) N_0.symm

theorem block0 (t : Fin cfg0.N) (g s : Nat) (hs : s < 4) (ht : t.val = 4 * g + s) (A : Vec Ideal S8192x256 .bf16)
    (r : Fin 2048) (l : Fin 256) :
    ((cfg0.win 0).blk t).view.read (Elt Ideal) A (ix2 r l) = A (ix2 ⟨s * 2048 + r, by omega⟩ l) := by
  have h2 : t.val % 4 = s := by omega
  blk_simp
  refine congrArg A ?_
  blk_ext [index0 t, h2]

theorem block1 (t : Fin cfg0.N) (g s : Nat) (hg : g < 1) (hs : s < 4) (ht : t.val = 4 * g + s) (A : Vec Ideal S8192x1024 .bf16)
    (r : Fin 2048) (l : Fin 1024) :
    ((cfg0.win 1).blk t).view.read (Elt Ideal) A (ix2 r l) = A (ix2 ⟨s * 2048 + r, by omega⟩ ⟨1024 * g + l, by omega⟩) := by
  have h1 : t.val / 4 = g := by omega
  have h2 : t.val % 4 = s := by omega
  blk_simp
  refine congrArg A ?_
  blk_ext [index1 t, h1, h2]

/-- The four points of a block, together: the product at the block's place. -/
theorem run_sum (t : Fin cfg0.N) (a : Vec Ideal S8192x256 .bf16) (b : Vec Ideal S8192x1024 .bf16) (r : Fin 256) (q : Fin 1024) :
    (∑ s : Fin 4, k0_pay1 (((cfg0.win 0).blk ⟨4 * (t.val / 4) + s, step_lt t s⟩).view.read (Elt Ideal) a)
      (((cfg0.win 1).blk ⟨4 * (t.val / 4) + s, step_lt t s⟩).view.read (Elt Ideal) b) (ix2 r q) : EReal)
      = prod a b (ix2 r ⟨1024 * (t.val / 4) + q.val, by have := point_lt t; omega⟩) := by
  have := point_lt t
  refine Eq.trans (Finset.sum_congr rfl fun s _ => (pay_apply _ _ _ _).trans (Finset.sum_congr rfl fun k _ => ?_))
    (Fin.sum_mul_add_fin 4 2048 (L := 8192)
      (fun l => (a (ix2 l r) * b (ix2 l ⟨1024 * (t.val / 4) + q.val, by omega⟩) : EReal)))
  rw [block0 _ (t.val / 4) s.val s.isLt rfl, block1 _ (t.val / 4) s.val (by omega) s.isLt rfl]

section Grid

variable (m : (ℓ : Loc nD τ sig) → Buf (Elt Ideal) ℓ) (c : Dev nD)

/-- At the last of a block's points the accumulated block is the sum over the points. -/
theorem outs_sum (t : Fin cfg0.N) (hf : (cfg0.win 2).flush t = true) (j : S256x1024.Idx) :
    outsAt0 m c t.val t.isLt j = ∑ s : Fin 4, k0_pay1 (iblk m c 0 ⟨4 * (t.val / 4) + s, step_lt t s⟩)
      (iblk m c 1 ⟨4 * (t.val / 4) + s, step_lt t s⟩) j := by
  rw [Pipeline.eq_sum_fin_of_reset_step_apply_of_flush (fun n h => outsAt0 m c n h) 4 (fun _ => 0)
    (fun t j => k0_pay1 (iblk m c 0 t) (iblk m c 1 t) j)
    (fun t h j => by rw [outsAt0_A m c t h (by have := point_lt t; omega)]; frame_out; exact (zero_add _).symm)
    (fun t h j => by rw [outsAt0_B m c t h (by have := point_lt t; omega)]; frame_out; exact pay_add _ _ _ _) t ((flush0_2 t).mp hf) j]
  exact zero_add _

theorem final (a : Vec Ideal S8192x256 .bf16) (b : Vec Ideal S8192x1024 .bf16) (ha : V m c main_v1 = a) (hb : V m c main_v3 = b) :
    (dats m 0 c).arrAt 2 cfg0.N = prod a b := by
  refine (dats m 0 c).arrAt_eq_of_covers 2 _ (by decide +kernel) fun t hf y => ?_
  have := point_lt t
  obtain ⟨r, q, rfl⟩ : ∃ (r : Fin 256) (q : Fin 1024), y = ix2 r q := ⟨y 0, y 1, by funext k; fin_cases k <;> rfl⟩
  have e : (win0_2.blk t).view.emb (ix2 r q) = ix2 r ⟨1024 * (t.val / 4) + q.val, by omega⟩ := by
    blk_ext [index2 t]
  have i0 (u : Fin cfg0.N) : iblk m c 0 u = ((cfg0.win 0).blk u).view.read (Elt Ideal) a := by rw [← ha]; rfl
  have i1 (u : Fin cfg0.N) : iblk m c 1 u = ((cfg0.win 1).blk u).view.read (Elt Ideal) b := by rw [← hb]; rfl
  blk_simp
  rw [after0_2, outs_sum m c t hf, e]
  simp only [i0, i1]
  exact run_sum t a b r q

end Grid

/-! ### The operands and the reference -/

/-- An array's 8192 rows, in bf16. -/
def xArr (x : FVec Ideal S1x8192x256 .f32) : FVec Ideal S8192x256 .bf16 :=
  truncf .bf16 (shapeCast _ x shapeCasts_S1x8192x256_S8192x256) bitsLt_bf16_f32

theorem xArr_apply (x : FVec Ideal S1x8192x256 .f32) (t : Fin 8192) (l : Fin 256) : xArr x (ix2 t l) = x (ix3 0 t l) := by
  pointwise [xArr]

/-- An array's 8192 rows, in bf16. -/
def ctArr (x : FVec Ideal S1x8192x1024 .f32) : FVec Ideal S8192x1024 .bf16 :=
  truncf .bf16 (shapeCast _ x shapeCasts_S1x8192x1024_S8192x1024) bitsLt_bf16_f32

theorem ctArr_apply (x : FVec Ideal S1x8192x1024 .f32) (t : Fin 8192) (l : Fin 1024) : ctArr x (ix2 t l) = x (ix3 0 t l) := by
  pointwise [ctArr]

theorem refArr_eq (x : FVec Ideal S1x8192x256 .f32) (ct : FVec Ideal S1x8192x1024 .f32) :
    prod (xArr x) (ctArr ct) = Cert.DwPleProjRef.refArr x ct := by
  funext i
  obtain ⟨p, q, rfl⟩ : ∃ (p : Fin 256) (q : Fin 1024), i = ix2 p q := ⟨i 0, i 1, by funext k; fin_cases k <;> rfl⟩
  refine Eq.trans ?_ (Cert.DwPleProjRef.refArr_apply x ct p q).symm
  show ∑ t : Fin 8192, xArr x (ix2 t p) * ctArr ct (ix2 t q) = _
  simp only [xArr_apply, ctArr_apply]
  exact Finset.sum_congr rfl fun t _ => mul_comm _ _

variable (m : (ℓ : Loc nD τ sig) → Buf (Elt Ideal) ℓ) (c : Dev nD)

abbrev arg0 : FVec Ideal S1x8192x256 .f32 := m ((c : Thread nD τ).loc main_arg0)
abbrev arg1 : FVec Ideal S256x1024 .f32 := m ((c : Thread nD τ).loc main_arg1)
abbrev arg2 : FVec Ideal S1x8192x1024 .f32 := m ((c : Thread nD τ).loc main_arg2)

theorem V_v1 : V m c main_v1 = xArr (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v3 : V m c main_v3 = ctArr (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem final_ref : (dats m 0 c).arrAt 2 cfg0.N = Cert.DwPleProjRef.refArr (arg0 m c) (arg2 m c) :=
  (final m c _ _ (V_v1 m c) (V_v3 m c)).trans (refArr_eq _ _)

end Cert.DwPleProjArray

end
-- ==== Proof.DxEvInRef.lean ====
/- Hand-written. The reference's cotangent of the even layer's in product, at an index. -/
module

public import proofs.«01_k».proof.Proof.Gen.RefDxEvInIdeal.Run
public import Idealize.ShloMosaic.Lib.Pointwise

@[expose] public section

noncomputable section

namespace Cert.DxEvInRef

open Cert.RefDxEvInIdeal Cert.RefDxEvInIdeal.Gen Idealize.ShloMosaic Idealize.ShloMosaic.TcCoe
open scoped BigOperators

/-- The cotangents times the weights' transpose. -/
def refArr (w : FVec Ideal S1024x3072 .f32) (ct : FVec Ideal S1x8192x3072 .f32) : FVec Ideal S8192x1024 .f32 :=
  shapeCast _ (Host.dotGeneral (φ₁ := .f32) (φ₂ := .f32) dot_S1x8192x3072_S1024x3072_S1x8192x1024_2_1_01_0_n_n none ct w) shapeCasts_S1x8192x1024_S8192x1024

theorem refArr_apply (w : FVec Ideal S1024x3072 .f32) (ct : FVec Ideal S1x8192x3072 .f32) (t : Fin 8192) (q : Fin 1024) :
    refArr w ct (ix2 t q) = ∑ l : Fin 3072, ct (ix3 0 t l) * w (ix2 q l) := by
  pointwise [refArr]

end Cert.DxEvInRef

end
-- ==== Proof.DxEvIn.lean ====
/- Hand-written. The cotangent of the even layer's in product: what the kernel's grid leaves, and that it is the reference's array. -/
module

public import proofs.«01_k».proof.Proof.DxEvInRef
public import proofs.«01_k».proof.Proof.Gen.DxEvInIdeal.Value
public import Idealize.ShloMosaic.Lib.Pipeline.ValueKit.Point
public import Idealize.ShloMosaic.Lib.Pipeline.ValueKit.Acc
public import Idealize.ShloMosaic.Lib.Pointwise

@[expose] public section

noncomputable section

namespace Cert.DxEvInArray

open Cert.DxEvInIdeal Cert.DxEvInIdeal.Gen Idealize.ShloMosaic Idealize.ShloMosaic.TcCoe
open scoped BigOperators

/-- The product with another array's transpose: the sum over the columns. -/
def prod (a : Vec Ideal S8192x3072 .bf16) (b : Vec Ideal S1024x3072 .bf16) : Vec Ideal S8192x1024 .f32 :=
  fun i => ∑ l : Fin 3072, a (ix2 (i 0) l) * b (ix2 (i 1) l)

theorem pay_apply (x y : Vec Ideal S1024x1536 .bf16) (r c : Fin 1024) :
    k0_pay1 x y (ix2 r c) = ∑ k : Fin 1536, x (ix2 r k) * y (ix2 c k) := by
  pointwise [k0_pay1]

theorem pay_add (x : Vec Ideal S1024x1536 .bf16) (y : Vec Ideal S1024x1536 .bf16) (z : Vec Ideal S1024x1024 .f32) (j : S1024x1024.Idx) :
    k0_pay2 x y z j = z j + k0_pay1 x y j := by
  obtain ⟨r, c, rfl⟩ : ∃ r c, j = ix2 r c := ⟨j 0, j 1, by funext k; fin_cases k <;> rfl⟩
  pointwise [k0_pay2]

theorem index0 : ∀ t : Fin cfg0.N, win0_0.index t = ![t.val / 2, t.val % 2] :=
  (by decide +kernel : ∀ t : Fin grid0.N, win0_0.index t = ![t.val / 2, t.val % 2])
theorem index1 : ∀ t : Fin cfg0.N, win0_1.index t = ![0, t.val % 2] :=
  (by decide +kernel : ∀ t : Fin grid0.N, win0_1.index t = ![0, t.val % 2])
theorem index2 : ∀ t : Fin cfg0.N, win0_2.index t = ![t.val / 2, 0] :=
  (by decide +kernel : ∀ t : Fin grid0.N, win0_2.index t = ![t.val / 2, 0])

theorem point_lt (t : Fin cfg0.N) : t.val < 16 := lt_of_lt_of_eq t.isLt N_0

theorem step_lt (t : Fin cfg0.N) (s : Fin 2) : 2 * (t.val / 2) + s.val < cfg0.N :=
  lt_of_lt_of_eq (by have := point_lt t; omega) N_0.symm

theorem block0 (t : Fin cfg0.N) (g s : Nat) (hg : g < 8) (hs : s < 2) (ht : t.val = 2 * g + s) (A : Vec Ideal S8192x3072 .bf16)
    (r : Fin 1024) (l : Fin 1536) :
    ((cfg0.win 0).blk t).view.read (Elt Ideal) A (ix2 r l) = A (ix2 ⟨1024 * g + r, by omega⟩ ⟨s * 1536 + l, by omega⟩) := by
  have h1 : t.val / 2 = g := by omega
  have h2 : t.val % 2 = s := by omega
  blk_simp
  refine congrArg A ?_
  blk_ext [index0 t, h1, h2]

theorem block1 (t : Fin cfg0.N) (g s : Nat) (hs : s < 2) (ht : t.val = 2 * g + s) (A : Vec Ideal S1024x3072 .bf16)
    (r : Fin 1024) (l : Fin 1536) :
    ((cfg0.win 1).blk t).view.read (Elt Ideal) A (ix2 r l) = A (ix2 r ⟨s * 1536 + l, by omega⟩) := by
  have h2 : t.val % 2 = s := by omega
  blk_simp
  refine congrArg A ?_
  blk_ext [index1 t, h2]

/-- The two points of a block, together: the product at the block's place. -/
theorem run_sum (t : Fin cfg0.N) (a : Vec Ideal S8192x3072 .bf16) (b : Vec Ideal S1024x3072 .bf16) (r q : Fin 1024) :
    (∑ s : Fin 2, k0_pay1 (((cfg0.win 0).blk ⟨2 * (t.val / 2) + s, step_lt t s⟩).view.read (Elt Ideal) a)
      (((cfg0.win 1).blk ⟨2 * (t.val / 2) + s, step_lt t s⟩).view.read (Elt Ideal) b) (ix2 r q) : EReal)
      = prod a b (ix2 ⟨1024 * (t.val / 2) + r.val, by have := point_lt t; omega⟩ q) := by
  have := point_lt t
  refine Eq.trans (Finset.sum_congr rfl fun s _ => (pay_apply _ _ _ _).trans (Finset.sum_congr rfl fun k _ => ?_))
    (Fin.sum_mul_add_fin 2 1536 (L := 3072)
      (fun l => (a (ix2 ⟨1024 * (t.val / 2) + r.val, by omega⟩ l) * b (ix2 q l) : EReal)))
  rw [block0 _ (t.val / 2) s.val (by omega) s.isLt rfl, block1 _ (t.val / 2) s.val s.isLt rfl]

section Grid

variable (m : (ℓ : Loc nD τ sig) → Buf (Elt Ideal) ℓ) (c : Dev nD)

/-- At the last of a block's points the accumulated block is the sum over the points. -/
theorem outs_sum (t : Fin cfg0.N) (hf : (cfg0.win 2).flush t = true) (j : S1024x1024.Idx) :
    outsAt0 m c t.val t.isLt j = ∑ s : Fin 2, k0_pay1 (iblk m c 0 ⟨2 * (t.val / 2) + s, step_lt t s⟩)
      (iblk m c 1 ⟨2 * (t.val / 2) + s, step_lt t s⟩) j := by
  rw [Pipeline.eq_sum_fin_of_reset_step_apply_of_flush (fun n h => outsAt0 m c n h) 2 (fun _ => 0)
    (fun t j => k0_pay1 (iblk m c 0 t) (iblk m c 1 t) j)
    (fun t h j => by rw [outsAt0_A m c t h (by have := point_lt t; omega)]; frame_out; exact (zero_add _).symm)
    (fun t h j => by rw [outsAt0_B m c t h (by have := point_lt t; omega)]; frame_out; exact pay_add _ _ _ _) t ((flush0_2 t).mp hf) j]
  exact zero_add _

theorem final (a : Vec Ideal S8192x3072 .bf16) (b : Vec Ideal S1024x3072 .bf16) (ha : V m c main_v1 = a) (hb : V m c main_v2 = b) :
    (dats m 0 c).arrAt 2 cfg0.N = prod a b := by
  refine (dats m 0 c).arrAt_eq_of_covers 2 _ (by decide +kernel) fun t hf y => ?_
  have := point_lt t
  obtain ⟨r, q, rfl⟩ : ∃ (r : Fin 1024) (q : Fin 1024), y = ix2 r q := ⟨y 0, y 1, by funext k; fin_cases k <;> rfl⟩
  have e : (win0_2.blk t).view.emb (ix2 r q) = ix2 ⟨1024 * (t.val / 2) + r.val, by omega⟩ q := by
    blk_ext [index2 t]
  have i0 (u : Fin cfg0.N) : iblk m c 0 u = ((cfg0.win 0).blk u).view.read (Elt Ideal) a := by rw [← ha]; rfl
  have i1 (u : Fin cfg0.N) : iblk m c 1 u = ((cfg0.win 1).blk u).view.read (Elt Ideal) b := by rw [← hb]; rfl
  blk_simp
  rw [after0_2, outs_sum m c t hf, e]
  simp only [i0, i1]
  exact run_sum t a b r q

end Grid

/-! ### The operands and the reference -/

/-- An array's 8192 rows, in bf16. -/
def ctArr (x : FVec Ideal S1x8192x3072 .f32) : FVec Ideal S8192x3072 .bf16 :=
  truncf .bf16 (shapeCast _ x shapeCasts_S1x8192x3072_S8192x3072) bitsLt_bf16_f32

theorem ctArr_apply (x : FVec Ideal S1x8192x3072 .f32) (t : Fin 8192) (l : Fin 3072) : ctArr x (ix2 t l) = x (ix3 0 t l) := by
  pointwise [ctArr]

/-- The weights, in bf16. -/
def wArr (w : FVec Ideal S1024x3072 .f32) : FVec Ideal S1024x3072 .bf16 := truncf .bf16 w bitsLt_bf16_f32

theorem wArr_apply (w : FVec Ideal S1024x3072 .f32) (r : Fin 1024) (l : Fin 3072) : wArr w (ix2 r l) = w (ix2 r l) := by
  pointwise [wArr]

theorem refArr_eq (w : FVec Ideal S1024x3072 .f32) (ct : FVec Ideal S1x8192x3072 .f32) :
    prod (ctArr ct) (wArr w) = Cert.DxEvInRef.refArr w ct := by
  funext i
  obtain ⟨t, q, rfl⟩ : ∃ (t : Fin 8192) (q : Fin 1024), i = ix2 t q := ⟨i 0, i 1, by funext k; fin_cases k <;> rfl⟩
  refine Eq.trans ?_ (Cert.DxEvInRef.refArr_apply w ct t q).symm
  show ∑ l : Fin 3072, ctArr ct (ix2 t l) * wArr w (ix2 q l) = _
  simp only [ctArr_apply, wArr_apply]

variable (m : (ℓ : Loc nD τ sig) → Buf (Elt Ideal) ℓ) (c : Dev nD)

abbrev arg0 : FVec Ideal S1x8192x1024 .f32 := m ((c : Thread nD τ).loc main_arg0)
abbrev arg1 : FVec Ideal S1024x3072 .f32 := m ((c : Thread nD τ).loc main_arg1)
abbrev arg2 : FVec Ideal S1x8192x3072 .f32 := m ((c : Thread nD τ).loc main_arg2)

theorem V_v1 : V m c main_v1 = ctArr (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = wArr (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem final_ref : (dats m 0 c).arrAt 2 cfg0.N = Cert.DxEvInRef.refArr (arg1 m c) (arg2 m c) :=
  (final m c _ _ (V_v1 m c) (V_v2 m c)).trans (refArr_eq _ _)

end Cert.DxEvInArray

end
-- ==== Proof.DxOdInRef.lean ====
/- Hand-written. The reference's cotangent of the odd layer's in product, at an index. -/
module

public import proofs.«01_k».proof.Proof.Gen.RefDxOdInIdeal.Run
public import Idealize.ShloMosaic.Lib.Pointwise

@[expose] public section

noncomputable section

namespace Cert.DxOdInRef

open Cert.RefDxOdInIdeal Cert.RefDxOdInIdeal.Gen Idealize.ShloMosaic Idealize.ShloMosaic.TcCoe
open scoped BigOperators

/-- The cotangents times the weights' transpose. -/
def refArr (w : FVec Ideal S1024x1536 .f32) (ct : FVec Ideal S1x8192x1536 .f32) : FVec Ideal S8192x1024 .f32 :=
  shapeCast _ (Host.dotGeneral (φ₁ := .f32) (φ₂ := .f32) dot_S1x8192x1536_S1024x1536_S1x8192x1024_2_1_01_0_n_n none ct w) shapeCasts_S1x8192x1024_S8192x1024

theorem refArr_apply (w : FVec Ideal S1024x1536 .f32) (ct : FVec Ideal S1x8192x1536 .f32) (t : Fin 8192) (q : Fin 1024) :
    refArr w ct (ix2 t q) = ∑ l : Fin 1536, ct (ix3 0 t l) * w (ix2 q l) := by
  pointwise [refArr]

end Cert.DxOdInRef

end
-- ==== Proof.DxOdIn.lean ====
/- Hand-written. The cotangent of the odd layer's in product: what the kernel's grid leaves, and that it is the reference's array. -/
module

public import proofs.«01_k».proof.Proof.DxOdInRef
public import proofs.«01_k».proof.Proof.Gen.DxOdInIdeal.Value
public import Idealize.ShloMosaic.Lib.Pipeline.ValueKit.Point
public import Idealize.ShloMosaic.Lib.Pipeline.ValueKit.Acc
public import Idealize.ShloMosaic.Lib.Pointwise

@[expose] public section

noncomputable section

namespace Cert.DxOdInArray

open Cert.DxOdInIdeal Cert.DxOdInIdeal.Gen Idealize.ShloMosaic Idealize.ShloMosaic.TcCoe
open scoped BigOperators

/-- The product with another array's transpose: the sum over the columns. -/
def prod (a : Vec Ideal S8192x1536 .bf16) (b : Vec Ideal S1024x1536 .bf16) : Vec Ideal S8192x1024 .f32 :=
  fun i => ∑ l : Fin 1536, a (ix2 (i 0) l) * b (ix2 (i 1) l)

theorem pay_apply (x : Vec Ideal S1024x1536 .bf16) (y : Vec Ideal S1024x1536 .bf16) (r : Fin 1024) (c : Fin 1024) :
    k0_pay1 x y (ix2 r c) = ∑ k : Fin 1536, x (ix2 r k) * y (ix2 c k) := by
  pointwise [k0_pay1]

theorem out_eq (x : Vec Ideal S1024x1536 .bf16) (y : Vec Ideal S1024x1536 .bf16) : out0_2 x y = k0_pay1 x y := by
  unfold out0_2
  frame_out

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

theorem point_lt (t : Fin cfg0.N) : t.val < 8 := lt_of_lt_of_eq t.isLt N_0

theorem block0 (t : Fin cfg0.N) (i : Nat) (hi : i < 8) (ht : t.val = i) (A : Vec Ideal S8192x1536 .bf16) (r : Fin 1024) (l : Fin 1536) :
    ((cfg0.win 0).blk t).view.read (Elt Ideal) A (ix2 r l) = A (ix2 ⟨1024 * i + r, by omega⟩ l) := by
  blk_simp
  refine congrArg A ?_
  blk_ext [index0 t, ht]

theorem block1 (t : Fin cfg0.N) (A : Vec Ideal S1024x1536 .bf16) (r : Fin 1024) (l : Fin 1536) :
    ((cfg0.win 1).blk t).view.read (Elt Ideal) A (ix2 r l) = A (ix2 r l) := by
  blk_simp
  refine congrArg A ?_
  blk_ext [index1 t]

section Grid

variable (m : (ℓ : Loc nD τ sig) → Buf (Elt Ideal) ℓ) (c : Dev nD)

theorem final (a : Vec Ideal S8192x1536 .bf16) (b : Vec Ideal S1024x1536 .bf16) (ha : V m c main_v1 = a) (hb : V m c main_v2 = b) :
    (dats m 0 c).arrAt 2 cfg0.N = prod a b := by
  refine (dats m 0 c).arrAt_eq_of_covers 2 _ (by decide +kernel) fun t hf y => ?_
  have := point_lt t
  obtain ⟨r, q, rfl⟩ : ∃ (r : Fin 1024) (q : Fin 1024), y = ix2 r q := ⟨y 0, y 1, by funext k; fin_cases k <;> rfl⟩
  have e : (win0_2.blk t).view.emb (ix2 r q) = ix2 ⟨1024 * (t.val) + r.val, by omega⟩ q := by
    blk_ext [index2 t]
  have i0 : iblk m c 0 t = ((cfg0.win 0).blk t).view.read (Elt Ideal) a := by rw [← ha]; rfl
  have i1 : iblk m c 1 t = ((cfg0.win 1).blk t).view.read (Elt Ideal) b := by rw [← hb]; rfl
  blk_simp
  rw [after0_2, out_eq, e, i0, i1, pay_apply]
  simp only [block0 t (t.val) (by omega) rfl a, block1 t b]
  rfl

end Grid

/-! ### The operands and the reference -/

/-- An array's 8192 rows, in bf16. -/
def ctArr (x : FVec Ideal S1x8192x1536 .f32) : FVec Ideal S8192x1536 .bf16 :=
  truncf .bf16 (shapeCast _ x shapeCasts_S1x8192x1536_S8192x1536) bitsLt_bf16_f32

theorem ctArr_apply (x : FVec Ideal S1x8192x1536 .f32) (t : Fin 8192) (l : Fin 1536) : ctArr x (ix2 t l) = x (ix3 0 t l) := by
  pointwise [ctArr]

/-- The weights, in bf16. -/
def wArr (w : FVec Ideal S1024x1536 .f32) : FVec Ideal S1024x1536 .bf16 := truncf .bf16 w bitsLt_bf16_f32

theorem wArr_apply (w : FVec Ideal S1024x1536 .f32) (r : Fin 1024) (l : Fin 1536) : wArr w (ix2 r l) = w (ix2 r l) := by
  pointwise [wArr]

theorem refArr_eq (w : FVec Ideal S1024x1536 .f32) (ct : FVec Ideal S1x8192x1536 .f32) :
    prod (ctArr ct) (wArr w) = Cert.DxOdInRef.refArr w ct := by
  funext i
  obtain ⟨t, q, rfl⟩ : ∃ (t : Fin 8192) (q : Fin 1024), i = ix2 t q := ⟨i 0, i 1, by funext k; fin_cases k <;> rfl⟩
  refine Eq.trans ?_ (Cert.DxOdInRef.refArr_apply w ct t q).symm
  show ∑ l : Fin 1536, ctArr ct (ix2 t l) * wArr w (ix2 q l) = _
  simp only [ctArr_apply, wArr_apply]

variable (m : (ℓ : Loc nD τ sig) → Buf (Elt Ideal) ℓ) (c : Dev nD)

abbrev arg0 : FVec Ideal S1x8192x1024 .f32 := m ((c : Thread nD τ).loc main_arg0)
abbrev arg1 : FVec Ideal S1024x1536 .f32 := m ((c : Thread nD τ).loc main_arg1)
abbrev arg2 : FVec Ideal S1x8192x1536 .f32 := m ((c : Thread nD τ).loc main_arg2)

theorem V_v1 : V m c main_v1 = ctArr (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = wArr (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem final_ref : (dats m 0 c).arrAt 2 cfg0.N = Cert.DxOdInRef.refArr (arg1 m c) (arg2 m c) :=
  (final m c _ _ (V_v1 m c) (V_v2 m c)).trans (refArr_eq _ _)

end Cert.DxOdInArray

end
-- ==== Proof.DxPleGateRef.lean ====
/- Hand-written. The reference's cotangent of the per-layer embedding's gate product, at an index. -/
module

public import proofs.«01_k».proof.Proof.Gen.RefDxPleGateIdeal.Run
public import Idealize.ShloMosaic.Lib.Pointwise

@[expose] public section

noncomputable section

namespace Cert.DxPleGateRef

open Cert.RefDxPleGateIdeal Cert.RefDxPleGateIdeal.Gen Idealize.ShloMosaic Idealize.ShloMosaic.TcCoe
open scoped BigOperators

/-- The cotangents times the weights' transpose. -/
def refArr (w : FVec Ideal S1024x1024 .f32) (ct : FVec Ideal S1x8192x1024 .f32) : FVec Ideal S8192x1024 .f32 :=
  shapeCast _ (Host.dotGeneral (φ₁ := .f32) (φ₂ := .f32) dot_S1x8192x1024_S1024x1024_S1x8192x1024_2_1_01_0_n_n none ct w) shapeCasts_S1x8192x1024_S8192x1024

theorem refArr_apply (w : FVec Ideal S1024x1024 .f32) (ct : FVec Ideal S1x8192x1024 .f32) (t : Fin 8192) (q : Fin 1024) :
    refArr w ct (ix2 t q) = ∑ l : Fin 1024, ct (ix3 0 t l) * w (ix2 q l) := by
  pointwise [refArr]

end Cert.DxPleGateRef

end
-- ==== Proof.DxPleGate.lean ====
/- Hand-written. The cotangent of the per-layer embedding's gate product: what the kernel's grid leaves, and that it is the reference's array. -/
module

public import proofs.«01_k».proof.Proof.DxPleGateRef
public import proofs.«01_k».proof.Proof.Gen.DxPleGateIdeal.Value
public import Idealize.ShloMosaic.Lib.Pipeline.ValueKit.Point
public import Idealize.ShloMosaic.Lib.Pipeline.ValueKit.Acc
public import Idealize.ShloMosaic.Lib.Pointwise

@[expose] public section

noncomputable section

namespace Cert.DxPleGateArray

open Cert.DxPleGateIdeal Cert.DxPleGateIdeal.Gen Idealize.ShloMosaic Idealize.ShloMosaic.TcCoe
open scoped BigOperators

/-- The product with another array's transpose: the sum over the columns. -/
def prod (a : Vec Ideal S8192x1024 .bf16) (b : Vec Ideal S1024x1024 .bf16) : Vec Ideal S8192x1024 .f32 :=
  fun i => ∑ l : Fin 1024, a (ix2 (i 0) l) * b (ix2 (i 1) l)

theorem pay_apply (x : Vec Ideal S1024x1024 .bf16) (y : Vec Ideal S1024x1024 .bf16) (r : Fin 1024) (c : Fin 1024) :
    k0_pay1 x y (ix2 r c) = ∑ k : Fin 1024, x (ix2 r k) * y (ix2 c k) := by
  pointwise [k0_pay1]

theorem out_eq (x : Vec Ideal S1024x1024 .bf16) (y : Vec Ideal S1024x1024 .bf16) : out0_2 x y = k0_pay1 x y := by
  unfold out0_2
  frame_out

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

theorem point_lt (t : Fin cfg0.N) : t.val < 8 := lt_of_lt_of_eq t.isLt N_0

theorem block0 (t : Fin cfg0.N) (i : Nat) (hi : i < 8) (ht : t.val = i) (A : Vec Ideal S8192x1024 .bf16) (r : Fin 1024) (l : Fin 1024) :
    ((cfg0.win 0).blk t).view.read (Elt Ideal) A (ix2 r l) = A (ix2 ⟨1024 * i + r, by omega⟩ l) := by
  blk_simp
  refine congrArg A ?_
  blk_ext [index0 t, ht]

theorem block1 (t : Fin cfg0.N) (A : Vec Ideal S1024x1024 .bf16) (r : Fin 1024) (l : Fin 1024) :
    ((cfg0.win 1).blk t).view.read (Elt Ideal) A (ix2 r l) = A (ix2 r l) := by
  blk_simp
  refine congrArg A ?_
  blk_ext [index1 t]

section Grid

variable (m : (ℓ : Loc nD τ sig) → Buf (Elt Ideal) ℓ) (c : Dev nD)

theorem final (a : Vec Ideal S8192x1024 .bf16) (b : Vec Ideal S1024x1024 .bf16) (ha : V m c main_v1 = a) (hb : V m c main_v2 = b) :
    (dats m 0 c).arrAt 2 cfg0.N = prod a b := by
  refine (dats m 0 c).arrAt_eq_of_covers 2 _ (by decide +kernel) fun t hf y => ?_
  have := point_lt t
  obtain ⟨r, q, rfl⟩ : ∃ (r : Fin 1024) (q : Fin 1024), y = ix2 r q := ⟨y 0, y 1, by funext k; fin_cases k <;> rfl⟩
  have e : (win0_2.blk t).view.emb (ix2 r q) = ix2 ⟨1024 * (t.val) + r.val, by omega⟩ q := by
    blk_ext [index2 t]
  have i0 : iblk m c 0 t = ((cfg0.win 0).blk t).view.read (Elt Ideal) a := by rw [← ha]; rfl
  have i1 : iblk m c 1 t = ((cfg0.win 1).blk t).view.read (Elt Ideal) b := by rw [← hb]; rfl
  blk_simp
  rw [after0_2, out_eq, e, i0, i1, pay_apply]
  simp only [block0 t (t.val) (by omega) rfl a, block1 t b]
  rfl

end Grid

/-! ### The operands and the reference -/

/-- An array's 8192 rows, in bf16. -/
def ctArr (x : FVec Ideal S1x8192x1024 .f32) : FVec Ideal S8192x1024 .bf16 :=
  truncf .bf16 (shapeCast _ x shapeCasts_S1x8192x1024_S8192x1024) bitsLt_bf16_f32

theorem ctArr_apply (x : FVec Ideal S1x8192x1024 .f32) (t : Fin 8192) (l : Fin 1024) : ctArr x (ix2 t l) = x (ix3 0 t l) := by
  pointwise [ctArr]

/-- The weights, in bf16. -/
def wArr (w : FVec Ideal S1024x1024 .f32) : FVec Ideal S1024x1024 .bf16 := truncf .bf16 w bitsLt_bf16_f32

theorem wArr_apply (w : FVec Ideal S1024x1024 .f32) (r : Fin 1024) (l : Fin 1024) : wArr w (ix2 r l) = w (ix2 r l) := by
  pointwise [wArr]

theorem refArr_eq (w : FVec Ideal S1024x1024 .f32) (ct : FVec Ideal S1x8192x1024 .f32) :
    prod (ctArr ct) (wArr w) = Cert.DxPleGateRef.refArr w ct := by
  funext i
  obtain ⟨t, q, rfl⟩ : ∃ (t : Fin 8192) (q : Fin 1024), i = ix2 t q := ⟨i 0, i 1, by funext k; fin_cases k <;> rfl⟩
  refine Eq.trans ?_ (Cert.DxPleGateRef.refArr_apply w ct t q).symm
  show ∑ l : Fin 1024, ctArr ct (ix2 t l) * wArr w (ix2 q l) = _
  simp only [ctArr_apply, wArr_apply]

variable (m : (ℓ : Loc nD τ sig) → Buf (Elt Ideal) ℓ) (c : Dev nD)

abbrev arg0 : FVec Ideal S1x8192x1024 .f32 := m ((c : Thread nD τ).loc main_arg0)
abbrev arg1 : FVec Ideal S1024x1024 .f32 := m ((c : Thread nD τ).loc main_arg1)
abbrev arg2 : FVec Ideal S1x8192x1024 .f32 := m ((c : Thread nD τ).loc main_arg2)

theorem V_v1 : V m c main_v1 = ctArr (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = wArr (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem final_ref : (dats m 0 c).arrAt 2 cfg0.N = Cert.DxPleGateRef.refArr (arg1 m c) (arg2 m c) :=
  (final m c _ _ (V_v1 m c) (V_v2 m c)).trans (refArr_eq _ _)

end Cert.DxPleGateArray

end
-- ==== Proof.DxOutRef.lean ====
/- Hand-written. The reference's cotangent of the attention's out product, at an index. -/
module

public import proofs.«01_k».proof.Proof.Gen.RefDxOutIdeal.Run
public import Idealize.ShloMosaic.Lib.Pointwise

@[expose] public section

noncomputable section

namespace Cert.DxOutRef

open Cert.RefDxOutIdeal Cert.RefDxOutIdeal.Gen Idealize.ShloMosaic Idealize.ShloMosaic.TcCoe
open scoped BigOperators

/-- The cotangents times the weights' transpose. -/
def refArr (w : FVec Ideal S1024x1024 .f32) (ct : FVec Ideal S1x8192x1024 .f32) : FVec Ideal S8192x1024 .bf16 :=
  truncf .bf16 (shapeCast _ (Host.dotGeneral (φ₁ := .f32) (φ₂ := .f32) dot_S1x8192x1024_S1024x1024_S1x8192x1024_2_1_01_0_n_n none ct w) shapeCasts_S1x8192x1024_S8192x1024) bitsLt_bf16_f32

theorem refArr_apply (w : FVec Ideal S1024x1024 .f32) (ct : FVec Ideal S1x8192x1024 .f32) (t : Fin 8192) (q : Fin 1024) :
    refArr w ct (ix2 t q) = ∑ l : Fin 1024, ct (ix3 0 t l) * w (ix2 q l) := by
  pointwise [refArr]

end Cert.DxOutRef

end
-- ==== Proof.DxOut.lean ====
/- Hand-written. The cotangent of the attention's out product: what the kernel's grid leaves, and that it is the reference's array. -/
module

public import proofs.«01_k».proof.Proof.DxOutRef
public import proofs.«01_k».proof.Proof.Gen.DxOutIdeal.Value
public import Idealize.ShloMosaic.Lib.Pipeline.ValueKit.Point
public import Idealize.ShloMosaic.Lib.Pipeline.ValueKit.Acc
public import Idealize.ShloMosaic.Lib.Pointwise

@[expose] public section

noncomputable section

namespace Cert.DxOutArray

open Cert.DxOutIdeal Cert.DxOutIdeal.Gen Idealize.ShloMosaic Idealize.ShloMosaic.TcCoe
open scoped BigOperators

/-- The product with another array's transpose: the sum over the columns. -/
def prod (a : Vec Ideal S8192x1024 .bf16) (b : Vec Ideal S1024x1024 .bf16) : Vec Ideal S8192x1024 .bf16 :=
  fun i => ∑ l : Fin 1024, a (ix2 (i 0) l) * b (ix2 (i 1) l)

theorem pay_apply (x : Vec Ideal S1024x1024 .bf16) (y : Vec Ideal S1024x1024 .bf16) (r : Fin 1024) (c : Fin 1024) :
    k0_pay1 x y (ix2 r c) = ∑ k : Fin 1024, x (ix2 r k) * y (ix2 c k) := by
  pointwise [k0_pay1]

theorem out_eq (x : Vec Ideal S1024x1024 .bf16) (y : Vec Ideal S1024x1024 .bf16) : out0_2 x y = k0_pay1 x y := by
  unfold out0_2
  frame_out

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

theorem point_lt (t : Fin cfg0.N) : t.val < 8 := lt_of_lt_of_eq t.isLt N_0

theorem block0 (t : Fin cfg0.N) (i : Nat) (hi : i < 8) (ht : t.val = i) (A : Vec Ideal S8192x1024 .bf16) (r : Fin 1024) (l : Fin 1024) :
    ((cfg0.win 0).blk t).view.read (Elt Ideal) A (ix2 r l) = A (ix2 ⟨1024 * i + r, by omega⟩ l) := by
  blk_simp
  refine congrArg A ?_
  blk_ext [index0 t, ht]

theorem block1 (t : Fin cfg0.N) (A : Vec Ideal S1024x1024 .bf16) (r : Fin 1024) (l : Fin 1024) :
    ((cfg0.win 1).blk t).view.read (Elt Ideal) A (ix2 r l) = A (ix2 r l) := by
  blk_simp
  refine congrArg A ?_
  blk_ext [index1 t]

section Grid

variable (m : (ℓ : Loc nD τ sig) → Buf (Elt Ideal) ℓ) (c : Dev nD)

theorem final (a : Vec Ideal S8192x1024 .bf16) (b : Vec Ideal S1024x1024 .bf16) (ha : V m c main_v1 = a) (hb : V m c main_v2 = b) :
    (dats m 0 c).arrAt 2 cfg0.N = prod a b := by
  refine (dats m 0 c).arrAt_eq_of_covers 2 _ (by decide +kernel) fun t hf y => ?_
  have := point_lt t
  obtain ⟨r, q, rfl⟩ : ∃ (r : Fin 1024) (q : Fin 1024), y = ix2 r q := ⟨y 0, y 1, by funext k; fin_cases k <;> rfl⟩
  have e : (win0_2.blk t).view.emb (ix2 r q) = ix2 ⟨1024 * (t.val) + r.val, by omega⟩ q := by
    blk_ext [index2 t]
  have i0 : iblk m c 0 t = ((cfg0.win 0).blk t).view.read (Elt Ideal) a := by rw [← ha]; rfl
  have i1 : iblk m c 1 t = ((cfg0.win 1).blk t).view.read (Elt Ideal) b := by rw [← hb]; rfl
  blk_simp
  rw [after0_2, out_eq, e, i0, i1, pay_apply]
  simp only [block0 t (t.val) (by omega) rfl a, block1 t b]
  rfl

end Grid

/-! ### The operands and the reference -/

/-- An array's 8192 rows, in bf16. -/
def ctArr (x : FVec Ideal S1x8192x1024 .f32) : FVec Ideal S8192x1024 .bf16 :=
  truncf .bf16 (shapeCast _ x shapeCasts_S1x8192x1024_S8192x1024) bitsLt_bf16_f32

theorem ctArr_apply (x : FVec Ideal S1x8192x1024 .f32) (t : Fin 8192) (l : Fin 1024) : ctArr x (ix2 t l) = x (ix3 0 t l) := by
  pointwise [ctArr]

/-- The weights, in bf16. -/
def wArr (w : FVec Ideal S1024x1024 .f32) : FVec Ideal S1024x1024 .bf16 := truncf .bf16 w bitsLt_bf16_f32

theorem wArr_apply (w : FVec Ideal S1024x1024 .f32) (r : Fin 1024) (l : Fin 1024) : wArr w (ix2 r l) = w (ix2 r l) := by
  pointwise [wArr]

theorem refArr_eq (w : FVec Ideal S1024x1024 .f32) (ct : FVec Ideal S1x8192x1024 .f32) :
    prod (ctArr ct) (wArr w) = Cert.DxOutRef.refArr w ct := by
  funext i
  obtain ⟨t, q, rfl⟩ : ∃ (t : Fin 8192) (q : Fin 1024), i = ix2 t q := ⟨i 0, i 1, by funext k; fin_cases k <;> rfl⟩
  refine Eq.trans ?_ (Cert.DxOutRef.refArr_apply w ct t q).symm
  show ∑ l : Fin 1024, ctArr ct (ix2 t l) * wArr w (ix2 q l) = _
  simp only [ctArr_apply, wArr_apply]

variable (m : (ℓ : Loc nD τ sig) → Buf (Elt Ideal) ℓ) (c : Dev nD)

abbrev arg0 : FVec Ideal S1x8192x1024 .f32 := m ((c : Thread nD τ).loc main_arg0)
abbrev arg1 : FVec Ideal S1024x1024 .f32 := m ((c : Thread nD τ).loc main_arg1)
abbrev arg2 : FVec Ideal S1x8192x1024 .f32 := m ((c : Thread nD τ).loc main_arg2)

theorem V_v1 : V m c main_v1 = ctArr (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = wArr (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem final_ref : (dats m 0 c).arrAt 2 cfg0.N = Cert.DxOutRef.refArr (arg1 m c) (arg2 m c) :=
  (final m c _ _ (V_v1 m c) (V_v2 m c)).trans (refArr_eq _ _)

end Cert.DxOutArray

end
-- ==== Proof.EvInRef.lean ====
/- Hand-written. The reference's even layer's in product, at an index. -/
module

public import proofs.«01_k».proof.Proof.Gen.RefEvInIdeal.Run
public import Idealize.ShloMosaic.Lib.Pointwise

@[expose] public section

noncomputable section

namespace Cert.EvInRef

open Cert.RefEvInIdeal Cert.RefEvInIdeal.Gen Idealize.ShloMosaic Idealize.ShloMosaic.TcCoe
open scoped BigOperators

/-- The product of the rows with the weights. -/
def refArr (x : FVec Ideal S1x8192x1024 .f32) (w : FVec Ideal S1024x3072 .f32) : FVec Ideal S8192x3072 .bf16 :=
  truncf .bf16 (shapeCast _ (Host.dotGeneral (φ₁ := .f32) (φ₂ := .f32) dot_S1x8192x1024_S1024x3072_S1x8192x3072_2_0_01_1_n_n none x w)
    shapeCasts_S1x8192x3072_S8192x3072) bitsLt_bf16_f32

theorem refArr_apply (x : FVec Ideal S1x8192x1024 .f32) (w : FVec Ideal S1024x3072 .f32) (t : Fin 8192) (q : Fin 3072) :
    refArr x w (ix2 t q) = ∑ l : Fin 1024, x (ix3 0 t l) * w (ix2 l q) := by
  pointwise [refArr]

end Cert.EvInRef

end
-- ==== Proof.EvIn.lean ====
/- Hand-written. The even layer's in product: what the kernel's grid leaves, and that it is the reference's array. -/
module

public import proofs.«01_k».proof.Proof.EvInRef
public import proofs.«01_k».proof.Proof.Gen.EvInIdeal.Value
public import Idealize.ShloMosaic.Lib.Pipeline.ValueKit.Point
public import Idealize.ShloMosaic.Lib.Pipeline.ValueKit.Acc
public import Idealize.ShloMosaic.Lib.Pointwise

@[expose] public section

noncomputable section

namespace Cert.EvInArray

open Cert.EvInIdeal Cert.EvInIdeal.Gen Idealize.ShloMosaic Idealize.ShloMosaic.TcCoe
open scoped BigOperators

/-- The product of two arrays. -/
def prod (a : Vec Ideal S8192x1024 .bf16) (b : Vec Ideal S1024x3072 .bf16) : Vec Ideal S8192x3072 .bf16 :=
  fun i => ∑ l : Fin 1024, a (ix2 (i 0) l) * b (ix2 l (i 1))

theorem pay_apply (x : Vec Ideal S1024x1024 .bf16) (y : Vec Ideal S1024x1024 .bf16) (r : Fin 1024) (c : Fin 1024) :
    k0_pay1 x y (ix2 r c) = ∑ k : Fin 1024, x (ix2 r k) * y (ix2 k c) := by
  pointwise [k0_pay1]

theorem out_eq (x : Vec Ideal S1024x1024 .bf16) (y : Vec Ideal S1024x1024 .bf16) : out0_2 x y = k0_pay1 x y := by
  unfold out0_2
  frame_out

theorem index0 : ∀ t : Fin cfg0.N, win0_0.index t = ![t.val / 3, 0] :=
  (by decide +kernel : ∀ t : Fin grid0.N, win0_0.index t = ![t.val / 3, 0])
theorem index1 : ∀ t : Fin cfg0.N, win0_1.index t = ![0, t.val % 3] :=
  (by decide +kernel : ∀ t : Fin grid0.N, win0_1.index t = ![0, t.val % 3])
theorem index2 : ∀ t : Fin cfg0.N, win0_2.index t = ![t.val / 3, t.val % 3] :=
  (by decide +kernel : ∀ t : Fin grid0.N, win0_2.index t = ![t.val / 3, t.val % 3])

theorem point_lt (t : Fin cfg0.N) : t.val < 24 := lt_of_lt_of_eq t.isLt N_0

theorem block0 (t : Fin cfg0.N) (i : Nat) (hi : i < 8) (ht : t.val / 3 = i) (A : Vec Ideal S8192x1024 .bf16) (r : Fin 1024) (l : Fin 1024) :
    ((cfg0.win 0).blk t).view.read (Elt Ideal) A (ix2 r l) = A (ix2 ⟨1024 * i + r, by omega⟩ l) := by
  blk_simp
  refine congrArg A ?_
  blk_ext [index0 t, ht]

theorem block1 (t : Fin cfg0.N) (j : Nat) (hj : j < 3) (ht : t.val % 3 = j) (A : Vec Ideal S1024x3072 .bf16) (r : Fin 1024) (l : Fin 1024) :
    ((cfg0.win 1).blk t).view.read (Elt Ideal) A (ix2 r l) = A (ix2 r ⟨1024 * j + l, by omega⟩) := by
  blk_simp
  refine congrArg A ?_
  blk_ext [index1 t, ht]

section Grid

variable (m : (ℓ : Loc nD τ sig) → Buf (Elt Ideal) ℓ) (c : Dev nD)

theorem final (a : Vec Ideal S8192x1024 .bf16) (b : Vec Ideal S1024x3072 .bf16) (ha : V m c main_v1 = a) (hb : V m c main_v2 = b) :
    (dats m 0 c).arrAt 2 cfg0.N = prod a b := by
  refine (dats m 0 c).arrAt_eq_of_covers 2 _ (by decide +kernel) fun t hf y => ?_
  have := point_lt t
  obtain ⟨r, q, rfl⟩ : ∃ (r : Fin 1024) (q : Fin 1024), y = ix2 r q := ⟨y 0, y 1, by funext k; fin_cases k <;> rfl⟩
  have e : (win0_2.blk t).view.emb (ix2 r q) = ix2 ⟨1024 * (t.val / 3) + r.val, by omega⟩ ⟨1024 * (t.val % 3) + q.val, by omega⟩ := by
    blk_ext [index2 t]
  have i0 : iblk m c 0 t = ((cfg0.win 0).blk t).view.read (Elt Ideal) a := by rw [← ha]; rfl
  have i1 : iblk m c 1 t = ((cfg0.win 1).blk t).view.read (Elt Ideal) b := by rw [← hb]; rfl
  blk_simp
  rw [after0_2, out_eq, e, i0, i1, pay_apply]
  simp only [block0 t (t.val / 3) (by omega) rfl a, block1 t (t.val % 3) (by omega) rfl b]
  rfl

end Grid

/-! ### The operands and the reference -/

/-- An array's 8192 rows, in bf16. -/
def xArr (x : FVec Ideal S1x8192x1024 .f32) : FVec Ideal S8192x1024 .bf16 :=
  truncf .bf16 (shapeCast _ x shapeCasts_S1x8192x1024_S8192x1024) bitsLt_bf16_f32

theorem xArr_apply (x : FVec Ideal S1x8192x1024 .f32) (t : Fin 8192) (l : Fin 1024) : xArr x (ix2 t l) = x (ix3 0 t l) := by
  pointwise [xArr]

/-- The weights, in bf16. -/
def wArr (w : FVec Ideal S1024x3072 .f32) : FVec Ideal S1024x3072 .bf16 := truncf .bf16 w bitsLt_bf16_f32

theorem wArr_apply (w : FVec Ideal S1024x3072 .f32) (r : Fin 1024) (l : Fin 3072) : wArr w (ix2 r l) = w (ix2 r l) := by
  pointwise [wArr]

theorem refArr_eq (x : FVec Ideal S1x8192x1024 .f32) (w : FVec Ideal S1024x3072 .f32) :
    prod (xArr x) (wArr w) = Cert.EvInRef.refArr x w := by
  funext i
  obtain ⟨t, q, rfl⟩ : ∃ (t : Fin 8192) (q : Fin 3072), i = ix2 t q := ⟨i 0, i 1, by funext k; fin_cases k <;> rfl⟩
  refine Eq.trans ?_ (Cert.EvInRef.refArr_apply x w t q).symm
  show ∑ l : Fin 1024, xArr x (ix2 t l) * wArr w (ix2 l q) = _
  simp only [xArr_apply, wArr_apply]

variable (m : (ℓ : Loc nD τ sig) → Buf (Elt Ideal) ℓ) (c : Dev nD)

abbrev arg0 : FVec Ideal S1x8192x1024 .f32 := m ((c : Thread nD τ).loc main_arg0)
abbrev arg1 : FVec Ideal S1024x3072 .f32 := m ((c : Thread nD τ).loc main_arg1)

theorem V_v1 : V m c main_v1 = xArr (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = wArr (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem final_ref : (dats m 0 c).arrAt 2 cfg0.N = Cert.EvInRef.refArr (arg0 m c) (arg1 m c) :=
  (final m c _ _ (V_v1 m c) (V_v2 m c)).trans (refArr_eq _ _)

end Cert.EvInArray

end
-- ==== Proof.OdInRef.lean ====
/- Hand-written. The reference's odd layer's in product, at an index. -/
module

public import proofs.«01_k».proof.Proof.Gen.RefOdInIdeal.Run
public import Idealize.ShloMosaic.Lib.Pointwise

@[expose] public section

noncomputable section

namespace Cert.OdInRef

open Cert.RefOdInIdeal Cert.RefOdInIdeal.Gen Idealize.ShloMosaic Idealize.ShloMosaic.TcCoe
open scoped BigOperators

/-- The product of the rows with the weights. -/
def refArr (x : FVec Ideal S1x8192x1024 .f32) (w : FVec Ideal S1024x1536 .f32) : FVec Ideal S8192x1536 .bf16 :=
  truncf .bf16 (shapeCast _ (Host.dotGeneral (φ₁ := .f32) (φ₂ := .f32) dot_S1x8192x1024_S1024x1536_S1x8192x1536_2_0_01_1_n_n none x w)
    shapeCasts_S1x8192x1536_S8192x1536) bitsLt_bf16_f32

theorem refArr_apply (x : FVec Ideal S1x8192x1024 .f32) (w : FVec Ideal S1024x1536 .f32) (t : Fin 8192) (q : Fin 1536) :
    refArr x w (ix2 t q) = ∑ l : Fin 1024, x (ix3 0 t l) * w (ix2 l q) := by
  pointwise [refArr]

end Cert.OdInRef

end
-- ==== Proof.OdIn.lean ====
/- Hand-written. The odd layer's in product: what the kernel's grid leaves, and that it is the reference's array. -/
module

public import proofs.«01_k».proof.Proof.OdInRef
public import proofs.«01_k».proof.Proof.Gen.OdInIdeal.Value
public import Idealize.ShloMosaic.Lib.Pipeline.ValueKit.Point
public import Idealize.ShloMosaic.Lib.Pipeline.ValueKit.Acc
public import Idealize.ShloMosaic.Lib.Pointwise

@[expose] public section

noncomputable section

namespace Cert.OdInArray

open Cert.OdInIdeal Cert.OdInIdeal.Gen Idealize.ShloMosaic Idealize.ShloMosaic.TcCoe
open scoped BigOperators

/-- The product of two arrays. -/
def prod (a : Vec Ideal S8192x1024 .bf16) (b : Vec Ideal S1024x1536 .bf16) : Vec Ideal S8192x1536 .bf16 :=
  fun i => ∑ l : Fin 1024, a (ix2 (i 0) l) * b (ix2 l (i 1))

theorem pay_apply (x : Vec Ideal S1024x1024 .bf16) (y : Vec Ideal S1024x768 .bf16) (r : Fin 1024) (c : Fin 768) :
    k0_pay1 x y (ix2 r c) = ∑ k : Fin 1024, x (ix2 r k) * y (ix2 k c) := by
  pointwise [k0_pay1]

theorem out_eq (x : Vec Ideal S1024x1024 .bf16) (y : Vec Ideal S1024x768 .bf16) : out0_2 x y = k0_pay1 x y := by
  unfold out0_2
  frame_out

theorem index0 : ∀ t : Fin cfg0.N, win0_0.index t = ![t.val / 2, 0] :=
  (by decide +kernel : ∀ t : Fin grid0.N, win0_0.index t = ![t.val / 2, 0])
theorem index1 : ∀ t : Fin cfg0.N, win0_1.index t = ![0, t.val % 2] :=
  (by decide +kernel : ∀ t : Fin grid0.N, win0_1.index t = ![0, t.val % 2])
theorem index2 : ∀ t : Fin cfg0.N, win0_2.index t = ![t.val / 2, t.val % 2] :=
  (by decide +kernel : ∀ t : Fin grid0.N, win0_2.index t = ![t.val / 2, t.val % 2])

theorem point_lt (t : Fin cfg0.N) : t.val < 16 := lt_of_lt_of_eq t.isLt N_0

theorem block0 (t : Fin cfg0.N) (i : Nat) (hi : i < 8) (ht : t.val / 2 = i) (A : Vec Ideal S8192x1024 .bf16) (r : Fin 1024) (l : Fin 1024) :
    ((cfg0.win 0).blk t).view.read (Elt Ideal) A (ix2 r l) = A (ix2 ⟨1024 * i + r, by omega⟩ l) := by
  blk_simp
  refine congrArg A ?_
  blk_ext [index0 t, ht]

theorem block1 (t : Fin cfg0.N) (j : Nat) (hj : j < 2) (ht : t.val % 2 = j) (A : Vec Ideal S1024x1536 .bf16) (r : Fin 1024) (l : Fin 768) :
    ((cfg0.win 1).blk t).view.read (Elt Ideal) A (ix2 r l) = A (ix2 r ⟨768 * j + l, by omega⟩) := by
  blk_simp
  refine congrArg A ?_
  blk_ext [index1 t, ht]

section Grid

variable (m : (ℓ : Loc nD τ sig) → Buf (Elt Ideal) ℓ) (c : Dev nD)

theorem final (a : Vec Ideal S8192x1024 .bf16) (b : Vec Ideal S1024x1536 .bf16) (ha : V m c main_v1 = a) (hb : V m c main_v2 = b) :
    (dats m 0 c).arrAt 2 cfg0.N = prod a b := by
  refine (dats m 0 c).arrAt_eq_of_covers 2 _ (by decide +kernel) fun t hf y => ?_
  have := point_lt t
  obtain ⟨r, q, rfl⟩ : ∃ (r : Fin 1024) (q : Fin 768), y = ix2 r q := ⟨y 0, y 1, by funext k; fin_cases k <;> rfl⟩
  have e : (win0_2.blk t).view.emb (ix2 r q) = ix2 ⟨1024 * (t.val / 2) + r.val, by omega⟩ ⟨768 * (t.val % 2) + q.val, by omega⟩ := by
    blk_ext [index2 t]
  have i0 : iblk m c 0 t = ((cfg0.win 0).blk t).view.read (Elt Ideal) a := by rw [← ha]; rfl
  have i1 : iblk m c 1 t = ((cfg0.win 1).blk t).view.read (Elt Ideal) b := by rw [← hb]; rfl
  blk_simp
  rw [after0_2, out_eq, e, i0, i1, pay_apply]
  simp only [block0 t (t.val / 2) (by omega) rfl a, block1 t (t.val % 2) (by omega) rfl b]
  rfl

end Grid

/-! ### The operands and the reference -/

/-- An array's 8192 rows, in bf16. -/
def xArr (x : FVec Ideal S1x8192x1024 .f32) : FVec Ideal S8192x1024 .bf16 :=
  truncf .bf16 (shapeCast _ x shapeCasts_S1x8192x1024_S8192x1024) bitsLt_bf16_f32

theorem xArr_apply (x : FVec Ideal S1x8192x1024 .f32) (t : Fin 8192) (l : Fin 1024) : xArr x (ix2 t l) = x (ix3 0 t l) := by
  pointwise [xArr]

/-- The weights, in bf16. -/
def wArr (w : FVec Ideal S1024x1536 .f32) : FVec Ideal S1024x1536 .bf16 := truncf .bf16 w bitsLt_bf16_f32

theorem wArr_apply (w : FVec Ideal S1024x1536 .f32) (r : Fin 1024) (l : Fin 1536) : wArr w (ix2 r l) = w (ix2 r l) := by
  pointwise [wArr]

theorem refArr_eq (x : FVec Ideal S1x8192x1024 .f32) (w : FVec Ideal S1024x1536 .f32) :
    prod (xArr x) (wArr w) = Cert.OdInRef.refArr x w := by
  funext i
  obtain ⟨t, q, rfl⟩ : ∃ (t : Fin 8192) (q : Fin 1536), i = ix2 t q := ⟨i 0, i 1, by funext k; fin_cases k <;> rfl⟩
  refine Eq.trans ?_ (Cert.OdInRef.refArr_apply x w t q).symm
  show ∑ l : Fin 1024, xArr x (ix2 t l) * wArr w (ix2 l q) = _
  simp only [xArr_apply, wArr_apply]

variable (m : (ℓ : Loc nD τ sig) → Buf (Elt Ideal) ℓ) (c : Dev nD)

abbrev arg0 : FVec Ideal S1x8192x1024 .f32 := m ((c : Thread nD τ).loc main_arg0)
abbrev arg1 : FVec Ideal S1024x1536 .f32 := m ((c : Thread nD τ).loc main_arg1)

theorem V_v1 : V m c main_v1 = xArr (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = wArr (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem final_ref : (dats m 0 c).arrAt 2 cfg0.N = Cert.OdInRef.refArr (arg0 m c) (arg1 m c) :=
  (final m c _ _ (V_v1 m c) (V_v2 m c)).trans (refArr_eq _ _)

end Cert.OdInArray

end
-- ==== Proof.PleGateRef.lean ====
/- Hand-written. The reference's per-layer embedding's gate product, at an index. -/
module

public import proofs.«01_k».proof.Proof.Gen.RefPleGateIdeal.Run
public import Idealize.ShloMosaic.Lib.Pointwise

@[expose] public section

noncomputable section

namespace Cert.PleGateRef

open Cert.RefPleGateIdeal Cert.RefPleGateIdeal.Gen Idealize.ShloMosaic Idealize.ShloMosaic.TcCoe
open scoped BigOperators

/-- The product of the rows with the weights. -/
def refArr (x : FVec Ideal S1x8192x1024 .f32) (w : FVec Ideal S1024x1024 .f32) : FVec Ideal S8192x1024 .bf16 :=
  truncf .bf16 (shapeCast _ (Host.dotGeneral (φ₁ := .f32) (φ₂ := .f32) dot_S1x8192x1024_S1024x1024_S1x8192x1024_2_0_01_1_n_n none x w)
    shapeCasts_S1x8192x1024_S8192x1024) bitsLt_bf16_f32

theorem refArr_apply (x : FVec Ideal S1x8192x1024 .f32) (w : FVec Ideal S1024x1024 .f32) (t : Fin 8192) (q : Fin 1024) :
    refArr x w (ix2 t q) = ∑ l : Fin 1024, x (ix3 0 t l) * w (ix2 l q) := by
  pointwise [refArr]

end Cert.PleGateRef

end
-- ==== Proof.PleGate.lean ====
/- Hand-written. The per-layer embedding's gate product: what the kernel's grid leaves, and that it is the reference's array. -/
module

public import proofs.«01_k».proof.Proof.PleGateRef
public import proofs.«01_k».proof.Proof.Gen.PleGateIdeal.Value
public import Idealize.ShloMosaic.Lib.Pipeline.ValueKit.Point
public import Idealize.ShloMosaic.Lib.Pipeline.ValueKit.Acc
public import Idealize.ShloMosaic.Lib.Pointwise

@[expose] public section

noncomputable section

namespace Cert.PleGateArray

open Cert.PleGateIdeal Cert.PleGateIdeal.Gen Idealize.ShloMosaic Idealize.ShloMosaic.TcCoe
open scoped BigOperators

/-- The product of two arrays. -/
def prod (a : Vec Ideal S8192x1024 .bf16) (b : Vec Ideal S1024x1024 .bf16) : Vec Ideal S8192x1024 .bf16 :=
  fun i => ∑ l : Fin 1024, a (ix2 (i 0) l) * b (ix2 l (i 1))

theorem pay_apply (x : Vec Ideal S1024x1024 .bf16) (y : Vec Ideal S1024x1024 .bf16) (r : Fin 1024) (c : Fin 1024) :
    k0_pay1 x y (ix2 r c) = ∑ k : Fin 1024, x (ix2 r k) * y (ix2 k c) := by
  pointwise [k0_pay1]

theorem out_eq (x : Vec Ideal S1024x1024 .bf16) (y : Vec Ideal S1024x1024 .bf16) : out0_2 x y = k0_pay1 x y := by
  unfold out0_2
  frame_out

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

theorem point_lt (t : Fin cfg0.N) : t.val < 8 := lt_of_lt_of_eq t.isLt N_0

theorem block0 (t : Fin cfg0.N) (i : Nat) (hi : i < 8) (ht : t.val = i) (A : Vec Ideal S8192x1024 .bf16) (r : Fin 1024) (l : Fin 1024) :
    ((cfg0.win 0).blk t).view.read (Elt Ideal) A (ix2 r l) = A (ix2 ⟨1024 * i + r, by omega⟩ l) := by
  blk_simp
  refine congrArg A ?_
  blk_ext [index0 t, ht]

theorem block1 (t : Fin cfg0.N) (A : Vec Ideal S1024x1024 .bf16) (r : Fin 1024) (l : Fin 1024) :
    ((cfg0.win 1).blk t).view.read (Elt Ideal) A (ix2 r l) = A (ix2 r l) := by
  blk_simp
  refine congrArg A ?_
  blk_ext [index1 t]

section Grid

variable (m : (ℓ : Loc nD τ sig) → Buf (Elt Ideal) ℓ) (c : Dev nD)

theorem final (a : Vec Ideal S8192x1024 .bf16) (b : Vec Ideal S1024x1024 .bf16) (ha : V m c main_v1 = a) (hb : V m c main_v2 = b) :
    (dats m 0 c).arrAt 2 cfg0.N = prod a b := by
  refine (dats m 0 c).arrAt_eq_of_covers 2 _ (by decide +kernel) fun t hf y => ?_
  have := point_lt t
  obtain ⟨r, q, rfl⟩ : ∃ (r : Fin 1024) (q : Fin 1024), y = ix2 r q := ⟨y 0, y 1, by funext k; fin_cases k <;> rfl⟩
  have e : (win0_2.blk t).view.emb (ix2 r q) = ix2 ⟨1024 * (t.val) + r.val, by omega⟩ q := by
    blk_ext [index2 t]
  have i0 : iblk m c 0 t = ((cfg0.win 0).blk t).view.read (Elt Ideal) a := by rw [← ha]; rfl
  have i1 : iblk m c 1 t = ((cfg0.win 1).blk t).view.read (Elt Ideal) b := by rw [← hb]; rfl
  blk_simp
  rw [after0_2, out_eq, e, i0, i1, pay_apply]
  simp only [block0 t (t.val) (by omega) rfl a, block1 t b]
  rfl

end Grid

/-! ### The operands and the reference -/

/-- An array's 8192 rows, in bf16. -/
def xArr (x : FVec Ideal S1x8192x1024 .f32) : FVec Ideal S8192x1024 .bf16 :=
  truncf .bf16 (shapeCast _ x shapeCasts_S1x8192x1024_S8192x1024) bitsLt_bf16_f32

theorem xArr_apply (x : FVec Ideal S1x8192x1024 .f32) (t : Fin 8192) (l : Fin 1024) : xArr x (ix2 t l) = x (ix3 0 t l) := by
  pointwise [xArr]

/-- The weights, in bf16. -/
def wArr (w : FVec Ideal S1024x1024 .f32) : FVec Ideal S1024x1024 .bf16 := truncf .bf16 w bitsLt_bf16_f32

theorem wArr_apply (w : FVec Ideal S1024x1024 .f32) (r : Fin 1024) (l : Fin 1024) : wArr w (ix2 r l) = w (ix2 r l) := by
  pointwise [wArr]

theorem refArr_eq (x : FVec Ideal S1x8192x1024 .f32) (w : FVec Ideal S1024x1024 .f32) :
    prod (xArr x) (wArr w) = Cert.PleGateRef.refArr x w := by
  funext i
  obtain ⟨t, q, rfl⟩ : ∃ (t : Fin 8192) (q : Fin 1024), i = ix2 t q := ⟨i 0, i 1, by funext k; fin_cases k <;> rfl⟩
  refine Eq.trans ?_ (Cert.PleGateRef.refArr_apply x w t q).symm
  show ∑ l : Fin 1024, xArr x (ix2 t l) * wArr w (ix2 l q) = _
  simp only [xArr_apply, wArr_apply]

variable (m : (ℓ : Loc nD τ sig) → Buf (Elt Ideal) ℓ) (c : Dev nD)

abbrev arg0 : FVec Ideal S1x8192x1024 .f32 := m ((c : Thread nD τ).loc main_arg0)
abbrev arg1 : FVec Ideal S1024x1024 .f32 := m ((c : Thread nD τ).loc main_arg1)

theorem V_v1 : V m c main_v1 = xArr (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = wArr (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem final_ref : (dats m 0 c).arrAt 2 cfg0.N = Cert.PleGateRef.refArr (arg0 m c) (arg1 m c) :=
  (final m c _ _ (V_v1 m c) (V_v2 m c)).trans (refArr_eq _ _)

end Cert.PleGateArray

end
-- ==== Proof.PleProjRef.lean ====
/- Hand-written. The reference's per-layer embedding's product, at an index. -/
module

public import proofs.«01_k».proof.Proof.Gen.RefPleProjIdeal.Run
public import Idealize.ShloMosaic.Lib.Pointwise

@[expose] public section

noncomputable section

namespace Cert.PleProjRef

open Cert.RefPleProjIdeal Cert.RefPleProjIdeal.Gen Idealize.ShloMosaic Idealize.ShloMosaic.TcCoe
open scoped BigOperators

/-- The product of the rows with the weights. -/
def refArr (x : FVec Ideal S1x8192x256 .f32) (w : FVec Ideal S256x1024 .f32) : FVec Ideal S8192x1024 .bf16 :=
  truncf .bf16 (shapeCast _ (Host.dotGeneral (φ₁ := .f32) (φ₂ := .f32) dot_S1x8192x256_S256x1024_S1x8192x1024_2_0_01_1_n_n none x w)
    shapeCasts_S1x8192x1024_S8192x1024) bitsLt_bf16_f32

theorem refArr_apply (x : FVec Ideal S1x8192x256 .f32) (w : FVec Ideal S256x1024 .f32) (t : Fin 8192) (q : Fin 1024) :
    refArr x w (ix2 t q) = ∑ l : Fin 256, x (ix3 0 t l) * w (ix2 l q) := by
  pointwise [refArr]

end Cert.PleProjRef

end
-- ==== Proof.PleProj.lean ====
/- Hand-written. The per-layer embedding's product: what the kernel's grid leaves, and that it is the reference's array. -/
module

public import proofs.«01_k».proof.Proof.PleProjRef
public import proofs.«01_k».proof.Proof.Gen.PleProjIdeal.Value
public import Idealize.ShloMosaic.Lib.Pipeline.ValueKit.Point
public import Idealize.ShloMosaic.Lib.Pipeline.ValueKit.Acc
public import Idealize.ShloMosaic.Lib.Pointwise

@[expose] public section

noncomputable section

namespace Cert.PleProjArray

open Cert.PleProjIdeal Cert.PleProjIdeal.Gen Idealize.ShloMosaic Idealize.ShloMosaic.TcCoe
open scoped BigOperators

/-- The product of two arrays. -/
def prod (a : Vec Ideal S8192x256 .bf16) (b : Vec Ideal S256x1024 .bf16) : Vec Ideal S8192x1024 .bf16 :=
  fun i => ∑ l : Fin 256, a (ix2 (i 0) l) * b (ix2 l (i 1))

theorem pay_apply (x : Vec Ideal S1024x256 .bf16) (y : Vec Ideal S256x1024 .bf16) (r : Fin 1024) (c : Fin 1024) :
    k0_pay1 x y (ix2 r c) = ∑ k : Fin 256, x (ix2 r k) * y (ix2 k c) := by
  pointwise [k0_pay1]

theorem out_eq (x : Vec Ideal S1024x256 .bf16) (y : Vec Ideal S256x1024 .bf16) : out0_2 x y = k0_pay1 x y := by
  unfold out0_2
  frame_out

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

theorem point_lt (t : Fin cfg0.N) : t.val < 8 := lt_of_lt_of_eq t.isLt N_0

theorem block0 (t : Fin cfg0.N) (i : Nat) (hi : i < 8) (ht : t.val = i) (A : Vec Ideal S8192x256 .bf16) (r : Fin 1024) (l : Fin 256) :
    ((cfg0.win 0).blk t).view.read (Elt Ideal) A (ix2 r l) = A (ix2 ⟨1024 * i + r, by omega⟩ l) := by
  blk_simp
  refine congrArg A ?_
  blk_ext [index0 t, ht]

theorem block1 (t : Fin cfg0.N) (A : Vec Ideal S256x1024 .bf16) (r : Fin 256) (l : Fin 1024) :
    ((cfg0.win 1).blk t).view.read (Elt Ideal) A (ix2 r l) = A (ix2 r l) := by
  blk_simp
  refine congrArg A ?_
  blk_ext [index1 t]

section Grid

variable (m : (ℓ : Loc nD τ sig) → Buf (Elt Ideal) ℓ) (c : Dev nD)

theorem final (a : Vec Ideal S8192x256 .bf16) (b : Vec Ideal S256x1024 .bf16) (ha : V m c main_v1 = a) (hb : V m c main_v2 = b) :
    (dats m 0 c).arrAt 2 cfg0.N = prod a b := by
  refine (dats m 0 c).arrAt_eq_of_covers 2 _ (by decide +kernel) fun t hf y => ?_
  have := point_lt t
  obtain ⟨r, q, rfl⟩ : ∃ (r : Fin 1024) (q : Fin 1024), y = ix2 r q := ⟨y 0, y 1, by funext k; fin_cases k <;> rfl⟩
  have e : (win0_2.blk t).view.emb (ix2 r q) = ix2 ⟨1024 * (t.val) + r.val, by omega⟩ q := by
    blk_ext [index2 t]
  have i0 : iblk m c 0 t = ((cfg0.win 0).blk t).view.read (Elt Ideal) a := by rw [← ha]; rfl
  have i1 : iblk m c 1 t = ((cfg0.win 1).blk t).view.read (Elt Ideal) b := by rw [← hb]; rfl
  blk_simp
  rw [after0_2, out_eq, e, i0, i1, pay_apply]
  simp only [block0 t (t.val) (by omega) rfl a, block1 t b]
  rfl

end Grid

/-! ### The operands and the reference -/

/-- An array's 8192 rows, in bf16. -/
def xArr (x : FVec Ideal S1x8192x256 .f32) : FVec Ideal S8192x256 .bf16 :=
  truncf .bf16 (shapeCast _ x shapeCasts_S1x8192x256_S8192x256) bitsLt_bf16_f32

theorem xArr_apply (x : FVec Ideal S1x8192x256 .f32) (t : Fin 8192) (l : Fin 256) : xArr x (ix2 t l) = x (ix3 0 t l) := by
  pointwise [xArr]

/-- The weights, in bf16. -/
def wArr (w : FVec Ideal S256x1024 .f32) : FVec Ideal S256x1024 .bf16 := truncf .bf16 w bitsLt_bf16_f32

theorem wArr_apply (w : FVec Ideal S256x1024 .f32) (r : Fin 256) (l : Fin 1024) : wArr w (ix2 r l) = w (ix2 r l) := by
  pointwise [wArr]

theorem refArr_eq (x : FVec Ideal S1x8192x256 .f32) (w : FVec Ideal S256x1024 .f32) :
    prod (xArr x) (wArr w) = Cert.PleProjRef.refArr x w := by
  funext i
  obtain ⟨t, q, rfl⟩ : ∃ (t : Fin 8192) (q : Fin 1024), i = ix2 t q := ⟨i 0, i 1, by funext k; fin_cases k <;> rfl⟩
  refine Eq.trans ?_ (Cert.PleProjRef.refArr_apply x w t q).symm
  show ∑ l : Fin 256, xArr x (ix2 t l) * wArr w (ix2 l q) = _
  simp only [xArr_apply, wArr_apply]

variable (m : (ℓ : Loc nD τ sig) → Buf (Elt Ideal) ℓ) (c : Dev nD)

abbrev arg0 : FVec Ideal S1x8192x256 .f32 := m ((c : Thread nD τ).loc main_arg0)
abbrev arg1 : FVec Ideal S256x1024 .f32 := m ((c : Thread nD τ).loc main_arg1)

theorem V_v1 : V m c main_v1 = xArr (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = wArr (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem final_ref : (dats m 0 c).arrAt 2 cfg0.N = Cert.PleProjRef.refArr (arg0 m c) (arg1 m c) :=
  (final m c _ _ (V_v1 m c) (V_v2 m c)).trans (refArr_eq _ _)

end Cert.PleProjArray

end
-- ==== Proof.MixOutRef.lean ====
/- Hand-written. The reference's attention output added to the residual stream, at an index. -/
module

public import proofs.«01_k».proof.Proof.Gen.RefMixOutIdeal.Run
public import Idealize.ShloMosaic.Lib.Pointwise

@[expose] public section

noncomputable section

namespace Cert.MixOutRef

open Cert.RefMixOutIdeal Cert.RefMixOutIdeal.Gen Idealize.ShloMosaic Idealize.ShloMosaic.TcCoe
open scoped BigOperators

/-- The residual stream and the product of the rows with the weights. -/
def refArr (h x : FVec Ideal S1x8192x1024 .f32) (w : FVec Ideal S1024x1024 .f32) : FVec Ideal S8192x1024 .f32 :=
  shapeCast _ (addf h (Host.dotGeneral (φ₁ := .f32) (φ₂ := .f32) dot_S1x8192x1024_S1024x1024_S1x8192x1024_2_0_01_1_n_n none x w))
    shapeCasts_S1x8192x1024_S8192x1024

theorem refArr_apply (h x : FVec Ideal S1x8192x1024 .f32) (w : FVec Ideal S1024x1024 .f32) (t : Fin 8192) (q : Fin 1024) :
    refArr h x w (ix2 t q) = h (ix3 0 t q) + ∑ l : Fin 1024, x (ix3 0 t l) * w (ix2 l q) := by
  pointwise [refArr]

end Cert.MixOutRef

end
-- ==== Proof.MixOut.lean ====
/- Hand-written. The attention's out product added to the residual stream: what the kernel's grid leaves, and that it is the reference's array. -/
module

public import proofs.«01_k».proof.Proof.MixOutRef
public import proofs.«01_k».proof.Proof.Gen.MixOutIdeal.Value
public import Idealize.ShloMosaic.Lib.Pipeline.ValueKit.Point
public import Idealize.ShloMosaic.Lib.Pipeline.ValueKit.Acc
public import Idealize.ShloMosaic.Lib.Pointwise

@[expose] public section

noncomputable section

namespace Cert.MixOutArray

open Cert.MixOutIdeal Cert.MixOutIdeal.Gen Idealize.ShloMosaic Idealize.ShloMosaic.TcCoe
open scoped BigOperators

/-- The product of two arrays, and a third. -/
def prod (a : Vec Ideal S8192x1024 .bf16) (b : Vec Ideal S1024x1024 .bf16) (z : Vec Ideal S8192x1024 .f32) : Vec Ideal S8192x1024 .f32 :=
  fun i => (∑ l : Fin 1024, a (ix2 (i 0) l) * b (ix2 l (i 1))) + z (ix2 (i 0) (i 1))

theorem pay_apply (x : Vec Ideal S1024x1024 .bf16) (y : Vec Ideal S1024x1024 .bf16) (z : Vec Ideal S1024x1024 .f32) (r : Fin 1024) (c : Fin 1024) :
    k0_pay1 x y z (ix2 r c) = (∑ k : Fin 1024, x (ix2 r k) * y (ix2 k c)) + z (ix2 r c) := by
  pointwise [k0_pay1]

theorem out_eq (x : Vec Ideal S1024x1024 .bf16) (y : Vec Ideal S1024x1024 .bf16) (z : Vec Ideal S1024x1024 .f32) : out0_3 x y z = k0_pay1 x y z := by
  unfold out0_3
  frame_out

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])

theorem point_lt (t : Fin cfg0.N) : t.val < 8 := lt_of_lt_of_eq t.isLt N_0

theorem block0 (t : Fin cfg0.N) (i : Nat) (hi : i < 8) (ht : t.val = i) (A : Vec Ideal S8192x1024 .bf16) (r : Fin 1024) (l : Fin 1024) :
    ((cfg0.win 0).blk t).view.read (Elt Ideal) A (ix2 r l) = A (ix2 ⟨1024 * i + r, by omega⟩ l) := by
  blk_simp
  refine congrArg A ?_
  blk_ext [index0 t, ht]

theorem block1 (t : Fin cfg0.N) (A : Vec Ideal S1024x1024 .bf16) (r : Fin 1024) (l : Fin 1024) :
    ((cfg0.win 1).blk t).view.read (Elt Ideal) A (ix2 r l) = A (ix2 r l) := by
  blk_simp
  refine congrArg A ?_
  blk_ext [index1 t]

theorem block2 (t : Fin cfg0.N) (i : Nat) (hi : i < 8) (ht : t.val = i) (A : Vec Ideal S8192x1024 .f32) (r q : Fin 1024) :
    ((cfg0.win 2).blk t).view.read (Elt Ideal) A (ix2 r q) = A (ix2 ⟨1024 * i + r, by omega⟩ q) := by
  blk_simp
  refine congrArg A ?_
  blk_ext [index2 t, ht]

section Grid

variable (m : (ℓ : Loc nD τ sig) → Buf (Elt Ideal) ℓ) (c : Dev nD)

theorem final (a : Vec Ideal S8192x1024 .bf16) (b : Vec Ideal S1024x1024 .bf16) (z : Vec Ideal S8192x1024 .f32) (ha : V m c main_v1 = a) (hb : V m c main_v2 = b) (hz : V m c main_v3 = z) :
    (dats m 0 c).arrAt 3 cfg0.N = prod a b z := by
  refine (dats m 0 c).arrAt_eq_of_covers 3 _ (by decide +kernel) fun t hf y => ?_
  have := point_lt t
  obtain ⟨r, q, rfl⟩ : ∃ (r : Fin 1024) (q : Fin 1024), y = ix2 r q := ⟨y 0, y 1, by funext k; fin_cases k <;> rfl⟩
  have e : (win0_3.blk t).view.emb (ix2 r q) = ix2 ⟨1024 * (t.val) + r.val, by omega⟩ q := by
    blk_ext [index3 t]
  have i0 : iblk m c 0 t = ((cfg0.win 0).blk t).view.read (Elt Ideal) a := by rw [← ha]; rfl
  have i1 : iblk m c 1 t = ((cfg0.win 1).blk t).view.read (Elt Ideal) b := by rw [← hb]; rfl
  have i2 : iblk m c 2 t = ((cfg0.win 2).blk t).view.read (Elt Ideal) z := by rw [← hz]; rfl
  blk_simp
  rw [after0_3, out_eq, e, i0, i1, i2, pay_apply]
  simp only [block0 t (t.val) (by omega) rfl a, block1 t b, block2 t (t.val) (by omega) rfl z]
  rfl

end Grid

/-! ### The operands and the reference -/

/-- An array's 8192 rows, in bf16. -/
def xArr (x : FVec Ideal S1x8192x1024 .f32) : FVec Ideal S8192x1024 .bf16 :=
  truncf .bf16 (shapeCast _ x shapeCasts_S1x8192x1024_S8192x1024) bitsLt_bf16_f32

theorem xArr_apply (x : FVec Ideal S1x8192x1024 .f32) (t : Fin 8192) (l : Fin 1024) : xArr x (ix2 t l) = x (ix3 0 t l) := by
  pointwise [xArr]

/-- The weights, in bf16. -/
def wArr (w : FVec Ideal S1024x1024 .f32) : FVec Ideal S1024x1024 .bf16 := truncf .bf16 w bitsLt_bf16_f32

theorem wArr_apply (w : FVec Ideal S1024x1024 .f32) (r : Fin 1024) (l : Fin 1024) : wArr w (ix2 r l) = w (ix2 r l) := by
  pointwise [wArr]

/-- The residual stream's 8192 rows. -/
def hArr (h : FVec Ideal S1x8192x1024 .f32) : FVec Ideal S8192x1024 .f32 := shapeCast _ h shapeCasts_S1x8192x1024_S8192x1024

theorem hArr_apply (h : FVec Ideal S1x8192x1024 .f32) (t : Fin 8192) (l : Fin 1024) : hArr h (ix2 t l) = h (ix3 0 t l) := by
  pointwise [hArr]

theorem refArr_eq (h x : FVec Ideal S1x8192x1024 .f32) (w : FVec Ideal S1024x1024 .f32) :
    prod (xArr x) (wArr w) (hArr h) = Cert.MixOutRef.refArr h x w := by
  funext i
  obtain ⟨t, q, rfl⟩ : ∃ (t : Fin 8192) (q : Fin 1024), i = ix2 t q := ⟨i 0, i 1, by funext k; fin_cases k <;> rfl⟩
  refine Eq.trans ?_ (Cert.MixOutRef.refArr_apply h x w t q).symm
  show (∑ l : Fin 1024, xArr x (ix2 t l) * wArr w (ix2 l q)) + hArr h (ix2 t q) = _
  simp only [xArr_apply, wArr_apply, hArr_apply]
  exact add_comm _ _

variable (m : (ℓ : Loc nD τ sig) → Buf (Elt Ideal) ℓ) (c : Dev nD)

abbrev arg0 : FVec Ideal S1x8192x1024 .f32 := m ((c : Thread nD τ).loc main_arg0)
abbrev arg1 : FVec Ideal S1x8192x1024 .f32 := m ((c : Thread nD τ).loc main_arg1)
abbrev arg2 : FVec Ideal S1024x1024 .f32 := m ((c : Thread nD τ).loc main_arg2)

theorem V_v1 : V m c main_v1 = xArr (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = wArr (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v3 : V m c main_v3 = hArr (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem final_ref : (dats m 0 c).arrAt 3 cfg0.N = Cert.MixOutRef.refArr (arg0 m c) (arg1 m c) (arg2 m c) :=
  (final m c _ _ _ (V_v1 m c) (V_v2 m c) (V_v3 m c)).trans (refArr_eq _ _ _)

end Cert.MixOutArray

end
-- ==== Proof.DownRef.lean ====
/- Hand-written. The reference's feed-forward output added to the residual stream, at an index. -/
module

public import proofs.«01_k».proof.Proof.Gen.RefDownIdeal.Run
public import Idealize.ShloMosaic.Lib.Pointwise
public import proofs.«01_k».proof.Proof.FfnStages

@[expose] public section

noncomputable section

namespace Cert.DownRef

open Cert.RefDownIdeal Cert.RefDownIdeal.Gen Idealize.ShloMosaic Idealize.ShloMosaic.TcCoe Cert.Ffn
open scoped BigOperators

/-- The down projection's product. -/
def outp (u : Hid) (w : Wout) : Act :=
  Host.dotGeneral (φ₁ := .f32) (φ₂ := .f32) dot_S1x8192x2816_S2816x1024_S1x8192x1024_2_0_01_1_n_n none u w

theorem outp_apply (u : Hid) (w : Wout) (t : Fin 8192) (q : Fin 1024) :
    outp u w (ix3 0 t q) = ∑ f : Fin 2816, u (ix3 0 t f) * w (ix2 f q) := by
  pointwise [outp]

/-- The residual stream and the product. -/
def refArr (h y : Act) : FVec Ideal S8192x1024 .f32 := shapeCast _ (addf h y) shapeCasts_S1x8192x1024_S8192x1024

theorem refArr_apply (h y : Act) (t : Fin 8192) (q : Fin 1024) : refArr h y (ix2 t q) = h (ix3 0 t q) + y (ix3 0 t q) := by
  pointwise [refArr]

end Cert.DownRef

end
-- ==== Proof.Down.lean ====
/- Hand-written. The feed-forward's down product added to the residual stream: what the kernel's grid leaves, and that it is the reference's array. -/
module

public import proofs.«01_k».proof.Proof.DownRef
public import proofs.«01_k».proof.Proof.Gen.DownIdeal.Value
public import Idealize.ShloMosaic.Lib.Pipeline.ValueKit.Point
public import Idealize.ShloMosaic.Lib.Pipeline.ValueKit.Acc
public import Idealize.ShloMosaic.Lib.Pointwise

@[expose] public section

noncomputable section

namespace Cert.DownArray

open Cert.DownIdeal Cert.DownIdeal.Gen Idealize.ShloMosaic Idealize.ShloMosaic.TcCoe Cert.Ffn
open scoped BigOperators

/-- The product of two arrays, and a third. -/
def prod (a : Vec Ideal S8192x3072 .bf16) (b : Vec Ideal S3072x1024 .bf16) (z : Vec Ideal S8192x1024 .f32) : Vec Ideal S8192x1024 .f32 :=
  fun i => (∑ l : Fin 3072, a (ix2 (i 0) l) * b (ix2 l (i 1))) + z (ix2 (i 0) (i 1))

theorem pay_apply (x : Vec Ideal S1024x1536 .bf16) (y : Vec Ideal S1536x1024 .bf16) (r c : Fin 1024) :
    k0_pay1 x y (ix2 r c) = ∑ k : Fin 1536, x (ix2 r k) * y (ix2 k c) := by
  pointwise [k0_pay1]

theorem pay_first (x : Vec Ideal S1024x1536 .bf16) (y : Vec Ideal S1536x1024 .bf16) (z : Vec Ideal S1024x1024 .f32) (r c : Fin 1024) :
    k0_pay2 x y z (ix2 r c) = k0_pay1 x y (ix2 r c) + z (ix2 r c) := by
  pointwise [k0_pay2]

theorem pay_next (x : Vec Ideal S1024x1536 .bf16) (y : Vec Ideal S1536x1024 .bf16) (z : Vec Ideal S1024x1024 .f32) (r c : Fin 1024) :
    k0_pay3 x y z (ix2 r c) = z (ix2 r c) + k0_pay1 x y (ix2 r c) := by
  pointwise [k0_pay3]

theorem index0 : ∀ t : Fin cfg0.N, win0_0.index t = ![t.val / 2, t.val % 2] :=
  (by decide +kernel : ∀ t : Fin grid0.N, win0_0.index t = ![t.val / 2, t.val % 2])
theorem index1 : ∀ t : Fin cfg0.N, win0_1.index t = ![t.val % 2, 0] :=
  (by decide +kernel : ∀ t : Fin grid0.N, win0_1.index t = ![t.val % 2, 0])
theorem index2 : ∀ t : Fin cfg0.N, win0_2.index t = ![t.val / 2, 0] :=
  (by decide +kernel : ∀ t : Fin grid0.N, win0_2.index t = ![t.val / 2, 0])
theorem index3 : ∀ t : Fin cfg0.N, win0_3.index t = ![t.val / 2, 0] :=
  (by decide +kernel : ∀ t : Fin grid0.N, win0_3.index t = ![t.val / 2, 0])

theorem point_lt (t : Fin cfg0.N) : t.val < 16 := lt_of_lt_of_eq t.isLt N_0

theorem block0 (t : Fin cfg0.N) (g s : Nat) (hg : g < 8) (hs : s < 2) (ht : t.val = 2 * g + s) (A : Vec Ideal S8192x3072 .bf16)
    (r : Fin 1024) (l : Fin 1536) :
    ((cfg0.win 0).blk t).view.read (Elt Ideal) A (ix2 r l) = A (ix2 ⟨1024 * g + r, by omega⟩ ⟨s * 1536 + l, by omega⟩) := by
  have h1 : t.val / 2 = g := by omega
  have h2 : t.val % 2 = s := by omega
  blk_simp
  refine congrArg A ?_
  blk_ext [index0 t, h1, h2]

theorem block1 (t : Fin cfg0.N) (g s : Nat) (hs : s < 2) (ht : t.val = 2 * g + s) (A : Vec Ideal S3072x1024 .bf16)
    (l : Fin 1536) (q : Fin 1024) :
    ((cfg0.win 1).blk t).view.read (Elt Ideal) A (ix2 l q) = A (ix2 ⟨s * 1536 + l, by omega⟩ q) := by
  have h2 : t.val % 2 = s := by omega
  blk_simp
  refine congrArg A ?_
  blk_ext [index1 t, h2]

theorem block2 (t : Fin cfg0.N) (g s : Nat) (hg : g < 8) (hs : s < 2) (ht : t.val = 2 * g + s) (A : Vec Ideal S8192x1024 .f32) (r q : Fin 1024) :
    ((cfg0.win 2).blk t).view.read (Elt Ideal) A (ix2 r q) = A (ix2 ⟨1024 * g + r, by omega⟩ q) := by
  have h1 : t.val / 2 = g := by omega
  blk_simp
  refine congrArg A ?_
  blk_ext [index2 t, h1]

section Grid

variable (m : (ℓ : Loc nD τ sig) → Buf (Elt Ideal) ℓ) (c : Dev nD)

/-- The first of a block's two points. -/
abbrev prev (t : Fin cfg0.N) : Fin cfg0.N := ⟨t.val - 1, Nat.lt_of_le_of_lt (Nat.sub_le _ _) t.isLt⟩

/-- At the second of a block's two points: the first point's product and the residual block, then the second's product. -/
theorem outs_eq (t : Fin cfg0.N) (hf : t.val % 2 = 1) (r q : Fin 1024) :
    outsAt0 m c t.val t.isLt (ix2 r q) = k0_pay1 (iblk m c 0 (prev t)) (iblk m c 1 (prev t)) (ix2 r q) + iblk m c 2 (prev t) (ix2 r q)
      + k0_pay1 (iblk m c 0 t) (iblk m c 1 t) (ix2 r q) := by
  rw [outsAt0_B m c t (by omega) hf]
  frame_out
  refine (pay_next _ _ _ _ _).trans (congrArg (· + _) ?_)
  have h := outsAt0_A m c (prev t) (by show (t.val - 1) % 2 = 0; omega) (by show ¬(t.val - 1) % 2 = 1; omega)
  refine (congrFun h (ix2 r q)).trans ?_
  frame_out
  exact pay_first _ _ _ _ _

theorem final (a : Vec Ideal S8192x3072 .bf16) (b : Vec Ideal S3072x1024 .bf16) (z : Vec Ideal S8192x1024 .f32)
    (ha : V m c main_v9 = a) (hb : V m c main_v14 = b) (hz : V m c main_v15 = z) :
    (dats m 0 c).arrAt 3 cfg0.N = prod a b z := by
  refine (dats m 0 c).arrAt_eq_of_covers 3 _ (by decide +kernel) fun t hf y => ?_
  have := point_lt t
  have h1 : t.val % 2 = 1 := (flush0_3 t).mp hf
  obtain ⟨r, q, rfl⟩ : ∃ (r q : Fin 1024), y = ix2 r q := ⟨y 0, y 1, by funext k; fin_cases k <;> rfl⟩
  have e : (win0_3.blk t).view.emb (ix2 r q) = ix2 ⟨1024 * (t.val / 2) + r.val, by omega⟩ q := by
    blk_ext [index3 t]
  have i0 (u : Fin cfg0.N) : iblk m c 0 u = ((cfg0.win 0).blk u).view.read (Elt Ideal) a := by rw [← ha]; rfl
  have i1 (u : Fin cfg0.N) : iblk m c 1 u = ((cfg0.win 1).blk u).view.read (Elt Ideal) b := by rw [← hb]; rfl
  have i2 (u : Fin cfg0.N) : iblk m c 2 u = ((cfg0.win 2).blk u).view.read (Elt Ideal) z := by rw [← hz]; rfl
  have ht0 : (prev t).val = 2 * (t.val / 2) + 0 := by show t.val - 1 = _; omega
  have ht1 : t.val = 2 * (t.val / 2) + 1 := by omega
  blk_simp
  rw [after0_3, outs_eq m c t h1, e, i0, i1, i2, i0 t, i1 t, pay_apply, pay_apply, block2 (prev t) (t.val / 2) 0 (by omega) (by omega) ht0 z,
    add_right_comm]
  refine congrArg (· + _) ?_
  refine Eq.trans ?_ (Fin.sum_mul_add_fin 2 1536 (L := 3072)
    (fun l => (a (ix2 ⟨1024 * (t.val / 2) + r.val, by omega⟩ l) * b (ix2 l q) : EReal)))
  rw [Fin.sum_univ_two]
  refine congrArg₂ _ (Finset.sum_congr rfl fun k _ => ?_) (Finset.sum_congr rfl fun k _ => ?_)
  · exact congrArg₂ _ (block0 (prev t) (t.val / 2) 0 (by omega) (by omega) ht0 a r k) (block1 (prev t) (t.val / 2) 0 (by omega) ht0 b k q)
  · exact congrArg₂ _ (block0 t (t.val / 2) 1 (by omega) (by omega) ht1 a r k) (block1 t (t.val / 2) 1 (by omega) ht1 b k q)

end Grid

/-! ### The operands and the reference -/

/-- The hidden activations, owner by owner. -/
def uArr (u : Hid) : FVec Ideal S8192x3072 .bf16 :=
  truncf .bf16 (shapeCast _ (concatenate S8192x8x384 2 [⟨S8192x8x352, shapeCast _ (shapeCast S8192x2816 u shapeCasts_S1x8192x2816_S8192x2816) shapeCasts_S8192x2816_S8192x8x352⟩,
    ⟨S8192x8x32, broadcastInDim S8192x8x32 ![] bcast_S_S8192x8x32 (constant (F := Ideal) S_ .f32 0x00000000#32)⟩]
    concatenates_S8192x8x352_S8192x8x32_S8192x8x384_d2) shapeCasts_S8192x8x384_S8192x3072) bitsLt_bf16_f32

theorem uArr_apply (u : Hid) (t : Fin 8192) (l : Fin 3072) : uArr u (ix2 t l) = padded (fun f => u (ix3 0 t f)) l := by
  unfold padded
  pointwise [uArr]

/-- The down weights' rows, owner by owner. -/
def wArr (w : Wout) : FVec Ideal S3072x1024 .bf16 :=
  truncf .bf16 (shapeCast _ (concatenate S8x384x1024 1 [⟨S8x352x1024, shapeCast _ w shapeCasts_S2816x1024_S8x352x1024⟩,
    ⟨S8x32x1024, broadcastInDim S8x32x1024 ![] bcast_S_S8x32x1024 (constant (F := Ideal) S_ .f32 0x00000000#32)⟩]
    concatenates_S8x352x1024_S8x32x1024_S8x384x1024_d1) shapeCasts_S8x384x1024_S3072x1024) bitsLt_bf16_f32

theorem wArr_apply (w : Wout) (l : Fin 3072) (k : Fin 1024) : wArr w (ix2 l k) = padded (fun f => w (ix2 f k)) l := by
  unfold padded
  pointwise [wArr]

/-- The residual stream's 8192 rows. -/
def hArr (h : Act) : FVec Ideal S8192x1024 .f32 := shapeCast _ h shapeCasts_S1x8192x1024_S8192x1024

theorem hArr_apply (h : Act) (t : Fin 8192) (l : Fin 1024) : hArr h (ix2 t l) = h (ix3 0 t l) := by
  pointwise [hArr]

/-- A product over all padded lanes is the product over the hidden axis. -/
theorem sum_padded (f g : Fin 2816 → EReal) : ∑ l : Fin 3072, padded f l * padded g l = ∑ i, f i * g i := by
  refine (Fin.sum_mul_add_fin 8 384 (L := 3072) fun l => padded f l * padded g l).symm.trans ?_
  refine Eq.trans (Finset.sum_congr rfl fun o _ => ?_) (Fin.sum_mul_add_fin 8 352 (L := 2816) fun i => f i * g i)
  refine Eq.trans (Finset.sum_congr rfl fun k _ => ?_) (sum_lane (fun i => f i * g i) o)
  have e1 : (o.val * 384 + k.val) / 384 = o.val := by omega
  have e2 : (o.val * 384 + k.val) % 384 = k.val := by omega
  rw [← lane_mul]
  unfold padded lane
  simp only [e1, e2]

theorem refArr_eq (h : Act) (u : Hid) (w : Wout) :
    prod (uArr u) (wArr w) (hArr h) = Cert.DownRef.refArr h (Cert.DownRef.outp u w) := by
  funext i
  obtain ⟨t, q, rfl⟩ : ∃ (t : Fin 8192) (q : Fin 1024), i = ix2 t q := ⟨i 0, i 1, by funext k; fin_cases k <;> rfl⟩
  refine Eq.trans ?_ (Cert.DownRef.refArr_apply h _ t q).symm
  show (∑ l : Fin 3072, uArr u (ix2 t l) * wArr w (ix2 l q)) + hArr h (ix2 t q) = _
  simp only [uArr_apply, wArr_apply, hArr_apply, sum_padded]
  rw [Cert.DownRef.outp_apply]
  exact add_comm _ _

variable (m : (ℓ : Loc nD τ sig) → Buf (Elt Ideal) ℓ) (c : Dev nD)

abbrev arg0 : Act := m ((c : Thread nD τ).loc main_arg0)
abbrev arg1 : Act := m ((c : Thread nD τ).loc main_arg1)
abbrev arg2 : Win := m ((c : Thread nD τ).loc main_arg2)
abbrev arg3 : Win := m ((c : Thread nD τ).loc main_arg3)
abbrev arg4 : Wout := m ((c : Thread nD τ).loc main_arg4)

set_option maxHeartbeats 4000000 in
theorem V_v9 : V m c main_v9 = uArr (hid (into (arg1 m c) (arg2 m c)) (into (arg1 m c) (arg3 m c))) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

set_option maxHeartbeats 4000000 in
theorem V_v14 : V m c main_v14 = wArr (arg4 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

set_option maxHeartbeats 4000000 in
theorem V_v15 : V m c main_v15 = hArr (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem final_ref : (dats m 0 c).arrAt 3 cfg0.N
    = Cert.DownRef.refArr (arg0 m c) (Cert.DownRef.outp (hid (into (arg1 m c) (arg2 m c)) (into (arg1 m c) (arg3 m c))) (arg4 m c)) :=
  (final m c _ _ _ (V_v9 m c) (V_v14 m c) (V_v15 m c)).trans (refArr_eq _ _ _)

end Cert.DownArray

end
-- ==== Proof.GateUp.lean ====
/- Hand-written. The two hidden products and the hidden activations: what the kernel's grid leaves, for any operands. -/
module

public import proofs.«01_k».proof.Proof.Hidden
public import proofs.«01_k».proof.Proof.Gen.GateUpIdeal.Value
public import Idealize.ShloMosaic.Lib.Pipeline.CanonAppend
public import Idealize.ShloMosaic.Lib.Pipeline.ValueKit.Point
public import Idealize.ShloMosaic.Lib.Pipeline.ValueKit.Acc
public import Idealize.ShloMosaic.Lib.Pointwise

@[expose] public section

noncomputable section

namespace Cert.GateUpArray

open Cert.GateUpIdeal Cert.GateUpIdeal.Gen Idealize.ShloMosaic Idealize.ShloMosaic.TcCoe
open scoped BigOperators

/-- The hidden activation from the two products. -/
def hidOf (a b : EReal) : EReal := a * Cert.HiddenArray.sg a * b

/-! ### One point -/

section Point

variable (x0 : Vec Ideal S1024x1024 .bf16) (x1 : Vec Ideal S1x1024x768 .bf16)

/-- The product at a row and a lane of the owner. -/
def gu (r : Fin 1024) (l : Fin 768) : EReal := ∑ k : Fin 1024, x0 (ix2 r k) * x1 (ix3 0 k l)

/-- What one point leaves: the two products, and the hidden activations. -/
def abBlock : Vec Ideal S1024x768 .bf16 := fun y => gu x0 x1 (y 0) (y 1)
def uBlock : Vec Ideal S1024x384 .bf16 := fun y =>
  hidOf (gu x0 x1 (y 0) ⟨(y 1).val, by have : (y 1).val < 384 := (y 1).isLt; omega⟩)
    (gu x0 x1 (y 0) ⟨384 + (y 1).val, by have : (y 1).val < 384 := (y 1).isLt; omega⟩)

theorem place2 (R : Nat) (hR : R + 256 ≤ 1024) (h) (r : Fin 256) (l : Fin 768) :
    (Rect.unit (s := S1024x768) ![R, 0] S256x768.size h).emb (ix2 r l) = ix2 ⟨R + r, by omega⟩ l := by
  funext a
  fin_cases a <;> exact Fin.ext (by simp [Rect.emb, Rect.unit])

theorem place3 (R : Nat) (hR : R + 256 ≤ 1024) (h) (r : Fin 256) (l : Fin 384) :
    (Rect.unit (s := S1024x384) ![R, 0] S256x384.size h).emb (ix2 r l) = ix2 ⟨R + r, by omega⟩ l := by
  funext a
  fin_cases a <;> exact Fin.ext (by simp [Rect.emb, Rect.unit])

theorem ab0 (r : Fin 256) (l : Fin 768) :
    k0_pay4 (View.ld x0 r0_0) (View.ld x1 r0_1) (ix2 r l) = gu x0 x1 ⟨0 + r, by omega⟩ l := by
  unfold gu
  pointwise [k0_pay4]

theorem act0 (r : Fin 256) (l : Fin 384) :
    k0_pay5 (View.ld x0 r0_0) (View.ld x1 r0_1) (ix2 r l) = hidOf (gu x0 x1 ⟨0 + r, by omega⟩ ⟨l, by omega⟩) (gu x0 x1 ⟨0 + r, by omega⟩ ⟨384 + l, by omega⟩) := by
  unfold hidOf gu Cert.HiddenArray.sg Cert.HiddenArray.inv Cert.HiddenArray.mag
  pointwise [k0_pay5, k0_pay4]

theorem ab1 (r : Fin 256) (l : Fin 768) :
    k0_pay14 x0 x1 (ix2 r l) = gu x0 x1 ⟨256 + r, by omega⟩ l := by
  unfold gu
  pointwise [k0_pay14, k0_pay6]

theorem act1 (r : Fin 256) (l : Fin 384) :
    k0_pay7 (k0_pay14 x0 x1) (ix2 r l) = hidOf (gu x0 x1 ⟨256 + r, by omega⟩ ⟨l, by omega⟩) (gu x0 x1 ⟨256 + r, by omega⟩ ⟨384 + l, by omega⟩) := by
  unfold hidOf gu Cert.HiddenArray.sg Cert.HiddenArray.inv Cert.HiddenArray.mag
  pointwise [k0_pay7, k0_pay14, k0_pay6]

theorem ab2 (r : Fin 256) (l : Fin 768) :
    k0_pay8 (View.ld x0 r0_7) (View.ld x1 r0_1) (ix2 r l) = gu x0 x1 ⟨512 + r, by omega⟩ l := by
  unfold gu
  pointwise [k0_pay8]

theorem act2 (r : Fin 256) (l : Fin 384) :
    k0_pay1 (k0_pay9 (View.ld x0 r0_7) (View.ld x1 r0_1)) (k0_pay10 (View.ld x0 r0_7) (View.ld x1 r0_1)) (k0_pay12 (View.ld x0 r0_7) (View.ld x1 r0_1)) (k0_pay13 (View.ld x0 r0_7) (View.ld x1 r0_1)) (ix2 r l) = hidOf (gu x0 x1 ⟨512 + r, by omega⟩ ⟨l, by omega⟩) (gu x0 x1 ⟨512 + r, by omega⟩ ⟨384 + l, by omega⟩) := by
  unfold hidOf gu Cert.HiddenArray.sg Cert.HiddenArray.inv Cert.HiddenArray.mag
  pointwise [k0_pay1, k0_pay13, k0_pay12, k0_pay11, k0_pay10, k0_pay9, k0_pay8]

theorem ab3 (r : Fin 256) (l : Fin 768) :
    k0_pay2 (View.ld x0 r0_10) (View.ld x1 r0_1) (ix2 r l) = gu x0 x1 ⟨768 + r, by omega⟩ l := by
  unfold gu
  pointwise [k0_pay2]

theorem act3 (r : Fin 256) (l : Fin 384) :
    k0_pay3 (View.ld x0 r0_10) (View.ld x1 r0_1) (ix2 r l) = hidOf (gu x0 x1 ⟨768 + r, by omega⟩ ⟨l, by omega⟩) (gu x0 x1 ⟨768 + r, by omega⟩ ⟨384 + l, by omega⟩) := by
  unfold hidOf gu Cert.HiddenArray.sg Cert.HiddenArray.inv Cert.HiddenArray.mag
  pointwise [k0_pay3, k0_pay2]

theorem out2_eq : out0_2 x0 x1 = abBlock x0 x1 := by
  funext y
  unfold out0_2
  refine View.canon_apply_of_pieces _ _ ?_ y (cover0_2 _ _ _ _ y)
  intro p hp x
  have hx (x : S256x768.Idx) : ∃ (r : Fin 256) (l : Fin 768), x = ix2 r l := ⟨x 0, x 1, by funext k; fin_cases k <;> rfl⟩
  simp only [List.mem_cons, List.mem_nil_iff, or_false] at hp
  rcases hp with rfl | rfl | rfl | rfl
  · obtain ⟨r, l, rfl⟩ := hx x
    exact (ab3 x0 x1 r l).trans (congrArg (abBlock x0 x1) (place2 768 (by omega) inb_S1024x768_S256x768_768_0 r l)).symm
  · obtain ⟨r, l, rfl⟩ := hx x
    exact (ab2 x0 x1 r l).trans (congrArg (abBlock x0 x1) (place2 512 (by omega) inb_S1024x768_S256x768_512_0 r l)).symm
  · obtain ⟨r, l, rfl⟩ := hx x
    exact (ab1 x0 x1 r l).trans (congrArg (abBlock x0 x1) (place2 256 (by omega) inb_S1024x768_S256x768_256_0 r l)).symm
  · obtain ⟨r, l, rfl⟩ := hx x
    exact (ab0 x0 x1 r l).trans (congrArg (abBlock x0 x1) (place2 0 (by omega) inb_S1024x768_S256x768_0_0 r l)).symm

theorem out3_eq : out0_3 x0 x1 = uBlock x0 x1 := by
  funext y
  unfold out0_3
  refine View.canon_apply_of_pieces _ _ ?_ y (cover0_3 _ _ _ _ y)
  intro p hp x
  have hx (x : S256x384.Idx) : ∃ (r : Fin 256) (l : Fin 384), x = ix2 r l := ⟨x 0, x 1, by funext k; fin_cases k <;> rfl⟩
  simp only [List.mem_cons, List.mem_nil_iff, or_false] at hp
  rcases hp with rfl | rfl | rfl | rfl
  · obtain ⟨r, l, rfl⟩ := hx x
    exact (act3 x0 x1 r l).trans (congrArg (uBlock x0 x1) (place3 768 (by omega) inb_S1024x384_S256x384_768_0 r l)).symm
  · obtain ⟨r, l, rfl⟩ := hx x
    exact (act2 x0 x1 r l).trans (congrArg (uBlock x0 x1) (place3 512 (by omega) inb_S1024x384_S256x384_512_0 r l)).symm
  · obtain ⟨r, l, rfl⟩ := hx x
    exact (act1 x0 x1 r l).trans (congrArg (uBlock x0 x1) (place3 256 (by omega) inb_S1024x384_S256x384_256_0 r l)).symm
  · obtain ⟨r, l, rfl⟩ := hx x
    exact (act0 x0 x1 r l).trans (congrArg (uBlock x0 x1) (place3 0 (by omega) inb_S1024x384_S256x384_0_0 r l)).symm

end Point

/-! ### The whole arrays -/

section Whole

variable (a : Vec Ideal S8192x1024 .bf16) (w : Vec Ideal S8x1024x768 .bf16)

/-- Row `t`, owner `o`, lane `l`. -/
def cell (t : Fin 8192) (o : Fin 8) (l : Fin 768) : EReal := ∑ k : Fin 1024, a (ix2 t k) * w (ix3 o k l)

def abWhole : Vec Ideal S8192x6144 .bf16 := fun i =>
  cell a w (i 0) ⟨(i 1).val / 768, by have : (i 1).val < 6144 := (i 1).isLt; omega⟩ ⟨(i 1).val % 768, by omega⟩

def uWhole : Vec Ideal S8192x3072 .bf16 := fun i =>
  hidOf (cell a w (i 0) ⟨(i 1).val / 384, by have : (i 1).val < 3072 := (i 1).isLt; omega⟩ ⟨(i 1).val % 384, by omega⟩)
    (cell a w (i 0) ⟨(i 1).val / 384, by have : (i 1).val < 3072 := (i 1).isLt; omega⟩ ⟨384 + (i 1).val % 384, by omega⟩)

theorem index0 : ∀ t : Fin cfg0.N, win0_0.index t = ![t.val / 8, 0] :=
  (by decide +kernel : ∀ t : Fin grid0.N, win0_0.index t = ![t.val / 8, 0])
theorem index1 : ∀ t : Fin cfg0.N, win0_1.index t = ![t.val % 8, 0, 0] :=
  (by decide +kernel : ∀ t : Fin grid0.N, win0_1.index t = ![t.val % 8, 0, 0])
theorem index2 : ∀ t : Fin cfg0.N, win0_2.index t = ![t.val / 8, t.val % 8] :=
  (by decide +kernel : ∀ t : Fin grid0.N, win0_2.index t = ![t.val / 8, t.val % 8])
theorem index3 : ∀ t : Fin cfg0.N, win0_3.index t = ![t.val / 8, t.val % 8] :=
  (by decide +kernel : ∀ t : Fin grid0.N, win0_3.index t = ![t.val / 8, t.val % 8])

theorem point_lt (t : Fin cfg0.N) : t.val < 64 := lt_of_lt_of_eq t.isLt N_0

theorem block0 (t : Fin cfg0.N) (i : Nat) (hi : i < 8) (h : t.val / 8 = i) (r k : Fin 1024) :
    ((cfg0.win 0).blk t).view.read (Elt Ideal) a (ix2 r k) = a (ix2 ⟨1024 * i + r, by omega⟩ k) := by
  blk_simp
  refine congrArg a ?_
  blk_ext [index0 t, h]

theorem block1 (t : Fin cfg0.N) (j : Nat) (hj : j < 8) (h : t.val % 8 = j) (k : Fin 1024) (l : Fin 768) :
    ((cfg0.win 1).blk t).view.read (Elt Ideal) w (ix3 0 k l) = w (ix3 ⟨j, hj⟩ k l) := by
  blk_simp
  refine congrArg w ?_
  blk_ext [index1 t, h]

theorem gu_eq (t : Fin cfg0.N) (i j : Nat) (hi : i < 8) (hj : j < 8) (h0 : t.val / 8 = i) (h1 : t.val % 8 = j) (r : Fin 1024) (q : Fin 768) :
    gu (((cfg0.win 0).blk t).view.read (Elt Ideal) a) (((cfg0.win 1).blk t).view.read (Elt Ideal) w) r q
      = cell a w ⟨1024 * i + r, by omega⟩ ⟨j, hj⟩ q :=
  Finset.sum_congr rfl fun k _ => congrArg₂ _ (block0 a t i hi h0 r k) (block1 w t j hj h1 k q)

variable (m : (ℓ : Loc nD τ sig) → Buf (Elt Ideal) ℓ) (c : Dev nD)

theorem final2 (ha : V m c main_v9 = a) (hw : V m c main_v10 = w) : (dats m 0 c).arrAt 2 cfg0.N = abWhole a w := by
  refine (dats m 0 c).arrAt_eq_of_covers 2 _ (by decide +kernel) fun t hf y => ?_
  have := point_lt t
  obtain ⟨r, q, rfl⟩ : ∃ (r : Fin 1024) (q : Fin 768), y = ix2 r q := ⟨y 0, y 1, by funext k; fin_cases k <;> rfl⟩
  have e : (win0_2.blk t).view.emb (ix2 r q) = ix2 ⟨1024 * (t.val / 8) + r, by omega⟩ ⟨768 * (t.val % 8) + q, by omega⟩ := by
    blk_ext [index2 t]
  have i0 : iblk m c 0 t = ((cfg0.win 0).blk t).view.read (Elt Ideal) a := by rw [← ha]; rfl
  have i1 : iblk m c 1 t = ((cfg0.win 1).blk t).view.read (Elt Ideal) w := by rw [← hw]; rfl
  blk_simp
  rw [after0_2, out2_eq, e, i0, i1]
  refine (gu_eq a w t (t.val / 8) (t.val % 8) (by omega) (by omega) rfl rfl r q).trans ?_
  have e1 : (768 * (t.val % 8) + q.val) / 768 = t.val % 8 := by omega
  have e2 : (768 * (t.val % 8) + q.val) % 768 = q.val := by omega
  show _ = cell a w _ ⟨(768 * (t.val % 8) + q.val) / 768, _⟩ ⟨(768 * (t.val % 8) + q.val) % 768, _⟩
  simp only [e1, e2]
  rfl

theorem final3 (ha : V m c main_v9 = a) (hw : V m c main_v10 = w) : (dats m 0 c).arrAt 3 cfg0.N = uWhole a w := by
  refine (dats m 0 c).arrAt_eq_of_covers 3 _ (by decide +kernel) fun t hf y => ?_
  have := point_lt t
  obtain ⟨r, q, rfl⟩ : ∃ (r : Fin 1024) (q : Fin 384), y = ix2 r q := ⟨y 0, y 1, by funext k; fin_cases k <;> rfl⟩
  have e : (win0_3.blk t).view.emb (ix2 r q) = ix2 ⟨1024 * (t.val / 8) + r, by omega⟩ ⟨384 * (t.val % 8) + q, by omega⟩ := by
    blk_ext [index3 t]
  have i0 : iblk m c 0 t = ((cfg0.win 0).blk t).view.read (Elt Ideal) a := by rw [← ha]; rfl
  have i1 : iblk m c 1 t = ((cfg0.win 1).blk t).view.read (Elt Ideal) w := by rw [← hw]; rfl
  blk_simp
  rw [after0_3, out3_eq, e, i0, i1]
  have g := gu_eq a w t (t.val / 8) (t.val % 8) (by omega) (by omega) rfl rfl r
  refine (congrArg₂ hidOf (g ⟨q, by omega⟩) (g ⟨384 + q, by omega⟩)).trans ?_
  have e1 : (384 * (t.val % 8) + q.val) / 384 = t.val % 8 := by omega
  have e2 : (384 * (t.val % 8) + q.val) % 384 = q.val := by omega
  show _ = hidOf (cell a w _ ⟨(384 * (t.val % 8) + q.val) / 384, _⟩ ⟨(384 * (t.val % 8) + q.val) % 384, _⟩)
    (cell a w _ ⟨(384 * (t.val % 8) + q.val) / 384, _⟩ ⟨384 + (384 * (t.val % 8) + q.val) % 384, _⟩)
  simp only [e1, e2]
  rfl

end Whole

end Cert.GateUpArray

end
-- ==== Proof.GateUpRef.lean ====
/- Hand-written. The reference's two hidden products and hidden activations, at an index. -/
module

public import proofs.«01_k».proof.Proof.Gen.RefGateUpIdeal.Run
public import Idealize.ShloMosaic.Lib.Pointwise
public import proofs.«01_k».proof.Proof.FfnStages

@[expose] public section

noncomputable section

namespace Cert.GateUpRef

open Cert.RefGateUpIdeal Cert.RefGateUpIdeal.Gen Idealize.ShloMosaic Idealize.ShloMosaic.TcCoe Cert.Ffn
open scoped BigOperators

/-- Two arrays side by side for each owner. -/
def pairArr (a b : Hid) : FVec Ideal S8192x6144 .bf16 :=
  truncf .bf16 (shapeCast S8192x6144 (concatenate S8192x8x768 2 [⟨S8192x8x352, shapeCast _ a shapeCasts_S1x8192x2816_S8192x8x352⟩,
    ⟨S8192x8x32, broadcastInDim S8192x8x32 ![] bcast_S_S8192x8x32 (constant (F := Ideal) S_ .f32 0x00000000#32)⟩,
    ⟨S8192x8x352, shapeCast _ b shapeCasts_S1x8192x2816_S8192x8x352⟩,
    ⟨S8192x8x32, broadcastInDim S8192x8x32 ![] bcast_S_S8192x8x32 (constant (F := Ideal) S_ .f32 0x00000000#32)⟩]
    concatenates_S8192x8x352_S8192x8x32_S8192x8x352_S8192x8x32_S8192x8x768_d2) shapeCasts_S8192x8x768_S8192x6144) bitsLt_bf16_f32

theorem pairArr_apply (a b : Hid) (t : Fin 8192) (l : Fin 6144) :
    pairArr a b (ix2 t l) = paired (fun f => a (ix3 0 t f)) (fun f => b (ix3 0 t f)) ⟨l.val / 768, by omega⟩ (l.val % 768) := by
  pointwise [pairArr]
  unfold paired lane
  by_cases h1 : l.val % 768 < 352
  · have h2 : l.val % 768 < 384 := by omega
    refine (dif_pos h1).trans ?_
    rw [if_pos h2, dif_pos h1]
  · refine (dif_neg h1).trans ?_
    by_cases h2 : l.val % 768 < 384
    · refine (dif_pos (by omega)).trans ?_
      rw [if_pos h2, dif_neg h1]
    · refine (dif_neg (by omega)).trans ?_
      by_cases h3 : l.val % 768 - 384 < 352
      · refine (dif_pos (by omega)).trans ?_
        rw [if_neg h2, dif_pos h3]
        refine congrArg (fun z => b (ix3 0 t z)) (Fin.ext ?_)
        show l.val / 768 * 352 + (l.val % 768 - 352 - 32) = l.val / 768 * 352 + (l.val % 768 - 384)
        omega
      · refine (dif_neg (by omega)).trans ?_
        rw [if_neg h2, dif_neg h3]

/-- An array's hidden axis by owner. -/
def ownArr (u : Hid) : FVec Ideal S8192x3072 .bf16 :=
  truncf .bf16 (shapeCast _ (concatenate S8192x8x384 2 [⟨S8192x8x352, shapeCast _ u shapeCasts_S1x8192x2816_S8192x8x352⟩,
    ⟨S8192x8x32, broadcastInDim S8192x8x32 ![] bcast_S_S8192x8x32 (constant (F := Ideal) S_ .f32 0x00000000#32)⟩]
    concatenates_S8192x8x352_S8192x8x32_S8192x8x384_d2) shapeCasts_S8192x8x384_S8192x3072) bitsLt_bf16_f32

theorem ownArr_apply (u : Hid) (t : Fin 8192) (l : Fin 3072) : ownArr u (ix2 t l) = padded (fun f => u (ix3 0 t f)) l := by
  unfold padded
  pointwise [ownArr]

end Cert.GateUpRef

end
-- ==== Proof.GateUpHost.lean ====
/- Hand-written. The two hidden products and the hidden activations: the arrays the call is given at an index, and the call's arrays as the reference's. -/
module

public import proofs.«01_k».proof.Proof.GateUp
public import proofs.«01_k».proof.Proof.GateUpRef
public import proofs.«01_k».proof.Proof.HiddenHost

@[expose] public section

noncomputable section

namespace Cert.GateUpArray

open Cert.GateUpIdeal Cert.GateUpIdeal.Gen Idealize.ShloMosaic Idealize.ShloMosaic.TcCoe Cert.Ffn
open scoped BigOperators

/-- One weight's columns, owner by owner. -/
def ownCols (w : Win) : FVec Ideal S1024x8x384 .f32 :=
  concatenate S1024x8x384 2 [⟨S1024x8x352, shapeCast _ w shapeCasts_S1024x2816_S1024x8x352⟩,
    ⟨S1024x8x32, broadcastInDim S1024x8x32 ![] bcast_S_S1024x8x32 (constant (F := Ideal) S_ .f32 0x00000000#32)⟩]
    concatenates_S1024x8x352_S1024x8x32_S1024x8x384_d2

/-- The two weights side by side for each owner. -/
def wArr (g u : Win) : FVec Ideal S8x1024x768 .bf16 :=
  truncf .bf16 (transpose S8x1024x768 [1, 0, 2] (concatenate S1024x8x768 2 [⟨S1024x8x384, ownCols g⟩, ⟨S1024x8x384, ownCols u⟩]
    concatenates_S1024x8x384_S1024x8x384_S1024x8x768_d2) transposes_S1024x8x768_S8x1024x768_1_0_2) bitsLt_bf16_f32

theorem wArr_apply (g u : Win) (o : Fin 8) (k : Fin 1024) (l : Fin 768) :
    wArr g u (ix3 o k l) = paired (fun f => g (ix2 k f)) (fun f => u (ix2 k f)) o l.val := by
  pointwise [wArr, ownCols]
  rfl

def xArr (x : Act) : FVec Ideal S8192x1024 .bf16 :=
  truncf .bf16 (shapeCast _ x shapeCasts_S1x8192x1024_S8192x1024) bitsLt_bf16_f32

theorem xArr_apply (x : Act) (t : Fin 8192) (l : Fin 1024) : xArr x (ix2 t l) = x (ix3 0 t l) := by
  pointwise [xArr]

theorem hid_apply (a b : Hid) (t : Fin 8192) (f : Fin 2816) :
    hid a b (ix3 0 t f) = a (ix3 0 t f) * Cert.HiddenArray.logistic (a (ix3 0 t f)) * b (ix3 0 t f) := by
  unfold Cert.HiddenArray.logistic
  pointwise [hid, swish, sigm, one]

/-- The two sigmoids agree at every extended real. -/
theorem sg_eq (a : EReal) : Cert.HiddenArray.sg a = Cert.HiddenArray.logistic a := by
  induction a using EReal.rec with
  | coe a => rw [Cert.HiddenArray.sg_coe, Cert.HiddenArray.logistic_coe]
  | top =>
    have h : FloatOps.absf (F := Ideal) (φ := .f32) (⊤ : EReal) = ⊤ := by
      show max (⊤ : EReal) (-⊤) = ⊤
      simp
    unfold Cert.HiddenArray.sg Cert.HiddenArray.inv Cert.HiddenArray.mag Cert.HiddenArray.logistic
    rw [h, if_pos le_top, zero_sub]
  | bot =>
    have h : FloatOps.absf (F := Ideal) (φ := .f32) (⊥ : EReal) = ⊤ := by
      show max (⊥ : EReal) (-⊥) = ⊤
      simp
    unfold Cert.HiddenArray.sg Cert.HiddenArray.inv Cert.HiddenArray.mag Cert.HiddenArray.logistic
    rw [h, if_neg (by simp), zero_sub, EReal.neg_top, EReal.neg_bot]
    show (0 : EReal) * _ = Ideal.div 1 (1 + ⊤)
    rw [zero_mul, Ideal.div, EReal.add_top_of_ne_bot (by decide), if_neg (by simp)]
    simp

/-- An owner's lane of the product, as the product's lane. -/
theorem cell_eq (x : Act) (g u : Win) (t : Fin 8192) (o : Fin 8) (l : Fin 768) :
    cell (xArr x) (wArr g u) t o l = paired (fun f => into x g (ix3 0 t f)) (fun f => into x u (ix3 0 t f)) o l.val := by
  unfold cell
  simp only [xArr_apply, wArr_apply, paired, lane, Cert.HiddenArray.into_apply]
  split_ifs
  · rfl
  · simp
  · rfl
  · simp

theorem pair_eq (x : Act) (g u : Win) : abWhole (xArr x) (wArr g u) = Cert.GateUpRef.pairArr (into x g) (into x u) := by
  funext i
  obtain ⟨t, l, rfl⟩ : ∃ (t : Fin 8192) (l : Fin 6144), i = ix2 t l := ⟨i 0, i 1, by funext k; fin_cases k <;> rfl⟩
  refine Eq.trans ?_ (Cert.GateUpRef.pairArr_apply _ _ t l).symm
  exact cell_eq x g u t ⟨l.val / 768, by omega⟩ ⟨l.val % 768, by omega⟩

theorem hid_eq (x : Act) (g u : Win) : uWhole (xArr x) (wArr g u) = Cert.GateUpRef.ownArr (hid (into x g) (into x u)) := by
  funext i
  obtain ⟨t, l, rfl⟩ : ∃ (t : Fin 8192) (l : Fin 3072), i = ix2 t l := ⟨i 0, i 1, by funext k; fin_cases k <;> rfl⟩
  refine Eq.trans ?_ (Cert.GateUpRef.ownArr_apply _ t l).symm
  refine (congrArg₂ hidOf (cell_eq x g u t ⟨l.val / 384, by omega⟩ ⟨l.val % 384, by omega⟩)
    (cell_eq x g u t ⟨l.val / 384, by omega⟩ ⟨384 + l.val % 384, by omega⟩)).trans ?_
  have e1 : l.val % 384 < 384 := by omega
  have e2 : ¬(384 + l.val % 384 < 384) := by omega
  have e3 : 384 + l.val % 384 - 384 = l.val % 384 := by omega
  simp only [paired, if_pos e1, if_neg e2, e3, lane, padded, hid_apply]
  by_cases h : l.val % 384 < 352
  · simp only [dif_pos h]
    unfold hidOf
    rw [sg_eq]
  · simp only [dif_neg h]
    exact mul_zero _

variable (m : (ℓ : Loc nD τ sig) → Buf (Elt Ideal) ℓ) (c : Dev nD)

abbrev arg0 : Act := m ((c : Thread nD τ).loc main_arg0)
abbrev arg1 : Win := m ((c : Thread nD τ).loc main_arg1)
abbrev arg2 : Win := m ((c : Thread nD τ).loc main_arg2)

set_option maxHeartbeats 4000000 in
theorem V_v9 : V m c main_v9 = xArr (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

set_option maxHeartbeats 4000000 in
theorem V_v10 : V m c main_v10 = wArr (arg1 m c) (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem final_pair : (dats m 0 c).arrAt 2 cfg0.N = Cert.GateUpRef.pairArr (into (arg0 m c) (arg1 m c)) (into (arg0 m c) (arg2 m c)) :=
  (final2 _ _ m c (V_v9 m c) (V_v10 m c)).trans (pair_eq _ _ _)

theorem final_hid : (dats m 0 c).arrAt 3 cfg0.N = Cert.GateUpRef.ownArr (hid (into (arg0 m c) (arg1 m c)) (into (arg0 m c) (arg2 m c))) :=
  (final3 _ _ m c (V_v9 m c) (V_v10 m c)).trans (hid_eq _ _ _)

end Cert.GateUpArray

end
-- ==== Proof.Products.lean ====
/- Hand-written. For each linear layer's product: the kernel's array and the reference's are the same function of the arguments. -/
module

public import proofs.«01_k».proof.Defs
public import proofs.«01_k».proof.Proof.Gen.DwSquare
public import proofs.«01_k».proof.Proof.Gen.DwSquareIdeal
public import proofs.«01_k».proof.Proof.Gen.RefDwSquareIdeal
public import proofs.«01_k».proof.Proof.Gen.DwSquareIdeal.Value
public import proofs.«01_k».proof.Proof.Gen.RefDwSquareIdeal.Run
public import proofs.«01_k».proof.Proof.Gen.DwEvIn
public import proofs.«01_k».proof.Proof.Gen.DwEvInIdeal
public import proofs.«01_k».proof.Proof.Gen.RefDwEvInIdeal
public import proofs.«01_k».proof.Proof.Gen.DwEvInIdeal.Value
public import proofs.«01_k».proof.Proof.Gen.RefDwEvInIdeal.Run
public import proofs.«01_k».proof.Proof.Gen.DwOdIn
public import proofs.«01_k».proof.Proof.Gen.DwOdInIdeal
public import proofs.«01_k».proof.Proof.Gen.RefDwOdInIdeal
public import proofs.«01_k».proof.Proof.Gen.DwOdInIdeal.Value
public import proofs.«01_k».proof.Proof.Gen.RefDwOdInIdeal.Run
public import proofs.«01_k».proof.Proof.Gen.DwPleProj
public import proofs.«01_k».proof.Proof.Gen.DwPleProjIdeal
public import proofs.«01_k».proof.Proof.Gen.RefDwPleProjIdeal
public import proofs.«01_k».proof.Proof.Gen.DwPleProjIdeal.Value
public import proofs.«01_k».proof.Proof.Gen.RefDwPleProjIdeal.Run
public import proofs.«01_k».proof.Proof.Gen.DxEvIn
public import proofs.«01_k».proof.Proof.Gen.DxEvInIdeal
public import proofs.«01_k».proof.Proof.Gen.RefDxEvInIdeal
public import proofs.«01_k».proof.Proof.Gen.DxEvInIdeal.Value
public import proofs.«01_k».proof.Proof.Gen.RefDxEvInIdeal.Run
public import proofs.«01_k».proof.Proof.Gen.DxOdIn
public import proofs.«01_k».proof.Proof.Gen.DxOdInIdeal
public import proofs.«01_k».proof.Proof.Gen.RefDxOdInIdeal
public import proofs.«01_k».proof.Proof.Gen.DxOdInIdeal.Value
public import proofs.«01_k».proof.Proof.Gen.RefDxOdInIdeal.Run
public import proofs.«01_k».proof.Proof.Gen.DxPleGate
public import proofs.«01_k».proof.Proof.Gen.DxPleGateIdeal
public import proofs.«01_k».proof.Proof.Gen.RefDxPleGateIdeal
public import proofs.«01_k».proof.Proof.Gen.DxPleGateIdeal.Value
public import proofs.«01_k».proof.Proof.Gen.RefDxPleGateIdeal.Run
public import proofs.«01_k».proof.Proof.Gen.DxOut
public import proofs.«01_k».proof.Proof.Gen.DxOutIdeal
public import proofs.«01_k».proof.Proof.Gen.RefDxOutIdeal
public import proofs.«01_k».proof.Proof.Gen.DxOutIdeal.Value
public import proofs.«01_k».proof.Proof.Gen.RefDxOutIdeal.Run
public import proofs.«01_k».proof.Proof.Gen.EvIn
public import proofs.«01_k».proof.Proof.Gen.EvInIdeal
public import proofs.«01_k».proof.Proof.Gen.RefEvInIdeal
public import proofs.«01_k».proof.Proof.Gen.EvInIdeal.Value
public import proofs.«01_k».proof.Proof.Gen.RefEvInIdeal.Run
public import proofs.«01_k».proof.Proof.Gen.OdIn
public import proofs.«01_k».proof.Proof.Gen.OdInIdeal
public import proofs.«01_k».proof.Proof.Gen.RefOdInIdeal
public import proofs.«01_k».proof.Proof.Gen.OdInIdeal.Value
public import proofs.«01_k».proof.Proof.Gen.RefOdInIdeal.Run
public import proofs.«01_k».proof.Proof.Gen.PleGate
public import proofs.«01_k».proof.Proof.Gen.PleGateIdeal
public import proofs.«01_k».proof.Proof.Gen.RefPleGateIdeal
public import proofs.«01_k».proof.Proof.Gen.PleGateIdeal.Value
public import proofs.«01_k».proof.Proof.Gen.RefPleGateIdeal.Run
public import proofs.«01_k».proof.Proof.Gen.PleProj
public import proofs.«01_k».proof.Proof.Gen.PleProjIdeal
public import proofs.«01_k».proof.Proof.Gen.RefPleProjIdeal
public import proofs.«01_k».proof.Proof.Gen.PleProjIdeal.Value
public import proofs.«01_k».proof.Proof.Gen.RefPleProjIdeal.Run
public import proofs.«01_k».proof.Proof.Gen.MixOut
public import proofs.«01_k».proof.Proof.Gen.MixOutIdeal
public import proofs.«01_k».proof.Proof.Gen.RefMixOutIdeal
public import proofs.«01_k».proof.Proof.Gen.MixOutIdeal.Value
public import proofs.«01_k».proof.Proof.Gen.RefMixOutIdeal.Run
public import proofs.«01_k».proof.Proof.Gen.Down
public import proofs.«01_k».proof.Proof.Gen.DownIdeal
public import proofs.«01_k».proof.Proof.Gen.RefDownIdeal
public import proofs.«01_k».proof.Proof.Gen.DownIdeal.Value
public import proofs.«01_k».proof.Proof.Gen.RefDownIdeal.Run
public import proofs.«01_k».proof.Proof.Gen.GateUp
public import proofs.«01_k».proof.Proof.Gen.GateUpIdeal
public import proofs.«01_k».proof.Proof.Gen.RefGateUpIdeal
public import proofs.«01_k».proof.Proof.Gen.GateUpIdeal.Value
public import proofs.«01_k».proof.Proof.Gen.RefGateUpIdeal.Run
public import proofs.«01_k».proof.Proof.DwSquare
public import proofs.«01_k».proof.Proof.DwEvIn
public import proofs.«01_k».proof.Proof.DwOdIn
public import proofs.«01_k».proof.Proof.DwPleProj
public import proofs.«01_k».proof.Proof.DxEvIn
public import proofs.«01_k».proof.Proof.DxOdIn
public import proofs.«01_k».proof.Proof.DxPleGate
public import proofs.«01_k».proof.Proof.DxOut
public import proofs.«01_k».proof.Proof.EvIn
public import proofs.«01_k».proof.Proof.OdIn
public import proofs.«01_k».proof.Proof.PleGate
public import proofs.«01_k».proof.Proof.PleProj
public import proofs.«01_k».proof.Proof.MixOut
public import proofs.«01_k».proof.Proof.Down
public import proofs.«01_k».proof.Proof.GateUpHost
public import Idealize.ShloMosaic.Adequacy

@[expose] public section

noncomputable section

namespace Cert.Proof

open Idealize.ShloMosaic Idealize.SL.Sem

theorem dwSquare_algebraic :
    Cert.algebraic_DwSquareIdeal_RefDwSquareIdeal (hDwSquareIdeal := Cert.DwSquareIdeal.Gen.facts) (hRefDwSquareIdeal := Cert.RefDwSquareIdeal.Gen.facts) := by
  intro m g m' g' _ he
  refine ⟨fun c => Cert.DwSquareRef.refArr (Cert.DwSquareArray.arg0 m c) (Cert.DwSquareArray.arg2 m c), ?_, ?_⟩
  · refine θ_run_mono (Cert.DwSquareIdeal.Value.run_blocks m g) fun r h c => ?_
    obtain ⟨ho, hr⟩ := h c
    exact ⟨ho.trans (Cert.DwSquareArray.final_ref m c), hr⟩
  · refine θ_run_mono (Cert.RefDwSquareIdeal.Value.run m' g') fun r h c => ?_
    obtain ⟨ho, hr⟩ := h c
    obtain ⟨e0, _, e2⟩ := he c
    exact ⟨ho.trans (congrArg₂ Cert.DwSquareRef.refArr e0 e2), hr⟩

theorem dwEvIn_algebraic :
    Cert.algebraic_DwEvInIdeal_RefDwEvInIdeal (hDwEvInIdeal := Cert.DwEvInIdeal.Gen.facts) (hRefDwEvInIdeal := Cert.RefDwEvInIdeal.Gen.facts) := by
  intro m g m' g' _ he
  refine ⟨fun c => Cert.DwEvInRef.refArr (Cert.DwEvInArray.arg0 m c) (Cert.DwEvInArray.arg2 m c), ?_, ?_⟩
  · refine θ_run_mono (Cert.DwEvInIdeal.Value.run_blocks m g) fun r h c => ?_
    obtain ⟨ho, hr⟩ := h c
    exact ⟨ho.trans (Cert.DwEvInArray.final_ref m c), hr⟩
  · refine θ_run_mono (Cert.RefDwEvInIdeal.Value.run m' g') fun r h c => ?_
    obtain ⟨ho, hr⟩ := h c
    obtain ⟨e0, _, e2⟩ := he c
    exact ⟨ho.trans (congrArg₂ Cert.DwEvInRef.refArr e0 e2), hr⟩

theorem dwOdIn_algebraic :
    Cert.algebraic_DwOdInIdeal_RefDwOdInIdeal (hDwOdInIdeal := Cert.DwOdInIdeal.Gen.facts) (hRefDwOdInIdeal := Cert.RefDwOdInIdeal.Gen.facts) := by
  intro m g m' g' _ he
  refine ⟨fun c => Cert.DwOdInRef.refArr (Cert.DwOdInArray.arg0 m c) (Cert.DwOdInArray.arg2 m c), ?_, ?_⟩
  · refine θ_run_mono (Cert.DwOdInIdeal.Value.run_blocks m g) fun r h c => ?_
    obtain ⟨ho, hr⟩ := h c
    exact ⟨ho.trans (Cert.DwOdInArray.final_ref m c), hr⟩
  · refine θ_run_mono (Cert.RefDwOdInIdeal.Value.run m' g') fun r h c => ?_
    obtain ⟨ho, hr⟩ := h c
    obtain ⟨e0, _, e2⟩ := he c
    exact ⟨ho.trans (congrArg₂ Cert.DwOdInRef.refArr e0 e2), hr⟩

theorem dwPleProj_algebraic :
    Cert.algebraic_DwPleProjIdeal_RefDwPleProjIdeal (hDwPleProjIdeal := Cert.DwPleProjIdeal.Gen.facts) (hRefDwPleProjIdeal := Cert.RefDwPleProjIdeal.Gen.facts) := by
  intro m g m' g' _ he
  refine ⟨fun c => Cert.DwPleProjRef.refArr (Cert.DwPleProjArray.arg0 m c) (Cert.DwPleProjArray.arg2 m c), ?_, ?_⟩
  · refine θ_run_mono (Cert.DwPleProjIdeal.Value.run_blocks m g) fun r h c => ?_
    obtain ⟨ho, hr⟩ := h c
    exact ⟨ho.trans (Cert.DwPleProjArray.final_ref m c), hr⟩
  · refine θ_run_mono (Cert.RefDwPleProjIdeal.Value.run m' g') fun r h c => ?_
    obtain ⟨ho, hr⟩ := h c
    obtain ⟨e0, _, e2⟩ := he c
    exact ⟨ho.trans (congrArg₂ Cert.DwPleProjRef.refArr e0 e2), hr⟩

theorem dxEvIn_algebraic :
    Cert.algebraic_DxEvInIdeal_RefDxEvInIdeal (hDxEvInIdeal := Cert.DxEvInIdeal.Gen.facts) (hRefDxEvInIdeal := Cert.RefDxEvInIdeal.Gen.facts) := by
  intro m g m' g' _ he
  refine ⟨fun c => Cert.DxEvInRef.refArr (Cert.DxEvInArray.arg1 m c) (Cert.DxEvInArray.arg2 m c), ?_, ?_⟩
  · refine θ_run_mono (Cert.DxEvInIdeal.Value.run_blocks m g) fun r h c => ?_
    obtain ⟨ho, hr⟩ := h c
    exact ⟨ho.trans (Cert.DxEvInArray.final_ref m c), hr⟩
  · refine θ_run_mono (Cert.RefDxEvInIdeal.Value.run m' g') fun r h c => ?_
    obtain ⟨ho, hr⟩ := h c
    obtain ⟨_, e1, e2⟩ := he c
    exact ⟨ho.trans (congrArg₂ Cert.DxEvInRef.refArr e1 e2), hr⟩

theorem dxOdIn_algebraic :
    Cert.algebraic_DxOdInIdeal_RefDxOdInIdeal (hDxOdInIdeal := Cert.DxOdInIdeal.Gen.facts) (hRefDxOdInIdeal := Cert.RefDxOdInIdeal.Gen.facts) := by
  intro m g m' g' _ he
  refine ⟨fun c => Cert.DxOdInRef.refArr (Cert.DxOdInArray.arg1 m c) (Cert.DxOdInArray.arg2 m c), ?_, ?_⟩
  · refine θ_run_mono (Cert.DxOdInIdeal.Value.run_blocks m g) fun r h c => ?_
    obtain ⟨ho, hr⟩ := h c
    exact ⟨ho.trans (Cert.DxOdInArray.final_ref m c), hr⟩
  · refine θ_run_mono (Cert.RefDxOdInIdeal.Value.run m' g') fun r h c => ?_
    obtain ⟨ho, hr⟩ := h c
    obtain ⟨_, e1, e2⟩ := he c
    exact ⟨ho.trans (congrArg₂ Cert.DxOdInRef.refArr e1 e2), hr⟩

theorem dxPleGate_algebraic :
    Cert.algebraic_DxPleGateIdeal_RefDxPleGateIdeal (hDxPleGateIdeal := Cert.DxPleGateIdeal.Gen.facts) (hRefDxPleGateIdeal := Cert.RefDxPleGateIdeal.Gen.facts) := by
  intro m g m' g' _ he
  refine ⟨fun c => Cert.DxPleGateRef.refArr (Cert.DxPleGateArray.arg1 m c) (Cert.DxPleGateArray.arg2 m c), ?_, ?_⟩
  · refine θ_run_mono (Cert.DxPleGateIdeal.Value.run_blocks m g) fun r h c => ?_
    obtain ⟨ho, hr⟩ := h c
    exact ⟨ho.trans (Cert.DxPleGateArray.final_ref m c), hr⟩
  · refine θ_run_mono (Cert.RefDxPleGateIdeal.Value.run m' g') fun r h c => ?_
    obtain ⟨ho, hr⟩ := h c
    obtain ⟨_, e1, e2⟩ := he c
    exact ⟨ho.trans (congrArg₂ Cert.DxPleGateRef.refArr e1 e2), hr⟩

theorem dxOut_algebraic :
    Cert.algebraic_DxOutIdeal_RefDxOutIdeal (hDxOutIdeal := Cert.DxOutIdeal.Gen.facts) (hRefDxOutIdeal := Cert.RefDxOutIdeal.Gen.facts) := by
  intro m g m' g' _ he
  refine ⟨fun c => Cert.DxOutRef.refArr (Cert.DxOutArray.arg1 m c) (Cert.DxOutArray.arg2 m c), ?_, ?_⟩
  · refine θ_run_mono (Cert.DxOutIdeal.Value.run_blocks m g) fun r h c => ?_
    obtain ⟨ho, hr⟩ := h c
    exact ⟨ho.trans (Cert.DxOutArray.final_ref m c), hr⟩
  · refine θ_run_mono (Cert.RefDxOutIdeal.Value.run m' g') fun r h c => ?_
    obtain ⟨ho, hr⟩ := h c
    obtain ⟨_, e1, e2⟩ := he c
    exact ⟨ho.trans (congrArg₂ Cert.DxOutRef.refArr e1 e2), hr⟩

theorem evIn_algebraic :
    Cert.algebraic_EvInIdeal_RefEvInIdeal (hEvInIdeal := Cert.EvInIdeal.Gen.facts) (hRefEvInIdeal := Cert.RefEvInIdeal.Gen.facts) := by
  intro m g m' g' _ he
  refine ⟨fun c => Cert.EvInRef.refArr (Cert.EvInArray.arg0 m c) (Cert.EvInArray.arg1 m c), ?_, ?_⟩
  · refine θ_run_mono (Cert.EvInIdeal.Value.run_blocks m g) fun r h c => ?_
    obtain ⟨ho, hr⟩ := h c
    exact ⟨ho.trans (Cert.EvInArray.final_ref m c), hr⟩
  · refine θ_run_mono (Cert.RefEvInIdeal.Value.run m' g') fun r h c => ?_
    obtain ⟨ho, hr⟩ := h c
    obtain ⟨e0, e1⟩ := he c
    exact ⟨ho.trans (congrArg₂ Cert.EvInRef.refArr e0 e1), hr⟩

theorem odIn_algebraic :
    Cert.algebraic_OdInIdeal_RefOdInIdeal (hOdInIdeal := Cert.OdInIdeal.Gen.facts) (hRefOdInIdeal := Cert.RefOdInIdeal.Gen.facts) := by
  intro m g m' g' _ he
  refine ⟨fun c => Cert.OdInRef.refArr (Cert.OdInArray.arg0 m c) (Cert.OdInArray.arg1 m c), ?_, ?_⟩
  · refine θ_run_mono (Cert.OdInIdeal.Value.run_blocks m g) fun r h c => ?_
    obtain ⟨ho, hr⟩ := h c
    exact ⟨ho.trans (Cert.OdInArray.final_ref m c), hr⟩
  · refine θ_run_mono (Cert.RefOdInIdeal.Value.run m' g') fun r h c => ?_
    obtain ⟨ho, hr⟩ := h c
    obtain ⟨e0, e1⟩ := he c
    exact ⟨ho.trans (congrArg₂ Cert.OdInRef.refArr e0 e1), hr⟩

theorem pleGate_algebraic :
    Cert.algebraic_PleGateIdeal_RefPleGateIdeal (hPleGateIdeal := Cert.PleGateIdeal.Gen.facts) (hRefPleGateIdeal := Cert.RefPleGateIdeal.Gen.facts) := by
  intro m g m' g' _ he
  refine ⟨fun c => Cert.PleGateRef.refArr (Cert.PleGateArray.arg0 m c) (Cert.PleGateArray.arg1 m c), ?_, ?_⟩
  · refine θ_run_mono (Cert.PleGateIdeal.Value.run_blocks m g) fun r h c => ?_
    obtain ⟨ho, hr⟩ := h c
    exact ⟨ho.trans (Cert.PleGateArray.final_ref m c), hr⟩
  · refine θ_run_mono (Cert.RefPleGateIdeal.Value.run m' g') fun r h c => ?_
    obtain ⟨ho, hr⟩ := h c
    obtain ⟨e0, e1⟩ := he c
    exact ⟨ho.trans (congrArg₂ Cert.PleGateRef.refArr e0 e1), hr⟩

theorem pleProj_algebraic :
    Cert.algebraic_PleProjIdeal_RefPleProjIdeal (hPleProjIdeal := Cert.PleProjIdeal.Gen.facts) (hRefPleProjIdeal := Cert.RefPleProjIdeal.Gen.facts) := by
  intro m g m' g' _ he
  refine ⟨fun c => Cert.PleProjRef.refArr (Cert.PleProjArray.arg0 m c) (Cert.PleProjArray.arg1 m c), ?_, ?_⟩
  · refine θ_run_mono (Cert.PleProjIdeal.Value.run_blocks m g) fun r h c => ?_
    obtain ⟨ho, hr⟩ := h c
    exact ⟨ho.trans (Cert.PleProjArray.final_ref m c), hr⟩
  · refine θ_run_mono (Cert.RefPleProjIdeal.Value.run m' g') fun r h c => ?_
    obtain ⟨ho, hr⟩ := h c
    obtain ⟨e0, e1⟩ := he c
    exact ⟨ho.trans (congrArg₂ Cert.PleProjRef.refArr e0 e1), hr⟩

/-- The reference's array at equal arguments. -/
theorem mixOut_args {h h' x x' w w'} (e0 : h = h') (e1 : x = x') (e2 : w = w') :
    Cert.MixOutRef.refArr h x w = Cert.MixOutRef.refArr h' x' w' := by
  subst e0 e1 e2
  rfl

theorem mixOut_algebraic :
    Cert.algebraic_MixOutIdeal_RefMixOutIdeal (hMixOutIdeal := Cert.MixOutIdeal.Gen.facts) (hRefMixOutIdeal := Cert.RefMixOutIdeal.Gen.facts) := by
  intro m g m' g' _ he
  refine ⟨fun c => Cert.MixOutRef.refArr (Cert.MixOutArray.arg0 m c) (Cert.MixOutArray.arg1 m c) (Cert.MixOutArray.arg2 m c), ?_, ?_⟩
  · refine θ_run_mono (Cert.MixOutIdeal.Value.run_blocks m g) fun r h c => ?_
    obtain ⟨ho, hr⟩ := h c
    exact ⟨ho.trans (Cert.MixOutArray.final_ref m c), hr⟩
  · refine θ_run_mono (Cert.RefMixOutIdeal.Value.run m' g') fun r h c => ?_
    obtain ⟨ho, hr⟩ := h c
    obtain ⟨e0, e1, e2⟩ := he c
    exact ⟨ho.trans (mixOut_args e0 e1 e2), hr⟩

/-- A function of the down projection's five arguments takes equal arguments to equal values. -/
theorem ffn_args {α : Type} (f : Cert.Ffn.Act → Cert.Ffn.Act → Cert.Ffn.Win → Cert.Ffn.Win → Cert.Ffn.Wout → α) {h h' x x' g g' u u' d d'}
    (e0 : h = h') (e1 : x = x') (e2 : g = g') (e3 : u = u') (e4 : d = d') : f h x g u d = f h' x' g' u' d' := by
  subst e0 e1 e2 e3 e4
  rfl

theorem down_algebraic :
    Cert.algebraic_DownIdeal_RefDownIdeal (hDownIdeal := Cert.DownIdeal.Gen.facts) (hRefDownIdeal := Cert.RefDownIdeal.Gen.facts) := by
  intro m g m' g' _ he
  refine ⟨fun c => Cert.DownRef.refArr (Cert.DownArray.arg0 m c) (Cert.DownRef.outp (Cert.Ffn.hid (Cert.Ffn.into (Cert.DownArray.arg1 m c) (Cert.DownArray.arg2 m c)) (Cert.Ffn.into (Cert.DownArray.arg1 m c) (Cert.DownArray.arg3 m c))) (Cert.DownArray.arg4 m c)), ?_, ?_⟩
  · refine θ_run_mono (Cert.DownIdeal.Value.run_blocks m g) fun r h c => ?_
    obtain ⟨ho, hr⟩ := h c
    exact ⟨ho.trans (Cert.DownArray.final_ref m c), hr⟩
  · refine θ_run_mono (Cert.RefDownIdeal.Value.run m' g') fun r h c => ?_
    obtain ⟨ho, hr⟩ := h c
    obtain ⟨e0, e1, e2, e3, e4⟩ := he c
    exact ⟨ho.trans (ffn_args (fun h x g u d => Cert.DownRef.refArr h (Cert.DownRef.outp (Cert.Ffn.hid (Cert.Ffn.into x g) (Cert.Ffn.into x u)) d)) e0 e1 e2 e3 e4), hr⟩

/-- A function of the hidden products' three arguments takes equal arguments to equal values. -/
theorem gateUp_args {α : Type} (f : Cert.Ffn.Act → Cert.Ffn.Win → Cert.Ffn.Win → α) {x x' g g' u u'}
    (e0 : x = x') (e1 : g = g') (e2 : u = u') : f x g u = f x' g' u' := by
  subst e0 e1 e2
  rfl

theorem gateUp_algebraic :
    Cert.algebraic_GateUpIdeal_RefGateUpIdeal (hGateUpIdeal := Cert.GateUpIdeal.Gen.facts) (hRefGateUpIdeal := Cert.RefGateUpIdeal.Gen.facts) := by
  intro m g m' g' _ he
  refine ⟨fun c => Cert.GateUpRef.pairArr (Cert.Ffn.into (Cert.GateUpArray.arg0 m c) (Cert.GateUpArray.arg1 m c)) (Cert.Ffn.into (Cert.GateUpArray.arg0 m c) (Cert.GateUpArray.arg2 m c)),
    fun c => Cert.GateUpRef.ownArr (Cert.Ffn.hid (Cert.Ffn.into (Cert.GateUpArray.arg0 m c) (Cert.GateUpArray.arg1 m c)) (Cert.Ffn.into (Cert.GateUpArray.arg0 m c) (Cert.GateUpArray.arg2 m c))), ?_, ?_⟩
  · refine θ_run_mono (Cert.GateUpIdeal.Value.run_blocks m g) fun r h c => ?_
    obtain ⟨h0, h1, hr⟩ := h c
    exact ⟨h0.trans (Cert.GateUpArray.final_pair m c), h1.trans (Cert.GateUpArray.final_hid m c), hr⟩
  · refine θ_run_mono (Cert.RefGateUpIdeal.Value.run m' g') fun r h c => ?_
    obtain ⟨h0, h1, hr⟩ := h c
    obtain ⟨e0, e1, e2⟩ := he c
    exact ⟨h0.trans (gateUp_args (fun x g u => Cert.GateUpRef.pairArr (Cert.Ffn.into x g) (Cert.Ffn.into x u)) e0 e1 e2),
      h1.trans (gateUp_args (fun x g u => Cert.GateUpRef.ownArr (Cert.Ffn.hid (Cert.Ffn.into x g) (Cert.Ffn.into x u))) e0 e1 e2), hr⟩

end Cert.Proof

end
-- ==== Proof.NormLaws.lean ====
/- Hand-written. A norm's backward over one row of extended reals: the two ways of writing it agree. -/
module

public import proofs.«01_k».proof.Proof.Spec
public import Idealize.ShloMosaic.Lib.Pointwise

@[expose] public section

noncomputable section

namespace Cert.Norm

open Idealize.ShloMosaic
open scoped BigOperators

/-- The number of features, the norm's epsilon, and the half with its sign, as the programs write them. -/
abbrev width : EReal := Ideal.ofBits .f32 0x44800000#32
abbrev eps : EReal := Ideal.ofBits .f32 0x358637BD#32
abbrev negHalf : EReal := Ideal.ofBits .f32 0xBF000000#32

theorem width_eq : width = ((1024 : ℝ) : EReal) := by
  simp [width, Ideal.ofBits, Ideal.ieee]
  rw [← EReal.coe_mul]
  norm_num

theorem eps_pos : ∃ e : ℝ, 0 < e ∧ eps = (e : EReal) := by
  refine ⟨8796093 * (2 : ℝ) ^ (-43 : ℤ), by positivity, ?_⟩
  simp [eps, Ideal.ofBits, Ideal.ieee]

theorem negHalf_eq : negHalf = ((-(1 / 2) : ℝ) : EReal) := by
  simp [negHalf, Ideal.ofBits, Ideal.ieee]
  rw [← EReal.coe_mul]
  norm_num

/-- A sum over two axes of one element each. -/
theorem reduce02 {n : Nat} (h : (⟨3, ![1, n, 1]⟩ : Shape).ReducesTo [0, 2] ⟨1, ![n]⟩) (v : (⟨3, ![1, n, 1]⟩ : Shape).Idx → EReal) (z : EReal) (t : Fin n) :
    Ideal.hostReduceAdd h v z (ix1 t) = z + v (ix3 0 t 0) := by
  unfold Ideal.hostReduceAdd
  refine congrArg₂ (· + ·) rfl ((Finset.sum_filter_eq_sum_of_fiber _ (fun _ : Unit => ix3 0 t 0) (fun _ _ _ => rfl) (fun i => ?_) v).trans ?_)
  · constructor
    · intro e
      refine ⟨(), ?_⟩
      funext a
      apply Fin.ext
      match a with
      | ⟨0, _⟩ => have h1 : (i 0).val < 1 := (i 0).isLt; exact (Nat.lt_one_iff.mp h1).symm
      | ⟨1, _⟩ => exact (congrArg Fin.val (congrFun e 0)).symm
      | ⟨2, _⟩ => have h1 : (i 2).val < 1 := (i 2).isLt; exact (Nat.lt_one_iff.mp h1).symm
    · rintro ⟨_, rfl⟩
      funext b
      apply Fin.ext
      match b with
      | ⟨0, _⟩ => rfl
  · simp

/-- The same, over the first two axes. -/
theorem reduce01 {n : Nat} (h : (⟨3, ![1, 1, n]⟩ : Shape).ReducesTo [0, 1] ⟨1, ![n]⟩) (v : (⟨3, ![1, 1, n]⟩ : Shape).Idx → EReal) (z : EReal) (t : Fin n) :
    Ideal.hostReduceAdd h v z (ix1 t) = z + v (ix3 0 0 t) := by
  unfold Ideal.hostReduceAdd
  refine congrArg₂ (· + ·) rfl ((Finset.sum_filter_eq_sum_of_fiber _ (fun _ : Unit => ix3 0 0 t) (fun _ _ _ => rfl) (fun i => ?_) v).trans ?_)
  · constructor
    · intro e
      refine ⟨(), ?_⟩
      funext a
      apply Fin.ext
      match a with
      | ⟨0, _⟩ => have h1 : (i 0).val < 1 := (i 0).isLt; exact (Nat.lt_one_iff.mp h1).symm
      | ⟨1, _⟩ => have h1 : (i 1).val < 1 := (i 1).isLt; exact (Nat.lt_one_iff.mp h1).symm
      | ⟨2, _⟩ => exact (congrArg Fin.val (congrFun e 0)).symm
    · rintro ⟨_, rfl⟩
      funext b
      apply Fin.ext
      match b with
      | ⟨0, _⟩ => rfl
  · simp

/-- A row's mean of squares, and the norm's factor. -/
def ms (x : Fin 1024 → EReal) : EReal := Ideal.div (∑ k, x k * x k) width + eps
def rs (x : Fin 1024 → EReal) : EReal := Ideal.rsqrt (ms x)

theorem div_width (a : EReal) : Ideal.div a width = a * ((1 / 1024 : ℝ) : EReal) := by
  rw [width_eq]
  unfold Ideal.div
  rw [if_neg (by exact_mod_cast (by norm_num : (1024 : ℝ) ≠ 0)), ← EReal.coe_inv]
  norm_num

theorem sq_nonneg' (a : EReal) : 0 ≤ a * a := by
  rcases le_total 0 a with h | h
  · exact mul_nonneg h h
  · have := mul_nonneg (EReal.neg_nonneg.mpr h) (EReal.neg_nonneg.mpr h)
    rwa [EReal.neg_mul, mul_neg, neg_neg] at this

/-- The mean of squares is a positive real or infinite. -/
theorem ms_cases (x : Fin 1024 → EReal) : ms x = ⊤ ∨ ∃ v : ℝ, 0 < v ∧ ms x = (v : EReal) := by
  obtain ⟨e, he, hee⟩ := eps_pos
  unfold ms
  rw [div_width, hee]
  have h : 0 ≤ (∑ k, x k * x k) * ((1 / 1024 : ℝ) : EReal) :=
    mul_nonneg (Finset.sum_nonneg fun k _ => sq_nonneg' _) (by exact_mod_cast (by norm_num : (0 : ℝ) ≤ 1 / 1024))
  generalize (∑ k, x k * x k) * ((1 / 1024 : ℝ) : EReal) = s at h
  induction s using EReal.rec with
  | bot => exact absurd h (by simp)
  | top => exact .inl (EReal.top_add_coe e)
  | coe s =>
    refine .inr ⟨s + e, add_pos_of_nonneg_of_pos (EReal.coe_nonneg.mp h) he, ?_⟩
    exact (EReal.coe_add s e).symm

/-- A nonnegative real factor distributes over a sum. -/
theorem sum_mul_coe {ι : Type*} (s : Finset ι) (f : ι → EReal) (r : ℝ) (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih]
    exact (EReal.right_distrib_of_nonneg_of_ne_top (by exact_mod_cast hr) (EReal.coe_ne_top r) _ _).symm

theorem add_self' (a : EReal) : a + a = a * ((2 : ℝ) : EReal) := by
  induction a using EReal.rec with
  | bot => rw [EReal.bot_mul_coe_of_pos (by norm_num)]; rfl
  | top => rw [EReal.top_mul_coe_of_pos (by norm_num)]; rfl
  | coe a => rw [← EReal.coe_add, ← EReal.coe_mul]; congr 1; ring

/-- A row's input cotangent as the kernel writes it. -/
def dxK (x u : Fin 1024 → EReal) (q : Fin 1024) : EReal :=
  rs x * (u q - x q * rs x * Ideal.div (∑ k, x k * rs x * u k) width)

/-- The part of it that passes through the norm's factor, as the reference writes it. -/
def thru (x u : Fin 1024 → EReal) : EReal :=
  Ideal.div ((∑ k, x k * u k) * (negHalf * Ideal.div (rs x) (ms x))) width

theorem dx_eq (x u : Fin 1024 → EReal) (q : Fin 1024) :
    dxK x u q = u q * rs x + (x q * thru x u + thru x u * x q) := by
  unfold dxK thru
  rw [div_width, div_width, negHalf_eq]
  rcases ms_cases x with h | ⟨v, hv, h⟩
  · have hr : rs x = 0 := by unfold rs; rw [h]; rfl
    have hd : Ideal.div (0 : EReal) (⊤ : EReal) = 0 := by
      unfold Ideal.div
      rw [if_neg (by simp), zero_mul]
    rw [h, hr, hd]
    simp
  · have hr : rs x = (((Real.sqrt v)⁻¹ : ℝ) : EReal) := by
      unfold rs
      rw [h]
      show (if v < 0 then (⊥ : EReal) else if v = 0 then ⊤ else (((Real.sqrt v)⁻¹ : ℝ) : EReal)) = _
      rw [if_neg (not_lt.mpr hv.le), if_neg hv.ne']
    have hs : 0 < Real.sqrt v := Real.sqrt_pos.mpr hv
    have hr0 : 0 ≤ (Real.sqrt v)⁻¹ := (inv_pos.mpr hs).le
    have hv2 : v = Real.sqrt v * Real.sqrt v := (Real.mul_self_sqrt hv.le).symm
    rw [h, hr, Cert.Spec.div_real hv.ne']
    have e1 : ∑ k, x k * (((Real.sqrt v)⁻¹ : ℝ) : EReal) * u k = (∑ k, x k * u k) * (((Real.sqrt v)⁻¹ : ℝ) : EReal) := by
      rw [← sum_mul_coe _ _ _ hr0]
      exact Finset.sum_congr rfl fun k _ => mul_right_comm _ _ _
    rw [e1]
    generalize (∑ k, x k * u k) = S
    generalize x q = a
    generalize u q = b
    rw [sub_eq_add_neg, EReal.left_distrib_of_nonneg_of_ne_top (by exact_mod_cast hr0) (EReal.coe_ne_top _), mul_comm b]
    refine congrArg₂ (· + ·) rfl ?_
    rw [mul_comm (S * _ * _) a, add_self', ← EReal.neg_mul, mul_comm (((Real.sqrt v)⁻¹ : ℝ) : EReal) (-_ * _)]
    have e2 : a * (S * (((-(1 / 2) : ℝ) : EReal) * (((Real.sqrt v)⁻¹ / v : ℝ) : EReal)) * ((1 / 1024 : ℝ) : EReal)) * ((2 : ℝ) : EReal)
        = (a * S) * ((-(1 / 2) * ((Real.sqrt v)⁻¹ / v) * (1 / 1024) * 2 : ℝ) : EReal) := by
      simp only [EReal.coe_mul, mul_assoc]
    have e3 : -(a * (((Real.sqrt v)⁻¹ : ℝ) : EReal)) * (S * (((Real.sqrt v)⁻¹ : ℝ) : EReal) * ((1 / 1024 : ℝ) : EReal)) * (((Real.sqrt v)⁻¹ : ℝ) : EReal)
        = (a * S) * ((-((Real.sqrt v)⁻¹ * ((Real.sqrt v)⁻¹ * (1 / 1024) * (Real.sqrt v)⁻¹)) : ℝ) : EReal) := by
      rw [EReal.neg_mul, EReal.neg_mul, EReal.coe_neg, mul_neg]
      refine congrArg Neg.neg ?_
      simp only [EReal.coe_mul]
      ac_rfl
    rw [e2, e3]
    refine congrArg (fun z : ℝ => a * S * (z : EReal)) ?_
    have hv3 : (Real.sqrt v)⁻¹ / v = (Real.sqrt v)⁻¹ * ((Real.sqrt v)⁻¹ * (Real.sqrt v)⁻¹) := by
      conv_lhs => rw [hv2, Real.sqrt_mul_self hs.le]
      rw [div_eq_mul_inv, mul_inv]
    rw [hv3]
    ring

/-- The input's gradient at every row: the cotangent of the stream and what passes through the norm. -/
def dhOf (x : Fin 8192 → Fin 1024 → EReal) (g : Fin 1024 → EReal) (w d : Fin 8192 → Fin 1024 → EReal) (t : Fin 8192) (q : Fin 1024) : EReal :=
  w t q + dxK (x t) (fun k => d t k * g k) q

/-- The gain's gradient: the sum over the rows. -/
def dgOf (x d : Fin 8192 → Fin 1024 → EReal) (q : Fin 1024) : EReal := ∑ t, d t q * (x t q * rs (x t))

theorem dh_eq (x : Fin 8192 → Fin 1024 → EReal) (g : Fin 1024 → EReal) (w d : Fin 8192 → Fin 1024 → EReal) (t : Fin 8192) (q : Fin 1024) :
    w t q + d t q * g q * rs (x t) + x t q * thru (x t) (fun k => d t k * g k) + thru (x t) (fun k => d t k * g k) * x t q = dhOf x g w d t q := by
  unfold dhOf
  rw [dx_eq, add_assoc, add_assoc]

theorem dg_eq (x d : Fin 8192 → Fin 1024 → EReal) (q : Fin 1024) : ∑ t, x t q * rs (x t) * d t q = dgOf x d q :=
  Finset.sum_congr rfl fun _ _ => mul_comm _ _

end Cert.Norm

end
-- ==== Proof.GradXRef.lean ====
/- Hand-written. The reference's backward of a norm (the first, which gives the step's input gradient), at an index. -/
module

public import proofs.«01_k».proof.Proof.NormLaws
public import proofs.«01_k».proof.Proof.Gen.RefGradXIdeal.Run

@[expose] public section

noncomputable section

namespace Cert.GradXRef

open Cert.RefGradXIdeal Cert.RefGradXIdeal.Gen Idealize.ShloMosaic Idealize.ShloMosaic.TcCoe
open Cert.Norm
open scoped BigOperators

/-- The mean of squares, the norm's factor and the gain along every row. -/
def var (x : FVec Ideal S1x8192x1024 .f32) : FVec Ideal S1x8192x1 .f32 :=
  addf (Host.divf (broadcastInDim S1x8192x1 ![0, 1] bcast_S1x8192_S1x8192x1_0_1 (Host.reduceAdd (mulf x x) (constant S_ .f32 0x00000000#32) reducesTo_S1x8192x1024_S1x8192_d2 h_S_))
    (broadcastInDim S1x8192x1 ![] bcast_S_S1x8192x1 (constant S_ .f32 0x44800000#32))) (broadcastInDim S1x8192x1 ![] bcast_S_S1x8192x1 (constant S_ .f32 0x358637BD#32))

def fac (x : FVec Ideal S1x8192x1024 .f32) : FVec Ideal S1x8192x1024 .f32 :=
  broadcastInDim S1x8192x1024 ![0, 1, 2] bcast_S1x8192x1_S1x8192x1024_0_1_2 (Host.rsqrt (var x))

def gain (g : FVec Ideal S1024 .f32) : FVec Ideal S1x8192x1024 .f32 :=
  broadcastInDim S1x8192x1024 ![0, 1, 2] bcast_S1x1x1024_S1x8192x1024_0_1_2 (broadcastInDim S1x1x1024 ![2] bcast_S1024_S1x1x1024_2 g)

theorem var_apply (x : FVec Ideal S1x8192x1024 .f32) (t : Fin 8192) : var x (ix3 0 t 0) = ms (fun k => x (ix3 0 t k)) := by
  unfold ms
  pointwise [var]

theorem fac_apply (x : FVec Ideal S1x8192x1024 .f32) (t : Fin 8192) (q : Fin 1024) : fac x (ix3 0 t q) = rs (fun k => x (ix3 0 t k)) := by
  unfold rs
  pointwise [fac, var_apply]

theorem gain_apply (g : FVec Ideal S1024 .f32) (t : Fin 8192) (q : Fin 1024) : gain g (ix3 0 t q) = g (ix1 q) := by
  pointwise [gain]

/-- What passes through the norm's factor, on every row. -/
def through (x u : FVec Ideal S1x8192x1024 .f32) : FVec Ideal S1x8192x1024 .f32 :=
  broadcastInDim S1x8192x1024 ![0, 1] bcast_S1x8192_S1x8192x1024_0_1 (broadcastInDim S1x8192 ![1] bcast_S8192_S1x8192_1 (Host.reduceAdd (Host.divf (mulf (shapeCast _
    (Host.reduceAdd (mulf x u) (constant S_ .f32 0x00000000#32) reducesTo_S1x8192x1024_S1x8192_d2 h_S_) shapeCasts_S1x8192_S1x8192x1)
    (mulf (broadcastInDim S1x8192x1 ![] bcast_S_S1x8192x1 (constant S_ .f32 0xBF000000#32)) (Host.divf (Host.rsqrt (var x)) (var x))))
    (broadcastInDim S1x8192x1 ![] bcast_S_S1x8192x1 (constant S_ .f32 0x44800000#32))) (constant S_ .f32 0x00000000#32) reducesTo_S1x8192x1_S8192_d0_2 h_S_))

theorem through_apply (x u : FVec Ideal S1x8192x1024 .f32) (t : Fin 8192) (q : Fin 1024) :
    through x u (ix3 0 t q) = thru (fun k => x (ix3 0 t k)) (fun k => u (ix3 0 t k)) := by
  unfold thru rs
  pointwise [through, var_apply]
  refine (reduce02 _ _ _ _).trans ?_
  pointwise [var_apply]

/-- The input's gradient, from the stream's cotangent `w` and the norm's cotangent `d`. -/
def refDh (x : FVec Ideal S1x8192x1024 .f32) (g : FVec Ideal S1024 .f32) (w d : FVec Ideal S1x8192x1024 .f32) : FVec Ideal S8192x1024 .f32 :=
  shapeCast _ (addf (addf (addf w (mulf (mulf d (gain g)) (fac x))) (mulf x (through x (mulf d (gain g))))) (mulf (through x (mulf d (gain g))) x))
    shapeCasts_S1x8192x1024_S8192x1024

theorem refDh_apply (x : FVec Ideal S1x8192x1024 .f32) (g : FVec Ideal S1024 .f32) (w d : FVec Ideal S1x8192x1024 .f32) (t : Fin 8192) (q : Fin 1024) :
    refDh x g w d (ix2 t q) = dhOf (fun t q => x (ix3 0 t q)) (fun q => g (ix1 q)) (fun t q => w (ix3 0 t q)) (fun t q => d (ix3 0 t q)) t q := by
  rw [← dh_eq]
  have hu : (fun k => mulf d (gain g) (ix3 0 t k)) = fun k => d (ix3 0 t k) * g (ix1 k) := by
    funext k
    pointwise [gain_apply]
  have ht : through x (mulf d (gain g)) (ix3 0 t q) = thru (fun k => x (ix3 0 t k)) (fun k => d (ix3 0 t k) * g (ix1 k)) := by
    rw [through_apply, hu]
  pointwise [refDh, gain_apply, fac_apply, ht]

/-- The gain's gradient. -/
def refDg (x d : FVec Ideal S1x8192x1024 .f32) : FVec Ideal S1x1024 .f32 :=
  shapeCast _ (Host.reduceAdd (shapeCast _ (Host.reduceAdd (mulf (mulf x (fac x)) d) (constant S_ .f32 0x00000000#32) reducesTo_S1x8192x1024_S1x1024_d1 h_S_)
    shapeCasts_S1x1024_S1x1x1024) (constant S_ .f32 0x00000000#32) reducesTo_S1x1x1024_S1024_d0_1 h_S_) shapeCasts_S1024_S1x1024

theorem refDg_apply (x d : FVec Ideal S1x8192x1024 .f32) (z : Fin 1) (q : Fin 1024) :
    refDg x d (ix2 z q) = dgOf (fun t q => x (ix3 0 t q)) (fun t q => d (ix3 0 t q)) q := by
  rw [← dg_eq]
  pointwise [refDg, fac_apply]
  refine (reduce01 _ _ _ _).trans ?_
  pointwise [fac_apply]

end Cert.GradXRef

end
-- ==== Proof.GradX.lean ====
/- Hand-written. A norm's backward (the first, which gives the step's input gradient): what the kernel's grid leaves, and that it is the reference's arrays. -/
module

public import proofs.«01_k».proof.Proof.GradXRef
public import proofs.«01_k».proof.Proof.Gen.GradXIdeal.Value
public import Idealize.ShloMosaic.Lib.Pipeline.ValueKit.Point
public import Idealize.ShloMosaic.Lib.Pipeline.ValueKit.Acc
public import Idealize.ShloMosaic.Lib.Pointwise

@[expose] public section

noncomputable section

namespace Cert.GradXArray

open Cert.GradXIdeal Cert.GradXIdeal.Gen Idealize.ShloMosaic Idealize.ShloMosaic.TcCoe
open Cert.Norm
open scoped BigOperators

/-- The input's gradient over the 8192 rows. -/
def dhArr (x : Vec Ideal S8192x1024 .f32) (g : Vec Ideal S1x1024 .f32) (w : Vec Ideal S8192x1024 .f32) (d0 d1 : Vec Ideal S8192x1024 .f32) : Vec Ideal S8192x1024 .f32 :=
  fun i => dhOf (fun t q => x (ix2 t q)) (fun q => g (ix2 0 q)) (fun t q => w (ix2 t q)) (fun t q => (d0 (ix2 t q) + d1 (ix2 t q))) (i 0) (i 1)

/-- The gain's gradient: the sum over the 8192 rows. -/
def dgArr (x : Vec Ideal S8192x1024 .f32) (d0 d1 : Vec Ideal S8192x1024 .f32) : Vec Ideal S1x1024 .f32 :=
  fun i => dgOf (fun t q => x (ix2 t q)) (fun t q => (d0 (ix2 t q) + d1 (ix2 t q))) (i 1)

theorem rs_apply (v : Vec Ideal S512x1024 .f32) (r : Fin 512) (z : Fin 1) : k0_pay4 v (ix2 r z) = rs (fun k => v (ix2 r k)) := by
  unfold rs ms
  pointwise [k0_pay4, k0_pay2]

theorem xr_apply (v : Vec Ideal S512x1024 .f32) (r : Fin 512) (q : Fin 1024) : k0_pay5 v (ix2 r q) = v (ix2 r q) * rs (fun k => v (ix2 r k)) := by
  pointwise [k0_pay5, k0_pay2, rs_apply]

theorem dy_apply (d0 d1 : Vec Ideal S512x1024 .f32) (r : Fin 512) (q : Fin 1024) : k0_pay3 d0 d1 (ix2 r q) = (d0 (ix2 r q) + d1 (ix2 r q)) := by
  pointwise [k0_pay3]

theorem dx_apply (v : Vec Ideal S512x1024 .f32) (d0 d1 : Vec Ideal S512x1024 .f32) (g : Vec Ideal S1x1024 .f32) (w : Vec Ideal S512x1024 .f32) (r : Fin 512) (q : Fin 1024) :
    k0_pay6 v d0 d1 g w (ix2 r q) = w (ix2 r q) + dxK (fun k => v (ix2 r k)) (fun k => (d0 (ix2 r k) + d1 (ix2 r k)) * g (ix2 0 k)) q := by
  unfold dxK
  pointwise [k0_pay6, rs_apply, xr_apply, dy_apply]

/-- One block's part of the gain's gradient. -/
def part (v : Vec Ideal S512x1024 .f32) (d0 d1 : Vec Ideal S512x1024 .f32) (j : S1x1024.Idx) : EReal :=
  ∑ k : Fin 512, (d0 (ix2 k (j 1)) + d1 (ix2 k (j 1))) * (v (ix2 k (j 1)) * rs (fun l => v (ix2 k l)))

theorem part_apply (v : Vec Ideal S512x1024 .f32) (d0 d1 : Vec Ideal S512x1024 .f32) (r : Fin 1) (q : Fin 1024) :
    part v d0 d1 (ix2 r q) = ∑ k : Fin 512, (d0 (ix2 k q) + d1 (ix2 k q)) * (v (ix2 k q) * rs (fun l => v (ix2 k l))) := rfl

theorem dg_apply (v : Vec Ideal S512x1024 .f32) (d0 d1 : Vec Ideal S512x1024 .f32) (z : Vec Ideal S1x1024 .f32) (j : S1x1024.Idx) :
    k0_pay1 (k0_pay3 d0 d1) (k0_pay5 v) z j = z j + part v d0 d1 j := by
  obtain ⟨r, q, rfl⟩ : ∃ (r : Fin 1) (q : Fin 1024), j = ix2 r q := ⟨j 0, j 1, by funext k; fin_cases k <;> rfl⟩
  unfold part
  pointwise [k0_pay1, dy_apply, xr_apply]

theorem zero_apply (j : S1x1024.Idx) : k0_pay7 (F := Ideal) j = 0 := by
  pointwise [k0_pay7]

theorem index0 : ∀ t : Fin cfg0.N, win0_0.index t = ![t.val, 0] :=
  (by decide +kernel : ∀ t : Fin grid0.N, win0_0.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])
theorem index4 : ∀ t : Fin cfg0.N, win0_4.index t = ![t.val, 0] :=
  (by decide +kernel : ∀ t : Fin grid0.N, win0_4.index t = ![t.val, 0])
theorem index1 : ∀ t : Fin cfg0.N, win0_1.index t = ![0, 0] :=
  (by decide +kernel : ∀ t : Fin grid0.N, win0_1.index t = ![0, 0])
theorem index5 : ∀ t : Fin cfg0.N, win0_5.index t = ![t.val, 0] :=
  (by decide +kernel : ∀ t : Fin grid0.N, win0_5.index t = ![t.val, 0])
theorem index6 : ∀ t : Fin cfg0.N, win0_6.index t = ![0, 0] :=
  (by decide +kernel : ∀ t : Fin grid0.N, win0_6.index t = ![0, 0])

theorem point_lt (t : Fin cfg0.N) : t.val < 16 := lt_of_lt_of_eq t.isLt N_0

theorem step_lt (s : Fin 16) : s.val < cfg0.N := lt_of_lt_of_eq s.isLt N_0.symm

theorem block0 (t : Fin cfg0.N) (i : Nat) (hi : i < 16) (ht : t.val = i) (A : Vec Ideal S8192x1024 .f32) (r : Fin 512) (l : Fin 1024) :
    ((cfg0.win 0).blk t).view.read (Elt Ideal) A (ix2 r l) = A (ix2 ⟨512 * i + r, by omega⟩ l) := by
  blk_simp
  refine congrArg A ?_
  blk_ext [index0 t, ht]

theorem block2 (t : Fin cfg0.N) (i : Nat) (hi : i < 16) (ht : t.val = i) (A : Vec Ideal S8192x1024 .f32) (r : Fin 512) (l : Fin 1024) :
    ((cfg0.win 2).blk t).view.read (Elt Ideal) A (ix2 r l) = A (ix2 ⟨512 * i + r, by omega⟩ l) := by
  blk_simp
  refine congrArg A ?_
  blk_ext [index2 t, ht]

theorem block3 (t : Fin cfg0.N) (i : Nat) (hi : i < 16) (ht : t.val = i) (A : Vec Ideal S8192x1024 .f32) (r : Fin 512) (l : Fin 1024) :
    ((cfg0.win 3).blk t).view.read (Elt Ideal) A (ix2 r l) = A (ix2 ⟨512 * i + r, by omega⟩ l) := by
  blk_simp
  refine congrArg A ?_
  blk_ext [index3 t, ht]

theorem block4 (t : Fin cfg0.N) (i : Nat) (hi : i < 16) (ht : t.val = i) (A : Vec Ideal S8192x1024 .f32) (r : Fin 512) (l : Fin 1024) :
    ((cfg0.win 4).blk t).view.read (Elt Ideal) A (ix2 r l) = A (ix2 ⟨512 * i + r, by omega⟩ l) := by
  blk_simp
  refine congrArg A ?_
  blk_ext [index4 t, ht]

theorem block1 (t : Fin cfg0.N) (A : Vec Ideal S1x1024 .f32) (l : Fin 1024) :
    ((cfg0.win 1).blk t).view.read (Elt Ideal) A (ix2 0 l) = A (ix2 0 l) := by
  blk_simp
  refine congrArg A ?_
  blk_ext [index1 t]

/-- The blocks' parts, together: the sum over all rows. -/
theorem sum_parts (x : Vec Ideal S8192x1024 .f32) (d0 d1 : Vec Ideal S8192x1024 .f32) (r : Fin 1) (q : Fin 1024) :
    (∑ s : Fin 16, part (((cfg0.win 0).blk ⟨s, step_lt s⟩).view.read (Elt Ideal) x) (((cfg0.win 3).blk ⟨s, step_lt s⟩).view.read (Elt Ideal) d0) (((cfg0.win 4).blk ⟨s, step_lt s⟩).view.read (Elt Ideal) d1) (ix2 r q) : EReal) = dgArr x d0 d1 (ix2 r q) := by
  refine Eq.trans (Finset.sum_congr rfl fun s _ => (part_apply _ _ _ r q).trans (Finset.sum_congr rfl fun k _ => ?_)) (Fin.sum_mul_add_fin 16 512 (L := 8192)
    (fun l => ((d0 (ix2 l q) + d1 (ix2 l q)) * (x (ix2 l q) * rs (fun k => x (ix2 l k))) : EReal)))
  simp only [block0 ⟨s.val, step_lt s⟩ s.val s.isLt rfl x, block3 ⟨s.val, step_lt s⟩ s.val s.isLt rfl d0, block4 ⟨s.val, step_lt s⟩ s.val s.isLt rfl d1, mul_comm 512 s.val]

section Grid

variable (m : (ℓ : Loc nD τ sig) → Buf (Elt Ideal) ℓ) (c : Dev nD)

theorem outs5 (t : Fin cfg0.N) : (outsAt0 m c t.val t.isLt).1 = k0_pay6 (iblk m c 0 t) (iblk m c 3 t) (iblk m c 4 t) (iblk m c 1 t) (iblk m c 2 t) := by
  funext j
  by_cases h0 : t.val % 16 = 0
  · rw [outsAt0_A m c t h0]
    frame_out
  · rw [outsAt0_B m c t h0]
    frame_out

/-- After the last point the accumulated row is the sum over the points. -/
theorem outs_sum (t : Fin cfg0.N) (ht : t.val % 16 = 15) (j : S1x1024.Idx) :
    (outsAt0 m c t.val t.isLt).2 j = ∑ s : Fin 16, part (iblk m c 0 ⟨s, step_lt s⟩) (iblk m c 3 ⟨s, step_lt s⟩) (iblk m c 4 ⟨s, step_lt s⟩) j := by
  have hl := point_lt t
  rw [Pipeline.eq_sum_fin_of_reset_step_apply_of_flush (fun n h => (outsAt0 m c n h).2) 16 (fun _ => 0)
    (fun t j => part (iblk m c 0 t) (iblk m c 3 t) (iblk m c 4 t) j)
    (fun t h j => by rw [outsAt0_A m c t h]; frame_out; exact (dg_apply _ _ _ _ _).trans (congrArg (· + _) (zero_apply _)))
    (fun t h j => by rw [outsAt0_B m c t h]; frame_out; exact dg_apply _ _ _ _ _) t ht j, zero_add]
  refine Finset.sum_congr rfl fun s _ => ?_
  refine congrArg (fun u => part (iblk m c 0 u) (iblk m c 3 u) (iblk m c 4 u) j) (Fin.ext ?_)
  show 16 * (t.val / 16) + s.val = s.val
  omega

theorem final5 (x : Vec Ideal S8192x1024 .f32) (g : Vec Ideal S1x1024 .f32) (w : Vec Ideal S8192x1024 .f32) (d0 d1 : Vec Ideal S8192x1024 .f32)
    (hx : V m c main_v0 = x) (hg : V m c main_v1 = g) (hw : V m c main_v4 = w) (hd0 : V m c main_v2 = d0) (hd1 : V m c main_v3 = d1) : (dats m 0 c).arrAt 5 cfg0.N = dhArr x g w d0 d1 := by
  refine (dats m 0 c).arrAt_eq_of_covers 5 _ (by decide +kernel) fun t hf y => ?_
  have := point_lt t
  obtain ⟨r, q, rfl⟩ : ∃ (r : Fin 512) (q : Fin 1024), y = ix2 r q := ⟨y 0, y 1, by funext k; fin_cases k <;> rfl⟩
  have e : (win0_5.blk t).view.emb (ix2 r q) = ix2 ⟨512 * t.val + r.val, by omega⟩ q := by
    blk_ext [index5 t]
  have i0 (u : Fin cfg0.N) : iblk m c 0 u = ((cfg0.win 0).blk u).view.read (Elt Ideal) x := by rw [← hx]; rfl
  have i1 (u : Fin cfg0.N) : iblk m c 1 u = ((cfg0.win 1).blk u).view.read (Elt Ideal) g := by rw [← hg]; rfl
  have i2 (u : Fin cfg0.N) : iblk m c 2 u = ((cfg0.win 2).blk u).view.read (Elt Ideal) w := by rw [← hw]; rfl
  have i3 (u : Fin cfg0.N) : iblk m c 3 u = ((cfg0.win 3).blk u).view.read (Elt Ideal) d0 := by rw [← hd0]; rfl
  have i4 (u : Fin cfg0.N) : iblk m c 4 u = ((cfg0.win 4).blk u).view.read (Elt Ideal) d1 := by rw [← hd1]; rfl
  blk_simp
  rw [after0_5, outs5 m c t, e, i0, i1, i2, i3, i4]
  refine (dx_apply _ _ _ _ _ _ _).trans ?_
  simp only [block0 t t.val (by omega) rfl x, block2 t t.val (by omega) rfl w, block3 t t.val (by omega) rfl d0, block4 t t.val (by omega) rfl d1, block1 t g]
  rfl

theorem final6 (x : Vec Ideal S8192x1024 .f32) (d0 d1 : Vec Ideal S8192x1024 .f32) (hx : V m c main_v0 = x) (hd0 : V m c main_v2 = d0) (hd1 : V m c main_v3 = d1) :
    (dats m 0 c).arrAt 6 cfg0.N = dgArr x d0 d1 := by
  refine (dats m 0 c).arrAt_eq_of_covers 6 _ (by decide +kernel) fun t hf y => ?_
  have := point_lt t
  obtain ⟨r, q, rfl⟩ : ∃ (r : Fin 1) (q : Fin 1024), y = ix2 r q := ⟨y 0, y 1, by funext k; fin_cases k <;> rfl⟩
  have e : (win0_6.blk t).view.emb (ix2 r q) = ix2 r q := by
    blk_ext [index6 t]
  have i0 (u : Fin cfg0.N) : iblk m c 0 u = ((cfg0.win 0).blk u).view.read (Elt Ideal) x := by rw [← hx]; rfl
  have i3 (u : Fin cfg0.N) : iblk m c 3 u = ((cfg0.win 3).blk u).view.read (Elt Ideal) d0 := by rw [← hd0]; rfl
  have i4 (u : Fin cfg0.N) : iblk m c 4 u = ((cfg0.win 4).blk u).view.read (Elt Ideal) d1 := by rw [← hd1]; rfl
  blk_simp
  rw [after0_6, outs_sum m c t ((flush0_6 t).mp hf), e]
  simp only [i0, i3, i4]
  exact sum_parts x d0 d1 r q

end Grid

/-! ### The operands and the reference -/

/-- An array's 8192 rows. -/
def rows (x : FVec Ideal S1x8192x1024 .f32) : FVec Ideal S8192x1024 .f32 := shapeCast _ x shapeCasts_S1x8192x1024_S8192x1024

theorem rows_apply (x : FVec Ideal S1x8192x1024 .f32) (t : Fin 8192) (l : Fin 1024) : rows x (ix2 t l) = x (ix3 0 t l) := by
  pointwise [rows]

/-- The gain as a row. -/
def gRow (g : FVec Ideal S1024 .f32) : FVec Ideal S1x1024 .f32 := broadcastInDim S1x1024 ![1] bcast_S1024_S1x1024_1 g

theorem gRow_apply (g : FVec Ideal S1024 .f32) (l : Fin 1024) : gRow g (ix2 0 l) = g (ix1 l) := by
  pointwise [gRow]

theorem refDh_eq (x : FVec Ideal S1x8192x1024 .f32) (g : FVec Ideal S1024 .f32) (w c1 c2 : FVec Ideal S1x8192x1024 .f32) : dhArr (rows x) (gRow g) (rows w) (rows c1) (rows c2) = Cert.GradXRef.refDh x g w (addf c1 c2) := by
  funext i
  obtain ⟨t, q, rfl⟩ : ∃ (t : Fin 8192) (q : Fin 1024), i = ix2 t q := ⟨i 0, i 1, by funext k; fin_cases k <;> rfl⟩
  refine Eq.trans ?_ (Cert.GradXRef.refDh_apply x g w (addf c1 c2) t q).symm
  unfold dhArr
  simp only [rows_apply, gRow_apply]
  rfl

theorem refDg_eq (x : FVec Ideal S1x8192x1024 .f32) (c1 c2 : FVec Ideal S1x8192x1024 .f32) : dgArr (rows x) (rows c1) (rows c2) = Cert.GradXRef.refDg x (addf c1 c2) := by
  funext i
  obtain ⟨t, q, rfl⟩ : ∃ (t : Fin 1) (q : Fin 1024), i = ix2 t q := ⟨i 0, i 1, by funext k; fin_cases k <;> rfl⟩
  refine Eq.trans ?_ (Cert.GradXRef.refDg_apply x (addf c1 c2) t q).symm
  unfold dgArr
  simp only [rows_apply]
  rfl

variable (m : (ℓ : Loc nD τ sig) → Buf (Elt Ideal) ℓ) (c : Dev nD)

abbrev arg0 : FVec Ideal S1x8192x1024 .f32 := m ((c : Thread nD τ).loc main_arg0)
abbrev arg1 : FVec Ideal S1024 .f32 := m ((c : Thread nD τ).loc main_arg1)
abbrev arg2 : FVec Ideal S1x8192x1024 .f32 := m ((c : Thread nD τ).loc main_arg2)
abbrev arg3 : FVec Ideal S1x8192x1024 .f32 := m ((c : Thread nD τ).loc main_arg3)
abbrev arg4 : FVec Ideal S1x8192x1024 .f32 := m ((c : Thread nD τ).loc main_arg4)

theorem V_v0 : V m c main_v0 = rows (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v1 : V m c main_v1 = gRow (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = rows (arg3 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v3 : V m c main_v3 = rows (arg4 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v4 : V m c main_v4 = rows (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem ref5 : (dats m 0 c).arrAt 5 cfg0.N = Cert.GradXRef.refDh (arg0 m c) (arg1 m c) (arg2 m c) (addf (arg3 m c) (arg4 m c)) :=
  (final5 m c _ _ _ _ _ (V_v0 m c) (V_v1 m c) (V_v4 m c) (V_v2 m c) (V_v3 m c)).trans (refDh_eq _ _ _ _ _)

theorem ref6 : (dats m 0 c).arrAt 6 cfg0.N = Cert.GradXRef.refDg (arg0 m c) (addf (arg3 m c) (arg4 m c)) :=
  (final6 m c _ _ _ (V_v0 m c) (V_v2 m c) (V_v3 m c)).trans (refDg_eq _ _ _)

end Cert.GradXArray

end
-- ==== Proof.RmsBwdRef.lean ====
/- Hand-written. The reference's backward of a norm (its result also in bf16), at an index. -/
module

public import proofs.«01_k».proof.Proof.NormLaws
public import proofs.«01_k».proof.Proof.Gen.RefRmsBwdIdeal.Run

@[expose] public section

noncomputable section

namespace Cert.RmsBwdRef

open Cert.RefRmsBwdIdeal Cert.RefRmsBwdIdeal.Gen Idealize.ShloMosaic Idealize.ShloMosaic.TcCoe
open Cert.Norm
open scoped BigOperators

/-- The mean of squares, the norm's factor and the gain along every row. -/
def var (x : FVec Ideal S1x8192x1024 .f32) : FVec Ideal S1x8192x1 .f32 :=
  addf (Host.divf (broadcastInDim S1x8192x1 ![0, 1] bcast_S1x8192_S1x8192x1_0_1 (Host.reduceAdd (mulf x x) (constant S_ .f32 0x00000000#32) reducesTo_S1x8192x1024_S1x8192_d2 h_S_))
    (broadcastInDim S1x8192x1 ![] bcast_S_S1x8192x1 (constant S_ .f32 0x44800000#32))) (broadcastInDim S1x8192x1 ![] bcast_S_S1x8192x1 (constant S_ .f32 0x358637BD#32))

def fac (x : FVec Ideal S1x8192x1024 .f32) : FVec Ideal S1x8192x1024 .f32 :=
  broadcastInDim S1x8192x1024 ![0, 1, 2] bcast_S1x8192x1_S1x8192x1024_0_1_2 (Host.rsqrt (var x))

def gain (g : FVec Ideal S1024 .f32) : FVec Ideal S1x8192x1024 .f32 :=
  broadcastInDim S1x8192x1024 ![0, 1, 2] bcast_S1x1x1024_S1x8192x1024_0_1_2 (broadcastInDim S1x1x1024 ![2] bcast_S1024_S1x1x1024_2 g)

theorem var_apply (x : FVec Ideal S1x8192x1024 .f32) (t : Fin 8192) : var x (ix3 0 t 0) = ms (fun k => x (ix3 0 t k)) := by
  unfold ms
  pointwise [var]

theorem fac_apply (x : FVec Ideal S1x8192x1024 .f32) (t : Fin 8192) (q : Fin 1024) : fac x (ix3 0 t q) = rs (fun k => x (ix3 0 t k)) := by
  unfold rs
  pointwise [fac, var_apply]

theorem gain_apply (g : FVec Ideal S1024 .f32) (t : Fin 8192) (q : Fin 1024) : gain g (ix3 0 t q) = g (ix1 q) := by
  pointwise [gain]

/-- What passes through the norm's factor, on every row. -/
def through (x u : FVec Ideal S1x8192x1024 .f32) : FVec Ideal S1x8192x1024 .f32 :=
  broadcastInDim S1x8192x1024 ![0, 1] bcast_S1x8192_S1x8192x1024_0_1 (broadcastInDim S1x8192 ![1] bcast_S8192_S1x8192_1 (Host.reduceAdd (Host.divf (mulf (shapeCast _
    (Host.reduceAdd (mulf x u) (constant S_ .f32 0x00000000#32) reducesTo_S1x8192x1024_S1x8192_d2 h_S_) shapeCasts_S1x8192_S1x8192x1)
    (mulf (broadcastInDim S1x8192x1 ![] bcast_S_S1x8192x1 (constant S_ .f32 0xBF000000#32)) (Host.divf (Host.rsqrt (var x)) (var x))))
    (broadcastInDim S1x8192x1 ![] bcast_S_S1x8192x1 (constant S_ .f32 0x44800000#32))) (constant S_ .f32 0x00000000#32) reducesTo_S1x8192x1_S8192_d0_2 h_S_))

theorem through_apply (x u : FVec Ideal S1x8192x1024 .f32) (t : Fin 8192) (q : Fin 1024) :
    through x u (ix3 0 t q) = thru (fun k => x (ix3 0 t k)) (fun k => u (ix3 0 t k)) := by
  unfold thru rs
  pointwise [through, var_apply]
  refine (reduce02 _ _ _ _).trans ?_
  pointwise [var_apply]

/-- The input's gradient, from the stream's cotangent `w` and the norm's cotangent `d`. -/
def refDh (x : FVec Ideal S1x8192x1024 .f32) (g : FVec Ideal S1024 .f32) (w d : FVec Ideal S1x8192x1024 .f32) : FVec Ideal S8192x1024 .f32 :=
  shapeCast _ (addf (addf (addf w (mulf (mulf d (gain g)) (fac x))) (mulf x (through x (mulf d (gain g))))) (mulf (through x (mulf d (gain g))) x))
    shapeCasts_S1x8192x1024_S8192x1024

theorem refDh_apply (x : FVec Ideal S1x8192x1024 .f32) (g : FVec Ideal S1024 .f32) (w d : FVec Ideal S1x8192x1024 .f32) (t : Fin 8192) (q : Fin 1024) :
    refDh x g w d (ix2 t q) = dhOf (fun t q => x (ix3 0 t q)) (fun q => g (ix1 q)) (fun t q => w (ix3 0 t q)) (fun t q => d (ix3 0 t q)) t q := by
  rw [← dh_eq]
  have hu : (fun k => mulf d (gain g) (ix3 0 t k)) = fun k => d (ix3 0 t k) * g (ix1 k) := by
    funext k
    pointwise [gain_apply]
  have ht : through x (mulf d (gain g)) (ix3 0 t q) = thru (fun k => x (ix3 0 t k)) (fun k => d (ix3 0 t k) * g (ix1 k)) := by
    rw [through_apply, hu]
  pointwise [refDh, gain_apply, fac_apply, ht]

/-- The gain's gradient. -/
def refDg (x d : FVec Ideal S1x8192x1024 .f32) : FVec Ideal S1x1024 .f32 :=
  shapeCast _ (Host.reduceAdd (shapeCast _ (Host.reduceAdd (mulf (mulf x (fac x)) d) (constant S_ .f32 0x00000000#32) reducesTo_S1x8192x1024_S1x1024_d1 h_S_)
    shapeCasts_S1x1024_S1x1x1024) (constant S_ .f32 0x00000000#32) reducesTo_S1x1x1024_S1024_d0_1 h_S_) shapeCasts_S1024_S1x1024

theorem refDg_apply (x d : FVec Ideal S1x8192x1024 .f32) (z : Fin 1) (q : Fin 1024) :
    refDg x d (ix2 z q) = dgOf (fun t q => x (ix3 0 t q)) (fun t q => d (ix3 0 t q)) q := by
  rw [← dg_eq]
  pointwise [refDg, fac_apply]
  refine (reduce01 _ _ _ _).trans ?_
  pointwise [fac_apply]

/-- The input's gradient in bf16. -/
def refDhB (x : FVec Ideal S1x8192x1024 .f32) (g : FVec Ideal S1024 .f32) (w d : FVec Ideal S1x8192x1024 .f32) : FVec Ideal S8192x1024 .bf16 :=
  truncf .bf16 (refDh x g w d) bitsLt_bf16_f32

end Cert.RmsBwdRef

end
-- ==== Proof.RmsBwd.lean ====
/- Hand-written. A norm's backward (its result also in bf16): what the kernel's grid leaves, and that it is the reference's arrays. -/
module

public import proofs.«01_k».proof.Proof.RmsBwdRef
public import proofs.«01_k».proof.Proof.Gen.RmsBwdIdeal.Value
public import Idealize.ShloMosaic.Lib.Pipeline.ValueKit.Point
public import Idealize.ShloMosaic.Lib.Pipeline.ValueKit.Acc
public import Idealize.ShloMosaic.Lib.Pointwise

@[expose] public section

noncomputable section

namespace Cert.RmsBwdArray

open Cert.RmsBwdIdeal Cert.RmsBwdIdeal.Gen Idealize.ShloMosaic Idealize.ShloMosaic.TcCoe
open Cert.Norm
open scoped BigOperators

/-- The input's gradient over the 8192 rows. -/
def dhArr (x : Vec Ideal S8192x1024 .f32) (g : Vec Ideal S1x1024 .f32) (w : Vec Ideal S8192x1024 .f32) (d : Vec Ideal S8192x1024 .f32) : Vec Ideal S8192x1024 .f32 :=
  fun i => dhOf (fun t q => x (ix2 t q)) (fun q => g (ix2 0 q)) (fun t q => w (ix2 t q)) (fun t q => d (ix2 t q)) (i 0) (i 1)

/-- The gain's gradient: the sum over the 8192 rows. -/
def dgArr (x : Vec Ideal S8192x1024 .f32) (d : Vec Ideal S8192x1024 .f32) : Vec Ideal S1x1024 .f32 :=
  fun i => dgOf (fun t q => x (ix2 t q)) (fun t q => d (ix2 t q)) (i 1)

theorem rs_apply (v : Vec Ideal S512x1024 .f32) (r : Fin 512) (z : Fin 1) : k0_pay4 v (ix2 r z) = rs (fun k => v (ix2 r k)) := by
  unfold rs ms
  pointwise [k0_pay4, k0_pay2]

theorem xr_apply (v : Vec Ideal S512x1024 .f32) (r : Fin 512) (q : Fin 1024) : k0_pay5 v (ix2 r q) = v (ix2 r q) * rs (fun k => v (ix2 r k)) := by
  pointwise [k0_pay5, k0_pay2, rs_apply]

theorem dy_apply (d : Vec Ideal S512x1024 .f32) (r : Fin 512) (q : Fin 1024) : k0_pay3 d (ix2 r q) = d (ix2 r q) := by
  pointwise [k0_pay3]

theorem dx_apply (v : Vec Ideal S512x1024 .f32) (d : Vec Ideal S512x1024 .f32) (g : Vec Ideal S1x1024 .f32) (w : Vec Ideal S512x1024 .f32) (r : Fin 512) (q : Fin 1024) :
    k0_pay6 v d g w (ix2 r q) = w (ix2 r q) + dxK (fun k => v (ix2 r k)) (fun k => d (ix2 r k) * g (ix2 0 k)) q := by
  unfold dxK
  pointwise [k0_pay6, rs_apply, xr_apply, dy_apply]

theorem dxB_apply (v d : Vec Ideal S512x1024 .f32) (g : Vec Ideal S1x1024 .f32) (w : Vec Ideal S512x1024 .f32) (r : Fin 512) (q : Fin 1024) :
    k0_pay7 v d g w (ix2 r q) = k0_pay6 v d g w (ix2 r q) := by
  pointwise [k0_pay7]

/-- One block's part of the gain's gradient. -/
def part (v : Vec Ideal S512x1024 .f32) (d : Vec Ideal S512x1024 .f32) (j : S1x1024.Idx) : EReal :=
  ∑ k : Fin 512, d (ix2 k (j 1)) * (v (ix2 k (j 1)) * rs (fun l => v (ix2 k l)))

theorem part_apply (v : Vec Ideal S512x1024 .f32) (d : Vec Ideal S512x1024 .f32) (r : Fin 1) (q : Fin 1024) :
    part v d (ix2 r q) = ∑ k : Fin 512, d (ix2 k q) * (v (ix2 k q) * rs (fun l => v (ix2 k l))) := rfl

theorem dg_apply (v : Vec Ideal S512x1024 .f32) (d : Vec Ideal S512x1024 .f32) (z : Vec Ideal S1x1024 .f32) (j : S1x1024.Idx) :
    k0_pay1 (k0_pay3 d) (k0_pay5 v) z j = z j + part v d j := by
  obtain ⟨r, q, rfl⟩ : ∃ (r : Fin 1) (q : Fin 1024), j = ix2 r q := ⟨j 0, j 1, by funext k; fin_cases k <;> rfl⟩
  unfold part
  pointwise [k0_pay1, dy_apply, xr_apply]

theorem zero_apply (j : S1x1024.Idx) : k0_pay8 (F := Ideal) j = 0 := by
  pointwise [k0_pay8]

theorem index0 : ∀ t : Fin cfg0.N, win0_0.index t = ![t.val, 0] :=
  (by decide +kernel : ∀ t : Fin grid0.N, win0_0.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])
theorem index1 : ∀ t : Fin cfg0.N, win0_1.index t = ![0, 0] :=
  (by decide +kernel : ∀ t : Fin grid0.N, win0_1.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])
theorem index6 : ∀ t : Fin cfg0.N, win0_6.index t = ![0, 0] :=
  (by decide +kernel : ∀ t : Fin grid0.N, win0_6.index t = ![0, 0])

theorem point_lt (t : Fin cfg0.N) : t.val < 16 := lt_of_lt_of_eq t.isLt N_0

theorem step_lt (s : Fin 16) : s.val < cfg0.N := lt_of_lt_of_eq s.isLt N_0.symm

theorem block0 (t : Fin cfg0.N) (i : Nat) (hi : i < 16) (ht : t.val = i) (A : Vec Ideal S8192x1024 .f32) (r : Fin 512) (l : Fin 1024) :
    ((cfg0.win 0).blk t).view.read (Elt Ideal) A (ix2 r l) = A (ix2 ⟨512 * i + r, by omega⟩ l) := by
  blk_simp
  refine congrArg A ?_
  blk_ext [index0 t, ht]

theorem block2 (t : Fin cfg0.N) (i : Nat) (hi : i < 16) (ht : t.val = i) (A : Vec Ideal S8192x1024 .f32) (r : Fin 512) (l : Fin 1024) :
    ((cfg0.win 2).blk t).view.read (Elt Ideal) A (ix2 r l) = A (ix2 ⟨512 * i + r, by omega⟩ l) := by
  blk_simp
  refine congrArg A ?_
  blk_ext [index2 t, ht]

theorem block3 (t : Fin cfg0.N) (i : Nat) (hi : i < 16) (ht : t.val = i) (A : Vec Ideal S8192x1024 .f32) (r : Fin 512) (l : Fin 1024) :
    ((cfg0.win 3).blk t).view.read (Elt Ideal) A (ix2 r l) = A (ix2 ⟨512 * i + r, by omega⟩ l) := by
  blk_simp
  refine congrArg A ?_
  blk_ext [index3 t, ht]

theorem block1 (t : Fin cfg0.N) (A : Vec Ideal S1x1024 .f32) (l : Fin 1024) :
    ((cfg0.win 1).blk t).view.read (Elt Ideal) A (ix2 0 l) = A (ix2 0 l) := by
  blk_simp
  refine congrArg A ?_
  blk_ext [index1 t]

/-- The blocks' parts, together: the sum over all rows. -/
theorem sum_parts (x : Vec Ideal S8192x1024 .f32) (d : Vec Ideal S8192x1024 .f32) (r : Fin 1) (q : Fin 1024) :
    (∑ s : Fin 16, part (((cfg0.win 0).blk ⟨s, step_lt s⟩).view.read (Elt Ideal) x) (((cfg0.win 3).blk ⟨s, step_lt s⟩).view.read (Elt Ideal) d) (ix2 r q) : EReal) = dgArr x d (ix2 r q) := by
  refine Eq.trans (Finset.sum_congr rfl fun s _ => (part_apply _ _ r q).trans (Finset.sum_congr rfl fun k _ => ?_)) (Fin.sum_mul_add_fin 16 512 (L := 8192)
    (fun l => (d (ix2 l q) * (x (ix2 l q) * rs (fun k => x (ix2 l k))) : EReal)))
  simp only [block0 ⟨s.val, step_lt s⟩ s.val s.isLt rfl x, block3 ⟨s.val, step_lt s⟩ s.val s.isLt rfl d, mul_comm 512 s.val]

section Grid

variable (m : (ℓ : Loc nD τ sig) → Buf (Elt Ideal) ℓ) (c : Dev nD)

theorem outs4 (t : Fin cfg0.N) : (outsAt0 m c t.val t.isLt).1 = k0_pay6 (iblk m c 0 t) (iblk m c 3 t) (iblk m c 1 t) (iblk m c 2 t) := by
  funext j
  by_cases h0 : t.val % 16 = 0
  · rw [outsAt0_A m c t h0]
    frame_out
  · rw [outsAt0_B m c t h0]
    frame_out

theorem outs5 (t : Fin cfg0.N) : (outsAt0 m c t.val t.isLt).2.1 = k0_pay7 (iblk m c 0 t) (iblk m c 3 t) (iblk m c 1 t) (iblk m c 2 t) := by
  funext j
  by_cases h0 : t.val % 16 = 0
  · rw [outsAt0_A m c t h0]
    frame_out
  · rw [outsAt0_B m c t h0]
    frame_out

/-- After the last point the accumulated row is the sum over the points. -/
theorem outs_sum (t : Fin cfg0.N) (ht : t.val % 16 = 15) (j : S1x1024.Idx) :
    (outsAt0 m c t.val t.isLt).2.2 j = ∑ s : Fin 16, part (iblk m c 0 ⟨s, step_lt s⟩) (iblk m c 3 ⟨s, step_lt s⟩) j := by
  have hl := point_lt t
  rw [Pipeline.eq_sum_fin_of_reset_step_apply_of_flush (fun n h => (outsAt0 m c n h).2.2) 16 (fun _ => 0)
    (fun t j => part (iblk m c 0 t) (iblk m c 3 t) j)
    (fun t h j => by rw [outsAt0_A m c t h]; frame_out; exact (dg_apply _ _ _ _).trans (congrArg (· + _) (zero_apply _)))
    (fun t h j => by rw [outsAt0_B m c t h]; frame_out; exact dg_apply _ _ _ _) t ht j, zero_add]
  refine Finset.sum_congr rfl fun s _ => ?_
  refine congrArg (fun u => part (iblk m c 0 u) (iblk m c 3 u) j) (Fin.ext ?_)
  show 16 * (t.val / 16) + s.val = s.val
  omega

theorem final4 (x : Vec Ideal S8192x1024 .f32) (g : Vec Ideal S1x1024 .f32) (w : Vec Ideal S8192x1024 .f32) (d : Vec Ideal S8192x1024 .f32)
    (hx : V m c main_v0 = x) (hg : V m c main_v1 = g) (hw : V m c main_v3 = w) (hd : V m c main_v2 = d) : (dats m 0 c).arrAt 4 cfg0.N = dhArr x g w d := by
  refine (dats m 0 c).arrAt_eq_of_covers 4 _ (by decide +kernel) fun t hf y => ?_
  have := point_lt t
  obtain ⟨r, q, rfl⟩ : ∃ (r : Fin 512) (q : Fin 1024), y = ix2 r q := ⟨y 0, y 1, by funext k; fin_cases k <;> rfl⟩
  have e : (win0_4.blk t).view.emb (ix2 r q) = ix2 ⟨512 * t.val + r.val, by omega⟩ q := by
    blk_ext [index4 t]
  have i0 (u : Fin cfg0.N) : iblk m c 0 u = ((cfg0.win 0).blk u).view.read (Elt Ideal) x := by rw [← hx]; rfl
  have i1 (u : Fin cfg0.N) : iblk m c 1 u = ((cfg0.win 1).blk u).view.read (Elt Ideal) g := by rw [← hg]; rfl
  have i2 (u : Fin cfg0.N) : iblk m c 2 u = ((cfg0.win 2).blk u).view.read (Elt Ideal) w := by rw [← hw]; rfl
  have i3 (u : Fin cfg0.N) : iblk m c 3 u = ((cfg0.win 3).blk u).view.read (Elt Ideal) d := by rw [← hd]; rfl
  blk_simp
  rw [after0_4, outs4 m c t, e, i0, i1, i2, i3]
  refine (dx_apply _ _ _ _ _ _).trans ?_
  simp only [block0 t t.val (by omega) rfl x, block2 t t.val (by omega) rfl w, block3 t t.val (by omega) rfl d, block1 t g]
  rfl

theorem final5 (x : Vec Ideal S8192x1024 .f32) (g : Vec Ideal S1x1024 .f32) (w : Vec Ideal S8192x1024 .f32) (d : Vec Ideal S8192x1024 .f32)
    (hx : V m c main_v0 = x) (hg : V m c main_v1 = g) (hw : V m c main_v3 = w) (hd : V m c main_v2 = d) : (dats m 0 c).arrAt 5 cfg0.N = dhArr x g w d := by
  refine (dats m 0 c).arrAt_eq_of_covers 5 _ (by decide +kernel) fun t hf y => ?_
  have := point_lt t
  obtain ⟨r, q, rfl⟩ : ∃ (r : Fin 512) (q : Fin 1024), y = ix2 r q := ⟨y 0, y 1, by funext k; fin_cases k <;> rfl⟩
  have e : (win0_5.blk t).view.emb (ix2 r q) = ix2 ⟨512 * t.val + r.val, by omega⟩ q := by
    blk_ext [index5 t]
  have i0 (u : Fin cfg0.N) : iblk m c 0 u = ((cfg0.win 0).blk u).view.read (Elt Ideal) x := by rw [← hx]; rfl
  have i1 (u : Fin cfg0.N) : iblk m c 1 u = ((cfg0.win 1).blk u).view.read (Elt Ideal) g := by rw [← hg]; rfl
  have i2 (u : Fin cfg0.N) : iblk m c 2 u = ((cfg0.win 2).blk u).view.read (Elt Ideal) w := by rw [← hw]; rfl
  have i3 (u : Fin cfg0.N) : iblk m c 3 u = ((cfg0.win 3).blk u).view.read (Elt Ideal) d := by rw [← hd]; rfl
  blk_simp
  rw [after0_5, outs5 m c t, e, i0, i1, i2, i3]
  refine ((dxB_apply _ _ _ _ _ _).trans (dx_apply _ _ _ _ _ _)).trans ?_
  simp only [block0 t t.val (by omega) rfl x, block2 t t.val (by omega) rfl w, block3 t t.val (by omega) rfl d, block1 t g]
  rfl

theorem final6 (x : Vec Ideal S8192x1024 .f32) (d : Vec Ideal S8192x1024 .f32) (hx : V m c main_v0 = x) (hd : V m c main_v2 = d) :
    (dats m 0 c).arrAt 6 cfg0.N = dgArr x d := by
  refine (dats m 0 c).arrAt_eq_of_covers 6 _ (by decide +kernel) fun t hf y => ?_
  have := point_lt t
  obtain ⟨r, q, rfl⟩ : ∃ (r : Fin 1) (q : Fin 1024), y = ix2 r q := ⟨y 0, y 1, by funext k; fin_cases k <;> rfl⟩
  have e : (win0_6.blk t).view.emb (ix2 r q) = ix2 r q := by
    blk_ext [index6 t]
  have i0 (u : Fin cfg0.N) : iblk m c 0 u = ((cfg0.win 0).blk u).view.read (Elt Ideal) x := by rw [← hx]; rfl
  have i3 (u : Fin cfg0.N) : iblk m c 3 u = ((cfg0.win 3).blk u).view.read (Elt Ideal) d := by rw [← hd]; rfl
  blk_simp
  rw [after0_6, outs_sum m c t ((flush0_6 t).mp hf), e]
  simp only [i0, i3]
  exact sum_parts x d r q

end Grid

/-! ### The operands and the reference -/

/-- An array's 8192 rows. -/
def rows (x : FVec Ideal S1x8192x1024 .f32) : FVec Ideal S8192x1024 .f32 := shapeCast _ x shapeCasts_S1x8192x1024_S8192x1024

theorem rows_apply (x : FVec Ideal S1x8192x1024 .f32) (t : Fin 8192) (l : Fin 1024) : rows x (ix2 t l) = x (ix3 0 t l) := by
  pointwise [rows]

/-- The gain as a row. -/
def gRow (g : FVec Ideal S1024 .f32) : FVec Ideal S1x1024 .f32 := broadcastInDim S1x1024 ![1] bcast_S1024_S1x1024_1 g

theorem gRow_apply (g : FVec Ideal S1024 .f32) (l : Fin 1024) : gRow g (ix2 0 l) = g (ix1 l) := by
  pointwise [gRow]

theorem refDh_eq (x : FVec Ideal S1x8192x1024 .f32) (g : FVec Ideal S1024 .f32) (w d : FVec Ideal S1x8192x1024 .f32) : dhArr (rows x) (gRow g) (rows w) (rows d) = Cert.RmsBwdRef.refDh x g w d := by
  funext i
  obtain ⟨t, q, rfl⟩ : ∃ (t : Fin 8192) (q : Fin 1024), i = ix2 t q := ⟨i 0, i 1, by funext k; fin_cases k <;> rfl⟩
  refine Eq.trans ?_ (Cert.RmsBwdRef.refDh_apply x g w d t q).symm
  unfold dhArr
  simp only [rows_apply, gRow_apply]
  rfl

theorem refDg_eq (x : FVec Ideal S1x8192x1024 .f32) (d : FVec Ideal S1x8192x1024 .f32) : dgArr (rows x) (rows d) = Cert.RmsBwdRef.refDg x d := by
  funext i
  obtain ⟨t, q, rfl⟩ : ∃ (t : Fin 1) (q : Fin 1024), i = ix2 t q := ⟨i 0, i 1, by funext k; fin_cases k <;> rfl⟩
  refine Eq.trans ?_ (Cert.RmsBwdRef.refDg_apply x d t q).symm
  unfold dgArr
  simp only [rows_apply]
  rfl

variable (m : (ℓ : Loc nD τ sig) → Buf (Elt Ideal) ℓ) (c : Dev nD)

abbrev arg0 : FVec Ideal S1x8192x1024 .f32 := m ((c : Thread nD τ).loc main_arg0)
abbrev arg1 : FVec Ideal S1024 .f32 := m ((c : Thread nD τ).loc main_arg1)
abbrev arg2 : FVec Ideal S1x8192x1024 .f32 := m ((c : Thread nD τ).loc main_arg2)
abbrev arg3 : FVec Ideal S1x8192x1024 .f32 := m ((c : Thread nD τ).loc main_arg3)

theorem V_v0 : V m c main_v0 = rows (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v1 : V m c main_v1 = gRow (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = rows (arg3 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v3 : V m c main_v3 = rows (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem ref4 : (dats m 0 c).arrAt 4 cfg0.N = Cert.RmsBwdRef.refDh (arg0 m c) (arg1 m c) (arg2 m c) (arg3 m c) :=
  (final4 m c _ _ _ _ (V_v0 m c) (V_v1 m c) (V_v3 m c) (V_v2 m c)).trans (refDh_eq _ _ _ _)

theorem ref5 : (dats m 0 c).arrAt 5 cfg0.N = Cert.RmsBwdRef.refDhB (arg0 m c) (arg1 m c) (arg2 m c) (arg3 m c) :=
  (final5 m c _ _ _ _ (V_v0 m c) (V_v1 m c) (V_v3 m c) (V_v2 m c)).trans (refDh_eq _ _ _ _)

theorem ref6 : (dats m 0 c).arrAt 6 cfg0.N = Cert.RmsBwdRef.refDg (arg0 m c) (arg3 m c) :=
  (final6 m c _ _ (V_v0 m c) (V_v2 m c)).trans (refDg_eq _ _)

end Cert.RmsBwdArray

end
-- ==== Proof.RmsMixBwdRef.lean ====
/- Hand-written. The reference's backward of a norm (the odd layer's first), at an index. -/
module

public import proofs.«01_k».proof.Proof.NormLaws
public import proofs.«01_k».proof.Proof.Gen.RefRmsMixBwdIdeal.Run

@[expose] public section

noncomputable section

namespace Cert.RmsMixBwdRef

open Cert.RefRmsMixBwdIdeal Cert.RefRmsMixBwdIdeal.Gen Idealize.ShloMosaic Idealize.ShloMosaic.TcCoe
open Cert.Norm
open scoped BigOperators

/-- The mean of squares, the norm's factor and the gain along every row. -/
def var (x : FVec Ideal S1x8192x1024 .f32) : FVec Ideal S1x8192x1 .f32 :=
  addf (Host.divf (broadcastInDim S1x8192x1 ![0, 1] bcast_S1x8192_S1x8192x1_0_1 (Host.reduceAdd (mulf x x) (constant S_ .f32 0x00000000#32) reducesTo_S1x8192x1024_S1x8192_d2 h_S_))
    (broadcastInDim S1x8192x1 ![] bcast_S_S1x8192x1 (constant S_ .f32 0x44800000#32))) (broadcastInDim S1x8192x1 ![] bcast_S_S1x8192x1 (constant S_ .f32 0x358637BD#32))

def fac (x : FVec Ideal S1x8192x1024 .f32) : FVec Ideal S1x8192x1024 .f32 :=
  broadcastInDim S1x8192x1024 ![0, 1, 2] bcast_S1x8192x1_S1x8192x1024_0_1_2 (Host.rsqrt (var x))

def gain (g : FVec Ideal S1024 .f32) : FVec Ideal S1x8192x1024 .f32 :=
  broadcastInDim S1x8192x1024 ![0, 1, 2] bcast_S1x1x1024_S1x8192x1024_0_1_2 (broadcastInDim S1x1x1024 ![2] bcast_S1024_S1x1x1024_2 g)

theorem var_apply (x : FVec Ideal S1x8192x1024 .f32) (t : Fin 8192) : var x (ix3 0 t 0) = ms (fun k => x (ix3 0 t k)) := by
  unfold ms
  pointwise [var]

theorem fac_apply (x : FVec Ideal S1x8192x1024 .f32) (t : Fin 8192) (q : Fin 1024) : fac x (ix3 0 t q) = rs (fun k => x (ix3 0 t k)) := by
  unfold rs
  pointwise [fac, var_apply]

theorem gain_apply (g : FVec Ideal S1024 .f32) (t : Fin 8192) (q : Fin 1024) : gain g (ix3 0 t q) = g (ix1 q) := by
  pointwise [gain]

/-- What passes through the norm's factor, on every row. -/
def through (x u : FVec Ideal S1x8192x1024 .f32) : FVec Ideal S1x8192x1024 .f32 :=
  broadcastInDim S1x8192x1024 ![0, 1] bcast_S1x8192_S1x8192x1024_0_1 (broadcastInDim S1x8192 ![1] bcast_S8192_S1x8192_1 (Host.reduceAdd (Host.divf (mulf (shapeCast _
    (Host.reduceAdd (mulf x u) (constant S_ .f32 0x00000000#32) reducesTo_S1x8192x1024_S1x8192_d2 h_S_) shapeCasts_S1x8192_S1x8192x1)
    (mulf (broadcastInDim S1x8192x1 ![] bcast_S_S1x8192x1 (constant S_ .f32 0xBF000000#32)) (Host.divf (Host.rsqrt (var x)) (var x))))
    (broadcastInDim S1x8192x1 ![] bcast_S_S1x8192x1 (constant S_ .f32 0x44800000#32))) (constant S_ .f32 0x00000000#32) reducesTo_S1x8192x1_S8192_d0_2 h_S_))

theorem through_apply (x u : FVec Ideal S1x8192x1024 .f32) (t : Fin 8192) (q : Fin 1024) :
    through x u (ix3 0 t q) = thru (fun k => x (ix3 0 t k)) (fun k => u (ix3 0 t k)) := by
  unfold thru rs
  pointwise [through, var_apply]
  refine (reduce02 _ _ _ _).trans ?_
  pointwise [var_apply]

/-- The input's gradient, from the stream's cotangent `w` and the norm's cotangent `d`. -/
def refDh (x : FVec Ideal S1x8192x1024 .f32) (g : FVec Ideal S1024 .f32) (w d : FVec Ideal S1x8192x1024 .f32) : FVec Ideal S8192x1024 .f32 :=
  shapeCast _ (addf (addf (addf w (mulf (mulf d (gain g)) (fac x))) (mulf x (through x (mulf d (gain g))))) (mulf (through x (mulf d (gain g))) x))
    shapeCasts_S1x8192x1024_S8192x1024

theorem refDh_apply (x : FVec Ideal S1x8192x1024 .f32) (g : FVec Ideal S1024 .f32) (w d : FVec Ideal S1x8192x1024 .f32) (t : Fin 8192) (q : Fin 1024) :
    refDh x g w d (ix2 t q) = dhOf (fun t q => x (ix3 0 t q)) (fun q => g (ix1 q)) (fun t q => w (ix3 0 t q)) (fun t q => d (ix3 0 t q)) t q := by
  rw [← dh_eq]
  have hu : (fun k => mulf d (gain g) (ix3 0 t k)) = fun k => d (ix3 0 t k) * g (ix1 k) := by
    funext k
    pointwise [gain_apply]
  have ht : through x (mulf d (gain g)) (ix3 0 t q) = thru (fun k => x (ix3 0 t k)) (fun k => d (ix3 0 t k) * g (ix1 k)) := by
    rw [through_apply, hu]
  pointwise [refDh, gain_apply, fac_apply, ht]

/-- The gain's gradient. -/
def refDg (x d : FVec Ideal S1x8192x1024 .f32) : FVec Ideal S1x1024 .f32 :=
  shapeCast _ (Host.reduceAdd (shapeCast _ (Host.reduceAdd (mulf (mulf x (fac x)) d) (constant S_ .f32 0x00000000#32) reducesTo_S1x8192x1024_S1x1024_d1 h_S_)
    shapeCasts_S1x1024_S1x1x1024) (constant S_ .f32 0x00000000#32) reducesTo_S1x1x1024_S1024_d0_1 h_S_) shapeCasts_S1024_S1x1024

theorem refDg_apply (x d : FVec Ideal S1x8192x1024 .f32) (z : Fin 1) (q : Fin 1024) :
    refDg x d (ix2 z q) = dgOf (fun t q => x (ix3 0 t q)) (fun t q => d (ix3 0 t q)) q := by
  rw [← dg_eq]
  pointwise [refDg, fac_apply]
  refine (reduce01 _ _ _ _).trans ?_
  pointwise [fac_apply]

end Cert.RmsMixBwdRef

end
-- ==== Proof.RmsMixBwd.lean ====
/- Hand-written. A norm's backward (the odd layer's first): what the kernel's grid leaves, and that it is the reference's arrays. -/
module

public import proofs.«01_k».proof.Proof.RmsMixBwdRef
public import proofs.«01_k».proof.Proof.Gen.RmsMixBwdIdeal.Value
public import Idealize.ShloMosaic.Lib.Pipeline.ValueKit.Point
public import Idealize.ShloMosaic.Lib.Pipeline.ValueKit.Acc
public import Idealize.ShloMosaic.Lib.Pointwise

@[expose] public section

noncomputable section

namespace Cert.RmsMixBwdArray

open Cert.RmsMixBwdIdeal Cert.RmsMixBwdIdeal.Gen Idealize.ShloMosaic Idealize.ShloMosaic.TcCoe
open Cert.Norm
open scoped BigOperators

/-- The input's gradient over the 8192 rows. -/
def dhArr (x : Vec Ideal S8192x1024 .f32) (g : Vec Ideal S1x1024 .f32) (w : Vec Ideal S8192x1024 .f32) (d : Vec Ideal S8192x1024 .f32) : Vec Ideal S8192x1024 .f32 :=
  fun i => dhOf (fun t q => x (ix2 t q)) (fun q => g (ix2 0 q)) (fun t q => w (ix2 t q)) (fun t q => d (ix2 t q)) (i 0) (i 1)

/-- The gain's gradient: the sum over the 8192 rows. -/
def dgArr (x : Vec Ideal S8192x1024 .f32) (d : Vec Ideal S8192x1024 .f32) : Vec Ideal S1x1024 .f32 :=
  fun i => dgOf (fun t q => x (ix2 t q)) (fun t q => d (ix2 t q)) (i 1)

theorem rs_apply (v : Vec Ideal S512x1024 .f32) (r : Fin 512) (z : Fin 1) : k0_pay4 v (ix2 r z) = rs (fun k => v (ix2 r k)) := by
  unfold rs ms
  pointwise [k0_pay4, k0_pay2]

theorem xr_apply (v : Vec Ideal S512x1024 .f32) (r : Fin 512) (q : Fin 1024) : k0_pay5 v (ix2 r q) = v (ix2 r q) * rs (fun k => v (ix2 r k)) := by
  pointwise [k0_pay5, k0_pay2, rs_apply]

theorem dy_apply (d : Vec Ideal S512x1024 .f32) (r : Fin 512) (q : Fin 1024) : k0_pay3 d (ix2 r q) = d (ix2 r q) := by
  pointwise [k0_pay3]

theorem dx_apply (v : Vec Ideal S512x1024 .f32) (d : Vec Ideal S512x1024 .f32) (g : Vec Ideal S1x1024 .f32) (w : Vec Ideal S512x1024 .f32) (r : Fin 512) (q : Fin 1024) :
    k0_pay6 v d g w (ix2 r q) = w (ix2 r q) + dxK (fun k => v (ix2 r k)) (fun k => d (ix2 r k) * g (ix2 0 k)) q := by
  unfold dxK
  pointwise [k0_pay6, rs_apply, xr_apply, dy_apply]

/-- One block's part of the gain's gradient. -/
def part (v : Vec Ideal S512x1024 .f32) (d : Vec Ideal S512x1024 .f32) (j : S1x1024.Idx) : EReal :=
  ∑ k : Fin 512, d (ix2 k (j 1)) * (v (ix2 k (j 1)) * rs (fun l => v (ix2 k l)))

theorem part_apply (v : Vec Ideal S512x1024 .f32) (d : Vec Ideal S512x1024 .f32) (r : Fin 1) (q : Fin 1024) :
    part v d (ix2 r q) = ∑ k : Fin 512, d (ix2 k q) * (v (ix2 k q) * rs (fun l => v (ix2 k l))) := rfl

theorem dg_apply (v : Vec Ideal S512x1024 .f32) (d : Vec Ideal S512x1024 .f32) (z : Vec Ideal S1x1024 .f32) (j : S1x1024.Idx) :
    k0_pay1 (k0_pay8 z) (k0_pay9 v d) j = z j + part v d j := by
  obtain ⟨r, q, rfl⟩ : ∃ (r : Fin 1) (q : Fin 1024), j = ix2 r q := ⟨j 0, j 1, by funext k; fin_cases k <;> rfl⟩
  unfold part
  pointwise [k0_pay1, k0_pay8, k0_pay9, dy_apply, xr_apply]

theorem zero_apply (j : S1x1024.Idx) : k0_pay7 (F := Ideal) j = 0 := by
  pointwise [k0_pay7]

theorem index0 : ∀ t : Fin cfg0.N, win0_0.index t = ![t.val, 0] :=
  (by decide +kernel : ∀ t : Fin grid0.N, win0_0.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])
theorem index1 : ∀ t : Fin cfg0.N, win0_1.index t = ![0, 0] :=
  (by decide +kernel : ∀ t : Fin grid0.N, win0_1.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![0, 0] :=
  (by decide +kernel : ∀ t : Fin grid0.N, win0_5.index t = ![0, 0])

theorem point_lt (t : Fin cfg0.N) : t.val < 16 := lt_of_lt_of_eq t.isLt N_0

theorem step_lt (s : Fin 16) : s.val < cfg0.N := lt_of_lt_of_eq s.isLt N_0.symm

theorem block0 (t : Fin cfg0.N) (i : Nat) (hi : i < 16) (ht : t.val = i) (A : Vec Ideal S8192x1024 .f32) (r : Fin 512) (l : Fin 1024) :
    ((cfg0.win 0).blk t).view.read (Elt Ideal) A (ix2 r l) = A (ix2 ⟨512 * i + r, by omega⟩ l) := by
  blk_simp
  refine congrArg A ?_
  blk_ext [index0 t, ht]

theorem block2 (t : Fin cfg0.N) (i : Nat) (hi : i < 16) (ht : t.val = i) (A : Vec Ideal S8192x1024 .f32) (r : Fin 512) (l : Fin 1024) :
    ((cfg0.win 2).blk t).view.read (Elt Ideal) A (ix2 r l) = A (ix2 ⟨512 * i + r, by omega⟩ l) := by
  blk_simp
  refine congrArg A ?_
  blk_ext [index2 t, ht]

theorem block3 (t : Fin cfg0.N) (i : Nat) (hi : i < 16) (ht : t.val = i) (A : Vec Ideal S8192x1024 .f32) (r : Fin 512) (l : Fin 1024) :
    ((cfg0.win 3).blk t).view.read (Elt Ideal) A (ix2 r l) = A (ix2 ⟨512 * i + r, by omega⟩ l) := by
  blk_simp
  refine congrArg A ?_
  blk_ext [index3 t, ht]

theorem block1 (t : Fin cfg0.N) (A : Vec Ideal S1x1024 .f32) (l : Fin 1024) :
    ((cfg0.win 1).blk t).view.read (Elt Ideal) A (ix2 0 l) = A (ix2 0 l) := by
  blk_simp
  refine congrArg A ?_
  blk_ext [index1 t]

/-- The blocks' parts, together: the sum over all rows. -/
theorem sum_parts (x : Vec Ideal S8192x1024 .f32) (d : Vec Ideal S8192x1024 .f32) (r : Fin 1) (q : Fin 1024) :
    (∑ s : Fin 16, part (((cfg0.win 0).blk ⟨s, step_lt s⟩).view.read (Elt Ideal) x) (((cfg0.win 3).blk ⟨s, step_lt s⟩).view.read (Elt Ideal) d) (ix2 r q) : EReal) = dgArr x d (ix2 r q) := by
  refine Eq.trans (Finset.sum_congr rfl fun s _ => (part_apply _ _ r q).trans (Finset.sum_congr rfl fun k _ => ?_)) (Fin.sum_mul_add_fin 16 512 (L := 8192)
    (fun l => (d (ix2 l q) * (x (ix2 l q) * rs (fun k => x (ix2 l k))) : EReal)))
  simp only [block0 ⟨s.val, step_lt s⟩ s.val s.isLt rfl x, block3 ⟨s.val, step_lt s⟩ s.val s.isLt rfl d, mul_comm 512 s.val]

section Grid

variable (m : (ℓ : Loc nD τ sig) → Buf (Elt Ideal) ℓ) (c : Dev nD)

theorem outs4 (t : Fin cfg0.N) : (outsAt0 m c t.val t.isLt).1 = k0_pay6 (iblk m c 0 t) (iblk m c 3 t) (iblk m c 1 t) (iblk m c 2 t) := by
  funext j
  by_cases h0 : t.val % 16 = 0
  · rw [outsAt0_A m c t h0]
    frame_out
  · rw [outsAt0_B m c t h0]
    frame_out

/-- After the last point the accumulated row is the sum over the points. -/
theorem outs_sum (t : Fin cfg0.N) (ht : t.val % 16 = 15) (j : S1x1024.Idx) :
    (outsAt0 m c t.val t.isLt).2 j = ∑ s : Fin 16, part (iblk m c 0 ⟨s, step_lt s⟩) (iblk m c 3 ⟨s, step_lt s⟩) j := by
  have hl := point_lt t
  rw [Pipeline.eq_sum_fin_of_reset_step_apply_of_flush (fun n h => (outsAt0 m c n h).2) 16 (fun _ => 0)
    (fun t j => part (iblk m c 0 t) (iblk m c 3 t) j)
    (fun t h j => by rw [outsAt0_A m c t h]; frame_out; exact (dg_apply _ _ _ _).trans (congrArg (· + _) (zero_apply _)))
    (fun t h j => by rw [outsAt0_B m c t h]; frame_out; exact dg_apply _ _ _ _) t ht j, zero_add]
  refine Finset.sum_congr rfl fun s _ => ?_
  refine congrArg (fun u => part (iblk m c 0 u) (iblk m c 3 u) j) (Fin.ext ?_)
  show 16 * (t.val / 16) + s.val = s.val
  omega

theorem final4 (x : Vec Ideal S8192x1024 .f32) (g : Vec Ideal S1x1024 .f32) (w : Vec Ideal S8192x1024 .f32) (d : Vec Ideal S8192x1024 .f32)
    (hx : V m c main_v0 = x) (hg : V m c main_v1 = g) (hw : V m c main_v3 = w) (hd : V m c main_v2 = d) : (dats m 0 c).arrAt 4 cfg0.N = dhArr x g w d := by
  refine (dats m 0 c).arrAt_eq_of_covers 4 _ (by decide +kernel) fun t hf y => ?_
  have := point_lt t
  obtain ⟨r, q, rfl⟩ : ∃ (r : Fin 512) (q : Fin 1024), y = ix2 r q := ⟨y 0, y 1, by funext k; fin_cases k <;> rfl⟩
  have e : (win0_4.blk t).view.emb (ix2 r q) = ix2 ⟨512 * t.val + r.val, by omega⟩ q := by
    blk_ext [index4 t]
  have i0 (u : Fin cfg0.N) : iblk m c 0 u = ((cfg0.win 0).blk u).view.read (Elt Ideal) x := by rw [← hx]; rfl
  have i1 (u : Fin cfg0.N) : iblk m c 1 u = ((cfg0.win 1).blk u).view.read (Elt Ideal) g := by rw [← hg]; rfl
  have i2 (u : Fin cfg0.N) : iblk m c 2 u = ((cfg0.win 2).blk u).view.read (Elt Ideal) w := by rw [← hw]; rfl
  have i3 (u : Fin cfg0.N) : iblk m c 3 u = ((cfg0.win 3).blk u).view.read (Elt Ideal) d := by rw [← hd]; rfl
  blk_simp
  rw [after0_4, outs4 m c t, e, i0, i1, i2, i3]
  refine (dx_apply _ _ _ _ _ _).trans ?_
  simp only [block0 t t.val (by omega) rfl x, block2 t t.val (by omega) rfl w, block3 t t.val (by omega) rfl d, block1 t g]
  rfl

theorem final5 (x : Vec Ideal S8192x1024 .f32) (d : Vec Ideal S8192x1024 .f32) (hx : V m c main_v0 = x) (hd : V m c main_v2 = d) :
    (dats m 0 c).arrAt 5 cfg0.N = dgArr x d := by
  refine (dats m 0 c).arrAt_eq_of_covers 5 _ (by decide +kernel) fun t hf y => ?_
  have := point_lt t
  obtain ⟨r, q, rfl⟩ : ∃ (r : Fin 1) (q : Fin 1024), y = ix2 r q := ⟨y 0, y 1, by funext k; fin_cases k <;> rfl⟩
  have e : (win0_5.blk t).view.emb (ix2 r q) = ix2 r q := by
    blk_ext [index5 t]
  have i0 (u : Fin cfg0.N) : iblk m c 0 u = ((cfg0.win 0).blk u).view.read (Elt Ideal) x := by rw [← hx]; rfl
  have i3 (u : Fin cfg0.N) : iblk m c 3 u = ((cfg0.win 3).blk u).view.read (Elt Ideal) d := by rw [← hd]; rfl
  blk_simp
  rw [after0_5, outs_sum m c t ((flush0_5 t).mp hf), e]
  simp only [i0, i3]
  exact sum_parts x d r q

end Grid

/-! ### The operands and the reference -/

/-- An array's 8192 rows. -/
def rows (x : FVec Ideal S1x8192x1024 .f32) : FVec Ideal S8192x1024 .f32 := shapeCast _ x shapeCasts_S1x8192x1024_S8192x1024

theorem rows_apply (x : FVec Ideal S1x8192x1024 .f32) (t : Fin 8192) (l : Fin 1024) : rows x (ix2 t l) = x (ix3 0 t l) := by
  pointwise [rows]

/-- The gain as a row. -/
def gRow (g : FVec Ideal S1024 .f32) : FVec Ideal S1x1024 .f32 := broadcastInDim S1x1024 ![1] bcast_S1024_S1x1024_1 g

theorem gRow_apply (g : FVec Ideal S1024 .f32) (l : Fin 1024) : gRow g (ix2 0 l) = g (ix1 l) := by
  pointwise [gRow]

theorem refDh_eq (x : FVec Ideal S1x8192x1024 .f32) (g : FVec Ideal S1024 .f32) (w d : FVec Ideal S1x8192x1024 .f32) : dhArr (rows x) (gRow g) (rows w) (rows d) = Cert.RmsMixBwdRef.refDh x g w d := by
  funext i
  obtain ⟨t, q, rfl⟩ : ∃ (t : Fin 8192) (q : Fin 1024), i = ix2 t q := ⟨i 0, i 1, by funext k; fin_cases k <;> rfl⟩
  refine Eq.trans ?_ (Cert.RmsMixBwdRef.refDh_apply x g w d t q).symm
  unfold dhArr
  simp only [rows_apply, gRow_apply]
  rfl

theorem refDg_eq (x : FVec Ideal S1x8192x1024 .f32) (d : FVec Ideal S1x8192x1024 .f32) : dgArr (rows x) (rows d) = Cert.RmsMixBwdRef.refDg x d := by
  funext i
  obtain ⟨t, q, rfl⟩ : ∃ (t : Fin 1) (q : Fin 1024), i = ix2 t q := ⟨i 0, i 1, by funext k; fin_cases k <;> rfl⟩
  refine Eq.trans ?_ (Cert.RmsMixBwdRef.refDg_apply x d t q).symm
  unfold dgArr
  simp only [rows_apply]
  rfl

variable (m : (ℓ : Loc nD τ sig) → Buf (Elt Ideal) ℓ) (c : Dev nD)

abbrev arg0 : FVec Ideal S1x8192x1024 .f32 := m ((c : Thread nD τ).loc main_arg0)
abbrev arg1 : FVec Ideal S1024 .f32 := m ((c : Thread nD τ).loc main_arg1)
abbrev arg2 : FVec Ideal S1x8192x1024 .f32 := m ((c : Thread nD τ).loc main_arg2)
abbrev arg3 : FVec Ideal S1x8192x1024 .f32 := m ((c : Thread nD τ).loc main_arg3)

theorem V_v0 : V m c main_v0 = rows (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v1 : V m c main_v1 = gRow (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = rows (arg3 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v3 : V m c main_v3 = rows (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem ref4 : (dats m 0 c).arrAt 4 cfg0.N = Cert.RmsMixBwdRef.refDh (arg0 m c) (arg1 m c) (arg2 m c) (arg3 m c) :=
  (final4 m c _ _ _ _ (V_v0 m c) (V_v1 m c) (V_v3 m c) (V_v2 m c)).trans (refDh_eq _ _ _ _)

theorem ref5 : (dats m 0 c).arrAt 5 cfg0.N = Cert.RmsMixBwdRef.refDg (arg0 m c) (arg3 m c) :=
  (final5 m c _ _ (V_v0 m c) (V_v2 m c)).trans (refDg_eq _ _)

end Cert.RmsMixBwdArray

end
-- ==== Proof.GateLaws.lean ====
/- Hand-written. The gate's sigmoid, its complement and the slope, at every extended real. -/
module

public import proofs.«01_k».proof.Proof.GateUpHost

@[expose] public section

noncomputable section

namespace Cert.Gate

open Idealize.ShloMosaic Cert.HiddenArray
open scoped BigOperators

/-- The slope, from the sigmoid and its complement and from the sigmoid alone. -/
theorem slope_eq (a : EReal) : sg a * cosg a = logistic a * (1 - logistic a) := by
  induction a using EReal.rec with
  | coe a => rw [sg_coe, cosg_coe, logistic_coe, EReal.coe_sub]; rfl
  | top =>
    have h : FloatOps.absf (F := Ideal) (φ := .f32) (⊤ : EReal) = ⊤ := by
      show max (⊤ : EReal) (-⊤) = ⊤
      simp
    have hm : mag ⊤ = 0 := by
      unfold mag
      rw [h, zero_sub]
      rfl
    have hs : sg ⊤ = 1 := by
      unfold sg Cert.HiddenArray.inv
      rw [if_pos le_top, hm, add_zero, Ideal.div, if_neg one_ne_zero]
      simp
    have h1 : (1 : EReal) - 1 = 0 := by
      have : ((1 : ℝ) : EReal) - ((1 : ℝ) : EReal) = ((1 - 1 : ℝ) : EReal) := (EReal.coe_sub 1 1).symm
      simpa using this
    rw [← Cert.GateUpArray.sg_eq, hs, h1]
    unfold cosg
    rw [if_pos le_top, hm, zero_mul]
  | bot =>
    have h : FloatOps.absf (F := Ideal) (φ := .f32) (⊥ : EReal) = ⊤ := by
      show max (⊥ : EReal) (-⊥) = ⊤
      simp
    have hm : mag ⊥ = 0 := by
      unfold mag
      rw [h, zero_sub]
      rfl
    have hs : sg ⊥ = 0 := by
      unfold sg
      rw [if_neg (by simp), hm, zero_mul]
    rw [← Cert.GateUpArray.sg_eq, hs, zero_mul, zero_mul]

end Cert.Gate

end
-- ==== Proof.PleBwdRef.lean ====
/- Hand-written. The reference's backward of the gated sum, at an index. -/
module

public import proofs.«01_k».proof.Proof.GateLaws
public import proofs.«01_k».proof.Proof.Gen.RefPleBwdIdeal.Run

@[expose] public section

noncomputable section

namespace Cert.PleBwdRef

open Cert.RefPleBwdIdeal Cert.RefPleBwdIdeal.Gen Idealize.ShloMosaic Idealize.ShloMosaic.TcCoe
open Cert.HiddenArray (logistic)
open scoped BigOperators

/-- The sigmoid. -/
def one : FVec Ideal S1x8192x1024 .f32 := broadcastInDim S1x8192x1024 ![] bcast_S_S1x8192x1024 (constant S_ .f32 0x3F800000#32)
def sigm (a : FVec Ideal S1x8192x1024 .f32) : FVec Ideal S1x8192x1024 .f32 := Host.divf one (addf one (Host.exp (Host.negf a)))

theorem sigm_apply (a : FVec Ideal S1x8192x1024 .f32) (t : Fin 8192) (q : Fin 1024) : sigm a (ix3 0 t q) = logistic (a (ix3 0 t q)) := by
  unfold Cert.HiddenArray.logistic
  pointwise [sigm, one]

/-- The gate's cotangent. -/
def refGate (a p g : FVec Ideal S1x8192x1024 .f32) : FVec Ideal S8192x1024 .bf16 :=
  truncf .bf16 (shapeCast _ (mulf (mulf (shapeCast _ g shapeCasts_S1x8192x1024_S1x8192x1024) p) (mulf (sigm a) (subf one (sigm a))))
    shapeCasts_S1x8192x1024_S8192x1024) bitsLt_bf16_f32

theorem refGate_apply (a p g : FVec Ideal S1x8192x1024 .f32) (t : Fin 8192) (q : Fin 1024) :
    refGate a p g (ix2 t q) = g (ix3 0 t q) * p (ix3 0 t q) * (logistic (a (ix3 0 t q)) * (1 - logistic (a (ix3 0 t q)))) := by
  pointwise [refGate, sigm_apply, one]

/-- The gated product's cotangent. -/
def refProj (a g : FVec Ideal S1x8192x1024 .f32) : FVec Ideal S8192x1024 .bf16 :=
  truncf .bf16 (shapeCast _ (mulf (sigm a) (shapeCast _ g shapeCasts_S1x8192x1024_S1x8192x1024)) shapeCasts_S1x8192x1024_S8192x1024) bitsLt_bf16_f32

theorem refProj_apply (a g : FVec Ideal S1x8192x1024 .f32) (t : Fin 8192) (q : Fin 1024) :
    refProj a g (ix2 t q) = logistic (a (ix3 0 t q)) * g (ix3 0 t q) := by
  pointwise [refProj, sigm_apply]

end Cert.PleBwdRef

end
-- ==== Proof.PleBwd.lean ====
/- Hand-written. The gated sum's backward: what the kernel's grid leaves is the reference's arrays. -/
module

public import proofs.«01_k».proof.Proof.PleBwdRef
public import proofs.«01_k».proof.Proof.Gen.PleBwdIdeal.Value
public import Idealize.ShloMosaic.Lib.Pipeline.ValueKit.Point
public import Idealize.ShloMosaic.Lib.Pipeline.ValueKit.Acc
public import Idealize.ShloMosaic.Lib.Pointwise

@[expose] public section

noncomputable section

namespace Cert.PleBwdArray

open Cert.PleBwdIdeal Cert.PleBwdIdeal.Gen Idealize.ShloMosaic Idealize.ShloMosaic.TcCoe
open Cert.HiddenArray (logistic sg cosg mag)
open scoped BigOperators

theorem gate_apply (v0 : Vec Ideal S512x1024 .f32) (v2 v21 : Vec Ideal S512x1024 .bf16) (r : Fin 512) (q : Fin 1024) :
    k0_pay9 v0 v2 v21 (ix2 r q) = v0 (ix2 r q) * v21 (ix2 r q) * (logistic (v2 (ix2 r q)) * (1 - logistic (v2 (ix2 r q)))) := by
  rw [← Cert.Gate.slope_eq]
  unfold sg cosg Cert.HiddenArray.inv mag
  pointwise [k0_pay9, k0_pay7, k0_pay6, k0_pay5, k0_pay4, k0_pay3, k0_pay2, k0_pay1]

theorem proj_apply (v0 : Vec Ideal S512x1024 .f32) (v2 : Vec Ideal S512x1024 .bf16) (r : Fin 512) (q : Fin 1024) :
    k0_pay8 v0 v2 (ix2 r q) = logistic (v2 (ix2 r q)) * v0 (ix2 r q) := by
  rw [← Cert.GateUpArray.sg_eq, mul_comm]
  unfold sg Cert.HiddenArray.inv mag
  pointwise [k0_pay8, k0_pay7, k0_pay6, k0_pay5, k0_pay4, k0_pay3, k0_pay2, k0_pay1]

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])
theorem index4 : ∀ t : Fin cfg0.N, win0_4.index t = ![t.val, 0] :=
  (by decide +kernel : ∀ t : Fin grid0.N, win0_4.index t = ![t.val, 0])

theorem point_lt (t : Fin cfg0.N) : t.val < 16 := lt_of_lt_of_eq t.isLt N_0

theorem block0 (t : Fin cfg0.N) (i : Nat) (hi : i < 16) (ht : t.val = i) (A : Vec Ideal S8192x1024 .f32) (r : Fin 512) (l : Fin 1024) :
    ((cfg0.win 0).blk t).view.read (Elt Ideal) A (ix2 r l) = A (ix2 ⟨512 * i + r, by omega⟩ l) := by
  blk_simp
  refine congrArg A ?_
  blk_ext [index0 t, ht]

theorem block1 (t : Fin cfg0.N) (i : Nat) (hi : i < 16) (ht : t.val = i) (A : Vec Ideal S8192x1024 .bf16) (r : Fin 512) (l : Fin 1024) :
    ((cfg0.win 1).blk t).view.read (Elt Ideal) A (ix2 r l) = A (ix2 ⟨512 * i + r, by omega⟩ l) := by
  blk_simp
  refine congrArg A ?_
  blk_ext [index1 t, ht]

theorem block2 (t : Fin cfg0.N) (i : Nat) (hi : i < 16) (ht : t.val = i) (A : Vec Ideal S8192x1024 .bf16) (r : Fin 512) (l : Fin 1024) :
    ((cfg0.win 2).blk t).view.read (Elt Ideal) A (ix2 r l) = A (ix2 ⟨512 * i + r, by omega⟩ l) := by
  blk_simp
  refine congrArg A ?_
  blk_ext [index2 t, ht]

/-- An array's 8192 rows. -/
def rows (x : FVec Ideal S1x8192x1024 .f32) : FVec Ideal S8192x1024 .f32 := shapeCast _ x shapeCasts_S1x8192x1024_S8192x1024

theorem rows_apply (x : FVec Ideal S1x8192x1024 .f32) (t : Fin 8192) (l : Fin 1024) : rows x (ix2 t l) = x (ix3 0 t l) := by
  pointwise [rows]

/-- An array's 8192 rows, in bf16. -/
def rowsB (x : FVec Ideal S1x8192x1024 .f32) : FVec Ideal S8192x1024 .bf16 :=
  truncf .bf16 (shapeCast _ x shapeCasts_S1x8192x1024_S8192x1024) bitsLt_bf16_f32

theorem rowsB_apply (x : FVec Ideal S1x8192x1024 .f32) (t : Fin 8192) (l : Fin 1024) : rowsB x (ix2 t l) = x (ix3 0 t l) := by
  pointwise [rowsB]

theorem out3_eq (x0 : Vec Ideal S512x1024 .f32) (x1 : Vec Ideal S512x1024 .bf16) (x2 : Vec Ideal S512x1024 .bf16) : out0_3 x0 x1 x2 = k0_pay9 x0 x1 x2 := by
  unfold out0_3
  frame_out

theorem out4_eq (x0 : Vec Ideal S512x1024 .f32) (x1 : Vec Ideal S512x1024 .bf16) (x2 : Vec Ideal S512x1024 .bf16) : out0_4 x0 x1 x2 = k0_pay8 x0 x1 := by
  unfold out0_4
  frame_out

variable (m : (ℓ : Loc nD τ sig) → Buf (Elt Ideal) ℓ) (c : Dev nD)

abbrev arg0 : FVec Ideal S1x8192x1024 .f32 := m ((c : Thread nD τ).loc main_arg0)
abbrev arg1 : FVec Ideal S1x8192x1024 .f32 := m ((c : Thread nD τ).loc main_arg1)
abbrev arg2 : FVec Ideal S1x8192x1024 .f32 := m ((c : Thread nD τ).loc main_arg2)
abbrev arg3 : FVec Ideal S1x8192x1024 .f32 := m ((c : Thread nD τ).loc main_arg3)

theorem V_v0 : V m c main_v0 = rows (arg3 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = rowsB (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v4 : V m c main_v4 = rowsB (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem ref3 : (dats m 0 c).arrAt 3 cfg0.N = Cert.PleBwdRef.refGate (arg1 m c) (arg2 m c) (arg3 m c) := by
  refine (dats m 0 c).arrAt_eq_of_covers 3 _ (by decide +kernel) fun t hf y => ?_
  have := point_lt t
  obtain ⟨r, q, rfl⟩ : ∃ (r : Fin 512) (q : Fin 1024), y = ix2 r q := ⟨y 0, y 1, by funext k; fin_cases k <;> rfl⟩
  have e : (win0_3.blk t).view.emb (ix2 r q) = ix2 ⟨512 * t.val + r.val, by omega⟩ q := by
    blk_ext [index3 t]
  have i0 (u : Fin cfg0.N) : iblk m c 0 u = ((cfg0.win 0).blk u).view.read (Elt Ideal) (rows (arg3 m c)) := by rw [← V_v0]; rfl
  have i1 (u : Fin cfg0.N) : iblk m c 1 u = ((cfg0.win 1).blk u).view.read (Elt Ideal) (rowsB (arg1 m c)) := by rw [← V_v2]; rfl
  have i2 (u : Fin cfg0.N) : iblk m c 2 u = ((cfg0.win 2).blk u).view.read (Elt Ideal) (rowsB (arg2 m c)) := by rw [← V_v4]; rfl
  blk_simp
  rw [after0_3, out3_eq, e, i0, i1, i2]
  refine (gate_apply _ _ _ _ _).trans ?_
  simp only [block0 t t.val (by omega) rfl (rows (arg3 m c)), block1 t t.val (by omega) rfl (rowsB (arg1 m c)), block2 t t.val (by omega) rfl (rowsB (arg2 m c)), rowsB_apply, rows_apply]
  exact (Cert.PleBwdRef.refGate_apply _ _ _ _ _).symm

theorem ref4 : (dats m 0 c).arrAt 4 cfg0.N = Cert.PleBwdRef.refProj (arg1 m c) (arg3 m c) := by
  refine (dats m 0 c).arrAt_eq_of_covers 4 _ (by decide +kernel) fun t hf y => ?_
  have := point_lt t
  obtain ⟨r, q, rfl⟩ : ∃ (r : Fin 512) (q : Fin 1024), y = ix2 r q := ⟨y 0, y 1, by funext k; fin_cases k <;> rfl⟩
  have e : (win0_4.blk t).view.emb (ix2 r q) = ix2 ⟨512 * t.val + r.val, by omega⟩ q := by
    blk_ext [index4 t]
  have i0 (u : Fin cfg0.N) : iblk m c 0 u = ((cfg0.win 0).blk u).view.read (Elt Ideal) (rows (arg3 m c)) := by rw [← V_v0]; rfl
  have i1 (u : Fin cfg0.N) : iblk m c 1 u = ((cfg0.win 1).blk u).view.read (Elt Ideal) (rowsB (arg1 m c)) := by rw [← V_v2]; rfl
  have i2 (u : Fin cfg0.N) : iblk m c 2 u = ((cfg0.win 2).blk u).view.read (Elt Ideal) (rowsB (arg2 m c)) := by rw [← V_v4]; rfl
  blk_simp
  rw [after0_4, out4_eq, e, i0, i1]
  refine (proj_apply _ _ _ _).trans ?_
  simp only [block0 t t.val (by omega) rfl (rows (arg3 m c)), block1 t t.val (by omega) rfl (rowsB (arg1 m c)), rowsB_apply, rows_apply]
  exact (Cert.PleBwdRef.refProj_apply _ _ _ _).symm

end Cert.PleBwdArray

end
-- ==== Proof.LossLaws.lean ====
/- Hand-written. The loss and its cotangent over extended reals: the two ways of writing them agree. -/
module

public import proofs.«01_k».proof.Proof.NormLaws

@[expose] public section

noncomputable section

namespace Cert.Norm

open Idealize.ShloMosaic
open scoped BigOperators

/-- The half, the two and the reciprocal of the number of features, as the programs write them. -/
abbrev half : EReal := Ideal.ofBits .f32 0x3F000000#32
abbrev two : EReal := Ideal.ofBits .f32 0x40000000#32
abbrev invWidth : EReal := Ideal.ofBits .f32 0x3A800000#32

theorem half_eq : half = ((1 / 2 : ℝ) : EReal) := by
  simp [half, Ideal.ofBits, Ideal.ieee]
  rw [← EReal.coe_mul]
  norm_num

theorem two_eq : two = ((2 : ℝ) : EReal) := by
  simp [two, Ideal.ofBits, Ideal.ieee]
  rw [← EReal.coe_mul]
  norm_num

theorem invWidth_eq : invWidth = ((1 / 1024 : ℝ) : EReal) := by
  simp [invWidth, Ideal.ofBits, Ideal.ieee]
  rw [← EReal.coe_mul]
  norm_num

/-- The error at a row and a feature. -/
def errOf (x : Fin 8192 → Fin 1024 → EReal) (g : Fin 1024 → EReal) (y : Fin 8192 → Fin 1024 → EReal) (t : Fin 8192) (q : Fin 1024) : EReal :=
  x t q * rs (x t) * g q - y t q

/-- A row's mean of squared errors. -/
def rowLoss (e : Fin 1024 → EReal) : EReal := Ideal.div (∑ k, e k * e k) width

/-- Half the sum of the rows' means. -/
def lossOf (e : Fin 8192 → Fin 1024 → EReal) : EReal := half * ∑ t, rowLoss (e t)

/-- The cotangent of the normed rows. -/
theorem dy_eq (e : EReal) : Ideal.div (half * 1) width * (two * e) = e * invWidth := by
  rw [div_width, half_eq, two_eq, invWidth_eq, mul_one, ← mul_assoc, ← EReal.coe_mul, ← EReal.coe_mul, mul_comm]
  refine congrArg (fun z : ℝ => e * (z : EReal)) ?_
  norm_num

theorem half_sum {ι : Type*} (s : Finset ι) (f : ι → EReal) : ∑ k ∈ s, half * f k = half * ∑ k ∈ s, f k := by
  rw [half_eq, mul_comm _ (∑ k ∈ s, f k), ← sum_mul_coe _ _ _ (by norm_num)]
  exact Finset.sum_congr rfl fun _ _ => mul_comm _ _

end Cert.Norm

end
-- ==== Proof.LossRef.lean ====
/- Hand-written. The reference's loss and the last norm's backward, at an index. -/
module

public import proofs.«01_k».proof.Proof.LossLaws
public import proofs.«01_k».proof.Proof.NormLaws
public import proofs.«01_k».proof.Proof.Gen.RefLossIdeal.Run

@[expose] public section

noncomputable section

namespace Cert.LossRef

open Cert.RefLossIdeal Cert.RefLossIdeal.Gen Idealize.ShloMosaic Idealize.ShloMosaic.TcCoe
open Cert.Norm
open scoped BigOperators

/-- The mean of squares, the norm's factor and the gain along every row. -/
def var (x : FVec Ideal S1x8192x1024 .f32) : FVec Ideal S1x8192x1 .f32 :=
  addf (Host.divf (broadcastInDim S1x8192x1 ![0, 1] bcast_S1x8192_S1x8192x1_0_1 (Host.reduceAdd (mulf x x) (constant S_ .f32 0x00000000#32) reducesTo_S1x8192x1024_S1x8192_d2 h_S_))
    (broadcastInDim S1x8192x1 ![] bcast_S_S1x8192x1 (constant S_ .f32 0x44800000#32))) (broadcastInDim S1x8192x1 ![] bcast_S_S1x8192x1 (constant S_ .f32 0x358637BD#32))

def fac (x : FVec Ideal S1x8192x1024 .f32) : FVec Ideal S1x8192x1024 .f32 :=
  broadcastInDim S1x8192x1024 ![0, 1, 2] bcast_S1x8192x1_S1x8192x1024_0_1_2 (Host.rsqrt (var x))

def gain (g : FVec Ideal S1024 .f32) : FVec Ideal S1x8192x1024 .f32 :=
  broadcastInDim S1x8192x1024 ![0, 1, 2] bcast_S1x1x1024_S1x8192x1024_0_1_2 (broadcastInDim S1x1x1024 ![2] bcast_S1024_S1x1x1024_2 g)

theorem var_apply (x : FVec Ideal S1x8192x1024 .f32) (t : Fin 8192) : var x (ix3 0 t 0) = ms (fun k => x (ix3 0 t k)) := by
  unfold ms
  pointwise [var]

theorem fac_apply (x : FVec Ideal S1x8192x1024 .f32) (t : Fin 8192) (q : Fin 1024) : fac x (ix3 0 t q) = rs (fun k => x (ix3 0 t k)) := by
  unfold rs
  pointwise [fac, var_apply]

theorem gain_apply (g : FVec Ideal S1024 .f32) (t : Fin 8192) (q : Fin 1024) : gain g (ix3 0 t q) = g (ix1 q) := by
  pointwise [gain]

/-- What passes through the norm's factor, on every row. -/
def through (x u : FVec Ideal S1x8192x1024 .f32) : FVec Ideal S1x8192x1024 .f32 :=
  broadcastInDim S1x8192x1024 ![0, 1] bcast_S1x8192_S1x8192x1024_0_1 (broadcastInDim S1x8192 ![1] bcast_S8192_S1x8192_1 (Host.reduceAdd (Host.divf (mulf (shapeCast _
    (Host.reduceAdd (mulf x u) (constant S_ .f32 0x00000000#32) reducesTo_S1x8192x1024_S1x8192_d2 h_S_) shapeCasts_S1x8192_S1x8192x1)
    (mulf (broadcastInDim S1x8192x1 ![] bcast_S_S1x8192x1 (constant S_ .f32 0xBF000000#32)) (Host.divf (Host.rsqrt (var x)) (var x))))
    (broadcastInDim S1x8192x1 ![] bcast_S_S1x8192x1 (constant S_ .f32 0x44800000#32))) (constant S_ .f32 0x00000000#32) reducesTo_S1x8192x1_S8192_d0_2 h_S_))

theorem through_apply (x u : FVec Ideal S1x8192x1024 .f32) (t : Fin 8192) (q : Fin 1024) :
    through x u (ix3 0 t q) = thru (fun k => x (ix3 0 t k)) (fun k => u (ix3 0 t k)) := by
  unfold thru rs
  pointwise [through, var_apply]
  refine (reduce02 _ _ _ _).trans ?_
  pointwise [var_apply]

/-- The error, and the cotangent of the normed rows. -/
def err (x : FVec Ideal S1x8192x1024 .f32) (g : FVec Ideal S1024 .f32) (y : FVec Ideal S1x8192x1024 .f32) : FVec Ideal S1x8192x1024 .f32 := subf (mulf (mulf x (fac x)) (gain g)) y

def dy (x : FVec Ideal S1x8192x1024 .f32) (g : FVec Ideal S1024 .f32) (y : FVec Ideal S1x8192x1024 .f32) : FVec Ideal S1x8192x1024 .f32 :=
  mulf (broadcastInDim S1x8192x1024 ![0, 1] bcast_S1x8192_S1x8192x1024_0_1 (Host.divf (broadcastInDim S1x8192 ![] bcast_S_S1x8192 (mulf (constant S_ .f32 0x3F000000#32) (constant S_ .f32 0x3F800000#32)))
    (broadcastInDim S1x8192 ![] bcast_S_S1x8192 (constant S_ .f32 0x44800000#32)))) (mulf (broadcastInDim S1x8192x1024 ![] bcast_S_S1x8192x1024 (constant S_ .f32 0x40000000#32)) (err x g y))

theorem err_apply (x : FVec Ideal S1x8192x1024 .f32) (g : FVec Ideal S1024 .f32) (y : FVec Ideal S1x8192x1024 .f32) (t : Fin 8192) (q : Fin 1024) :
    err x g y (ix3 0 t q) = errOf (fun t q => x (ix3 0 t q)) (fun q => g (ix1 q)) (fun t q => y (ix3 0 t q)) t q := by
  unfold errOf
  pointwise [err, fac_apply, gain_apply]

theorem dy_apply (x : FVec Ideal S1x8192x1024 .f32) (g : FVec Ideal S1024 .f32) (y : FVec Ideal S1x8192x1024 .f32) (t : Fin 8192) (q : Fin 1024) :
    dy x g y (ix3 0 t q) = errOf (fun t q => x (ix3 0 t q)) (fun q => g (ix1 q)) (fun t q => y (ix3 0 t q)) t q * invWidth := by
  rw [← dy_eq]
  pointwise [dy, err_apply]

/-- The stream's gradient. -/
def refDh (x : FVec Ideal S1x8192x1024 .f32) (g : FVec Ideal S1024 .f32) (d : FVec Ideal S1x8192x1024 .f32) : FVec Ideal S8192x1024 .f32 :=
  shapeCast _ (addf (addf (mulf (mulf d (gain g)) (fac x)) (mulf x (through x (mulf d (gain g))))) (mulf (through x (mulf d (gain g))) x))
    shapeCasts_S1x8192x1024_S8192x1024

theorem refDh_apply (x : FVec Ideal S1x8192x1024 .f32) (g : FVec Ideal S1024 .f32) (d : FVec Ideal S1x8192x1024 .f32) (t : Fin 8192) (q : Fin 1024) :
    refDh x g d (ix2 t q) = dxK (fun k => x (ix3 0 t k)) (fun k => d (ix3 0 t k) * g (ix1 k)) q := by
  rw [dx_eq, ← add_assoc]
  have hu : (fun k => mulf d (gain g) (ix3 0 t k)) = fun k => d (ix3 0 t k) * g (ix1 k) := by
    funext k
    pointwise [gain_apply]
  have ht : through x (mulf d (gain g)) (ix3 0 t q) = thru (fun k => x (ix3 0 t k)) (fun k => d (ix3 0 t k) * g (ix1 k)) := by
    rw [through_apply, hu]
  pointwise [refDh, gain_apply, fac_apply, ht]

/-- The loss, in every lane. -/
def refLoss (x : FVec Ideal S1x8192x1024 .f32) (g : FVec Ideal S1024 .f32) (y : FVec Ideal S1x8192x1024 .f32) : FVec Ideal S1x128 .f32 :=
  broadcastInDim S1x128 ![] bcast_S_S1x128 (mulf (constant S_ .f32 0x3F000000#32) (Host.reduceAdd (Host.divf (Host.reduceAdd (mulf (err x g y) (err x g y)) (constant S_ .f32 0x00000000#32)
    reducesTo_S1x8192x1024_S1x8192_d2 h_S_) (broadcastInDim S1x8192 ![] bcast_S_S1x8192 (constant S_ .f32 0x44800000#32))) (constant S_ .f32 0x00000000#32) reducesTo_S1x8192_S_d0_1 h_S_))

theorem refLoss_apply (x : FVec Ideal S1x8192x1024 .f32) (g : FVec Ideal S1024 .f32) (y : FVec Ideal S1x8192x1024 .f32) (z : Fin 1) (l : Fin 128) :
    refLoss x g y (ix2 z l) = lossOf (errOf (fun t q => x (ix3 0 t q)) (fun q => g (ix1 q)) (fun t q => y (ix3 0 t q))) := by
  unfold lossOf rowLoss
  pointwise [refLoss, err_apply]
  exact congrArg (half * ·) (Fin.sum_univ_one _)

/-- The gain's gradient. -/
def refDg (x d : FVec Ideal S1x8192x1024 .f32) : FVec Ideal S1x1024 .f32 :=
  shapeCast _ (Host.reduceAdd (shapeCast _ (Host.reduceAdd (mulf (mulf x (fac x)) d) (constant S_ .f32 0x00000000#32) reducesTo_S1x8192x1024_S1x1024_d1 h_S_)
    shapeCasts_S1x1024_S1x1x1024) (constant S_ .f32 0x00000000#32) reducesTo_S1x1x1024_S1024_d0_1 h_S_) shapeCasts_S1024_S1x1024

theorem refDg_apply (x d : FVec Ideal S1x8192x1024 .f32) (z : Fin 1) (q : Fin 1024) :
    refDg x d (ix2 z q) = dgOf (fun t q => x (ix3 0 t q)) (fun t q => d (ix3 0 t q)) q := by
  rw [← dg_eq]
  pointwise [refDg, fac_apply]
  refine (reduce01 _ _ _ _).trans ?_
  pointwise [fac_apply]

end Cert.LossRef

end
-- ==== Proof.Loss.lean ====
/- Hand-written. The loss and the last norm's backward: what the kernel's grid leaves, and that it is the reference's arrays. -/
module

public import proofs.«01_k».proof.Proof.LossRef
public import proofs.«01_k».proof.Proof.Gen.LossIdeal.Value
public import Idealize.ShloMosaic.Lib.Pipeline.ValueKit.Point
public import Idealize.ShloMosaic.Lib.Pipeline.ValueKit.Acc
public import Idealize.ShloMosaic.Lib.Pointwise

@[expose] public section

noncomputable section

namespace Cert.LossArray

open Cert.LossIdeal Cert.LossIdeal.Gen Idealize.ShloMosaic Idealize.ShloMosaic.TcCoe
open Cert.Norm
open scoped BigOperators

/-- The error, the loss, the stream's gradient and the gain's gradient over the 8192 rows. -/
def errArr (x : Vec Ideal S8192x1024 .f32) (g : Vec Ideal S1x1024 .f32) (y : Vec Ideal S8192x1024 .f32) (t : Fin 8192) (q : Fin 1024) : EReal := x (ix2 t q) * rs (fun k => x (ix2 t k)) * g (ix2 0 q) - y (ix2 t q)

def lossArr (x : Vec Ideal S8192x1024 .f32) (g : Vec Ideal S1x1024 .f32) (y : Vec Ideal S8192x1024 .f32) : Vec Ideal S1x128 .f32 := fun _ => lossOf (errArr x g y)

def dhArr (x : Vec Ideal S8192x1024 .f32) (g : Vec Ideal S1x1024 .f32) (y : Vec Ideal S8192x1024 .f32) : Vec Ideal S8192x1024 .f32 :=
  fun i => dxK (fun k => x (ix2 (i 0) k)) (fun k => errArr x g y (i 0) k * invWidth * g (ix2 0 k)) (i 1)

def dgArr (x : Vec Ideal S8192x1024 .f32) (g : Vec Ideal S1x1024 .f32) (y : Vec Ideal S8192x1024 .f32) : Vec Ideal S1x1024 .f32 :=
  fun i => dgOf (fun t q => x (ix2 t q)) (fun t q => errArr x g y t q * invWidth) (i 1)

/-! ### One block -/

/-- A block's error. -/
def errB (x : Vec Ideal S512x1024 .f32) (g : Vec Ideal S1x1024 .f32) (y : Vec Ideal S512x1024 .f32) (r : Fin 512) (q : Fin 1024) : EReal := x (ix2 r q) * rs (fun k => x (ix2 r k)) * g (ix2 0 q) - y (ix2 r q)

theorem rs_apply (v : Vec Ideal S512x1024 .f32) (r : Fin 512) (z : Fin 1) : k0_pay5 v (ix2 r z) = rs (fun k => v (ix2 r k)) := by
  unfold rs ms
  pointwise [k0_pay5, k0_pay3]

theorem xr_apply (v : Vec Ideal S512x1024 .f32) (r : Fin 512) (q : Fin 1024) : k0_pay6 v (ix2 r q) = v (ix2 r q) * rs (fun k => v (ix2 r k)) := by
  pointwise [k0_pay6, k0_pay3, rs_apply]

theorem err_apply (x : Vec Ideal S512x1024 .f32) (g : Vec Ideal S1x1024 .f32) (y : Vec Ideal S512x1024 .f32) (r : Fin 512) (q : Fin 1024) : k0_pay7 x g y (ix2 r q) = errB x g y r q := by
  unfold errB
  pointwise [k0_pay7, k0_pay4, xr_apply]

theorem dy_apply (x : Vec Ideal S512x1024 .f32) (g : Vec Ideal S1x1024 .f32) (y : Vec Ideal S512x1024 .f32) (r : Fin 512) (q : Fin 1024) : k0_pay8 x g y (ix2 r q) = errB x g y r q * invWidth := by
  pointwise [k0_pay8, err_apply]

theorem dx_apply (x : Vec Ideal S512x1024 .f32) (g : Vec Ideal S1x1024 .f32) (y : Vec Ideal S512x1024 .f32) (r : Fin 512) (q : Fin 1024) :
    k0_pay9 x g y (ix2 r q) = dxK (fun k => x (ix2 r k)) (fun k => errB x g y r k * invWidth * g (ix2 0 k)) q := by
  unfold dxK
  pointwise [k0_pay9, k0_pay4, rs_apply, xr_apply, dy_apply]

/-- One block's part of the gain's gradient, and of the loss. -/
def part (x : Vec Ideal S512x1024 .f32) (g : Vec Ideal S1x1024 .f32) (y : Vec Ideal S512x1024 .f32) (j : S1x1024.Idx) : EReal :=
  ∑ k : Fin 512, errB x g y k (j 1) * invWidth * (x (ix2 k (j 1)) * rs (fun l => x (ix2 k l)))

theorem part_apply (x : Vec Ideal S512x1024 .f32) (g : Vec Ideal S1x1024 .f32) (y : Vec Ideal S512x1024 .f32) (r : Fin 1) (q : Fin 1024) :
    part x g y (ix2 r q) = ∑ k : Fin 512, errB x g y k q * invWidth * (x (ix2 k q) * rs (fun l => x (ix2 k l))) := rfl

def lossPart (x : Vec Ideal S512x1024 .f32) (g : Vec Ideal S1x1024 .f32) (y : Vec Ideal S512x1024 .f32) (_ : S1x128.Idx) : EReal := half * ∑ k : Fin 512, rowLoss (errB x g y k)

theorem dg_apply (x : Vec Ideal S512x1024 .f32) (g : Vec Ideal S1x1024 .f32) (y : Vec Ideal S512x1024 .f32) (z : Vec Ideal S1x1024 .f32) (j : S1x1024.Idx) :
    k0_pay1 (k0_pay6 x) (k0_pay8 x g y) (k0_pay12 z) j = z j + part x g y j := by
  obtain ⟨r, q, rfl⟩ : ∃ (r : Fin 1) (q : Fin 1024), j = ix2 r q := ⟨j 0, j 1, by funext k; fin_cases k <;> rfl⟩
  unfold part
  pointwise [k0_pay1, k0_pay12, dy_apply, xr_apply]

theorem loss_apply (x : Vec Ideal S512x1024 .f32) (g : Vec Ideal S1x1024 .f32) (y : Vec Ideal S512x1024 .f32) (z : Vec Ideal S1x128 .f32) (j : S1x128.Idx) :
    k0_pay2 (k0_pay7 x g y) z j = z j + lossPart x g y j := by
  obtain ⟨r, q, rfl⟩ : ∃ (r : Fin 1) (q : Fin 128), j = ix2 r q := ⟨j 0, j 1, by funext k; fin_cases k <;> rfl⟩
  unfold lossPart rowLoss
  pointwise [k0_pay2, err_apply]

theorem zero_apply (j : S1x1024.Idx) : k0_pay10 (F := Ideal) j = 0 := by
  pointwise [k0_pay10]

theorem zeroLoss_apply (j : S1x128.Idx) : k0_pay11 (F := Ideal) j = 0 := by
  pointwise [k0_pay11]

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem index3 : ∀ t : Fin cfg0.N, win0_3.index t = ![0, 0] :=
  (by decide +kernel : ∀ t : Fin grid0.N, win0_3.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![0, 0] :=
  (by decide +kernel : ∀ t : Fin grid0.N, win0_5.index t = ![0, 0])

theorem point_lt (t : Fin cfg0.N) : t.val < 16 := lt_of_lt_of_eq t.isLt N_0

theorem step_lt (s : Fin 16) : s.val < cfg0.N := lt_of_lt_of_eq s.isLt N_0.symm

theorem block0 (t : Fin cfg0.N) (i : Nat) (hi : i < 16) (ht : t.val = i) (A : Vec Ideal S8192x1024 .f32) (r : Fin 512) (l : Fin 1024) :
    ((cfg0.win 0).blk t).view.read (Elt Ideal) A (ix2 r l) = A (ix2 ⟨512 * i + r, by omega⟩ l) := by
  blk_simp
  refine congrArg A ?_
  blk_ext [index0 t, ht]

theorem block1 (t : Fin cfg0.N) (A : Vec Ideal S1x1024 .f32) (l : Fin 1024) :
    ((cfg0.win 1).blk t).view.read (Elt Ideal) A (ix2 0 l) = A (ix2 0 l) := by
  blk_simp
  refine congrArg A ?_
  blk_ext [index1 t]

theorem block2 (t : Fin cfg0.N) (i : Nat) (hi : i < 16) (ht : t.val = i) (A : Vec Ideal S8192x1024 .f32) (r : Fin 512) (l : Fin 1024) :
    ((cfg0.win 2).blk t).view.read (Elt Ideal) A (ix2 r l) = A (ix2 ⟨512 * i + r, by omega⟩ l) := by
  blk_simp
  refine congrArg A ?_
  blk_ext [index2 t, ht]

theorem errB_args {a a' : EReal} {u u' : Fin 1024 → EReal} {b b' d d' : EReal} (h1 : a = a') (h2 : u = u') (h3 : b = b') (h4 : d = d') :
    a * rs u * b - d = a' * rs u' * b' - d' := by
  subst h1 h2 h3 h4
  rfl

/-- A block's error is the array's. -/
theorem errB_eq (t : Fin cfg0.N) (i : Nat) (hi : i < 16) (ht : t.val = i) (x : Vec Ideal S8192x1024 .f32) (g : Vec Ideal S1x1024 .f32) (y : Vec Ideal S8192x1024 .f32) (r : Fin 512) (q : Fin 1024) :
    errB (((cfg0.win 0).blk t).view.read (Elt Ideal) x) (((cfg0.win 1).blk t).view.read (Elt Ideal) g) (((cfg0.win 2).blk t).view.read (Elt Ideal) y) r q = errArr x g y ⟨512 * i + r, by omega⟩ q := by
  unfold errB errArr
  exact errB_args (block0 t i hi ht x r q) (funext fun k => block0 t i hi ht x r k) (block1 t g q) (block2 t i hi ht y r q)

/-- The blocks' parts, together: the sums over all rows. -/
theorem sum_parts (x : Vec Ideal S8192x1024 .f32) (g : Vec Ideal S1x1024 .f32) (y : Vec Ideal S8192x1024 .f32) (r : Fin 1) (q : Fin 1024) :
    (∑ s : Fin 16, part (((cfg0.win 0).blk ⟨s, step_lt s⟩).view.read (Elt Ideal) x) (((cfg0.win 1).blk ⟨s, step_lt s⟩).view.read (Elt Ideal) g) (((cfg0.win 2).blk ⟨s, step_lt s⟩).view.read (Elt Ideal) y) (ix2 r q) : EReal) = dgArr x g y (ix2 r q) := by
  refine Eq.trans (Finset.sum_congr rfl fun s _ => (part_apply _ _ _ r q).trans (Finset.sum_congr rfl fun k _ => ?_)) (Fin.sum_mul_add_fin 16 512 (L := 8192)
    (fun l => (errArr x g y l q * invWidth * (x (ix2 l q) * rs (fun k => x (ix2 l k))) : EReal)))
  simp only [errB_eq ⟨s.val, step_lt s⟩ s.val s.isLt rfl x g y, block0 ⟨s.val, step_lt s⟩ s.val s.isLt rfl x, mul_comm 512 s.val]

theorem sum_loss (x : Vec Ideal S8192x1024 .f32) (g : Vec Ideal S1x1024 .f32) (y : Vec Ideal S8192x1024 .f32) (j : S1x128.Idx) :
    (∑ s : Fin 16, lossPart (((cfg0.win 0).blk ⟨s, step_lt s⟩).view.read (Elt Ideal) x) (((cfg0.win 1).blk ⟨s, step_lt s⟩).view.read (Elt Ideal) g) (((cfg0.win 2).blk ⟨s, step_lt s⟩).view.read (Elt Ideal) y) j : EReal) = lossArr x g y j := by
  unfold lossPart lossArr lossOf
  rw [half_sum]
  refine congrArg (half * ·) ?_
  refine Eq.trans (Finset.sum_congr rfl fun s _ => Finset.sum_congr rfl fun k _ => ?_) (Fin.sum_mul_add_fin 16 512 (L := 8192)
    (fun l => (rowLoss (errArr x g y l) : EReal)))
  refine congrArg rowLoss (funext fun q => ?_)
  simp only [errB_eq ⟨s.val, step_lt s⟩ s.val s.isLt rfl x g y, mul_comm 512 s.val]

section Grid

variable (m : (ℓ : Loc nD τ sig) → Buf (Elt Ideal) ℓ) (c : Dev nD)

theorem outs4 (t : Fin cfg0.N) : (outsAt0 m c t.val t.isLt).2.1 = k0_pay9 (iblk m c 0 t) (iblk m c 1 t) (iblk m c 2 t) := by
  funext j
  by_cases h0 : t.val % 16 = 0
  · rw [outsAt0_A m c t h0]
    frame_out
  · rw [outsAt0_B m c t h0]
    frame_out

/-- After the last point the accumulated rows are the sums over the points. -/
theorem outs5 (t : Fin cfg0.N) (ht : t.val % 16 = 15) (j : S1x1024.Idx) :
    (outsAt0 m c t.val t.isLt).2.2 j = ∑ s : Fin 16, part (iblk m c 0 ⟨s, step_lt s⟩) (iblk m c 1 ⟨s, step_lt s⟩) (iblk m c 2 ⟨s, step_lt s⟩) j := by
  have hl := point_lt t
  rw [Pipeline.eq_sum_fin_of_reset_step_apply_of_flush (fun n h => (outsAt0 m c n h).2.2) 16 (fun _ => 0)
    (fun t j => part (iblk m c 0 t) (iblk m c 1 t) (iblk m c 2 t) j)
    (fun t h j => by rw [outsAt0_A m c t h]; frame_out; exact (dg_apply _ _ _ _ _).trans (congrArg (· + _) (zero_apply _)))
    (fun t h j => by rw [outsAt0_B m c t h]; frame_out; exact dg_apply _ _ _ _ _) t ht j, zero_add]
  refine Finset.sum_congr rfl fun s _ => ?_
  refine congrArg (fun u => part (iblk m c 0 u) (iblk m c 1 u) (iblk m c 2 u) j) (Fin.ext ?_)
  show 16 * (t.val / 16) + s.val = s.val
  omega

theorem outs3 (t : Fin cfg0.N) (ht : t.val % 16 = 15) (j : S1x128.Idx) :
    (outsAt0 m c t.val t.isLt).1 j = ∑ s : Fin 16, lossPart (iblk m c 0 ⟨s, step_lt s⟩) (iblk m c 1 ⟨s, step_lt s⟩) (iblk m c 2 ⟨s, step_lt s⟩) j := by
  have hl := point_lt t
  rw [Pipeline.eq_sum_fin_of_reset_step_apply_of_flush (fun n h => (outsAt0 m c n h).1) 16 (fun _ => 0)
    (fun t j => lossPart (iblk m c 0 t) (iblk m c 1 t) (iblk m c 2 t) j)
    (fun t h j => by rw [outsAt0_A m c t h]; frame_out; exact (loss_apply _ _ _ _ _).trans (congrArg (· + _) (zeroLoss_apply _)))
    (fun t h j => by rw [outsAt0_B m c t h]; frame_out; exact loss_apply _ _ _ _ _) t ht j, zero_add]
  refine Finset.sum_congr rfl fun s _ => ?_
  refine congrArg (fun u => lossPart (iblk m c 0 u) (iblk m c 1 u) (iblk m c 2 u) j) (Fin.ext ?_)
  show 16 * (t.val / 16) + s.val = s.val
  omega

theorem final4 (x : Vec Ideal S8192x1024 .f32) (g : Vec Ideal S1x1024 .f32) (y : Vec Ideal S8192x1024 .f32) (hx : V m c main_v0 = x) (hg : V m c main_v1 = g) (hy : V m c main_v2 = y) : (dats m 0 c).arrAt 4 cfg0.N = dhArr x g y := by
  refine (dats m 0 c).arrAt_eq_of_covers 4 _ (by decide +kernel) fun t hf z => ?_
  have := point_lt t
  obtain ⟨r, q, rfl⟩ : ∃ (r : Fin 512) (q : Fin 1024), z = ix2 r q := ⟨z 0, z 1, by funext k; fin_cases k <;> rfl⟩
  have e : (win0_4.blk t).view.emb (ix2 r q) = ix2 ⟨512 * t.val + r.val, by omega⟩ q := by
    blk_ext [index4 t]
  have i0 (u : Fin cfg0.N) : iblk m c 0 u = ((cfg0.win 0).blk u).view.read (Elt Ideal) x := by rw [← hx]; rfl
  have i1 (u : Fin cfg0.N) : iblk m c 1 u = ((cfg0.win 1).blk u).view.read (Elt Ideal) g := by rw [← hg]; rfl
  have i2 (u : Fin cfg0.N) : iblk m c 2 u = ((cfg0.win 2).blk u).view.read (Elt Ideal) y := by rw [← hy]; rfl
  blk_simp
  rw [after0_4, outs4 m c t, e, i0, i1, i2]
  refine (dx_apply _ _ _ _ _).trans ?_
  simp only [errB_eq t t.val (by omega) rfl x g y, block0 t t.val (by omega) rfl x, block1 t g]
  rfl

theorem final5 (x : Vec Ideal S8192x1024 .f32) (g : Vec Ideal S1x1024 .f32) (y : Vec Ideal S8192x1024 .f32) (hx : V m c main_v0 = x) (hg : V m c main_v1 = g) (hy : V m c main_v2 = y) : (dats m 0 c).arrAt 5 cfg0.N = dgArr x g y := by
  refine (dats m 0 c).arrAt_eq_of_covers 5 _ (by decide +kernel) fun t hf z => ?_
  have := point_lt t
  obtain ⟨r, q, rfl⟩ : ∃ (r : Fin 1) (q : Fin 1024), z = ix2 r q := ⟨z 0, z 1, by funext k; fin_cases k <;> rfl⟩
  have e : (win0_5.blk t).view.emb (ix2 r q) = ix2 r q := by
    blk_ext [index5 t]
  have i0 (u : Fin cfg0.N) : iblk m c 0 u = ((cfg0.win 0).blk u).view.read (Elt Ideal) x := by rw [← hx]; rfl
  have i1 (u : Fin cfg0.N) : iblk m c 1 u = ((cfg0.win 1).blk u).view.read (Elt Ideal) g := by rw [← hg]; rfl
  have i2 (u : Fin cfg0.N) : iblk m c 2 u = ((cfg0.win 2).blk u).view.read (Elt Ideal) y := by rw [← hy]; rfl
  blk_simp
  rw [after0_5, outs5 m c t ((flush0_5 t).mp hf), e]
  simp only [i0, i1, i2]
  exact sum_parts x g y r q

theorem final3 (x : Vec Ideal S8192x1024 .f32) (g : Vec Ideal S1x1024 .f32) (y : Vec Ideal S8192x1024 .f32) (hx : V m c main_v0 = x) (hg : V m c main_v1 = g) (hy : V m c main_v2 = y) : (dats m 0 c).arrAt 3 cfg0.N = lossArr x g y := by
  refine (dats m 0 c).arrAt_eq_of_covers 3 _ (by decide +kernel) fun t hf z => ?_
  have := point_lt t
  obtain ⟨r, q, rfl⟩ : ∃ (r : Fin 1) (q : Fin 128), z = ix2 r q := ⟨z 0, z 1, by funext k; fin_cases k <;> rfl⟩
  have e : (win0_3.blk t).view.emb (ix2 r q) = ix2 r q := by
    blk_ext [index3 t]
  have i0 (u : Fin cfg0.N) : iblk m c 0 u = ((cfg0.win 0).blk u).view.read (Elt Ideal) x := by rw [← hx]; rfl
  have i1 (u : Fin cfg0.N) : iblk m c 1 u = ((cfg0.win 1).blk u).view.read (Elt Ideal) g := by rw [← hg]; rfl
  have i2 (u : Fin cfg0.N) : iblk m c 2 u = ((cfg0.win 2).blk u).view.read (Elt Ideal) y := by rw [← hy]; rfl
  blk_simp
  rw [after0_3, outs3 m c t ((flush0_3 t).mp hf), e]
  simp only [i0, i1, i2]
  exact sum_loss x g y (ix2 r q)

end Grid

/-! ### The operands and the reference -/

/-- An array's 8192 rows. -/
def rows (x : FVec Ideal S1x8192x1024 .f32) : FVec Ideal S8192x1024 .f32 := shapeCast _ x shapeCasts_S1x8192x1024_S8192x1024

theorem rows_apply (x : FVec Ideal S1x8192x1024 .f32) (t : Fin 8192) (l : Fin 1024) : rows x (ix2 t l) = x (ix3 0 t l) := by
  pointwise [rows]

/-- The gain as a row. -/
def gRow (g : FVec Ideal S1024 .f32) : FVec Ideal S1x1024 .f32 := broadcastInDim S1x1024 ![1] bcast_S1024_S1x1024_1 g

theorem gRow_apply (g : FVec Ideal S1024 .f32) (l : Fin 1024) : gRow g (ix2 0 l) = g (ix1 l) := by
  pointwise [gRow]

theorem errArr_eq (x : FVec Ideal S1x8192x1024 .f32) (g : FVec Ideal S1024 .f32) (y : FVec Ideal S1x8192x1024 .f32) : errArr (rows x) (gRow g) (rows y) = errOf (fun t q => x (ix3 0 t q)) (fun q => g (ix1 q)) (fun t q => y (ix3 0 t q)) := by
  funext t q
  unfold errArr errOf
  simp only [rows_apply, gRow_apply]

theorem loss_eq (x : FVec Ideal S1x8192x1024 .f32) (g : FVec Ideal S1024 .f32) (y : FVec Ideal S1x8192x1024 .f32) : lossArr (rows x) (gRow g) (rows y) = Cert.LossRef.refLoss x g y := by
  funext i
  obtain ⟨t, q, rfl⟩ : ∃ (t : Fin 1) (q : Fin 128), i = ix2 t q := ⟨i 0, i 1, by funext k; fin_cases k <;> rfl⟩
  refine Eq.trans ?_ (Cert.LossRef.refLoss_apply x g y t q).symm
  unfold lossArr
  rw [errArr_eq]

theorem refDh_eq (x : FVec Ideal S1x8192x1024 .f32) (g : FVec Ideal S1024 .f32) (y : FVec Ideal S1x8192x1024 .f32) : dhArr (rows x) (gRow g) (rows y) = Cert.LossRef.refDh x g (Cert.LossRef.dy x g y) := by
  funext i
  obtain ⟨t, q, rfl⟩ : ∃ (t : Fin 8192) (q : Fin 1024), i = ix2 t q := ⟨i 0, i 1, by funext k; fin_cases k <;> rfl⟩
  refine Eq.trans ?_ (Cert.LossRef.refDh_apply x g _ t q).symm
  show dxK (fun k => rows x (ix2 t k)) (fun k => errArr (rows x) (gRow g) (rows y) t k * invWidth * gRow g (ix2 0 k)) q = _
  simp only [errArr_eq, rows_apply, gRow_apply, Cert.LossRef.dy_apply]

theorem refDg_eq (x : FVec Ideal S1x8192x1024 .f32) (g : FVec Ideal S1024 .f32) (y : FVec Ideal S1x8192x1024 .f32) : dgArr (rows x) (gRow g) (rows y) = Cert.LossRef.refDg x (Cert.LossRef.dy x g y) := by
  funext i
  obtain ⟨t, q, rfl⟩ : ∃ (t : Fin 1) (q : Fin 1024), i = ix2 t q := ⟨i 0, i 1, by funext k; fin_cases k <;> rfl⟩
  refine Eq.trans ?_ (Cert.LossRef.refDg_apply x _ t q).symm
  unfold dgArr
  simp only [errArr_eq, rows_apply, Cert.LossRef.dy_apply]
  rfl

variable (m : (ℓ : Loc nD τ sig) → Buf (Elt Ideal) ℓ) (c : Dev nD)

abbrev arg0 : FVec Ideal S1x8192x1024 .f32 := m ((c : Thread nD τ).loc main_arg0)
abbrev arg1 : FVec Ideal S1024 .f32 := m ((c : Thread nD τ).loc main_arg1)
abbrev arg2 : FVec Ideal S1x8192x1024 .f32 := m ((c : Thread nD τ).loc main_arg2)

theorem V_v0 : V m c main_v0 = rows (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v1 : V m c main_v1 = gRow (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = rows (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem ref3 : (dats m 0 c).arrAt 3 cfg0.N = Cert.LossRef.refLoss (arg0 m c) (arg1 m c) (arg2 m c) :=
  (final3 m c _ _ _ (V_v0 m c) (V_v1 m c) (V_v2 m c)).trans (loss_eq _ _ _)

theorem ref4 : (dats m 0 c).arrAt 4 cfg0.N = Cert.LossRef.refDh (arg0 m c) (arg1 m c) (Cert.LossRef.dy (arg0 m c) (arg1 m c) (arg2 m c)) :=
  (final4 m c _ _ _ (V_v0 m c) (V_v1 m c) (V_v2 m c)).trans (refDh_eq _ _ _)

theorem ref5 : (dats m 0 c).arrAt 5 cfg0.N = Cert.LossRef.refDg (arg0 m c) (Cert.LossRef.dy (arg0 m c) (arg1 m c) (arg2 m c)) :=
  (final5 m c _ _ _ (V_v0 m c) (V_v1 m c) (V_v2 m c)).trans (refDg_eq _ _ _)

end Cert.LossArray

end
-- ==== Proof.RmsFwdRef.lean ====
/- Hand-written. The reference's norm, at an index. -/
module

public import proofs.«01_k».proof.Proof.NormLaws
public import proofs.«01_k».proof.Proof.Gen.RefRmsFwdIdeal.Run

@[expose] public section

noncomputable section

namespace Cert.RmsFwdRef

open Cert.RefRmsFwdIdeal Cert.RefRmsFwdIdeal.Gen Idealize.ShloMosaic Idealize.ShloMosaic.TcCoe
open Cert.Norm
open scoped BigOperators

/-- The mean of squares, the norm's factor and the gain along every row. -/
def var (x : FVec Ideal S1x8192x1024 .f32) : FVec Ideal S1x8192x1 .f32 :=
  addf (Host.divf (broadcastInDim S1x8192x1 ![0, 1] bcast_S1x8192_S1x8192x1_0_1 (Host.reduceAdd (mulf x x) (constant S_ .f32 0x00000000#32) reducesTo_S1x8192x1024_S1x8192_d2 h_S_))
    (broadcastInDim S1x8192x1 ![] bcast_S_S1x8192x1 (constant S_ .f32 0x44800000#32))) (broadcastInDim S1x8192x1 ![] bcast_S_S1x8192x1 (constant S_ .f32 0x358637BD#32))

def fac (x : FVec Ideal S1x8192x1024 .f32) : FVec Ideal S1x8192x1024 .f32 :=
  broadcastInDim S1x8192x1024 ![0, 1, 2] bcast_S1x8192x1_S1x8192x1024_0_1_2 (Host.rsqrt (var x))

def gain (g : FVec Ideal S1024 .f32) : FVec Ideal S1x8192x1024 .f32 :=
  broadcastInDim S1x8192x1024 ![0, 1, 2] bcast_S1x1x1024_S1x8192x1024_0_1_2 (broadcastInDim S1x1x1024 ![2] bcast_S1024_S1x1x1024_2 g)

theorem var_apply (x : FVec Ideal S1x8192x1024 .f32) (t : Fin 8192) : var x (ix3 0 t 0) = ms (fun k => x (ix3 0 t k)) := by
  unfold ms
  pointwise [var]

theorem fac_apply (x : FVec Ideal S1x8192x1024 .f32) (t : Fin 8192) (q : Fin 1024) : fac x (ix3 0 t q) = rs (fun k => x (ix3 0 t k)) := by
  unfold rs
  pointwise [fac, var_apply]

theorem gain_apply (g : FVec Ideal S1024 .f32) (t : Fin 8192) (q : Fin 1024) : gain g (ix3 0 t q) = g (ix1 q) := by
  pointwise [gain]

/-- The normed rows, in bf16. -/
def refNorm (x : FVec Ideal S1x8192x1024 .f32) (g : FVec Ideal S1024 .f32) : FVec Ideal S8192x1024 .bf16 :=
  truncf .bf16 (shapeCast _ (mulf (mulf x (fac x)) (gain g)) shapeCasts_S1x8192x1024_S8192x1024) bitsLt_bf16_f32

theorem refNorm_apply (x : FVec Ideal S1x8192x1024 .f32) (g : FVec Ideal S1024 .f32) (t : Fin 8192) (q : Fin 1024) :
    refNorm x g (ix2 t q) = x (ix3 0 t q) * rs (fun k => x (ix3 0 t k)) * g (ix1 q) := by
  pointwise [refNorm, fac_apply, gain_apply]

end Cert.RmsFwdRef

end
-- ==== Proof.RmsFwd.lean ====
/- Hand-written. The first norm: what the kernel's grid leaves is the reference's array. -/
module

public import proofs.«01_k».proof.Proof.RmsFwdRef
public import proofs.«01_k».proof.Proof.Gen.RmsFwdIdeal.Value
public import Idealize.ShloMosaic.Lib.Pipeline.ValueKit.Point
public import Idealize.ShloMosaic.Lib.Pipeline.ValueKit.Acc
public import Idealize.ShloMosaic.Lib.Pointwise

@[expose] public section

noncomputable section

namespace Cert.RmsFwdArray

open Cert.RmsFwdIdeal Cert.RmsFwdIdeal.Gen Idealize.ShloMosaic Idealize.ShloMosaic.TcCoe
open Cert.Norm
open scoped BigOperators

theorem norm_apply (v : Vec Ideal S512x1024 .f32) (g : Vec Ideal S1x1024 .f32) (r : Fin 512) (q : Fin 1024) :
    k0_pay1 v g (ix2 r q) = v (ix2 r q) * rs (fun k => v (ix2 r k)) * g (ix2 0 q) := by
  unfold rs ms
  pointwise [k0_pay1]

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

theorem point_lt (t : Fin cfg0.N) : t.val < 16 := lt_of_lt_of_eq t.isLt N_0

theorem block0 (t : Fin cfg0.N) (i : Nat) (hi : i < 16) (ht : t.val = i) (A : Vec Ideal S8192x1024 .f32) (r : Fin 512) (l : Fin 1024) :
    ((cfg0.win 0).blk t).view.read (Elt Ideal) A (ix2 r l) = A (ix2 ⟨512 * i + r, by omega⟩ l) := by
  blk_simp
  refine congrArg A ?_
  blk_ext [index0 t, ht]

theorem block1 (t : Fin cfg0.N) (A : Vec Ideal S1x1024 .f32) (l : Fin 1024) :
    ((cfg0.win 1).blk t).view.read (Elt Ideal) A (ix2 0 l) = A (ix2 0 l) := by
  blk_simp
  refine congrArg A ?_
  blk_ext [index1 t]

/-- An array's 8192 rows. -/
def rows (x : FVec Ideal S1x8192x1024 .f32) : FVec Ideal S8192x1024 .f32 := shapeCast _ x shapeCasts_S1x8192x1024_S8192x1024

theorem rows_apply (x : FVec Ideal S1x8192x1024 .f32) (t : Fin 8192) (l : Fin 1024) : rows x (ix2 t l) = x (ix3 0 t l) := by
  pointwise [rows]

/-- The gain as a row. -/
def gRow (g : FVec Ideal S1024 .f32) : FVec Ideal S1x1024 .f32 := broadcastInDim S1x1024 ![1] bcast_S1024_S1x1024_1 g

theorem gRow_apply (g : FVec Ideal S1024 .f32) (l : Fin 1024) : gRow g (ix2 0 l) = g (ix1 l) := by
  pointwise [gRow]

theorem out2_eq (x0 : Vec Ideal S512x1024 .f32) (x1 : Vec Ideal S1x1024 .f32) : out0_2 x0 x1 = k0_pay1 x0 x1 := by
  unfold out0_2
  frame_out

variable (m : (ℓ : Loc nD τ sig) → Buf (Elt Ideal) ℓ) (c : Dev nD)

abbrev arg0 : FVec Ideal S1x8192x1024 .f32 := m ((c : Thread nD τ).loc main_arg0)
abbrev arg1 : FVec Ideal S1024 .f32 := m ((c : Thread nD τ).loc main_arg1)

theorem V_v0 : V m c main_v0 = rows (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v1 : V m c main_v1 = gRow (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem ref2 : (dats m 0 c).arrAt 2 cfg0.N = Cert.RmsFwdRef.refNorm (arg0 m c) (arg1 m c) := by
  refine (dats m 0 c).arrAt_eq_of_covers 2 _ (by decide +kernel) fun t hf y => ?_
  have := point_lt t
  obtain ⟨r, q, rfl⟩ : ∃ (r : Fin 512) (q : Fin 1024), y = ix2 r q := ⟨y 0, y 1, by funext k; fin_cases k <;> rfl⟩
  have e : (win0_2.blk t).view.emb (ix2 r q) = ix2 ⟨512 * t.val + r.val, by omega⟩ q := by
    blk_ext [index2 t]
  have i0 (u : Fin cfg0.N) : iblk m c 0 u = ((cfg0.win 0).blk u).view.read (Elt Ideal) (rows (arg0 m c)) := by rw [← V_v0]; rfl
  have i1 (u : Fin cfg0.N) : iblk m c 1 u = ((cfg0.win 1).blk u).view.read (Elt Ideal) (gRow (arg1 m c)) := by rw [← V_v1]; rfl
  blk_simp
  rw [after0_2, out2_eq, e, i0, i1]
  refine (norm_apply _ _ _ _).trans ?_
  simp only [block0 t t.val (by omega) rfl (rows (arg0 m c)), block1 t (gRow (arg1 m c)), gRow_apply, rows_apply]
  exact (Cert.RmsFwdRef.refNorm_apply _ _ _ _).symm

end Cert.RmsFwdArray

end
-- ==== Proof.PleFwdRef.lean ====
/- Hand-written. The reference's gated sum, at an index. -/
module

public import proofs.«01_k».proof.Proof.GateLaws
public import proofs.«01_k».proof.Proof.Gen.RefPleFwdIdeal.Run

@[expose] public section

noncomputable section

namespace Cert.PleFwdRef

open Cert.RefPleFwdIdeal Cert.RefPleFwdIdeal.Gen Idealize.ShloMosaic Idealize.ShloMosaic.TcCoe
open Cert.HiddenArray (logistic)
open scoped BigOperators

/-- The sigmoid. -/
def one : FVec Ideal S1x8192x1024 .f32 := broadcastInDim S1x8192x1024 ![] bcast_S_S1x8192x1024 (constant S_ .f32 0x3F800000#32)
def sigm (a : FVec Ideal S1x8192x1024 .f32) : FVec Ideal S1x8192x1024 .f32 := Host.divf one (addf one (Host.exp (Host.negf a)))

theorem sigm_apply (a : FVec Ideal S1x8192x1024 .f32) (t : Fin 8192) (q : Fin 1024) : sigm a (ix3 0 t q) = logistic (a (ix3 0 t q)) := by
  unfold Cert.HiddenArray.logistic
  pointwise [sigm, one]

/-- The gated sum. -/
def mid (h a p : FVec Ideal S1x8192x1024 .f32) : FVec Ideal S1x8192x1024 .f32 := addf h (mulf (sigm a) p)

theorem mid_apply (h a p : FVec Ideal S1x8192x1024 .f32) (t : Fin 8192) (q : Fin 1024) :
    mid h a p (ix3 0 t q) = h (ix3 0 t q) + logistic (a (ix3 0 t q)) * p (ix3 0 t q) := by
  pointwise [mid, sigm_apply]

/-- Its rows. -/
def refMid (h a p : FVec Ideal S1x8192x1024 .f32) : FVec Ideal S8192x1024 .f32 := shapeCast _ (mid h a p) shapeCasts_S1x8192x1024_S8192x1024

theorem refMid_apply (h a p : FVec Ideal S1x8192x1024 .f32) (t : Fin 8192) (q : Fin 1024) :
    refMid h a p (ix2 t q) = h (ix3 0 t q) + logistic (a (ix3 0 t q)) * p (ix3 0 t q) := by
  pointwise [refMid, mid_apply]

end Cert.PleFwdRef

end
-- ==== Proof.PleFwd.lean ====
/- Hand-written. The gated sum: what the kernel's grid leaves is the reference's array. -/
module

public import proofs.«01_k».proof.Proof.PleFwdRef
public import proofs.«01_k».proof.Proof.Gen.PleFwdIdeal.Value
public import Idealize.ShloMosaic.Lib.Pipeline.ValueKit.Point
public import Idealize.ShloMosaic.Lib.Pipeline.ValueKit.Acc
public import Idealize.ShloMosaic.Lib.Pointwise

@[expose] public section

noncomputable section

namespace Cert.PleFwdArray

open Cert.PleFwdIdeal Cert.PleFwdIdeal.Gen Idealize.ShloMosaic Idealize.ShloMosaic.TcCoe
open Cert.HiddenArray (logistic sg cosg mag)
open scoped BigOperators

theorem gated_apply (v0 : Vec Ideal S512x1024 .bf16) (v15 : Vec Ideal S512x1024 .f32) (v17 : Vec Ideal S512x1024 .bf16) (r : Fin 512) (q : Fin 1024) :
    k0_pay1 v0 v15 v17 (ix2 r q) = v15 (ix2 r q) + logistic (v0 (ix2 r q)) * v17 (ix2 r q) := by
  rw [← Cert.GateUpArray.sg_eq]
  unfold sg Cert.HiddenArray.inv mag
  pointwise [k0_pay1]

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])

theorem point_lt (t : Fin cfg0.N) : t.val < 16 := lt_of_lt_of_eq t.isLt N_0

theorem block0 (t : Fin cfg0.N) (i : Nat) (hi : i < 16) (ht : t.val = i) (A : Vec Ideal S8192x1024 .f32) (r : Fin 512) (l : Fin 1024) :
    ((cfg0.win 0).blk t).view.read (Elt Ideal) A (ix2 r l) = A (ix2 ⟨512 * i + r, by omega⟩ l) := by
  blk_simp
  refine congrArg A ?_
  blk_ext [index0 t, ht]

theorem block1 (t : Fin cfg0.N) (i : Nat) (hi : i < 16) (ht : t.val = i) (A : Vec Ideal S8192x1024 .bf16) (r : Fin 512) (l : Fin 1024) :
    ((cfg0.win 1).blk t).view.read (Elt Ideal) A (ix2 r l) = A (ix2 ⟨512 * i + r, by omega⟩ l) := by
  blk_simp
  refine congrArg A ?_
  blk_ext [index1 t, ht]

theorem block2 (t : Fin cfg0.N) (i : Nat) (hi : i < 16) (ht : t.val = i) (A : Vec Ideal S8192x1024 .bf16) (r : Fin 512) (l : Fin 1024) :
    ((cfg0.win 2).blk t).view.read (Elt Ideal) A (ix2 r l) = A (ix2 ⟨512 * i + r, by omega⟩ l) := by
  blk_simp
  refine congrArg A ?_
  blk_ext [index2 t, ht]

/-- An array's 8192 rows. -/
def rows (x : FVec Ideal S1x8192x1024 .f32) : FVec Ideal S8192x1024 .f32 := shapeCast _ x shapeCasts_S1x8192x1024_S8192x1024

theorem rows_apply (x : FVec Ideal S1x8192x1024 .f32) (t : Fin 8192) (l : Fin 1024) : rows x (ix2 t l) = x (ix3 0 t l) := by
  pointwise [rows]

/-- An array's 8192 rows, in bf16. -/
def rowsB (x : FVec Ideal S1x8192x1024 .f32) : FVec Ideal S8192x1024 .bf16 :=
  truncf .bf16 (shapeCast _ x shapeCasts_S1x8192x1024_S8192x1024) bitsLt_bf16_f32

theorem rowsB_apply (x : FVec Ideal S1x8192x1024 .f32) (t : Fin 8192) (l : Fin 1024) : rowsB x (ix2 t l) = x (ix3 0 t l) := by
  pointwise [rowsB]

theorem out3_eq (x0 : Vec Ideal S512x1024 .f32) (x1 : Vec Ideal S512x1024 .bf16) (x2 : Vec Ideal S512x1024 .bf16) : out0_3 x0 x1 x2 = k0_pay1 x1 x0 x2 := by
  unfold out0_3
  frame_out

variable (m : (ℓ : Loc nD τ sig) → Buf (Elt Ideal) ℓ) (c : Dev nD)

abbrev arg0 : FVec Ideal S1x8192x1024 .f32 := m ((c : Thread nD τ).loc main_arg0)
abbrev arg1 : FVec Ideal S1x8192x1024 .f32 := m ((c : Thread nD τ).loc main_arg1)
abbrev arg2 : FVec Ideal S1x8192x1024 .f32 := m ((c : Thread nD τ).loc main_arg2)

theorem V_v0 : V m c main_v0 = rows (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = rowsB (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v4 : V m c main_v4 = rowsB (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem ref3 : (dats m 0 c).arrAt 3 cfg0.N = Cert.PleFwdRef.refMid (arg0 m c) (arg1 m c) (arg2 m c) := by
  refine (dats m 0 c).arrAt_eq_of_covers 3 _ (by decide +kernel) fun t hf y => ?_
  have := point_lt t
  obtain ⟨r, q, rfl⟩ : ∃ (r : Fin 512) (q : Fin 1024), y = ix2 r q := ⟨y 0, y 1, by funext k; fin_cases k <;> rfl⟩
  have e : (win0_3.blk t).view.emb (ix2 r q) = ix2 ⟨512 * t.val + r.val, by omega⟩ q := by
    blk_ext [index3 t]
  have i0 (u : Fin cfg0.N) : iblk m c 0 u = ((cfg0.win 0).blk u).view.read (Elt Ideal) (rows (arg0 m c)) := by rw [← V_v0]; rfl
  have i1 (u : Fin cfg0.N) : iblk m c 1 u = ((cfg0.win 1).blk u).view.read (Elt Ideal) (rowsB (arg1 m c)) := by rw [← V_v2]; rfl
  have i2 (u : Fin cfg0.N) : iblk m c 2 u = ((cfg0.win 2).blk u).view.read (Elt Ideal) (rowsB (arg2 m c)) := by rw [← V_v4]; rfl
  blk_simp
  rw [after0_3, out3_eq, e, i0, i1, i2]
  refine (gated_apply _ _ _ _ _).trans ?_
  simp only [block0 t t.val (by omega) rfl (rows (arg0 m c)), block1 t t.val (by omega) rfl (rowsB (arg1 m c)), block2 t t.val (by omega) rfl (rowsB (arg2 m c)), rowsB_apply, rows_apply]
  exact (Cert.PleFwdRef.refMid_apply _ _ _ _ _).symm

end Cert.PleFwdArray

end
-- ==== Proof.PleNormRef.lean ====
/- Hand-written. The reference's gated sum and its norm, at an index. -/
module

public import proofs.«01_k».proof.Proof.GateLaws
public import proofs.«01_k».proof.Proof.NormLaws
public import proofs.«01_k».proof.Proof.Gen.RefPleNormIdeal.Run

@[expose] public section

noncomputable section

namespace Cert.PleNormRef

open Cert.RefPleNormIdeal Cert.RefPleNormIdeal.Gen Idealize.ShloMosaic Idealize.ShloMosaic.TcCoe
open Cert.Norm
open Cert.HiddenArray (logistic)
open scoped BigOperators

/-- The sigmoid. -/
def one : FVec Ideal S1x8192x1024 .f32 := broadcastInDim S1x8192x1024 ![] bcast_S_S1x8192x1024 (constant S_ .f32 0x3F800000#32)
def sigm (a : FVec Ideal S1x8192x1024 .f32) : FVec Ideal S1x8192x1024 .f32 := Host.divf one (addf one (Host.exp (Host.negf a)))

theorem sigm_apply (a : FVec Ideal S1x8192x1024 .f32) (t : Fin 8192) (q : Fin 1024) : sigm a (ix3 0 t q) = logistic (a (ix3 0 t q)) := by
  unfold Cert.HiddenArray.logistic
  pointwise [sigm, one]

/-- The gated sum. -/
def mid (h a p : FVec Ideal S1x8192x1024 .f32) : FVec Ideal S1x8192x1024 .f32 := addf h (mulf (sigm a) p)

theorem mid_apply (h a p : FVec Ideal S1x8192x1024 .f32) (t : Fin 8192) (q : Fin 1024) :
    mid h a p (ix3 0 t q) = h (ix3 0 t q) + logistic (a (ix3 0 t q)) * p (ix3 0 t q) := by
  pointwise [mid, sigm_apply]

/-- Its rows. -/
def refMid (h a p : FVec Ideal S1x8192x1024 .f32) : FVec Ideal S8192x1024 .f32 := shapeCast _ (mid h a p) shapeCasts_S1x8192x1024_S8192x1024

theorem refMid_apply (h a p : FVec Ideal S1x8192x1024 .f32) (t : Fin 8192) (q : Fin 1024) :
    refMid h a p (ix2 t q) = h (ix3 0 t q) + logistic (a (ix3 0 t q)) * p (ix3 0 t q) := by
  pointwise [refMid, mid_apply]

/-- The mean of squares, the norm's factor and the gain along every row. -/
def var (x : FVec Ideal S1x8192x1024 .f32) : FVec Ideal S1x8192x1 .f32 :=
  addf (Host.divf (broadcastInDim S1x8192x1 ![0, 1] bcast_S1x8192_S1x8192x1_0_1 (Host.reduceAdd (mulf x x) (constant S_ .f32 0x00000000#32) reducesTo_S1x8192x1024_S1x8192_d2 h_S_))
    (broadcastInDim S1x8192x1 ![] bcast_S_S1x8192x1 (constant S_ .f32 0x44800000#32))) (broadcastInDim S1x8192x1 ![] bcast_S_S1x8192x1 (constant S_ .f32 0x358637BD#32))

def fac (x : FVec Ideal S1x8192x1024 .f32) : FVec Ideal S1x8192x1024 .f32 :=
  broadcastInDim S1x8192x1024 ![0, 1, 2] bcast_S1x8192x1_S1x8192x1024_0_1_2 (Host.rsqrt (var x))

def gain (g : FVec Ideal S1024 .f32) : FVec Ideal S1x8192x1024 .f32 :=
  broadcastInDim S1x8192x1024 ![0, 1, 2] bcast_S1x1x1024_S1x8192x1024_0_1_2 (broadcastInDim S1x1x1024 ![2] bcast_S1024_S1x1x1024_2 g)

theorem var_apply (x : FVec Ideal S1x8192x1024 .f32) (t : Fin 8192) : var x (ix3 0 t 0) = ms (fun k => x (ix3 0 t k)) := by
  unfold ms
  pointwise [var]

theorem fac_apply (x : FVec Ideal S1x8192x1024 .f32) (t : Fin 8192) (q : Fin 1024) : fac x (ix3 0 t q) = rs (fun k => x (ix3 0 t k)) := by
  unfold rs
  pointwise [fac, var_apply]

theorem gain_apply (g : FVec Ideal S1024 .f32) (t : Fin 8192) (q : Fin 1024) : gain g (ix3 0 t q) = g (ix1 q) := by
  pointwise [gain]

/-- The normed rows, in bf16. -/
def refNorm (x : FVec Ideal S1x8192x1024 .f32) (g : FVec Ideal S1024 .f32) : FVec Ideal S8192x1024 .bf16 :=
  truncf .bf16 (shapeCast _ (mulf (mulf x (fac x)) (gain g)) shapeCasts_S1x8192x1024_S8192x1024) bitsLt_bf16_f32

theorem refNorm_apply (x : FVec Ideal S1x8192x1024 .f32) (g : FVec Ideal S1024 .f32) (t : Fin 8192) (q : Fin 1024) :
    refNorm x g (ix2 t q) = x (ix3 0 t q) * rs (fun k => x (ix3 0 t k)) * g (ix1 q) := by
  pointwise [refNorm, fac_apply, gain_apply]

/-- The gated sum, normed. -/
def refOut (h a p : FVec Ideal S1x8192x1024 .f32) (g : FVec Ideal S1024 .f32) : FVec Ideal S8192x1024 .bf16 := refNorm (mid h a p) g

theorem refOut_apply (h a p : FVec Ideal S1x8192x1024 .f32) (g : FVec Ideal S1024 .f32) (t : Fin 8192) (q : Fin 1024) :
    refOut h a p g (ix2 t q) = (h (ix3 0 t q) + logistic (a (ix3 0 t q)) * p (ix3 0 t q))
      * rs (fun k => h (ix3 0 t k) + logistic (a (ix3 0 t k)) * p (ix3 0 t k)) * g (ix1 q) := by
  refine (refNorm_apply _ _ _ _).trans ?_
  simp only [mid_apply]

end Cert.PleNormRef

end
-- ==== Proof.PleNorm.lean ====
/- Hand-written. The gated sum and its norm: what the kernel's grid leaves is the reference's arrays. -/
module

public import proofs.«01_k».proof.Proof.PleNormRef
public import proofs.«01_k».proof.Proof.Gen.PleNormIdeal.Value
public import Idealize.ShloMosaic.Lib.Pipeline.ValueKit.Point
public import Idealize.ShloMosaic.Lib.Pipeline.ValueKit.Acc
public import Idealize.ShloMosaic.Lib.Pointwise

@[expose] public section

noncomputable section

namespace Cert.PleNormArray

open Cert.PleNormIdeal Cert.PleNormIdeal.Gen Idealize.ShloMosaic Idealize.ShloMosaic.TcCoe
open Cert.Norm
open Cert.HiddenArray (logistic sg cosg mag)
open scoped BigOperators

theorem gated_apply (v0 : Vec Ideal S512x1024 .bf16) (v15 : Vec Ideal S512x1024 .f32) (v17 : Vec Ideal S512x1024 .bf16) (r : Fin 512) (q : Fin 1024) :
    k0_pay1 v0 v15 v17 (ix2 r q) = v15 (ix2 r q) + logistic (v0 (ix2 r q)) * v17 (ix2 r q) := by
  rw [← Cert.GateUpArray.sg_eq]
  unfold sg Cert.HiddenArray.inv mag
  pointwise [k0_pay1]

theorem norm_apply (v0 : Vec Ideal S512x1024 .bf16) (v15 : Vec Ideal S512x1024 .f32) (v17 : Vec Ideal S512x1024 .bf16) (g : Vec Ideal S1x1024 .f32)
    (r : Fin 512) (q : Fin 1024) : k0_pay2 v0 v15 v17 g (ix2 r q) = (v15 (ix2 r q) + logistic (v0 (ix2 r q)) * v17 (ix2 r q))
      * rs (fun k => v15 (ix2 r k) + logistic (v0 (ix2 r k)) * v17 (ix2 r k)) * g (ix2 0 q) := by
  unfold rs ms
  pointwise [k0_pay2, gated_apply]

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![0, 0] :=
  (by decide +kernel : ∀ t : Fin grid0.N, win0_3.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])

theorem point_lt (t : Fin cfg0.N) : t.val < 16 := lt_of_lt_of_eq t.isLt N_0

theorem block0 (t : Fin cfg0.N) (i : Nat) (hi : i < 16) (ht : t.val = i) (A : Vec Ideal S8192x1024 .f32) (r : Fin 512) (l : Fin 1024) :
    ((cfg0.win 0).blk t).view.read (Elt Ideal) A (ix2 r l) = A (ix2 ⟨512 * i + r, by omega⟩ l) := by
  blk_simp
  refine congrArg A ?_
  blk_ext [index0 t, ht]

theorem block1 (t : Fin cfg0.N) (i : Nat) (hi : i < 16) (ht : t.val = i) (A : Vec Ideal S8192x1024 .bf16) (r : Fin 512) (l : Fin 1024) :
    ((cfg0.win 1).blk t).view.read (Elt Ideal) A (ix2 r l) = A (ix2 ⟨512 * i + r, by omega⟩ l) := by
  blk_simp
  refine congrArg A ?_
  blk_ext [index1 t, ht]

theorem block2 (t : Fin cfg0.N) (i : Nat) (hi : i < 16) (ht : t.val = i) (A : Vec Ideal S8192x1024 .bf16) (r : Fin 512) (l : Fin 1024) :
    ((cfg0.win 2).blk t).view.read (Elt Ideal) A (ix2 r l) = A (ix2 ⟨512 * i + r, by omega⟩ l) := by
  blk_simp
  refine congrArg A ?_
  blk_ext [index2 t, ht]

theorem block3 (t : Fin cfg0.N) (A : Vec Ideal S1x1024 .f32) (l : Fin 1024) :
    ((cfg0.win 3).blk t).view.read (Elt Ideal) A (ix2 0 l) = A (ix2 0 l) := by
  blk_simp
  refine congrArg A ?_
  blk_ext [index3 t]

/-- An array's 8192 rows. -/
def rows (x : FVec Ideal S1x8192x1024 .f32) : FVec Ideal S8192x1024 .f32 := shapeCast _ x shapeCasts_S1x8192x1024_S8192x1024

theorem rows_apply (x : FVec Ideal S1x8192x1024 .f32) (t : Fin 8192) (l : Fin 1024) : rows x (ix2 t l) = x (ix3 0 t l) := by
  pointwise [rows]

/-- An array's 8192 rows, in bf16. -/
def rowsB (x : FVec Ideal S1x8192x1024 .f32) : FVec Ideal S8192x1024 .bf16 :=
  truncf .bf16 (shapeCast _ x shapeCasts_S1x8192x1024_S8192x1024) bitsLt_bf16_f32

theorem rowsB_apply (x : FVec Ideal S1x8192x1024 .f32) (t : Fin 8192) (l : Fin 1024) : rowsB x (ix2 t l) = x (ix3 0 t l) := by
  pointwise [rowsB]

/-- The gain as a row. -/
def gRow (g : FVec Ideal S1024 .f32) : FVec Ideal S1x1024 .f32 := broadcastInDim S1x1024 ![1] bcast_S1024_S1x1024_1 g

theorem gRow_apply (g : FVec Ideal S1024 .f32) (l : Fin 1024) : gRow g (ix2 0 l) = g (ix1 l) := by
  pointwise [gRow]

theorem out4_eq (x0 : Vec Ideal S512x1024 .f32) (x1 : Vec Ideal S512x1024 .bf16) (x2 : Vec Ideal S512x1024 .bf16) (x3 : Vec Ideal S1x1024 .f32) : out0_4 x0 x1 x2 x3 = k0_pay1 x1 x0 x2 := by
  unfold out0_4
  frame_out

theorem out5_eq (x0 : Vec Ideal S512x1024 .f32) (x1 : Vec Ideal S512x1024 .bf16) (x2 : Vec Ideal S512x1024 .bf16) (x3 : Vec Ideal S1x1024 .f32) : out0_5 x0 x1 x2 x3 = k0_pay2 x1 x0 x2 x3 := by
  unfold out0_5
  frame_out

variable (m : (ℓ : Loc nD τ sig) → Buf (Elt Ideal) ℓ) (c : Dev nD)

abbrev arg0 : FVec Ideal S1x8192x1024 .f32 := m ((c : Thread nD τ).loc main_arg0)
abbrev arg1 : FVec Ideal S1x8192x1024 .f32 := m ((c : Thread nD τ).loc main_arg1)
abbrev arg2 : FVec Ideal S1x8192x1024 .f32 := m ((c : Thread nD τ).loc main_arg2)
abbrev arg3 : FVec Ideal S1024 .f32 := m ((c : Thread nD τ).loc main_arg3)

theorem V_v0 : V m c main_v0 = rows (arg0 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v2 : V m c main_v2 = rowsB (arg1 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v4 : V m c main_v4 = rowsB (arg2 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem V_v5 : V m c main_v5 = gRow (arg3 m c) := by
  simp only [V, hostOps0, List.flatten_cons, List.flatten_nil, List.append_nil, List.cons_append, List.nil_append,
    StableHlo.TRef.nullary, StableHlo.TRef.binary, StableHlo.TRef.unary, StableHlo.TRef.toBuf, StableHlo.TRef.ofBuf, cast_eq]
  after_results_simp <;> rfl

theorem ref4 : (dats m 0 c).arrAt 4 cfg0.N = Cert.PleNormRef.refMid (arg0 m c) (arg1 m c) (arg2 m c) := by
  refine (dats m 0 c).arrAt_eq_of_covers 4 _ (by decide +kernel) fun t hf y => ?_
  have := point_lt t
  obtain ⟨r, q, rfl⟩ : ∃ (r : Fin 512) (q : Fin 1024), y = ix2 r q := ⟨y 0, y 1, by funext k; fin_cases k <;> rfl⟩
  have e : (win0_4.blk t).view.emb (ix2 r q) = ix2 ⟨512 * t.val + r.val, by omega⟩ q := by
    blk_ext [index4 t]
  have i0 (u : Fin cfg0.N) : iblk m c 0 u = ((cfg0.win 0).blk u).view.read (Elt Ideal) (rows (arg0 m c)) := by rw [← V_v0]; rfl
  have i1 (u : Fin cfg0.N) : iblk m c 1 u = ((cfg0.win 1).blk u).view.read (Elt Ideal) (rowsB (arg1 m c)) := by rw [← V_v2]; rfl
  have i2 (u : Fin cfg0.N) : iblk m c 2 u = ((cfg0.win 2).blk u).view.read (Elt Ideal) (rowsB (arg2 m c)) := by rw [← V_v4]; rfl
  have i3 (u : Fin cfg0.N) : iblk m c 3 u = ((cfg0.win 3).blk u).view.read (Elt Ideal) (gRow (arg3 m c)) := by rw [← V_v5]; rfl
  blk_simp
  rw [after0_4, out4_eq, e, i0, i1, i2]
  refine (gated_apply _ _ _ _ _).trans ?_
  simp only [block0 t t.val (by omega) rfl (rows (arg0 m c)), block1 t t.val (by omega) rfl (rowsB (arg1 m c)), block2 t t.val (by omega) rfl (rowsB (arg2 m c)), rowsB_apply, rows_apply]
  exact (Cert.PleNormRef.refMid_apply _ _ _ _ _).symm

theorem ref5 : (dats m 0 c).arrAt 5 cfg0.N = Cert.PleNormRef.refOut (arg0 m c) (arg1 m c) (arg2 m c) (arg3 m c) := by
  refine (dats m 0 c).arrAt_eq_of_covers 5 _ (by decide +kernel) fun t hf y => ?_
  have := point_lt t
  obtain ⟨r, q, rfl⟩ : ∃ (r : Fin 512) (q : Fin 1024), y = ix2 r q := ⟨y 0, y 1, by funext k; fin_cases k <;> rfl⟩
  have e : (win0_5.blk t).view.emb (ix2 r q) = ix2 ⟨512 * t.val + r.val, by omega⟩ q := by
    blk_ext [index5 t]
  have i0 (u : Fin cfg0.N) : iblk m c 0 u = ((cfg0.win 0).blk u).view.read (Elt Ideal) (rows (arg0 m c)) := by rw [← V_v0]; rfl
  have i1 (u : Fin cfg0.N) : iblk m c 1 u = ((cfg0.win 1).blk u).view.read (Elt Ideal) (rowsB (arg1 m c)) := by rw [← V_v2]; rfl
  have i2 (u : Fin cfg0.N) : iblk m c 2 u = ((cfg0.win 2).blk u).view.read (Elt Ideal) (rowsB (arg2 m c)) := by rw [← V_v4]; rfl
  have i3 (u : Fin cfg0.N) : iblk m c 3 u = ((cfg0.win 3).blk u).view.read (Elt Ideal) (gRow (arg3 m c)) := by rw [← V_v5]; rfl
  blk_simp
  rw [after0_5, out5_eq, e, i0, i1, i2, i3]
  refine (norm_apply _ _ _ _ _ _).trans ?_
  simp only [block0 t t.val (by omega) rfl (rows (arg0 m c)), block1 t t.val (by omega) rfl (rowsB (arg1 m c)), block2 t t.val (by omega) rfl (rowsB (arg2 m c)), block3 t (gRow (arg3 m c)), gRow_apply, rowsB_apply, rows_apply]
  exact (Cert.PleNormRef.refOut_apply _ _ _ _ _ _).symm

end Cert.PleNormArray

end
-- ==== Proof.Norms.lean ====
/- Hand-written. For each norm, gate and the loss: the kernel's arrays and the reference's are the same functions of the arguments. -/
module

public import proofs.«01_k».proof.Defs
public import proofs.«01_k».proof.Proof.Gen.GradX
public import proofs.«01_k».proof.Proof.Gen.GradXIdeal
public import proofs.«01_k».proof.Proof.Gen.RefGradXIdeal
public import proofs.«01_k».proof.Proof.Gen.GradXIdeal.Value
public import proofs.«01_k».proof.Proof.Gen.RefGradXIdeal.Run
public import proofs.«01_k».proof.Proof.Gen.RmsBwd
public import proofs.«01_k».proof.Proof.Gen.RmsBwdIdeal
public import proofs.«01_k».proof.Proof.Gen.RefRmsBwdIdeal
public import proofs.«01_k».proof.Proof.Gen.RmsBwdIdeal.Value
public import proofs.«01_k».proof.Proof.Gen.RefRmsBwdIdeal.Run
public import proofs.«01_k».proof.Proof.Gen.RmsMixBwd
public import proofs.«01_k».proof.Proof.Gen.RmsMixBwdIdeal
public import proofs.«01_k».proof.Proof.Gen.RefRmsMixBwdIdeal
public import proofs.«01_k».proof.Proof.Gen.RmsMixBwdIdeal.Value
public import proofs.«01_k».proof.Proof.Gen.RefRmsMixBwdIdeal.Run
public import proofs.«01_k».proof.Proof.Gen.PleBwd
public import proofs.«01_k».proof.Proof.Gen.PleBwdIdeal
public import proofs.«01_k».proof.Proof.Gen.RefPleBwdIdeal
public import proofs.«01_k».proof.Proof.Gen.PleBwdIdeal.Value
public import proofs.«01_k».proof.Proof.Gen.RefPleBwdIdeal.Run
public import proofs.«01_k».proof.Proof.Gen.Loss
public import proofs.«01_k».proof.Proof.Gen.LossIdeal
public import proofs.«01_k».proof.Proof.Gen.RefLossIdeal
public import proofs.«01_k».proof.Proof.Gen.LossIdeal.Value
public import proofs.«01_k».proof.Proof.Gen.RefLossIdeal.Run
public import proofs.«01_k».proof.Proof.Gen.RmsFwd
public import proofs.«01_k».proof.Proof.Gen.RmsFwdIdeal
public import proofs.«01_k».proof.Proof.Gen.RefRmsFwdIdeal
public import proofs.«01_k».proof.Proof.Gen.RmsFwdIdeal.Value
public import proofs.«01_k».proof.Proof.Gen.RefRmsFwdIdeal.Run
public import proofs.«01_k».proof.Proof.Gen.PleFwd
public import proofs.«01_k».proof.Proof.Gen.PleFwdIdeal
public import proofs.«01_k».proof.Proof.Gen.RefPleFwdIdeal
public import proofs.«01_k».proof.Proof.Gen.PleFwdIdeal.Value
public import proofs.«01_k».proof.Proof.Gen.RefPleFwdIdeal.Run
public import proofs.«01_k».proof.Proof.Gen.PleNorm
public import proofs.«01_k».proof.Proof.Gen.PleNormIdeal
public import proofs.«01_k».proof.Proof.Gen.RefPleNormIdeal
public import proofs.«01_k».proof.Proof.Gen.PleNormIdeal.Value
public import proofs.«01_k».proof.Proof.Gen.RefPleNormIdeal.Run
public import proofs.«01_k».proof.Proof.GradX
public import proofs.«01_k».proof.Proof.RmsBwd
public import proofs.«01_k».proof.Proof.RmsMixBwd
public import proofs.«01_k».proof.Proof.PleBwd
public import proofs.«01_k».proof.Proof.Loss
public import proofs.«01_k».proof.Proof.RmsFwd
public import proofs.«01_k».proof.Proof.PleFwd
public import proofs.«01_k».proof.Proof.PleNorm
public import Idealize.ShloMosaic.Adequacy

@[expose] public section

noncomputable section

namespace Cert.Proof

open Idealize.ShloMosaic Idealize.SL.Sem

/-! A function takes equal arguments to equal values. -/

theorem congr2 {A B α : Type} (f : A → B → α) {a a' b b'} (e0 : a = a') (e1 : b = b') : f a b = f a' b' := by
  subst e0 e1
  rfl

theorem congr3 {A B C α : Type} (f : A → B → C → α) {a a' b b' c c'} (e0 : a = a') (e1 : b = b') (e2 : c = c') : f a b c = f a' b' c' := by
  subst e0 e1 e2
  rfl

theorem congr4 {A B C D α : Type} (f : A → B → C → D → α) {a a' b b' c c' d d'} (e0 : a = a') (e1 : b = b') (e2 : c = c') (e3 : d = d') :
    f a b c d = f a' b' c' d' := by
  subst e0 e1 e2 e3
  rfl

theorem congr5 {A B C D E α : Type} (f : A → B → C → D → E → α) {a a' b b' c c' d d' e e'} (e0 : a = a') (e1 : b = b') (e2 : c = c') (e3 : d = d')
    (e4 : e = e') : f a b c d e = f a' b' c' d' e' := by
  subst e0 e1 e2 e3 e4
  rfl

/-- Activations and a norm's gain. -/
abbrev Act : Type := Cert.Ffn.Act
abbrev Gain : Type := FVec Ideal ⟨1, ![1024]⟩ .f32

theorem gradX_algebraic :
    Cert.algebraic_GradXIdeal_RefGradXIdeal (hGradXIdeal := Cert.GradXIdeal.Gen.facts) (hRefGradXIdeal := Cert.RefGradXIdeal.Gen.facts) := by
  intro m g m' g' _ he
  refine ⟨fun c => Cert.GradXRef.refDh (Cert.GradXArray.arg0 m c) (Cert.GradXArray.arg1 m c) (Cert.GradXArray.arg2 m c) (addf (Cert.GradXArray.arg3 m c) (Cert.GradXArray.arg4 m c)),
    fun c => Cert.GradXRef.refDg (Cert.GradXArray.arg0 m c) (addf (Cert.GradXArray.arg3 m c) (Cert.GradXArray.arg4 m c)), ?_, ?_⟩
  · refine θ_run_mono (Cert.GradXIdeal.Value.run_blocks m g) fun r h c => ?_
    obtain ⟨h0, h1, hr⟩ := h c
    exact ⟨h0.trans (Cert.GradXArray.ref5 m c), h1.trans (Cert.GradXArray.ref6 m c), hr⟩
  · refine θ_run_mono (Cert.RefGradXIdeal.Value.run m' g') fun r h c => ?_
    obtain ⟨h0, h1, hr⟩ := h c
    obtain ⟨e0, e1, e2, e3, e4⟩ := he c
    exact ⟨h0.trans (congr5 (fun (a0 : Act) (a1 : Gain) (a2 : Act) (a3 : Act) (a4 : Act) => Cert.GradXRef.refDh a0 a1 a2 (addf a3 a4)) e0 e1 e2 e3 e4),
      h1.trans (congr3 (fun (a0 : Act) (a3 : Act) (a4 : Act) => Cert.GradXRef.refDg a0 (addf a3 a4)) e0 e3 e4), hr⟩

theorem rmsBwd_algebraic :
    Cert.algebraic_RmsBwdIdeal_RefRmsBwdIdeal (hRmsBwdIdeal := Cert.RmsBwdIdeal.Gen.facts) (hRefRmsBwdIdeal := Cert.RefRmsBwdIdeal.Gen.facts) := by
  intro m g m' g' _ he
  refine ⟨fun c => Cert.RmsBwdRef.refDh (Cert.RmsBwdArray.arg0 m c) (Cert.RmsBwdArray.arg1 m c) (Cert.RmsBwdArray.arg2 m c) (Cert.RmsBwdArray.arg3 m c),
    fun c => Cert.RmsBwdRef.refDhB (Cert.RmsBwdArray.arg0 m c) (Cert.RmsBwdArray.arg1 m c) (Cert.RmsBwdArray.arg2 m c) (Cert.RmsBwdArray.arg3 m c),
    fun c => Cert.RmsBwdRef.refDg (Cert.RmsBwdArray.arg0 m c) (Cert.RmsBwdArray.arg3 m c), ?_, ?_⟩
  · refine θ_run_mono (Cert.RmsBwdIdeal.Value.run_blocks m g) fun r h c => ?_
    obtain ⟨h0, h1, h2, hr⟩ := h c
    exact ⟨h0.trans (Cert.RmsBwdArray.ref4 m c), h1.trans (Cert.RmsBwdArray.ref5 m c), h2.trans (Cert.RmsBwdArray.ref6 m c), hr⟩
  · refine θ_run_mono (Cert.RefRmsBwdIdeal.Value.run m' g') fun r h c => ?_
    obtain ⟨h0, h1, h2, hr⟩ := h c
    obtain ⟨e0, e1, e2, e3⟩ := he c
    exact ⟨h0.trans (congr4 (fun (a0 : Act) (a1 : Gain) (a2 : Act) (a3 : Act) => Cert.RmsBwdRef.refDh a0 a1 a2 a3) e0 e1 e2 e3),
      h1.trans (congr4 (fun (a0 : Act) (a1 : Gain) (a2 : Act) (a3 : Act) => Cert.RmsBwdRef.refDhB a0 a1 a2 a3) e0 e1 e2 e3),
      h2.trans (congr2 (fun (a0 : Act) (a3 : Act) => Cert.RmsBwdRef.refDg a0 a3) e0 e3), hr⟩

theorem rmsMixBwd_algebraic :
    Cert.algebraic_RmsMixBwdIdeal_RefRmsMixBwdIdeal (hRmsMixBwdIdeal := Cert.RmsMixBwdIdeal.Gen.facts) (hRefRmsMixBwdIdeal := Cert.RefRmsMixBwdIdeal.Gen.facts) := by
  intro m g m' g' _ he
  refine ⟨fun c => Cert.RmsMixBwdRef.refDh (Cert.RmsMixBwdArray.arg0 m c) (Cert.RmsMixBwdArray.arg1 m c) (Cert.RmsMixBwdArray.arg2 m c) (Cert.RmsMixBwdArray.arg3 m c),
    fun c => Cert.RmsMixBwdRef.refDg (Cert.RmsMixBwdArray.arg0 m c) (Cert.RmsMixBwdArray.arg3 m c), ?_, ?_⟩
  · refine θ_run_mono (Cert.RmsMixBwdIdeal.Value.run_blocks m g) fun r h c => ?_
    obtain ⟨h0, h1, hr⟩ := h c
    exact ⟨h0.trans (Cert.RmsMixBwdArray.ref4 m c), h1.trans (Cert.RmsMixBwdArray.ref5 m c), hr⟩
  · refine θ_run_mono (Cert.RefRmsMixBwdIdeal.Value.run m' g') fun r h c => ?_
    obtain ⟨h0, h1, hr⟩ := h c
    obtain ⟨e0, e1, e2, e3⟩ := he c
    exact ⟨h0.trans (congr4 (fun (a0 : Act) (a1 : Gain) (a2 : Act) (a3 : Act) => Cert.RmsMixBwdRef.refDh a0 a1 a2 a3) e0 e1 e2 e3),
      h1.trans (congr2 (fun (a0 : Act) (a3 : Act) => Cert.RmsMixBwdRef.refDg a0 a3) e0 e3), hr⟩

theorem pleBwd_algebraic :
    Cert.algebraic_PleBwdIdeal_RefPleBwdIdeal (hPleBwdIdeal := Cert.PleBwdIdeal.Gen.facts) (hRefPleBwdIdeal := Cert.RefPleBwdIdeal.Gen.facts) := by
  intro m g m' g' _ he
  refine ⟨fun c => Cert.PleBwdRef.refGate (Cert.PleBwdArray.arg1 m c) (Cert.PleBwdArray.arg2 m c) (Cert.PleBwdArray.arg3 m c),
    fun c => Cert.PleBwdRef.refProj (Cert.PleBwdArray.arg1 m c) (Cert.PleBwdArray.arg3 m c), ?_, ?_⟩
  · refine θ_run_mono (Cert.PleBwdIdeal.Value.run_blocks m g) fun r h c => ?_
    obtain ⟨h0, h1, hr⟩ := h c
    exact ⟨h0.trans (Cert.PleBwdArray.ref3 m c), h1.trans (Cert.PleBwdArray.ref4 m c), hr⟩
  · refine θ_run_mono (Cert.RefPleBwdIdeal.Value.run m' g') fun r h c => ?_
    obtain ⟨h0, h1, hr⟩ := h c
    obtain ⟨_, e1, e2, e3⟩ := he c
    exact ⟨h0.trans (congr3 (fun (a1 : Act) (a2 : Act) (a3 : Act) => Cert.PleBwdRef.refGate a1 a2 a3) e1 e2 e3),
      h1.trans (congr2 (fun (a1 : Act) (a3 : Act) => Cert.PleBwdRef.refProj a1 a3) e1 e3), hr⟩

theorem loss_algebraic :
    Cert.algebraic_LossIdeal_RefLossIdeal (hLossIdeal := Cert.LossIdeal.Gen.facts) (hRefLossIdeal := Cert.RefLossIdeal.Gen.facts) := by
  intro m g m' g' _ he
  refine ⟨fun c => Cert.LossRef.refLoss (Cert.LossArray.arg0 m c) (Cert.LossArray.arg1 m c) (Cert.LossArray.arg2 m c),
    fun c => Cert.LossRef.refDh (Cert.LossArray.arg0 m c) (Cert.LossArray.arg1 m c) (Cert.LossRef.dy (Cert.LossArray.arg0 m c) (Cert.LossArray.arg1 m c) (Cert.LossArray.arg2 m c)),
    fun c => Cert.LossRef.refDg (Cert.LossArray.arg0 m c) (Cert.LossRef.dy (Cert.LossArray.arg0 m c) (Cert.LossArray.arg1 m c) (Cert.LossArray.arg2 m c)), ?_, ?_⟩
  · refine θ_run_mono (Cert.LossIdeal.Value.run_blocks m g) fun r h c => ?_
    obtain ⟨h0, h1, h2, hr⟩ := h c
    exact ⟨h0.trans (Cert.LossArray.ref3 m c), h1.trans (Cert.LossArray.ref4 m c), h2.trans (Cert.LossArray.ref5 m c), hr⟩
  · refine θ_run_mono (Cert.RefLossIdeal.Value.run m' g') fun r h c => ?_
    obtain ⟨h0, h1, h2, hr⟩ := h c
    obtain ⟨e0, e1, e2⟩ := he c
    exact ⟨h0.trans (congr3 (fun (a0 : Act) (a1 : Gain) (a2 : Act) => Cert.LossRef.refLoss a0 a1 a2) e0 e1 e2),
      h1.trans (congr3 (fun (a0 : Act) (a1 : Gain) (a2 : Act) => Cert.LossRef.refDh a0 a1 (Cert.LossRef.dy a0 a1 a2)) e0 e1 e2),
      h2.trans (congr3 (fun (a0 : Act) (a1 : Gain) (a2 : Act) => Cert.LossRef.refDg a0 (Cert.LossRef.dy a0 a1 a2)) e0 e1 e2), hr⟩

theorem rmsFwd_algebraic :
    Cert.algebraic_RmsFwdIdeal_RefRmsFwdIdeal (hRmsFwdIdeal := Cert.RmsFwdIdeal.Gen.facts) (hRefRmsFwdIdeal := Cert.RefRmsFwdIdeal.Gen.facts) := by
  intro m g m' g' _ he
  refine ⟨fun c => Cert.RmsFwdRef.refNorm (Cert.RmsFwdArray.arg0 m c) (Cert.RmsFwdArray.arg1 m c), ?_, ?_⟩
  · refine θ_run_mono (Cert.RmsFwdIdeal.Value.run_blocks m g) fun r h c => ?_
    obtain ⟨h0, hr⟩ := h c
    exact ⟨h0.trans (Cert.RmsFwdArray.ref2 m c), hr⟩
  · refine θ_run_mono (Cert.RefRmsFwdIdeal.Value.run m' g') fun r h c => ?_
    obtain ⟨h0, hr⟩ := h c
    obtain ⟨e0, e1⟩ := he c
    exact ⟨h0.trans (congr2 (fun (a0 : Act) (a1 : Gain) => Cert.RmsFwdRef.refNorm a0 a1) e0 e1), hr⟩

theorem pleFwd_algebraic :
    Cert.algebraic_PleFwdIdeal_RefPleFwdIdeal (hPleFwdIdeal := Cert.PleFwdIdeal.Gen.facts) (hRefPleFwdIdeal := Cert.RefPleFwdIdeal.Gen.facts) := by
  intro m g m' g' _ he
  refine ⟨fun c => Cert.PleFwdRef.refMid (Cert.PleFwdArray.arg0 m c) (Cert.PleFwdArray.arg1 m c) (Cert.PleFwdArray.arg2 m c), ?_, ?_⟩
  · refine θ_run_mono (Cert.PleFwdIdeal.Value.run_blocks m g) fun r h c => ?_
    obtain ⟨h0, hr⟩ := h c
    exact ⟨h0.trans (Cert.PleFwdArray.ref3 m c), hr⟩
  · refine θ_run_mono (Cert.RefPleFwdIdeal.Value.run m' g') fun r h c => ?_
    obtain ⟨h0, hr⟩ := h c
    obtain ⟨e0, e1, e2⟩ := he c
    exact ⟨h0.trans (congr3 (fun (a0 : Act) (a1 : Act) (a2 : Act) => Cert.PleFwdRef.refMid a0 a1 a2) e0 e1 e2), hr⟩

theorem pleNorm_algebraic :
    Cert.algebraic_PleNormIdeal_RefPleNormIdeal (hPleNormIdeal := Cert.PleNormIdeal.Gen.facts) (hRefPleNormIdeal := Cert.RefPleNormIdeal.Gen.facts) := by
  intro m g m' g' _ he
  refine ⟨fun c => Cert.PleNormRef.refMid (Cert.PleNormArray.arg0 m c) (Cert.PleNormArray.arg1 m c) (Cert.PleNormArray.arg2 m c),
    fun c => Cert.PleNormRef.refOut (Cert.PleNormArray.arg0 m c) (Cert.PleNormArray.arg1 m c) (Cert.PleNormArray.arg2 m c) (Cert.PleNormArray.arg3 m c), ?_, ?_⟩
  · refine θ_run_mono (Cert.PleNormIdeal.Value.run_blocks m g) fun r h c => ?_
    obtain ⟨h0, h1, hr⟩ := h c
    exact ⟨h0.trans (Cert.PleNormArray.ref4 m c), h1.trans (Cert.PleNormArray.ref5 m c), hr⟩
  · refine θ_run_mono (Cert.RefPleNormIdeal.Value.run m' g') fun r h c => ?_
    obtain ⟨h0, h1, hr⟩ := h c
    obtain ⟨e0, e1, e2, e3⟩ := he c
    exact ⟨h0.trans (congr3 (fun (a0 : Act) (a1 : Act) (a2 : Act) => Cert.PleNormRef.refMid a0 a1 a2) e0 e1 e2),
      h1.trans (congr4 (fun (a0 : Act) (a1 : Act) (a2 : Act) (a3 : Gain) => Cert.PleNormRef.refOut a0 a1 a2 a3) e0 e1 e2 e3), hr⟩

end Cert.Proof

end
-- ==== Proof.SwaTile.lean ====
/- Hand-written. The body of the sliding window attention's forward kernel as a function of its six blocks: each of the sixteen pieces it
   stores (four windows of 128 query rows, four pairs of heads) is one tile, computed per head of the pair. -/
module

public import proofs.«01_k».proof.Proof.Gen.SwaFwdIdeal.Value
public import Idealize.ShloMosaic.Lib.Pointwise

@[expose] public section

noncomputable section

namespace Cert.SwaTile

open Cert.SwaFwdIdeal Cert.SwaFwdIdeal.Gen Idealize.ShloMosaic Idealize.ShloMosaic.TcCoe Idealize.SL.Sem

/-! ### The operands: 640 rows of keys or values (the 128 rows before the block and its own 512), lanes of two heads -/

def join (a : FVec Ideal S128x128 .bf16) (b : FVec Ideal S512x128 .bf16) : FVec Ideal S640x128 .bf16 :=
  concatenate S640x128 0 [⟨S128x128, shapeCast S128x128 a shapeCasts_S128x128_S128x128⟩, ⟨S512x128, shapeCast S512x128 b shapeCasts_S512x128_S512x128⟩]
    concatenates_S128x128_S512x128_S640x128_d0

/-- The two heads exchanged. -/
def turn (x : FVec Ideal S640x128 .bf16) : FVec Ideal S640x128 .bf16 :=
  truncf .bf16 (dynamicRotate 1 64#32 none (extf .f32 x bitsLt_bf16_f32) rotates_S640x128_d1) bitsLt_bf16_f32

theorem span_slices : ∀ u : Fin 4, S640x128.Slices ![128 * u.val, 0] S256x128 := by decide

/-- The 256 rows that window `u` sees. -/
def span (u : Fin 4) (x : FVec Ideal S640x128 .bf16) : FVec Ideal S256x128 .bf16 :=
  extractStridedSlice S256x128 ![128 * u.val, 0] x (span_slices u)

theorem piece_inb : ∀ (u p : Fin 4) (a : Fin 2), (![128 * u.val, 128 * p.val] : Fin 2 → Nat) a + S128x128.size a ≤ S512x512.size a := by decide

/-- Window `u`'s query rows of the pair `p`. -/
def piece (u p : Fin 4) (x : FVec Ideal S512x512 .bf16) : FVec Ideal S128x128 .bf16 :=
  shapeCast S128x128 (View.ld (Val := Elt Ideal) (e' := EltTy.bf16) x (Rect.unit (s := S512x512) ![128 * u.val, 128 * p.val] S128x128.size (piece_inb u p)) : FVec Ideal S128x128 .bf16) shapeCasts_S128x128_S128x128

theorem sink_inb : ∀ (n : Fin 8) (a : Fin 2), (![0, 64 * n.val] : Fin 2 → Nat) a + S1x1.size a ≤ S1x512.size a := by decide

/-- The sink of the block's head `n`. -/
def sink (n : Fin 8) (x : FVec Ideal S1x512 .f32) : FVec Ideal S1x1 .f32 :=
  shapeCast S1x1 (View.ld (Val := Elt Ideal) (e' := EltTy.f32) x (Rect.unit (s := S1x512) ![0, 64 * n.val] S1x1.size (sink_inb n)) : FVec Ideal S1x1 .f32) shapeCasts_S1x1_S1x1

/-! ### Masks -/

def rows : IVec S128x256 32 := iota .tc S128x256 32 [0] iota_S128x256_d0_w32
def cols : IVec S128x256 32 := iota .tc S128x256 32 [1] iota_S128x256_d1_w32

/-- Query row `r` sees the keys at most 127 rows before it. -/
def near : IVec S128x256 1 := andi (cmpi .sgt cols rows) (cmpi .sle cols (addi rows (broadcast S128x256 128#32)))

/-- In the first window, the rows before the array are not seen. -/
def nearFirst (n : BitVec 1) : IVec S128x256 1 := andi near (ori (cmpi .sge cols (broadcast S128x256 128#32)) (broadcast S128x256 n))

def hasPrev (i : grid0.Coords) : BitVec 1 := Scalar.cmpi .sgt (BitVec.ofNat 32 (i 1).val) 0#32

def half (lo hi : BitVec 32) : IVec S128x128 1 :=
  andi (cmpi .sge (iota .tc S128x128 32 [1] iota_S128x128_d1_w32) (broadcast S128x128 lo))
    (cmpi .slt (iota .tc S128x128 32 [1] iota_S128x128_d1_w32) (broadcast S128x128 hi))

def first : IVec S128x128 1 := half 0#32 64#32
def second : IVec S128x128 1 := half 64#32 128#32

/-! ### One head of a pair -/

def scaled (tm : IVec S128x128 1) (x : FVec Ideal S128x128 .bf16) : FVec Ideal S128x128 .bf16 :=
  truncf .bf16 (select tm (mulf (extf .f32 x bitsLt_bf16_f32) (broadcast S128x128 (Scalar.ofBits .f32 0x3E000000#32)))
    (broadcast S128x128 (Scalar.ofBits .f32 0x00000000#32))) bitsLt_bf16_f32

def against (x : FVec Ideal S128x128 .bf16) (k : FVec Ideal S256x128 .bf16) : FVec Ideal S128x256 .f32 :=
  matmul dot_S128x128_S256x128_S128x256_1_1_0_0_n_n none x k (constant S128x256 .f32 0x00000000#32)

def scores (ok : IVec S128x256 1) (x : FVec Ideal S128x256 .f32) : FVec Ideal S128x256 .f32 :=
  select ok x (broadcast S128x256 (Named.named κ "mask" 0xF149F2CA#32))

/-- Each row's largest score, the sink among them. -/
def top (x : FVec Ideal S128x256 .f32) (s : FVec Ideal S1x1 .f32) : FVec Ideal S128x1 .f32 :=
  maximumf (shapeCast S128x1 (multiReduction .maximumf [1] S128 x 0xFF800000#32 reduces_S128x256_S128 (.inl rfl) rfl) shapeCasts_S128_S128x1)
    (broadcastTo S128x1 s broadcasts_S1x1_S128x1)

def exps (x : FVec Ideal S128x256 .f32) (M : FVec Ideal S128x1 .f32) : FVec Ideal S128x256 .f32 :=
  exp (subf x (broadcastTo S128x256 M broadcasts_S128x1_S128x256))

def total (e : FVec Ideal S128x256 .f32) (M : FVec Ideal S128x1 .f32) (s : FVec Ideal S1x1 .f32) : FVec Ideal S128x1 .f32 :=
  addf (shapeCast S128x1 (multiReduction .add [1] S128 e 0x00000000#32 reduces_S128x256_S128 (.inl rfl) rfl) shapeCasts_S128_S128x1)
    (exp (subf (broadcastTo S128x1 s broadcasts_S1x1_S128x1) M))

def mixed (e : FVec Ideal S128x256 .f32) (v : FVec Ideal S256x128 .bf16) (L : FVec Ideal S128x1 .f32) : FVec Ideal S128x128 .f32 :=
  divf (matmul dot_S128x256_S256x128_S128x128_1_0_0_1_n_n none (truncf .bf16 e bitsLt_bf16_f32) v (constant S128x128 .f32 0x00000000#32))
    (broadcastTo S128x128 L broadcasts_S128x1_S128x128)

section
variable (x : FVec Ideal S128x256 .f32) (v : FVec Ideal S256x128 .bf16) (s : FVec Ideal S1x1 .f32)

def outHead : FVec Ideal S128x128 .f32 := mixed (exps x (top x s)) v (total (exps x (top x s)) (top x s) s)
def logHead : FVec Ideal S128x1 .f32 := addf (top x s) (log (total (exps x (top x s)) (top x s) s))

end

def wide (x : FVec Ideal S128x1 .f32) : FVec Ideal S128x128 .f32 :=
  broadcastTo S128x128 (shapeCast S128x1 x shapeCasts_S128x1_S128x1) broadcasts_S128x1_S128x128

/-! ### One tile -/

section
variable (i : grid0.Coords) (x0 : Vec Ideal S512x512 .bf16) (x1 : Vec Ideal S128x128 .bf16) (x2 : Vec Ideal S512x128 .bf16) (x3 : Vec Ideal S128x128 .bf16) (x4 : Vec Ideal S512x128 .bf16) (x5 : Vec Ideal S1x512 .f32)

/-- Which keys window `u`'s query rows see. -/
def ok (u : Fin 4) : IVec S128x256 1 := if u = 0 then nearFirst (hasPrev i) else near

/-- The rows of keys or values, with the pair's key head in half `h`. -/
def aligned (p : Fin 4) (h : Fin 2) (x : FVec Ideal S640x128 .bf16) : FVec Ideal S640x128 .bf16 := if p.val / 2 = h.val then x else turn x

def headScores (u p : Fin 4) (h : Fin 2) : FVec Ideal S128x256 .f32 :=
  scores (ok i u) (against (scaled (if h = 0 then first else second) (piece u p x0)) (span u (aligned p h (join x1 x2))))

def headOut (u p : Fin 4) (h : Fin 2) : FVec Ideal S128x128 .f32 :=
  outHead (headScores i x0 x1 x2 u p h) (span u (aligned p h (join x3 x4))) (sink ⟨2 * p.val + h.val, by omega⟩ x5)

def headLog (u p : Fin 4) (h : Fin 2) : FVec Ideal S128x1 .f32 :=
  logHead (headScores i x0 x1 x2 u p h) (sink ⟨2 * p.val + h.val, by omega⟩ x5)

def outTile (u p : Fin 4) : FVec Ideal S128x128 .bf16 :=
  truncf .bf16 (select first (headOut i x0 x1 x2 x3 x4 x5 u p 0) (headOut i x0 x1 x2 x3 x4 x5 u p 1)) bitsLt_bf16_f32

def logTile (u p : Fin 4) : FVec Ideal S128x128 .f32 :=
  select first (wide (headLog i x0 x1 x2 x5 u p 0)) (wide (headLog i x0 x1 x2 x5 u p 1))

/-- The window and pair an element of the block lies in, and its place there. -/
def place (y : S512x512.Idx) : Fin 4 × Fin 4 × S128x128.Idx :=
  (⟨(y 0).val / 128, by have h : (y 0).val < 512 := (y 0).isLt; omega⟩, ⟨(y 1).val / 128, by have h : (y 1).val < 512 := (y 1).isLt; omega⟩,
    ix2 ⟨(y 0).val % 128, by omega⟩ ⟨(y 1).val % 128, by omega⟩)

def outBlock : FVec Ideal S512x512 .bf16 := fun y => outTile i x0 x1 x2 x3 x4 x5 (place y).1 (place y).2.1 (place y).2.2
def logBlock : FVec Ideal S512x512 .f32 := fun y => logTile i x0 x1 x2 x5 (place y).1 (place y).2.1 (place y).2.2

end

theorem place_emb (u p : Fin 4) (x : S128x128.Idx) (h : ∀ a : Fin 2, (![128 * u.val, 128 * p.val] : Fin 2 → Nat) a + S128x128.size a ≤ S512x512.size a) :
    place ((Rect.unit (s := S512x512) ![128 * u.val, 128 * p.val] S128x128.size h).emb x) = (u, p, x) := by
  have h0 : (x 0).val < 128 := (x 0).isLt
  have h1 : (x 1).val < 128 := (x 1).isLt
  have e0 : ((Rect.unit (s := S512x512) ![128 * u.val, 128 * p.val] S128x128.size h).emb x 0).val = 128 * u.val + (x 0).val := by
    show 128 * u.val + 1 * (x 0).val = _
    omega
  have e1 : ((Rect.unit (s := S512x512) ![128 * u.val, 128 * p.val] S128x128.size h).emb x 1).val = 128 * p.val + (x 1).val := by
    show 128 * p.val + 1 * (x 1).val = _
    omega
  refine Prod.ext (Fin.ext ?_) (Prod.ext (Fin.ext ?_) ?_)
  · show ((Rect.unit (s := S512x512) ![128 * u.val, 128 * p.val] S128x128.size h).emb x 0).val / 128 = u.val
    rw [e0]; omega
  · show ((Rect.unit (s := S512x512) ![128 * u.val, 128 * p.val] S128x128.size h).emb x 1).val / 128 = p.val
    rw [e1]; omega
  · funext a
    match a with
    | ⟨0, _⟩ =>
      refine Fin.ext ?_
      show ((Rect.unit (s := S512x512) ![128 * u.val, 128 * p.val] S128x128.size h).emb x 0).val % 128 = (x 0).val
      rw [e0]; omega
    | ⟨1, _⟩ =>
      refine Fin.ext ?_
      show ((Rect.unit (s := S512x512) ![128 * u.val, 128 * p.val] S128x128.size h).emb x 1).val % 128 = (x 1).val
      rw [e1]; omega

variable (c : Dev nD) (i : grid0.Coords) (a0 : Memref sig .tc .vmem S512x512 .bf16) (h0 : a0.IsWhole) (a1 : Memref sig .tc .vmem S128x128 .bf16) (h1 : a1.IsWhole) (a2 : Memref sig .tc .vmem S512x128 .bf16) (h2 : a2.IsWhole) (a3 : Memref sig .tc .vmem S128x128 .bf16) (h3 : a3.IsWhole) (a4 : Memref sig .tc .vmem S512x128 .bf16) (h4 : a4.IsWhole) (a5 : Memref sig .tc .vmem S1x512 .f32) (h5 : a5.IsWhole) (a6 : Memref sig .tc .vmem S512x512 .bf16) (h6 : a6.IsWhole) (a7 : Memref sig .tc .vmem S512x512 .f32) (h7 : a7.IsWhole)
  (x0 : Vec Ideal S512x512 .bf16) (x1 : Vec Ideal S128x128 .bf16) (x2 : Vec Ideal S512x128 .bf16) (x3 : Vec Ideal S128x128 .bf16) (x4 : Vec Ideal S512x128 .bf16) (x5 : Vec Ideal S1x512 .f32)

set_option maxRecDepth 65536 in
theorem out6 : out0_A_6 c i a0 h0 a1 h1 a2 h2 a3 h3 a4 h4 a5 h5 a6 h6 a7 h7 x0 x1 x2 x3 x4 x5 = outBlock i x0 x1 x2 x3 x4 x5 := by
  funext y
  unfold out0_A_6
  rw [View.read_writes_eq_canon _ _ _ (fun y => cover0_A_6 c i a0 h0 a1 h1 a2 h2 a3 h3 a4 h4 a5 h5 a6 h6 a7 h7 x0 x1 x2 x3 x4 x5 y)]
  refine View.canon_apply_of_pieces _ _ ?_ y (cover0_A_6 c i a0 h0 a1 h1 a2 h2 a3 h3 a4 h4 a5 h5 a6 h6 a7 h7 x0 x1 x2 x3 x4 x5 y)
  unfold kernelRun0_A
  dsimp only
  sl_unfold_words
  have e1 : a1.view.readAt (Elt Ideal) (Rect.unit (s := S128x128) ![0, 0] S128x128.size inb_S128x128_S128x128_0_0).toLoadRect (h1.unread x1) = x1 := by
    rw [View.readAt_eq_ld, h1.read_unread]; exact View.ld_unit_zero (funext fun a => by match a with | 0 => rfl | 1 => rfl) _ _
  have e2 : a2.view.readAt (Elt Ideal) (Rect.unit (s := S512x128) ![0, 0] S512x128.size inb_S512x128_S512x128_0_0).toLoadRect (h2.unread x2) = x2 := by
    rw [View.readAt_eq_ld, h2.read_unread]; exact View.ld_unit_zero (funext fun a => by match a with | 0 => rfl | 1 => rfl) _ _
  have e3 : a3.view.readAt (Elt Ideal) (Rect.unit (s := S128x128) ![0, 0] S128x128.size inb_S128x128_S128x128_0_0).toLoadRect (h3.unread x3) = x3 := by
    rw [View.readAt_eq_ld, h3.read_unread]; exact View.ld_unit_zero (funext fun a => by match a with | 0 => rfl | 1 => rfl) _ _
  have e4 : a4.view.readAt (Elt Ideal) (Rect.unit (s := S512x128) ![0, 0] S512x128.size inb_S512x128_S512x128_0_0).toLoadRect (h4.unread x4) = x4 := by
    rw [View.readAt_eq_ld, h4.read_unread]; exact View.ld_unit_zero (funext fun a => by match a with | 0 => rfl | 1 => rfl) _ _
  rw [e1, e2, e3, e4]
  simp only [View.readAt_eq_ld, h0.read_unread, h5.read_unread]
  intro p hp x
  simp only [List.mem_cons, List.mem_nil_iff, or_false] at hp
  rcases hp with rfl | rfl | rfl | rfl | rfl | rfl | rfl | rfl | rfl | rfl | rfl | rfl | rfl | rfl | rfl | rfl
  · exact Eq.trans (b := outTile i x0 x1 x2 x3 x4 x5 3 3 x) rfl (congrArg (fun z : Fin 4 × Fin 4 × S128x128.Idx => outTile i x0 x1 x2 x3 x4 x5 z.1 z.2.1 z.2.2) (place_emb 3 3 x (piece_inb 3 3))).symm
  · exact Eq.trans (b := outTile i x0 x1 x2 x3 x4 x5 3 2 x) rfl (congrArg (fun z : Fin 4 × Fin 4 × S128x128.Idx => outTile i x0 x1 x2 x3 x4 x5 z.1 z.2.1 z.2.2) (place_emb 3 2 x (piece_inb 3 2))).symm
  · exact Eq.trans (b := outTile i x0 x1 x2 x3 x4 x5 3 1 x) rfl (congrArg (fun z : Fin 4 × Fin 4 × S128x128.Idx => outTile i x0 x1 x2 x3 x4 x5 z.1 z.2.1 z.2.2) (place_emb 3 1 x (piece_inb 3 1))).symm
  · exact Eq.trans (b := outTile i x0 x1 x2 x3 x4 x5 3 0 x) rfl (congrArg (fun z : Fin 4 × Fin 4 × S128x128.Idx => outTile i x0 x1 x2 x3 x4 x5 z.1 z.2.1 z.2.2) (place_emb 3 0 x (piece_inb 3 0))).symm
  · exact Eq.trans (b := outTile i x0 x1 x2 x3 x4 x5 2 3 x) rfl (congrArg (fun z : Fin 4 × Fin 4 × S128x128.Idx => outTile i x0 x1 x2 x3 x4 x5 z.1 z.2.1 z.2.2) (place_emb 2 3 x (piece_inb 2 3))).symm
  · exact Eq.trans (b := outTile i x0 x1 x2 x3 x4 x5 2 2 x) rfl (congrArg (fun z : Fin 4 × Fin 4 × S128x128.Idx => outTile i x0 x1 x2 x3 x4 x5 z.1 z.2.1 z.2.2) (place_emb 2 2 x (piece_inb 2 2))).symm
  · exact Eq.trans (b := outTile i x0 x1 x2 x3 x4 x5 2 1 x) rfl (congrArg (fun z : Fin 4 × Fin 4 × S128x128.Idx => outTile i x0 x1 x2 x3 x4 x5 z.1 z.2.1 z.2.2) (place_emb 2 1 x (piece_inb 2 1))).symm
  · exact Eq.trans (b := outTile i x0 x1 x2 x3 x4 x5 2 0 x) rfl (congrArg (fun z : Fin 4 × Fin 4 × S128x128.Idx => outTile i x0 x1 x2 x3 x4 x5 z.1 z.2.1 z.2.2) (place_emb 2 0 x (piece_inb 2 0))).symm
  · exact Eq.trans (b := outTile i x0 x1 x2 x3 x4 x5 1 3 x) rfl (congrArg (fun z : Fin 4 × Fin 4 × S128x128.Idx => outTile i x0 x1 x2 x3 x4 x5 z.1 z.2.1 z.2.2) (place_emb 1 3 x (piece_inb 1 3))).symm
  · exact Eq.trans (b := outTile i x0 x1 x2 x3 x4 x5 1 2 x) rfl (congrArg (fun z : Fin 4 × Fin 4 × S128x128.Idx => outTile i x0 x1 x2 x3 x4 x5 z.1 z.2.1 z.2.2) (place_emb 1 2 x (piece_inb 1 2))).symm
  · exact Eq.trans (b := outTile i x0 x1 x2 x3 x4 x5 1 1 x) rfl (congrArg (fun z : Fin 4 × Fin 4 × S128x128.Idx => outTile i x0 x1 x2 x3 x4 x5 z.1 z.2.1 z.2.2) (place_emb 1 1 x (piece_inb 1 1))).symm
  · exact Eq.trans (b := outTile i x0 x1 x2 x3 x4 x5 1 0 x) rfl (congrArg (fun z : Fin 4 × Fin 4 × S128x128.Idx => outTile i x0 x1 x2 x3 x4 x5 z.1 z.2.1 z.2.2) (place_emb 1 0 x (piece_inb 1 0))).symm
  · exact Eq.trans (b := outTile i x0 x1 x2 x3 x4 x5 0 3 x) rfl (congrArg (fun z : Fin 4 × Fin 4 × S128x128.Idx => outTile i x0 x1 x2 x3 x4 x5 z.1 z.2.1 z.2.2) (place_emb 0 3 x (piece_inb 0 3))).symm
  · exact Eq.trans (b := outTile i x0 x1 x2 x3 x4 x5 0 2 x) rfl (congrArg (fun z : Fin 4 × Fin 4 × S128x128.Idx => outTile i x0 x1 x2 x3 x4 x5 z.1 z.2.1 z.2.2) (place_emb 0 2 x (piece_inb 0 2))).symm
  · exact Eq.trans (b := outTile i x0 x1 x2 x3 x4 x5 0 1 x) rfl (congrArg (fun z : Fin 4 × Fin 4 × S128x128.Idx => outTile i x0 x1 x2 x3 x4 x5 z.1 z.2.1 z.2.2) (place_emb 0 1 x (piece_inb 0 1))).symm
  · exact Eq.trans (b := outTile i x0 x1 x2 x3 x4 x5 0 0 x) rfl (congrArg (fun z : Fin 4 × Fin 4 × S128x128.Idx => outTile i x0 x1 x2 x3 x4 x5 z.1 z.2.1 z.2.2) (place_emb 0 0 x (piece_inb 0 0))).symm

set_option maxRecDepth 65536 in
theorem out7 : out0_A_7 c i a0 h0 a1 h1 a2 h2 a3 h3 a4 h4 a5 h5 a6 h6 a7 h7 x0 x1 x2 x3 x4 x5 = logBlock i x0 x1 x2 x5 := by
  funext y
  unfold out0_A_7
  rw [View.read_writes_eq_canon _ _ _ (fun y => cover0_A_7 c i a0 h0 a1 h1 a2 h2 a3 h3 a4 h4 a5 h5 a6 h6 a7 h7 x0 x1 x2 x3 x4 x5 y)]
  refine View.canon_apply_of_pieces _ _ ?_ y (cover0_A_7 c i a0 h0 a1 h1 a2 h2 a3 h3 a4 h4 a5 h5 a6 h6 a7 h7 x0 x1 x2 x3 x4 x5 y)
  unfold kernelRun0_A
  dsimp only
  sl_unfold_words
  have e1 : a1.view.readAt (Elt Ideal) (Rect.unit (s := S128x128) ![0, 0] S128x128.size inb_S128x128_S128x128_0_0).toLoadRect (h1.unread x1) = x1 := by
    rw [View.readAt_eq_ld, h1.read_unread]; exact View.ld_unit_zero (funext fun a => by match a with | 0 => rfl | 1 => rfl) _ _
  have e2 : a2.view.readAt (Elt Ideal) (Rect.unit (s := S512x128) ![0, 0] S512x128.size inb_S512x128_S512x128_0_0).toLoadRect (h2.unread x2) = x2 := by
    rw [View.readAt_eq_ld, h2.read_unread]; exact View.ld_unit_zero (funext fun a => by match a with | 0 => rfl | 1 => rfl) _ _
  rw [e1, e2]
  simp only [View.readAt_eq_ld, h0.read_unread, h5.read_unread]
  intro p hp x
  simp only [List.mem_cons, List.mem_nil_iff, or_false] at hp
  rcases hp with rfl | rfl | rfl | rfl | rfl | rfl | rfl | rfl | rfl | rfl | rfl | rfl | rfl | rfl | rfl | rfl
  · exact Eq.trans (b := logTile i x0 x1 x2 x5 3 3 x) rfl (congrArg (fun z : Fin 4 × Fin 4 × S128x128.Idx => logTile i x0 x1 x2 x5 z.1 z.2.1 z.2.2) (place_emb 3 3 x (piece_inb 3 3))).symm
  · exact Eq.trans (b := logTile i x0 x1 x2 x5 3 2 x) rfl (congrArg (fun z : Fin 4 × Fin 4 × S128x128.Idx => logTile i x0 x1 x2 x5 z.1 z.2.1 z.2.2) (place_emb 3 2 x (piece_inb 3 2))).symm
  · exact Eq.trans (b := logTile i x0 x1 x2 x5 3 1 x) rfl (congrArg (fun z : Fin 4 × Fin 4 × S128x128.Idx => logTile i x0 x1 x2 x5 z.1 z.2.1 z.2.2) (place_emb 3 1 x (piece_inb 3 1))).symm
  · exact Eq.trans (b := logTile i x0 x1 x2 x5 3 0 x) rfl (congrArg (fun z : Fin 4 × Fin 4 × S128x128.Idx => logTile i x0 x1 x2 x5 z.1 z.2.1 z.2.2) (place_emb 3 0 x (piece_inb 3 0))).symm
  · exact Eq.trans (b := logTile i x0 x1 x2 x5 2 3 x) rfl (congrArg (fun z : Fin 4 × Fin 4 × S128x128.Idx => logTile i x0 x1 x2 x5 z.1 z.2.1 z.2.2) (place_emb 2 3 x (piece_inb 2 3))).symm
  · exact Eq.trans (b := logTile i x0 x1 x2 x5 2 2 x) rfl (congrArg (fun z : Fin 4 × Fin 4 × S128x128.Idx => logTile i x0 x1 x2 x5 z.1 z.2.1 z.2.2) (place_emb 2 2 x (piece_inb 2 2))).symm
  · exact Eq.trans (b := logTile i x0 x1 x2 x5 2 1 x) rfl (congrArg (fun z : Fin 4 × Fin 4 × S128x128.Idx => logTile i x0 x1 x2 x5 z.1 z.2.1 z.2.2) (place_emb 2 1 x (piece_inb 2 1))).symm
  · exact Eq.trans (b := logTile i x0 x1 x2 x5 2 0 x) rfl (congrArg (fun z : Fin 4 × Fin 4 × S128x128.Idx => logTile i x0 x1 x2 x5 z.1 z.2.1 z.2.2) (place_emb 2 0 x (piece_inb 2 0))).symm
  · exact Eq.trans (b := logTile i x0 x1 x2 x5 1 3 x) rfl (congrArg (fun z : Fin 4 × Fin 4 × S128x128.Idx => logTile i x0 x1 x2 x5 z.1 z.2.1 z.2.2) (place_emb 1 3 x (piece_inb 1 3))).symm
  · exact Eq.trans (b := logTile i x0 x1 x2 x5 1 2 x) rfl (congrArg (fun z : Fin 4 × Fin 4 × S128x128.Idx => logTile i x0 x1 x2 x5 z.1 z.2.1 z.2.2) (place_emb 1 2 x (piece_inb 1 2))).symm
  · exact Eq.trans (b := logTile i x0 x1 x2 x5 1 1 x) rfl (congrArg (fun z : Fin 4 × Fin 4 × S128x128.Idx => logTile i x0 x1 x2 x5 z.1 z.2.1 z.2.2) (place_emb 1 1 x (piece_inb 1 1))).symm
  · exact Eq.trans (b := logTile i x0 x1 x2 x5 1 0 x) rfl (congrArg (fun z : Fin 4 × Fin 4 × S128x128.Idx => logTile i x0 x1 x2 x5 z.1 z.2.1 z.2.2) (place_emb 1 0 x (piece_inb 1 0))).symm
  · exact Eq.trans (b := logTile i x0 x1 x2 x5 0 3 x) rfl (congrArg (fun z : Fin 4 × Fin 4 × S128x128.Idx => logTile i x0 x1 x2 x5 z.1 z.2.1 z.2.2) (place_emb 0 3 x (piece_inb 0 3))).symm
  · exact Eq.trans (b := logTile i x0 x1 x2 x5 0 2 x) rfl (congrArg (fun z : Fin 4 × Fin 4 × S128x128.Idx => logTile i x0 x1 x2 x5 z.1 z.2.1 z.2.2) (place_emb 0 2 x (piece_inb 0 2))).symm
  · exact Eq.trans (b := logTile i x0 x1 x2 x5 0 1 x) rfl (congrArg (fun z : Fin 4 × Fin 4 × S128x128.Idx => logTile i x0 x1 x2 x5 z.1 z.2.1 z.2.2) (place_emb 0 1 x (piece_inb 0 1))).symm
  · exact Eq.trans (b := logTile i x0 x1 x2 x5 0 0 x) rfl (congrArg (fun z : Fin 4 × Fin 4 × S128x128.Idx => logTile i x0 x1 x2 x5 z.1 z.2.1 z.2.2) (place_emb 0 0 x (piece_inb 0 0))).symm

end Cert.SwaTile
-- ==== Proof.SwaRead.lean ====
/- Hand-written. The tiles of SwaTile.lean at an index, as real sums, for blocks that are all real. -/
module

public import proofs.«01_k».proof.Proof.SwaTile
public import proofs.«01_k».proof.Proof.TileRead

@[expose] public section

noncomputable section

namespace Cert.SwaTile

open Cert.SwaFwdIdeal Cert.SwaFwdIdeal.Gen Idealize.ShloMosaic Idealize.ShloMosaic.TcCoe Idealize.SL.Sem Cert.Spec
open Cert.Tile (Holds choose_ite and_words or_words first_word second_word half_sum word_scale)
open scoped BigOperators

/-! ### Masks -/

theorem named_mask : (Named.named κ "mask" 0xF149F2CA#32 : Ideal .f32) = ⊥ := rfl

theorem near_word : ∀ (r : Fin 128) (c : Fin 256), IntOp.andi (IntOp.cmpi CmpIPredicate.sgt (BitVec.ofNat 32 c) (BitVec.ofNat 32 r))
    (IntOp.cmpi CmpIPredicate.sle (BitVec.ofNat 32 c) (IntOp.addi (BitVec.ofNat 32 r) 128#32))
      = BitVec.ofBool (decide (c.val ≤ r.val + 128 ∧ r.val < c.val)) := by decide +kernel

theorem past_word : ∀ c : Fin 256, IntOp.cmpi CmpIPredicate.sge (BitVec.ofNat 32 c) 128#32 = BitVec.ofBool (decide (128 ≤ c.val)) := by decide +kernel

theorem step_word : ∀ n : Fin 16, IntOp.cmpi CmpIPredicate.sgt (BitVec.ofNat 32 n) 0#32 = BitVec.ofBool (decide (0 < n.val)) := by decide +kernel

theorem first_apply (r l : Fin 128) : first (ix2 r l) = BitVec.ofBool (decide (l.val / 64 = 0)) := by
  pointwise [first, half]
  exact first_word l

theorem second_apply (r l : Fin 128) : second (ix2 r l) = BitVec.ofBool (decide (l.val / 64 = 1)) := by
  pointwise [second, half]
  exact second_word l

theorem near_apply (r : Fin 128) (c : Fin 256) : near (ix2 r c) = BitVec.ofBool (decide (c.val ≤ r.val + 128 ∧ r.val < c.val)) := by
  pointwise [near, rows, cols]
  exact near_word r c

theorem nearFirst_apply (p : Prop) [Decidable p] (r : Fin 128) (c : Fin 256) :
    nearFirst (BitVec.ofBool (decide p)) (ix2 r c) = BitVec.ofBool (decide ((c.val ≤ r.val + 128 ∧ r.val < c.val) ∧ (128 ≤ c.val ∨ p))) := by
  have hn := near_apply r c
  unfold nearFirst
  generalize near = x at hn
  pointwise [cols]
  rw [hn, past_word, or_words, and_words]

theorem hasPrev_apply (i : grid0.Coords) : hasPrev i = BitVec.ofBool (decide (0 < (i 1).val)) := step_word (i 1)

theorem ok_apply (i : grid0.Coords) (u : Fin 4) (r : Fin 128) (c : Fin 256) :
    ok i u (ix2 r c) = BitVec.ofBool (decide (sees (4 * (i 1).val + u) r c)) := by
  unfold ok
  by_cases h : u = 0
  · rw [if_pos h, hasPrev_apply, nearFirst_apply]
    subst h
    refine congrArg BitVec.ofBool (decide_eq_decide.mpr ?_)
    unfold sees
    show _ ↔ _ ∧ _ ∧ ¬ (4 * (i 1).val + 0 = 0 ∧ _)
    omega
  · rw [if_neg h, near_apply]
    have : u.val ≠ 0 := fun e => h (Fin.ext e)
    refine congrArg BitVec.ofBool (decide_eq_decide.mpr ?_)
    unfold sees
    omega

/-! ### Layout -/

theorem join_apply (a : FVec Ideal S128x128 .bf16) (b : FVec Ideal S512x128 .bf16) (r : Fin 640) (l : Fin 128) :
    join a b (ix2 r l) = if h : r.val < 128 then a (ix2 ⟨r, h⟩ l) else b (ix2 ⟨r.val - 128, by omega⟩ l) := by
  pointwise [join]

theorem turn_apply (x : FVec Ideal S640x128 .bf16) (r : Fin 640) (l : Fin 128) : turn x (ix2 r l) = x (ix2 r ⟨(l.val + 64) % 128, by omega⟩) := by
  pointwise [turn]
  have e : l.val + 128 - 64 = l.val + 64 := by omega
  simp only [e]

theorem span_apply (u : Fin 4) (x : FVec Ideal S640x128 .bf16) (r : Fin 256) (l : Fin 128) :
    span u x (ix2 r l) = x (ix2 ⟨128 * u.val + r.val, by omega⟩ l) := by
  pointwise [span]

theorem piece_apply (u p : Fin 4) (x : FVec Ideal S512x512 .bf16) (r l : Fin 128) :
    piece u p x (ix2 r l) = x (ix2 ⟨128 * u.val + r.val, by omega⟩ ⟨128 * p.val + l.val, by omega⟩) := by
  pointwise [piece]

theorem sink_apply (n : Fin 8) (x : FVec Ideal S1x512 .f32) : sink n x (ix2 0 0) = x (ix2 0 ⟨64 * n.val, by omega⟩) := by
  pointwise [sink]

/-! ### One head, on real operands -/

theorem scaled_apply {m : IVec S128x128 1} {h : Nat} (hm : ∀ r l : Fin 128, m (ix2 r l) = BitVec.ofBool (decide (l.val / 64 = h)))
    (x : FVec Ideal S128x128 .bf16) (f : Nat → Nat → ℝ) (hx : Holds x f) (r l : Fin 128) :
    scaled m x (ix2 r l) = ((if l.val / 64 = h then f r l * 0.125 else 0 : ℝ) : EReal) := by
  pointwise [scaled]
  rw [hm, choose_ite, word_scale]
  by_cases e : l.val / 64 = h
  · rw [if_pos e, if_pos e, hx r l, ← EReal.coe_mul]
  · rw [if_neg e, if_neg e]; rfl

theorem against_apply (x : FVec Ideal S128x128 .bf16) (k : FVec Ideal S256x128 .bf16) {h : Nat} (hh : h < 2) (f g : Nat → Nat → ℝ)
    (hx : ∀ r l : Fin 128, x (ix2 r l) = ((if l.val / 64 = h then f r l * 0.125 else 0 : ℝ) : EReal))
    (hk : Holds k g) (r : Fin 128) (c : Fin 256) :
    against x k (ix2 r c) = ((∑ d ∈ Finset.range 64, f r (64 * h + d) * 0.125 * g c (64 * h + d) : ℝ) : EReal) := by
  pointwise [against]
  simp only [hx, hk c, ← EReal.coe_mul]
  rw [sum_fin_coe _ (fun l => if l / 64 = h then f r l * 0.125 * g c l else 0)]
  · rw [half_sum (fun l => f r l * 0.125 * g c l) h hh]
  · intro l
    split
    · rfl
    · rw [zero_mul]

theorem scores_apply (m : IVec S128x256 1) (P : Nat → Nat → Prop) [∀ r c, Decidable (P r c)] (x : FVec Ideal S128x256 .f32) (s : Nat → Nat → ℝ)
    (hm : ∀ (r : Fin 128) (c : Fin 256), m (ix2 r c) = BitVec.ofBool (decide (P r c))) (hs : Holds x s) (r : Fin 128) (c : Fin 256) :
    scores m x (ix2 r c) = if P r c then (s r c : EReal) else ⊥ := by
  pointwise [scores]
  rw [hm, hs r c, choose_ite, named_mask]

theorem max_real (a : EReal) (ha : a ≠ ⊤) (S : ℝ) : ∃ M : ℝ, max a (S : EReal) = (M : EReal) := by
  induction a using EReal.rec with
  | bot => exact ⟨S, max_eq_right bot_le⟩
  | coe a => exact ⟨max a S, (EReal.coe_strictMono.monotone.map_max).symm⟩
  | top => exact absurd rfl ha

theorem top_real (x : FVec Ideal S128x256 .f32) (s : FVec Ideal S1x1 .f32) (S : ℝ) (hs : s (ix2 0 0) = (S : EReal)) (r : Fin 128)
    (hx : ∀ c : Fin 256, x (ix2 r c) ≠ ⊤) : ∃ M : ℝ, top x s (ix2 r 0) = (M : EReal) := by
  have hf : Finset.univ.fold max (⊥ : EReal) (fun c : Fin 256 => x (ix2 r c)) ≠ ⊤ :=
    ((Finset.fold_max_lt _).mpr ⟨bot_lt_top, fun c _ => lt_top_iff_ne_top.mpr (hx c)⟩).ne
  obtain ⟨M, hM⟩ := max_real _ hf S
  refine ⟨M, ?_⟩
  rw [← hM]
  pointwise [top]
  rw [hs]
  have hb : Ideal.ofBits .f32 0xFF800000#32 = ⊥ := by simp [Ideal.ofBits, Ideal.ieee]
  rw [hb]

theorem exps_apply (x : FVec Ideal S128x256 .f32) (M : FVec Ideal S128x1 .f32) (P : Nat → Prop) [∀ c, Decidable (P c)] (s : Nat → ℝ) (M' : ℝ)
    (r : Fin 128) (hx : ∀ c : Fin 256, x (ix2 r c) = if P c then (s c : EReal) else ⊥) (hM : M (ix2 r 0) = (M' : EReal)) (c : Fin 256) :
    exps x M (ix2 r c) = ((if P c then Real.exp (s c - M') else 0 : ℝ) : EReal) := by
  pointwise [exps]
  rw [hx, hM]
  exact exp_masked _ _ _

theorem total_apply (e : FVec Ideal S128x256 .f32) (M : FVec Ideal S128x1 .f32) (s : FVec Ideal S1x1 .f32) (f : Nat → ℝ) (M' S : ℝ)
    (r : Fin 128) (he : ∀ c : Fin 256, e (ix2 r c) = (f c : EReal)) (hM : M (ix2 r 0) = (M' : EReal)) (hs : s (ix2 0 0) = (S : EReal)) :
    total e M s (ix2 r 0) = (((∑ c ∈ Finset.range 256, f c) + Real.exp (S - M') : ℝ) : EReal) := by
  pointwise [total]
  rw [sum_fin_coe _ f he, hs, hM, ← EReal.coe_sub, EReal.coe_add]
  rfl

theorem mixed_apply (e : FVec Ideal S128x256 .f32) (v : FVec Ideal S256x128 .bf16) (L : FVec Ideal S128x1 .f32) (f g : Nat → ℝ) (L' : ℝ)
    (hL' : L' ≠ 0) (r l : Fin 128) (he : ∀ c : Fin 256, e (ix2 r c) = (f c : EReal)) (hv : ∀ c : Fin 256, v (ix2 c l) = (g c : EReal))
    (hL : L (ix2 r 0) = (L' : EReal)) :
    mixed e v L (ix2 r l) = (((∑ c ∈ Finset.range 256, f c * g c) / L' : ℝ) : EReal) := by
  pointwise [mixed]
  simp only [he, hv, hL, ← EReal.coe_mul]
  rw [sum_fin_coe _ (fun c => f c * g c) (fun _ => rfl)]
  exact div_real hL' _

section
variable (Q K V : Nat → Nat → Nat → ℝ) (S : Nat → ℝ) (n h g : Nat) (x : FVec Ideal S128x256 .f32) (s : FVec Ideal S1x1 .f32) (r : Fin 128)
  (hx : ∀ c : Fin 256, x (ix2 r c) = if sees n r c then (score Q K n r h g c : EReal) else ⊥) (hs : s (ix2 0 0) = (S (4 * h + g) : EReal))
include hx hs

theorem head_total : ∃ M : ℝ, top x s (ix2 r 0) = (M : EReal)
    ∧ (∀ c : Fin 256, exps x (top x s) (ix2 r c) = ((if sees n r c then Real.exp (score Q K n r h g c - M) else 0 : ℝ) : EReal))
    ∧ total (exps x (top x s)) (top x s) s (ix2 r 0) = ((den Q K S n r h g * Real.exp (-M) : ℝ) : EReal) := by
  obtain ⟨M, hM⟩ := top_real x s _ hs r fun c => by
    rw [hx c]
    split
    · exact EReal.coe_ne_top _
    · exact bot_ne_top
  have he := exps_apply x (top x s) (fun c => sees n r c) (fun c => score Q K n r h g c) M r hx hM
  refine ⟨M, hM, he, ?_⟩
  rw [total_apply _ _ _ (fun c => if sees n r c then Real.exp (score Q K n r h g c - M) else 0) M (S (4 * h + g)) r he hM hs]
  exact congrArg Real.toEReal (den_shift Q K S M n r h g)

theorem outHead_apply (v : FVec Ideal S256x128 .bf16) (Y : Nat → ℝ) (l : Fin 128) (hv : ∀ c : Fin 256, v (ix2 c l) = (Y c : EReal)) (d : Nat)
    (hY : ∀ c, c < 256 → sees n r c → Y c = band V n c h d) : outHead x v s (ix2 r l) = (out Q K V S n r h g d : EReal) := by
  obtain ⟨M, hM, he, hL⟩ := head_total Q K S n h g x s r hx hs
  have hd := den_pos Q K S n r h g
  unfold outHead
  rw [mixed_apply _ v _ (fun c => if sees n r c then Real.exp (score Q K n r h g c - M) else 0) Y _ (mul_pos hd (Real.exp_pos _)).ne' r l he hv hL]
  refine congrArg Real.toEReal ?_
  unfold out
  rw [Finset.sum_div]
  refine Finset.sum_congr rfl fun c hc => ?_
  rw [mul_div_right_comm, wt_shift]
  by_cases e : sees n r c
  · rw [hY c (Finset.mem_range.mp hc) e]
  · unfold wt
    rw [if_neg e, zero_mul, zero_mul]

theorem logHead_apply : logHead x s (ix2 r 0) = (Real.log (den Q K S n r h g) : EReal) := by
  obtain ⟨M, hM, he, hL⟩ := head_total Q K S n h g x s r hx hs
  have hd := den_pos Q K S n r h g
  unfold logHead
  rw [addf_apply, hM]
  show (M : EReal) + Ideal.log (total (exps x (top x s)) (top x s) s (ix2 r 0)) = _
  rw [hL, log_pos (mul_pos hd (Real.exp_pos _)), ← EReal.coe_add]
  refine congrArg Real.toEReal ?_
  rw [Real.log_mul hd.ne' (Real.exp_pos _).ne', Real.log_exp]
  ring

end

/-! ### One tile -/

/-- The row of keys that row `r` of a step's 640 rows is, in every step but for the first's rows before the array. -/
def keyRow (j r : Nat) : Nat := if r < 128 then 128 * (4 * j - 1) + r else 512 * j + (r - 128)

theorem keyRow_eq {j u r c : Nat} (h : sees (4 * j + u) r c) : keyRow j (128 * u + c) = 128 * (4 * j + u) + c - 128 := by
  unfold sees at h
  unfold keyRow
  split <;> omega

theorem band_eq (X : Nat → Nat → Nat → ℝ) {j u r c : Nat} (hs : sees (4 * j + u) r c) (h d : Nat) :
    X (keyRow j (128 * u + c)) h d = band X (4 * j + u) c h d := by
  unfold band
  rw [if_neg hs.2.2, keyRow_eq hs]

/-- The lane of the keys' block that lane `l` holds, when the pair's key head is to lie in half `h`. -/
def lane (p h l : Nat) : Nat := if p / 2 = h then l else (l + 64) % 128

theorem lane_eq {p h d : Nat} (hp : p < 4) (hh : h < 2) (hd : d < 64) : lane p h (64 * h + d) = 64 * (p / 2) + d := by
  unfold lane
  split <;> omega

theorem aligned_holds {x : FVec Ideal S640x128 .bf16} {X : Nat → Nat → ℝ} (hx : Holds x X) (p : Fin 4) (h : Fin 2) :
    Holds (aligned p h x) (fun r l => X r (lane p h l)) := fun r l => by
  unfold aligned lane
  split
  · exact hx r l
  · rw [turn_apply]; exact hx r _

theorem span_holds {x : FVec Ideal S640x128 .bf16} {X : Nat → Nat → ℝ} (hx : Holds x X) (u : Fin 4) :
    Holds (span u x) (fun r l => X (128 * u + r) l) := fun r l => by
  rw [span_apply]; exact hx _ l

theorem piece_holds {x : FVec Ideal S512x512 .bf16} {X : Nat → Nat → ℝ} (hx : Holds x X) (u p : Fin 4) :
    Holds (piece u p x) (fun r l => X (128 * u + r) (128 * p + l)) := fun r l => by
  rw [piece_apply]; exact hx _ _

section
variable {Q K V : Nat → Nat → Nat → ℝ} {S : Nat → ℝ} {i : grid0.Coords} {b : Nat} {x0 : Vec Ideal S512x512 .bf16} {x1 : Vec Ideal S128x128 .bf16}
  {x2 : Vec Ideal S512x128 .bf16} {x3 : Vec Ideal S128x128 .bf16} {x4 : Vec Ideal S512x128 .bf16} {x5 : Vec Ideal S1x512 .f32}
  (hq : Holds (t := .bf16) x0 (fun r l => Q (512 * (i 1).val + r) (8 * b + l / 64) (l % 64)))
  (hk : Holds (join x1 x2) (fun r l => K (keyRow (i 1).val r) (2 * b + l / 64) (l % 64)))
  (hv : Holds (join x3 x4) (fun r l => V (keyRow (i 1).val r) (2 * b + l / 64) (l % 64)))
  (hs : ∀ l : Fin 512, x5 (ix2 0 l) = (S (8 * b + l / 64) : EReal)) (u p : Fin 4) (h : Fin 2)

theorem half_keeps (r l : Fin 128) : (if h = 0 then first else second) (ix2 r l) = BitVec.ofBool (decide (l.val / 64 = h.val)) := by
  match h with
  | 0 => exact first_apply r l
  | 1 => exact second_apply r l

include hq hk in
theorem headScores_apply (r : Fin 128) (c : Fin 256) : headScores i x0 x1 x2 u p h (ix2 r c)
    = if sees (4 * (i 1).val + u) r c then (score Q K (4 * (i 1).val + u) r (2 * b + p / 2) ((2 * p + h) % 4) c : EReal) else ⊥ := by
  have hp := p.isLt
  have hh := h.isLt
  unfold headScores
  rw [scores_apply _ (fun r c => sees (4 * (i 1).val + u) r c) _
    (fun r c => ∑ d ∈ Finset.range 64, Q (512 * (i 1).val + (128 * u.val + r)) (8 * b + (128 * p.val + (64 * h.val + d)) / 64) ((128 * p.val + (64 * h.val + d)) % 64)
      * 0.125 * K (keyRow (i 1).val (128 * u.val + c)) (2 * b + lane p.val h.val (64 * h.val + d) / 64) (lane p.val h.val (64 * h.val + d) % 64))
    (ok_apply i u) (fun r c => against_apply _ _ hh _ _
    (scaled_apply (half_keeps h) _ _ (piece_holds hq u p)) (span_holds (aligned_holds hk p h) u) r c)]
  split
  · next e =>
    refine congrArg Real.toEReal ?_
    unfold score
    rw [Finset.sum_mul]
    refine Finset.sum_congr rfl fun d hd => ?_
    have hd := Finset.mem_range.mp hd
    dsimp only
    rw [lane_eq hp hh hd, band_eq K e, show (128 * p.val + (64 * h.val + d)) / 64 = 2 * p + h by omega,
      show (128 * p.val + (64 * h.val + d)) % 64 = d by omega, show (64 * (p.val / 2) + d) / 64 = p / 2 by omega,
      show (64 * (p.val / 2) + d) % 64 = d by omega, show 8 * b + (2 * p.val + h) = 4 * (2 * b + p / 2) + (2 * p + h) % 4 by omega,
      show 512 * (i 1).val + (128 * u.val + r) = 128 * (4 * (i 1).val + u) + r by omega]
    ring
  · rfl

include hs in
theorem headSink : sink ⟨2 * p.val + h.val, by omega⟩ x5 (ix2 0 0) = (S (4 * (2 * b + p / 2) + (2 * p + h) % 4) : EReal) := by
  have hp := p.isLt
  have hh := h.isLt
  rw [sink_apply, hs]
  refine congrArg (fun z => ((S z : ℝ) : EReal)) ?_
  show 8 * b + 64 * (2 * p.val + h.val) / 64 = _
  omega

include hq hk hv hs in
theorem headOut_apply (r l : Fin 128) (hl : l.val / 64 = h.val) : headOut i x0 x1 x2 x3 x4 x5 u p h (ix2 r l)
    = (out Q K V S (4 * (i 1).val + u) r (2 * b + p / 2) ((2 * p + h) % 4) (l % 64) : EReal) := by
  have hp := p.isLt
  have hh := h.isLt
  refine outHead_apply Q K V S _ _ _ _ _ r (headScores_apply hq hk u p h r) (headSink hs p h) _
    (fun c => V (keyRow (i 1).val (128 * u.val + c)) (2 * b + lane p.val h.val l / 64) (lane p.val h.val l % 64)) l
    (fun c => span_holds (aligned_holds hv p h) u c l) _ fun c _ e => ?_
  dsimp only
  rw [show l.val = 64 * h + l % 64 by omega, lane_eq hp hh (by omega), band_eq V e, show (64 * (p.val / 2) + l.val % 64) / 64 = p / 2 by omega,
    show (64 * (p.val / 2) + l.val % 64) % 64 = l % 64 by omega]
  congr 1; omega

include hq hk hs in
theorem headLog_apply (r : Fin 128) : headLog i x0 x1 x2 x5 u p h (ix2 r 0)
    = (Real.log (den Q K S (4 * (i 1).val + u) r (2 * b + p / 2) ((2 * p + h) % 4)) : EReal) :=
  logHead_apply Q K S _ _ _ _ _ r (headScores_apply hq hk u p h r) (headSink hs p h)

theorem wide_apply (x : FVec Ideal S128x1 .f32) (r l : Fin 128) : wide x (ix2 r l) = x (ix2 r 0) := by
  pointwise [wide]

include hq hk hv hs in
theorem outTile_apply (r l : Fin 128) : outTile i x0 x1 x2 x3 x4 x5 u p (ix2 r l)
    = (out Q K V S (4 * (i 1).val + u) r (2 * b + p / 2) ((2 * p + l / 64) % 4) (l % 64) : EReal) := by
  have h0 := headOut_apply hq hk hv hs u p 0 r l
  have h1 := headOut_apply hq hk hv hs u p 1 r l
  have hl := l.isLt
  unfold outTile
  generalize headOut i x0 x1 x2 x3 x4 x5 u p 0 = y0 at h0 ⊢
  generalize headOut i x0 x1 x2 x3 x4 x5 u p 1 = y1 at h1 ⊢
  pointwise
  rw [first_apply, choose_ite]
  split
  · next e => rw [h0 e, e]; rfl
  · next e =>
    have e' : l.val / 64 = 1 := by omega
    rw [h1 e', e']; rfl

include hq hk hs in
theorem logTile_apply (r l : Fin 128) : logTile i x0 x1 x2 x5 u p (ix2 r l)
    = (Real.log (den Q K S (4 * (i 1).val + u) r (2 * b + p / 2) ((2 * p + l / 64) % 4)) : EReal) := by
  have h0 := headLog_apply hq hk hs u p 0 r
  have h1 := headLog_apply hq hk hs u p 1 r
  have hl := l.isLt
  unfold logTile
  generalize headLog i x0 x1 x2 x5 u p 0 = y0 at h0 ⊢
  generalize headLog i x0 x1 x2 x5 u p 1 = y1 at h1 ⊢
  show Scalar.select (first (ix2 r l)) (wide y0 (ix2 r l)) (wide y1 (ix2 r l)) = _
  rw [first_apply, choose_ite, wide_apply, wide_apply, h0, h1]
  split
  · next e => rw [e]; rfl
  · next e =>
    have e' : l.val / 64 = 1 := by omega
    rw [e']; rfl

end

end Cert.SwaTile
-- ==== Proof.SwaFwd.lean ====
/- Hand-written. The forward kernel's two result arrays, and the reference's: the attention's output and each row's log-sum. -/
module

public import proofs.«01_k».proof.Proof.SwaRead
public import proofs.«01_k».proof.Proof.HostRead
public import proofs.«01_k».proof.Proof.Gen.RefSwaFwdIdeal.Run
public import Idealize.ShloMosaic.Lib.Pipeline.ValueKit.Point

@[expose] public section

noncomputable section

namespace Cert.SwaArray

open Cert.SwaFwdIdeal Cert.SwaFwdIdeal.Gen Cert.SwaFwdIdeal.Value Idealize.ShloMosaic Idealize.ShloMosaic.TcCoe Cert.Spec Cert.SwaTile
open Cert.Host (qkArr vArr oArr lseArr qkArr_apply vArr_apply oArr_apply lseArr_apply)
open Cert.Stages (Arr)
open Cert.Tile (Holds)
open scoped BigOperators

/-! ### The blocks the kernel reads, at coordinates -/

theorem index0 : ∀ t : Fin cfg0.N, win0_0.index t = ![(grid0.coords t 1).val, (grid0.coords t 0).val] :=
  (by decide +kernel : ∀ t : Fin grid0.N, win0_0.index t = ![(grid0.coords t 1).val, (grid0.coords t 0).val])
theorem index1 : ∀ t : Fin cfg0.N, win0_1.index t = ![4 * (grid0.coords t 1).val - 1, 8 + (grid0.coords t 0).val] :=
  (by decide +kernel : ∀ t : Fin grid0.N, win0_1.index t = ![4 * (grid0.coords t 1).val - 1, 8 + (grid0.coords t 0).val])
theorem index2 : ∀ t : Fin cfg0.N, win0_2.index t = ![(grid0.coords t 1).val, 8 + (grid0.coords t 0).val] :=
  (by decide +kernel : ∀ t : Fin grid0.N, win0_2.index t = ![(grid0.coords t 1).val, 8 + (grid0.coords t 0).val])
theorem index3 : ∀ t : Fin cfg0.N, win0_3.index t = ![4 * (grid0.coords t 1).val - 1, 10 + (grid0.coords t 0).val] :=
  (by decide +kernel : ∀ t : Fin grid0.N, win0_3.index t = ![4 * (grid0.coords t 1).val - 1, 10 + (grid0.coords t 0).val])
theorem index4 : ∀ t : Fin cfg0.N, win0_4.index t = ![(grid0.coords t 1).val, 10 + (grid0.coords t 0).val] :=
  (by decide +kernel : ∀ t : Fin grid0.N, win0_4.index t = ![(grid0.coords t 1).val, 10 + (grid0.coords t 0).val])
theorem index5 : ∀ t : Fin cfg0.N, win0_5.index t = ![0, (grid0.coords t 0).val] :=
  (by decide +kernel : ∀ t : Fin grid0.N, win0_5.index t = ![0, (grid0.coords t 0).val])
theorem index6 : ∀ t : Fin cfg0.N, win0_6.index t = ![(grid0.coords t 1).val, (grid0.coords t 0).val] :=
  (by decide +kernel : ∀ t : Fin grid0.N, win0_6.index t = ![(grid0.coords t 1).val, (grid0.coords t 0).val])
theorem index7 : ∀ t : Fin cfg0.N, win0_7.index t = ![(grid0.coords t 1).val, (grid0.coords t 0).val] :=
  (by decide +kernel : ∀ t : Fin grid0.N, win0_7.index t = ![(grid0.coords t 1).val, (grid0.coords t 0).val])

theorem pair_lt (t : Fin cfg0.N) : (grid0.coords t 0).val < 2 := (grid0.coords t 0).isLt
theorem step_lt (t : Fin cfg0.N) : (grid0.coords t 1).val < 16 := (grid0.coords t 1).isLt

theorem block0 (t : Fin cfg0.N) (A : Vec Ideal S8192x1280 .bf16) (r l : Fin 512) :
    (cfg0.win 0).fill (cfg0.grid.coords t) dflt0_0 (((cfg0.win 0).blk t).view.read (Elt Ideal) A) (ix2 r l) = A (ix2 ⟨512 * (grid0.coords t 1).val + r, by have := step_lt t; omega⟩ ⟨512 * (grid0.coords t 0).val + l, by have := pair_lt t; omega⟩) := by
  unfold Pipeline.Window.fill
  rw [dif_pos (moved0_0 t _)]
  blk_simp
  refine congrArg A ?_
  blk_ext [index0 t]

theorem block1 (t : Fin cfg0.N) (A : Vec Ideal S8192x1280 .bf16) (r l : Fin 128) :
    ((cfg0.win 1).blk t).view.read (Elt Ideal) A (ix2 r l) = A (ix2 ⟨128 * (4 * (grid0.coords t 1).val - 1) + r, by have := step_lt t; omega⟩ ⟨1024 + 128 * (grid0.coords t 0).val + l, by have := pair_lt t; omega⟩) := by
  blk_simp
  refine congrArg A ?_
  blk_ext [index1 t]

theorem block2 (t : Fin cfg0.N) (A : Vec Ideal S8192x1280 .bf16) (r : Fin 512) (l : Fin 128) :
    ((cfg0.win 2).blk t).view.read (Elt Ideal) A (ix2 r l) = A (ix2 ⟨512 * (grid0.coords t 1).val + r, by have := step_lt t; omega⟩ ⟨1024 + 128 * (grid0.coords t 0).val + l, by have := pair_lt t; omega⟩) := by
  blk_simp
  refine congrArg A ?_
  blk_ext [index2 t]

theorem block3 (t : Fin cfg0.N) (A : Vec Ideal S8192x1536 .bf16) (r l : Fin 128) :
    ((cfg0.win 3).blk t).view.read (Elt Ideal) A (ix2 r l) = A (ix2 ⟨128 * (4 * (grid0.coords t 1).val - 1) + r, by have := step_lt t; omega⟩ ⟨1280 + 128 * (grid0.coords t 0).val + l, by have := pair_lt t; omega⟩) := by
  blk_simp
  refine congrArg A ?_
  blk_ext [index3 t]

theorem block4 (t : Fin cfg0.N) (A : Vec Ideal S8192x1536 .bf16) (r : Fin 512) (l : Fin 128) :
    ((cfg0.win 4).blk t).view.read (Elt Ideal) A (ix2 r l) = A (ix2 ⟨512 * (grid0.coords t 1).val + r, by have := step_lt t; omega⟩ ⟨1280 + 128 * (grid0.coords t 0).val + l, by have := pair_lt t; omega⟩) := by
  blk_simp
  refine congrArg A ?_
  blk_ext [index4 t]

theorem block5 (t : Fin cfg0.N) (A : Vec Ideal S1x1024 .f32) (l : Fin 512) :
    ((cfg0.win 5).blk t).view.read (Elt Ideal) A (ix2 0 l) = A (ix2 0 ⟨512 * (grid0.coords t 0).val + l, by have := pair_lt t; omega⟩) := by
  blk_simp
  refine congrArg A ?_
  blk_ext [index5 t]

/-! ### The arrays the kernel is called on -/

/-- Each head's sink, in the head's 64 lanes. -/
def sinkArr (s : Arr S16) : FVec Ideal S1x1024 .f32 :=
  broadcastInDim S1x1024 ![1] bcast_S1024_S1x1024_1 (shapeCast S1024 (broadcastInDim S16x64 ![0] bcast_S16_S16x64_0 s) shapeCasts_S16x64_S1024)

theorem sinkArr_apply {s : Arr S16} (hs : Fine s) (c : Fin 1024) : sinkArr s (ix2 0 c) = (rd1 s (c / 64) : EReal) := by
  pointwise [sinkArr]
  rw [hs.rd1_eq]

section
variable (m : (ℓ : Loc nD τ sig) → Buf (Elt Ideal) ℓ) (c : Dev nD)

abbrev arg0 : Arr S1x8192x16x64 := m ((c : Thread nD τ).loc main_arg0)
abbrev arg1 : Arr S1x8192x4x64 := m ((c : Thread nD τ).loc main_arg1)
abbrev arg2 : Arr S1x8192x4x64 := m ((c : Thread nD τ).loc main_arg2)
abbrev arg3 : Arr S16 := m ((c : Thread nD τ).loc main_arg3)

theorem V_v3 : V m c main_v3 = qkArr (arg0 m c) (arg1 m c) := by
  simp only [V, hostOps0, StableHlo.TRef.nullary, StableHlo.TRef.ternary, StableHlo.TRef.unary, StableHlo.TRef.toBuf, StableHlo.TRef.ofBuf, cast_eq]
  after_results_simp <;> rfl

theorem V_v7 : V m c main_v7 = vArr (arg2 m c) := by
  simp only [V, hostOps0, StableHlo.TRef.nullary, StableHlo.TRef.ternary, StableHlo.TRef.unary, StableHlo.TRef.toBuf, StableHlo.TRef.ofBuf, cast_eq]
  after_results_simp <;> rfl

theorem V_v10 : V m c main_v10 = sinkArr (arg3 m c) := by
  simp only [V, hostOps0, StableHlo.TRef.nullary, StableHlo.TRef.ternary, StableHlo.TRef.unary, StableHlo.TRef.toBuf, StableHlo.TRef.ofBuf, cast_eq]
  after_results_simp <;> rfl

end

/-! ### The operands at a point, as reals -/

section
variable {q : Arr S1x8192x16x64} {k v : Arr S1x8192x4x64} {s : Arr S16} (hq : Fine q) (hk : Fine k) (hv : Fine v) (hs : Fine s) (t : Fin cfg0.N)

include hq hk in
theorem queries_hold : Holds (t := .bf16)
    ((cfg0.win 0).fill (cfg0.grid.coords t) (dflt0_0 (F := Ideal)) (((cfg0.win 0).blk t).view.read (Elt Ideal) (qkArr q k)))
    (fun r l => rd q (512 * (grid0.coords t 1).val + r) (8 * (grid0.coords t 0).val + l / 64) (l % 64)) := fun r l => by
  have := pair_lt t
  have := step_lt t
  rw [block0, qkArr_apply hq hk]
  refine congrArg Real.toEReal ?_
  dsimp only
  rw [if_pos (by omega)]
  congr 1 <;> omega

include hq hk in
theorem keys_hold : Holds (join (((cfg0.win 1).blk t).view.read (Elt Ideal) (qkArr q k)) (((cfg0.win 2).blk t).view.read (Elt Ideal) (qkArr q k)))
    (fun r l => rd k (keyRow (grid0.coords t 1).val r) (2 * (grid0.coords t 0).val + l / 64) (l % 64)) := fun r l => by
  have := pair_lt t
  have := step_lt t
  rw [join_apply]
  unfold keyRow
  dsimp only
  split
  · rw [block1, qkArr_apply hq hk]
    refine congrArg Real.toEReal ?_
    dsimp only
    rw [if_neg (by omega)]
    congr 1 <;> omega
  · rw [block2, qkArr_apply hq hk]
    refine congrArg Real.toEReal ?_
    dsimp only
    rw [if_neg (by omega)]
    congr 1 <;> omega

include hv in
theorem vals_hold : Holds (join (((cfg0.win 3).blk t).view.read (Elt Ideal) (vArr v)) (((cfg0.win 4).blk t).view.read (Elt Ideal) (vArr v)))
    (fun r l => rd v (keyRow (grid0.coords t 1).val r) (2 * (grid0.coords t 0).val + l / 64) (l % 64)) := fun r l => by
  have := pair_lt t
  have := step_lt t
  rw [join_apply]
  unfold keyRow
  dsimp only
  split
  · rw [block3, vArr_apply hv _ _ (by dsimp only; omega)]
    refine congrArg Real.toEReal ?_
    dsimp only
    congr 1 <;> omega
  · rw [block4, vArr_apply hv _ _ (by dsimp only; omega)]
    refine congrArg Real.toEReal ?_
    dsimp only
    congr 1 <;> omega

include hs in
theorem sinks_hold (l : Fin 512) : ((cfg0.win 5).blk t).view.read (Elt Ideal) (sinkArr s) (ix2 0 l)
    = (rd1 s (8 * (grid0.coords t 0).val + l / 64) : EReal) := by
  have := pair_lt t
  rw [block5, sinkArr_apply hs]
  refine congrArg (fun z => ((rd1 s z : ℝ) : EReal)) ?_
  show (512 * (grid0.coords t 0).val + l.val) / 64 = _
  omega

include hq hk hv hs in
/-- A step's block of the output is the reference's array at the block's place. -/
theorem outBlock_eq (y : S512x512.Idx) :
    outBlock (grid0.coords t) ((cfg0.win 0).fill (cfg0.grid.coords t) (dflt0_0 (F := Ideal)) (((cfg0.win 0).blk t).view.read (Elt Ideal) (qkArr q k)))
      (((cfg0.win 1).blk t).view.read (Elt Ideal) (qkArr q k)) (((cfg0.win 2).blk t).view.read (Elt Ideal) (qkArr q k))
      (((cfg0.win 3).blk t).view.read (Elt Ideal) (vArr v)) (((cfg0.win 4).blk t).view.read (Elt Ideal) (vArr v))
      (((cfg0.win 5).blk t).view.read (Elt Ideal) (sinkArr s)) y
      = oArr q k v s (((View.whole main_v11_0).slice (win0_6.rect t)).emb y) := by
  have := pair_lt t
  have := step_lt t
  have h0 : (y 0).val < 512 := (y 0).isLt
  have h1 : (y 1).val < 512 := (y 1).isLt
  have e : ((View.whole main_v11_0).slice (win0_6.rect t)).emb y
      = ix2 ⟨512 * (grid0.coords t 1).val + (y 0).val, by omega⟩ ⟨512 * (grid0.coords t 0).val + (y 1).val, by omega⟩ := by
    blk_ext [index6 t]
  rw [e, oArr_apply hq hk hv hs]
  refine (outTile_apply (queries_hold hq hk t) (keys_hold hq hk t) (vals_hold hv t) (sinks_hold hs t) ⟨(y 0).val / 128, by omega⟩
    ⟨(y 1).val / 128, by omega⟩ ⟨(y 0).val % 128, by omega⟩ ⟨(y 1).val % 128, by omega⟩).trans (congrArg Real.toEReal ?_)
  dsimp only
  congr 1 <;> omega

include hq hk hs in
/-- A step's block of the log-sums is the reference's array at the block's place. -/
theorem logBlock_eq (y : S512x512.Idx) :
    logBlock (grid0.coords t) ((cfg0.win 0).fill (cfg0.grid.coords t) (dflt0_0 (F := Ideal)) (((cfg0.win 0).blk t).view.read (Elt Ideal) (qkArr q k)))
      (((cfg0.win 1).blk t).view.read (Elt Ideal) (qkArr q k)) (((cfg0.win 2).blk t).view.read (Elt Ideal) (qkArr q k))
      (((cfg0.win 5).blk t).view.read (Elt Ideal) (sinkArr s)) y
      = lseArr q k s (((View.whole main_v11_1).slice (win0_7.rect t)).emb y) := by
  have := pair_lt t
  have := step_lt t
  have h0 : (y 0).val < 512 := (y 0).isLt
  have h1 : (y 1).val < 512 := (y 1).isLt
  have e : ((View.whole main_v11_1).slice (win0_7.rect t)).emb y
      = ix2 ⟨512 * (grid0.coords t 1).val + (y 0).val, by omega⟩ ⟨512 * (grid0.coords t 0).val + (y 1).val, by omega⟩ := by
    blk_ext [index7 t]
  rw [e, lseArr_apply hq hk hs]
  refine (logTile_apply (queries_hold hq hk t) (keys_hold hq hk t) (sinks_hold hs t) ⟨(y 0).val / 128, by omega⟩
    ⟨(y 1).val / 128, by omega⟩ ⟨(y 0).val % 128, by omega⟩ ⟨(y 1).val % 128, by omega⟩).trans (congrArg (fun z => ((Real.log z : ℝ) : EReal)) ?_)
  dsimp only
  congr 1 <;> omega

end

/-! ### The arrays after the last step -/

variable (m : (ℓ : Loc nD τ sig) → Buf (Elt Ideal) ℓ) (c : Dev nD) (hq : Fine (arg0 m c)) (hk : Fine (arg1 m c)) (hv : Fine (arg2 m c))
  (hs : Fine (arg3 m c))

include hq hk hv hs in
theorem final6 : (dats m 0 c).arrAt 6 cfg0.N = oArr (arg0 m c) (arg1 m c) (arg2 m c) (arg3 m c) := by
  refine (dats m 0 c).arrAt_eq_of_covers 6 _ (by decide +kernel) fun t hf y => ?_
  blk_simp
  rw [after0_6, outsAt0]
  dsimp only
  rw [Cert.SwaTile.out6, ← outBlock_eq hq hk hv hs t y, ← V_v3, ← V_v7, ← V_v10]
  rfl

include hq hk hs in
theorem final7 : (dats m 0 c).arrAt 7 cfg0.N = lseArr (arg0 m c) (arg1 m c) (arg3 m c) := by
  refine (dats m 0 c).arrAt_eq_of_covers 7 _ (by decide +kernel) fun t hf y => ?_
  blk_simp
  rw [after0_7, outsAt0]
  dsimp only
  rw [Cert.SwaTile.out7, ← logBlock_eq hq hk hs t y, ← V_v3, ← V_v10]
  rfl

/-! ### The reference's arrays -/

section
variable (m' : (ℓ : Loc RefSwaFwdIdeal.nD RefSwaFwdIdeal.τ RefSwaFwdIdeal.sig) → Buf (Elt Ideal) ℓ) (d : Dev RefSwaFwdIdeal.nD)

theorem ref_out : RefSwaFwdIdeal.Value.res_main_v79 m' d
    = oArr (m' ((d.tc : Thread RefSwaFwdIdeal.nD RefSwaFwdIdeal.τ).loc RefSwaFwdIdeal.main_arg0))
      (m' ((d.tc : Thread RefSwaFwdIdeal.nD RefSwaFwdIdeal.τ).loc RefSwaFwdIdeal.main_arg1))
      (m' ((d.tc : Thread RefSwaFwdIdeal.nD RefSwaFwdIdeal.τ).loc RefSwaFwdIdeal.main_arg2))
      (m' ((d.tc : Thread RefSwaFwdIdeal.nD RefSwaFwdIdeal.τ).loc RefSwaFwdIdeal.main_arg3)) := rfl

theorem ref_log : RefSwaFwdIdeal.Value.res_main_v78 m' d
    = lseArr (m' ((d.tc : Thread RefSwaFwdIdeal.nD RefSwaFwdIdeal.τ).loc RefSwaFwdIdeal.main_arg0))
      (m' ((d.tc : Thread RefSwaFwdIdeal.nD RefSwaFwdIdeal.τ).loc RefSwaFwdIdeal.main_arg1))
      (m' ((d.tc : Thread RefSwaFwdIdeal.nD RefSwaFwdIdeal.τ).loc RefSwaFwdIdeal.main_arg3)) := rfl

end

end Cert.SwaArray
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Fine
public import proofs.«01_k».proof.Proof.Gen.DwDown
public import proofs.«01_k».proof.Proof.Gen.DwDown.Frame
public import proofs.«01_k».proof.Proof.Gen.DwDownIdeal
public import proofs.«01_k».proof.Proof.Gen.DwDownIdeal.Frame
public import proofs.«01_k».proof.Proof.Gen.DwDownIdeal.Value
public import proofs.«01_k».proof.Proof.Gen.RefDwDownIdeal
public import proofs.«01_k».proof.Proof.Gen.RefDwDownIdeal.Run
public import proofs.«01_k».proof.Proof.Gen.Hidden
public import proofs.«01_k».proof.Proof.Gen.Hidden.Frame
public import proofs.«01_k».proof.Proof.Gen.HiddenIdeal
public import proofs.«01_k».proof.Proof.Gen.HiddenIdeal.Frame
public import proofs.«01_k».proof.Proof.Gen.HiddenIdeal.Value
public import proofs.«01_k».proof.Proof.Gen.RefHiddenIdeal
public import proofs.«01_k».proof.Proof.Gen.RefHiddenIdeal.Run
public import proofs.«01_k».proof.Proof.Gen.DwGateUp
public import proofs.«01_k».proof.Proof.Gen.DwGateUp.Frame
public import proofs.«01_k».proof.Proof.Gen.DwGateUpIdeal
public import proofs.«01_k».proof.Proof.Gen.DwGateUpIdeal.Frame
public import proofs.«01_k».proof.Proof.Gen.DwGateUpIdeal.Value
public import proofs.«01_k».proof.Proof.Gen.RefDwGateUpIdeal
public import proofs.«01_k».proof.Proof.Gen.RefDwGateUpIdeal.Run
public import proofs.«01_k».proof.Proof.Gen.DxGateUp
public import proofs.«01_k».proof.Proof.Gen.DxGateUp.Frame
public import proofs.«01_k».proof.Proof.Gen.DxGateUpIdeal
public import proofs.«01_k».proof.Proof.Gen.DxGateUpIdeal.Frame
public import proofs.«01_k».proof.Proof.Gen.DxGateUpIdeal.Value
public import proofs.«01_k».proof.Proof.Gen.RefDxGateUpIdeal
public import proofs.«01_k».proof.Proof.Gen.RefDxGateUpIdeal.Run
public import proofs.«01_k».proof.Proof.DwDownHost
public import proofs.«01_k».proof.Proof.HiddenHost
public import proofs.«01_k».proof.Proof.DwGateUpHost
public import proofs.«01_k».proof.Proof.DxGateUpHost
public import proofs.«01_k».proof.Proof.Gen.DwSquare
public import proofs.«01_k».proof.Proof.Gen.DwSquare.Frame
public import proofs.«01_k».proof.Proof.Gen.DwSquareIdeal
public import proofs.«01_k».proof.Proof.Gen.DwSquareIdeal.Frame
public import proofs.«01_k».proof.Proof.Gen.RefDwSquareIdeal
public import proofs.«01_k».proof.Proof.Gen.DwEvIn
public import proofs.«01_k».proof.Proof.Gen.DwEvIn.Frame
public import proofs.«01_k».proof.Proof.Gen.DwEvInIdeal
public import proofs.«01_k».proof.Proof.Gen.DwEvInIdeal.Frame
public import proofs.«01_k».proof.Proof.Gen.RefDwEvInIdeal
public import proofs.«01_k».proof.Proof.Gen.DwOdIn
public import proofs.«01_k».proof.Proof.Gen.DwOdIn.Frame
public import proofs.«01_k».proof.Proof.Gen.DwOdInIdeal
public import proofs.«01_k».proof.Proof.Gen.DwOdInIdeal.Frame
public import proofs.«01_k».proof.Proof.Gen.RefDwOdInIdeal
public import proofs.«01_k».proof.Proof.Gen.DwPleProj
public import proofs.«01_k».proof.Proof.Gen.DwPleProj.Frame
public import proofs.«01_k».proof.Proof.Gen.DwPleProjIdeal
public import proofs.«01_k».proof.Proof.Gen.DwPleProjIdeal.Frame
public import proofs.«01_k».proof.Proof.Gen.RefDwPleProjIdeal
public import proofs.«01_k».proof.Proof.Gen.DxEvIn
public import proofs.«01_k».proof.Proof.Gen.DxEvIn.Frame
public import proofs.«01_k».proof.Proof.Gen.DxEvInIdeal
public import proofs.«01_k».proof.Proof.Gen.DxEvInIdeal.Frame
public import proofs.«01_k».proof.Proof.Gen.RefDxEvInIdeal
public import proofs.«01_k».proof.Proof.Gen.DxOdIn
public import proofs.«01_k».proof.Proof.Gen.DxOdIn.Frame
public import proofs.«01_k».proof.Proof.Gen.DxOdInIdeal
public import proofs.«01_k».proof.Proof.Gen.DxOdInIdeal.Frame
public import proofs.«01_k».proof.Proof.Gen.RefDxOdInIdeal
public import proofs.«01_k».proof.Proof.Gen.DxPleGate
public import proofs.«01_k».proof.Proof.Gen.DxPleGate.Frame
public import proofs.«01_k».proof.Proof.Gen.DxPleGateIdeal
public import proofs.«01_k».proof.Proof.Gen.DxPleGateIdeal.Frame
public import proofs.«01_k».proof.Proof.Gen.RefDxPleGateIdeal
public import proofs.«01_k».proof.Proof.Gen.DxOut
public import proofs.«01_k».proof.Proof.Gen.DxOut.Frame
public import proofs.«01_k».proof.Proof.Gen.DxOutIdeal
public import proofs.«01_k».proof.Proof.Gen.DxOutIdeal.Frame
public import proofs.«01_k».proof.Proof.Gen.RefDxOutIdeal
public import proofs.«01_k».proof.Proof.Gen.EvIn
public import proofs.«01_k».proof.Proof.Gen.EvIn.Frame
public import proofs.«01_k».proof.Proof.Gen.EvInIdeal
public import proofs.«01_k».proof.Proof.Gen.EvInIdeal.Frame
public import proofs.«01_k».proof.Proof.Gen.RefEvInIdeal
public import proofs.«01_k».proof.Proof.Gen.OdIn
public import proofs.«01_k».proof.Proof.Gen.OdIn.Frame
public import proofs.«01_k».proof.Proof.Gen.OdInIdeal
public import proofs.«01_k».proof.Proof.Gen.OdInIdeal.Frame
public import proofs.«01_k».proof.Proof.Gen.RefOdInIdeal
public import proofs.«01_k».proof.Proof.Gen.PleGate
public import proofs.«01_k».proof.Proof.Gen.PleGate.Frame
public import proofs.«01_k».proof.Proof.Gen.PleGateIdeal
public import proofs.«01_k».proof.Proof.Gen.PleGateIdeal.Frame
public import proofs.«01_k».proof.Proof.Gen.RefPleGateIdeal
public import proofs.«01_k».proof.Proof.Gen.PleProj
public import proofs.«01_k».proof.Proof.Gen.PleProj.Frame
public import proofs.«01_k».proof.Proof.Gen.PleProjIdeal
public import proofs.«01_k».proof.Proof.Gen.PleProjIdeal.Frame
public import proofs.«01_k».proof.Proof.Gen.RefPleProjIdeal
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.RefMixOutIdeal
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.RefDownIdeal
public import proofs.«01_k».proof.Proof.Gen.GateUp
public import proofs.«01_k».proof.Proof.Gen.GateUp.Frame
public import proofs.«01_k».proof.Proof.Gen.GateUpIdeal
public import proofs.«01_k».proof.Proof.Gen.GateUpIdeal.Frame
public import proofs.«01_k».proof.Proof.Gen.RefGateUpIdeal
public import proofs.«01_k».proof.Proof.Products
public import proofs.«01_k».proof.Proof.Gen.GradX
public import proofs.«01_k».proof.Proof.Gen.GradX.Frame
public import proofs.«01_k».proof.Proof.Gen.GradXIdeal
public import proofs.«01_k».proof.Proof.Gen.GradXIdeal.Frame
public import proofs.«01_k».proof.Proof.Gen.RefGradXIdeal
public import proofs.«01_k».proof.Proof.Gen.RmsBwd
public import proofs.«01_k».proof.Proof.Gen.RmsBwd.Frame
public import proofs.«01_k».proof.Proof.Gen.RmsBwdIdeal
public import proofs.«01_k».proof.Proof.Gen.RmsBwdIdeal.Frame
public import proofs.«01_k».proof.Proof.Gen.RefRmsBwdIdeal
public import proofs.«01_k».proof.Proof.Gen.RmsMixBwd
public import proofs.«01_k».proof.Proof.Gen.RmsMixBwd.Frame
public import proofs.«01_k».proof.Proof.Gen.RmsMixBwdIdeal
public import proofs.«01_k».proof.Proof.Gen.RmsMixBwdIdeal.Frame
public import proofs.«01_k».proof.Proof.Gen.RefRmsMixBwdIdeal
public import proofs.«01_k».proof.Proof.Gen.PleBwd
public import proofs.«01_k».proof.Proof.Gen.PleBwd.Frame
public import proofs.«01_k».proof.Proof.Gen.PleBwdIdeal
public import proofs.«01_k».proof.Proof.Gen.PleBwdIdeal.Frame
public import proofs.«01_k».proof.Proof.Gen.RefPleBwdIdeal
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.RefLossIdeal
public import proofs.«01_k».proof.Proof.Gen.RmsFwd
public import proofs.«01_k».proof.Proof.Gen.RmsFwd.Frame
public import proofs.«01_k».proof.Proof.Gen.RmsFwdIdeal
public import proofs.«01_k».proof.Proof.Gen.RmsFwdIdeal.Frame
public import proofs.«01_k».proof.Proof.Gen.RefRmsFwdIdeal
public import proofs.«01_k».proof.Proof.Gen.PleFwd
public import proofs.«01_k».proof.Proof.Gen.PleFwd.Frame
public import proofs.«01_k».proof.Proof.Gen.PleFwdIdeal
public import proofs.«01_k».proof.Proof.Gen.PleFwdIdeal.Frame
public import proofs.«01_k».proof.Proof.Gen.RefPleFwdIdeal
public import proofs.«01_k».proof.Proof.Gen.PleNorm
public import proofs.«01_k».proof.Proof.Gen.PleNorm.Frame
public import proofs.«01_k».proof.Proof.Gen.PleNormIdeal
public import proofs.«01_k».proof.Proof.Gen.PleNormIdeal.Frame
public import proofs.«01_k».proof.Proof.Gen.RefPleNormIdeal
public import proofs.«01_k».proof.Proof.Norms
public import proofs.«01_k».proof.Proof.Gen.SwaFwd
public import proofs.«01_k».proof.Proof.Gen.SwaFwd.Frame
public import proofs.«01_k».proof.Proof.Gen.SwaFwdIdeal
public import proofs.«01_k».proof.Proof.Gen.SwaFwdIdeal.Frame
public import proofs.«01_k».proof.Proof.Gen.SwaFwdIdeal.Value
public import proofs.«01_k».proof.Proof.Gen.RefSwaFwdIdeal
public import proofs.«01_k».proof.Proof.Gen.RefSwaFwdIdeal.Run
public import proofs.«01_k».proof.Proof.SwaFwd
public import Idealize.ShloMosaic.Adequacy
public import Idealize.ShloMosaic.Init

@[expose] public section

noncomputable section

namespace Cert.Proof

open Idealize.ShloMosaic Idealize.SL.Sem

theorem algebraic :
    Cert.algebraic_KernelIdeal_ReferenceIdeal_pre_finite (hKernelIdeal := Cert.KernelIdeal.Gen.facts)
      (hReferenceIdeal := Cert.ReferenceIdeal.Gen.facts) (hPre_finite := preFacts) := by
  intro m g m' g' hp he
  refine ⟨fun c => Cert.Stages.dkArr (Cert.Host.arg0 m c) (Cert.Host.arg1 m c) (Cert.Host.arg2 m c) (Cert.Host.arg3 m c) (Cert.Host.arg4 m c),
    fun c => Cert.Stages.dvArr (Cert.Host.arg0 m c) (Cert.Host.arg1 m c) (Cert.Host.arg3 m c) (Cert.Host.arg4 m c), ?_, ?_⟩
  · refine θ_run_mono (Cert.KernelIdeal.Value.run_blocks m g) fun r h c => ?_
    obtain ⟨p0, p1, p2, p3, p4⟩ := hp c
    have hq := fine_of_lt _ _ _ p0
    have hk := fine_of_lt _ _ _ p1
    have hv := fine_of_lt _ _ _ p2
    have hs := fine_of_lt _ _ _ p3
    have hc := fine_of_lt _ _ _ p4
    obtain ⟨h10, h11, hr⟩ := h c
    exact ⟨h10.trans (Cert.Array.final10 m c hq hk hv hs hc), h11.trans (Cert.Array.final11 m c hq hk hs hc), hr⟩
  · refine θ_run_mono (Cert.ReferenceIdeal.Value.run m' g') fun r h c => ?_
    obtain ⟨hdk, hdv, hr⟩ := h c
    obtain ⟨e0, e1, e2, e3, e4⟩ := he c
    refine ⟨hdk.trans ((Cert.Stages.dk_term m' c).trans ?_), hdv.trans ((Cert.Stages.dv_term m' c).trans ?_), hr⟩
    · exact congr (congr (congr (congr (congrArg Cert.Stages.dkArr e0) e1) e2) e3) e4
    · exact congr (congr (congr (congrArg Cert.Stages.dvArr e0) e1) e3) e4

/-- A function of the five feed-forward arguments takes equal arguments to equal values. -/
theorem congr_args {α : Type} (f : Cert.Ffn.Act → Cert.Ffn.Win → Cert.Ffn.Win → Cert.Ffn.Wout → Cert.Ffn.Act → α) {x x' g g' u u' d d' t t'}
    (e0 : x = x') (e1 : g = g') (e2 : u = u') (e3 : d = d') (e4 : t = t') : f x g u d t = f x' g' u' d' t' := by
  subst e0 e1 e2 e3 e4
  rfl

theorem dwDown_algebraic :
    Cert.algebraic_DwDownIdeal_RefDwDownIdeal (hDwDownIdeal := Cert.DwDownIdeal.Gen.facts) (hRefDwDownIdeal := Cert.RefDwDownIdeal.Gen.facts) := by
  intro m g m' g' _ he
  refine ⟨fun c => Cert.DwDownRef.refArr (Cert.DwDownRef.dw (Cert.Ffn.hid (Cert.Ffn.into (Cert.DwDownArray.arg0 m c) (Cert.DwDownArray.arg1 m c)) (Cert.Ffn.into (Cert.DwDownArray.arg0 m c) (Cert.DwDownArray.arg2 m c))) (Cert.DwDownArray.arg4 m c)), ?_, ?_⟩
  · refine θ_run_mono (Cert.DwDownIdeal.Value.run_blocks m g) fun r h c => ?_
    obtain ⟨ho, hr⟩ := h c
    exact ⟨ho.trans ((Cert.DwDownArray.final m c _ _ (Cert.DwDownArray.V_v9 m c) (Cert.DwDownArray.V_v11 m c)).trans (Cert.DwDownArray.refArr_eq _ _).symm), hr⟩
  · refine θ_run_mono (Cert.RefDwDownIdeal.Value.run m' g') fun r h c => ?_
    obtain ⟨ho, hr⟩ := h c
    obtain ⟨e0, e1, e2, e3, e4⟩ := he c
    exact ⟨ho.trans (congr_args (fun x g u d ct => Cert.DwDownRef.refArr (Cert.DwDownRef.dw (Cert.Ffn.hid (Cert.Ffn.into x g) (Cert.Ffn.into x u)) ct)) e0 e1 e2 e3 e4), hr⟩

theorem hidden_algebraic :
    Cert.algebraic_HiddenIdeal_RefHiddenIdeal_pre_finite_ffn (hHiddenIdeal := Cert.HiddenIdeal.Gen.facts)
      (hRefHiddenIdeal := Cert.RefHiddenIdeal.Gen.facts) (hPre_finite_ffn := preFactsFfn) := by
  intro m g m' g' hp he
  refine ⟨fun c => Cert.HiddenRef.refArr (Cert.Ffn.dGate (Cert.Ffn.into (Cert.HiddenArray.arg0 m c) (Cert.HiddenArray.arg1 m c)) (Cert.Ffn.into (Cert.HiddenArray.arg0 m c) (Cert.HiddenArray.arg2 m c)) (Cert.Ffn.back (Cert.HiddenArray.arg4 m c) (Cert.HiddenArray.arg3 m c)))
    (Cert.Ffn.dUp (Cert.Ffn.into (Cert.HiddenArray.arg0 m c) (Cert.HiddenArray.arg1 m c)) (Cert.Ffn.back (Cert.HiddenArray.arg4 m c) (Cert.HiddenArray.arg3 m c))), ?_, ?_⟩
  · refine θ_run_mono (Cert.HiddenIdeal.Value.run_blocks m g) fun r h c => ?_
    obtain ⟨p0, p1, p2, p3, p4⟩ := hp c
    obtain ⟨ho, hr⟩ := h c
    exact ⟨ho.trans (Cert.HiddenArray.final_ref m c (fine_of_lt _ _ _ p0) (fine_of_lt _ _ _ p1) (fine_of_lt _ _ _ p2)
      (fine_of_lt _ _ _ p3) (fine_of_lt _ _ _ p4)), hr⟩
  · refine θ_run_mono (Cert.RefHiddenIdeal.Value.run m' g') fun r h c => ?_
    obtain ⟨ho, hr⟩ := h c
    obtain ⟨e0, e1, e2, e3, e4⟩ := he c
    exact ⟨ho.trans (congr_args (fun x g u d ct => Cert.HiddenRef.refArr (Cert.Ffn.dGate (Cert.Ffn.into x g) (Cert.Ffn.into x u) (Cert.Ffn.back ct d))
      (Cert.Ffn.dUp (Cert.Ffn.into x g) (Cert.Ffn.back ct d))) e0 e1 e2 e3 e4), hr⟩

theorem dwGateUp_algebraic :
    Cert.algebraic_DwGateUpIdeal_RefDwGateUpIdeal (hDwGateUpIdeal := Cert.DwGateUpIdeal.Gen.facts) (hRefDwGateUpIdeal := Cert.RefDwGateUpIdeal.Gen.facts) := by
  intro m g m' g' _ he
  refine ⟨fun c => Cert.DwGateUpRef.refArr (Cert.DwGateUpRef.dw (Cert.DwGateUpArray.arg0 m c) (Cert.Ffn.dGate (Cert.Ffn.into (Cert.DwGateUpArray.arg0 m c) (Cert.DwGateUpArray.arg1 m c)) (Cert.Ffn.into (Cert.DwGateUpArray.arg0 m c) (Cert.DwGateUpArray.arg2 m c)) (Cert.Ffn.back (Cert.DwGateUpArray.arg4 m c) (Cert.DwGateUpArray.arg3 m c)))) (Cert.DwGateUpRef.dw (Cert.DwGateUpArray.arg0 m c) (Cert.Ffn.dUp (Cert.Ffn.into (Cert.DwGateUpArray.arg0 m c) (Cert.DwGateUpArray.arg1 m c)) (Cert.Ffn.back (Cert.DwGateUpArray.arg4 m c) (Cert.DwGateUpArray.arg3 m c)))), ?_, ?_⟩
  · refine θ_run_mono (Cert.DwGateUpIdeal.Value.run_blocks m g) fun r h c => ?_
    obtain ⟨ho, hr⟩ := h c
    exact ⟨ho.trans ((Cert.DwGateUpArray.final m c _ _ (Cert.DwGateUpArray.V_v20 m c) (Cert.DwGateUpArray.V_v21 m c)).trans (Cert.DwGateUpArray.refArr_eq _ _ _).symm), hr⟩
  · refine θ_run_mono (Cert.RefDwGateUpIdeal.Value.run m' g') fun r h c => ?_
    obtain ⟨ho, hr⟩ := h c
    obtain ⟨e0, e1, e2, e3, e4⟩ := he c
    exact ⟨ho.trans (congr_args (fun x g u d ct => Cert.DwGateUpRef.refArr (Cert.DwGateUpRef.dw x (Cert.Ffn.dGate (Cert.Ffn.into x g) (Cert.Ffn.into x u) (Cert.Ffn.back ct d)))
      (Cert.DwGateUpRef.dw x (Cert.Ffn.dUp (Cert.Ffn.into x g) (Cert.Ffn.back ct d)))) e0 e1 e2 e3 e4), hr⟩

theorem dxGateUp_algebraic :
    Cert.algebraic_DxGateUpIdeal_RefDxGateUpIdeal (hDxGateUpIdeal := Cert.DxGateUpIdeal.Gen.facts) (hRefDxGateUpIdeal := Cert.RefDxGateUpIdeal.Gen.facts) := by
  intro m g m' g' _ he
  refine ⟨fun c => Cert.DxGateUpRef.refArr (Cert.DxGateUpRef.dx (Cert.Ffn.dUp (Cert.Ffn.into (Cert.DxGateUpArray.arg0 m c) (Cert.DxGateUpArray.arg1 m c)) (Cert.Ffn.back (Cert.DxGateUpArray.arg4 m c) (Cert.DxGateUpArray.arg3 m c))) (Cert.DxGateUpArray.arg2 m c)) (Cert.DxGateUpRef.dx (Cert.Ffn.dGate (Cert.Ffn.into (Cert.DxGateUpArray.arg0 m c) (Cert.DxGateUpArray.arg1 m c)) (Cert.Ffn.into (Cert.DxGateUpArray.arg0 m c) (Cert.DxGateUpArray.arg2 m c)) (Cert.Ffn.back (Cert.DxGateUpArray.arg4 m c) (Cert.DxGateUpArray.arg3 m c))) (Cert.DxGateUpArray.arg1 m c)), ?_, ?_⟩
  · refine θ_run_mono (Cert.DxGateUpIdeal.Value.run_blocks m g) fun r h c => ?_
    obtain ⟨ho, hr⟩ := h c
    exact ⟨ho.trans ((Cert.DxGateUpArray.final m c _ _ (Cert.DxGateUpArray.V_v27 m c) (Cert.DxGateUpArray.V_v28 m c)).trans (Cert.DxGateUpArray.refArr_eq _ _ _ _).symm), hr⟩
  · refine θ_run_mono (Cert.RefDxGateUpIdeal.Value.run m' g') fun r h c => ?_
    obtain ⟨ho, hr⟩ := h c
    obtain ⟨e0, e1, e2, e3, e4⟩ := he c
    exact ⟨ho.trans (congr_args (fun x g u d ct => Cert.DxGateUpRef.refArr (Cert.DxGateUpRef.dx (Cert.Ffn.dUp (Cert.Ffn.into x g) (Cert.Ffn.back ct d)) u)
      (Cert.DxGateUpRef.dx (Cert.Ffn.dGate (Cert.Ffn.into x g) (Cert.Ffn.into x u) (Cert.Ffn.back ct d)) g)) e0 e1 e2 e3 e4), hr⟩

theorem swaFwd_algebraic :
    Cert.algebraic_SwaFwdIdeal_RefSwaFwdIdeal_pre_finite_swa (hSwaFwdIdeal := Cert.SwaFwdIdeal.Gen.facts)
      (hRefSwaFwdIdeal := Cert.RefSwaFwdIdeal.Gen.facts) (hPre_finite_swa := preFactsSwa) := by
  intro m g m' g' hp he
  refine ⟨fun c => Cert.Host.oArr (Cert.SwaArray.arg0 m c) (Cert.SwaArray.arg1 m c) (Cert.SwaArray.arg2 m c) (Cert.SwaArray.arg3 m c),
    fun c => Cert.Host.lseArr (Cert.SwaArray.arg0 m c) (Cert.SwaArray.arg1 m c) (Cert.SwaArray.arg3 m c), ?_, ?_⟩
  · refine θ_run_mono (Cert.SwaFwdIdeal.Value.run_blocks m g) fun r h c => ?_
    obtain ⟨p0, p1, p2, p3⟩ := hp c
    have hq := fine_of_lt _ _ _ p0
    have hk := fine_of_lt _ _ _ p1
    have hv := fine_of_lt _ _ _ p2
    have hs := fine_of_lt _ _ _ p3
    obtain ⟨h6, h7, hr⟩ := h c
    exact ⟨h6.trans (Cert.SwaArray.final6 m c hq hk hv hs), h7.trans (Cert.SwaArray.final7 m c hq hk hs), hr⟩
  · refine θ_run_mono (Cert.RefSwaFwdIdeal.Value.run m' g') fun r h c => ?_
    obtain ⟨ho, hl, hr⟩ := h c
    obtain ⟨e0, e1, e2, e3⟩ := he c
    refine ⟨ho.trans ((Cert.SwaArray.ref_out m' c).trans ?_), hl.trans ((Cert.SwaArray.ref_log m' c).trans ?_), hr⟩
    · exact congr (congr (congr (congrArg Cert.Host.oArr e0) e1) e2) e3
    · exact congr (congr (congrArg Cert.Host.lseArr e0) e1) e3

theorem claim : Cert.Claim :=
  ⟨Cert.Kernel.Gen.facts, Cert.KernelIdeal.Gen.facts, Cert.ReferenceIdeal.Gen.facts,
    Cert.DwDown.Gen.facts, Cert.DwDownIdeal.Gen.facts, Cert.RefDwDownIdeal.Gen.facts,
    Cert.Hidden.Gen.facts, Cert.HiddenIdeal.Gen.facts, Cert.RefHiddenIdeal.Gen.facts,
    Cert.DwGateUp.Gen.facts, Cert.DwGateUpIdeal.Gen.facts, Cert.RefDwGateUpIdeal.Gen.facts,
    Cert.DxGateUp.Gen.facts, Cert.DxGateUpIdeal.Gen.facts, Cert.RefDxGateUpIdeal.Gen.facts,
    Cert.DwSquare.Gen.facts, Cert.DwSquareIdeal.Gen.facts, Cert.RefDwSquareIdeal.Gen.facts,
    Cert.DwEvIn.Gen.facts, Cert.DwEvInIdeal.Gen.facts, Cert.RefDwEvInIdeal.Gen.facts,
    Cert.DwOdIn.Gen.facts, Cert.DwOdInIdeal.Gen.facts, Cert.RefDwOdInIdeal.Gen.facts,
    Cert.DwPleProj.Gen.facts, Cert.DwPleProjIdeal.Gen.facts, Cert.RefDwPleProjIdeal.Gen.facts,
    Cert.DxEvIn.Gen.facts, Cert.DxEvInIdeal.Gen.facts, Cert.RefDxEvInIdeal.Gen.facts,
    Cert.DxOdIn.Gen.facts, Cert.DxOdInIdeal.Gen.facts, Cert.RefDxOdInIdeal.Gen.facts,
    Cert.DxPleGate.Gen.facts, Cert.DxPleGateIdeal.Gen.facts, Cert.RefDxPleGateIdeal.Gen.facts,
    Cert.DxOut.Gen.facts, Cert.DxOutIdeal.Gen.facts, Cert.RefDxOutIdeal.Gen.facts,
    Cert.EvIn.Gen.facts, Cert.EvInIdeal.Gen.facts, Cert.RefEvInIdeal.Gen.facts,
    Cert.OdIn.Gen.facts, Cert.OdInIdeal.Gen.facts, Cert.RefOdInIdeal.Gen.facts,
    Cert.PleGate.Gen.facts, Cert.PleGateIdeal.Gen.facts, Cert.RefPleGateIdeal.Gen.facts,
    Cert.PleProj.Gen.facts, Cert.PleProjIdeal.Gen.facts, Cert.RefPleProjIdeal.Gen.facts,
    Cert.MixOut.Gen.facts, Cert.MixOutIdeal.Gen.facts, Cert.RefMixOutIdeal.Gen.facts,
    Cert.Down.Gen.facts, Cert.DownIdeal.Gen.facts, Cert.RefDownIdeal.Gen.facts,
    Cert.GateUp.Gen.facts, Cert.GateUpIdeal.Gen.facts, Cert.RefGateUpIdeal.Gen.facts,
    Cert.GradX.Gen.facts, Cert.GradXIdeal.Gen.facts, Cert.RefGradXIdeal.Gen.facts,
    Cert.RmsBwd.Gen.facts, Cert.RmsBwdIdeal.Gen.facts, Cert.RefRmsBwdIdeal.Gen.facts,
    Cert.RmsMixBwd.Gen.facts, Cert.RmsMixBwdIdeal.Gen.facts, Cert.RefRmsMixBwdIdeal.Gen.facts,
    Cert.PleBwd.Gen.facts, Cert.PleBwdIdeal.Gen.facts, Cert.RefPleBwdIdeal.Gen.facts,
    Cert.Loss.Gen.facts, Cert.LossIdeal.Gen.facts, Cert.RefLossIdeal.Gen.facts,
    Cert.RmsFwd.Gen.facts, Cert.RmsFwdIdeal.Gen.facts, Cert.RefRmsFwdIdeal.Gen.facts,
    Cert.PleFwd.Gen.facts, Cert.PleFwdIdeal.Gen.facts, Cert.RefPleFwdIdeal.Gen.facts,
    Cert.PleNorm.Gen.facts, Cert.PleNormIdeal.Gen.facts, Cert.RefPleNormIdeal.Gen.facts,
    Cert.SwaFwd.Gen.facts, Cert.SwaFwdIdeal.Gen.facts, Cert.RefSwaFwdIdeal.Gen.facts,
    preFacts, preFactsFfn, preFactsSwa,
    fun m ρ _ => Cert.Kernel.Gen.frame m ρ,
    fun m ρ _ => Cert.KernelIdeal.Gen.frame m ρ,
    fun m ρ _ => Cert.KernelIdeal.Gen.frame m ρ,
    fun m ρ _ => θ_run_mono (Cert.ReferenceIdeal.Value.run m ρ)
      fun r h => ⟨fun c => (h c).2.2, sem_eq_zero_of_no_sems rfl _⟩,
    fun m ρ _ => θ_run_mono (Cert.ReferenceIdeal.Value.run m ρ)
      fun r h => ⟨fun c => (h c).2.2, sem_eq_zero_of_no_sems rfl _⟩,
    fun m ρ _ => Cert.DwDown.Gen.frame m ρ,
    fun m ρ _ => Cert.DwDownIdeal.Gen.frame m ρ,
    fun m ρ _ => θ_run_mono (Cert.RefDwDownIdeal.Value.run m ρ)
      fun r h => ⟨fun c => (h c).2, sem_eq_zero_of_no_sems rfl _⟩,
    fun m ρ _ => Cert.Hidden.Gen.frame m ρ,
    fun m ρ _ => Cert.HiddenIdeal.Gen.frame m ρ,
    fun m ρ _ => Cert.HiddenIdeal.Gen.frame m ρ,
    fun m ρ _ => θ_run_mono (Cert.RefHiddenIdeal.Value.run m ρ)
      fun r h => ⟨fun c => (h c).2, sem_eq_zero_of_no_sems rfl _⟩,
    fun m ρ _ => θ_run_mono (Cert.RefHiddenIdeal.Value.run m ρ)
      fun r h => ⟨fun c => (h c).2, sem_eq_zero_of_no_sems rfl _⟩,
    fun m ρ _ => Cert.DwGateUp.Gen.frame m ρ,
    fun m ρ _ => Cert.DwGateUpIdeal.Gen.frame m ρ,
    fun m ρ _ => θ_run_mono (Cert.RefDwGateUpIdeal.Value.run m ρ)
      fun r h => ⟨fun c => (h c).2, sem_eq_zero_of_no_sems rfl _⟩,
    fun m ρ _ => Cert.DxGateUp.Gen.frame m ρ,
    fun m ρ _ => Cert.DxGateUpIdeal.Gen.frame m ρ,
    fun m ρ _ => θ_run_mono (Cert.RefDxGateUpIdeal.Value.run m ρ)
      fun r h => ⟨fun c => (h c).2, sem_eq_zero_of_no_sems rfl _⟩,
    fun m ρ _ => Cert.DwSquare.Gen.frame m ρ,
    fun m ρ _ => Cert.DwSquareIdeal.Gen.frame m ρ,
    fun m ρ _ => θ_run_mono (Cert.RefDwSquareIdeal.Value.run m ρ)
      fun r h => ⟨fun c => (h c).2, sem_eq_zero_of_no_sems rfl _⟩,
    fun m ρ _ => Cert.DwEvIn.Gen.frame m ρ,
    fun m ρ _ => Cert.DwEvInIdeal.Gen.frame m ρ,
    fun m ρ _ => θ_run_mono (Cert.RefDwEvInIdeal.Value.run m ρ)
      fun r h => ⟨fun c => (h c).2, sem_eq_zero_of_no_sems rfl _⟩,
    fun m ρ _ => Cert.DwOdIn.Gen.frame m ρ,
    fun m ρ _ => Cert.DwOdInIdeal.Gen.frame m ρ,
    fun m ρ _ => θ_run_mono (Cert.RefDwOdInIdeal.Value.run m ρ)
      fun r h => ⟨fun c => (h c).2, sem_eq_zero_of_no_sems rfl _⟩,
    fun m ρ _ => Cert.DwPleProj.Gen.frame m ρ,
    fun m ρ _ => Cert.DwPleProjIdeal.Gen.frame m ρ,
    fun m ρ _ => θ_run_mono (Cert.RefDwPleProjIdeal.Value.run m ρ)
      fun r h => ⟨fun c => (h c).2, sem_eq_zero_of_no_sems rfl _⟩,
    fun m ρ _ => Cert.DxEvIn.Gen.frame m ρ,
    fun m ρ _ => Cert.DxEvInIdeal.Gen.frame m ρ,
    fun m ρ _ => θ_run_mono (Cert.RefDxEvInIdeal.Value.run m ρ)
      fun r h => ⟨fun c => (h c).2, sem_eq_zero_of_no_sems rfl _⟩,
    fun m ρ _ => Cert.DxOdIn.Gen.frame m ρ,
    fun m ρ _ => Cert.DxOdInIdeal.Gen.frame m ρ,
    fun m ρ _ => θ_run_mono (Cert.RefDxOdInIdeal.Value.run m ρ)
      fun r h => ⟨fun c => (h c).2, sem_eq_zero_of_no_sems rfl _⟩,
    fun m ρ _ => Cert.DxPleGate.Gen.frame m ρ,
    fun m ρ _ => Cert.DxPleGateIdeal.Gen.frame m ρ,
    fun m ρ _ => θ_run_mono (Cert.RefDxPleGateIdeal.Value.run m ρ)
      fun r h => ⟨fun c => (h c).2, sem_eq_zero_of_no_sems rfl _⟩,
    fun m ρ _ => Cert.DxOut.Gen.frame m ρ,
    fun m ρ _ => Cert.DxOutIdeal.Gen.frame m ρ,
    fun m ρ _ => θ_run_mono (Cert.RefDxOutIdeal.Value.run m ρ)
      fun r h => ⟨fun c => (h c).2, sem_eq_zero_of_no_sems rfl _⟩,
    fun m ρ _ => Cert.EvIn.Gen.frame m ρ,
    fun m ρ _ => Cert.EvInIdeal.Gen.frame m ρ,
    fun m ρ _ => θ_run_mono (Cert.RefEvInIdeal.Value.run m ρ)
      fun r h => ⟨fun c => (h c).2, sem_eq_zero_of_no_sems rfl _⟩,
    fun m ρ _ => Cert.OdIn.Gen.frame m ρ,
    fun m ρ _ => Cert.OdInIdeal.Gen.frame m ρ,
    fun m ρ _ => θ_run_mono (Cert.RefOdInIdeal.Value.run m ρ)
      fun r h => ⟨fun c => (h c).2, sem_eq_zero_of_no_sems rfl _⟩,
    fun m ρ _ => Cert.PleGate.Gen.frame m ρ,
    fun m ρ _ => Cert.PleGateIdeal.Gen.frame m ρ,
    fun m ρ _ => θ_run_mono (Cert.RefPleGateIdeal.Value.run m ρ)
      fun r h => ⟨fun c => (h c).2, sem_eq_zero_of_no_sems rfl _⟩,
    fun m ρ _ => Cert.PleProj.Gen.frame m ρ,
    fun m ρ _ => Cert.PleProjIdeal.Gen.frame m ρ,
    fun m ρ _ => θ_run_mono (Cert.RefPleProjIdeal.Value.run m ρ)
      fun r h => ⟨fun c => (h c).2, sem_eq_zero_of_no_sems rfl _⟩,
    fun m ρ _ => Cert.MixOut.Gen.frame m ρ,
    fun m ρ _ => Cert.MixOutIdeal.Gen.frame m ρ,
    fun m ρ _ => θ_run_mono (Cert.RefMixOutIdeal.Value.run m ρ)
      fun r h => ⟨fun c => (h c).2, sem_eq_zero_of_no_sems rfl _⟩,
    fun m ρ _ => Cert.Down.Gen.frame m ρ,
    fun m ρ _ => Cert.DownIdeal.Gen.frame m ρ,
    fun m ρ _ => θ_run_mono (Cert.RefDownIdeal.Value.run m ρ)
      fun r h => ⟨fun c => (h c).2, sem_eq_zero_of_no_sems rfl _⟩,
    fun m ρ _ => Cert.GateUp.Gen.frame m ρ,
    fun m ρ _ => Cert.GateUpIdeal.Gen.frame m ρ,
    fun m ρ _ => θ_run_mono (Cert.RefGateUpIdeal.Value.run m ρ)
      fun r h => ⟨fun c => (h c).2.2, sem_eq_zero_of_no_sems rfl _⟩,
    fun m ρ _ => Cert.GradX.Gen.frame m ρ,
    fun m ρ _ => Cert.GradXIdeal.Gen.frame m ρ,
    fun m ρ _ => θ_run_mono (Cert.RefGradXIdeal.Value.run m ρ)
      fun r h => ⟨fun c => (h c).2.2, sem_eq_zero_of_no_sems rfl _⟩,
    fun m ρ _ => Cert.RmsBwd.Gen.frame m ρ,
    fun m ρ _ => Cert.RmsBwdIdeal.Gen.frame m ρ,
    fun m ρ _ => θ_run_mono (Cert.RefRmsBwdIdeal.Value.run m ρ)
      fun r h => ⟨fun c => (h c).2.2.2, sem_eq_zero_of_no_sems rfl _⟩,
    fun m ρ _ => Cert.RmsMixBwd.Gen.frame m ρ,
    fun m ρ _ => Cert.RmsMixBwdIdeal.Gen.frame m ρ,
    fun m ρ _ => θ_run_mono (Cert.RefRmsMixBwdIdeal.Value.run m ρ)
      fun r h => ⟨fun c => (h c).2.2, sem_eq_zero_of_no_sems rfl _⟩,
    fun m ρ _ => Cert.PleBwd.Gen.frame m ρ,
    fun m ρ _ => Cert.PleBwdIdeal.Gen.frame m ρ,
    fun m ρ _ => θ_run_mono (Cert.RefPleBwdIdeal.Value.run m ρ)
      fun r h => ⟨fun c => (h c).2.2, sem_eq_zero_of_no_sems rfl _⟩,
    fun m ρ _ => Cert.Loss.Gen.frame m ρ,
    fun m ρ _ => Cert.LossIdeal.Gen.frame m ρ,
    fun m ρ _ => θ_run_mono (Cert.RefLossIdeal.Value.run m ρ)
      fun r h => ⟨fun c => (h c).2.2.2, sem_eq_zero_of_no_sems rfl _⟩,
    fun m ρ _ => Cert.RmsFwd.Gen.frame m ρ,
    fun m ρ _ => Cert.RmsFwdIdeal.Gen.frame m ρ,
    fun m ρ _ => θ_run_mono (Cert.RefRmsFwdIdeal.Value.run m ρ)
      fun r h => ⟨fun c => (h c).2, sem_eq_zero_of_no_sems rfl _⟩,
    fun m ρ _ => Cert.PleFwd.Gen.frame m ρ,
    fun m ρ _ => Cert.PleFwdIdeal.Gen.frame m ρ,
    fun m ρ _ => θ_run_mono (Cert.RefPleFwdIdeal.Value.run m ρ)
      fun r h => ⟨fun c => (h c).2, sem_eq_zero_of_no_sems rfl _⟩,
    fun m ρ _ => Cert.PleNorm.Gen.frame m ρ,
    fun m ρ _ => Cert.PleNormIdeal.Gen.frame m ρ,
    fun m ρ _ => θ_run_mono (Cert.RefPleNormIdeal.Value.run m ρ)
      fun r h => ⟨fun c => (h c).2.2, sem_eq_zero_of_no_sems rfl _⟩,
    fun m ρ _ => Cert.SwaFwd.Gen.frame m ρ,
    fun m ρ _ => Cert.SwaFwdIdeal.Gen.frame m ρ,
    fun m ρ _ => Cert.SwaFwdIdeal.Gen.frame m ρ,
    fun m ρ _ => θ_run_mono (Cert.RefSwaFwdIdeal.Value.run m ρ)
      fun r h => ⟨fun c => (h c).2.2, sem_eq_zero_of_no_sems rfl _⟩,
    fun m ρ _ => θ_run_mono (Cert.RefSwaFwdIdeal.Value.run m ρ)
      fun r h => ⟨fun c => (h c).2.2, sem_eq_zero_of_no_sems rfl _⟩,
    IdealRules.named_const.statement Cert.KernelIdeal.κ "mask" .f32 0xF149F2CA#32 ⊥ rfl,
    algebraic,
    trivial, dwDown_algebraic,
    trivial, hidden_algebraic,
    trivial, dwGateUp_algebraic,
    trivial, dxGateUp_algebraic,
    trivial, dwSquare_algebraic,
    trivial, dwEvIn_algebraic,
    trivial, dwOdIn_algebraic,
    trivial, dwPleProj_algebraic,
    trivial, dxEvIn_algebraic,
    trivial, dxOdIn_algebraic,
    trivial, dxPleGate_algebraic,
    trivial, dxOut_algebraic,
    trivial, evIn_algebraic,
    trivial, odIn_algebraic,
    trivial, pleGate_algebraic,
    trivial, pleProj_algebraic,
    trivial, mixOut_algebraic,
    trivial, down_algebraic,
    trivial, gateUp_algebraic,
    trivial, gradX_algebraic,
    trivial, rmsBwd_algebraic,
    trivial, rmsMixBwd_algebraic,
    trivial, pleBwd_algebraic,
    trivial, loss_algebraic,
    trivial, rmsFwd_algebraic,
    trivial, pleFwd_algebraic,
    trivial, pleNorm_algebraic,
    IdealRules.named_const.statement Cert.SwaFwdIdeal.κ "mask" .f32 0xF149F2CA#32 ⊥ rfl, swaFwd_algebraic⟩

end Cert.Proof

end
